-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v42)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v32)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v25)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v25) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v27)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v27) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v28)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v28) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v42) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v34)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v34) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite3 : Cert.Pre_finite3.Facts) (hPre_finite4 : Cert.Pre_finite4.Facts) (hPre_finite8 : Cert.Pre_finite8.Facts) (hPre_finite9 : Cert.Pre_finite9.Facts) (hPre_finite10 : Cert.Pre_finite10.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite.lean ====
abbrev S2x8x16384x96 : Shape := ⟨4, ![2, 8, 16384, 96]⟩
abbrev S2x8x256x96 : Shape := ⟨4, ![2, 8, 256, 96]⟩
abbrev S2x8x16384x64 : Shape := ⟨4, ![2, 8, 16384, 64]⟩
abbrev S2x8x256x64 : Shape := ⟨4, ![2, 8, 256, 64]⟩
abbrev S_ : Shape := ⟨0, ![]⟩

class Facts : Prop where
  bcast_S_S2x8x16384x96 : S_.BroadcastsInDim S2x8x16384x96 (![] : Fin 0 → Fin S2x8x16384x96.rank)
  reducesTo_S2x8x16384x96_S_d0_1_2_3 : S2x8x16384x96.ReducesTo [0, 1, 2, 3] S_
  h_S_ : 0 < S_.numel
  bcast_S_S2x8x256x96 : S_.BroadcastsInDim S2x8x256x96 (![] : Fin 0 → Fin S2x8x256x96.rank)
  reducesTo_S2x8x256x96_S_d0_1_2_3 : S2x8x256x96.ReducesTo [0, 1, 2, 3] S_

variable [Facts]

def fn {F : FTy → Type} [FloatOps F] (main_arg0 : FVec F S2x8x16384x96 .f32) (main_arg1 : FVec F S2x8x16384x96 .f32) (main_arg2 : FVec F S2x8x256x96 .f32) (main_arg3 : FVec F S2x8x16384x64 .f32) (main_arg4 : FVec F S2x8x256x64 .f32) : IVec S_ 1 :=
  let main_v0 : FVec F S2x8x16384x96 .f32 := Host.absf main_arg0
  let main_cst : FVec F S_ .f32 := constant S_ .f32 0x7F800000#32
  let main_v1 : FVec F S2x8x16384x96 .f32 := broadcastInDim S2x8x16384x96 ![] bcast_S_S2x8x16384x96 main_cst
  let main_v2 : IVec S2x8x16384x96 1 := cmpf .olt main_v0 main_v1
  let main_c : IVec S_ 1 := constantI S_ 1 1#1
  let main_v3 : IVec S_ 1 := (fun x v => Host.reduce IntOp.andi x v reducesTo_S2x8x16384x96_S_d0_1_2_3 h_S_) main_v2 main_c
  let main_v4 : FVec F S2x8x16384x96 .f32 := Host.absf main_arg1
  let main_cst_0 : FVec F S_ .f32 := constant S_ .f32 0x7F800000#32
  let main_v5 : FVec F S2x8x16384x96 .f32 := broadcastInDim S2x8x16384x96 ![] bcast_S_S2x8x16384x96 main_cst_0
  let main_v6 : IVec S2x8x16384x96 1 := cmpf .olt main_v4 main_v5
  let main_c_1 : IVec S_ 1 := constantI S_ 1 1#1
  let main_v7 : IVec S_ 1 := (fun x v => Host.reduce IntOp.andi x v reducesTo_S2x8x16384x96_S_d0_1_2_3 h_S_) main_v6 main_c_1
  let main_v8 : IVec S_ 1 := andi main_v3 main_v7
  let main_v9 : FVec F S2x8x256x96 .f32 := Host.absf main_arg2
  let main_cst_2 : FVec F S_ .f32 := constant S_ .f32 0x7F800000#32
  let main_v10 : FVec F S2x8x256x96 .f32 := broadcastInDim S2x8x256x96 ![] bcast_S_S2x8x256x96 main_cst_2
  let main_v11 : IVec S2x8x256x96 1 := cmpf .olt main_v9 main_v10
  let main_c_3 : IVec S_ 1 := constantI S_ 1 1#1
  let main_v12 : IVec S_ 1 := (fun x v => Host.reduce IntOp.andi x v reducesTo_S2x8x256x96_S_d0_1_2_3 h_S_) main_v11 main_c_3
  let main_v13 : IVec S_ 1 := andi main_v8 main_v12
  main_v13
-- ==== Pre_finite10.lean ====
abbrev S2x2x8x256x32 : Shape := ⟨5, ![2, 2, 8, 256, 32]⟩
abbrev S2x8x256x64 : Shape := ⟨4, ![2, 8, 256, 64]⟩
abbrev S_ : Shape := ⟨0, ![]⟩

class Facts : Prop where
  bcast_S_S2x2x8x256x32 : S_.BroadcastsInDim S2x2x8x256x32 (![] : Fin 0 → Fin S2x2x8x256x32.rank)
  reducesTo_S2x2x8x256x32_S_d0_1_2_3_4 : S2x2x8x256x32.ReducesTo [0, 1, 2, 3, 4] S_
  h_S_ : 0 < S_.numel

variable [Facts]

def fn {F : FTy → Type} [FloatOps F] (main_arg0 : FVec F S2x2x8x256x32 .f32) (main_arg1 : FVec F S2x2x8x256x32 .f32) (main_arg2 : FVec F S2x8x256x64 .f32) : IVec S_ 1 :=
  let main_v0 : FVec F S2x2x8x256x32 .f32 := Host.absf main_arg0
  let main_cst : FVec F S_ .f32 := constant S_ .f32 0x7F800000#32
  let main_v1 : FVec F S2x2x8x256x32 .f32 := broadcastInDim S2x2x8x256x32 ![] bcast_S_S2x2x8x256x32 main_cst
  let main_v2 : IVec S2x2x8x256x32 1 := cmpf .olt main_v0 main_v1
  let main_c : IVec S_ 1 := constantI S_ 1 1#1
  let main_v3 : IVec S_ 1 := (fun x v => Host.reduce IntOp.andi x v reducesTo_S2x2x8x256x32_S_d0_1_2_3_4 h_S_) main_v2 main_c
  let main_v4 : FVec F S2x2x8x256x32 .f32 := Host.absf main_arg1
  let main_cst_0 : FVec F S_ .f32 := constant S_ .f32 0x7F800000#32
  let main_v5 : FVec F S2x2x8x256x32 .f32 := broadcastInDim S2x2x8x256x32 ![] bcast_S_S2x2x8x256x32 main_cst_0
  let main_v6 : IVec S2x2x8x256x32 1 := cmpf .olt main_v4 main_v5
  let main_c_1 : IVec S_ 1 := constantI S_ 1 1#1
  let main_v7 : IVec S_ 1 := (fun x v => Host.reduce IntOp.andi x v reducesTo_S2x2x8x256x32_S_d0_1_2_3_4 h_S_) main_v6 main_c_1
  let main_v8 : IVec S_ 1 := andi main_v3 main_v7
  main_v8
-- ==== Pre_finite11.lean ====
abbrev S2x8x256x64 : Shape := ⟨4, ![2, 8, 256, 64]⟩
abbrev S2x2x256x64 : Shape := ⟨4, ![2, 2, 256, 64]⟩
abbrev S8 : Shape := ⟨1, ![8]⟩
abbrev S_ : Shape := ⟨0, ![]⟩

class Facts : Prop where
  bcast_S_S2x8x256x64 : S_.BroadcastsInDim S2x8x256x64 (![] : Fin 0 → Fin S2x8x256x64.rank)
  reducesTo_S2x8x256x64_S_d0_1_2_3 : S2x8x256x64.ReducesTo [0, 1, 2, 3] S_
  h_S_ : 0 < S_.numel
  bcast_S_S2x2x256x64 : S_.BroadcastsInDim S2x2x256x64 (![] : Fin 0 → Fin S2x2x256x64.rank)
  reducesTo_S2x2x256x64_S_d0_1_2_3 : S2x2x256x64.ReducesTo [0, 1, 2, 3] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2x8x256x64 .f32) (main_arg1 : FVec F S2x2x256x64 .f32) (main_arg2 : FVec F S2x2x256x64 .f32) (main_arg3 : FVec F S8 .f32) : IVec S_ 1 :=
  let main_v0 : FVec F S2x8x256x64 .f32 := Host.absf main_arg0
  let main_cst : FVec F S_ .f32 := constant S_ .f32 0x7F800000#32
  let main_v1 : FVec F S2x8x256x64 .f32 := broadcastInDim S2x8x256x64 ![] bcast_S_S2x8x256x64 main_cst
  let main_v2 : IVec S2x8x256x64 1 := cmpf .olt main_v0 main_v1
  let main_c : IVec S_ 1 := constantI S_ 1 1#1
  let main_v3 : IVec S_ 1 := (fun x v => Host.reduce IntOp.andi x v reducesTo_S2x8x256x64_S_d0_1_2_3 h_S_) main_v2 main_c
  let main_v4 : FVec F S2x2x256x64 .f32 := Host.absf main_arg1
  let main_cst_0 : FVec F S_ .f32 := constant S_ .f32 0x7F800000#32
  let main_v5 : FVec F S2x2x256x64 .f32 := broadcastInDim S2x2x256x64 ![] bcast_S_S2x2x256x64 main_cst_0
  let main_v6 : IVec S2x2x256x64 1 := cmpf .olt main_v4 main_v5
  let main_c_1 : IVec S_ 1 := constantI S_ 1 1#1
  let main_v7 : IVec S_ 1 := (fun x v => Host.reduce IntOp.andi x v reducesTo_S2x2x256x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_finite2.lean ====
abbrev S2x2x8x16384x32 : Shape := ⟨5, ![2, 2, 8, 16384, 32]⟩
abbrev S2x2x8x256x32 : Shape := ⟨5, ![2, 2, 8, 256, 32]⟩
abbrev S2x8x16384x64 : Shape := ⟨4, ![2, 8, 16384, 64]⟩
abbrev S2x8x256x64 : Shape := ⟨4, ![2, 8, 256, 64]⟩
abbrev S_ : Shape := ⟨0, ![]⟩

class Facts : Prop where
  bcast_S_S2x2x8x16384x32 : S_.BroadcastsInDim S2x2x8x16384x32 (![] : Fin 0 → Fin S2x2x8x16384x32.rank)
  reducesTo_S2x2x8x16384x32_S_d0_1_2_3_4 : S2x2x8x16384x32.ReducesTo [0, 1, 2, 3, 4] S_
  h_S_ : 0 < S_.numel
  bcast_S_S2x2x8x256x32 : S_.BroadcastsInDim S2x2x8x256x32 (![] : Fin 0 → Fin S2x2x8x256x32.rank)
  reducesTo_S2x2x8x256x32_S_d0_1_2_3_4 : S2x2x8x256x32.ReducesTo [0, 1, 2, 3, 4] S_

variable [Facts]

def fn {F : FTy → Type} [FloatOps F] (main_arg0 : FVec F S2x2x8x16384x32 .f32) (main_arg1 : FVec F S2x2x8x16384x32 .f32) (main_arg2 : FVec F S2x2x8x256x32 .f32) (main_arg3 : FVec F S2x8x16384x64 .f32) (main_arg4 : FVec F S2x8x256x64 .f32) : IVec S_ 1 :=
  let main_v0 : FVec F S2x2x8x16384x32 .f32 := Host.absf main_arg0
  let main_cst : FVec F S_ .f32 := constant S_ .f32 0x7F800000#32
  let main_v1 : FVec F S2x2x8x16384x32 .f32 := broadcastInDim S2x2x8x16384x32 ![] bcast_S_S2x2x8x16384x32 main_cst
  let main_v2 : IVec S2x2x8x16384x32 1 := cmpf .olt main_v0 main_v1
  let main_c : IVec S_ 1 := constantI S_ 1 1#1
  let main_v3 : IVec S_ 1 := (fun x v => Host.reduce IntOp.andi x v reducesTo_S2x2x8x16384x32_S_d0_1_2_3_4 h_S_) main_v2 main_c
  let main_v4 : FVec F S2x2x8x16384x32 .f32 := Host.absf main_arg1
  let main_cst_0 : FVec F S_ .f32 := constant S_ .f32 0x7F800000#32
  let main_v5 : FVec F S2x2x8x16384x32 .f32 := broadcastInDim S2x2x8x16384x32 ![] bcast_S_S2x2x8x16384x32 main_cst_0
  let main_v6 : IVec S2x2x8x16384x32 1 := cmpf .olt main_v4 main_v5
  let main_c_1 : IVec S_ 1 := constantI S_ 1 1#1
  let main_v7 : IVec S_ 1 := (fun x v => Host.reduce IntOp.andi x v reducesTo_S2x2x8x16384x32_S_d0_1_2_3_4 h_S_) main_v6 main_c_1
  let main_v8 : IVec S_ 1 := andi main_v3 main_v7
  let main_v9 : FVec F S2x2x8x256x32 .f32 := Host.absf main_arg2
  let main_cst_2 : FVec F S_ .f32 := constant S_ .f32 0x7F800000#32
  let main_v10 : FVec F S2x2x8x256x32 .f32 := broadcastInDim S2x2x8x256x32 ![] bcast_S_S2x2x8x256x32 main_cst_2
  let main_v11 : IVec S2x2x8x256x32 1 := cmpf .olt main_v9 main_v10
  let main_c_3 : IVec S_ 1 := constantI S_ 1 1#1
  let main_v12 : IVec S_ 1 := (fun x v => Host.reduce IntOp.andi x v reducesTo_S2x2x8x256x32_S_d0_1_2_3_4 h_S_) main_v11 main_c_3
  let main_v13 : IVec S_ 1 := andi main_v8 main_v12
  main_v13
-- ==== Pre_finite3.lean ====
abbrev S2x8x16384x64 : Shape := ⟨4, ![2, 8, 16384, 64]⟩
abbrev S2x2x16384x64 : Shape := ⟨4, ![2, 2, 16384, 64]⟩
abbrev S2x2x256x64 : Shape := ⟨4, ![2, 2, 256, 64]⟩
abbrev S_ : Shape := ⟨0, ![]⟩

class Facts : Prop where
  bcast_S_S2x8x16384x64 : S_.BroadcastsInDim S2x8x16384x64 (![] : Fin 0 → Fin S2x8x16384x64.rank)
  reducesTo_S2x8x16384x64_S_d0_1_2_3 : S2x8x16384x64.ReducesTo [0, 1, 2, 3] S_
  h_S_ : 0 < S_.numel
  bcast_S_S2x2x16384x64 : S_.BroadcastsInDim S2x2x16384x64 (![] : Fin 0 → Fin S2x2x16384x64.rank)
  reducesTo_S2x2x16384x64_S_d0_1_2_3 : S2x2x16384x64.ReducesTo [0, 1, 2, 3] S_
  bcast_S_S2x2x256x64 : S_.BroadcastsInDim S2x2x256x64 (![] : Fin 0 → Fin S2x2x256x64.rank)
  reducesTo_S2x2x256x64_S_d0_1_2_3 : S2x2x256x64.ReducesTo [0, 1, 2, 3] S_

variable [Facts]

def fn {F : FTy → Type} [FloatOps F] (main_arg0 : FVec F S2x8x16384x64 .f32) (main_arg1 : FVec F S2x2x16384x64 .f32) (main_arg2 : FVec F S2x2x256x64 .f32) (main_arg3 : FVec F S2x2x16384x64 .f32) (main_arg4 : FVec F S2x2x256x64 .f32) : IVec S_ 1 :=
  let main_v0 : FVec F S2x8x16384x64 .f32 := Host.absf main_arg0
  let main_cst : FVec F S_ .f32 := constant S_ .f32 0x7F800000#32
  let main_v1 : FVec F S2x8x16384x64 .f32 := broadcastInDim S2x8x16384x64 ![] bcast_S_S2x8x16384x64 main_cst
  let main_v2 : IVec S2x8x16384x64 1 := cmpf .olt main_v0 main_v1
  let main_c : IVec S_ 1 := constantI S_ 1 1#1
  let main_v3 : IVec S_ 1 := (fun x v => Host.reduce IntOp.andi x v reducesTo_S2x8x16384x64_S_d0_1_2_3 h_S_) main_v2 main_c
  let main_v4 : FVec F S2x2x16384x64 .f32 := Host.absf main_arg1
  let main_cst_0 : FVec F S_ .f32 := constant S_ .f32 0x7F800000#32
  let main_v5 : FVec F S2x2x16384x64 .f32 := broadcastInDim S2x2x16384x64 ![] bcast_S_S2x2x16384x64 main_cst_0
  let main_v6 : IVec S2x2x16384x64 1 := cmpf .olt main_v4 main_v5
  let main_c_1 : IVec S_ 1 := constantI S_ 1 1#1
  let main_v7 : IVec S_ 1 := (fun x v => Host.reduce IntOp.andi x v reducesTo_S2x2x16384x64_S_d0_1_2_3 h_S_) main_v6 main_c_1
  let main_v8 : IVec S_ 1 := andi main_v3 main_v7
  let main_v9 : FVec F S2x2x256x64 .f32 := Host.absf main_arg2
  let main_cst_2 : FVec F S_ .f32 := constant S_ .f32 0x7F800000#32
  let main_v10 : FVec F S2x2x256x64 .f32 := broadcastInDim S2x2x256x64 ![] bcast_S_S2x2x256x64 main_cst_2
  let main_v11 : IVec S2x2x256x64 1 := cmpf .olt main_v9 main_v10
  let main_c_3 : IVec S_ 1 := constantI S_ 1 1#1
  let main_v12 : IVec S_ 1 := (fun x v => Host.reduce IntOp.andi x v reducesTo_S2x2x256x64_S_d0_1_2_3 h_S_) main_v11 main_c_3
  let main_v13 : IVec S_ 1 := andi main_v8 main_v12
  main_v13
-- ==== Pre_finite4.lean ====
abbrev S2x8x16384x64 : Shape := ⟨4, ![2, 8, 16384, 64]⟩
abbrev S2x2x16384x64 : Shape := ⟨4, ![2, 2, 16384, 64]⟩
abbrev S2x2x256x64 : Shape := ⟨4, ![2, 2, 256, 64]⟩
abbrev S8 : Shape := ⟨1, ![8]⟩
abbrev S_ : Shape := ⟨0, ![]⟩

class Facts : Prop where
  bcast_S_S2x8x16384x64 : S_.BroadcastsInDim S2x8x16384x64 (![] : Fin 0 → Fin S2x8x16384x64.rank)
  reducesTo_S2x8x16384x64_S_d0_1_2_3 : S2x8x16384x64.ReducesTo [0, 1, 2, 3] S_
  h_S_ : 0 < S_.numel
  bcast_S_S2x2x16384x64 : S_.BroadcastsInDim S2x2x16384x64 (![] : Fin 0 → Fin S2x2x16384x64.rank)
  reducesTo_S2x2x16384x64_S_d0_1_2_3 : S2x2x16384x64.ReducesTo [0, 1, 2, 3] S_
  bcast_S_S2x2x256x64 : S_.BroadcastsInDim S2x2x256x64 (![] : Fin 0 → Fin S2x2x256x64.rank)
  reducesTo_S2x2x256x64_S_d0_1_2_3 : S2x2x256x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S2x8x16384x64 .f32) (main_arg1 : FVec F S2x2x16384x64 .f32) (main_arg2 : FVec F S2x2x256x64 .f32) (main_arg3 : FVec F S2x2x16384x64 .f32) (main_arg4 : FVec F S2x2x256x64 .f32) (main_arg5 : FVec F S8 .f32) : IVec S_ 1 :=
  let main_v0 : FVec F S2x8x16384x64 .f32 := Host.absf main_arg0
  let main_cst : FVec F S_ .f32 := constant S_ .f32 0x7F800000#32
  let main_v1 : FVec F S2x8x16384x64 .f32 := broadcastInDim S2x8x16384x64 ![] bcast_S_S2x8x16384x64 main_cst
  let main_v2 : IVec S2x8x16384x64 1 := cmpf .olt main_v0 main_v1
  let main_c : IVec S_ 1 := constantI S_ 1 1#1
  let main_v3 : IVec S_ 1 := (fun x v => Host.reduce IntOp.andi x v reducesTo_S2x8x16384x64_S_d0_1_2_3 h_S_) main_v2 main_c
  let main_v4 : FVec F S2x2x16384x64 .f32 := Host.absf main_arg1
  let main_cst_0 : FVec F S_ .f32 := constant S_ .f32 0x7F800000#32
  let main_v5 : FVec F S2x2x16384x64 .f32 := broadcastInDim S2x2x16384x64 ![] bcast_S_S2x2x16384x64 main_cst_0
  let main_v6 : IVec S2x2x16384x64 1 := cmpf .olt main_v4 main_v5
  let main_c_1 : IVec S_ 1 := constantI S_ 1 1#1
  let main_v7 : IVec S_ 1 := (fun x v => Host.reduce IntOp.andi x v reducesTo_S2x2x16384x64_S_d0_1_2_3 h_S_) main_v6 main_c_1
  let main_v8 : IVec S_ 1 := andi main_v3 main_v7
  let main_v9 : FVec F S2x2x256x64 .f32 := Host.absf main_arg2
  let main_cst_2 : FVec F S_ .f32 := constant S_ .f32 0x7F800000#32
  let main_v10 : FVec F S2x2x256x64 .f32 := broadcastInDim S2x2x256x64 ![] bcast_S_S2x2x256x64 main_cst_2
  let main_v11 : IVec S2x2x256x64 1 := cmpf .olt main_v9 main_v10
  let main_c_3 : IVec S_ 1 := constantI S_ 1 1#1
  let main_v12 : IVec S_ 1 := (fun x v => Host.reduce IntOp.andi x v reducesTo_S2x2x256x64_S_d0_1_2_3 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Pre_finite8.lean ====
abbrev S2x8x256x96 : Shape := ⟨4, ![2, 8, 256, 96]⟩
abbrev S2x8x256x64 : Shape := ⟨4, ![2, 8, 256, 64]⟩
abbrev S_ : Shape := ⟨0, ![]⟩

class Facts : Prop where
  bcast_S_S2x8x256x96 : S_.BroadcastsInDim S2x8x256x96 (![] : Fin 0 → Fin S2x8x256x96.rank)
  reducesTo_S2x8x256x96_S_d0_1_2_3 : S2x8x256x96.ReducesTo [0, 1, 2, 3] S_
  h_S_ : 0 < S_.numel

variable [Facts]

def fn {F : FTy → Type} [FloatOps F] (main_arg0 : FVec F S2x8x256x96 .f32) (main_arg1 : FVec F S2x8x256x96 .f32) (main_arg2 : FVec F S2x8x256x64 .f32) : IVec S_ 1 :=
  let main_v0 : FVec F S2x8x256x96 .f32 := Host.absf main_arg0
  let main_cst : FVec F S_ .f32 := constant S_ .f32 0x7F800000#32
  let main_v1 : FVec F S2x8x256x96 .f32 := broadcastInDim S2x8x256x96 ![] bcast_S_S2x8x256x96 main_cst
  let main_v2 : IVec S2x8x256x96 1 := cmpf .olt main_v0 main_v1
  let main_c : IVec S_ 1 := constantI S_ 1 1#1
  let main_v3 : IVec S_ 1 := (fun x v => Host.reduce IntOp.andi x v reducesTo_S2x8x256x96_S_d0_1_2_3 h_S_) main_v2 main_c
  let main_v4 : FVec F S2x8x256x96 .f32 := Host.absf main_arg1
  let main_cst_0 : FVec F S_ .f32 := constant S_ .f32 0x7F800000#32
  let main_v5 : FVec F S2x8x256x96 .f32 := broadcastInDim S2x8x256x96 ![] bcast_S_S2x8x256x96 main_cst_0
  let main_v6 : IVec S2x8x256x96 1 := cmpf .olt main_v4 main_v5
  let main_c_1 : IVec S_ 1 := constantI S_ 1 1#1
  let main_v7 : IVec S_ 1 := (fun x v => Host.reduce IntOp.andi x v reducesTo_S2x8x256x96_S_d0_1_2_3 h_S_) main_v6 main_c_1
  let main_v8 : IVec S_ 1 := andi main_v3 main_v7
  main_v8
-- ==== Pre_finite9.lean ====
abbrev S2x8x256x64 : Shape := ⟨4, ![2, 8, 256, 64]⟩
abbrev S2x2x256x64 : Shape := ⟨4, ![2, 2, 256, 64]⟩
abbrev S_ : Shape := ⟨0, ![]⟩

class Facts : Prop where
  bcast_S_S2x8x256x64 : S_.BroadcastsInDim S2x8x256x64 (![] : Fin 0 → Fin S2x8x256x64.rank)
  reducesTo_S2x8x256x64_S_d0_1_2_3 : S2x8x256x64.ReducesTo [0, 1, 2, 3] S_
  h_S_ : 0 < S_.numel
  bcast_S_S2x2x256x64 : S_.BroadcastsInDim S2x2x256x64 (![] : Fin 0 → Fin S2x2x256x64.rank)
  reducesTo_S2x2x256x64_S_d0_1_2_3 : S2x2x256x64.ReducesTo [0, 1, 2, 3] S_

variable [Facts]

def fn {F : FTy → Type} [FloatOps F] (main_arg0 : FVec F S2x8x256x64 .f32) (main_arg1 : FVec F S2x2x256x64 .f32) (main_arg2 : FVec F S2x2x256x64 .f32) : IVec S_ 1 :=
  let main_v0 : FVec F S2x8x256x64 .f32 := Host.absf main_arg0
  let main_cst : FVec F S_ .f32 := constant S_ .f32 0x7F800000#32
  let main_v1 : FVec F S2x8x256x64 .f32 := broadcastInDim S2x8x256x64 ![] bcast_S_S2x8x256x64 main_cst
  let main_v2 : IVec S2x8x256x64 1 := cmpf .olt main_v0 main_v1
  let main_c : IVec S_ 1 := constantI S_ 1 1#1
  let main_v3 : IVec S_ 1 := (fun x v => Host.reduce IntOp.andi x v reducesTo_S2x8x256x64_S_d0_1_2_3 h_S_) main_v2 main_c
  let main_v4 : FVec F S2x2x256x64 .f32 := Host.absf main_arg1
  let main_cst_0 : FVec F S_ .f32 := constant S_ .f32 0x7F800000#32
  let main_v5 : FVec F S2x2x256x64 .f32 := broadcastInDim S2x2x256x64 ![] bcast_S_S2x2x256x64 main_cst_0
  let main_v6 : IVec S2x2x256x64 1 := cmpf .olt main_v4 main_v5
  let main_c_1 : IVec S_ 1 := constantI S_ 1 1#1
  let main_v7 : IVec S_ 1 := (fun x v => Host.reduce IntOp.andi x v reducesTo_S2x2x256x64_S_d0_1_2_3 h_S_) main_v6 main_c_1
  let main_v8 : IVec S_ 1 := andi main_v3 main_v7
  main_v8
-- ==== Kernel.lean ====
abbrev S2x8x16384x96 : Shape := ⟨4, ![2, 8, 16384, 96]⟩
abbrev S2x8x256x96 : Shape := ⟨4, ![2, 8, 256, 96]⟩
abbrev S2x8x16384x64 : Shape := ⟨4, ![2, 8, 16384, 64]⟩
abbrev S2x8x256x64 : Shape := ⟨4, ![2, 8, 256, 64]⟩
abbrev S2 : Shape := ⟨1, ![2]⟩
abbrev S2x8x96x16384 : Shape := ⟨4, ![2, 8, 96, 16384]⟩
abbrev S_ : Shape := ⟨0, ![]⟩
abbrev S2x8x16640x96 : Shape := ⟨4, ![2, 8, 16640, 96]⟩
abbrev S2x8x16640x64 : Shape := ⟨4, ![2, 8, 16640, 64]⟩
abbrev S2x8x64x16640 : Shape := ⟨4, ![2, 8, 64, 16640]⟩
abbrev S16x16640 : Shape := ⟨2, ![16, 16640]⟩
abbrev S2x8x16x16640 : Shape := ⟨4, ![2, 8, 16, 16640]⟩
abbrev S2x8x80x16640 : Shape := ⟨4, ![2, 8, 80, 16640]⟩
abbrev S2x8x96x16640 : Shape := ⟨4, ![2, 8, 96, 16640]⟩
abbrev S1x2x1 : Shape := ⟨3, ![1, 2, 1]⟩
abbrev S8x2x128 : Shape := ⟨3, ![8, 2, 128]⟩
abbrev S2x8x64x16384 : Shape := ⟨4, ![2, 8, 64, 16384]⟩
abbrev S1x2x128 : Shape := ⟨3, ![1, 2, 128]⟩
abbrev S1x1x96x1024 : Shape := ⟨4, ![1, 1, 96, 1024]⟩
abbrev S1x1x16640x96 : Shape := ⟨4, ![1, 1, 16640, 96]⟩
abbrev S1x1x80x16640 : Shape := ⟨4, ![1, 1, 80, 16640]⟩
abbrev S1x1x64x1024 : Shape := ⟨4, ![1, 1, 64, 1024]⟩
abbrev S2304x1024 : Shape := ⟨2, ![2304, 1024]⟩
abbrev S2048x1024 : Shape := ⟨2, ![2048, 1024]⟩
abbrev S80x1024 : Shape := ⟨2, ![80, 1024]⟩
abbrev S8x1024 : Shape := ⟨2, ![8, 1024]⟩
abbrev S96x1024 : Shape := ⟨2, ![96, 1024]⟩
abbrev S1x1x256x96 : Shape := ⟨4, ![1, 1, 256, 96]⟩
abbrev S256x96 : Shape := ⟨2, ![256, 96]⟩
abbrev S256x1024 : Shape := ⟨2, ![256, 1024]⟩
abbrev S1024 : Shape := ⟨1, ![1024]⟩
abbrev S1x1024 : Shape := ⟨2, ![1, 1024]⟩
abbrev S1x1x1 : Shape := ⟨3, ![1, 1, 1]⟩
abbrev S1x1 : Shape := ⟨2, ![1, 1]⟩
abbrev S1x1x80x256 : Shape := ⟨4, ![1, 1, 80, 256]⟩
abbrev S80x256 : Shape := ⟨2, ![80, 256]⟩
abbrev S64x1024 : Shape := ⟨2, ![64, 1024]⟩

abbrev nBuf : Space → Nat
  | .hbm => 38
  | .vmem => 16
  | .smem => 0
  | _ => 0

abbrev bufTy : (tb : Table) → Fin (tcTables nBuf tb) → BufTy
  | .hbm, ⟨0, _⟩ => ⟨S2x8x16384x96, .f32⟩
  | .hbm, ⟨1, _⟩ => ⟨S2x8x16384x96, .f32⟩
  | .hbm, ⟨2, _⟩ => ⟨S2x8x256x96, .f32⟩
  | .hbm, ⟨3, _⟩ => ⟨S2x8x16384x64, .f32⟩
  | .hbm, ⟨4, _⟩ => ⟨S2x8x256x64, .f32⟩
  | .hbm, ⟨5, _⟩ => ⟨S2, .f32⟩
  | .hbm, ⟨6, _⟩ => ⟨S2x8x96x16384, .f32⟩
  | .hbm, ⟨7, _⟩ => ⟨S_, .f32⟩
  | .hbm, ⟨8, _⟩ => ⟨S2x8x96x16384, .f32⟩
  | .hbm, ⟨9, _⟩ => ⟨S2x8x96x16384, .f32⟩
  | .hbm, ⟨10, _⟩ => ⟨S_, .f32⟩
  | .hbm, ⟨11, _⟩ => ⟨S_, .f32⟩
  | .hbm, ⟨12, _⟩ => ⟨S2x8x96x16384, .f32⟩
  | .hbm, ⟨13, _⟩ => ⟨S2x8x96x16384, .f32⟩
  | .hbm, ⟨14, _⟩ => ⟨S2x8x96x16384, .bf16⟩
  | .hbm, ⟨15, _⟩ => ⟨S2x8x16640x96, .f32⟩
  | .hbm, ⟨16, _⟩ => ⟨S2x8x16640x96, .bf16⟩
  | .hbm, ⟨17, _⟩ => ⟨S2x8x16640x64, .f32⟩
  | .hbm, ⟨18, _⟩ => ⟨S2x8x64x16640, .f32⟩
  | .hbm, ⟨19, _⟩ => ⟨S2x8x64x16640, .bf16⟩
  | .hbm, ⟨20, _⟩ => ⟨S16x16640, .i32⟩
  | .hbm, ⟨21, _⟩ => ⟨S_, .i32⟩
  | .hbm, ⟨22, _⟩ => ⟨S16x16640, .i32⟩
  | .hbm, ⟨23, _⟩ => ⟨S16x16640, .i1⟩
  | .hbm, ⟨24, _⟩ => ⟨S_, .f32⟩
  | .hbm, ⟨25, _⟩ => ⟨S_, .f32⟩
  | .hbm, ⟨26, _⟩ => ⟨S16x16640, .f32⟩
  | .hbm, ⟨27, _⟩ => ⟨S16x16640, .f32⟩
  | .hbm, ⟨28, _⟩ => ⟨S16x16640, .f32⟩
  | .hbm, ⟨29, _⟩ => ⟨S16x16640, .bf16⟩
  | .hbm, ⟨30, _⟩ => ⟨S2x8x16x16640, .bf16⟩
  | .hbm, ⟨31, _⟩ => ⟨S2x8x80x16640, .bf16⟩
  | .hbm, ⟨32, _⟩ => ⟨S_, .i32⟩
  | .hbm, ⟨33, _⟩ => ⟨S_, .bf16⟩
  | .hbm, ⟨34, _⟩ => ⟨S2x8x96x16640, .bf16⟩
  | .hbm, ⟨35, _⟩ => ⟨S1x2x1, .f32⟩
  | .hbm, ⟨36, _⟩ => ⟨S8x2x128, .f32⟩
  | .hbm, ⟨37, _⟩ => ⟨S2x8x64x16384, .f32⟩
  | .local _ .vmem, ⟨0, _⟩ => ⟨S1x2x128, .f32⟩
  | .local _ .vmem, ⟨1, _⟩ => ⟨S1x2x128, .f32⟩
  | .local _ .vmem, ⟨2, _⟩ => ⟨S1x1x96x1024, .bf16⟩
  | .local _ .vmem, ⟨3, _⟩ => ⟨S1x1x96x1024, .bf16⟩
  | .local _ .vmem, ⟨4, _⟩ => ⟨S1x1x96x1024, .bf16⟩
  | .local _ .vmem, ⟨5, _⟩ => ⟨S1x1x96x1024, .bf16⟩
  | .local _ .vmem, ⟨6, _⟩ => ⟨S1x1x16640x96, .bf16⟩
  | .local _ .vmem, ⟨7, _⟩ => ⟨S1x1x16640x96, .bf16⟩
  | .local _ .vmem, ⟨8, _⟩ => ⟨S1x1x80x16640, .bf16⟩
  | .local _ .vmem, ⟨9, _⟩ => ⟨S1x1x80x16640, .bf16⟩
  | .local _ .vmem, ⟨10, _⟩ => ⟨S1x1x64x1024, .f32⟩
  | .local _ .vmem, ⟨11, _⟩ => ⟨S1x1x64x1024, .f32⟩
  | .local _ .vmem, ⟨12, _⟩ => ⟨S2304x1024, .f32⟩
  | .local _ .vmem, ⟨13, _⟩ => ⟨S2048x1024, .f32⟩
  | .local _ .vmem, ⟨14, _⟩ => ⟨S80x1024, .f32⟩
  | .local _ .vmem, ⟨15, _⟩ => ⟨S8x1024, .f32⟩
  | _, _ => ⟨S2x8x16384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32_128 : BitVec 32 := 0#32
  let c3_i32 : BitVec 32 := 3#32
  let v183 : BitVec 32 := Scalar.addi c0_i32_128 c3_i32
  let c1_i32 : BitVec 32 := 1#32
  ⟨c0_i32_128, v183, c1_i32⟩
def k0_mult1 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  v359
def k0_mult2 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c0_i32_267 : BitVec 32 := 0#32
  let v362 : BitVec 32 := Scalar.addi v361 c0_i32_267
  v362
def k0_off1 (k0_t1 : Fin k0_t1_loop.trips) (c4096_i32_266 : BitVec 32) (c0_i32_267 : BitVec 32) : Fin 4 → Nat :=
  let c0_276 : Index := 0#32
  let c0_277 : Index := 0#32
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let v361 : BitVec 32 := Scalar.addi v360 c4096_i32_266
  let v362 : BitVec 32 := Scalar.addi v361 c0_i32_267
  let v380 : BitVec 32 := v362
  let v381 : Index := Scalar.indexCast v380
  let c0_278 : Index := 0#32
  ![0, 0, v381.toNat, 0]
def k0_mult3 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c0_i32_268 : BitVec 32 := 0#32
  let v371 : BitVec 32 := Scalar.addi v370 c0_i32_268
  v371
def k0_off2 (k0_t1 : Fin k0_t1_loop.trips) (c2048_i32 : BitVec 32) (c0_i32_268 : BitVec 32) : Fin 4 → Nat :=
  let c0_285 : Index := 0#32
  let c0_286 : Index := 0#32
  let c0_287 : Index := 0#32
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let v370 : BitVec 32 := Scalar.addi v360 c2048_i32
  let v371 : BitVec 32 := Scalar.addi v370 c0_i32_268
  let v395 : BitVec 32 := v371
  let v396 : Index := Scalar.indexCast v395
  ![0, 0, 0, v396.toNat]
def k0_mult4 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c256_i32 : BitVec 32 := 256#32
  let v363 : BitVec 32 := Scalar.addi v361 c256_i32
  v363
def k0_mult5 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c256_i32_269 : BitVec 32 := 256#32
  let v372 : BitVec 32 := Scalar.addi v370 c256_i32_269
  v372
def k0_mult6 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c512_i32 : BitVec 32 := 512#32
  let v364 : BitVec 32 := Scalar.addi v361 c512_i32
  v364
def k0_mult7 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c512_i32_270 : BitVec 32 := 512#32
  let v373 : BitVec 32 := Scalar.addi v370 c512_i32_270
  v373
def k0_mult8 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c768_i32 : BitVec 32 := 768#32
  let v365 : BitVec 32 := Scalar.addi v361 c768_i32
  v365
def k0_mult9 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c768_i32_271 : BitVec 32 := 768#32
  let v374 : BitVec 32 := Scalar.addi v370 c768_i32_271
  v374
def k0_mult10 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1024_i32 : BitVec 32 := 1024#32
  let v366 : BitVec 32 := Scalar.addi v361 c1024_i32
  v366
def k0_mult11 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1024_i32_272 : BitVec 32 := 1024#32
  let v375 : BitVec 32 := Scalar.addi v370 c1024_i32_272
  v375
def k0_mult12 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1280_i32 : BitVec 32 := 1280#32
  let v367 : BitVec 32 := Scalar.addi v361 c1280_i32
  v367
def k0_mult13 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1280_i32_273 : BitVec 32 := 1280#32
  let v376 : BitVec 32 := Scalar.addi v370 c1280_i32_273
  v376
def k0_mult14 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1536_i32 : BitVec 32 := 1536#32
  let v368 : BitVec 32 := Scalar.addi v361 c1536_i32
  v368
def k0_mult15 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1536_i32_274 : BitVec 32 := 1536#32
  let v377 : BitVec 32 := Scalar.addi v370 c1536_i32_274
  v377
def k0_mult16 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1792_i32 : BitVec 32 := 1792#32
  let v369 : BitVec 32 := Scalar.addi v361 c1792_i32
  v369
def k0_mult17 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1792_i32_275 : BitVec 32 := 1792#32
  let v378 : BitVec 32 := Scalar.addi v370 c1792_i32_275
  v378
def k0_mult18 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c0_i32_384 : BitVec 32 := 0#32
  let v564 : BitVec 32 := Scalar.addi v563 c0_i32_384
  v564
def k0_mult19 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c0_i32_393 : BitVec 32 := 0#32
  let v573 : BitVec 32 := Scalar.addi v572 c0_i32_393
  v573
def k0_mult20 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c256_i32_385 : BitVec 32 := 256#32
  let v565 : BitVec 32 := Scalar.addi v563 c256_i32_385
  v565
def k0_mult21 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c256_i32_394 : BitVec 32 := 256#32
  let v574 : BitVec 32 := Scalar.addi v572 c256_i32_394
  v574
def k0_mult22 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c512_i32_386 : BitVec 32 := 512#32
  let v566 : BitVec 32 := Scalar.addi v563 c512_i32_386
  v566
def k0_mult23 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c512_i32_395 : BitVec 32 := 512#32
  let v575 : BitVec 32 := Scalar.addi v572 c512_i32_395
  v575
def k0_mult24 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c768_i32_387 : BitVec 32 := 768#32
  let v567 : BitVec 32 := Scalar.addi v563 c768_i32_387
  v567
def k0_mult25 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c768_i32_396 : BitVec 32 := 768#32
  let v576 : BitVec 32 := Scalar.addi v572 c768_i32_396
  v576
def k0_mult26 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1024_i32_388 : BitVec 32 := 1024#32
  let v568 : BitVec 32 := Scalar.addi v563 c1024_i32_388
  v568
def k0_mult27 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1024_i32_397 : BitVec 32 := 1024#32
  let v577 : BitVec 32 := Scalar.addi v572 c1024_i32_397
  v577
def k0_mult28 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1280_i32_389 : BitVec 32 := 1280#32
  let v569 : BitVec 32 := Scalar.addi v563 c1280_i32_389
  v569
def k0_mult29 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1280_i32_398 : BitVec 32 := 1280#32
  let v578 : BitVec 32 := Scalar.addi v572 c1280_i32_398
  v578
def k0_mult30 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1536_i32_390 : BitVec 32 := 1536#32
  let v570 : BitVec 32 := Scalar.addi v563 c1536_i32_390
  v570
def k0_mult31 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1536_i32_399 : BitVec 32 := 1536#32
  let v579 : BitVec 32 := Scalar.addi v572 c1536_i32_399
  v579
def k0_mult32 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1792_i32_391 : BitVec 32 := 1792#32
  let v571 : BitVec 32 := Scalar.addi v563 c1792_i32_391
  v571
def k0_mult33 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1792_i32_400 : BitVec 32 := 1792#32
  let v580 : BitVec 32 := Scalar.addi v572 c1792_i32_400
  v580
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let c0_i32_0 : BitVec 32 := 0#32
  ![arg0.toNat, arg1.toNat, c0_i32.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![arg0.toNat, v16.toNat, c0_i32_5.toNat, c0_i32_6.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x96x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x16640x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x80x16640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8x16384x96 : Shape := ⟨4, ![2, 8, 16384, 96]⟩
abbrev S2x8x256x96 : Shape := ⟨4, ![2, 8, 256, 96]⟩
abbrev S2x8x16384x64 : Shape := ⟨4, ![2, 8, 16384, 64]⟩
abbrev S2x8x256x64 : Shape := ⟨4, ![2, 8, 256, 64]⟩
abbrev S2x8x16640x96 : Shape := ⟨4, ![2, 8, 16640, 96]⟩
abbrev S2x8x16640x64 : Shape := ⟨4, ![2, 8, 16640, 64]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩

abbrev nBuf : Space → Nat
  | .hbm => 27
  | .vmem => 0
  | .smem => 0
  | _ => 0

abbrev bufTy : (tb : Table) → Fin (tcTables nBuf tb) → BufTy
  | .hbm, ⟨0, _⟩ => ⟨S2x8x16384x96, .f32⟩
  | .hbm, ⟨1, _⟩ => ⟨S2x8x16384x96, .f32⟩
  | .hbm, ⟨2, _⟩ => ⟨S2x8x256x96, .f32⟩
  | .hbm, ⟨3, _⟩ => ⟨S2x8x16384x64, .f32⟩
  | .hbm, ⟨4, _⟩ => ⟨S2x8x256x64, .f32⟩
  | .hbm, ⟨5, _⟩ => ⟨S2x8x16640x96, .f32⟩
  | .hbm, ⟨6, _⟩ => ⟨S2x8x16640x64, .f32⟩
  | .hbm, ⟨7, _⟩ => ⟨S2x8x16384x16640, .f32⟩
  | .hbm, ⟨8, _⟩ => ⟨S_, .f32⟩
  | .hbm, ⟨9, _⟩ => ⟨S2x8x16384x16640, .f32⟩
  | .hbm, ⟨10, _⟩ => ⟨S2x8x16384x16640, .f32⟩
  | .hbm, ⟨11, _⟩ => ⟨S_, .f32⟩
  | .hbm, ⟨12, _⟩ => ⟨S2x8x16384, .f32⟩
  | .hbm, ⟨13, _⟩ => ⟨S_, .f32⟩
  | .hbm, ⟨14, _⟩ => ⟨S2x8x16384, .f32⟩
  | .hbm, ⟨15, _⟩ => ⟨S2x8x16384, .f32⟩
  | .hbm, ⟨16, _⟩ => ⟨S2x8x16384x1, .f32⟩
  | .hbm, ⟨17, _⟩ => ⟨S2x8x16384x16640, .f32⟩
  | .hbm, ⟨18, _⟩ => ⟨S2x8x16384x16640, .f32⟩
  | .hbm, ⟨19, _⟩ => ⟨S2x8x16384x16640, .f32⟩
  | .hbm, ⟨20, _⟩ => ⟨S_, .f32⟩
  | .hbm, ⟨21, _⟩ => ⟨S2x8x16384, .f32⟩
  | .hbm, ⟨22, _⟩ => ⟨S2x8x16384x1, .f32⟩
  | .hbm, ⟨23, _⟩ => ⟨S2x8x16384x16640, .f32⟩
  | .hbm, ⟨24, _⟩ => ⟨S2x8x16384x16640, .f32⟩
  | .hbm, ⟨25, _⟩ => ⟨S2x8x16384x64, .f32⟩
  | .hbm, ⟨26, _⟩ => ⟨S2x8x64x16384, .f32⟩
  | _, _ => ⟨S2x8x16384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel2.lean ====
abbrev S2x2x8x16384x32 : Shape := ⟨5, ![2, 2, 8, 16384, 32]⟩
abbrev S2x2x8x256x32 : Shape := ⟨5, ![2, 2, 8, 256, 32]⟩
abbrev S2x8x16384x64 : Shape := ⟨4, ![2, 8, 16384, 64]⟩
abbrev S2x8x256x64 : Shape := ⟨4, ![2, 8, 256, 64]⟩
abbrev S2 : Shape := ⟨1, ![2]⟩
abbrev S2x8x2x32x16384 : Shape := ⟨5, ![2, 8, 2, 32, 16384]⟩
abbrev S_ : Shape := ⟨0, ![]⟩
abbrev S2x16x32x16384 : Shape := ⟨4, ![2, 16, 32, 16384]⟩
abbrev S2x2x8x16640x32 : Shape := ⟨5, ![2, 2, 8, 16640, 32]⟩
abbrev S2x8x2x16640x32 : Shape := ⟨5, ![2, 8, 2, 16640, 32]⟩
abbrev S2x16x16640x32 : Shape := ⟨4, ![2, 16, 16640, 32]⟩
abbrev S2x8x16640x64 : Shape := ⟨4, ![2, 8, 16640, 64]⟩
abbrev S2x8x64x16640 : Shape := ⟨4, ![2, 8, 64, 16640]⟩
abbrev S16x16640 : Shape := ⟨2, ![16, 16640]⟩
abbrev S2x8x16x16640 : Shape := ⟨4, ![2, 8, 16, 16640]⟩
abbrev S2x8x80x16640 : Shape := ⟨4, ![2, 8, 80, 16640]⟩
abbrev S2x16x32x16640 : Shape := ⟨4, ![2, 16, 32, 16640]⟩
abbrev S1x2x1 : Shape := ⟨3, ![1, 2, 1]⟩
abbrev S16x2x128 : Shape := ⟨3, ![16, 2, 128]⟩
abbrev S2x16x64x16384 : Shape := ⟨4, ![2, 16, 64, 16384]⟩
abbrev S1x2x128 : Shape := ⟨3, ![1, 2, 128]⟩
abbrev S1x1x32x1024 : Shape := ⟨4, ![1, 1, 32, 1024]⟩
abbrev S1x1x16640x32 : Shape := ⟨4, ![1, 1, 16640, 32]⟩
abbrev S1x1x80x16640 : Shape := ⟨4, ![1, 1, 80, 16640]⟩
abbrev S1x1x64x1024 : Shape := ⟨4, ![1, 1, 64, 1024]⟩
abbrev S2304x1024 : Shape := ⟨2, ![2304, 1024]⟩
abbrev S2048x1024 : Shape := ⟨2, ![2048, 1024]⟩
abbrev S80x1024 : Shape := ⟨2, ![80, 1024]⟩
abbrev S8x1024 : Shape := ⟨2, ![8, 1024]⟩
abbrev S32x1024 : Shape := ⟨2, ![32, 1024]⟩
abbrev S1x1x256x32 : Shape := ⟨4, ![1, 1, 256, 32]⟩
abbrev S256x32 : Shape := ⟨2, ![256, 32]⟩
abbrev S256x1024 : Shape := ⟨2, ![256, 1024]⟩
abbrev S1024 : Shape := ⟨1, ![1024]⟩
abbrev S1x1024 : Shape := ⟨2, ![1, 1024]⟩
abbrev S1x1x1 : Shape := ⟨3, ![1, 1, 1]⟩
abbrev S1x1 : Shape := ⟨2, ![1, 1]⟩
abbrev S1x1x80x256 : Shape := ⟨4, ![1, 1, 80, 256]⟩
abbrev S80x256 : Shape := ⟨2, ![80, 256]⟩
abbrev S64x1024 : Shape := ⟨2, ![64, 1024]⟩

abbrev nBuf : Space → Nat
  | .hbm => 41
  | .vmem => 16
  | .smem => 0
  | _ => 0

abbrev bufTy : (tb : Table) → Fin (tcTables nBuf tb) → BufTy
  | .hbm, ⟨0, _⟩ => ⟨S2x2x8x16384x32, .f32⟩
  | .hbm, ⟨1, _⟩ => ⟨S2x2x8x16384x32, .f32⟩
  | .hbm, ⟨2, _⟩ => ⟨S2x2x8x256x32, .f32⟩
  | .hbm, ⟨3, _⟩ => ⟨S2x8x16384x64, .f32⟩
  | .hbm, ⟨4, _⟩ => ⟨S2x8x256x64, .f32⟩
  | .hbm, ⟨5, _⟩ => ⟨S2, .f32⟩
  | .hbm, ⟨6, _⟩ => ⟨S2x8x2x32x16384, .f32⟩
  | .hbm, ⟨7, _⟩ => ⟨S_, .f32⟩
  | .hbm, ⟨8, _⟩ => ⟨S2x8x2x32x16384, .f32⟩
  | .hbm, ⟨9, _⟩ => ⟨S2x8x2x32x16384, .f32⟩
  | .hbm, ⟨10, _⟩ => ⟨S_, .f32⟩
  | .hbm, ⟨11, _⟩ => ⟨S_, .f32⟩
  | .hbm, ⟨12, _⟩ => ⟨S2x8x2x32x16384, .f32⟩
  | .hbm, ⟨13, _⟩ => ⟨S2x8x2x32x16384, .f32⟩
  | .hbm, ⟨14, _⟩ => ⟨S2x8x2x32x16384, .bf16⟩
  | .hbm, ⟨15, _⟩ => ⟨S2x16x32x16384, .bf16⟩
  | .hbm, ⟨16, _⟩ => ⟨S2x2x8x16640x32, .f32⟩
  | .hbm, ⟨17, _⟩ => ⟨S2x8x2x16640x32, .f32⟩
  | .hbm, ⟨18, _⟩ => ⟨S2x8x2x16640x32, .bf16⟩
  | .hbm, ⟨19, _⟩ => ⟨S2x16x16640x32, .bf16⟩
  | .hbm, ⟨20, _⟩ => ⟨S2x8x16640x64, .f32⟩
  | .hbm, ⟨21, _⟩ => ⟨S2x8x64x16640, .f32⟩
  | .hbm, ⟨22, _⟩ => ⟨S2x8x64x16640, .bf16⟩
  | .hbm, ⟨23, _⟩ => ⟨S16x16640, .i32⟩
  | .hbm, ⟨24, _⟩ => ⟨S_, .i32⟩
  | .hbm, ⟨25, _⟩ => ⟨S16x16640, .i32⟩
  | .hbm, ⟨26, _⟩ => ⟨S16x16640, .i1⟩
  | .hbm, ⟨27, _⟩ => ⟨S_, .f32⟩
  | .hbm, ⟨28, _⟩ => ⟨S_, .f32⟩
  | .hbm, ⟨29, _⟩ => ⟨S16x16640, .f32⟩
  | .hbm, ⟨30, _⟩ => ⟨S16x16640, .f32⟩
  | .hbm, ⟨31, _⟩ => ⟨S16x16640, .f32⟩
  | .hbm, ⟨32, _⟩ => ⟨S16x16640, .bf16⟩
  | .hbm, ⟨33, _⟩ => ⟨S2x8x16x16640, .bf16⟩
  | .hbm, ⟨34, _⟩ => ⟨S2x8x80x16640, .bf16⟩
  | .hbm, ⟨35, _⟩ => ⟨S_, .i32⟩
  | .hbm, ⟨36, _⟩ => ⟨S_, .bf16⟩
  | .hbm, ⟨37, _⟩ => ⟨S2x16x32x16640, .bf16⟩
  | .hbm, ⟨38, _⟩ => ⟨S1x2x1, .f32⟩
  | .hbm, ⟨39, _⟩ => ⟨S16x2x128, .f32⟩
  | .hbm, ⟨40, _⟩ => ⟨S2x16x64x16384, .f32⟩
  | .local _ .vmem, ⟨0, _⟩ => ⟨S1x2x128, .f32⟩
  | .local _ .vmem, ⟨1, _⟩ => ⟨S1x2x128, .f32⟩
  | .local _ .vmem, ⟨2, _⟩ => ⟨S1x1x32x1024, .bf16⟩
  | .local _ .vmem, ⟨3, _⟩ => ⟨S1x1x32x1024, .bf16⟩
  | .local _ .vmem, ⟨4, _⟩ => ⟨S1x1x32x1024, .bf16⟩
  | .local _ .vmem, ⟨5, _⟩ => ⟨S1x1x32x1024, .bf16⟩
  | .local _ .vmem, ⟨6, _⟩ => ⟨S1x1x16640x32, .bf16⟩
  | .local _ .vmem, ⟨7, _⟩ => ⟨S1x1x16640x32, .bf16⟩
  | .local _ .vmem, ⟨8, _⟩ => ⟨S1x1x80x16640, .bf16⟩
  | .local _ .vmem, ⟨9, _⟩ => ⟨S1x1x80x16640, .bf16⟩
  | .local _ .vmem, ⟨10, _⟩ => ⟨S1x1x64x1024, .f32⟩
  | .local _ .vmem, ⟨11, _⟩ => ⟨S1x1x64x1024, .f32⟩
  | .local _ .vmem, ⟨12, _⟩ => ⟨S2304x1024, .f32⟩
  | .local _ .vmem, ⟨13, _⟩ => ⟨S2048x1024, .f32⟩
  | .local _ .vmem, ⟨14, _⟩ => ⟨S80x1024, .f32⟩
  | .local _ .vmem, ⟨15, _⟩ => ⟨S8x1024, .f32⟩
  | _, _ => ⟨S2x2x8x16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 16], ![false, false, false]⟩

@[reducible] def k0_t1_loop : Scf.Loop 32 :=
  let c0_i32_128 : BitVec 32 := 0#32
  let c3_i32 : BitVec 32 := 3#32
  let v183 : BitVec 32 := Scalar.addi c0_i32_128 c3_i32
  let c1_i32 : BitVec 32 := 1#32
  ⟨c0_i32_128, v183, c1_i32⟩
def k0_mult1 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  v359
def k0_mult2 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c0_i32_267 : BitVec 32 := 0#32
  let v362 : BitVec 32 := Scalar.addi v361 c0_i32_267
  v362
def k0_off1 (k0_t1 : Fin k0_t1_loop.trips) (c4096_i32_266 : BitVec 32) (c0_i32_267 : BitVec 32) : Fin 4 → Nat :=
  let c0_276 : Index := 0#32
  let c0_277 : Index := 0#32
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let v361 : BitVec 32 := Scalar.addi v360 c4096_i32_266
  let v362 : BitVec 32 := Scalar.addi v361 c0_i32_267
  let v380 : BitVec 32 := v362
  let v381 : Index := Scalar.indexCast v380
  let c0_278 : Index := 0#32
  ![0, 0, v381.toNat, 0]
def k0_mult3 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c0_i32_268 : BitVec 32 := 0#32
  let v371 : BitVec 32 := Scalar.addi v370 c0_i32_268
  v371
def k0_off2 (k0_t1 : Fin k0_t1_loop.trips) (c2048_i32 : BitVec 32) (c0_i32_268 : BitVec 32) : Fin 4 → Nat :=
  let c0_285 : Index := 0#32
  let c0_286 : Index := 0#32
  let c0_287 : Index := 0#32
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let v370 : BitVec 32 := Scalar.addi v360 c2048_i32
  let v371 : BitVec 32 := Scalar.addi v370 c0_i32_268
  let v395 : BitVec 32 := v371
  let v396 : Index := Scalar.indexCast v395
  ![0, 0, 0, v396.toNat]
def k0_mult4 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c256_i32 : BitVec 32 := 256#32
  let v363 : BitVec 32 := Scalar.addi v361 c256_i32
  v363
def k0_mult5 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c256_i32_269 : BitVec 32 := 256#32
  let v372 : BitVec 32 := Scalar.addi v370 c256_i32_269
  v372
def k0_mult6 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c512_i32 : BitVec 32 := 512#32
  let v364 : BitVec 32 := Scalar.addi v361 c512_i32
  v364
def k0_mult7 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c512_i32_270 : BitVec 32 := 512#32
  let v373 : BitVec 32 := Scalar.addi v370 c512_i32_270
  v373
def k0_mult8 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c768_i32 : BitVec 32 := 768#32
  let v365 : BitVec 32 := Scalar.addi v361 c768_i32
  v365
def k0_mult9 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c768_i32_271 : BitVec 32 := 768#32
  let v374 : BitVec 32 := Scalar.addi v370 c768_i32_271
  v374
def k0_mult10 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1024_i32 : BitVec 32 := 1024#32
  let v366 : BitVec 32 := Scalar.addi v361 c1024_i32
  v366
def k0_mult11 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1024_i32_272 : BitVec 32 := 1024#32
  let v375 : BitVec 32 := Scalar.addi v370 c1024_i32_272
  v375
def k0_mult12 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1280_i32 : BitVec 32 := 1280#32
  let v367 : BitVec 32 := Scalar.addi v361 c1280_i32
  v367
def k0_mult13 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1280_i32_273 : BitVec 32 := 1280#32
  let v376 : BitVec 32 := Scalar.addi v370 c1280_i32_273
  v376
def k0_mult14 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1536_i32 : BitVec 32 := 1536#32
  let v368 : BitVec 32 := Scalar.addi v361 c1536_i32
  v368
def k0_mult15 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1536_i32_274 : BitVec 32 := 1536#32
  let v377 : BitVec 32 := Scalar.addi v370 c1536_i32_274
  v377
def k0_mult16 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1792_i32 : BitVec 32 := 1792#32
  let v369 : BitVec 32 := Scalar.addi v361 c1792_i32
  v369
def k0_mult17 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1792_i32_275 : BitVec 32 := 1792#32
  let v378 : BitVec 32 := Scalar.addi v370 c1792_i32_275
  v378
def k0_mult18 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c0_i32_384 : BitVec 32 := 0#32
  let v564 : BitVec 32 := Scalar.addi v563 c0_i32_384
  v564
def k0_mult19 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c0_i32_393 : BitVec 32 := 0#32
  let v573 : BitVec 32 := Scalar.addi v572 c0_i32_393
  v573
def k0_mult20 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c256_i32_385 : BitVec 32 := 256#32
  let v565 : BitVec 32 := Scalar.addi v563 c256_i32_385
  v565
def k0_mult21 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c256_i32_394 : BitVec 32 := 256#32
  let v574 : BitVec 32 := Scalar.addi v572 c256_i32_394
  v574
def k0_mult22 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c512_i32_386 : BitVec 32 := 512#32
  let v566 : BitVec 32 := Scalar.addi v563 c512_i32_386
  v566
def k0_mult23 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c512_i32_395 : BitVec 32 := 512#32
  let v575 : BitVec 32 := Scalar.addi v572 c512_i32_395
  v575
def k0_mult24 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c768_i32_387 : BitVec 32 := 768#32
  let v567 : BitVec 32 := Scalar.addi v563 c768_i32_387
  v567
def k0_mult25 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c768_i32_396 : BitVec 32 := 768#32
  let v576 : BitVec 32 := Scalar.addi v572 c768_i32_396
  v576
def k0_mult26 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1024_i32_388 : BitVec 32 := 1024#32
  let v568 : BitVec 32 := Scalar.addi v563 c1024_i32_388
  v568
def k0_mult27 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1024_i32_397 : BitVec 32 := 1024#32
  let v577 : BitVec 32 := Scalar.addi v572 c1024_i32_397
  v577
def k0_mult28 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1280_i32_389 : BitVec 32 := 1280#32
  let v569 : BitVec 32 := Scalar.addi v563 c1280_i32_389
  v569
def k0_mult29 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1280_i32_398 : BitVec 32 := 1280#32
  let v578 : BitVec 32 := Scalar.addi v572 c1280_i32_398
  v578
def k0_mult30 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1536_i32_390 : BitVec 32 := 1536#32
  let v570 : BitVec 32 := Scalar.addi v563 c1536_i32_390
  v570
def k0_mult31 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1536_i32_399 : BitVec 32 := 1536#32
  let v579 : BitVec 32 := Scalar.addi v572 c1536_i32_399
  v579
def k0_mult32 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1792_i32_391 : BitVec 32 := 1792#32
  let v571 : BitVec 32 := Scalar.addi v563 c1792_i32_391
  v571
def k0_mult33 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1792_i32_400 : BitVec 32 := 1792#32
  let v580 : BitVec 32 := Scalar.addi v572 c1792_i32_400
  v580
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let c0_i32_0 : BitVec 32 := 0#32
  ![arg0.toNat, arg1.toNat, c0_i32.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x16640x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x80x16640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S2x2x8x16384x32 : Shape := ⟨5, ![2, 2, 8, 16384, 32]⟩
abbrev S2x2x8x256x32 : Shape := ⟨5, ![2, 2, 8, 256, 32]⟩
abbrev S2x8x16384x64 : Shape := ⟨4, ![2, 8, 16384, 64]⟩
abbrev S2x8x256x64 : Shape := ⟨4, ![2, 8, 256, 64]⟩
abbrev S2x8x16640x64 : Shape := ⟨4, ![2, 8, 16640, 64]⟩
abbrev S1x2x8x16384x32 : Shape := ⟨5, ![1, 2, 8, 16384, 32]⟩
abbrev S2x8x16384x32 : Shape := ⟨4, ![2, 8, 16384, 32]⟩
abbrev S1x2x8x256x32 : Shape := ⟨5, ![1, 2, 8, 256, 32]⟩
abbrev S2x8x256x32 : Shape := ⟨4, ![2, 8, 256, 32]⟩
abbrev S2x8x16640x32 : Shape := ⟨4, ![2, 8, 16640, 32]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x1x16384x64 : Shape := ⟨5, ![2, 8, 1, 16384, 64]⟩
abbrev S2x8x2x16384x64 : Shape := ⟨5, ![2, 8, 2, 16384, 64]⟩
abbrev S2x16x16384x64 : Shape := ⟨4, ![2, 16, 16384, 64]⟩
abbrev S2x16x64x16384 : Shape := ⟨4, ![2, 16, 64, 16384]⟩

abbrev nBuf : Space → Nat
  | .hbm => 63
  | .vmem => 0
  | .smem => 0
  | _ => 0

abbrev bufTy : (tb : Table) → Fin (tcTables nBuf tb) → BufTy
  | .hbm, ⟨0, _⟩ => ⟨S2x2x8x16384x32, .f32⟩
  | .hbm, ⟨1, _⟩ => ⟨S2x2x8x16384x32, .f32⟩
  | .hbm, ⟨2, _⟩ => ⟨S2x2x8x256x32, .f32⟩
  | .hbm, ⟨3, _⟩ => ⟨S2x8x16384x64, .f32⟩
  | .hbm, ⟨4, _⟩ => ⟨S2x8x256x64, .f32⟩
  | .hbm, ⟨5, _⟩ => ⟨S2x8x16640x64, .f32⟩
  | .hbm, ⟨6, _⟩ => ⟨S1x2x8x16384x32, .f32⟩
  | .hbm, ⟨7, _⟩ => ⟨S2x8x16384x32, .f32⟩
  | .hbm, ⟨8, _⟩ => ⟨S1x2x8x16384x32, .f32⟩
  | .hbm, ⟨9, _⟩ => ⟨S2x8x16384x32, .f32⟩
  | .hbm, ⟨10, _⟩ => ⟨S1x2x8x256x32, .f32⟩
  | .hbm, ⟨11, _⟩ => ⟨S2x8x256x32, .f32⟩
  | .hbm, ⟨12, _⟩ => ⟨S2x8x16640x32, .f32⟩
  | .hbm, ⟨13, _⟩ => ⟨S2x8x16384x16640, .f32⟩
  | .hbm, ⟨14, _⟩ => ⟨S_, .f32⟩
  | .hbm, ⟨15, _⟩ => ⟨S2x8x16384x16640, .f32⟩
  | .hbm, ⟨16, _⟩ => ⟨S2x8x16384x16640, .f32⟩
  | .hbm, ⟨17, _⟩ => ⟨S_, .f32⟩
  | .hbm, ⟨18, _⟩ => ⟨S2x8x16384, .f32⟩
  | .hbm, ⟨19, _⟩ => ⟨S_, .f32⟩
  | .hbm, ⟨20, _⟩ => ⟨S2x8x16384, .f32⟩
  | .hbm, ⟨21, _⟩ => ⟨S2x8x16384, .f32⟩
  | .hbm, ⟨22, _⟩ => ⟨S2x8x16384x1, .f32⟩
  | .hbm, ⟨23, _⟩ => ⟨S2x8x16384x16640, .f32⟩
  | .hbm, ⟨24, _⟩ => ⟨S2x8x16384x16640, .f32⟩
  | .hbm, ⟨25, _⟩ => ⟨S2x8x16384x16640, .f32⟩
  | .hbm, ⟨26, _⟩ => ⟨S_, .f32⟩
  | .hbm, ⟨27, _⟩ => ⟨S2x8x16384, .f32⟩
  | .hbm, ⟨28, _⟩ => ⟨S2x8x16384x1, .f32⟩
  | .hbm, ⟨29, _⟩ => ⟨S2x8x16384x16640, .f32⟩
  | .hbm, ⟨30, _⟩ => ⟨S2x8x16384x16640, .f32⟩
  | .hbm, ⟨31, _⟩ => ⟨S2x8x16384x64, .f32⟩
  | .hbm, ⟨32, _⟩ => ⟨S1x2x8x16384x32, .f32⟩
  | .hbm, ⟨33, _⟩ => ⟨S2x8x16384x32, .f32⟩
  | .hbm, ⟨34, _⟩ => ⟨S1x2x8x16384x32, .f32⟩
  | .hbm, ⟨35, _⟩ => ⟨S2x8x16384x32, .f32⟩
  | .hbm, ⟨36, _⟩ => ⟨S1x2x8x256x32, .f32⟩
  | .hbm, ⟨37, _⟩ => ⟨S2x8x256x32, .f32⟩
  | .hbm, ⟨38, _⟩ => ⟨S2x8x16640x32, .f32⟩
  | .hbm, ⟨39, _⟩ => ⟨S2x8x16384x16640, .f32⟩
  | .hbm, ⟨40, _⟩ => ⟨S_, .f32⟩
  | .hbm, ⟨41, _⟩ => ⟨S2x8x16384x16640, .f32⟩
  | .hbm, ⟨42, _⟩ => ⟨S2x8x16384x16640, .f32⟩
  | .hbm, ⟨43, _⟩ => ⟨S_, .f32⟩
  | .hbm, ⟨44, _⟩ => ⟨S2x8x16384, .f32⟩
  | .hbm, ⟨45, _⟩ => ⟨S_, .f32⟩
  | .hbm, ⟨46, _⟩ => ⟨S2x8x16384, .f32⟩
  | .hbm, ⟨47, _⟩ => ⟨S2x8x16384, .f32⟩
  | .hbm, ⟨48, _⟩ => ⟨S2x8x16384x1, .f32⟩
  | .hbm, ⟨49, _⟩ => ⟨S2x8x16384x16640, .f32⟩
  | .hbm, ⟨50, _⟩ => ⟨S2x8x16384x16640, .f32⟩
  | .hbm, ⟨51, _⟩ => ⟨S2x8x16384x16640, .f32⟩
  | .hbm, ⟨52, _⟩ => ⟨S_, .f32⟩
  | .hbm, ⟨53, _⟩ => ⟨S2x8x16384, .f32⟩
  | .hbm, ⟨54, _⟩ => ⟨S2x8x16384x1, .f32⟩
  | .hbm, ⟨55, _⟩ => ⟨S2x8x16384x16640, .f32⟩
  | .hbm, ⟨56, _⟩ => ⟨S2x8x16384x16640, .f32⟩
  | .hbm, ⟨57, _⟩ => ⟨S2x8x16384x64, .f32⟩
  | .hbm, ⟨58, _⟩ => ⟨S2x8x1x16384x64, .f32⟩
  | .hbm, ⟨59, _⟩ => ⟨S2x8x1x16384x64, .f32⟩
  | .hbm, ⟨60, _⟩ => ⟨S2x8x2x16384x64, .f32⟩
  | .hbm, ⟨61, _⟩ => ⟨S2x16x16384x64, .f32⟩
  | .hbm, ⟨62, _⟩ => ⟨S2x16x64x16384, .f32⟩
  | _, _ => ⟨S2x2x8x16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Kernel3.lean ====
abbrev S2x8x16384x64 : Shape := ⟨4, ![2, 8, 16384, 64]⟩
abbrev S2x2x16384x64 : Shape := ⟨4, ![2, 2, 16384, 64]⟩
abbrev S2x2x256x64 : Shape := ⟨4, ![2, 2, 256, 64]⟩
abbrev S2 : Shape := ⟨1, ![2]⟩
abbrev S2x8x64x16384 : Shape := ⟨4, ![2, 8, 64, 16384]⟩
abbrev S_ : Shape := ⟨0, ![]⟩
abbrev S2x2x16640x64 : Shape := ⟨4, ![2, 2, 16640, 64]⟩
abbrev S2x4x16640x64 : Shape := ⟨4, ![2, 4, 16640, 64]⟩
abbrev S2x2x64x16640 : Shape := ⟨4, ![2, 2, 64, 16640]⟩
abbrev S16x16640 : Shape := ⟨2, ![16, 16640]⟩
abbrev S2x2x16x16640 : Shape := ⟨4, ![2, 2, 16, 16640]⟩
abbrev S2x2x80x16640 : Shape := ⟨4, ![2, 2, 80, 16640]⟩
abbrev S2x8x64x16640 : Shape := ⟨4, ![2, 8, 64, 16640]⟩
abbrev S1x2x1 : Shape := ⟨3, ![1, 2, 1]⟩
abbrev S8x2x128 : Shape := ⟨3, ![8, 2, 128]⟩
abbrev S1x2x128 : Shape := ⟨3, ![1, 2, 128]⟩
abbrev S1x1x64x1024 : Shape := ⟨4, ![1, 1, 64, 1024]⟩
abbrev S1x1x16640x64 : Shape := ⟨4, ![1, 1, 16640, 64]⟩
abbrev S1x1x80x16640 : Shape := ⟨4, ![1, 1, 80, 16640]⟩
abbrev S2304x1024 : Shape := ⟨2, ![2304, 1024]⟩
abbrev S2048x1024 : Shape := ⟨2, ![2048, 1024]⟩
abbrev S80x1024 : Shape := ⟨2, ![80, 1024]⟩
abbrev S8x1024 : Shape := ⟨2, ![8, 1024]⟩
abbrev S64x1024 : Shape := ⟨2, ![64, 1024]⟩
abbrev S1x1x256x64 : Shape := ⟨4, ![1, 1, 256, 64]⟩
abbrev S256x64 : Shape := ⟨2, ![256, 64]⟩
abbrev S256x1024 : Shape := ⟨2, ![256, 1024]⟩
abbrev S1024 : Shape := ⟨1, ![1024]⟩
abbrev S1x1024 : Shape := ⟨2, ![1, 1024]⟩
abbrev S1x1x1 : Shape := ⟨3, ![1, 1, 1]⟩
abbrev S1x1 : Shape := ⟨2, ![1, 1]⟩
abbrev S1x1x80x256 : Shape := ⟨4, ![1, 1, 80, 256]⟩
abbrev S80x256 : Shape := ⟨2, ![80, 256]⟩

abbrev nBuf : Space → Nat
  | .hbm => 41
  | .vmem => 16
  | .smem => 0
  | _ => 0

abbrev bufTy : (tb : Table) → Fin (tcTables nBuf tb) → BufTy
  | .hbm, ⟨0, _⟩ => ⟨S2x8x16384x64, .f32⟩
  | .hbm, ⟨1, _⟩ => ⟨S2x2x16384x64, .f32⟩
  | .hbm, ⟨2, _⟩ => ⟨S2x2x256x64, .f32⟩
  | .hbm, ⟨3, _⟩ => ⟨S2x2x16384x64, .f32⟩
  | .hbm, ⟨4, _⟩ => ⟨S2x2x256x64, .f32⟩
  | .hbm, ⟨5, _⟩ => ⟨S2, .f32⟩
  | .hbm, ⟨6, _⟩ => ⟨S2x8x64x16384, .f32⟩
  | .hbm, ⟨7, _⟩ => ⟨S_, .f32⟩
  | .hbm, ⟨8, _⟩ => ⟨S2x8x64x16384, .f32⟩
  | .hbm, ⟨9, _⟩ => ⟨S2x8x64x16384, .f32⟩
  | .hbm, ⟨10, _⟩ => ⟨S_, .f32⟩
  | .hbm, ⟨11, _⟩ => ⟨S_, .f32⟩
  | .hbm, ⟨12, _⟩ => ⟨S2x8x64x16384, .f32⟩
  | .hbm, ⟨13, _⟩ => ⟨S2x8x64x16384, .f32⟩
  | .hbm, ⟨14, _⟩ => ⟨S2x8x64x16384, .bf16⟩
  | .hbm, ⟨15, _⟩ => ⟨S2x2x16640x64, .f32⟩
  | .hbm, ⟨16, _⟩ => ⟨S2x2x16640x64, .bf16⟩
  | .hbm, ⟨17, _⟩ => ⟨S_, .bf16⟩
  | .hbm, ⟨18, _⟩ => ⟨S2x2x16640x64, .bf16⟩
  | .hbm, ⟨19, _⟩ => ⟨S2x4x16640x64, .bf16⟩
  | .hbm, ⟨20, _⟩ => ⟨S2x2x16640x64, .f32⟩
  | .hbm, ⟨21, _⟩ => ⟨S2x2x64x16640, .f32⟩
  | .hbm, ⟨22, _⟩ => ⟨S2x2x64x16640, .bf16⟩
  | .hbm, ⟨23, _⟩ => ⟨S16x16640, .i32⟩
  | .hbm, ⟨24, _⟩ => ⟨S_, .i32⟩
  | .hbm, ⟨25, _⟩ => ⟨S16x16640, .i32⟩
  | .hbm, ⟨26, _⟩ => ⟨S16x16640, .i1⟩
  | .hbm, ⟨27, _⟩ => ⟨S_, .f32⟩
  | .hbm, ⟨28, _⟩ => ⟨S_, .f32⟩
  | .hbm, ⟨29, _⟩ => ⟨S16x16640, .f32⟩
  | .hbm, ⟨30, _⟩ => ⟨S16x16640, .f32⟩
  | .hbm, ⟨31, _⟩ => ⟨S16x16640, .f32⟩
  | .hbm, ⟨32, _⟩ => ⟨S16x16640, .bf16⟩
  | .hbm, ⟨33, _⟩ => ⟨S2x2x16x16640, .bf16⟩
  | .hbm, ⟨34, _⟩ => ⟨S2x2x80x16640, .bf16⟩
  | .hbm, ⟨35, _⟩ => ⟨S_, .i32⟩
  | .hbm, ⟨36, _⟩ => ⟨S_, .bf16⟩
  | .hbm, ⟨37, _⟩ => ⟨S2x8x64x16640, .bf16⟩
  | .hbm, ⟨38, _⟩ => ⟨S1x2x1, .f32⟩
  | .hbm, ⟨39, _⟩ => ⟨S8x2x128, .f32⟩
  | .hbm, ⟨40, _⟩ => ⟨S2x8x64x16384, .f32⟩
  | .local _ .vmem, ⟨0, _⟩ => ⟨S1x2x128, .f32⟩
  | .local _ .vmem, ⟨1, _⟩ => ⟨S1x2x128, .f32⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x64x1024, .bf16⟩
  | .local _ .vmem, ⟨5, _⟩ => ⟨S1x1x64x1024, .bf16⟩
  | .local _ .vmem, ⟨6, _⟩ => ⟨S1x1x16640x64, .bf16⟩
  | .local _ .vmem, ⟨7, _⟩ => ⟨S1x1x16640x64, .bf16⟩
  | .local _ .vmem, ⟨8, _⟩ => ⟨S1x1x80x16640, .bf16⟩
  | .local _ .vmem, ⟨9, _⟩ => ⟨S1x1x80x16640, .bf16⟩
  | .local _ .vmem, ⟨10, _⟩ => ⟨S1x1x64x1024, .f32⟩
  | .local _ .vmem, ⟨11, _⟩ => ⟨S1x1x64x1024, .f32⟩
  | .local _ .vmem, ⟨12, _⟩ => ⟨S2304x1024, .f32⟩
  | .local _ .vmem, ⟨13, _⟩ => ⟨S2048x1024, .f32⟩
  | .local _ .vmem, ⟨14, _⟩ => ⟨S80x1024, .f32⟩
  | .local _ .vmem, ⟨15, _⟩ => ⟨S8x1024, .f32⟩
  | _, _ => ⟨S2x8x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32_128 : BitVec 32 := 0#32
  let c3_i32 : BitVec 32 := 3#32
  let v183 : BitVec 32 := Scalar.addi c0_i32_128 c3_i32
  let c1_i32 : BitVec 32 := 1#32
  ⟨c0_i32_128, v183, c1_i32⟩
def k0_mult1 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  v359
def k0_mult2 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c0_i32_267 : BitVec 32 := 0#32
  let v362 : BitVec 32 := Scalar.addi v361 c0_i32_267
  v362
def k0_off1 (k0_t1 : Fin k0_t1_loop.trips) (c4096_i32_266 : BitVec 32) (c0_i32_267 : BitVec 32) : Fin 4 → Nat :=
  let c0_276 : Index := 0#32
  let c0_277 : Index := 0#32
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let v361 : BitVec 32 := Scalar.addi v360 c4096_i32_266
  let v362 : BitVec 32 := Scalar.addi v361 c0_i32_267
  let v380 : BitVec 32 := v362
  let v381 : Index := Scalar.indexCast v380
  let c0_278 : Index := 0#32
  ![0, 0, v381.toNat, 0]
def k0_mult3 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c0_i32_268 : BitVec 32 := 0#32
  let v371 : BitVec 32 := Scalar.addi v370 c0_i32_268
  v371
def k0_off2 (k0_t1 : Fin k0_t1_loop.trips) (c2048_i32 : BitVec 32) (c0_i32_268 : BitVec 32) : Fin 4 → Nat :=
  let c0_285 : Index := 0#32
  let c0_286 : Index := 0#32
  let c0_287 : Index := 0#32
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let v370 : BitVec 32 := Scalar.addi v360 c2048_i32
  let v371 : BitVec 32 := Scalar.addi v370 c0_i32_268
  let v395 : BitVec 32 := v371
  let v396 : Index := Scalar.indexCast v395
  ![0, 0, 0, v396.toNat]
def k0_mult4 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c256_i32 : BitVec 32 := 256#32
  let v363 : BitVec 32 := Scalar.addi v361 c256_i32
  v363
def k0_mult5 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c256_i32_269 : BitVec 32 := 256#32
  let v372 : BitVec 32 := Scalar.addi v370 c256_i32_269
  v372
def k0_mult6 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c512_i32 : BitVec 32 := 512#32
  let v364 : BitVec 32 := Scalar.addi v361 c512_i32
  v364
def k0_mult7 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c512_i32_270 : BitVec 32 := 512#32
  let v373 : BitVec 32 := Scalar.addi v370 c512_i32_270
  v373
def k0_mult8 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c768_i32 : BitVec 32 := 768#32
  let v365 : BitVec 32 := Scalar.addi v361 c768_i32
  v365
def k0_mult9 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c768_i32_271 : BitVec 32 := 768#32
  let v374 : BitVec 32 := Scalar.addi v370 c768_i32_271
  v374
def k0_mult10 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1024_i32 : BitVec 32 := 1024#32
  let v366 : BitVec 32 := Scalar.addi v361 c1024_i32
  v366
def k0_mult11 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1024_i32_272 : BitVec 32 := 1024#32
  let v375 : BitVec 32 := Scalar.addi v370 c1024_i32_272
  v375
def k0_mult12 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1280_i32 : BitVec 32 := 1280#32
  let v367 : BitVec 32 := Scalar.addi v361 c1280_i32
  v367
def k0_mult13 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1280_i32_273 : BitVec 32 := 1280#32
  let v376 : BitVec 32 := Scalar.addi v370 c1280_i32_273
  v376
def k0_mult14 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1536_i32 : BitVec 32 := 1536#32
  let v368 : BitVec 32 := Scalar.addi v361 c1536_i32
  v368
def k0_mult15 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1536_i32_274 : BitVec 32 := 1536#32
  let v377 : BitVec 32 := Scalar.addi v370 c1536_i32_274
  v377
def k0_mult16 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_266 : BitVec 32 := 4096#32
  let v361 : BitVec 32 := Scalar.addi v360 c4096_i32_266
  let c1792_i32 : BitVec 32 := 1792#32
  let v369 : BitVec 32 := Scalar.addi v361 c1792_i32
  v369
def k0_mult17 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c2048_i32 : BitVec 32 := 2048#32
  let v370 : BitVec 32 := Scalar.addi v360 c2048_i32
  let c1792_i32_275 : BitVec 32 := 1792#32
  let v378 : BitVec 32 := Scalar.addi v370 c1792_i32_275
  v378
def k0_mult18 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c0_i32_384 : BitVec 32 := 0#32
  let v564 : BitVec 32 := Scalar.addi v563 c0_i32_384
  v564
def k0_mult19 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c0_i32_393 : BitVec 32 := 0#32
  let v573 : BitVec 32 := Scalar.addi v572 c0_i32_393
  v573
def k0_mult20 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c256_i32_385 : BitVec 32 := 256#32
  let v565 : BitVec 32 := Scalar.addi v563 c256_i32_385
  v565
def k0_mult21 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c256_i32_394 : BitVec 32 := 256#32
  let v574 : BitVec 32 := Scalar.addi v572 c256_i32_394
  v574
def k0_mult22 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c512_i32_386 : BitVec 32 := 512#32
  let v566 : BitVec 32 := Scalar.addi v563 c512_i32_386
  v566
def k0_mult23 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c512_i32_395 : BitVec 32 := 512#32
  let v575 : BitVec 32 := Scalar.addi v572 c512_i32_395
  v575
def k0_mult24 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c768_i32_387 : BitVec 32 := 768#32
  let v567 : BitVec 32 := Scalar.addi v563 c768_i32_387
  v567
def k0_mult25 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c768_i32_396 : BitVec 32 := 768#32
  let v576 : BitVec 32 := Scalar.addi v572 c768_i32_396
  v576
def k0_mult26 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1024_i32_388 : BitVec 32 := 1024#32
  let v568 : BitVec 32 := Scalar.addi v563 c1024_i32_388
  v568
def k0_mult27 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1024_i32_397 : BitVec 32 := 1024#32
  let v577 : BitVec 32 := Scalar.addi v572 c1024_i32_397
  v577
def k0_mult28 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1280_i32_389 : BitVec 32 := 1280#32
  let v569 : BitVec 32 := Scalar.addi v563 c1280_i32_389
  v569
def k0_mult29 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1280_i32_398 : BitVec 32 := 1280#32
  let v578 : BitVec 32 := Scalar.addi v572 c1280_i32_398
  v578
def k0_mult30 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1536_i32_390 : BitVec 32 := 1536#32
  let v570 : BitVec 32 := Scalar.addi v563 c1536_i32_390
  v570
def k0_mult31 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1536_i32_399 : BitVec 32 := 1536#32
  let v579 : BitVec 32 := Scalar.addi v572 c1536_i32_399
  v579
def k0_mult32 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c6144_i32 : BitVec 32 := 6144#32
  let v563 : BitVec 32 := Scalar.addi v360 c6144_i32
  let c1792_i32_391 : BitVec 32 := 1792#32
  let v571 : BitVec 32 := Scalar.addi v563 c1792_i32_391
  v571
def k0_mult33 (k0_t1 : Fin k0_t1_loop.trips) : BitVec 32 :=
  let c0_i32_128 : BitVec 32 := 0#32
  let c1_i32 : BitVec 32 := 1#32
  let arg13 : BitVec 32 := Scf.iv c0_i32_128 c1_i32 k0_t1
  let c4096_i32 : BitVec 32 := 4096#32
  let v359 : BitVec 32 := Scalar.muli arg13 c4096_i32
  let v360 : BitVec 32 := v359
  let c4096_i32_392 : BitVec 32 := 4096#32
  let v572 : BitVec 32 := Scalar.addi v360 c4096_i32_392
  let c1792_i32_400 : BitVec 32 := 1792#32
  let v580 : BitVec 32 := Scalar.addi v572 c1792_i32_400
  v580
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let c0_i32_0 : BitVec 32 := 0#32
  ![arg0.toNat, arg1.toNat, c0_i32.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi c2_i32 v16
  let c0_i32_4 : BitVec 32 := 0#32
  let c0_i32_5 : BitVec 32 := 0#32
  let c0_i32_6 : BitVec 32 := 0#32
  ![arg0.toNat, v17.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x16640x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x80x16640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S2x8x16384x64 : Shape := ⟨4, ![2, 8, 16384, 64]⟩
abbrev S2x2x16384x64 : Shape := ⟨4, ![2, 2, 16384, 64]⟩
abbrev S2x2x256x64 : Shape := ⟨4, ![2, 2, 256, 64]⟩
abbrev S2x2x16640x64 : Shape := ⟨4, ![2, 2, 16640, 64]⟩
abbrev S2x2x4x16384x64 : Shape := ⟨5, ![2, 2, 4, 16384, 64]⟩
abbrev S2x2x4x16384x16640 : Shape := ⟨5, ![2, 2, 4, 16384, 16640]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x8x64x16384 : Shape := ⟨4, ![2, 8, 64, 16384]⟩

abbrev nBuf : Space → Nat
  | .hbm => 29
  | .vmem => 0
  | .smem => 0
  | _ => 0

abbrev bufTy : (tb : Table) → Fin (tcTables nBuf tb) → BufTy
  | .hbm, ⟨0, _⟩ => ⟨S2x8x16384x64, .f32⟩
  | .hbm, ⟨1, _⟩ => ⟨S2x2x16384x64, .f32⟩
  | .hbm, ⟨2, _⟩ => ⟨S2x2x256x64, .f32⟩
  | .hbm, ⟨3, _⟩ => ⟨S2x2x16384x64, .f32⟩
  | .hbm, ⟨4, _⟩ => ⟨S2x2x256x64, .f32⟩
  | .hbm, ⟨5, _⟩ => ⟨S2x2x16640x64, .f32⟩
  | .hbm, ⟨6, _⟩ => ⟨S2x2x16640x64, .f32⟩
  | .hbm, ⟨7, _⟩ => ⟨S2x2x4x16384x64, .f32⟩
  | .hbm, ⟨8, _⟩ => ⟨S2x2x4x16384x16640, .f32⟩
  | .hbm, ⟨9, _⟩ => ⟨S_, .f32⟩
  | .hbm, ⟨10, _⟩ => ⟨S2x2x4x16384x16640, .f32⟩
  | .hbm, ⟨11, _⟩ => ⟨S2x2x4x16384x16640, .f32⟩
  | .hbm, ⟨12, _⟩ => ⟨S_, .f32⟩
  | .hbm, ⟨13, _⟩ => ⟨S2x2x4x16384, .f32⟩
  | .hbm, ⟨14, _⟩ => ⟨S_, .f32⟩
  | .hbm, ⟨15, _⟩ => ⟨S2x2x4x16384, .f32⟩
  | .hbm, ⟨16, _⟩ => ⟨S2x2x4x16384, .f32⟩
  | .hbm, ⟨17, _⟩ => ⟨S2x2x4x16384x1, .f32⟩
  | .hbm, ⟨18, _⟩ => ⟨S2x2x4x16384x16640, .f32⟩
  | .hbm, ⟨19, _⟩ => ⟨S2x2x4x16384x16640, .f32⟩
  | .hbm, ⟨20, _⟩ => ⟨S2x2x4x16384x16640, .f32⟩
  | .hbm, ⟨21, _⟩ => ⟨S_, .f32⟩
  | .hbm, ⟨22, _⟩ => ⟨S2x2x4x16384, .f32⟩
  | .hbm, ⟨23, _⟩ => ⟨S2x2x4x16384x1, .f32⟩
  | .hbm, ⟨24, _⟩ => ⟨S2x2x4x16384x16640, .f32⟩
  | .hbm, ⟨25, _⟩ => ⟨S2x2x4x16384x16640, .f32⟩
  | .hbm, ⟨26, _⟩ => ⟨S2x2x4x16384x64, .f32⟩
  | .hbm, ⟨27, _⟩ => ⟨S2x8x16384x64, .f32⟩
  | .hbm, ⟨28, _⟩ => ⟨S2x8x64x16384, .f32⟩
  | _, _ => ⟨S2x8x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel4.lean ====
abbrev S2x8x16384x64 : Shape := ⟨4, ![2, 8, 16384, 64]⟩
abbrev S2x2x16384x64 : Shape := ⟨4, ![2, 2, 16384, 64]⟩
abbrev S2x2x256x64 : Shape := ⟨4, ![2, 2, 256, 64]⟩
abbrev S8 : Shape := ⟨1, ![8]⟩
abbrev S2x8x64x16384 : Shape := ⟨4, ![2, 8, 64, 16384]⟩
abbrev S_ : Shape := ⟨0, ![]⟩
abbrev S2x2x16640x64 : Shape := ⟨4, ![2, 2, 16640, 64]⟩
abbrev S2x4x16640x64 : Shape := ⟨4, ![2, 4, 16640, 64]⟩
abbrev S2x2x64x16640 : Shape := ⟨4, ![2, 2, 64, 16640]⟩
abbrev S16x16640 : Shape := ⟨2, ![16, 16640]⟩
abbrev S2x2x16x16640 : Shape := ⟨4, ![2, 2, 16, 16640]⟩
abbrev S2x2x80x16640 : Shape := ⟨4, ![2, 2, 80, 16640]⟩
abbrev S8x1x1 : Shape := ⟨3, ![8, 1, 1]⟩
abbrev S8x1x128 : Shape := ⟨3, ![8, 1, 128]⟩
abbrev S2x8x64x16640 : Shape := ⟨4, ![2, 8, 64, 16640]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S4x1x128 : Shape := ⟨3, ![4, 1, 128]⟩
abbrev S1x4x64x256 : Shape := ⟨4, ![1, 4, 64, 256]⟩
abbrev S1x1x256x64 : Shape := ⟨4, ![1, 1, 256, 64]⟩
abbrev S1x1x80x256 : Shape := ⟨4, ![1, 1, 80, 256]⟩
abbrev S1x1x64x256 : Shape := ⟨4, ![1, 1, 64, 256]⟩
abbrev S64x256 : Shape := ⟨2, ![64, 256]⟩
abbrev S64x1024 : Shape := ⟨2, ![64, 1024]⟩
abbrev S1x1x1 : Shape := ⟨3, ![1, 1, 1]⟩
abbrev S1x1 : Shape := ⟨2, ![1, 1]⟩
abbrev S1x256 : Shape := ⟨2, ![1, 256]⟩
abbrev S1x1x128x64 : Shape := ⟨4, ![1, 1, 128, 64]⟩
abbrev S128x64 : Shape := ⟨2, ![128, 64]⟩
abbrev S256x64 : Shape := ⟨2, ![256, 64]⟩
abbrev S512x64 : Shape := ⟨2, ![512, 64]⟩
abbrev S128x1024 : Shape := ⟨2, ![128, 1024]⟩
abbrev S256x1024 : Shape := ⟨2, ![256, 1024]⟩
abbrev S1x1x80x128 : Shape := ⟨4, ![1, 1, 80, 128]⟩
abbrev S80x128 : Shape := ⟨2, ![80, 128]⟩
abbrev S80x256 : Shape := ⟨2, ![80, 256]⟩
abbrev S80x512 : Shape := ⟨2, ![80, 512]⟩
abbrev S80x1024 : Shape := ⟨2, ![80, 1024]⟩

abbrev nBuf : Space → Nat
  | .hbm => 87
  | .vmem => 23
  | .smem => 0
  | _ => 0

abbrev bufTy : (tb : Table) → Fin (tcTables nBuf tb) → BufTy
  | .hbm, ⟨0, _⟩ => ⟨S2x8x16384x64, .f32⟩
  | .hbm, ⟨1, _⟩ => ⟨S2x2x16384x64, .f32⟩
  | .hbm, ⟨2, _⟩ => ⟨S2x2x256x64, .f32⟩
  | .hbm, ⟨3, _⟩ => ⟨S2x2x16384x64, .f32⟩
  | .hbm, ⟨4, _⟩ => ⟨S2x2x256x64, .f32⟩
  | .hbm, ⟨5, _⟩ => ⟨S8, .f32⟩
  | .hbm, ⟨6, _⟩ => ⟨S2x8x64x16384, .f32⟩
  | .hbm, ⟨7, _⟩ => ⟨S_, .f32⟩
  | .hbm, ⟨8, _⟩ => ⟨S2x8x64x16384, .f32⟩
  | .hbm, ⟨9, _⟩ => ⟨S2x8x64x16384, .f32⟩
  | .hbm, ⟨10, _⟩ => ⟨S_, .f32⟩
  | .hbm, ⟨11, _⟩ => ⟨S_, .f32⟩
  | .hbm, ⟨12, _⟩ => ⟨S2x8x64x16384, .f32⟩
  | .hbm, ⟨13, _⟩ => ⟨S2x8x64x16384, .f32⟩
  | .hbm, ⟨14, _⟩ => ⟨S2x8x64x16384, .bf16⟩
  | .hbm, ⟨15, _⟩ => ⟨S2x2x16640x64, .f32⟩
  | .hbm, ⟨16, _⟩ => ⟨S2x2x16640x64, .bf16⟩
  | .hbm, ⟨17, _⟩ => ⟨S_, .bf16⟩
  | .hbm, ⟨18, _⟩ => ⟨S2x2x16640x64, .bf16⟩
  | .hbm, ⟨19, _⟩ => ⟨S2x4x16640x64, .bf16⟩
  | .hbm, ⟨20, _⟩ => ⟨S2x2x16640x64, .f32⟩
  | .hbm, ⟨21, _⟩ => ⟨S2x2x64x16640, .f32⟩
  | .hbm, ⟨22, _⟩ => ⟨S2x2x64x16640, .bf16⟩
  | .hbm, ⟨23, _⟩ => ⟨S16x16640, .i32⟩
  | .hbm, ⟨24, _⟩ => ⟨S_, .i32⟩
  | .hbm, ⟨25, _⟩ => ⟨S16x16640, .i32⟩
  | .hbm, ⟨26, _⟩ => ⟨S16x16640, .i1⟩
  | .hbm, ⟨27, _⟩ => ⟨S_, .f32⟩
  | .hbm, ⟨28, _⟩ => ⟨S_, .f32⟩
  | .hbm, ⟨29, _⟩ => ⟨S16x16640, .f32⟩
  | .hbm, ⟨30, _⟩ => ⟨S16x16640, .f32⟩
  | .hbm, ⟨31, _⟩ => ⟨S16x16640, .f32⟩
  | .hbm, ⟨32, _⟩ => ⟨S16x16640, .bf16⟩
  | .hbm, ⟨33, _⟩ => ⟨S2x2x16x16640, .bf16⟩
  | .hbm, ⟨34, _⟩ => ⟨S2x2x80x16640, .bf16⟩
  | .hbm, ⟨35, _⟩ => ⟨S_, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8x1x1, .f32⟩
  | .hbm, ⟨40, _⟩ => ⟨S8x1x128, .f32⟩
  | .hbm, ⟨41, _⟩ => ⟨S_, .i32⟩
  | .hbm, ⟨42, _⟩ => ⟨S_, .bf16⟩
  | .hbm, ⟨43, _⟩ => ⟨S2x8x64x16640, .bf16⟩
  | .hbm, ⟨44, _⟩ => ⟨S512, .i32⟩
  | .hbm, ⟨45, _⟩ => ⟨S512x1, .i32⟩
  | .hbm, ⟨46, _⟩ => ⟨S1024, .i32⟩
  | .hbm, ⟨47, _⟩ => ⟨S1x1024, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S1x1024, .i32⟩
  | .hbm, ⟨55, _⟩ => ⟨S1x1024, .i32⟩
  | .hbm, ⟨56, _⟩ => ⟨S_, .i32⟩
  | .hbm, ⟨57, _⟩ => ⟨S1x1024, .i32⟩
  | .hbm, ⟨58, _⟩ => ⟨S1x1024, .i1⟩
  | .hbm, ⟨59, _⟩ => ⟨S_, .i32⟩
  | .hbm, ⟨60, _⟩ => ⟨S1x1024, .i32⟩
  | .hbm, ⟨61, _⟩ => ⟨S1x1024, .i1⟩
  | .hbm, ⟨62, _⟩ => ⟨S_, .i32⟩
  | .hbm, ⟨63, _⟩ => ⟨S_, .i1⟩
  | .hbm, ⟨64, _⟩ => ⟨S1x1024, .i1⟩
  | .hbm, ⟨65, _⟩ => ⟨S1x1024, .i1⟩
  | .hbm, ⟨66, _⟩ => ⟨S1x1024, .i1⟩
  | .hbm, ⟨67, _⟩ => ⟨S1x1024, .i32⟩
  | .hbm, ⟨68, _⟩ => ⟨S1x1024, .i32⟩
  | .hbm, ⟨69, _⟩ => ⟨S1x1024, .i32⟩
  | .hbm, ⟨70, _⟩ => ⟨S_, .i32⟩
  | .hbm, ⟨71, _⟩ => ⟨S512x1, .i32⟩
  | .hbm, ⟨72, _⟩ => ⟨S512x1, .i32⟩
  | .hbm, ⟨73, _⟩ => ⟨S512x1024, .i32⟩
  | .hbm, ⟨74, _⟩ => ⟨S512x1024, .i32⟩
  | .hbm, ⟨75, _⟩ => ⟨S512x1024, .i32⟩
  | .hbm, ⟨76, _⟩ => ⟨S512x1024, .i32⟩
  | .hbm, ⟨77, _⟩ => ⟨S_, .i32⟩
  | .hbm, ⟨78, _⟩ => ⟨S512x1024, .i32⟩
  | .hbm, ⟨79, _⟩ => ⟨S512x1024, .i1⟩
  | .hbm, ⟨80, _⟩ => ⟨S_, .f32⟩
  | .hbm, ⟨81, _⟩ => ⟨S_, .f32⟩
  | .hbm, ⟨82, _⟩ => ⟨S512x1024, .f32⟩
  | .hbm, ⟨83, _⟩ => ⟨S512x1024, .f32⟩
  | .hbm, ⟨84, _⟩ => ⟨S512x1024, .f32⟩
  | .hbm, ⟨85, _⟩ => ⟨S512x1024, .f32⟩
  | .hbm, ⟨86, _⟩ => ⟨S2x8x64x16384, .f32⟩
  | .local _ .vmem, ⟨0, _⟩ => ⟨S4x1x128, .f32⟩
  | .local _ .vmem, ⟨1, _⟩ => ⟨S4x1x128, .f32⟩
  | .local _ .vmem, ⟨2, _⟩ => ⟨S512x1024, .f32⟩
  | .local _ .vmem, ⟨3, _⟩ => ⟨S1x4x64x256, .bf16⟩
  | .local _ .vmem, ⟨4, _⟩ => ⟨S1x4x64x256, .bf16⟩
  | .local _ .vmem, ⟨5, _⟩ => ⟨S1x1x256x64, .bf16⟩
  | .local _ .vmem, ⟨6, _⟩ => ⟨S1x1x256x64, .bf16⟩
  | .local _ .vmem, ⟨7, _⟩ => ⟨S1x1x256x64, .bf16⟩
  | .local _ .vmem, ⟨8, _⟩ => ⟨S1x1x256x64, .bf16⟩
  | .local _ .vmem, ⟨9, _⟩ => ⟨S1x1x256x64, .bf16⟩
  | .local _ .vmem, ⟨10, _⟩ => ⟨S1x1x256x64, .bf16⟩
  | .local _ .vmem, ⟨11, _⟩ => ⟨S1x1x256x64, .bf16⟩
  | .local _ .vmem, ⟨12, _⟩ => ⟨S1x1x256x64, .bf16⟩
  | .local _ .vmem, ⟨13, _⟩ => ⟨S1x1x80x256, .bf16⟩
  | .local _ .vmem, ⟨14, _⟩ => ⟨S1x1x80x256, .bf16⟩
  | .local _ .vmem, ⟨15, _⟩ => ⟨S1x1x80x256, .bf16⟩
  | .local _ .vmem, ⟨16, _⟩ => ⟨S1x1x80x256, .bf16⟩
  | .local _ .vmem, ⟨17, _⟩ => ⟨S1x1x80x256, .bf16⟩
  | .local _ .vmem, ⟨18, _⟩ => ⟨S1x1x80x256, .bf16⟩
  | .local _ .vmem, ⟨19, _⟩ => ⟨S1x1x80x256, .bf16⟩
  | .local _ .vmem, ⟨20, _⟩ => ⟨S1x1x80x256, .bf16⟩
  | .local _ .vmem, ⟨21, _⟩ => ⟨S1x4x64x256, .f32⟩
  | .local _ .vmem, ⟨22, _⟩ => ⟨S1x4x64x256, .f32⟩
  | _, _ => ⟨S2x8x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_1 : Ref sig .tc := ⟨.hbm, 56, rfl⟩
abbrev main_call2_v5 : Ref sig .tc := ⟨.hbm, 57, rfl⟩
abbrev main_call2_v6 : Ref sig .tc := ⟨.hbm, 58, rfl⟩
abbrev main_call2_c_2 : Ref sig .tc := ⟨.hbm, 59, rfl⟩
abbrev main_call2_v7 : Ref sig .tc := ⟨.hbm, 60, rfl⟩
abbrev main_call2_v8 : Ref sig .tc := ⟨.hbm, 61, rfl⟩
abbrev main_call2_c_3 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_v31 : Ref sig .tc := ⟨.hbm, 69, rfl⟩
abbrev main_c_7 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_8 : Ref sig .tc := ⟨.hbm, 77, rfl⟩
abbrev main_v38 : Ref sig .tc := ⟨.hbm, 78, rfl⟩
abbrev main_v39 : Ref sig .tc := ⟨.hbm, 79, rfl⟩
abbrev main_cst_9 : Ref sig .tc := ⟨.hbm, 80, rfl⟩
abbrev main_cst_10 : Ref sig .tc := ⟨.hbm, 81, rfl⟩
abbrev main_call3_v0 : Ref sig .tc := ⟨.hbm, 82, rfl⟩
abbrev main_call3_v1 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![2, 2, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.subi arg2 c1_i32_5
  let c0_i32_6 : BitVec 32 := 0#32
  let c63_i32 : BitVec 32 := 63#32
  let v19 : BitVec 32 := Scalar.maxsi c0_i32_6 v18
  let v20 : BitVec 32 := Scalar.minsi c63_i32 v19
  let c0_i32_7 : BitVec 32 := 0#32
  let c0_i32_8 : BitVec 32 := 0#32
  ![arg0.toNat, v17.toNat, v20.toNat, c0_i32_7.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![arg0.toNat, v17.toNat, arg2.toNat, c0_i32_5.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi arg2 c1_i32_5
  let c0_i32_6 : BitVec 32 := 0#32
  let c63_i32 : BitVec 32 := 63#32
  let v19 : BitVec 32 := Scalar.maxsi c0_i32_6 v18
  let v20 : BitVec 32 := Scalar.minsi c63_i32 v19
  let c0_i32_7 : BitVec 32 := 0#32
  let c0_i32_8 : BitVec 32 := 0#32
  ![arg0.toNat, v17.toNat, v20.toNat, c0_i32_7.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c64_i32 : BitVec 32 := 64#32
  let c0_i32_5 : BitVec 32 := 0#32
  let c0_i32_6 : BitVec 32 := 0#32
  ![arg0.toNat, v17.toNat, c64_i32.toNat, c0_i32_5.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![arg0.toNat, arg1.toNat, c0_i32_0.toNat, v2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![arg0.toNat, arg1.toNat, c0_i32_0.toNat, v2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c64_i32 : BitVec 32 := 64#32
  let c0_i32_0 : BitVec 32 := 0#32
  ![arg0.toNat, arg1.toNat, c0_i32.toNat, c64_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S4x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x80x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x80x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x80x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x80x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x4x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S2x8x16384x64 : Shape := ⟨4, ![2, 8, 16384, 64]⟩
abbrev S2x2x16384x64 : Shape := ⟨4, ![2, 2, 16384, 64]⟩
abbrev S2x2x256x64 : Shape := ⟨4, ![2, 2, 256, 64]⟩
abbrev S8 : Shape := ⟨1, ![8]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S2x2x4x16384x64 : Shape := ⟨5, ![2, 2, 4, 16384, 64]⟩
abbrev S2x2x4x16384x16384 : Shape := ⟨5, ![2, 2, 4, 16384, 16384]⟩
abbrev S2x2x4x16384x256 : Shape := ⟨5, ![2, 2, 4, 16384, 256]⟩
abbrev S2x2x4x16384x16640 : Shape := ⟨5, ![2, 2, 4, 16384, 16640]⟩
abbrev S1x2x4x1x1 : Shape := ⟨5, ![1, 2, 4, 1, 1]⟩
abbrev S2x2x4x16384 : Shape := ⟨4, ![2, 2, 4, 16384]⟩
abbrev S2x2x4x16384x1 : Shape := ⟨5, ![2, 2, 4, 16384, 1]⟩
abbrev S2x8x64x16384 : Shape := ⟨4, ![2, 8, 64, 16384]⟩

abbrev nBuf : Space → Nat
  | .hbm => 56
  | .vmem => 0
  | .smem => 0
  | _ => 0

abbrev bufTy : (tb : Table) → Fin (tcTables nBuf tb) → BufTy
  | .hbm, ⟨0, _⟩ => ⟨S2x8x16384x64, .f32⟩
  | .hbm, ⟨1, _⟩ => ⟨S2x2x16384x64, .f32⟩
  | .hbm, ⟨2, _⟩ => ⟨S2x2x256x64, .f32⟩
  | .hbm, ⟨3, _⟩ => ⟨S2x2x16384x64, .f32⟩
  | .hbm, ⟨4, _⟩ => ⟨S2x2x256x64, .f32⟩
  | .hbm, ⟨5, _⟩ => ⟨S8, .f32⟩
  | .hbm, ⟨6, _⟩ => ⟨S16384, .i32⟩
  | .hbm, ⟨7, _⟩ => ⟨S1x16384, .i32⟩
  | .hbm, ⟨8, _⟩ => ⟨S16384x1, .i32⟩
  | .hbm, ⟨9, _⟩ => ⟨S16384x16384, .i32⟩
  | .hbm, ⟨10, _⟩ => ⟨S16384x16384, .i32⟩
  | .hbm, ⟨11, _⟩ => ⟨S16384x16384, .i32⟩
  | .hbm, ⟨12, _⟩ => ⟨S16384x16384, .i32⟩
  | .hbm, ⟨13, _⟩ => ⟨S_, .i32⟩
  | .hbm, ⟨14, _⟩ => ⟨S16384x16384, .i32⟩
  | .hbm, ⟨15, _⟩ => ⟨S16384x16384, .i1⟩
  | .hbm, ⟨16, _⟩ => ⟨S2x2x4x16384x64, .f32⟩
  | .hbm, ⟨17, _⟩ => ⟨S2x2x4x16384x16384, .f32⟩
  | .hbm, ⟨18, _⟩ => ⟨S_, .f32⟩
  | .hbm, ⟨19, _⟩ => ⟨S2x2x4x16384x16384, .f32⟩
  | .hbm, ⟨20, _⟩ => ⟨S2x2x4x16384x16384, .f32⟩
  | .hbm, ⟨21, _⟩ => ⟨S_, .f32⟩
  | .hbm, ⟨22, _⟩ => ⟨S_, .f32⟩
  | .hbm, ⟨23, _⟩ => ⟨S2x2x4x16384x16384, .i1⟩
  | .hbm, ⟨24, _⟩ => ⟨S2x2x4x16384x16384, .f32⟩
  | .hbm, ⟨25, _⟩ => ⟨S2x2x4x16384x16384, .f32⟩
  | .hbm, ⟨26, _⟩ => ⟨S2x2x4x16384x256, .f32⟩
  | .hbm, ⟨27, _⟩ => ⟨S_, .f32⟩
  | .hbm, ⟨28, _⟩ => ⟨S2x2x4x16384x256, .f32⟩
  | .hbm, ⟨29, _⟩ => ⟨S2x2x4x16384x256, .f32⟩
  | .hbm, ⟨30, _⟩ => ⟨S2x2x4x16384x16640, .f32⟩
  | .hbm, ⟨31, _⟩ => ⟨S1x2x4x1x1, .f32⟩
  | .hbm, ⟨32, _⟩ => ⟨S_, .f32⟩
  | .hbm, ⟨33, _⟩ => ⟨S2x2x4x16384, .f32⟩
  | .hbm, ⟨34, _⟩ => ⟨S2x2x4x16384x1, .f32⟩
  | .hbm, ⟨35, _⟩ => ⟨S2x2x4x16384x1, .f32⟩
  | .hbm, ⟨36, _⟩ => ⟨S2x2x4x16384x1, .f32⟩
  | .hbm, ⟨37, _⟩ => ⟨S2x2x4x16384x16640, .f32⟩
  | .hbm, ⟨38, _⟩ => ⟨S2x2x4x16384x16640, .f32⟩
  | .hbm, ⟨39, _⟩ => ⟨S2x2x4x16384x16640, .f32⟩
  | .hbm, ⟨40, _⟩ => ⟨S_, .f32⟩
  | .hbm, ⟨41, _⟩ => ⟨S2x2x4x16384, .f32⟩
  | .hbm, ⟨42, _⟩ => ⟨S2x2x4x16384x1, .f32⟩
  | .hbm, ⟨43, _⟩ => ⟨S2x2x4x16384x1, .f32⟩
  | .hbm, ⟨44, _⟩ => ⟨S2x2x4x16384x1, .f32⟩
  | .hbm, ⟨45, _⟩ => ⟨S2x2x4x16384x1, .f32⟩
  | .hbm, ⟨46, _⟩ => ⟨S2x2x4x16384x1, .f32⟩
  | .hbm, ⟨47, _⟩ => ⟨S2x2x4x16384x16640, .f32⟩
  | .hbm, ⟨48, _⟩ => ⟨S2x2x4x16384x16640, .f32⟩
  | .hbm, ⟨49, _⟩ => ⟨S2x2x4x16384x16384, .f32⟩
  | .hbm, ⟨50, _⟩ => ⟨S2x2x4x16384x64, .f32⟩
  | .hbm, ⟨51, _⟩ => ⟨S2x2x4x16384x256, .f32⟩
  | .hbm, ⟨52, _⟩ => ⟨S2x2x4x16384x64, .f32⟩
  | .hbm, ⟨53, _⟩ => ⟨S2x2x4x16384x64, .f32⟩
  | .hbm, ⟨54, _⟩ => ⟨S2x8x16384x64, .f32⟩
  | .hbm, ⟨55, _⟩ => ⟨S2x8x64x16384, .f32⟩
  | _, _ => ⟨S2x8x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel5.lean ====
abbrev S2x16640x1024 : Shape := ⟨3, ![2, 16640, 1024]⟩
abbrev S2x8x16384x64 : Shape := ⟨4, ![2, 8, 16384, 64]⟩
abbrev S4x32 : Shape := ⟨2, ![4, 32]⟩
abbrev S64 : Shape := ⟨1, ![64]⟩
abbrev S1024x1024 : Shape := ⟨2, ![1024, 1024]⟩
abbrev S2x1024 : Shape := ⟨2, ![2, 1024]⟩
abbrev S2x8x64x16384 : Shape := ⟨4, ![2, 8, 64, 16384]⟩
abbrev S2x8x1x64x16384 : Shape := ⟨5, ![2, 8, 1, 64, 16384]⟩
abbrev S2x8x2x64x16384 : Shape := ⟨5, ![2, 8, 2, 64, 16384]⟩
abbrev S2x16x64x16384 : Shape := ⟨4, ![2, 16, 64, 16384]⟩
abbrev S1x32 : Shape := ⟨2, ![1, 32]⟩
abbrev S32 : Shape := ⟨1, ![32]⟩
abbrev S_ : Shape := ⟨0, ![]⟩
abbrev S1x1 : Shape := ⟨2, ![1, 1]⟩
abbrev S64x1 : Shape := ⟨2, ![64, 1]⟩
abbrev S64x256 : Shape := ⟨2, ![64, 256]⟩
abbrev S2x1x1024 : Shape := ⟨3, ![2, 1, 1024]⟩
abbrev S2x2x1024 : Shape := ⟨3, ![2, 2, 1024]⟩
abbrev S2x2x1x1024 : Shape := ⟨4, ![2, 2, 1, 1024]⟩
abbrev S1x256x1024 : Shape := ⟨3, ![1, 256, 1024]⟩
abbrev S1x8x64x256 : Shape := ⟨4, ![1, 8, 64, 256]⟩
abbrev S1x16x64x256 : Shape := ⟨4, ![1, 16, 64, 256]⟩
abbrev S1x1x1x1024 : Shape := ⟨4, ![1, 1, 1, 1024]⟩
abbrev S1x1x64x256 : Shape := ⟨4, ![1, 1, 64, 256]⟩
abbrev S256 : Shape := ⟨1, ![256]⟩
abbrev S1x256 : Shape := ⟨2, ![1, 256]⟩
abbrev S1024x256 : Shape := ⟨2, ![1024, 256]⟩
abbrev S256x1024 : Shape := ⟨2, ![256, 1024]⟩
abbrev S1x1024 : Shape := ⟨2, ![1, 1024]⟩

abbrev nBuf : Space → Nat
  | .hbm => 45
  | .vmem => 13
  | .smem => 0
  | _ => 0

abbrev bufTy : (tb : Table) → Fin (tcTables nBuf tb) → BufTy
  | .hbm, ⟨0, _⟩ => ⟨S2x16640x1024, .f32⟩
  | .hbm, ⟨1, _⟩ => ⟨S2x8x16384x64, .f32⟩
  | .hbm, ⟨2, _⟩ => ⟨S2x8x16384x64, .f32⟩
  | .hbm, ⟨3, _⟩ => ⟨S2x8x16384x64, .f32⟩
  | .hbm, ⟨4, _⟩ => ⟨S4x32, .f32⟩
  | .hbm, ⟨5, _⟩ => ⟨S64, .f32⟩
  | .hbm, ⟨6, _⟩ => ⟨S1024x1024, .f32⟩
  | .hbm, ⟨7, _⟩ => ⟨S2x1024, .f32⟩
  | .hbm, ⟨8, _⟩ => ⟨S2x8x64x16384, .f32⟩
  | .hbm, ⟨9, _⟩ => ⟨S2x8x64x16384, .f32⟩
  | .hbm, ⟨10, _⟩ => ⟨S2x8x1x64x16384, .f32⟩
  | .hbm, ⟨11, _⟩ => ⟨S2x8x1x64x16384, .f32⟩
  | .hbm, ⟨12, _⟩ => ⟨S2x8x2x64x16384, .f32⟩
  | .hbm, ⟨13, _⟩ => ⟨S2x16x64x16384, .f32⟩
  | .hbm, ⟨14, _⟩ => ⟨S1x32, .f32⟩
  | .hbm, ⟨15, _⟩ => ⟨S32, .f32⟩
  | .hbm, ⟨16, _⟩ => ⟨S1x32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x32, .f32⟩
  | .hbm, ⟨23, _⟩ => ⟨S32, .f32⟩
  | .hbm, ⟨24, _⟩ => ⟨S1x32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x1, .f32⟩
  | .hbm, ⟨34, _⟩ => ⟨S64x1, .f32⟩
  | .hbm, ⟨35, _⟩ => ⟨S64x256, .f32⟩
  | .hbm, ⟨36, _⟩ => ⟨S2x8x64x16384, .f32⟩
  | .hbm, ⟨37, _⟩ => ⟨S1024x1024, .bf16⟩
  | .hbm, ⟨38, _⟩ => ⟨S_, .f32⟩
  | .hbm, ⟨39, _⟩ => ⟨S2x1024, .f32⟩
  | .hbm, ⟨40, _⟩ => ⟨S2x1x1024, .f32⟩
  | .hbm, ⟨41, _⟩ => ⟨S2x1x1024, .f32⟩
  | .hbm, ⟨42, _⟩ => ⟨S2x2x1024, .f32⟩
  | .hbm, ⟨43, _⟩ => ⟨S2x2x1x1024, .f32⟩
  | .hbm, ⟨44, _⟩ => ⟨S2x16640x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x64x256, .f32⟩
  | .local _ .vmem, ⟨3, _⟩ => ⟨S1x8x64x256, .f32⟩
  | .local _ .vmem, ⟨4, _⟩ => ⟨S1x16x64x256, .f32⟩
  | .local _ .vmem, ⟨5, _⟩ => ⟨S1x16x64x256, .f32⟩
  | .local _ .vmem, ⟨6, _⟩ => ⟨S1024x1024, .bf16⟩
  | .local _ .vmem, ⟨7, _⟩ => ⟨S1x1x1x1024, .f32⟩
  | .local _ .vmem, ⟨8, _⟩ => ⟨S1x1x1x1024, .f32⟩
  | .local _ .vmem, ⟨9, _⟩ => ⟨S1x1, .f32⟩
  | .local _ .vmem, ⟨10, _⟩ => ⟨S64x256, .f32⟩
  | .local _ .vmem, ⟨11, _⟩ => ⟨S1x256x1024, .f32⟩
  | .local _ .vmem, ⟨12, _⟩ => ⟨S1x256x1024, .f32⟩
  | _, _ => ⟨S2x16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x16640x1024 : Shape := ⟨3, ![2, 16640, 1024]⟩
abbrev S2x8x16384x64 : Shape := ⟨4, ![2, 8, 16384, 64]⟩
abbrev S4x32 : Shape := ⟨2, ![4, 32]⟩
abbrev S64 : Shape := ⟨1, ![64]⟩
abbrev S1024x1024 : Shape := ⟨2, ![1024, 1024]⟩
abbrev S2x1024 : Shape := ⟨2, ![2, 1024]⟩
abbrev S1x32 : Shape := ⟨2, ![1, 32]⟩
abbrev S32 : Shape := ⟨1, ![32]⟩
abbrev S_ : Shape := ⟨0, ![]⟩
abbrev S2x8x16384 : Shape := ⟨3, ![2, 8, 16384]⟩
abbrev S2x8x16384x1 : Shape := ⟨4, ![2, 8, 16384, 1]⟩
abbrev S1x1x1x64 : Shape := ⟨4, ![1, 1, 1, 64]⟩
abbrev S2x16384x8x64 : Shape := ⟨4, ![2, 16384, 8, 64]⟩
abbrev S2x16384x512 : Shape := ⟨3, ![2, 16384, 512]⟩
abbrev S2x16384x1024 : Shape := ⟨3, ![2, 16384, 1024]⟩
abbrev S2x1x1024 : Shape := ⟨3, ![2, 1, 1024]⟩
abbrev S2x256x1024 : Shape := ⟨3, ![2, 256, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x16640x1024, .f32⟩
  | .hbm, ⟨1, _⟩ => ⟨S2x8x16384x64, .f32⟩
  | .hbm, ⟨2, _⟩ => ⟨S2x8x16384x64, .f32⟩
  | .hbm, ⟨3, _⟩ => ⟨S2x8x16384x64, .f32⟩
  | .hbm, ⟨4, _⟩ => ⟨S4x32, .f32⟩
  | .hbm, ⟨5, _⟩ => ⟨S64, .f32⟩
  | .hbm, ⟨6, _⟩ => ⟨S1024x1024, .f32⟩
  | .hbm, ⟨7, _⟩ => ⟨S2x1024, .f32⟩
  | .hbm, ⟨8, _⟩ => ⟨S1x32, .f32⟩
  | .hbm, ⟨9, _⟩ => ⟨S32, .f32⟩
  | .hbm, ⟨10, _⟩ => ⟨S1x32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x32, .f32⟩
  | .hbm, ⟨17, _⟩ => ⟨S32, .f32⟩
  | .hbm, ⟨18, _⟩ => ⟨S1x32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x8x16384x64, .f32⟩
  | .hbm, ⟨28, _⟩ => ⟨S2x8x16384x64, .f32⟩
  | .hbm, ⟨29, _⟩ => ⟨S2x8x16384x64, .f32⟩
  | .hbm, ⟨30, _⟩ => ⟨S2x8x16384x64, .f32⟩
  | .hbm, ⟨31, _⟩ => ⟨S_, .f32⟩
  | .hbm, ⟨32, _⟩ => ⟨S2x8x16384, .f32⟩
  | .hbm, ⟨33, _⟩ => ⟨S2x8x16384x1, .f32⟩
  | .hbm, ⟨34, _⟩ => ⟨S_, .f32⟩
  | .hbm, ⟨35, _⟩ => ⟨S2x8x16384x1, .f32⟩
  | .hbm, ⟨36, _⟩ => ⟨S2x8x16384x1, .f32⟩
  | .hbm, ⟨37, _⟩ => ⟨S_, .f32⟩
  | .hbm, ⟨38, _⟩ => ⟨S2x8x16384x1, .f32⟩
  | .hbm, ⟨39, _⟩ => ⟨S2x8x16384x1, .f32⟩
  | .hbm, ⟨40, _⟩ => ⟨S2x8x16384x1, .f32⟩
  | .hbm, ⟨41, _⟩ => ⟨S2x8x16384x64, .f32⟩
  | .hbm, ⟨42, _⟩ => ⟨S2x8x16384x64, .f32⟩
  | .hbm, ⟨43, _⟩ => ⟨S1x1x1x64, .f32⟩
  | .hbm, ⟨44, _⟩ => ⟨S2x8x16384x64, .f32⟩
  | .hbm, ⟨45, _⟩ => ⟨S2x8x16384x64, .f32⟩
  | .hbm, ⟨46, _⟩ => ⟨S_, .f32⟩
  | .hbm, ⟨47, _⟩ => ⟨S2x8x16384x64, .f32⟩
  | .hbm, ⟨48, _⟩ => ⟨S2x8x16384x64, .f32⟩
  | .hbm, ⟨49, _⟩ => ⟨S2x16384x8x64, .f32⟩
  | .hbm, ⟨50, _⟩ => ⟨S2x16384x512, .f32⟩
  | .hbm, ⟨51, _⟩ => ⟨S2x16384x8x64, .f32⟩
  | .hbm, ⟨52, _⟩ => ⟨S2x16384x512, .f32⟩
  | .hbm, ⟨53, _⟩ => ⟨S2x16384x1024, .f32⟩
  | .hbm, ⟨54, _⟩ => ⟨S2x16384x1024, .f32⟩
  | .hbm, ⟨55, _⟩ => ⟨S2x16384x1024, .f32⟩
  | .hbm, ⟨56, _⟩ => ⟨S2x1x1024, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | .hbm, ⟨60, _⟩ => ⟨S2x256x1024, .f32⟩
  | .hbm, ⟨61, _⟩ => ⟨S2x16640x1024, .f32⟩
  | _, _ => ⟨S2x16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel6.lean ====
abbrev S2x16640x1024 : Shape := ⟨3, ![2, 16640, 1024]⟩
abbrev S2x8x16384x64 : Shape := ⟨4, ![2, 8, 16384, 64]⟩
abbrev S1024x1024 : Shape := ⟨2, ![1024, 1024]⟩
abbrev S2x1024 : Shape := ⟨2, ![2, 1024]⟩
abbrev S2x8x64x16384 : Shape := ⟨4, ![2, 8, 64, 16384]⟩
abbrev S_ : Shape := ⟨0, ![]⟩
abbrev S2x1x1024 : Shape := ⟨3, ![2, 1, 1024]⟩
abbrev S2x2x1024 : Shape := ⟨3, ![2, 2, 1024]⟩
abbrev S2x2x1x1024 : Shape := ⟨4, ![2, 2, 1, 1024]⟩
abbrev S1x256x1024 : Shape := ⟨3, ![1, 256, 1024]⟩
abbrev S1x8x64x256 : Shape := ⟨4, ![1, 8, 64, 256]⟩
abbrev S1x1x1x1024 : Shape := ⟨4, ![1, 1, 1, 1024]⟩
abbrev S1x1x64x256 : Shape := ⟨4, ![1, 1, 64, 256]⟩
abbrev S64x256 : Shape := ⟨2, ![64, 256]⟩
abbrev S1024x256 : Shape := ⟨2, ![1024, 256]⟩
abbrev S256x1024 : Shape := ⟨2, ![256, 1024]⟩
abbrev S1x1024 : Shape := ⟨2, ![1, 1024]⟩

abbrev nBuf : Space → Nat
  | .hbm => 15
  | .vmem => 11
  | .smem => 0
  | _ => 0

abbrev bufTy : (tb : Table) → Fin (tcTables nBuf tb) → BufTy
  | .hbm, ⟨0, _⟩ => ⟨S2x16640x1024, .f32⟩
  | .hbm, ⟨1, _⟩ => ⟨S2x8x16384x64, .f32⟩
  | .hbm, ⟨2, _⟩ => ⟨S2x8x16384x64, .f32⟩
  | .hbm, ⟨3, _⟩ => ⟨S1024x1024, .f32⟩
  | .hbm, ⟨4, _⟩ => ⟨S2x1024, .f32⟩
  | .hbm, ⟨5, _⟩ => ⟨S2x8x64x16384, .f32⟩
  | .hbm, ⟨6, _⟩ => ⟨S2x8x64x16384, .f32⟩
  | .hbm, ⟨7, _⟩ => ⟨S1024x1024, .bf16⟩
  | .hbm, ⟨8, _⟩ => ⟨S_, .f32⟩
  | .hbm, ⟨9, _⟩ => ⟨S2x1024, .f32⟩
  | .hbm, ⟨10, _⟩ => ⟨S2x1x1024, .f32⟩
  | .hbm, ⟨11, _⟩ => ⟨S2x1x1024, .f32⟩
  | .hbm, ⟨12, _⟩ => ⟨S2x2x1024, .f32⟩
  | .hbm, ⟨13, _⟩ => ⟨S2x2x1x1024, .f32⟩
  | .hbm, ⟨14, _⟩ => ⟨S2x16640x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x64x256, .f32⟩
  | .local _ .vmem, ⟨3, _⟩ => ⟨S1x8x64x256, .f32⟩
  | .local _ .vmem, ⟨4, _⟩ => ⟨S1x8x64x256, .f32⟩
  | .local _ .vmem, ⟨5, _⟩ => ⟨S1x8x64x256, .f32⟩
  | .local _ .vmem, ⟨6, _⟩ => ⟨S1024x1024, .bf16⟩
  | .local _ .vmem, ⟨7, _⟩ => ⟨S1x1x1x1024, .f32⟩
  | .local _ .vmem, ⟨8, _⟩ => ⟨S1x1x1x1024, .f32⟩
  | .local _ .vmem, ⟨9, _⟩ => ⟨S1x256x1024, .f32⟩
  | .local _ .vmem, ⟨10, _⟩ => ⟨S1x256x1024, .f32⟩
  | _, _ => ⟨S2x16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x16640x1024 : Shape := ⟨3, ![2, 16640, 1024]⟩
abbrev S2x8x16384x64 : Shape := ⟨4, ![2, 8, 16384, 64]⟩
abbrev S1024x1024 : Shape := ⟨2, ![1024, 1024]⟩
abbrev S2x1024 : Shape := ⟨2, ![2, 1024]⟩
abbrev S2x16384x8x64 : Shape := ⟨4, ![2, 16384, 8, 64]⟩
abbrev S2x16384x512 : Shape := ⟨3, ![2, 16384, 512]⟩
abbrev S2x16384x1024 : Shape := ⟨3, ![2, 16384, 1024]⟩
abbrev S2x1x1024 : Shape := ⟨3, ![2, 1, 1024]⟩
abbrev S2x256x1024 : Shape := ⟨3, ![2, 256, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x16640x1024, .f32⟩
  | .hbm, ⟨1, _⟩ => ⟨S2x8x16384x64, .f32⟩
  | .hbm, ⟨2, _⟩ => ⟨S2x8x16384x64, .f32⟩
  | .hbm, ⟨3, _⟩ => ⟨S1024x1024, .f32⟩
  | .hbm, ⟨4, _⟩ => ⟨S2x1024, .f32⟩
  | .hbm, ⟨5, _⟩ => ⟨S2x16384x8x64, .f32⟩
  | .hbm, ⟨6, _⟩ => ⟨S2x16384x512, .f32⟩
  | .hbm, ⟨7, _⟩ => ⟨S2x16384x8x64, .f32⟩
  | .hbm, ⟨8, _⟩ => ⟨S2x16384x512, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x1x1024, .f32⟩
  | .hbm, ⟨13, _⟩ => ⟨S2x16384x1024, .f32⟩
  | .hbm, ⟨14, _⟩ => ⟨S2x16384x1024, .f32⟩
  | .hbm, ⟨15, _⟩ => ⟨S2x16384x1024, .f32⟩
  | .hbm, ⟨16, _⟩ => ⟨S2x256x1024, .f32⟩
  | .hbm, ⟨17, _⟩ => ⟨S2x16640x1024, .f32⟩
  | _, _ => ⟨S2x16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S4x1x6144, .f32⟩
  | .hbm, ⟨9, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S4x6144x8, .f32⟩
  | .hbm, ⟨18, _⟩ => ⟨S4x8x6144, .f32⟩
  | .hbm, ⟨19, _⟩ => ⟨S4x1x6144, .f32⟩
  | .hbm, ⟨20, _⟩ => ⟨S4x8x6144, .f32⟩
  | .hbm, ⟨21, _⟩ => ⟨S4x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel8.lean ====
abbrev S2x8x256x96 : Shape := ⟨4, ![2, 8, 256, 96]⟩
abbrev S2x8x256x64 : Shape := ⟨4, ![2, 8, 256, 64]⟩
abbrev S2 : Shape := ⟨1, ![2]⟩
abbrev S2x8x96x256 : Shape := ⟨4, ![2, 8, 96, 256]⟩
abbrev S_ : Shape := ⟨0, ![]⟩
abbrev S16x256 : Shape := ⟨2, ![16, 256]⟩
abbrev S2x8x16x256 : Shape := ⟨4, ![2, 8, 16, 256]⟩
abbrev S2x8x64x256 : Shape := ⟨4, ![2, 8, 64, 256]⟩
abbrev S2x8x80x256 : Shape := ⟨4, ![2, 8, 80, 256]⟩
abbrev S2x8x16384x96 : Shape := ⟨4, ![2, 8, 16384, 96]⟩
abbrev S2x8x16640x96 : Shape := ⟨4, ![2, 8, 16640, 96]⟩
abbrev S2x8x96x16384 : Shape := ⟨4, ![2, 8, 96, 16384]⟩
abbrev S2x8x96x16640 : Shape := ⟨4, ![2, 8, 96, 16640]⟩
abbrev S2x8x80x16384 : Shape := ⟨4, ![2, 8, 80, 16384]⟩
abbrev S2x8x80x16640 : Shape := ⟨4, ![2, 8, 80, 16640]⟩
abbrev S1x2x1 : Shape := ⟨3, ![1, 2, 1]⟩
abbrev S8x2x128 : Shape := ⟨3, ![8, 2, 128]⟩
abbrev S1x2x128 : Shape := ⟨3, ![1, 2, 128]⟩
abbrev S1x1x96x256 : Shape := ⟨4, ![1, 1, 96, 256]⟩
abbrev S1x1x256x96 : Shape := ⟨4, ![1, 1, 256, 96]⟩
abbrev S1x1x80x256 : Shape := ⟨4, ![1, 1, 80, 256]⟩
abbrev S1x1x64x256 : Shape := ⟨4, ![1, 1, 64, 256]⟩
abbrev S96x256 : Shape := ⟨2, ![96, 256]⟩
abbrev S1x1x1 : Shape := ⟨3, ![1, 1, 1]⟩
abbrev S1x1 : Shape := ⟨2, ![1, 1]⟩
abbrev S1x256 : Shape := ⟨2, ![1, 256]⟩
abbrev S80x256 : Shape := ⟨2, ![80, 256]⟩
abbrev S256x96 : Shape := ⟨2, ![256, 96]⟩
abbrev S256x256 : Shape := ⟨2, ![256, 256]⟩
abbrev S256 : Shape := ⟨1, ![256]⟩
abbrev S64x256 : Shape := ⟨2, ![64, 256]⟩

abbrev nBuf : Space → Nat
  | .hbm => 40
  | .vmem => 10
  | .smem => 0
  | _ => 0

abbrev bufTy : (tb : Table) → Fin (tcTables nBuf tb) → BufTy
  | .hbm, ⟨0, _⟩ => ⟨S2x8x256x96, .f32⟩
  | .hbm, ⟨1, _⟩ => ⟨S2x8x256x96, .f32⟩
  | .hbm, ⟨2, _⟩ => ⟨S2x8x256x64, .f32⟩
  | .hbm, ⟨3, _⟩ => ⟨S2, .f32⟩
  | .hbm, ⟨4, _⟩ => ⟨S2x8x96x256, .f32⟩
  | .hbm, ⟨5, _⟩ => ⟨S_, .f32⟩
  | .hbm, ⟨6, _⟩ => ⟨S2x8x96x256, .f32⟩
  | .hbm, ⟨7, _⟩ => ⟨S2x8x96x256, .f32⟩
  | .hbm, ⟨8, _⟩ => ⟨S_, .f32⟩
  | .hbm, ⟨9, _⟩ => ⟨S_, .f32⟩
  | .hbm, ⟨10, _⟩ => ⟨S2x8x96x256, .f32⟩
  | .hbm, ⟨11, _⟩ => ⟨S2x8x96x256, .f32⟩
  | .hbm, ⟨12, _⟩ => ⟨S2x8x96x256, .bf16⟩
  | .hbm, ⟨13, _⟩ => ⟨S16x256, .i32⟩
  | .hbm, ⟨14, _⟩ => ⟨S_, .i32⟩
  | .hbm, ⟨15, _⟩ => ⟨S16x256, .i32⟩
  | .hbm, ⟨16, _⟩ => ⟨S16x256, .i1⟩
  | .hbm, ⟨17, _⟩ => ⟨S_, .f32⟩
  | .hbm, ⟨18, _⟩ => ⟨S_, .f32⟩
  | .hbm, ⟨19, _⟩ => ⟨S16x256, .f32⟩
  | .hbm, ⟨20, _⟩ => ⟨S16x256, .f32⟩
  | .hbm, ⟨21, _⟩ => ⟨S16x256, .f32⟩
  | .hbm, ⟨22, _⟩ => ⟨S16x256, .bf16⟩
  | .hbm, ⟨23, _⟩ => ⟨S2x8x16x256, .bf16⟩
  | .hbm, ⟨24, _⟩ => ⟨S2x8x64x256, .f32⟩
  | .hbm, ⟨25, _⟩ => ⟨S2x8x64x256, .bf16⟩
  | .hbm, ⟨26, _⟩ => ⟨S2x8x80x256, .bf16⟩
  | .hbm, ⟨27, _⟩ => ⟨S_, .bf16⟩
  | .hbm, ⟨28, _⟩ => ⟨S2x8x16384x96, .bf16⟩
  | .hbm, ⟨29, _⟩ => ⟨S2x8x256x96, .bf16⟩
  | .hbm, ⟨30, _⟩ => ⟨S2x8x16640x96, .bf16⟩
  | .hbm, ⟨31, _⟩ => ⟨S_, .bf16⟩
  | .hbm, ⟨32, _⟩ => ⟨S2x8x96x16384, .bf16⟩
  | .hbm, ⟨33, _⟩ => ⟨S2x8x96x16640, .bf16⟩
  | .hbm, ⟨34, _⟩ => ⟨S_, .bf16⟩
  | .hbm, ⟨35, _⟩ => ⟨S2x8x80x16384, .bf16⟩
  | .hbm, ⟨36, _⟩ => ⟨S2x8x80x16640, .bf16⟩
  | .hbm, ⟨37, _⟩ => ⟨S1x2x1, .f32⟩
  | .hbm, ⟨38, _⟩ => ⟨S8x2x128, .f32⟩
  | .hbm, ⟨39, _⟩ => ⟨S2x8x64x256, .f32⟩
  | .local _ .vmem, ⟨0, _⟩ => ⟨S1x2x128, .f32⟩
  | .local _ .vmem, ⟨1, _⟩ => ⟨S1x2x128, .f32⟩
  | .local _ .vmem, ⟨2, _⟩ => ⟨S1x1x96x256, .bf16⟩
  | .local _ .vmem, ⟨3, _⟩ => ⟨S1x1x96x256, .bf16⟩
  | .local _ .vmem, ⟨4, _⟩ => ⟨S1x1x256x96, .bf16⟩
  | .local _ .vmem, ⟨5, _⟩ => ⟨S1x1x256x96, .bf16⟩
  | .local _ .vmem, ⟨6, _⟩ => ⟨S1x1x80x256, .bf16⟩
  | .local _ .vmem, ⟨7, _⟩ => ⟨S1x1x80x256, .bf16⟩
  | .local _ .vmem, ⟨8, _⟩ => ⟨S1x1x64x256, .f32⟩
  | .local _ .vmem, ⟨9, _⟩ => ⟨S1x1x64x256, .f32⟩
  | _, _ => ⟨S2x8x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c64_i32 : BitVec 32 := 64#32
  let c0_i32_0 : BitVec 32 := 0#32
  ![arg0.toNat, arg1.toNat, c0_i32.toNat, c64_i32.toNat]

def cc0_transform_2 (i : grid0.Coords) : Fin 4 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![arg0.toNat, arg1.toNat, c64_i32.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c64_i32 : BitVec 32 := 64#32
  let c0_i32_6 : BitVec 32 := 0#32
  ![arg0.toNat, v16.toNat, c0_i32_5.toNat, c64_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x96x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x80x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S2x8x256x96 : Shape := ⟨4, ![2, 8, 256, 96]⟩
abbrev S2x8x256x64 : Shape := ⟨4, ![2, 8, 256, 64]⟩
abbrev S2x8x256x256 : Shape := ⟨4, ![2, 8, 256, 256]⟩
abbrev S_ : Shape := ⟨0, ![]⟩
abbrev S2x8x256 : Shape := ⟨3, ![2, 8, 256]⟩
abbrev S2x8x256x1 : Shape := ⟨4, ![2, 8, 256, 1]⟩
abbrev S2x8x64x256 : Shape := ⟨4, ![2, 8, 64, 256]⟩

abbrev nBuf : Space → Nat
  | .hbm => 23
  | .vmem => 0
  | .smem => 0
  | _ => 0

abbrev bufTy : (tb : Table) → Fin (tcTables nBuf tb) → BufTy
  | .hbm, ⟨0, _⟩ => ⟨S2x8x256x96, .f32⟩
  | .hbm, ⟨1, _⟩ => ⟨S2x8x256x96, .f32⟩
  | .hbm, ⟨2, _⟩ => ⟨S2x8x256x64, .f32⟩
  | .hbm, ⟨3, _⟩ => ⟨S2x8x256x256, .f32⟩
  | .hbm, ⟨4, _⟩ => ⟨S_, .f32⟩
  | .hbm, ⟨5, _⟩ => ⟨S2x8x256x256, .f32⟩
  | .hbm, ⟨6, _⟩ => ⟨S2x8x256x256, .f32⟩
  | .hbm, ⟨7, _⟩ => ⟨S_, .f32⟩
  | .hbm, ⟨8, _⟩ => ⟨S2x8x256, .f32⟩
  | .hbm, ⟨9, _⟩ => ⟨S_, .f32⟩
  | .hbm, ⟨10, _⟩ => ⟨S2x8x256, .f32⟩
  | .hbm, ⟨11, _⟩ => ⟨S2x8x256, .f32⟩
  | .hbm, ⟨12, _⟩ => ⟨S2x8x256x1, .f32⟩
  | .hbm, ⟨13, _⟩ => ⟨S2x8x256x256, .f32⟩
  | .hbm, ⟨14, _⟩ => ⟨S2x8x256x256, .f32⟩
  | .hbm, ⟨15, _⟩ => ⟨S2x8x256x256, .f32⟩
  | .hbm, ⟨16, _⟩ => ⟨S_, .f32⟩
  | .hbm, ⟨17, _⟩ => ⟨S2x8x256, .f32⟩
  | .hbm, ⟨18, _⟩ => ⟨S2x8x256x1, .f32⟩
  | .hbm, ⟨19, _⟩ => ⟨S2x8x256x256, .f32⟩
  | .hbm, ⟨20, _⟩ => ⟨S2x8x256x256, .f32⟩
  | .hbm, ⟨21, _⟩ => ⟨S2x8x256x64, .f32⟩
  | .hbm, ⟨22, _⟩ => ⟨S2x8x64x256, .f32⟩
  | _, _ => ⟨S2x8x256x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel9.lean ====
abbrev S2x8x256x64 : Shape := ⟨4, ![2, 8, 256, 64]⟩
abbrev S2x2x256x64 : Shape := ⟨4, ![2, 2, 256, 64]⟩
abbrev S2 : Shape := ⟨1, ![2]⟩
abbrev S2x8x64x256 : Shape := ⟨4, ![2, 8, 64, 256]⟩
abbrev S_ : Shape := ⟨0, ![]⟩
abbrev S16x256 : Shape := ⟨2, ![16, 256]⟩
abbrev S2x2x16x256 : Shape := ⟨4, ![2, 2, 16, 256]⟩
abbrev S2x2x64x256 : Shape := ⟨4, ![2, 2, 64, 256]⟩
abbrev S2x2x80x256 : Shape := ⟨4, ![2, 2, 80, 256]⟩
abbrev S2x2x16384x64 : Shape := ⟨4, ![2, 2, 16384, 64]⟩
abbrev S2x2x16640x64 : Shape := ⟨4, ![2, 2, 16640, 64]⟩
abbrev S2x4x16640x64 : Shape := ⟨4, ![2, 4, 16640, 64]⟩
abbrev S2x8x64x16384 : Shape := ⟨4, ![2, 8, 64, 16384]⟩
abbrev S2x8x64x16640 : Shape := ⟨4, ![2, 8, 64, 16640]⟩
abbrev S2x2x80x16384 : Shape := ⟨4, ![2, 2, 80, 16384]⟩
abbrev S2x2x80x16640 : Shape := ⟨4, ![2, 2, 80, 16640]⟩
abbrev S1x2x1 : Shape := ⟨3, ![1, 2, 1]⟩
abbrev S8x2x128 : Shape := ⟨3, ![8, 2, 128]⟩
abbrev S1x2x128 : Shape := ⟨3, ![1, 2, 128]⟩
abbrev S1x1x64x256 : Shape := ⟨4, ![1, 1, 64, 256]⟩
abbrev S1x1x256x64 : Shape := ⟨4, ![1, 1, 256, 64]⟩
abbrev S1x1x80x256 : Shape := ⟨4, ![1, 1, 80, 256]⟩
abbrev S64x256 : Shape := ⟨2, ![64, 256]⟩
abbrev S1x1x1 : Shape := ⟨3, ![1, 1, 1]⟩
abbrev S1x1 : Shape := ⟨2, ![1, 1]⟩
abbrev S1x256 : Shape := ⟨2, ![1, 256]⟩
abbrev S80x256 : Shape := ⟨2, ![80, 256]⟩
abbrev S256x64 : Shape := ⟨2, ![256, 64]⟩
abbrev S256x256 : Shape := ⟨2, ![256, 256]⟩
abbrev S256 : Shape := ⟨1, ![256]⟩

abbrev nBuf : Space → Nat
  | .hbm => 43
  | .vmem => 10
  | .smem => 0
  | _ => 0

abbrev bufTy : (tb : Table) → Fin (tcTables nBuf tb) → BufTy
  | .hbm, ⟨0, _⟩ => ⟨S2x8x256x64, .f32⟩
  | .hbm, ⟨1, _⟩ => ⟨S2x2x256x64, .f32⟩
  | .hbm, ⟨2, _⟩ => ⟨S2x2x256x64, .f32⟩
  | .hbm, ⟨3, _⟩ => ⟨S2, .f32⟩
  | .hbm, ⟨4, _⟩ => ⟨S2x8x64x256, .f32⟩
  | .hbm, ⟨5, _⟩ => ⟨S_, .f32⟩
  | .hbm, ⟨6, _⟩ => ⟨S2x8x64x256, .f32⟩
  | .hbm, ⟨7, _⟩ => ⟨S2x8x64x256, .f32⟩
  | .hbm, ⟨8, _⟩ => ⟨S_, .f32⟩
  | .hbm, ⟨9, _⟩ => ⟨S_, .f32⟩
  | .hbm, ⟨10, _⟩ => ⟨S2x8x64x256, .f32⟩
  | .hbm, ⟨11, _⟩ => ⟨S2x8x64x256, .f32⟩
  | .hbm, ⟨12, _⟩ => ⟨S2x8x64x256, .bf16⟩
  | .hbm, ⟨13, _⟩ => ⟨S16x256, .i32⟩
  | .hbm, ⟨14, _⟩ => ⟨S_, .i32⟩
  | .hbm, ⟨15, _⟩ => ⟨S16x256, .i32⟩
  | .hbm, ⟨16, _⟩ => ⟨S16x256, .i1⟩
  | .hbm, ⟨17, _⟩ => ⟨S_, .f32⟩
  | .hbm, ⟨18, _⟩ => ⟨S_, .f32⟩
  | .hbm, ⟨19, _⟩ => ⟨S16x256, .f32⟩
  | .hbm, ⟨20, _⟩ => ⟨S16x256, .f32⟩
  | .hbm, ⟨21, _⟩ => ⟨S16x256, .f32⟩
  | .hbm, ⟨22, _⟩ => ⟨S16x256, .bf16⟩
  | .hbm, ⟨23, _⟩ => ⟨S2x2x16x256, .bf16⟩
  | .hbm, ⟨24, _⟩ => ⟨S2x2x64x256, .f32⟩
  | .hbm, ⟨25, _⟩ => ⟨S2x2x64x256, .bf16⟩
  | .hbm, ⟨26, _⟩ => ⟨S2x2x80x256, .bf16⟩
  | .hbm, ⟨27, _⟩ => ⟨S_, .bf16⟩
  | .hbm, ⟨28, _⟩ => ⟨S2x2x16384x64, .bf16⟩
  | .hbm, ⟨29, _⟩ => ⟨S2x2x256x64, .bf16⟩
  | .hbm, ⟨30, _⟩ => ⟨S2x2x16640x64, .bf16⟩
  | .hbm, ⟨31, _⟩ => ⟨S_, .bf16⟩
  | .hbm, ⟨32, _⟩ => ⟨S2x2x16640x64, .bf16⟩
  | .hbm, ⟨33, _⟩ => ⟨S2x4x16640x64, .bf16⟩
  | .hbm, ⟨34, _⟩ => ⟨S_, .bf16⟩
  | .hbm, ⟨35, _⟩ => ⟨S2x8x64x16384, .bf16⟩
  | .hbm, ⟨36, _⟩ => ⟨S2x8x64x16640, .bf16⟩
  | .hbm, ⟨37, _⟩ => ⟨S_, .bf16⟩
  | .hbm, ⟨38, _⟩ => ⟨S2x2x80x16384, .bf16⟩
  | .hbm, ⟨39, _⟩ => ⟨S2x2x80x16640, .bf16⟩
  | .hbm, ⟨40, _⟩ => ⟨S1x2x1, .f32⟩
  | .hbm, ⟨41, _⟩ => ⟨S8x2x128, .f32⟩
  | .hbm, ⟨42, _⟩ => ⟨S2x8x64x256, .f32⟩
  | .local _ .vmem, ⟨0, _⟩ => ⟨S1x2x128, .f32⟩
  | .local _ .vmem, ⟨1, _⟩ => ⟨S1x2x128, .f32⟩
  | .local _ .vmem, ⟨2, _⟩ => ⟨S1x1x64x256, .bf16⟩
  | .local _ .vmem, ⟨3, _⟩ => ⟨S1x1x64x256, .bf16⟩
  | .local _ .vmem, ⟨4, _⟩ => ⟨S1x1x256x64, .bf16⟩
  | .local _ .vmem, ⟨5, _⟩ => ⟨S1x1x256x64, .bf16⟩
  | .local _ .vmem, ⟨6, _⟩ => ⟨S1x1x80x256, .bf16⟩
  | .local _ .vmem, ⟨7, _⟩ => ⟨S1x1x80x256, .bf16⟩
  | .local _ .vmem, ⟨8, _⟩ => ⟨S1x1x64x256, .f32⟩
  | .local _ .vmem, ⟨9, _⟩ => ⟨S1x1x64x256, .f32⟩
  | _, _ => ⟨S2x8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c64_i32 : BitVec 32 := 64#32
  let c0_i32_0 : BitVec 32 := 0#32
  ![arg0.toNat, arg1.toNat, c0_i32.toNat, c64_i32.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi c2_i32 v16
  let c64_i32 : BitVec 32 := 64#32
  let c0_i32_4 : BitVec 32 := 0#32
  let c0_i32_5 : BitVec 32 := 0#32
  ![arg0.toNat, v17.toNat, c64_i32.toNat, c0_i32_4.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c64_i32 : BitVec 32 := 64#32
  let c0_i32_5 : BitVec 32 := 0#32
  ![arg0.toNat, v16.toNat, c0_i32_4.toNat, c64_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x80x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S2x8x256x64 : Shape := ⟨4, ![2, 8, 256, 64]⟩
abbrev S2x2x256x64 : Shape := ⟨4, ![2, 2, 256, 64]⟩
abbrev S2x2x4x256x64 : Shape := ⟨5, ![2, 2, 4, 256, 64]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x8x64x256 : Shape := ⟨4, ![2, 8, 64, 256]⟩

abbrev nBuf : Space → Nat
  | .hbm => 25
  | .vmem => 0
  | .smem => 0
  | _ => 0

abbrev bufTy : (tb : Table) → Fin (tcTables nBuf tb) → BufTy
  | .hbm, ⟨0, _⟩ => ⟨S2x8x256x64, .f32⟩
  | .hbm, ⟨1, _⟩ => ⟨S2x2x256x64, .f32⟩
  | .hbm, ⟨2, _⟩ => ⟨S2x2x256x64, .f32⟩
  | .hbm, ⟨3, _⟩ => ⟨S2x2x4x256x64, .f32⟩
  | .hbm, ⟨4, _⟩ => ⟨S2x2x4x256x256, .f32⟩
  | .hbm, ⟨5, _⟩ => ⟨S_, .f32⟩
  | .hbm, ⟨6, _⟩ => ⟨S2x2x4x256x256, .f32⟩
  | .hbm, ⟨7, _⟩ => ⟨S2x2x4x256x256, .f32⟩
  | .hbm, ⟨8, _⟩ => ⟨S_, .f32⟩
  | .hbm, ⟨9, _⟩ => ⟨S2x2x4x256, .f32⟩
  | .hbm, ⟨10, _⟩ => ⟨S_, .f32⟩
  | .hbm, ⟨11, _⟩ => ⟨S2x2x4x256, .f32⟩
  | .hbm, ⟨12, _⟩ => ⟨S2x2x4x256, .f32⟩
  | .hbm, ⟨13, _⟩ => ⟨S2x2x4x256x1, .f32⟩
  | .hbm, ⟨14, _⟩ => ⟨S2x2x4x256x256, .f32⟩
  | .hbm, ⟨15, _⟩ => ⟨S2x2x4x256x256, .f32⟩
  | .hbm, ⟨16, _⟩ => ⟨S2x2x4x256x256, .f32⟩
  | .hbm, ⟨17, _⟩ => ⟨S_, .f32⟩
  | .hbm, ⟨18, _⟩ => ⟨S2x2x4x256, .f32⟩
  | .hbm, ⟨19, _⟩ => ⟨S2x2x4x256x1, .f32⟩
  | .hbm, ⟨20, _⟩ => ⟨S2x2x4x256x256, .f32⟩
  | .hbm, ⟨21, _⟩ => ⟨S2x2x4x256x256, .f32⟩
  | .hbm, ⟨22, _⟩ => ⟨S2x2x4x256x64, .f32⟩
  | .hbm, ⟨23, _⟩ => ⟨S2x8x256x64, .f32⟩
  | .hbm, ⟨24, _⟩ => ⟨S2x8x64x256, .f32⟩
  | _, _ => ⟨S2x8x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel10.lean ====
abbrev S2x2x8x256x32 : Shape := ⟨5, ![2, 2, 8, 256, 32]⟩
abbrev S2x8x256x64 : Shape := ⟨4, ![2, 8, 256, 64]⟩
abbrev S2 : Shape := ⟨1, ![2]⟩
abbrev S2x8x2x32x256 : Shape := ⟨5, ![2, 8, 2, 32, 256]⟩
abbrev S_ : Shape := ⟨0, ![]⟩
abbrev S2x16x32x256 : Shape := ⟨4, ![2, 16, 32, 256]⟩
abbrev S2x8x2x256x32 : Shape := ⟨5, ![2, 8, 2, 256, 32]⟩
abbrev S2x16x256x32 : Shape := ⟨4, ![2, 16, 256, 32]⟩
abbrev S16x256 : Shape := ⟨2, ![16, 256]⟩
abbrev S2x8x16x256 : Shape := ⟨4, ![2, 8, 16, 256]⟩
abbrev S2x8x64x256 : Shape := ⟨4, ![2, 8, 64, 256]⟩
abbrev S2x8x80x256 : Shape := ⟨4, ![2, 8, 80, 256]⟩
abbrev S2x16x16384x32 : Shape := ⟨4, ![2, 16, 16384, 32]⟩
abbrev S2x16x16640x32 : Shape := ⟨4, ![2, 16, 16640, 32]⟩
abbrev S2x16x32x16384 : Shape := ⟨4, ![2, 16, 32, 16384]⟩
abbrev S2x16x32x16640 : Shape := ⟨4, ![2, 16, 32, 16640]⟩
abbrev S2x8x80x16384 : Shape := ⟨4, ![2, 8, 80, 16384]⟩
abbrev S2x8x80x16640 : Shape := ⟨4, ![2, 8, 80, 16640]⟩
abbrev S1x2x1 : Shape := ⟨3, ![1, 2, 1]⟩
abbrev S16x2x128 : Shape := ⟨3, ![16, 2, 128]⟩
abbrev S2x16x64x256 : Shape := ⟨4, ![2, 16, 64, 256]⟩
abbrev S1x2x128 : Shape := ⟨3, ![1, 2, 128]⟩
abbrev S1x1x32x256 : Shape := ⟨4, ![1, 1, 32, 256]⟩
abbrev S1x1x256x32 : Shape := ⟨4, ![1, 1, 256, 32]⟩
abbrev S1x1x80x256 : Shape := ⟨4, ![1, 1, 80, 256]⟩
abbrev S1x1x64x256 : Shape := ⟨4, ![1, 1, 64, 256]⟩
abbrev S32x256 : Shape := ⟨2, ![32, 256]⟩
abbrev S1x1x1 : Shape := ⟨3, ![1, 1, 1]⟩
abbrev S1x1 : Shape := ⟨2, ![1, 1]⟩
abbrev S1x256 : Shape := ⟨2, ![1, 256]⟩
abbrev S80x256 : Shape := ⟨2, ![80, 256]⟩
abbrev S256x32 : Shape := ⟨2, ![256, 32]⟩
abbrev S256x256 : Shape := ⟨2, ![256, 256]⟩
abbrev S256 : Shape := ⟨1, ![256]⟩
abbrev S64x256 : Shape := ⟨2, ![64, 256]⟩

abbrev nBuf : Space → Nat
  | .hbm => 43
  | .vmem => 10
  | .smem => 0
  | _ => 0

abbrev bufTy : (tb : Table) → Fin (tcTables nBuf tb) → BufTy
  | .hbm, ⟨0, _⟩ => ⟨S2x2x8x256x32, .f32⟩
  | .hbm, ⟨1, _⟩ => ⟨S2x2x8x256x32, .f32⟩
  | .hbm, ⟨2, _⟩ => ⟨S2x8x256x64, .f32⟩
  | .hbm, ⟨3, _⟩ => ⟨S2, .f32⟩
  | .hbm, ⟨4, _⟩ => ⟨S2x8x2x32x256, .f32⟩
  | .hbm, ⟨5, _⟩ => ⟨S_, .f32⟩
  | .hbm, ⟨6, _⟩ => ⟨S2x8x2x32x256, .f32⟩
  | .hbm, ⟨7, _⟩ => ⟨S2x8x2x32x256, .f32⟩
  | .hbm, ⟨8, _⟩ => ⟨S_, .f32⟩
  | .hbm, ⟨9, _⟩ => ⟨S_, .f32⟩
  | .hbm, ⟨10, _⟩ => ⟨S2x8x2x32x256, .f32⟩
  | .hbm, ⟨11, _⟩ => ⟨S2x8x2x32x256, .f32⟩
  | .hbm, ⟨12, _⟩ => ⟨S2x8x2x32x256, .bf16⟩
  | .hbm, ⟨13, _⟩ => ⟨S2x16x32x256, .bf16⟩
  | .hbm, ⟨14, _⟩ => ⟨S2x8x2x256x32, .f32⟩
  | .hbm, ⟨15, _⟩ => ⟨S2x8x2x256x32, .bf16⟩
  | .hbm, ⟨16, _⟩ => ⟨S2x16x256x32, .bf16⟩
  | .hbm, ⟨17, _⟩ => ⟨S16x256, .i32⟩
  | .hbm, ⟨18, _⟩ => ⟨S_, .i32⟩
  | .hbm, ⟨19, _⟩ => ⟨S16x256, .i32⟩
  | .hbm, ⟨20, _⟩ => ⟨S16x256, .i1⟩
  | .hbm, ⟨21, _⟩ => ⟨S_, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S16x256, .bf16⟩
  | .hbm, ⟨27, _⟩ => ⟨S2x8x16x256, .bf16⟩
  | .hbm, ⟨28, _⟩ => ⟨S2x8x64x256, .f32⟩
  | .hbm, ⟨29, _⟩ => ⟨S2x8x64x256, .bf16⟩
  | .hbm, ⟨30, _⟩ => ⟨S2x8x80x256, .bf16⟩
  | .hbm, ⟨31, _⟩ => ⟨S_, .bf16⟩
  | .hbm, ⟨32, _⟩ => ⟨S2x16x16384x32, .bf16⟩
  | .hbm, ⟨33, _⟩ => ⟨S2x16x16640x32, .bf16⟩
  | .hbm, ⟨34, _⟩ => ⟨S_, .bf16⟩
  | .hbm, ⟨35, _⟩ => ⟨S2x16x32x16384, .bf16⟩
  | .hbm, ⟨36, _⟩ => ⟨S2x16x32x16640, .bf16⟩
  | .hbm, ⟨37, _⟩ => ⟨S_, .bf16⟩
  | .hbm, ⟨38, _⟩ => ⟨S2x8x80x16384, .bf16⟩
  | .hbm, ⟨39, _⟩ => ⟨S2x8x80x16640, .bf16⟩
  | .hbm, ⟨40, _⟩ => ⟨S1x2x1, .f32⟩
  | .hbm, ⟨41, _⟩ => ⟨S16x2x128, .f32⟩
  | .hbm, ⟨42, _⟩ => ⟨S2x16x64x256, .f32⟩
  | .local _ .vmem, ⟨0, _⟩ => ⟨S1x2x128, .f32⟩
  | .local _ .vmem, ⟨1, _⟩ => ⟨S1x2x128, .f32⟩
  | .local _ .vmem, ⟨2, _⟩ => ⟨S1x1x32x256, .bf16⟩
  | .local _ .vmem, ⟨3, _⟩ => ⟨S1x1x32x256, .bf16⟩
  | .local _ .vmem, ⟨4, _⟩ => ⟨S1x1x256x32, .bf16⟩
  | .local _ .vmem, ⟨5, _⟩ => ⟨S1x1x256x32, .bf16⟩
  | .local _ .vmem, ⟨6, _⟩ => ⟨S1x1x80x256, .bf16⟩
  | .local _ .vmem, ⟨7, _⟩ => ⟨S1x1x80x256, .bf16⟩
  | .local _ .vmem, ⟨8, _⟩ => ⟨S1x1x64x256, .f32⟩
  | .local _ .vmem, ⟨9, _⟩ => ⟨S1x1x64x256, .f32⟩
  | _, _ => ⟨S2x2x8x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c64_i32 : BitVec 32 := 64#32
  let c0_i32_0 : BitVec 32 := 0#32
  ![arg0.toNat, arg1.toNat, c0_i32.toNat, c64_i32.toNat]

def cc0_transform_2 (i : grid0.Coords) : Fin 4 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![arg0.toNat, arg1.toNat, c64_i32.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c64_i32 : BitVec 32 := 64#32
  let c0_i32_5 : BitVec 32 := 0#32
  ![arg0.toNat, v16.toNat, c0_i32_4.toNat, c64_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x80x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S2x2x8x256x32 : Shape := ⟨5, ![2, 2, 8, 256, 32]⟩
abbrev S2x8x256x64 : Shape := ⟨4, ![2, 8, 256, 64]⟩
abbrev S1x2x8x256x32 : Shape := ⟨5, ![1, 2, 8, 256, 32]⟩
abbrev S2x8x256x32 : Shape := ⟨4, ![2, 8, 256, 32]⟩
abbrev S2x8x256x256 : Shape := ⟨4, ![2, 8, 256, 256]⟩
abbrev S_ : Shape := ⟨0, ![]⟩
abbrev S2x8x256 : Shape := ⟨3, ![2, 8, 256]⟩
abbrev S2x8x256x1 : Shape := ⟨4, ![2, 8, 256, 1]⟩
abbrev S2x8x1x256x64 : Shape := ⟨5, ![2, 8, 1, 256, 64]⟩
abbrev S2x8x2x256x64 : Shape := ⟨5, ![2, 8, 2, 256, 64]⟩
abbrev S2x16x256x64 : Shape := ⟨4, ![2, 16, 256, 64]⟩
abbrev S2x16x64x256 : Shape := ⟨4, ![2, 16, 64, 256]⟩

abbrev nBuf : Space → Nat
  | .hbm => 54
  | .vmem => 0
  | .smem => 0
  | _ => 0

abbrev bufTy : (tb : Table) → Fin (tcTables nBuf tb) → BufTy
  | .hbm, ⟨0, _⟩ => ⟨S2x2x8x256x32, .f32⟩
  | .hbm, ⟨1, _⟩ => ⟨S2x2x8x256x32, .f32⟩
  | .hbm, ⟨2, _⟩ => ⟨S2x8x256x64, .f32⟩
  | .hbm, ⟨3, _⟩ => ⟨S1x2x8x256x32, .f32⟩
  | .hbm, ⟨4, _⟩ => ⟨S2x8x256x32, .f32⟩
  | .hbm, ⟨5, _⟩ => ⟨S1x2x8x256x32, .f32⟩
  | .hbm, ⟨6, _⟩ => ⟨S2x8x256x32, .f32⟩
  | .hbm, ⟨7, _⟩ => ⟨S2x8x256x256, .f32⟩
  | .hbm, ⟨8, _⟩ => ⟨S_, .f32⟩
  | .hbm, ⟨9, _⟩ => ⟨S2x8x256x256, .f32⟩
  | .hbm, ⟨10, _⟩ => ⟨S2x8x256x256, .f32⟩
  | .hbm, ⟨11, _⟩ => ⟨S_, .f32⟩
  | .hbm, ⟨12, _⟩ => ⟨S2x8x256, .f32⟩
  | .hbm, ⟨13, _⟩ => ⟨S_, .f32⟩
  | .hbm, ⟨14, _⟩ => ⟨S2x8x256, .f32⟩
  | .hbm, ⟨15, _⟩ => ⟨S2x8x256, .f32⟩
  | .hbm, ⟨16, _⟩ => ⟨S2x8x256x1, .f32⟩
  | .hbm, ⟨17, _⟩ => ⟨S2x8x256x256, .f32⟩
  | .hbm, ⟨18, _⟩ => ⟨S2x8x256x256, .f32⟩
  | .hbm, ⟨19, _⟩ => ⟨S2x8x256x256, .f32⟩
  | .hbm, ⟨20, _⟩ => ⟨S_, .f32⟩
  | .hbm, ⟨21, _⟩ => ⟨S2x8x256, .f32⟩
  | .hbm, ⟨22, _⟩ => ⟨S2x8x256x1, .f32⟩
  | .hbm, ⟨23, _⟩ => ⟨S2x8x256x256, .f32⟩
  | .hbm, ⟨24, _⟩ => ⟨S2x8x256x256, .f32⟩
  | .hbm, ⟨25, _⟩ => ⟨S2x8x256x64, .f32⟩
  | .hbm, ⟨26, _⟩ => ⟨S1x2x8x256x32, .f32⟩
  | .hbm, ⟨27, _⟩ => ⟨S2x8x256x32, .f32⟩
  | .hbm, ⟨28, _⟩ => ⟨S1x2x8x256x32, .f32⟩
  | .hbm, ⟨29, _⟩ => ⟨S2x8x256x32, .f32⟩
  | .hbm, ⟨30, _⟩ => ⟨S2x8x256x256, .f32⟩
  | .hbm, ⟨31, _⟩ => ⟨S_, .f32⟩
  | .hbm, ⟨32, _⟩ => ⟨S2x8x256x256, .f32⟩
  | .hbm, ⟨33, _⟩ => ⟨S2x8x256x256, .f32⟩
  | .hbm, ⟨34, _⟩ => ⟨S_, .f32⟩
  | .hbm, ⟨35, _⟩ => ⟨S2x8x256, .f32⟩
  | .hbm, ⟨36, _⟩ => ⟨S_, .f32⟩
  | .hbm, ⟨37, _⟩ => ⟨S2x8x256, .f32⟩
  | .hbm, ⟨38, _⟩ => ⟨S2x8x256, .f32⟩
  | .hbm, ⟨39, _⟩ => ⟨S2x8x256x1, .f32⟩
  | .hbm, ⟨40, _⟩ => ⟨S2x8x256x256, .f32⟩
  | .hbm, ⟨41, _⟩ => ⟨S2x8x256x256, .f32⟩
  | .hbm, ⟨42, _⟩ => ⟨S2x8x256x256, .f32⟩
  | .hbm, ⟨43, _⟩ => ⟨S_, .f32⟩
  | .hbm, ⟨44, _⟩ => ⟨S2x8x256, .f32⟩
  | .hbm, ⟨45, _⟩ => ⟨S2x8x256x1, .f32⟩
  | .hbm, ⟨46, _⟩ => ⟨S2x8x256x256, .f32⟩
  | .hbm, ⟨47, _⟩ => ⟨S2x8x256x256, .f32⟩
  | .hbm, ⟨48, _⟩ => ⟨S2x8x256x64, .f32⟩
  | .hbm, ⟨49, _⟩ => ⟨S2x8x1x256x64, .f32⟩
  | .hbm, ⟨50, _⟩ => ⟨S2x8x1x256x64, .f32⟩
  | .hbm, ⟨51, _⟩ => ⟨S2x8x2x256x64, .f32⟩
  | .hbm, ⟨52, _⟩ => ⟨S2x16x256x64, .f32⟩
  | .hbm, ⟨53, _⟩ => ⟨S2x16x64x256, .f32⟩
  | _, _ => ⟨S2x2x8x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Kernel11.lean ====
abbrev S2x8x256x64 : Shape := ⟨4, ![2, 8, 256, 64]⟩
abbrev S2x2x256x64 : Shape := ⟨4, ![2, 2, 256, 64]⟩
abbrev S8 : Shape := ⟨1, ![8]⟩
abbrev S2x8x64x256 : Shape := ⟨4, ![2, 8, 64, 256]⟩
abbrev S_ : Shape := ⟨0, ![]⟩
abbrev S16x256 : Shape := ⟨2, ![16, 256]⟩
abbrev S2x2x16x256 : Shape := ⟨4, ![2, 2, 16, 256]⟩
abbrev S2x2x64x256 : Shape := ⟨4, ![2, 2, 64, 256]⟩
abbrev S2x2x80x256 : Shape := ⟨4, ![2, 2, 80, 256]⟩
abbrev S2x2x16384x64 : Shape := ⟨4, ![2, 2, 16384, 64]⟩
abbrev S2x2x16640x64 : Shape := ⟨4, ![2, 2, 16640, 64]⟩
abbrev S2x4x16640x64 : Shape := ⟨4, ![2, 4, 16640, 64]⟩
abbrev S2x8x64x16384 : Shape := ⟨4, ![2, 8, 64, 16384]⟩
abbrev S2x8x64x16640 : Shape := ⟨4, ![2, 8, 64, 16640]⟩
abbrev S2x2x80x16384 : Shape := ⟨4, ![2, 2, 80, 16384]⟩
abbrev S2x2x80x16640 : Shape := ⟨4, ![2, 2, 80, 16640]⟩
abbrev S8x1 : Shape := ⟨2, ![8, 1]⟩
abbrev S8x2 : Shape := ⟨2, ![8, 2]⟩
abbrev S8x2x1 : Shape := ⟨3, ![8, 2, 1]⟩
abbrev S8x2x128 : Shape := ⟨3, ![8, 2, 128]⟩
abbrev S1x2x128 : Shape := ⟨3, ![1, 2, 128]⟩
abbrev S1x1x64x256 : Shape := ⟨4, ![1, 1, 64, 256]⟩
abbrev S1x1x256x64 : Shape := ⟨4, ![1, 1, 256, 64]⟩
abbrev S1x1x80x256 : Shape := ⟨4, ![1, 1, 80, 256]⟩
abbrev S64x256 : Shape := ⟨2, ![64, 256]⟩
abbrev S1x1x1 : Shape := ⟨3, ![1, 1, 1]⟩
abbrev S1x1 : Shape := ⟨2, ![1, 1]⟩
abbrev S1x256 : Shape := ⟨2, ![1, 256]⟩
abbrev S80x256 : Shape := ⟨2, ![80, 256]⟩
abbrev S256x64 : Shape := ⟨2, ![256, 64]⟩
abbrev S256x256 : Shape := ⟨2, ![256, 256]⟩
abbrev S256 : Shape := ⟨1, ![256]⟩

abbrev nBuf : Space → Nat
  | .hbm => 52
  | .vmem => 10
  | .smem => 0
  | _ => 0

abbrev bufTy : (tb : Table) → Fin (tcTables nBuf tb) → BufTy
  | .hbm, ⟨0, _⟩ => ⟨S2x8x256x64, .f32⟩
  | .hbm, ⟨1, _⟩ => ⟨S2x2x256x64, .f32⟩
  | .hbm, ⟨2, _⟩ => ⟨S2x2x256x64, .f32⟩
  | .hbm, ⟨3, _⟩ => ⟨S8, .f32⟩
  | .hbm, ⟨4, _⟩ => ⟨S2x8x64x256, .f32⟩
  | .hbm, ⟨5, _⟩ => ⟨S_, .f32⟩
  | .hbm, ⟨6, _⟩ => ⟨S2x8x64x256, .f32⟩
  | .hbm, ⟨7, _⟩ => ⟨S2x8x64x256, .f32⟩
  | .hbm, ⟨8, _⟩ => ⟨S_, .f32⟩
  | .hbm, ⟨9, _⟩ => ⟨S_, .f32⟩
  | .hbm, ⟨10, _⟩ => ⟨S2x8x64x256, .f32⟩
  | .hbm, ⟨11, _⟩ => ⟨S2x8x64x256, .f32⟩
  | .hbm, ⟨12, _⟩ => ⟨S2x8x64x256, .bf16⟩
  | .hbm, ⟨13, _⟩ => ⟨S16x256, .i32⟩
  | .hbm, ⟨14, _⟩ => ⟨S_, .i32⟩
  | .hbm, ⟨15, _⟩ => ⟨S16x256, .i32⟩
  | .hbm, ⟨16, _⟩ => ⟨S16x256, .i1⟩
  | .hbm, ⟨17, _⟩ => ⟨S_, .f32⟩
  | .hbm, ⟨18, _⟩ => ⟨S_, .f32⟩
  | .hbm, ⟨19, _⟩ => ⟨S16x256, .f32⟩
  | .hbm, ⟨20, _⟩ => ⟨S16x256, .f32⟩
  | .hbm, ⟨21, _⟩ => ⟨S16x256, .f32⟩
  | .hbm, ⟨22, _⟩ => ⟨S16x256, .bf16⟩
  | .hbm, ⟨23, _⟩ => ⟨S2x2x16x256, .bf16⟩
  | .hbm, ⟨24, _⟩ => ⟨S2x2x64x256, .f32⟩
  | .hbm, ⟨25, _⟩ => ⟨S2x2x64x256, .bf16⟩
  | .hbm, ⟨26, _⟩ => ⟨S2x2x80x256, .bf16⟩
  | .hbm, ⟨27, _⟩ => ⟨S_, .bf16⟩
  | .hbm, ⟨28, _⟩ => ⟨S2x2x16384x64, .bf16⟩
  | .hbm, ⟨29, _⟩ => ⟨S2x2x256x64, .bf16⟩
  | .hbm, ⟨30, _⟩ => ⟨S2x2x16640x64, .bf16⟩
  | .hbm, ⟨31, _⟩ => ⟨S_, .bf16⟩
  | .hbm, ⟨32, _⟩ => ⟨S2x2x16640x64, .bf16⟩
  | .hbm, ⟨33, _⟩ => ⟨S2x4x16640x64, .bf16⟩
  | .hbm, ⟨34, _⟩ => ⟨S_, .bf16⟩
  | .hbm, ⟨35, _⟩ => ⟨S2x8x64x16384, .bf16⟩
  | .hbm, ⟨36, _⟩ => ⟨S2x8x64x16640, .bf16⟩
  | .hbm, ⟨37, _⟩ => ⟨S_, .bf16⟩
  | .hbm, ⟨38, _⟩ => ⟨S2x2x80x16384, .bf16⟩
  | .hbm, ⟨39, _⟩ => ⟨S2x2x80x16640, .bf16⟩
  | .hbm, ⟨40, _⟩ => ⟨S_, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8x1, .f32⟩
  | .hbm, ⟨47, _⟩ => ⟨S8x1, .f32⟩
  | .hbm, ⟨48, _⟩ => ⟨S8x2, .f32⟩
  | .hbm, ⟨49, _⟩ => ⟨S8x2x1, .f32⟩
  | .hbm, ⟨50, _⟩ => ⟨S8x2x128, .f32⟩
  | .hbm, ⟨51, _⟩ => ⟨S2x8x64x256, .f32⟩
  | .local _ .vmem, ⟨0, _⟩ => ⟨S1x2x128, .f32⟩
  | .local _ .vmem, ⟨1, _⟩ => ⟨S1x2x128, .f32⟩
  | .local _ .vmem, ⟨2, _⟩ => ⟨S1x1x64x256, .bf16⟩
  | .local _ .vmem, ⟨3, _⟩ => ⟨S1x1x64x256, .bf16⟩
  | .local _ .vmem, ⟨4, _⟩ => ⟨S1x1x256x64, .bf16⟩
  | .local _ .vmem, ⟨5, _⟩ => ⟨S1x1x256x64, .bf16⟩
  | .local _ .vmem, ⟨6, _⟩ => ⟨S1x1x80x256, .bf16⟩
  | .local _ .vmem, ⟨7, _⟩ => ⟨S1x1x80x256, .bf16⟩
  | .local _ .vmem, ⟨8, _⟩ => ⟨S1x1x64x256, .f32⟩
  | .local _ .vmem, ⟨9, _⟩ => ⟨S1x1x64x256, .f32⟩
  | _, _ => ⟨S2x8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c64_i32 : BitVec 32 := 64#32
  let c0_i32_0 : BitVec 32 := 0#32
  ![arg0.toNat, arg1.toNat, c0_i32.toNat, c64_i32.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let c0_i32_4 : BitVec 32 := 0#32
  let c0_i32_5 : BitVec 32 := 0#32
  ![arg0.toNat, v16.toNat, c64_i32.toNat, c0_i32_4.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c64_i32 : BitVec 32 := 64#32
  let c0_i32_5 : BitVec 32 := 0#32
  ![arg0.toNat, v16.toNat, c0_i32_4.toNat, c64_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x80x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S2x8x256x64 : Shape := ⟨4, ![2, 8, 256, 64]⟩
abbrev S2x2x256x64 : Shape := ⟨4, ![2, 2, 256, 64]⟩
abbrev S8 : Shape := ⟨1, ![8]⟩
abbrev S2x2x4x256x64 : Shape := ⟨5, ![2, 2, 4, 256, 64]⟩
abbrev S2x2x4x256x256 : Shape := ⟨5, ![2, 2, 4, 256, 256]⟩
abbrev S_ : Shape := ⟨0, ![]⟩
abbrev S1x2x4x1x1 : Shape := ⟨5, ![1, 2, 4, 1, 1]⟩
abbrev S2x2x4x256 : Shape := ⟨4, ![2, 2, 4, 256]⟩
abbrev S2x2x4x256x1 : Shape := ⟨5, ![2, 2, 4, 256, 1]⟩
abbrev S2x8x64x256 : Shape := ⟨4, ![2, 8, 64, 256]⟩

abbrev nBuf : Space → Nat
  | .hbm => 30
  | .vmem => 0
  | .smem => 0
  | _ => 0

abbrev bufTy : (tb : Table) → Fin (tcTables nBuf tb) → BufTy
  | .hbm, ⟨0, _⟩ => ⟨S2x8x256x64, .f32⟩
  | .hbm, ⟨1, _⟩ => ⟨S2x2x256x64, .f32⟩
  | .hbm, ⟨2, _⟩ => ⟨S2x2x256x64, .f32⟩
  | .hbm, ⟨3, _⟩ => ⟨S8, .f32⟩
  | .hbm, ⟨4, _⟩ => ⟨S2x2x4x256x64, .f32⟩
  | .hbm, ⟨5, _⟩ => ⟨S2x2x4x256x256, .f32⟩
  | .hbm, ⟨6, _⟩ => ⟨S_, .f32⟩
  | .hbm, ⟨7, _⟩ => ⟨S2x2x4x256x256, .f32⟩
  | .hbm, ⟨8, _⟩ => ⟨S2x2x4x256x256, .f32⟩
  | .hbm, ⟨9, _⟩ => ⟨S1x2x4x1x1, .f32⟩
  | .hbm, ⟨10, _⟩ => ⟨S_, .f32⟩
  | .hbm, ⟨11, _⟩ => ⟨S2x2x4x256, .f32⟩
  | .hbm, ⟨12, _⟩ => ⟨S2x2x4x256x1, .f32⟩
  | .hbm, ⟨13, _⟩ => ⟨S2x2x4x256x1, .f32⟩
  | .hbm, ⟨14, _⟩ => ⟨S2x2x4x256x1, .f32⟩
  | .hbm, ⟨15, _⟩ => ⟨S2x2x4x256x256, .f32⟩
  | .hbm, ⟨16, _⟩ => ⟨S2x2x4x256x256, .f32⟩
  | .hbm, ⟨17, _⟩ => ⟨S2x2x4x256x256, .f32⟩
  | .hbm, ⟨18, _⟩ => ⟨S_, .f32⟩
  | .hbm, ⟨19, _⟩ => ⟨S2x2x4x256, .f32⟩
  | .hbm, ⟨20, _⟩ => ⟨S2x2x4x256x1, .f32⟩
  | .hbm, ⟨21, _⟩ => ⟨S2x2x4x256x1, .f32⟩
  | .hbm, ⟨22, _⟩ => ⟨S2x2x4x256x1, .f32⟩
  | .hbm, ⟨23, _⟩ => ⟨S2x2x4x256x1, .f32⟩
  | .hbm, ⟨24, _⟩ => ⟨S2x2x4x256x1, .f32⟩
  | .hbm, ⟨25, _⟩ => ⟨S2x2x4x256x256, .f32⟩
  | .hbm, ⟨26, _⟩ => ⟨S2x2x4x256x256, .f32⟩
  | .hbm, ⟨27, _⟩ => ⟨S2x2x4x256x64, .f32⟩
  | .hbm, ⟨28, _⟩ => ⟨S2x8x256x64, .f32⟩
  | .hbm, ⟨29, _⟩ => ⟨S2x8x64x256, .f32⟩
  | _, _ => ⟨S2x8x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Proof.Reads.lean ====
module

public import Idealize.ShloMosaic.Lib.WritesUnit
public import Idealize.ShloMosaic.Lib.ValueIdxCore
public import Idealize.ShloMosaic.Lib.Pipeline.Value
public import Idealize.ShloMosaic.Lib.VecWindow

/-! What a read of a block or of a scratch yields after a list of stores, for any program's references. -/

@[expose] public section

set_option maxRecDepth 16384

noncomputable section

namespace Cert.Reads

open Idealize.ShloMosaic Idealize.ShloMosaic.TcCoe Idealize.ShloMosaic.Tactic
open Idealize.ShloMosaic.ValueIdx

variable {F : FTy → Type} [FloatOps F]

abbrev S1x1024 : Shape := ⟨2, ![1, 1024]⟩
abbrev S1x1x1 : Shape := ⟨3, ![1, 1, 1]⟩
abbrev S1x1x80x16640 : Shape := ⟨4, ![1, 1, 80, 16640]⟩
abbrev S1x1x80x256 : Shape := ⟨4, ![1, 1, 80, 256]⟩
abbrev S1x2x128 : Shape := ⟨3, ![1, 2, 128]⟩
abbrev S2048x1024 : Shape := ⟨2, ![2048, 1024]⟩
abbrev S2304x1024 : Shape := ⟨2, ![2304, 1024]⟩
abbrev S256x1024 : Shape := ⟨2, ![256, 1024]⟩
abbrev S8x1024 : Shape := ⟨2, ![8, 1024]⟩
/-- The keys at `d` features. -/
abbrev Keys (d : ℕ) : Shape := ⟨4, ![1, 1, 16640, d]⟩
/-- 256 rows of them. -/
abbrev KeyTile (d : ℕ) : Shape := ⟨4, ![1, 1, 256, d]⟩

/-- 256 rows of the keys from row `o` on. -/
def kvAt {d : ℕ} (K : Vec F (Keys d) .bf16) (o : ℕ) : Vec F (KeyTile d) .bf16 :=
  fun j => K (ix4 (0 : Fin 1) (0 : Fin 1) (⟨(o + (j 2).val) % 16640, Nat.mod_lt _ (by decide)⟩ : Fin 16640) (⟨(j 3).val, (j 3).isLt⟩ : Fin d))

/-- 256 columns of the values from column `o` on. -/
def vvAt (V : Vec F S1x1x80x16640 .bf16) (o : ℕ) : Vec F S1x1x80x256 .bf16 :=
  fun j => V (ix4 (0 : Fin 1) (0 : Fin 1) (⟨(j 2).val, (j 2).isLt⟩ : Fin 80) (⟨(o + (j 3).val) % 16640, Nat.mod_lt _ (by decide)⟩ : Fin 16640))

/-- 256 rows of a score scratch from row `o` on. -/
def rowsAt {N : ℕ} (h : 0 < N) (X : (⟨2, ![N, 1024]⟩ : Shape).Idx → Elt F .f32) (o : ℕ) : Vec F S256x1024 .f32 :=
  fun j => X (ix2 (⟨(o + (j 0).val) % N, Nat.mod_lt _ h⟩ : Fin N) (⟨(j 1).val, (j 1).isLt⟩ : Fin 1024))

/-- Row 0 of the maxima's scratch. -/
def row0 (X : S8x1024.Idx → Elt F .f32) : FVec F S1x1024 .f32 :=
  fun j => X (ix2 (0 : Fin 8) (⟨(j 1).val, (j 1).isLt⟩ : Fin 1024))

variable {sig : RefSig} {κ : Kind} {sp : Space}

theorem readAt_kv {d : ℕ} (v : View sig κ sp (Keys d) .bf16) {off : Fin 4 → ℕ} {o : ℕ} (hoff : off = ![0, 0, o, 0])
    (inb : ∀ a, off a + (KeyTile d).size a ≤ (Keys d).size a) (X : v.ty.Contents (Elt F)) :
    View.readAt (Elt F) v (Rect.unit (s := Keys d) off (KeyTile d).size inb).toLoadRect X = kvAt (v.read (Elt F) X) o := by
  subst hoff
  funext j
  rw [View.readAt_eq_ld]
  refine congrArg (v.read (Elt F) X) (funext fun a => Fin.ext ?_)
  have h2 := inb 2
  have hj : (j 2).val < 256 := (j 2).isLt
  match a with
  | ⟨0, _⟩ => have : (j 0).val < 1 := (j 0).isLt; show 0 + 1 * (j 0).val = 0; omega
  | ⟨1, _⟩ => have : (j 1).val < 1 := (j 1).isLt; show 0 + 1 * (j 1).val = 0; omega
  | ⟨2, _⟩ =>
    show o + 1 * (j 2).val = (o + (j 2).val) % 16640
    have : o + 256 ≤ 16640 := h2
    omega
  | ⟨3, _⟩ => show 0 + 1 * (j 3).val = (j 3).val; omega

theorem readAt_vv (v : View sig κ sp S1x1x80x16640 .bf16) {off : Fin 4 → ℕ} {o : ℕ} (hoff : off = ![0, 0, 0, o])
    (inb : ∀ a, off a + S1x1x80x256.size a ≤ S1x1x80x16640.size a) (X : v.ty.Contents (Elt F)) :
    View.readAt (Elt F) v (Rect.unit (s := S1x1x80x16640) off S1x1x80x256.size inb).toLoadRect X = vvAt (v.read (Elt F) X) o := by
  subst hoff
  funext j
  rw [View.readAt_eq_ld]
  refine congrArg (v.read (Elt F) X) (funext fun a => Fin.ext ?_)
  have h3 := inb 3
  have hj : (j 3).val < 256 := (j 3).isLt
  match a with
  | ⟨0, _⟩ => have : (j 0).val < 1 := (j 0).isLt; show 0 + 1 * (j 0).val = 0; omega
  | ⟨1, _⟩ => have : (j 1).val < 1 := (j 1).isLt; show 0 + 1 * (j 1).val = 0; omega
  | ⟨3, _⟩ =>
    show o + 1 * (j 3).val = (o + (j 3).val) % 16640
    have : o + 256 ≤ 16640 := h3
    omega
  | ⟨2, _⟩ => show 0 + 1 * (j 2).val = (j 2).val; omega

theorem readAt_rows {N : ℕ} (h : 0 < N) (v : View sig κ sp ⟨2, ![N, 1024]⟩ .f32) {o : ℕ}
    (inb : ∀ a, (![o, 0] : Fin 2 → ℕ) a + S256x1024.size a ≤ (⟨2, ![N, 1024]⟩ : Shape).size a) (X : v.ty.Contents (Elt F)) :
    View.readAt (Elt F) v (Rect.unit (s := ⟨2, ![N, 1024]⟩) ![o, 0] S256x1024.size inb).toLoadRect X = rowsAt h (v.read (Elt F) X) o := by
  funext j
  rw [View.readAt_eq_ld]
  refine congrArg (v.read (Elt F) X) (funext fun a => Fin.ext ?_)
  have h2 := inb 0
  have hj : (j 0).val < 256 := (j 0).isLt
  match a with
  | ⟨0, _⟩ =>
    show o + 1 * (j 0).val = (o + (j 0).val) % N
    have : o + 256 ≤ N := h2
    rw [Nat.mod_eq_of_lt (by omega)]; omega
  | ⟨1, _⟩ => show 0 + 1 * (j 1).val = (j 1).val; omega

/-- The rows just stored. -/
theorem rowsAt_cons_self {N : ℕ} (h : 0 < N) (v : View sig κ sp ⟨2, ![N, 1024]⟩ .f32) (f : v.ty.Contents (Elt F)) {o : ℕ}
    (inb : ∀ a, (![o, 0] : Fin 2 → ℕ) a + S256x1024.size a ≤ (⟨2, ![N, 1024]⟩ : Shape).size a) (w : FVec F S256x1024 .f32)
    (L : List (View.Piece (Elt F) ⟨2, ![N, 1024]⟩ .f32)) :
    rowsAt h (v.read (Elt F) (v.writes (Elt F) f (⟨Rect.unit (s := ⟨2, ![N, 1024]⟩) ![o, 0] S256x1024.size inb, w⟩ :: L))) o = w := by
  funext j
  have hj : (j 0).val < 256 := (j 0).isLt
  have h2 : o + 256 ≤ N := inb 0
  exact View.read_writes_cons_rows_of_mem v f inb w L _ j rfl (Nat.mod_eq_of_lt (by omega)) rfl

/-- Rows stored elsewhere. -/
theorem rowsAt_cons_ne {N : ℕ} (h : 0 < N) (v : View sig κ sp ⟨2, ![N, 1024]⟩ .f32) (f : v.ty.Contents (Elt F)) {o o' : ℕ}
    (inb : ∀ a, (![o, 0] : Fin 2 → ℕ) a + S256x1024.size a ≤ (⟨2, ![N, 1024]⟩ : Shape).size a) (w : FVec F S256x1024 .f32)
    (L : List (View.Piece (Elt F) ⟨2, ![N, 1024]⟩ .f32)) (ho : o' + 256 ≤ N) (hd : o' + 256 ≤ o ∨ o + 256 ≤ o') :
    rowsAt h (v.read (Elt F) (v.writes (Elt F) f (⟨Rect.unit (s := ⟨2, ![N, 1024]⟩) ![o, 0] S256x1024.size inb, w⟩ :: L))) o'
      = rowsAt h (v.read (Elt F) (v.writes (Elt F) f L)) o' := by
  funext j
  have hj : (j 0).val < 256 := (j 0).isLt
  have e : (o' + (j 0).val) % N = o' + (j 0).val := Nat.mod_eq_of_lt (by omega)
  refine View.read_writes_cons_rows_of_not_mem v f inb w L _ (o := o) (W := 256) rfl rfl ?_
  show (o' + (j 0).val) % N < o ∨ o + 256 ≤ (o' + (j 0).val) % N
  omega

theorem readAt_row0 (v : View sig κ sp S8x1024 .f32)
    (inb : ∀ a, (![0, 0] : Fin 2 → ℕ) a + S1x1024.size a ≤ S8x1024.size a) (X : v.ty.Contents (Elt F)) :
    View.readAt (Elt F) v (Rect.unit (s := S8x1024) ![0, 0] S1x1024.size inb).toLoadRect X = row0 (v.read (Elt F) X) := by
  funext j
  rw [View.readAt_eq_ld]
  refine congrArg (v.read (Elt F) X) (funext fun a => Fin.ext ?_)
  match a with
  | ⟨0, _⟩ => have : (j 0).val < 1 := (j 0).isLt; show 0 + 1 * (j 0).val = 0; omega
  | ⟨1, _⟩ => show 0 + 1 * (j 1).val = (j 1).val; omega

theorem row0_cons (v : View sig κ sp S8x1024 .f32) (f : v.ty.Contents (Elt F))
    (inb : ∀ a, (![0, 0] : Fin 2 → ℕ) a + S1x1024.size a ≤ S8x1024.size a) (w : FVec F S1x1024 .f32)
    (L : List (View.Piece (Elt F) S8x1024 .f32)) :
    row0 (v.read (Elt F) (v.writes (Elt F) f (⟨Rect.unit (s := S8x1024) ![0, 0] S1x1024.size inb, w⟩ :: L))) = w := by
  funext j
  have hj : (j 0).val < 1 := (j 0).isLt
  exact View.read_writes_cons_rows_of_mem v f inb w L _ j rfl (by show 0 = 0 + (j 0).val; omega) rfl

/-- A whole block read. -/
theorem readAt_whole {s : Shape} {e : EltTy} (v : View sig κ sp s e) {off : Fin s.rank → ℕ} (hoff : ∀ a, off a = 0)
    (inb : ∀ a, off a + s.size a ≤ s.size a) (X : v.ty.Contents (Elt F)) :
    View.readAt (Elt F) v (Rect.unit (s := s) off s.size inb).toLoadRect X = v.read (Elt F) X := by
  funext j
  rw [View.readAt_eq_ld]
  refine congrArg (v.read (Elt F) X) (funext fun a => Fin.ext ?_)
  show off a + 1 * (j a).val = (j a).val
  rw [hoff]; omega

theorem readAt_rows9 (v : View sig κ sp S2304x1024 .f32) {o : ℕ}
    (inb : ∀ a, (![o, 0] : Fin 2 → ℕ) a + S256x1024.size a ≤ S2304x1024.size a) (X : v.ty.Contents (Elt F)) :
    View.readAt (Elt F) v (Rect.unit (s := S2304x1024) ![o, 0] S256x1024.size inb).toLoadRect X
      = rowsAt (N := 2304) (by decide) (v.read (Elt F) X) o := readAt_rows (N := 2304) (by decide) v inb X

theorem readAt_rows10 (v : View sig κ sp S2048x1024 .f32) {o : ℕ}
    (inb : ∀ a, (![o, 0] : Fin 2 → ℕ) a + S256x1024.size a ≤ S2048x1024.size a) (X : v.ty.Contents (Elt F)) :
    View.readAt (Elt F) v (Rect.unit (s := S2048x1024) ![o, 0] S256x1024.size inb).toLoadRect X
      = rowsAt (N := 2048) (by decide) (v.read (Elt F) X) o := readAt_rows (N := 2048) (by decide) v inb X

theorem disj_rows {N : ℕ} {o o' : ℕ} (inb : ∀ a, (![o, 0] : Fin 2 → ℕ) a + S256x1024.size a ≤ (⟨2, ![N, 1024]⟩ : Shape).size a)
    (inb' : ∀ a, (![o', 0] : Fin 2 → ℕ) a + S256x1024.size a ≤ (⟨2, ![N, 1024]⟩ : Shape).size a)
    (hd : o' + 256 ≤ o ∨ o + 256 ≤ o') :
    Disjoint (Rect.unit (s := ⟨2, ![N, 1024]⟩) ![o, 0] S256x1024.size inb).set
      (Rect.unit (s := ⟨2, ![N, 1024]⟩) ![o', 0] S256x1024.size inb').toLoadRect.set := by
  exact Rect.unit_disjoint (0 : Fin 2) hd.symm

/-- A covered read of rows the last store left alone. -/
theorem readCov9_ne [∀ e, Nonempty (Elt F e)] (v : View sig κ sp S2304x1024 .f32) {o o' : ℕ}
    (inb : ∀ a, (![o, 0] : Fin 2 → ℕ) a + S256x1024.size a ≤ S2304x1024.size a)
    (inb' : ∀ a, (![o', 0] : Fin 2 → ℕ) a + S256x1024.size a ≤ S2304x1024.size a)
    (w : FVec F S256x1024 .f32) (L : List (View.Piece (Elt F) S2304x1024 .f32)) (hd : o' + 256 ≤ o ∨ o + 256 ≤ o') :
    v.readCov (⟨Rect.unit (s := S2304x1024) ![o, 0] S256x1024.size inb, w⟩ :: L) (Rect.unit (s := S2304x1024) ![o', 0] S256x1024.size inb').toLoadRect
      = v.readCov L (Rect.unit (s := S2304x1024) ![o', 0] S256x1024.size inb').toLoadRect :=
  View.readCov_cons_of_disjoint v _ L _ (disj_rows (N := 2304) inb inb' hd)

theorem readAt_vv0 (v : View sig κ sp S1x1x80x16640 .bf16) {o : ℕ}
    (inb : ∀ a, (![0, 0, 0, o] : Fin 4 → ℕ) a + S1x1x80x256.size a ≤ S1x1x80x16640.size a) (X : v.ty.Contents (Elt F)) :
    View.readAt (Elt F) v (Rect.unit (s := S1x1x80x16640) ![0, 0, 0, o] S1x1x80x256.size inb).toLoadRect X
      = vvAt (v.read (Elt F) X) o := readAt_vv v rfl inb X

theorem readAt_init0 (v : View sig κ sp S1x2x128 .f32)
    (inb : ∀ a, (![0, 0, 0] : Fin 3 → ℕ) a + S1x1x1.size a ≤ S1x2x128.size a) (X : v.ty.Contents (Elt F)) :
    View.readAt (Elt F) v (Rect.unit (s := S1x2x128) ![0, 0, 0] S1x1x1.size inb).toLoadRect X
      = fun _ => v.read (Elt F) X (ix3 (0 : Fin 1) (0 : Fin 2) (0 : Fin 128)) := by
  funext j
  rw [View.readAt_eq_ld]
  refine congrArg (v.read (Elt F) X) (funext fun a => Fin.ext ?_)
  match a with
  | ⟨0, _⟩ => have : (j 0).val < 1 := (j 0).isLt; show 0 + 1 * (j 0).val = 0; omega
  | ⟨1, _⟩ => have : (j 1).val < 1 := (j 1).isLt; show 0 + 1 * (j 1).val = 0; omega
  | ⟨2, _⟩ => have : (j 2).val < 1 := (j 2).isLt; show 0 + 1 * (j 2).val = 0; omega

theorem readAt_init1 (v : View sig κ sp S1x2x128 .f32)
    (inb : ∀ a, (![0, 1, 0] : Fin 3 → ℕ) a + S1x1x1.size a ≤ S1x2x128.size a) (X : v.ty.Contents (Elt F)) :
    View.readAt (Elt F) v (Rect.unit (s := S1x2x128) ![0, 1, 0] S1x1x1.size inb).toLoadRect X
      = fun _ => v.read (Elt F) X (ix3 (0 : Fin 1) (1 : Fin 2) (0 : Fin 128)) := by
  funext j
  rw [View.readAt_eq_ld]
  refine congrArg (v.read (Elt F) X) (funext fun a => Fin.ext ?_)
  match a with
  | ⟨0, _⟩ => have : (j 0).val < 1 := (j 0).isLt; show 0 + 1 * (j 0).val = 0; omega
  | ⟨1, _⟩ => have : (j 1).val < 1 := (j 1).isLt; show 1 + 1 * (j 1).val = 1; omega
  | ⟨2, _⟩ => have : (j 2).val < 1 := (j 2).isLt; show 0 + 1 * (j 2).val = 0; omega

/-- Equal offsets among the keys. -/
theorem key_off {a b : ℕ} (h : a = b) : (![0, 0, a, 0] : Fin 4 → ℕ) = ![0, 0, b, 0] := congrArg (fun n => ![0, 0, n, 0]) h

/-- Equal offsets among the values. -/
theorem val_off {a b : ℕ} (h : a = b) : (![0, 0, 0, a] : Fin 4 → ℕ) = ![0, 0, 0, b] := congrArg (fun n => ![0, 0, 0, n]) h

end Cert.Reads
end
-- ==== Proof.Step.lean ====
module

public import proofs.«01_k».proof.Proof.Gen.KernelIdeal.Skeleton
public import proofs.«01_k».proof.Proof.Gen.KernelIdeal.Frame
public import proofs.«01_k».proof.Proof.Reads
public import Idealize.ShloMosaic.Lib.WritesUnit
public import Idealize.ShloMosaic.Lib.ValueIdxCore
public import Idealize.ShloMosaic.Lib.Pipeline.Value
public import Idealize.ShloMosaic.Lib.VecWindow

/-! The attention's arithmetic, one tile of keys at a time, as functions of the query block, the keys and the values. -/

@[expose] public section

set_option maxRecDepth 16384

noncomputable section

namespace Cert.KernelIdeal.Att

open Idealize.ShloMosaic Idealize.ShloMosaic.TcCoe Idealize.ShloMosaic.Tactic
open Idealize.ShloMosaic.ValueIdx
open Cert.KernelIdeal.Gen

export Cert.Reads (kvAt vvAt rowsAt row0 readAt_kv readAt_vv readAt_rows rowsAt_cons_self rowsAt_cons_ne
  readAt_row0 row0_cons readAt_whole readAt_rows9 readAt_rows10 disj_rows readCov9_ne readAt_vv0 readAt_init0
  readAt_init1 key_off val_off)

variable {F : FTy → Type} [FloatOps F]

/-- The scores of 256 keys against the query block. -/
def sc (q : FVec F S96x1024 .bf16) (kb : Vec F S1x1x256x96 .bf16) : FVec F S256x1024 .f32 :=
  matmul dot_S256x96_S96x1024_S256x1024_1_0_0_1_n_n none
    (shapeCast S256x96 kb shapeCasts_S1x1x256x96_S256x96) q (constant S256x1024 .f32 0x00000000#32)

/-- The scores of the keys from row `o` on. -/
def sT (q : FVec F S96x1024 .bf16) (K : Vec F S1x1x16640x96 .bf16) (o : ℕ) : FVec F S256x1024 .f32 :=
  sc q (kvAt K o)

/-- The largest score of each column. -/
def cmx (s : FVec F S256x1024 .f32) : FVec F S1x1024 .f32 :=
  shapeCast S1x1024 (multiReduction .maximumf [0] S1024 s 0xFF800000#32 reduces_S256x1024_S1024 (.inl rfl) rfl)
    shapeCasts_S1024_S1x1024

/-- The largest score of each column over a tile of 2048 keys. -/
def cm8 (q : FVec F S96x1024 .bf16) (K : Vec F S1x1x16640x96 .bf16) (o : ℕ) : FVec F S1x1024 .f32 :=
  maximumf (maximumf (maximumf (maximumf (maximumf (maximumf (maximumf (cmx (sT q K (o + 0))) (cmx (sT q K (o + 256))))
    (cmx (sT q K (o + 512)))) (cmx (sT q K (o + 768)))) (cmx (sT q K (o + 1024)))) (cmx (sT q K (o + 1280))))
    (cmx (sT q K (o + 1536)))) (cmx (sT q K (o + 1792)))

/-- The largest score of each column over the first nine subtiles: the context's, then the first tile's. -/
def cm9 (q : FVec F S96x1024 .bf16) (K : Vec F S1x1x16640x96 .bf16) : FVec F S1x1024 .f32 :=
  maximumf (maximumf (maximumf (maximumf (maximumf (maximumf (maximumf (maximumf (cmx (sT q K 16384)) (cmx (sT q K 0)))
    (cmx (sT q K 256))) (cmx (sT q K 512))) (cmx (sT q K 768))) (cmx (sT q K 1024))) (cmx (sT q K 1280)))
    (cmx (sT q K 1536))) (cmx (sT q K 1792))

/-- What one subtile adds to the accumulator, from its scores. -/
def dT (V : Vec F S1x1x80x16640 .bf16) (mn : FVec F S1x1024 .f32) (o : ℕ) (s : FVec F S256x1024 .f32) : FVec F S80x1024 .f32 :=
  matmul dot_S80x256_S256x1024_S80x1024_1_0_0_1_n_n none
    (shapeCast S80x256 (vvAt V o) shapeCasts_S1x1x80x256_S80x256)
    (truncf .bf16 (exp2 (subf s (broadcastTo S256x1024 mn broadcasts_S1x1024_S256x1024))) bitsLt_bf16_f32)
    (constant S80x1024 .f32 0x00000000#32)

/-- What a tile of 2048 keys adds. -/
def pv8 (q : FVec F S96x1024 .bf16) (K : Vec F S1x1x16640x96 .bf16) (V : Vec F S1x1x80x16640 .bf16)
    (mn : FVec F S1x1024 .f32) (o : ℕ) : FVec F S80x1024 .f32 :=
  addf (addf (addf (addf (addf (addf (addf (dT V mn (o + 0) (sT q K (o + 0))) (dT V mn (o + 256) (sT q K (o + 256))))
    (dT V mn (o + 512) (sT q K (o + 512)))) (dT V mn (o + 768) (sT q K (o + 768)))) (dT V mn (o + 1024) (sT q K (o + 1024))))
    (dT V mn (o + 1280) (sT q K (o + 1280)))) (dT V mn (o + 1536) (sT q K (o + 1536)))) (dT V mn (o + 1792) (sT q K (o + 1792)))

/-- What the first nine subtiles add. -/
def pv9 (q : FVec F S96x1024 .bf16) (K : Vec F S1x1x16640x96 .bf16) (V : Vec F S1x1x80x16640 .bf16)
    (mn : FVec F S1x1024 .f32) : FVec F S80x1024 .f32 :=
  addf (addf (addf (addf (addf (addf (addf (addf (dT V mn 16384 (sT q K 16384)) (dT V mn 0 (sT q K 0)))
    (dT V mn 256 (sT q K 256))) (dT V mn 512 (sT q K 512))) (dT V mn 768 (sT q K 768))) (dT V mn 1024 (sT q K 1024)))
    (dT V mn 1280 (sT q K 1280))) (dT V mn 1536 (sT q K 1536))) (dT V mn 1792 (sT q K 1792))

/-- The accumulator carried from the maximum `m` to `mn` and added to. -/
def accS (a : FVec F S80x1024 .f32) (m mn : FVec F S1x1024 .f32) (pv : FVec F S80x1024 .f32) : FVec F S80x1024 .f32 :=
  addf (mulf a (broadcastTo S80x1024 (exp2 (subf m mn)) broadcasts_S1x1024_S80x1024)) pv

/-- The running maximum and the accumulator after `n` tiles beyond the first nine subtiles. -/
def stM (q : FVec F S96x1024 .bf16) (K : Vec F S1x1x16640x96 .bf16) (m0 : FVec F S1x1024 .f32) : ℕ → FVec F S1x1024 .f32
  | 0 => maximumf m0 (cm9 q K)
  | n + 1 => maximumf (stM q K m0 n) (cm8 q K (2048 * (n + 1)))

def stA (q : FVec F S96x1024 .bf16) (K : Vec F S1x1x16640x96 .bf16) (V : Vec F S1x1x80x16640 .bf16)
    (m0 : FVec F S1x1024 .f32) (a0 : FVec F S80x1024 .f32) : ℕ → FVec F S80x1024 .f32
  | 0 => accS a0 m0 (stM q K m0 0) (pv9 q K V (stM q K m0 0))
  | n + 1 => accS (stA q K V m0 a0 n) (stM q K m0 n) (stM q K m0 (n + 1)) (pv8 q K V (stM q K m0 (n + 1)) (2048 * (n + 1)))

theorem stA_succ (q : FVec F S96x1024 .bf16) (K : Vec F S1x1x16640x96 .bf16) (V : Vec F S1x1x80x16640 .bf16)
    (m0 : FVec F S1x1024 .f32) (a0 : FVec F S80x1024 .f32) (n : ℕ) :
    stA q K V m0 a0 (n + 1) = accS (stA q K V m0 a0 n) (stM q K m0 n) (stM q K m0 (n + 1)) (pv8 q K V (stM q K m0 (n + 1)) (2048 * (n + 1))) := rfl

/-- The query block as a matrix. -/
def qM (x : Vec F S1x1x96x1024 .bf16) : FVec F S96x1024 .bf16 := shapeCast S96x1024 x shapeCasts_S1x1x96x1024_S96x1024

/-- The first maximum and the first accumulator, from the initial values' block. -/
def m0Of (I : Vec F S1x2x128 .f32) : FVec F S1x1024 .f32 :=
  Gen.k0_pay87 (fun _ => I (ix3 (0 : Fin 1) (0 : Fin 2) (0 : Fin 128)))

def a0Of (I : Vec F S1x2x128 .f32) : FVec F S80x1024 .f32 :=
  Gen.k0_pay88 (fun _ => I (ix3 (0 : Fin 1) (1 : Fin 2) (0 : Fin 128)))

/-- The output block of one query tile. -/
def outB (I : Vec F S1x2x128 .f32) (x : Vec F S1x1x96x1024 .bf16) (K : Vec F S1x1x16640x96 .bf16)
    (V : Vec F S1x1x80x16640 .bf16) : FVec F S1x1x64x1024 .f32 :=
  Gen.k0_pay2 (stA (qM x) K V (m0Of I) (a0Of I) 7)

/-- What the first scratch holds for the next query block: its first nine subtiles' scores. -/
def Has9 (X : S2304x1024.Idx → Elt F .f32) (q : FVec F S96x1024 .bf16) (K : Vec F S1x1x16640x96 .bf16) : Prop :=
  rowsAt (N := 2304) (by decide) X 0 = sT q K 16384 ∧ rowsAt (N := 2304) (by decide) X 256 = sT q K 0 ∧
  rowsAt (N := 2304) (by decide) X 512 = sT q K 256 ∧ rowsAt (N := 2304) (by decide) X 768 = sT q K 512 ∧
  rowsAt (N := 2304) (by decide) X 1024 = sT q K 768 ∧ rowsAt (N := 2304) (by decide) X 1280 = sT q K 1024 ∧
  rowsAt (N := 2304) (by decide) X 1536 = sT q K 1280 ∧ rowsAt (N := 2304) (by decide) X 1792 = sT q K 1536 ∧
  rowsAt (N := 2304) (by decide) X 2048 = sT q K 1792

/-- What the second scratch holds: the scores of the tile from row `o` on. -/
def Has8 (X : S2048x1024.Idx → Elt F .f32) (q : FVec F S96x1024 .bf16) (K : Vec F S1x1x16640x96 .bf16) (o : ℕ) : Prop :=
  rowsAt (N := 2048) (by decide) X 0 = sT q K (o + 0) ∧ rowsAt (N := 2048) (by decide) X 256 = sT q K (o + 256) ∧
  rowsAt (N := 2048) (by decide) X 512 = sT q K (o + 512) ∧ rowsAt (N := 2048) (by decide) X 768 = sT q K (o + 768) ∧
  rowsAt (N := 2048) (by decide) X 1024 = sT q K (o + 1024) ∧ rowsAt (N := 2048) (by decide) X 1280 = sT q K (o + 1280) ∧
  rowsAt (N := 2048) (by decide) X 1536 = sT q K (o + 1536) ∧ rowsAt (N := 2048) (by decide) X 1792 = sT q K (o + 1792)

section Reads
variable {κ : Kind} {sp : Space}

theorem readAt_kv0 (v : View sig κ sp S1x1x16640x96 .bf16) {o : ℕ}
    (inb : ∀ a, (![0, 0, o, 0] : Fin 4 → ℕ) a + S1x1x256x96.size a ≤ S1x1x16640x96.size a) (X : v.ty.Contents (Elt F)) :
    View.readAt (Elt F) v (Rect.unit (s := S1x1x16640x96) ![0, 0, o, 0] S1x1x256x96.size inb).toLoadRect X
      = kvAt (v.read (Elt F) X) o := readAt_kv v rfl inb X

theorem readAt_q0 (v : View sig κ sp S1x1x96x1024 .bf16)
    (inb : ∀ a, (![0, 0, 0, 0] : Fin 4 → ℕ) a + S1x1x96x1024.size a ≤ S1x1x96x1024.size a) (X : v.ty.Contents (Elt F)) :
    View.readAt (Elt F) v (Rect.unit (s := S1x1x96x1024) ![0, 0, 0, 0] S1x1x96x1024.size inb).toLoadRect X = v.read (Elt F) X :=
  readAt_whole v (by decide) inb X

end Reads

theorem off1_4096_0 (k : Fin k0_t1_loop.trips) : k0_off1 k 4096#32 0#32 = ![0, 0, 2048 * (2 * k.val + 2) + 0, 0] :=
  (k0_off1_eq k ⟨0, by decide⟩ ⟨0, by decide⟩).trans (key_off (by dsimp only; omega))

theorem off1_4096_256 (k : Fin k0_t1_loop.trips) : k0_off1 k 4096#32 256#32 = ![0, 0, 2048 * (2 * k.val + 2) + 256, 0] :=
  (k0_off1_eq k ⟨0, by decide⟩ ⟨1, by decide⟩).trans (key_off (by dsimp only; omega))

theorem off1_4096_512 (k : Fin k0_t1_loop.trips) : k0_off1 k 4096#32 512#32 = ![0, 0, 2048 * (2 * k.val + 2) + 512, 0] :=
  (k0_off1_eq k ⟨0, by decide⟩ ⟨2, by decide⟩).trans (key_off (by dsimp only; omega))

theorem off1_4096_768 (k : Fin k0_t1_loop.trips) : k0_off1 k 4096#32 768#32 = ![0, 0, 2048 * (2 * k.val + 2) + 768, 0] :=
  (k0_off1_eq k ⟨0, by decide⟩ ⟨3, by decide⟩).trans (key_off (by dsimp only; omega))

theorem off1_4096_1024 (k : Fin k0_t1_loop.trips) : k0_off1 k 4096#32 1024#32 = ![0, 0, 2048 * (2 * k.val + 2) + 1024, 0] :=
  (k0_off1_eq k ⟨0, by decide⟩ ⟨4, by decide⟩).trans (key_off (by dsimp only; omega))

theorem off1_4096_1280 (k : Fin k0_t1_loop.trips) : k0_off1 k 4096#32 1280#32 = ![0, 0, 2048 * (2 * k.val + 2) + 1280, 0] :=
  (k0_off1_eq k ⟨0, by decide⟩ ⟨5, by decide⟩).trans (key_off (by dsimp only; omega))

theorem off1_4096_1536 (k : Fin k0_t1_loop.trips) : k0_off1 k 4096#32 1536#32 = ![0, 0, 2048 * (2 * k.val + 2) + 1536, 0] :=
  (k0_off1_eq k ⟨0, by decide⟩ ⟨6, by decide⟩).trans (key_off (by dsimp only; omega))

theorem off1_4096_1792 (k : Fin k0_t1_loop.trips) : k0_off1 k 4096#32 1792#32 = ![0, 0, 2048 * (2 * k.val + 2) + 1792, 0] :=
  (k0_off1_eq k ⟨0, by decide⟩ ⟨7, by decide⟩).trans (key_off (by dsimp only; omega))

theorem off1_6144_0 (k : Fin k0_t1_loop.trips) : k0_off1 k 6144#32 0#32 = ![0, 0, 2048 * (2 * k.val + 3) + 0, 0] :=
  (k0_off1_eq k ⟨1, by decide⟩ ⟨0, by decide⟩).trans (key_off (by dsimp only; omega))

theorem off1_6144_256 (k : Fin k0_t1_loop.trips) : k0_off1 k 6144#32 256#32 = ![0, 0, 2048 * (2 * k.val + 3) + 256, 0] :=
  (k0_off1_eq k ⟨1, by decide⟩ ⟨1, by decide⟩).trans (key_off (by dsimp only; omega))

theorem off1_6144_512 (k : Fin k0_t1_loop.trips) : k0_off1 k 6144#32 512#32 = ![0, 0, 2048 * (2 * k.val + 3) + 512, 0] :=
  (k0_off1_eq k ⟨1, by decide⟩ ⟨2, by decide⟩).trans (key_off (by dsimp only; omega))

theorem off1_6144_768 (k : Fin k0_t1_loop.trips) : k0_off1 k 6144#32 768#32 = ![0, 0, 2048 * (2 * k.val + 3) + 768, 0] :=
  (k0_off1_eq k ⟨1, by decide⟩ ⟨3, by decide⟩).trans (key_off (by dsimp only; omega))

theorem off1_6144_1024 (k : Fin k0_t1_loop.trips) : k0_off1 k 6144#32 1024#32 = ![0, 0, 2048 * (2 * k.val + 3) + 1024, 0] :=
  (k0_off1_eq k ⟨1, by decide⟩ ⟨4, by decide⟩).trans (key_off (by dsimp only; omega))

theorem off1_6144_1280 (k : Fin k0_t1_loop.trips) : k0_off1 k 6144#32 1280#32 = ![0, 0, 2048 * (2 * k.val + 3) + 1280, 0] :=
  (k0_off1_eq k ⟨1, by decide⟩ ⟨5, by decide⟩).trans (key_off (by dsimp only; omega))

theorem off1_6144_1536 (k : Fin k0_t1_loop.trips) : k0_off1 k 6144#32 1536#32 = ![0, 0, 2048 * (2 * k.val + 3) + 1536, 0] :=
  (k0_off1_eq k ⟨1, by decide⟩ ⟨6, by decide⟩).trans (key_off (by dsimp only; omega))

theorem off1_6144_1792 (k : Fin k0_t1_loop.trips) : k0_off1 k 6144#32 1792#32 = ![0, 0, 2048 * (2 * k.val + 3) + 1792, 0] :=
  (k0_off1_eq k ⟨1, by decide⟩ ⟨7, by decide⟩).trans (key_off (by dsimp only; omega))

theorem off2_2048_0 (k : Fin k0_t1_loop.trips) : k0_off2 k 2048#32 0#32 = ![0, 0, 0, 2048 * (2 * k.val + 1) + 0] :=
  (k0_off2_eq k ⟨0, by decide⟩ ⟨0, by decide⟩).trans (val_off (by dsimp only; omega))

theorem off2_2048_256 (k : Fin k0_t1_loop.trips) : k0_off2 k 2048#32 256#32 = ![0, 0, 0, 2048 * (2 * k.val + 1) + 256] :=
  (k0_off2_eq k ⟨0, by decide⟩ ⟨1, by decide⟩).trans (val_off (by dsimp only; omega))

theorem off2_2048_512 (k : Fin k0_t1_loop.trips) : k0_off2 k 2048#32 512#32 = ![0, 0, 0, 2048 * (2 * k.val + 1) + 512] :=
  (k0_off2_eq k ⟨0, by decide⟩ ⟨2, by decide⟩).trans (val_off (by dsimp only; omega))

theorem off2_2048_768 (k : Fin k0_t1_loop.trips) : k0_off2 k 2048#32 768#32 = ![0, 0, 0, 2048 * (2 * k.val + 1) + 768] :=
  (k0_off2_eq k ⟨0, by decide⟩ ⟨3, by decide⟩).trans (val_off (by dsimp only; omega))

theorem off2_2048_1024 (k : Fin k0_t1_loop.trips) : k0_off2 k 2048#32 1024#32 = ![0, 0, 0, 2048 * (2 * k.val + 1) + 1024] :=
  (k0_off2_eq k ⟨0, by decide⟩ ⟨4, by decide⟩).trans (val_off (by dsimp only; omega))

theorem off2_2048_1280 (k : Fin k0_t1_loop.trips) : k0_off2 k 2048#32 1280#32 = ![0, 0, 0, 2048 * (2 * k.val + 1) + 1280] :=
  (k0_off2_eq k ⟨0, by decide⟩ ⟨5, by decide⟩).trans (val_off (by dsimp only; omega))

theorem off2_2048_1536 (k : Fin k0_t1_loop.trips) : k0_off2 k 2048#32 1536#32 = ![0, 0, 0, 2048 * (2 * k.val + 1) + 1536] :=
  (k0_off2_eq k ⟨0, by decide⟩ ⟨6, by decide⟩).trans (val_off (by dsimp only; omega))

theorem off2_2048_1792 (k : Fin k0_t1_loop.trips) : k0_off2 k 2048#32 1792#32 = ![0, 0, 0, 2048 * (2 * k.val + 1) + 1792] :=
  (k0_off2_eq k ⟨0, by decide⟩ ⟨7, by decide⟩).trans (val_off (by dsimp only; omega))

theorem off2_4096_0 (k : Fin k0_t1_loop.trips) : k0_off2 k 4096#32 0#32 = ![0, 0, 0, 2048 * (2 * k.val + 2) + 0] :=
  (k0_off2_eq k ⟨1, by decide⟩ ⟨0, by decide⟩).trans (val_off (by dsimp only; omega))

theorem off2_4096_256 (k : Fin k0_t1_loop.trips) : k0_off2 k 4096#32 256#32 = ![0, 0, 0, 2048 * (2 * k.val + 2) + 256] :=
  (k0_off2_eq k ⟨1, by decide⟩ ⟨1, by decide⟩).trans (val_off (by dsimp only; omega))

theorem off2_4096_512 (k : Fin k0_t1_loop.trips) : k0_off2 k 4096#32 512#32 = ![0, 0, 0, 2048 * (2 * k.val + 2) + 512] :=
  (k0_off2_eq k ⟨1, by decide⟩ ⟨2, by decide⟩).trans (val_off (by dsimp only; omega))

theorem off2_4096_768 (k : Fin k0_t1_loop.trips) : k0_off2 k 4096#32 768#32 = ![0, 0, 0, 2048 * (2 * k.val + 2) + 768] :=
  (k0_off2_eq k ⟨1, by decide⟩ ⟨3, by decide⟩).trans (val_off (by dsimp only; omega))

theorem off2_4096_1024 (k : Fin k0_t1_loop.trips) : k0_off2 k 4096#32 1024#32 = ![0, 0, 0, 2048 * (2 * k.val + 2) + 1024] :=
  (k0_off2_eq k ⟨1, by decide⟩ ⟨4, by decide⟩).trans (val_off (by dsimp only; omega))

theorem off2_4096_1280 (k : Fin k0_t1_loop.trips) : k0_off2 k 4096#32 1280#32 = ![0, 0, 0, 2048 * (2 * k.val + 2) + 1280] :=
  (k0_off2_eq k ⟨1, by decide⟩ ⟨5, by decide⟩).trans (val_off (by dsimp only; omega))

theorem off2_4096_1536 (k : Fin k0_t1_loop.trips) : k0_off2 k 4096#32 1536#32 = ![0, 0, 0, 2048 * (2 * k.val + 2) + 1536] :=
  (k0_off2_eq k ⟨1, by decide⟩ ⟨6, by decide⟩).trans (val_off (by dsimp only; omega))

theorem off2_4096_1792 (k : Fin k0_t1_loop.trips) : k0_off2 k 4096#32 1792#32 = ![0, 0, 0, 2048 * (2 * k.val + 2) + 1792] :=
  (k0_off2_eq k ⟨1, by decide⟩ ⟨7, by decide⟩).trans (val_off (by dsimp only; omega))

end Cert.KernelIdeal.Att
end
-- ==== Proof.Trip.lean ====
module

public import proofs.«01_k».proof.Proof.Step

/-! One trip of the loop over pairs of key tiles, and the loop by its invariant. -/

@[expose] public section

set_option maxRecDepth 16384
set_option maxHeartbeats 4000000

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
local notation "𝕄G" => MT nD τ sig Unit (Elt F) ℕ (UR sig nD τ) ℕ

/-- What holds before trip `n`: the second scratch has the next tile's scores, the accumulator and the carried
maxima are those after `2 n` tiles. -/
abbrev invL (c : Dev nD) (arg6 : Memref sig .tc .vmem S1x1x16640x96 .bf16) (arg7 : Memref sig .tc .vmem S1x1x80x16640 .bf16)
    (arg9 : Memref sig .tc .vmem S2304x1024 .f32) (arg10 : Memref sig .tc .vmem S2048x1024 .f32)
    (arg11 : Memref sig .tc .vmem S80x1024 .f32) (X6 : BufTy.Contents (Elt F) arg6.view.ty)
    (X7 : BufTy.Contents (Elt F) arg7.view.ty) (q : FVec F S96x1024 .bf16) (m0 : FVec F S1x1024 .f32) (a0 : FVec F S80x1024 .f32)
    (n : ℕ) (p : FVec F S1x1024 .f32 × FVec F S1x1024 .f32) : sProp 𝕄G :=
  iprop((arg6.view.loc (c : Thread nD τ) ↦[arg6.view.set]{fullShare} X6) ∗ (arg7.view.loc (c : Thread nD τ) ↦[arg7.view.set]{fullShare} X7)
    ∗ (∃ f9, (arg9.view.loc (c : Thread nD τ) ↦[arg9.view.set]{fullShare} f9))
    ∗ (∃ f10, (arg10.view.loc (c : Thread nD τ) ↦[arg10.view.set]{fullShare} f10)
        ∗ ⌜Has8 (arg10.view.read (Elt F) f10) q (arg6.view.read (Elt F) X6) (2048 * (2 * n + 1))⌝)
    ∗ (∃ f11, (arg11.view.loc (c : Thread nD τ) ↦[arg11.view.set]{fullShare} f11)
        ∗ ⌜arg11.view.read (Elt F) f11 = stA q (arg6.view.read (Elt F) X6) (arg7.view.read (Elt F) X7) m0 a0 (2 * n)⌝)
    ∗ ⌜p = (stM q (arg6.view.read (Elt F) X6) m0 (2 * n), cm8 q (arg6.view.read (Elt F) X6) (2048 * (2 * n + 1)))⌝)

theorem trip (𝒱 : Variants) (c : Dev nD) (bd : Option 𝒱.V) (E : Set ℕ) (i : grid0.Coords) (arg3 : Memref sig .tc .vmem S1x2x128 .f32) (harg3 : arg3.IsWhole) (arg4 : Memref sig .tc .vmem S1x1x96x1024 .bf16) (harg4 : arg4.IsWhole) (arg5 : Memref sig .tc .vmem S1x1x96x1024 .bf16) (harg5 : arg5.IsWhole) (arg6 : Memref sig .tc .vmem S1x1x16640x96 .bf16) (harg6 : arg6.IsWhole) (arg7 : Memref sig .tc .vmem S1x1x80x16640 .bf16) (harg7 : arg7.IsWhole) (arg8 : Memref sig .tc .vmem S1x1x64x1024 .f32) (harg8 : arg8.IsWhole) (arg9 : Memref sig .tc .vmem S2304x1024 .f32) (harg9 : arg9.IsWhole) (arg10 : Memref sig .tc .vmem S2048x1024 .f32) (harg10 : arg10.IsWhole) (arg11 : Memref sig .tc .vmem S80x1024 .f32) (harg11 : arg11.IsWhole) (arg12 : Memref sig .tc .vmem S8x1024 .f32) (harg12 : arg12.IsWhole)
    (v1 : FVec F S96x1024 .bf16) (v8 v22 : FVec F S1x1024 .f32) (v146 : FVec F S80x1024 .f32) (v155 : FVec F S1x1024 .f32)
    (X6 : BufTy.Contents (Elt F) arg6.view.ty) (X7 : BufTy.Contents (Elt F) arg7.view.ty) (m0 : FVec F S1x1024 .f32) (a0 : FVec F S80x1024 .f32)
    (k : Fin k0_t1_loop.trips) (acc : FVec F S1x1024 .f32 × FVec F S1x1024 .f32) :
    invL c arg6 arg7 arg9 arg10 arg11 X6 X7 v1 m0 a0 k.val acc
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 v1 v8 v22 v146 v155 k acc)
        (fun p => invL c arg6 arg7 arg9 arg10 arg11 X6 X7 v1 m0 a0 (k.val + 1) p) := by
  have hk : k.val < 3 := Nat.lt_of_lt_of_le k.isLt k0_t1_abs.2.1
  unfold k0_t1_body
  iintro ⟨HR_arg6, HR_arg7, ⟨%f9, HW_arg9⟩, ⟨%f10, HW_arg10, %h10⟩, ⟨%f11, HW_arg11, %h11⟩, %hacc⟩
  subst hacc
  sl_exec
  sl_step
  isplitl [HR_arg6]; · iexact HR_arg6
  isplitl [HR_arg7]; · iexact HR_arg7
  isplitl [HW_arg9]; · iexists _; iexact HW_arg9
  isplitl [HW_arg10]
  · iexists _; isplitl [HW_arg10]; · iexact HW_arg10
    ipureintro
    sl_unfold_run_names
    have e : 2 * (k.val + 1) + 1 = 2 * k.val + 3 := by omega
    rw [e]
    refine ⟨?_, ?_, ?_, ?_, ?_, ?_, ?_, ?_⟩ <;>
      (repeat refine (rowsAt_cons_ne (N := 2048) (by decide) _ _ _ _ _ (by decide) (by decide)).trans ?_) <;>
      refine (rowsAt_cons_self (N := 2048) (by decide) _ _ _ _ _).trans ?_ <;>
      simp only [readAt_kv _ (off1_4096_0 k), readAt_kv _ (off1_4096_256 k), readAt_kv _ (off1_4096_512 k), readAt_kv _ (off1_4096_768 k), readAt_kv _ (off1_4096_1024 k), readAt_kv _ (off1_4096_1280 k), readAt_kv _ (off1_4096_1536 k), readAt_kv _ (off1_4096_1792 k), readAt_kv _ (off1_6144_0 k), readAt_kv _ (off1_6144_256 k), readAt_kv _ (off1_6144_512 k), readAt_kv _ (off1_6144_768 k), readAt_kv _ (off1_6144_1024 k), readAt_kv _ (off1_6144_1280 k), readAt_kv _ (off1_6144_1536 k), readAt_kv _ (off1_6144_1792 k)] <;> exact shapeCast_self _ _
  isplitl [HW_arg11]
  · iexists _; isplitl [HW_arg11]; · iexact HW_arg11
    ipureintro
    sl_unfold_run_names
    refine (View.read_writes_full _ _ _ _ _).trans ?_
    simp (disch := decide) only [↓readCov9_ne, ↓View.readCov_cons_toLoadRect, ↓readAt_rows10, h10.1, h10.2.1, h10.2.2.1, h10.2.2.2.1, h10.2.2.2.2.1, h10.2.2.2.2.2.1, h10.2.2.2.2.2.2.1, h10.2.2.2.2.2.2.2, readAt_kv _ (off1_4096_0 k), readAt_kv _ (off1_4096_256 k), readAt_kv _ (off1_4096_512 k), readAt_kv _ (off1_4096_768 k), readAt_kv _ (off1_4096_1024 k), readAt_kv _ (off1_4096_1280 k), readAt_kv _ (off1_4096_1536 k), readAt_kv _ (off1_4096_1792 k), readAt_kv _ (off1_6144_0 k), readAt_kv _ (off1_6144_256 k), readAt_kv _ (off1_6144_512 k), readAt_kv _ (off1_6144_768 k), readAt_kv _ (off1_6144_1024 k), readAt_kv _ (off1_6144_1280 k), readAt_kv _ (off1_6144_1536 k), readAt_kv _ (off1_6144_1792 k), readAt_vv _ (off2_2048_0 k), readAt_vv _ (off2_2048_256 k), readAt_vv _ (off2_2048_512 k), readAt_vv _ (off2_2048_768 k), readAt_vv _ (off2_2048_1024 k), readAt_vv _ (off2_2048_1280 k), readAt_vv _ (off2_2048_1536 k), readAt_vv _ (off2_2048_1792 k), readAt_vv _ (off2_4096_0 k), readAt_vv _ (off2_4096_256 k), readAt_vv _ (off2_4096_512 k), readAt_vv _ (off2_4096_768 k), readAt_vv _ (off2_4096_1024 k), readAt_vv _ (off2_4096_1280 k), readAt_vv _ (off2_4096_1536 k), readAt_vv _ (off2_4096_1792 k)]
    rw [readAt_whole _ (by decide), h11]
    have e' : 2 * (k.val + 1) = 2 * k.val + 1 + 1 := by omega
    rw [e']
    refine Eq.trans ?_ (stA_succ _ _ _ _ _ _).symm
    rw [stA_succ]
    simp only [k0_pay22, k0_pay25, k0_pay29, k0_pay32, k0_pay37, k0_pay40, k0_pay43, k0_pay47, k0_pay49, k0_pay52, k0_pay57, k0_pay60, k0_pay64, k0_pay67, k0_pay70, k0_pay75, k0_pay78, k0_pay116, shapeCast_self]
    rfl
  ipureintro
  sl_unfold_run_names
  simp only [readAt_kv _ (off1_4096_0 k), readAt_kv _ (off1_4096_256 k), readAt_kv _ (off1_4096_512 k), readAt_kv _ (off1_4096_768 k), readAt_kv _ (off1_4096_1024 k), readAt_kv _ (off1_4096_1280 k), readAt_kv _ (off1_4096_1536 k), readAt_kv _ (off1_4096_1792 k), readAt_kv _ (off1_6144_0 k), readAt_kv _ (off1_6144_256 k), readAt_kv _ (off1_6144_512 k), readAt_kv _ (off1_6144_768 k), readAt_kv _ (off1_6144_1024 k), readAt_kv _ (off1_6144_1280 k), readAt_kv _ (off1_6144_1536 k), readAt_kv _ (off1_6144_1792 k)]
  have e : 2 * (k.val + 1) + 1 = 2 * k.val + 3 := by omega
  have e' : 2 * (k.val + 1) = 2 * k.val + 2 := by omega
  rw [e, e']
  rfl

end Cert.KernelIdeal.Att
end
-- ==== Proof.Body.lean ====
module

public import proofs.«01_k».proof.Proof.Trip

/-! The kernel's body at one grid point: from the query tile's first scores in scratch to its output block, leaving the
next query tile's first scores in scratch. -/

@[expose] public section

set_option maxRecDepth 16384
set_option maxHeartbeats 4000000

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
local notation "𝕄G" => MT nD τ sig Unit (Elt F) ℕ (UR sig nD τ) ℕ

theorem body_next (𝒱 : Variants) (c : Dev nD) (bd : Option 𝒱.V) (E : Set ℕ) (i : grid0.Coords) (arg3 : Memref sig .tc .vmem S1x2x128 .f32) (harg3 : arg3.IsWhole) (arg4 : Memref sig .tc .vmem S1x1x96x1024 .bf16) (harg4 : arg4.IsWhole) (arg5 : Memref sig .tc .vmem S1x1x96x1024 .bf16) (harg5 : arg5.IsWhole) (arg6 : Memref sig .tc .vmem S1x1x16640x96 .bf16) (harg6 : arg6.IsWhole) (arg7 : Memref sig .tc .vmem S1x1x80x16640 .bf16) (harg7 : arg7.IsWhole) (arg8 : Memref sig .tc .vmem S1x1x64x1024 .f32) (harg8 : arg8.IsWhole) (arg9 : Memref sig .tc .vmem S2304x1024 .f32) (harg9 : arg9.IsWhole) (arg10 : Memref sig .tc .vmem S2048x1024 .f32) (harg10 : arg10.IsWhole) (arg11 : Memref sig .tc .vmem S80x1024 .f32) (harg11 : arg11.IsWhole) (arg12 : Memref sig .tc .vmem S8x1024 .f32) (harg12 : arg12.IsWhole)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty)
    (hi : ¬ (Scalar.cmpi .ne (Scalar.extui (Scalar.cmpi .eq (BitVec.ofNat 32 (i 2).val) 0#32) : BitVec 32) 0#32 = 1#1))
    (h9 : Has9 (arg9.view.read (Elt F) f9) (qM (arg4.view.read (Elt F) X4)) (arg6.view.read (Elt F) X6))
    (h12 : row0 (arg12.view.read (Elt F) f12) = cm9 (qM (arg4.view.read (Elt F) X4)) (arg6.view.read (Elt F) X6)) :
    (iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)) : sProp 𝕄G)
      ⊢ wp frame (wpE (defs₀ (F := F)) 𝒱 (c : Thread nD τ) bd) E (cc0_dense_attention (F := F) i arg3 harg3 arg4 harg4 arg5 harg5 arg6 harg6 arg7 harg7 arg8 harg8 arg9 harg9 arg10 harg10 arg11 harg11 arg12 harg12)
        (fun _ => iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7)
      ∗ (∃ g8, (arg8.view.loc (c : Thread nD τ) ↦[arg8.view.set]{fullShare} g8)
          ∗ ⌜arg8.view.read (Elt F) g8 = outB (arg3.view.read (Elt F) X3) (arg4.view.read (Elt F) X4) (arg6.view.read (Elt F) X6) (arg7.view.read (Elt F) X7)⌝)
      ∗ (∃ g9, (arg9.view.loc (c : Thread nD τ) ↦[arg9.view.set]{fullShare} g9)
          ∗ ⌜Has9 (arg9.view.read (Elt F) g9) (qM (arg5.view.read (Elt F) X5)) (arg6.view.read (Elt F) X6)⌝)
      ∗ (∃ g10, (arg10.view.loc (c : Thread nD τ) ↦[arg10.view.set]{fullShare} g10))
      ∗ (∃ g11, (arg11.view.loc (c : Thread nD τ) ↦[arg11.view.set]{fullShare} g11))
      ∗ (∃ g12, (arg12.view.loc (c : Thread nD τ) ↦[arg12.view.set]{fullShare} g12)
          ∗ ⌜row0 (arg12.view.read (Elt F) g12) = cm9 (qM (arg5.view.read (Elt F) X5)) (arg6.view.read (Elt F) X6)⌝))) := by
  simp only [cc0_dense_attention_eq_skeleton]; unfold cc0_dense_attention_skel
  iintro ⟨H3, H4, H5, H6, H7, H8, H9, H10, H11, H12⟩
  sl_exec (disch := exact hi)
  sl_unfold_run_names
  generalize hq : k0_pay81 (View.readAt (Elt F) arg4.view (Rect.unit (s := S1x1x96x1024) ![0, 0, 0, 0] S1x1x96x1024.size inb_S1x1x96x1024_S1x1x96x1024_0_0_0_0).toLoadRect X4) = q
  have hq' : qM (arg4.view.read (Elt F) X4) = q := (congrArg qM (readAt_whole arg4.view (by decide) _ X4)).symm.trans hq
  rw [hq'] at h9 h12
  sl_for (invL c arg6 arg7 arg9 arg10 arg11 X6 X7 q (m0Of (arg3.view.read (Elt F) X3)) (a0Of (arg3.view.read (Elt F) X3))) $$ [H6 H7 H9 H10 H11]
  case region =>
    intro k acc
    exact trip 𝒱 c bd E i arg3 harg3 arg4 harg4 arg5 harg5 arg6 harg6 arg7 harg7 arg8 harg8 arg9 harg9 arg10 harg10 arg11 harg11 arg12 harg12 _ _ _ _ _ X6 X7 _ _ k acc
  · isplitl [H6]; · iexact H6
    isplitl [H7]; · iexact H7
    isplitl [H9]; · iexists _; iexact H9
    isplitl [H10]
    · iexists _; isplitl [H10]; · iexact H10
      ipureintro
      sl_unfold_run_names
      subst hq
      refine ⟨?_, ?_, ?_, ?_, ?_, ?_, ?_, ?_⟩ <;>
        (repeat refine (rowsAt_cons_ne (N := 2048) (by decide) _ _ _ _ _ (by decide) (by decide)).trans ?_) <;>
        refine (rowsAt_cons_self (N := 2048) (by decide) _ _ _ _ _).trans ?_ <;>
        simp only [↓readAt_kv0, ↓readAt_q0] <;> exact shapeCast_self _ _
    isplitl [H11]
    · iexists _; isplitl [H11]; · iexact H11
      ipureintro
      sl_unfold_run_names
      subst hq
      refine (View.read_writes_full _ _ _ _ _).trans ?_
      simp (disch := decide) only [↓View.readCov_cons_toLoadRect, ↓readAt_rows9, h9.1, h9.2.1, h9.2.2.1, h9.2.2.2.1, h9.2.2.2.2.1, h9.2.2.2.2.2.1, h9.2.2.2.2.2.2.1, h9.2.2.2.2.2.2.2.1, h9.2.2.2.2.2.2.2.2, ↓readAt_row0, h12,
        ↓readAt_kv0, ↓readAt_vv0, ↓readAt_init0, ↓readAt_init1, ↓readAt_q0]
      simp only [k0_pay83, k0_pay85, k0_pay86, k0_pay91, k0_pay93, k0_pay97, k0_pay99, k0_pay103, k0_pay106, k0_pay110, k0_pay113, k0_pay115, k0_pay116, shapeCast_self]
      rfl
    ipureintro
    sl_unfold_run_names
    subst hq
    simp only [↓readAt_row0, h12, ↓readAt_kv0, ↓readAt_init0, ↓readAt_q0]
    rfl
  iintro %acc ⟨H6, H7, ⟨%g9, H9⟩, ⟨%g10, H10, %h10⟩, ⟨%g11, H11, %h11⟩, %hacc⟩
  have ht : k0_t1_loop.trips = 3 := by decide +kernel
  replace h10 : Has8 (arg10.view.read (Elt F) g10) q (arg6.view.read (Elt F) X6) (2048 * (2 * 3 + 1)) := by rw [← ht]; exact h10
  replace h11 : arg11.view.read (Elt F) g11 = stA q (arg6.view.read (Elt F) X6) (arg7.view.read (Elt F) X7)
      (m0Of (arg3.view.read (Elt F) X3)) (a0Of (arg3.view.read (Elt F) X3)) (2 * 3) := by rw [← ht]; exact h11
  replace hacc : acc = (stM q (arg6.view.read (Elt F) X6) (m0Of (arg3.view.read (Elt F) X3)) (2 * 3), cm8 q (arg6.view.read (Elt F) X6) (2048 * (2 * 3 + 1))) := by
    rw [← ht]; exact hacc
  subst hacc
  sl_exec
  sl_step
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    sl_unfold_run_names
    refine (View.read_writes_full _ _ _ _ _).trans ?_
    simp (disch := decide) only [↓View.readCov_cons_toLoadRect, ↓readAt_rows10, h10.1, h10.2.1, h10.2.2.1, h10.2.2.2.1, h10.2.2.2.2.1, h10.2.2.2.2.2.1, h10.2.2.2.2.2.2.1, h10.2.2.2.2.2.2.2, ↓readAt_vv0, ↓readAt_q0]
    rw [readAt_whole _ (by decide), h11]
    unfold outB
    rw [hq', stA_succ]
    refine congrArg k0_pay2 ?_
    simp only [k0_pay147, shapeCast_self]
    rfl
  isplitl [H9]
  · iexists _; isplitl [H9]; · iexact H9
    ipureintro
    sl_unfold_run_names
    refine ⟨?_, ?_, ?_, ?_, ?_, ?_, ?_, ?_, ?_⟩ <;>
      (repeat refine (rowsAt_cons_ne (N := 2304) (by decide) _ _ _ _ _ (by decide) (by decide)).trans ?_) <;>
      refine (rowsAt_cons_self (N := 2304) (by decide) _ _ _ _ _).trans ?_ <;>
      simp only [↓readAt_kv0, ↓readAt_q0] <;> exact shapeCast_self _ _
  isplitl [H10]; · iexists _; iexact H10
  isplitl [H11]; · iexists _; iexact H11
  iexists _; isplitl [H12]; · iexact H12
  ipureintro
  sl_unfold_run_names
  refine (row0_cons _ _ _ _ _).trans ?_
  simp only [↓readAt_kv0, ↓readAt_q0]
  exact shapeCast_self _ _

end Cert.KernelIdeal.Att
end
-- ==== Proof.BodyFirst.lean ====
module

public import proofs.«01_k».proof.Proof.Trip

/-! The kernel's body at one grid point: of a head's first query tile, which also computes its own first scores, leaving the
next query tile's first scores in scratch. -/

@[expose] public section

set_option maxRecDepth 16384
set_option maxHeartbeats 4000000

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
local notation "𝕄G" => MT nD τ sig Unit (Elt F) ℕ (UR sig nD τ) ℕ

theorem body_first (𝒱 : Variants) (c : Dev nD) (bd : Option 𝒱.V) (E : Set ℕ) (i : grid0.Coords) (arg3 : Memref sig .tc .vmem S1x2x128 .f32) (harg3 : arg3.IsWhole) (arg4 : Memref sig .tc .vmem S1x1x96x1024 .bf16) (harg4 : arg4.IsWhole) (arg5 : Memref sig .tc .vmem S1x1x96x1024 .bf16) (harg5 : arg5.IsWhole) (arg6 : Memref sig .tc .vmem S1x1x16640x96 .bf16) (harg6 : arg6.IsWhole) (arg7 : Memref sig .tc .vmem S1x1x80x16640 .bf16) (harg7 : arg7.IsWhole) (arg8 : Memref sig .tc .vmem S1x1x64x1024 .f32) (harg8 : arg8.IsWhole) (arg9 : Memref sig .tc .vmem S2304x1024 .f32) (harg9 : arg9.IsWhole) (arg10 : Memref sig .tc .vmem S2048x1024 .f32) (harg10 : arg10.IsWhole) (arg11 : Memref sig .tc .vmem S80x1024 .f32) (harg11 : arg11.IsWhole) (arg12 : Memref sig .tc .vmem S8x1024 .f32) (harg12 : arg12.IsWhole)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty)
    (hi : (Scalar.cmpi .ne (Scalar.extui (Scalar.cmpi .eq (BitVec.ofNat 32 (i 2).val) 0#32) : BitVec 32) 0#32 = 1#1)) :
    (iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)) : sProp 𝕄G)
      ⊢ wp frame (wpE (defs₀ (F := F)) 𝒱 (c : Thread nD τ) bd) E (cc0_dense_attention (F := F) i arg3 harg3 arg4 harg4 arg5 harg5 arg6 harg6 arg7 harg7 arg8 harg8 arg9 harg9 arg10 harg10 arg11 harg11 arg12 harg12)
        (fun _ => iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7)
      ∗ (∃ g8, (arg8.view.loc (c : Thread nD τ) ↦[arg8.view.set]{fullShare} g8)
          ∗ ⌜arg8.view.read (Elt F) g8 = outB (arg3.view.read (Elt F) X3) (arg4.view.read (Elt F) X4) (arg6.view.read (Elt F) X6) (arg7.view.read (Elt F) X7)⌝)
      ∗ (∃ g9, (arg9.view.loc (c : Thread nD τ) ↦[arg9.view.set]{fullShare} g9)
          ∗ ⌜Has9 (arg9.view.read (Elt F) g9) (qM (arg5.view.read (Elt F) X5)) (arg6.view.read (Elt F) X6)⌝)
      ∗ (∃ g10, (arg10.view.loc (c : Thread nD τ) ↦[arg10.view.set]{fullShare} g10))
      ∗ (∃ g11, (arg11.view.loc (c : Thread nD τ) ↦[arg11.view.set]{fullShare} g11))
      ∗ (∃ g12, (arg12.view.loc (c : Thread nD τ) ↦[arg12.view.set]{fullShare} g12)
          ∗ ⌜row0 (arg12.view.read (Elt F) g12) = cm9 (qM (arg5.view.read (Elt F) X5)) (arg6.view.read (Elt F) X6)⌝))) := by
  simp only [cc0_dense_attention_eq_skeleton]; unfold cc0_dense_attention_skel
  iintro ⟨H3, H4, H5, H6, H7, H8, H9, H10, H11, H12⟩
  sl_exec (disch := exact hi)
  sl_unfold_run_names
  generalize hq : k0_pay81 (View.readAt (Elt F) arg4.view (Rect.unit (s := S1x1x96x1024) ![0, 0, 0, 0] S1x1x96x1024.size inb_S1x1x96x1024_S1x1x96x1024_0_0_0_0).toLoadRect X4) = q
  have hq' : qM (arg4.view.read (Elt F) X4) = q := (congrArg qM (readAt_whole arg4.view (by decide) _ X4)).symm.trans hq
  sl_for (invL c arg6 arg7 arg9 arg10 arg11 X6 X7 q (m0Of (arg3.view.read (Elt F) X3)) (a0Of (arg3.view.read (Elt F) X3))) $$ [H6 H7 H9 H10 H11]
  case region =>
    intro k acc
    exact trip 𝒱 c bd E i arg3 harg3 arg4 harg4 arg5 harg5 arg6 harg6 arg7 harg7 arg8 harg8 arg9 harg9 arg10 harg10 arg11 harg11 arg12 harg12 _ _ _ _ _ X6 X7 _ _ k acc
  · isplitl [H6]; · iexact H6
    isplitl [H7]; · iexact H7
    isplitl [H9]; · iexists _; iexact H9
    isplitl [H10]
    · iexists _; isplitl [H10]; · iexact H10
      ipureintro
      sl_unfold_run_names
      subst hq
      refine ⟨?_, ?_, ?_, ?_, ?_, ?_, ?_, ?_⟩ <;>
        (repeat refine (rowsAt_cons_ne (N := 2048) (by decide) _ _ _ _ _ (by decide) (by decide)).trans ?_) <;>
        refine (rowsAt_cons_self (N := 2048) (by decide) _ _ _ _ _).trans ?_ <;>
        simp only [↓readAt_kv0, ↓readAt_q0] <;> exact shapeCast_self _ _
    isplitl [H11]
    · iexists _; isplitl [H11]; · iexact H11
      ipureintro
      sl_unfold_run_names
      subst hq
      refine (View.read_writes_full _ _ _ _ _).trans ?_
      simp (disch := decide) only [↓View.readCov_cons_toLoadRect, ↓readCov9_ne,
        ↓readAt_kv0, ↓readAt_vv0, ↓readAt_init0, ↓readAt_init1, ↓readAt_q0]
      simp only [k0_pay4, k0_pay6, k0_pay8, k0_pay12, k0_pay14, k0_pay16, k0_pay19, k0_pay83, k0_pay85, k0_pay86, k0_pay91, k0_pay93, k0_pay97, k0_pay99, k0_pay103, k0_pay106, k0_pay110, k0_pay113, k0_pay115, k0_pay116, shapeCast_self]
      rfl
    ipureintro
    sl_unfold_run_names
    subst hq
    simp only [↓View.readCov_cons_toLoadRect, ↓readAt_kv0, ↓readAt_init0, ↓readAt_q0]
    simp only [k0_pay86, shapeCast_self]
    rfl
  iintro %acc ⟨H6, H7, ⟨%g9, H9⟩, ⟨%g10, H10, %h10⟩, ⟨%g11, H11, %h11⟩, %hacc⟩
  have ht : k0_t1_loop.trips = 3 := by decide +kernel
  replace h10 : Has8 (arg10.view.read (Elt F) g10) q (arg6.view.read (Elt F) X6) (2048 * (2 * 3 + 1)) := by rw [← ht]; exact h10
  replace h11 : arg11.view.read (Elt F) g11 = stA q (arg6.view.read (Elt F) X6) (arg7.view.read (Elt F) X7)
      (m0Of (arg3.view.read (Elt F) X3)) (a0Of (arg3.view.read (Elt F) X3)) (2 * 3) := by rw [← ht]; exact h11
  replace hacc : acc = (stM q (arg6.view.read (Elt F) X6) (m0Of (arg3.view.read (Elt F) X3)) (2 * 3), cm8 q (arg6.view.read (Elt F) X6) (2048 * (2 * 3 + 1))) := by
    rw [← ht]; exact hacc
  subst hacc
  sl_exec
  sl_step
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    sl_unfold_run_names
    refine (View.read_writes_full _ _ _ _ _).trans ?_
    simp (disch := decide) only [↓View.readCov_cons_toLoadRect, ↓readAt_rows10, h10.1, h10.2.1, h10.2.2.1, h10.2.2.2.1, h10.2.2.2.2.1, h10.2.2.2.2.2.1, h10.2.2.2.2.2.2.1, h10.2.2.2.2.2.2.2, ↓readAt_vv0, ↓readAt_q0]
    rw [readAt_whole _ (by decide), h11]
    unfold outB
    rw [hq', stA_succ]
    refine congrArg k0_pay2 ?_
    simp only [k0_pay147, shapeCast_self]
    rfl
  isplitl [H9]
  · iexists _; isplitl [H9]; · iexact H9
    ipureintro
    sl_unfold_run_names
    refine ⟨?_, ?_, ?_, ?_, ?_, ?_, ?_, ?_, ?_⟩ <;>
      (repeat refine (rowsAt_cons_ne (N := 2304) (by decide) _ _ _ _ _ (by decide) (by decide)).trans ?_) <;>
      refine (rowsAt_cons_self (N := 2304) (by decide) _ _ _ _ _).trans ?_ <;>
      simp only [↓readAt_kv0, ↓readAt_q0] <;> exact shapeCast_self _ _
  isplitl [H10]; · iexists _; iexact H10
  isplitl [H11]; · iexists _; iexact H11
  iexists _; isplitl [H12]; · iexact H12
  ipureintro
  sl_unfold_run_names
  refine (row0_cons _ _ _ _ _).trans ?_
  simp only [↓readAt_kv0, ↓readAt_q0]
  exact shapeCast_self _ _

end Cert.KernelIdeal.Att
end
-- ==== Proof.Blocks.lean ====
module

public import proofs.«01_k».proof.Proof.Step
public import Idealize.ShloMosaic.Lib.Pipeline.ValueKit

/-! The input windows' blocks at coordinates, and how a point's blocks follow from those of the point before it. -/

@[expose] public section

set_option maxRecDepth 16384

noncomputable section

namespace Cert.KernelIdeal.Att

open Idealize.ShloMosaic Idealize.ShloMosaic.TcCoe Idealize.ShloMosaic.ValueIdx
open Idealize.SL Idealize.SL.Sem
open Cert.KernelIdeal.Gen

variable {F : FTy → Type} [FloatOps F]
variable (m : (ℓ : Loc nD τ sig) → Buf (Elt F) ℓ)

/-- The batch, the head and the query tile of a grid point. -/
abbrev bOf (t : Fin cfg0.N) : ℕ := (grid0.coords t 0).val
abbrev hOf (t : Fin cfg0.N) : ℕ := (grid0.coords t 1).val
abbrev jOf (t : Fin cfg0.N) : ℕ := (grid0.coords t 2).val

theorem idx0 : ∀ t : Fin cfg0.N, win0_0.index t = ![hOf t, 0, 0] := (by decide +kernel : ∀ t : Fin grid0.N, _)
theorem idx1 : ∀ t : Fin cfg0.N, win0_1.index t = ![bOf t, hOf t, 0, jOf t] := (by decide +kernel : ∀ t : Fin grid0.N, _)
theorem idx2 : ∀ t : Fin cfg0.N, win0_2.index t = ![bOf t, hOf t, 0, min (jOf t + 1) 15] := (by decide +kernel : ∀ t : Fin grid0.N, _)
theorem idx3 : ∀ t : Fin cfg0.N, win0_3.index t = ![bOf t, hOf t, 0, 0] := (by decide +kernel : ∀ t : Fin grid0.N, _)
theorem idx4 : ∀ t : Fin cfg0.N, win0_4.index t = ![bOf t, hOf t, 0, 0] := (by decide +kernel : ∀ t : Fin grid0.N, _)
theorem idx5 : ∀ t : Fin cfg0.N, win0_5.index t = ![bOf t, hOf t, 0, jOf t] := (by decide +kernel : ∀ t : Fin grid0.N, _)

theorem blk0 (c : Dev nD) (t : Fin cfg0.N) (y : S1x2x128.Idx) (z : S8x2x128.Idx)
    (h0 : (z 0).val = hOf t + (y 0).val) (h1 : (z 1).val = (y 1).val) (h2 : (z 2).val = (y 2).val) :
    iblk m c 0 t y = V m c main_v21 z := by
  have e := idx0 t
  blk_simp [iblk]
  congr 1
  funext a; apply Fin.ext
  fin_cases a
  all_goals (blk_simp [e]; simp at *; omega)

theorem blk1 (c : Dev nD) (t : Fin cfg0.N) (y : S1x1x96x1024.Idx) (z : S2x8x96x16640.Idx)
    (h0 : (z 0).val = bOf t + (y 0).val) (h1 : (z 1).val = hOf t + (y 1).val) (h2 : (z 2).val = (y 2).val)
    (h3 : (z 3).val = jOf t * 1024 + (y 3).val) :
    X0_1 m c t y = V m c main_v19 z := by
  have e := idx1 t
  unfold X0_1 Pipeline.Window.fill
  rw [dif_pos (moved0_1 t y)]
  blk_simp [iblk]
  congr 1
  funext a; apply Fin.ext
  fin_cases a <;> (blk_simp [e]; simp at *; omega)

theorem blk3 (c : Dev nD) (t : Fin cfg0.N) (y : S1x1x16640x96.Idx) (z : S2x8x16640x96.Idx)
    (h0 : (z 0).val = bOf t + (y 0).val) (h1 : (z 1).val = hOf t + (y 1).val) (h2 : (z 2).val = (y 2).val)
    (h3 : (z 3).val = (y 3).val) :
    iblk m c 3 t y = V m c main_v8 z := by
  have e := idx3 t
  blk_simp [iblk]
  congr 1
  funext a; apply Fin.ext
  fin_cases a
  all_goals (blk_simp [e]; simp at *; omega)

theorem blk4 (c : Dev nD) (t : Fin cfg0.N) (y : S1x1x80x16640.Idx) (z : S2x8x80x16640.Idx)
    (h0 : (z 0).val = bOf t + (y 0).val) (h1 : (z 1).val = hOf t + (y 1).val) (h2 : (z 2).val = (y 2).val)
    (h3 : (z 3).val = (y 3).val) :
    iblk m c 4 t y = V m c main_v18 z := by
  have e := idx4 t
  blk_simp [iblk]
  congr 1
  funext a; apply Fin.ext
  fin_cases a
  all_goals (blk_simp [e]; simp at *; omega)

/-- A point's successor on the same head: the same batch and head, the next query tile. -/
theorem next_coords : ∀ t t' : Fin cfg0.N, t'.val = t.val + 1 → t'.val % 16 ≠ 0 →
    bOf t' = bOf t ∧ hOf t' = hOf t ∧ jOf t' = jOf t + 1 := by
  have h : ∀ t : Fin cfg0.N, bOf t = t.val / 128 ∧ hOf t = t.val / 16 % 8 ∧ jOf t = t.val % 16 :=
    (by decide +kernel : ∀ t : Fin grid0.N, _)
  intro t t' e n
  obtain ⟨a, b, d⟩ := h t; obtain ⟨a', b', d'⟩ := h t'
  omega

theorem jOf_eq : ∀ t : Fin cfg0.N, jOf t = t.val % 16 := (by decide +kernel : ∀ t : Fin grid0.N, _)

theorem keys_next (c : Dev nD) (t t' : Fin cfg0.N) (h : t'.val = t.val + 1) (hn : t'.val % 16 ≠ 0) :
    (iblk m c 3 t' : S1x1x16640x96.Idx → Elt F .bf16) = iblk m c 3 t := by
  obtain ⟨hb, hh, -⟩ := next_coords t t' h hn
  have e := idx3 t; have e' := idx3 t'
  funext y
  blk_simp [iblk]
  congr 1
  funext a; apply Fin.ext
  blk_simp [e, e', hb, hh]

theorem query_next (c : Dev nD) (t t' : Fin cfg0.N) (h : t'.val = t.val + 1) (hn : t'.val % 16 ≠ 0) :
    (X0_1 m c t' : S1x1x96x1024.Idx → Elt F .bf16) = X0_2 m c t := by
  obtain ⟨hb, hh, hj⟩ := next_coords t t' h hn
  have e := idx2 t; have e' := idx1 t'
  have hj' : min (jOf t + 1) 15 = jOf t' := by
    have := jOf_eq t'; omega
  rw [hj'] at e
  funext y
  unfold X0_1 X0_2 Pipeline.Window.fill
  rw [dif_pos (moved0_1 t' y), dif_pos (moved0_2 t y)]
  blk_simp [iblk]
  congr 1
  funext a; apply Fin.ext
  fin_cases a
  all_goals (blk_simp [e, e', hb, hh])

/-- The kernel's condition is the head's first query tile. -/
theorem first_iff : ∀ t : Fin cfg0.N, (Scalar.cmpi .ne (Scalar.extui (Scalar.cmpi .eq (BitVec.ofNat 32 (grid0.coords t 2).val) 0#32) : BitVec 32) 0#32 = 1#1) ↔ t.val % 16 = 0 :=
  (by decide +kernel : ∀ t : Fin grid0.N, _)

end Cert.KernelIdeal.Att
end
-- ==== Proof.Run.lean ====
module

public import proofs.«01_k».proof.Proof.Body
public import proofs.«01_k».proof.Proof.BodyFirst
public import proofs.«01_k».proof.Proof.Blocks

/-! The launch: the scratch carries the query tile's first scores from point to point, and the output's staging buffer
holds at each point the attention of the point's blocks. -/

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)
open Cert.KernelIdeal.Gen

variable {F : FTy → Type} [FloatOps F]
local notation "𝕄G" => MT nD τ sig Unit (Elt F) ℕ (UR sig nD τ) ℕ

variable (m : (ℓ : Loc nD τ sig) → Buf (Elt F) ℓ) (ρ : Dev nD → PrngReg)

abbrev s9 : Memref sig .tc .vmem S2304x1024 .f32 := Memref.whole cc0_scratch0
abbrev s10 : Memref sig .tc .vmem S2048x1024 .f32 := Memref.whole cc0_scratch1
abbrev s11 : Memref sig .tc .vmem S80x1024 .f32 := Memref.whole cc0_scratch2
abbrev s12 : Memref sig .tc .vmem S8x1024 .f32 := Memref.whole cc0_scratch3

/-- The blocks of a point, at their own shapes. -/
abbrev kB (c : Dev nD) (t : Fin cfg0.N) : FVec F S1x1x16640x96 .bf16 := iblk m c 3 t
abbrev qB (c : Dev nD) (t : Fin cfg0.N) : FVec F S1x1x96x1024 .bf16 := X0_1 m c t
abbrev oB (c : Dev nD) (t : Fin cfg0.N) : FVec F S1x1x64x1024 .f32 :=
  outB (iblk m c 0 t) (X0_1 m c t) (iblk m c 3 t) (iblk m c 4 t)

/-- What the score buffers hold before position `n`: unless a head starts there, the first scores of its query tile. -/
def T9 (c : Dev nD) (n : ℕ) (X : FVec F S2304x1024 .f32) : Prop :=
  ∀ t : Fin cfg0.N, t.val = n → t.val % 16 ≠ 0 → Has9 X (qM (qB m c t)) (kB m c t)
def T12 (c : Dev nD) (n : ℕ) (X : FVec F S8x1024 .f32) : Prop :=
  ∀ t : Fin cfg0.N, t.val = n → t.val % 16 ≠ 0 → row0 X = cm9 (qM (qB m c t)) (kB m c t)

/-- The scratch and the generator register between points. -/
def Inv (c : Dev nD) (n : ℕ) : sProp 𝕄G :=
  iprop((∃ X, owns (c : Thread nD τ) s9 fullShare X ∗ ⌜T9 m c n X⌝)
    ∗ (∃ X, owns (c : Thread nD τ) s10 fullShare X) ∗ (∃ X, owns (c : Thread nD τ) s11 fullShare X)
    ∗ (∃ X, owns (c : Thread nD τ) s12 fullShare X ∗ ⌜T12 m c n X⌝) ∗ (∃ r, prngReg c r))

def dats (_ : Fin 1) (c : Dev nD) : Dat τ (Elt F) Unit ℕ (UR sig nD τ) ℕ cfg0 c where
  A w := V m c (Pipeline.arrRef spec0 w)
  after w t := match w with
    | 0 => iblk m c 0 t
    | 1 => X0_1 m c t
    | 2 => X0_2 m c t
    | 3 => iblk m c 3 t
    | 4 => iblk m c 4 t
    | 5 => oB m c t
    | ⟨_ + 6, h⟩ => absurd h (Nat.not_lt.2 (Nat.le_add_left _ _))
  Φ n := Inv m c n.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = oB m c t := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = X0_1 m c t :=
  before0_1_of m _ (A_eq m c 1) (after_1 m c) t d
theorem before_2 (c : Dev nD) (t : Fin cfg0.N) (d) : (dats m 0 c).before 2 t d = X0_2 m c t :=
  before0_2_of m _ (A_eq m c 2) (after_2 m c) t d
theorem before_3 (c : Dev nD) (t : Fin cfg0.N) (d) : (dats m 0 c).before 3 t d = iblk m c 3 t :=
  before0_3_of m _ (A_eq m c 3) (after_3 m c) t d
theorem before_4 (c : Dev nD) (t : Fin cfg0.N) (d) : (dats m 0 c).before 4 t d = iblk m c 4 t :=
  before0_4_of m _ (A_eq m c 4) (after_4 m c) t d

/-- The staging buffers at a point, at given contents of the output's. -/
def bodyPre (c : Dev nD) (t : Fin cfg0.N) : sProp 𝕄G :=
  iprop(Inv m c t.val ∗ (dats m 0 c).owesAt () t.castSucc
    ∗ owns (c : Thread nD τ) (st0_0 t) fullShare (iblk m c 0 t) ∗ owns (c : Thread nD τ) (st0_1 t) fullShare (X0_1 m c t)
    ∗ owns (c : Thread nD τ) (st0_2 t) fullShare (X0_2 m c t) ∗ owns (c : Thread nD τ) (st0_3 t) fullShare (iblk m c 3 t)
    ∗ owns (c : Thread nD τ) (st0_4 t) fullShare (iblk m c 4 t) ∗ (∃ X, owns (c : Thread nD τ) (st0_5 t) fullShare X))
def bodyPost (c : Dev nD) (t : Fin cfg0.N) : sProp 𝕄G :=
  iprop(Inv m c (t.val + 1) ∗ (dats m 0 c).owesAt () t.castSucc
    ∗ owns (c : Thread nD τ) (st0_0 t) fullShare (iblk m c 0 t) ∗ owns (c : Thread nD τ) (st0_1 t) fullShare (X0_1 m c t)
    ∗ owns (c : Thread nD τ) (st0_2 t) fullShare (X0_2 m c t) ∗ owns (c : Thread nD τ) (st0_3 t) fullShare (iblk m c 3 t)
    ∗ owns (c : Thread nD τ) (st0_4 t) fullShare (iblk m c 4 t) ∗ owns (c : Thread nD τ) (st0_5 t) fullShare (oB m c t))

/-- What the body leaves in scratch is what the next position needs. -/
theorem T9_next (c : Dev nD) (t : Fin cfg0.N) (X : FVec F S2304x1024 .f32)
    (h : Has9 X (qM (X0_2 m c t : FVec F S1x1x96x1024 .bf16)) (kB m c t)) : T9 m c (t.val + 1) X := by
  intro t' e n
  have ek := keys_next m c t t' e n
  have eq := query_next m c t t' e n
  unfold qB kB; rw [eq, ek]; exact h
theorem T12_next (c : Dev nD) (t : Fin cfg0.N) (X : FVec F S8x1024 .f32)
    (h : row0 X = cm9 (qM (X0_2 m c t : FVec F S1x1x96x1024 .bf16)) (kB m c t)) : T12 m c (t.val + 1) X := by
  intro t' e n
  have ek := keys_next m c t t' e n
  have eq := query_next m c t t' e n
  unfold qB kB; rw [eq, ek]; exact h

/-- A pure fact beside a points-to is the contents owned. -/
theorem owns_of (c : Dev nD) {sp : Space} {sh : Shape} {e : EltTy} (M : Memref sig .tc sp sh e) (f : BufTy.Contents (Elt F) M.view.ty) (X : sh.Idx → Elt F e)
    (h : M.view.read (Elt F) f = X) : (M.view.loc (c : Thread nD τ) ↦[M.view.set]{fullShare} f : sProp 𝕄G) ⊢ owns (c : Thread nD τ) M fullShare X := by
  unfold owns
  iintro H; iexists f; isplitr
  · ipureintro; exact h
  · iexact H

theorem sound_body (𝒱 : Variants) (c : Dev nD) (t : Fin cfg0.N) :
    bodyPre m c t ⊢ wp frame (wpE (defs₀ (F := F)) 𝒱 (c : Thread nD τ) none) Set.univ (bodyAt0 t) (fun _ => bodyPost m c t) := by
  unfold bodyPre Inv owns
  iintro ⟨⟨⟨%X9, ⟨%f9, %e9, H9⟩, %h9⟩, ⟨%X10, %f10, -, H10⟩, ⟨%X11, %f11, -, H11⟩, ⟨%X12, ⟨%f12, %e12, H12⟩, %h12⟩, Hr⟩, HO,
    ⟨%f3, %e3, H3⟩, ⟨%f4, %e4, H4⟩, ⟨%f5, %e5, H5⟩, ⟨%f6, %e6, H6⟩, ⟨%f7, %e7, H7⟩, ⟨%X8, %f8, -, H8⟩⟩
  have key : (iprop(((st0_0 t).view.loc (c : Thread nD τ) ↦[(st0_0 t).view.set]{fullShare} f3) ∗ ((st0_1 t).view.loc (c : Thread nD τ) ↦[(st0_1 t).view.set]{fullShare} f4)
      ∗ ((st0_2 t).view.loc (c : Thread nD τ) ↦[(st0_2 t).view.set]{fullShare} f5) ∗ ((st0_3 t).view.loc (c : Thread nD τ) ↦[(st0_3 t).view.set]{fullShare} f6)
      ∗ ((st0_4 t).view.loc (c : Thread nD τ) ↦[(st0_4 t).view.set]{fullShare} f7) ∗ ((st0_5 t).view.loc (c : Thread nD τ) ↦[(st0_5 t).view.set]{fullShare} f8)
      ∗ (s9.view.loc (c : Thread nD τ) ↦[s9.view.set]{fullShare} f9) ∗ (s10.view.loc (c : Thread nD τ) ↦[s10.view.set]{fullShare} f10)
      ∗ (s11.view.loc (c : Thread nD τ) ↦[s11.view.set]{fullShare} f11) ∗ (s12.view.loc (c : Thread nD τ) ↦[s12.view.set]{fullShare} f12)) : sProp 𝕄G)
      ⊢ wp frame (wpE (defs₀ (F := F)) 𝒱 (c : Thread nD τ) none) Set.univ (bodyAt0 t)
        (fun _ => iprop(((st0_0 t).view.loc (c : Thread nD τ) ↦[(st0_0 t).view.set]{fullShare} f3) ∗ ((st0_1 t).view.loc (c : Thread nD τ) ↦[(st0_1 t).view.set]{fullShare} f4)
      ∗ ((st0_2 t).view.loc (c : Thread nD τ) ↦[(st0_2 t).view.set]{fullShare} f5) ∗ ((st0_3 t).view.loc (c : Thread nD τ) ↦[(st0_3 t).view.set]{fullShare} f6)
      ∗ ((st0_4 t).view.loc (c : Thread nD τ) ↦[(st0_4 t).view.set]{fullShare} f7)
      ∗ (∃ g8, ((st0_5 t).view.loc (c : Thread nD τ) ↦[(st0_5 t).view.set]{fullShare} g8)
          ∗ ⌜(st0_5 t).view.read (Elt F) g8 = outB ((st0_0 t).view.read (Elt F) f3) ((st0_1 t).view.read (Elt F) f4) ((st0_3 t).view.read (Elt F) f6) ((st0_4 t).view.read (Elt F) f7)⌝)
      ∗ (∃ g9, (s9.view.loc (c : Thread nD τ) ↦[s9.view.set]{fullShare} g9)
          ∗ ⌜Has9 (s9.view.read (Elt F) g9) (qM ((st0_2 t).view.read (Elt F) f5)) ((st0_3 t).view.read (Elt F) f6)⌝)
      ∗ (∃ g10, (s10.view.loc (c : Thread nD τ) ↦[s10.view.set]{fullShare} g10))
      ∗ (∃ g11, (s11.view.loc (c : Thread nD τ) ↦[s11.view.set]{fullShare} g11))
      ∗ (∃ g12, (s12.view.loc (c : Thread nD τ) ↦[s12.view.set]{fullShare} g12)
          ∗ ⌜row0 (s12.view.read (Elt F) g12) = cm9 (qM ((st0_2 t).view.read (Elt F) f5)) ((st0_3 t).view.read (Elt F) f6)⌝))) := by
    by_cases hz : t.val % 16 = 0
    · exact body_first 𝒱 c none Set.univ (grid0.coords t) _ _ _ _ _ _ _ _ _ _ _ _ _ _ _ _ _ _ _ _ f3 f4 f5 f6 f7 f8 f9 f10 f11 f12 ((first_iff t).mpr hz)
    · refine body_next 𝒱 c none Set.univ (grid0.coords t) _ _ _ _ _ _ _ _ _ _ _ _ _ _ _ _ _ _ _ _ f3 f4 f5 f6 f7 f8 f9 f10 f11 f12 (fun h => hz ((first_iff t).mp h)) ?_ ?_
      · have := h9 t rfl hz
        rw [← e9] at this; unfold qB kB at this; rw [← e4, ← e6] at this; exact this
      · have := h12 t rfl hz
        rw [← e12] at this; unfold qB kB at this; rw [← e4, ← e6] at this; exact this
  iapply (wp_wand_r frame (wpE (defs₀ (F := F)) 𝒱 (c : Thread nD τ) none) Set.univ)
  isplitl [H3 H4 H5 H6 H7 H8 H9 H10 H11 H12]
  · iapply key
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨H3, H4, H5, H6, H7, ⟨%g8, H8, %k8⟩, ⟨%g9, H9, %k9⟩, ⟨%g10, H10⟩, ⟨%g11, H11⟩, ⟨%g12, H12, %k12⟩⟩
  unfold bodyPost Inv
  isplitl [H9 H10 H11 H12 Hr]
  · isplitl [H9]
    · iexists (s9.view.read (Elt F) g9); isplitl [H9]
      · iapply (owns_of c s9 g9 _ rfl); iexact H9
      · ipureintro; rw [e5, e6] at k9; exact T9_next m c t _ k9
    isplitl [H10]
    · iexists (s10.view.read (Elt F) g10); iapply (owns_of c s10 g10 _ rfl); iexact H10
    isplitl [H11]
    · iexists (s11.view.read (Elt F) g11); iapply (owns_of c s11 g11 _ rfl); iexact H11
    isplitl [H12]
    · iexists (s12.view.read (Elt F) g12); isplitl [H12]
      · iapply (owns_of c s12 g12 _ rfl); iexact H12
      · ipureintro; rw [e5, e6] at k12; exact T12_next m c t _ k12
    iexact Hr
  isplitl [HO]; · iexact HO
  isplitl [H3]; · iapply (owns_of c (st0_0 t) f3 _ e3); iexact H3
  isplitl [H4]; · iapply (owns_of c (st0_1 t) f4 _ e4); iexact H4
  isplitl [H5]; · iapply (owns_of c (st0_2 t) f5 _ e5); iexact H5
  isplitl [H6]; · iapply (owns_of c (st0_3 t) f6 _ e6); iexact H6
  isplitl [H7]; · iapply (owns_of c (st0_4 t) f7 _ e7); iexact H7
  iapply (owns_of c (st0_5 t) g8 _ (by rw [e3, e4, e6, e7] at k8; exact k8)); iexact H8

/-- The body table's row at a point is the body as called there. -/
theorem defs₀_row (t : Fin cfg0.N) : defs₀ (F := F) .tc cfg0.body (cfg0.bodyArgs t (cfg0.slots t)) = bodyAt0 t := by
  unfold defs₀; rw [Defs.onTc_tc]

/-- The staging buffers handed to the body are those of its precondition. -/
theorem pre_of (c : Dev nD) (t : Fin cfg0.N) :
    (iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))) : sProp 𝕄G)
      ⊢ bodyPre m c t := by
  rw [show (dats m 0 c).Φ t.castSucc = Inv m c t.val from by dsimp only [dats]; rfl]
  simp only [before_0, before_1, before_2, before_3, before_4]
  unfold bodyPre
  iintro ⟨HI, HO, ⟨%d0, H0⟩, ⟨%d1, H1⟩, ⟨%d2, H2⟩, ⟨%d3, H3⟩, ⟨%d4, H4⟩, ⟨%d5, H5⟩⟩
  isplitl [HI]; · iexact HI
  isplitl [HO]; · iexact HO
  isplitl [H0]; · iexact H0
  isplitl [H1]; · iexact H1
  isplitl [H2]; · iexact H2
  isplitl [H3]; · iexact H3
  isplitl [H4]; · iexact H4
  iexists _; iexact H5

/-- The body's postcondition is the pipeline's. -/
theorem post_of (c : Dev nD) (t : Fin cfg0.N) :
    bodyPost m c t ⊢ (iprop((dats m 0 c).Φ t.succ ∗ (dats m 0 c).owesAt () t.succ
      ∗ owns (c : Thread nD τ) (st0_0 t) fullShare ((dats m 0 c).after 0 t) ∗ owns (c : Thread nD τ) (st0_1 t) fullShare ((dats m 0 c).after 1 t)
      ∗ owns (c : Thread nD τ) (st0_2 t) fullShare ((dats m 0 c).after 2 t) ∗ owns (c : Thread nD τ) (st0_3 t) fullShare ((dats m 0 c).after 3 t)
      ∗ owns (c : Thread nD τ) (st0_4 t) fullShare ((dats m 0 c).after 4 t) ∗ owns (c : Thread nD τ) (st0_5 t) fullShare ((dats m 0 c).after 5 t)) : sProp 𝕄G) := by
  rw [show (dats m 0 c).Φ t.succ = Inv m c (t.val + 1) from by dsimp only [dats]; rfl,
    show (dats m 0 c).owesAt () t.succ = (dats m 0 c).owesAt () t.castSucc from rfl,
    after_0, after_1, after_2, after_3, after_4, after_5]
  exact .rfl

theorem body_obligation (𝒱 : Variants) (c : Dev nD) : BodyObligation (dats (F := F) m 0 c) (defs₀ (F := F)) 𝒱 () Set.univ := fun t => by
  rw [bigSep_W0, bigSep_W0, defs₀_row]
  exact triple_restated (sound_body m 𝒱 c t) rfl (pre_of m c t) fun _ => post_of m c t

/-- The scratch at anything and the generator register are what the pipeline starts from, -/
theorem hin (c : Dev nD) : (Pipeline.ΦA spec0 c : sProp 𝕄G) ⊢ (dats m 0 c).Φ 0 := by
  rw [show (dats m 0 c).Φ 0 = Inv m c 0 from by dsimp only [dats]; rfl]
  unfold Pipeline.ΦA Inv
  rw [scopedRest0_eq]
  simp only [owns_whole]
  iintro ⟨⟨⟨%f0, H0⟩, ⟨%f1, H1⟩, ⟨%f2, H2⟩, ⟨%f3, H3⟩⟩, Hr⟩
  isplitl [H0]
  · iexists f0; isplitl [H0]
    · iexact H0
    · ipureintro; intro t e n; exact absurd (by omega) n
  isplitl [H1]; · iexists f1; iexact H1
  isplitl [H2]; · iexists f2; iexact H2
  isplitl [H3]
  · iexists f3; isplitl [H3]
    · iexact H3
    · ipureintro; intro t e n; exact absurd (by omega) n
  iexact Hr

/-- and what it ends with. -/
theorem hout (c : Dev nD) : (dats m 0 c).Φ (Fin.last cfg0.N) ⊢ (Pipeline.ΦA spec0 c : sProp 𝕄G) := by
  rw [show (dats m 0 c).Φ (Fin.last cfg0.N) = Inv m c (Fin.last cfg0.N).val from by dsimp only [dats]]
  generalize (Fin.last cfg0.N).val = n
  unfold Pipeline.ΦA Inv
  rw [scopedRest0_eq]
  simp only [owns_whole]
  iintro ⟨⟨%f0, H0, -⟩, ⟨%f1, H1⟩, ⟨%f2, H2⟩, ⟨%f3, H3, -⟩, Hr⟩
  isplitl [H0 H1 H2 H3]
  · isplitl [H0]; · iexists f0; iexact H0
    isplitl [H1]; · iexists f1; iexact H1
    isplitl [H2]; · iexists f2; iexact H2
    iexists f3; iexact H3
  iexact Hr

set_option backward.isDefEq.respectTransparency.types false in
/-- From any memory with zero counters every execution of `main` terminates, every array ends at what the library
computes of the proof data, every other buffer as found, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m Variants.none c).loose) (hq := fun _ _ _ => rfl)
    (howed := fun _ _ => rfl) (V := V m) (hmain := hmain m Variants.none) (hA := A_eq m)
    (hin := hin m) (hout := hout m)

/-- The run read at the arguments, the result and the counters. -/
theorem run_args : θ_run defs (onTc (τ := τ) (main (F := F))) ⟨m, fun _ => 0, ρ⟩ (fun r => (∀ c : Dev nD,
      r.2.mem ((c.tc : Thread nD τ).loc main_v22) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r (h : _ ∧ _) => ⟨fun c =>
    ⟨(h.1 c).1 5,
     ((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c)⟩, h.2⟩) (run_main m ρ)

end Cert.KernelIdeal.Att
end
-- ==== Proof.Frames.lean ====
module

public import proofs.«01_k».proof.Defs
public import proofs.«01_k».proof.Proof.Run
public import proofs.«01_k».proof.Proof.Gen.Kernel
public import proofs.«01_k».proof.Proof.Gen.ReferenceIdeal.Run

/-! The frames: the kernel's at both float instances from its one run, and the reference's from its value run. -/

@[expose] public section

noncomputable section

namespace Cert.Frames

open Idealize.ShloMosaic Idealize.ShloMosaic.TcCoe Idealize.SL.Sem

section SameText
set_option backward.isDefEq.respectTransparency.types false
set_option maxRecDepth 65536

/-! The two programs have one text: their kernels and their body tables are equal. -/

theorem kern_eq : @Cert.KernelIdeal.cc0_dense_attention Bits _ Cert.KernelIdeal.Gen.facts = @Cert.Kernel.cc0_dense_attention Bits _ Cert.Kernel.Gen.facts := by rfl

theorem bodies_eq : @Cert.KernelIdeal.defs₀ Bits _ Cert.KernelIdeal.Gen.facts = @Cert.Kernel.defs₀ Bits _ Cert.Kernel.Gen.facts := by
  unfold Cert.KernelIdeal.defs₀ Cert.Kernel.defs₀
  rw [kern_eq]
  refine congrArg Defs.onTc (funext fun l => funext fun a => ?_)
  obtain ⟨l, hl⟩ := l
  match l, hl, a with
  | 0, _, a => rfl

theorem defs_eq : @Cert.KernelIdeal.defs Bits _ Cert.KernelIdeal.Gen.facts = @Cert.Kernel.defs Bits _ Cert.Kernel.Gen.facts := by
  unfold Cert.KernelIdeal.defs Cert.Kernel.defs
  rw [bodies_eq]
  rfl

theorem kernel_bits : Cert.quiescent_Kernel := by
  intro m ρ _
  have h := (θ_run (Cert.KernelIdeal.defs (F := Bits)) _ _).mono
    (fun r (h : _ ∧ r.2.sem = fun _ => 0) => And.intro (fun c => (h.1 c).2) h.2) (Cert.KernelIdeal.Att.run_args (F := Bits) m ρ)
  rw [defs_eq] at h
  exact h
end SameText

theorem kernel_ideal : Cert.quiescent_KernelIdeal := by
  intro m ρ _
  have h := (θ_run (Cert.KernelIdeal.defs (F := Ideal)) _ _).mono
    (fun r (h : _ ∧ r.2.sem = fun _ => 0) => And.intro (fun c => (h.1 c).2) h.2) (Cert.KernelIdeal.Att.run_args (F := Ideal) m ρ)
  exact h

theorem reference_ideal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Frames
end
-- ==== Proof.Soft.lean ====
module

public import Idealize.ShloMosaic.PureOps.Ideal
public import Mathlib.Analysis.SpecialFunctions.Pow.Real

/-! Softmax over the extended reals: the scores real, the values anything. A weighted sum carried from one shift of
the scores to another, and the quotient of two such sums as the sum of the normalised weights times the values. -/

@[expose] public section

noncomputable section

namespace Cert.Soft

open Idealize.ShloMosaic

/-- A sum times a nonnegative real. -/
theorem sum_mul_coe {ι : Type*} (S : Finset ι) (f : ι → EReal) {c : ℝ} (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha,
      EReal.right_distrib_of_nonneg_of_ne_top (by exact_mod_cast hc) (EReal.coe_ne_top c), ih]

/-- A sum of reals is real. -/
theorem coe_sum {ι : Type*} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- The weight of a score `a` at the shift `b`. -/
def wt (a b : ℝ) : EReal := Ideal.exp2 ((a : EReal) - (b : EReal))

theorem wt_eq (a b : ℝ) : wt a b = ((Real.exp ((a - b) * Real.log 2) : ℝ) : EReal) := by
  have h : (Real.rpow 2 (a - b) : ℝ) = Real.exp ((a - b) * Real.log 2) := by
    show (2 : ℝ) ^ (a - b) = _
    rw [Real.rpow_def_of_pos (by norm_num), mul_comm]
  rw [wt, ← EReal.coe_sub, Ideal.exp2_coe, h]

theorem wt_mul (a b c : ℝ) : wt a b * wt b c = wt a c := by
  rw [wt_eq, wt_eq, wt_eq, ← EReal.coe_mul, ← Real.exp_add]
  congr 3; ring

/-- A weighted sum carried from the shift `b` to the shift `c`. -/
theorem carry (S : Finset ℕ) (v : ℕ → EReal) (s : ℕ → ℝ) (b c : ℝ) :
    (∑ k ∈ S, v k * wt (s k) b) * wt b c = ∑ k ∈ S, v k * wt (s k) c := by
  have h := sum_mul_coe S (fun k => v k * wt (s k) b) (Real.exp_pos ((b - c) * Real.log 2)).le
  rw [← wt_eq] at h
  rw [h]
  refine Finset.sum_congr rfl fun k _ => ?_
  rw [mul_assoc, wt_mul]

/-- The same of two sums. -/
theorem carry_add (S T : Finset ℕ) (o : ℕ) (v : ℕ → EReal) (s : ℕ → ℝ) (b c : ℝ) :
    ((∑ k ∈ S, v (o + k) * wt (s (o + k)) b) + ∑ k ∈ T, v k * wt (s k) b) * wt b c
      = (∑ k ∈ S, v (o + k) * wt (s (o + k)) c) + ∑ k ∈ T, v k * wt (s k) c := by
  rw [← carry S (fun k => v (o + k)) (fun k => s (o + k)) b c, ← carry T v s b c]
  have h := Real.exp_pos ((b - c) * Real.log 2)
  rw [wt_eq b c]
  exact EReal.right_distrib_of_nonneg_of_ne_top (by exact_mod_cast h.le) (EReal.coe_ne_top _) _ _

theorem log_two_pos : 0 < Real.log 2 := Real.log_pos (by norm_num)

theorem div_coe_pos (x : EReal) {y : ℝ} (hy : 0 < y) : Ideal.div x (y : EReal) = x * ((y⁻¹ : ℝ) : EReal) := by
  rw [Ideal.div, if_neg (by exact_mod_cast hy.ne'), EReal.coe_inv]

/-- The weighted values over the weights, in base two and at the shift `b`, are the values weighted by the softmax at the
shift `d`. -/
theorem quotient {K : ℕ} (hK : 0 < K) (S : Fin K → ℝ) (v : Fin K → EReal) (b d : ℝ) :
    Ideal.div (∑ k, v k * wt (S k / Real.log 2) b) (∑ k, wt (S k / Real.log 2) b)
      = ∑ k, Ideal.div (Ideal.exp ((S k : EReal) - (d : EReal))) (∑ i, Ideal.exp ((S i : EReal) - (d : EReal))) * v k := by
  have hl := log_two_pos
  haveI : Nonempty (Fin K) := ⟨⟨0, hK⟩⟩
  have hw : ∀ k, wt (S k / Real.log 2) b = ((Real.exp (S k - d) * Real.exp (d - b * Real.log 2) : ℝ) : EReal) := fun k => by
    rw [wt_eq, ← Real.exp_add]
    congr 2
    field_simp
    ring
  have he : ∀ k, Ideal.exp ((S k : EReal) - (d : EReal)) = ((Real.exp (S k - d) : ℝ) : EReal) := fun k => by
    rw [← EReal.coe_sub, Ideal.exp_coe]
  have hW : 0 < ∑ i, Real.exp (S i - d) := Finset.sum_pos (fun i _ => Real.exp_pos _) Finset.univ_nonempty
  have hC := Real.exp_pos (d - b * Real.log 2)
  simp only [hw, he, coe_sum, ← Finset.sum_mul]
  rw [div_coe_pos _ (mul_pos hW hC), sum_mul_coe _ _ (inv_nonneg.2 (mul_pos hW hC).le)]
  refine Finset.sum_congr rfl fun k _ => ?_
  rw [div_coe_pos _ hW, mul_assoc, ← EReal.coe_mul, ← EReal.coe_mul, mul_comm]
  congr 2
  field_simp

/-- The fold of `max` over reals, from minus infinity, is real when there is something to fold. -/
theorem fold_max_real {ι : Type*} (S : Finset ι) (hS : S.Nonempty) (f : ι → EReal) (hf : ∀ i, ∃ r : ℝ, f i = (r : EReal)) :
    ∃ r : ℝ, S.fold max ⊥ f = (r : EReal) := by
  classical
  have h : ∀ T : Finset ι, T = ∅ ∨ ∃ r : ℝ, T.fold max ⊥ f = (r : EReal) := fun T => by
    induction T using Finset.induction_on with
    | empty => exact Or.inl rfl
    | insert a T ha ih =>
      refine Or.inr ?_
      obtain ⟨x, hx⟩ := hf a
      rw [Finset.fold_insert ha, hx]
      rcases ih with rfl | ⟨r, hr⟩
      · exact ⟨x, by simp⟩
      · exact ⟨max x r, by rw [hr]; exact (EReal.coe_strictMono.monotone.map_max).symm⟩
  exact (h S).resolve_left hS.ne_empty

theorem max_real {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (EReal.coe_strictMono.monotone.map_max).symm⟩

end Cert.Soft
end
-- ==== Proof.Entries.lean ====
module

public import proofs.«01_k».proof.Proof.Step
public import proofs.«01_k».proof.Proof.Soft
public import Idealize.ShloMosaic.Lib.Pointwise

/-! The tile functions of `Step.lean` read at an element, over the extended reals. -/

@[expose] public section

set_option maxRecDepth 16384

noncomputable section

namespace Cert.KernelIdeal.Att

open Idealize.ShloMosaic Idealize.ShloMosaic.TcCoe Idealize.ShloMosaic.Tactic
open Cert.KernelIdeal.Gen

/-- A row of the keys and a column of the values, by number. -/
def kIx (k : ℕ) (d : Fin 96) : S1x1x16640x96.Idx := ix4 (0 : Fin 1) (0 : Fin 1) (⟨k % 16640, Nat.mod_lt _ (by decide)⟩ : Fin 16640) d
def vIx (r : Fin 80) (k : ℕ) : S1x1x80x16640.Idx := ix4 (0 : Fin 1) (0 : Fin 1) r (⟨k % 16640, Nat.mod_lt _ (by decide)⟩ : Fin 16640)

/-- The score of key `k` against query `j`. -/
def score (q : FVec Ideal S96x1024 .bf16) (K : Vec Ideal S1x1x16640x96 .bf16) (j : Fin 1024) (k : ℕ) : EReal :=
  ∑ d : Fin 96, K (kIx k d) * q (ix2 d j)

theorem sT_apply (q : FVec Ideal S96x1024 .bf16) (K : Vec Ideal S1x1x16640x96 .bf16) (o : ℕ) (i : Fin 256) (j : Fin 1024) :
    sT q K o (ix2 i j) = score q K j (o + i.val) := by
  unfold sT sc kvAt score kIx
  pointwise
  rfl

theorem cmx_apply (s : FVec Ideal S256x1024 .f32) (j : Fin 1024) :
    cmx s (ix2 (0 : Fin 1) j) = (Finset.univ : Finset (Fin 256)).fold max ⊥ (fun i => s (ix2 i j)) := by
  unfold cmx
  pointwise
  rfl

theorem dT_apply (V : Vec Ideal S1x1x80x16640 .bf16) (mn : FVec Ideal S1x1024 .f32) (o : ℕ) (s : FVec Ideal S256x1024 .f32)
    (r : Fin 80) (j : Fin 1024) :
    dT V mn o s (ix2 r j) = ∑ i : Fin 256, V (vIx r (o + i.val)) * Ideal.exp2 (s (ix2 i j) - mn (ix2 (0 : Fin 1) j)) := by
  unfold dT vvAt vIx
  pointwise
  rfl

theorem accS_apply (a : FVec Ideal S80x1024 .f32) (m mn : FVec Ideal S1x1024 .f32) (pv : FVec Ideal S80x1024 .f32)
    (r : Fin 80) (j : Fin 1024) :
    accS a m mn pv (ix2 r j) = a (ix2 r j) * Ideal.exp2 (m (ix2 (0 : Fin 1) j) - mn (ix2 (0 : Fin 1) j)) + pv (ix2 r j) := by
  unfold accS
  pointwise
  rfl

theorem qM_apply (x : Vec Ideal S1x1x96x1024 .bf16) (d : Fin 96) (j : Fin 1024) :
    qM x (ix2 d j) = x (ix4 (0 : Fin 1) (0 : Fin 1) d j) := by
  unfold qM
  pointwise

theorem m0Of_apply (I : Vec Ideal S1x2x128 .f32) (j : Fin 1024) :
    m0Of I (ix2 (0 : Fin 1) j) = I (ix3 (0 : Fin 1) (0 : Fin 2) (0 : Fin 128)) := by
  unfold m0Of Gen.k0_pay87
  pointwise
  rfl

theorem a0Of_apply (I : Vec Ideal S1x2x128 .f32) (h : I (ix3 (0 : Fin 1) (1 : Fin 2) (0 : Fin 128)) = 0) (r : Fin 80) (j : Fin 1024) :
    a0Of I (ix2 r j) = 0 := by
  unfold a0Of Gen.k0_pay88
  pointwise
  have h' : I (ValueIdx.ix3 (0 : Fin 1) (1 : Fin 2) (0 : Fin 128)) = 0 := h
  rw [h']
  unfold Scalar.select
  split <;> rfl

theorem outB_apply (I : Vec Ideal S1x2x128 .f32) (x : Vec Ideal S1x1x96x1024 .bf16) (K : Vec Ideal S1x1x16640x96 .bf16)
    (V : Vec Ideal S1x1x80x16640 .bf16) (r : Fin 64) (j : Fin 1024) :
    outB I x K V (ix4 (0 : Fin 1) (0 : Fin 1) r j)
      = Ideal.div (stA (qM x) K V (m0Of I) (a0Of I) 7 (ix2 (⟨r.val, by omega⟩ : Fin 80) j))
          (stA (qM x) K V (m0Of I) (a0Of I) 7 (ix2 (64 : Fin 80) j)) := by
  unfold outB Gen.k0_pay2
  generalize stA (qM x) K V (m0Of I) (a0Of I) 7 = a
  pointwise

end Cert.KernelIdeal.Att
end
-- ==== Proof.Online.lean ====
module

public import proofs.«01_k».proof.Proof.Entries

/-! The online softmax: after every tile of keys the accumulator is the sum over the keys so far, at the running
maximum, and after the last tile over all of them. -/

@[expose] public section

set_option maxRecDepth 16384

noncomputable section

namespace Cert.KernelIdeal.Att

open Idealize.ShloMosaic Idealize.ShloMosaic.TcCoe Idealize.ShloMosaic.Tactic
open Cert.KernelIdeal.Gen Cert.Soft

variable (q : FVec Ideal S96x1024 .bf16) (K : Vec Ideal S1x1x16640x96 .bf16) (V : Vec Ideal S1x1x80x16640 .bf16)
  (m0 : FVec Ideal S1x1024 .f32) (a0 : FVec Ideal S80x1024 .f32) (j : Fin 1024)

/-- What key `k` adds to row `r` at the shift `M`, its score being `s k`. -/
def term (s : ℕ → ℝ) (M : ℝ) (r : Fin 80) (k : ℕ) : EReal := V (vIx r k) * wt (s k) M

theorem sum_tiles (g : ℕ → EReal) (o : ℕ) :
    (∑ k ∈ Finset.range 2048, g (o + k)) = (∑ k ∈ Finset.range 256, g (o + 0 + k)) + (∑ k ∈ Finset.range 256, g (o + 256 + k))
      + (∑ k ∈ Finset.range 256, g (o + 512 + k)) + (∑ k ∈ Finset.range 256, g (o + 768 + k)) + (∑ k ∈ Finset.range 256, g (o + 1024 + k))
      + (∑ k ∈ Finset.range 256, g (o + 1280 + k)) + (∑ k ∈ Finset.range 256, g (o + 1536 + k)) + (∑ k ∈ Finset.range 256, g (o + 1792 + k)) := by
  rw [show 2048 = 1792 + 256 from rfl, Finset.sum_range_add, show 1792 = 1536 + 256 from rfl, Finset.sum_range_add,
    show 1536 = 1280 + 256 from rfl, Finset.sum_range_add, show 1280 = 1024 + 256 from rfl, Finset.sum_range_add,
    show 1024 = 768 + 256 from rfl, Finset.sum_range_add, show 768 = 512 + 256 from rfl, Finset.sum_range_add,
    show 512 = 256 + 256 from rfl, Finset.sum_range_add]
  simp only [Nat.add_assoc, Nat.zero_add]

section Column
variable {q K V m0 a0 j} {s : ℕ → ℝ} (hs : ∀ k, score q K j k = ((s k : ℝ) : EReal))
include hs

theorem cmx_real (o : ℕ) : ∃ r : ℝ, cmx (sT q K o) (ix2 (0 : Fin 1) j) = (r : EReal) := by
  rw [cmx_apply]
  exact fold_max_real _ ⟨0, Finset.mem_univ _⟩ _ fun i => ⟨s (o + i.val), by rw [sT_apply, hs]⟩

theorem cm8_real (o : ℕ) : ∃ r : ℝ, cm8 q K o (ix2 (0 : Fin 1) j) = (r : EReal) := by
  unfold cm8
  exact max_real (max_real (max_real (max_real (max_real (max_real (max_real (cmx_real hs _) (cmx_real hs _)) (cmx_real hs _))
    (cmx_real hs _)) (cmx_real hs _)) (cmx_real hs _)) (cmx_real hs _)) (cmx_real hs _)

theorem cm9_real : ∃ r : ℝ, cm9 q K (ix2 (0 : Fin 1) j) = (r : EReal) := by
  unfold cm9
  exact max_real (max_real (max_real (max_real (max_real (max_real (max_real (max_real (cmx_real hs _) (cmx_real hs _)) (cmx_real hs _))
    (cmx_real hs _)) (cmx_real hs _)) (cmx_real hs _)) (cmx_real hs _)) (cmx_real hs _)) (cmx_real hs _)

theorem stM_real (h0 : ∃ r : ℝ, m0 (ix2 (0 : Fin 1) j) = (r : EReal)) (n : ℕ) :
    ∃ r : ℝ, stM q K m0 n (ix2 (0 : Fin 1) j) = (r : EReal) := by
  induction n with
  | zero => exact max_real h0 (cm9_real hs)
  | succ n ih => exact max_real ih (cm8_real hs _)

theorem dT_term {mn : FVec Ideal S1x1024 .f32} {M : ℝ} (hM : mn (ix2 (0 : Fin 1) j) = (M : EReal)) (o : ℕ) (r : Fin 80) :
    dT V mn o (sT q K o) (ix2 r j) = ∑ k ∈ Finset.range 256, term V s M r (o + k) := by
  rw [dT_apply, Finset.sum_range]
  refine Finset.sum_congr rfl fun i _ => ?_
  rw [sT_apply, hs, hM]
  rfl

theorem pv8_term {mn : FVec Ideal S1x1024 .f32} {M : ℝ} (hM : mn (ix2 (0 : Fin 1) j) = (M : EReal)) (o : ℕ) (r : Fin 80) :
    pv8 q K V mn o (ix2 r j) = ∑ k ∈ Finset.range 2048, term V s M r (o + k) := by
  rw [sum_tiles]
  simp only [← dT_term (V := V) hs hM]
  rfl

theorem pv9_term {mn : FVec Ideal S1x1024 .f32} {M : ℝ} (hM : mn (ix2 (0 : Fin 1) j) = (M : EReal)) (r : Fin 80) :
    pv9 q K V mn (ix2 r j) = (∑ k ∈ Finset.range 256, term V s M r (16384 + k)) + ∑ k ∈ Finset.range 2048, term V s M r k := by
  have h := sum_tiles (term V s M r) 0
  simp only [← dT_term (V := V) hs hM] at h
  rw [show (∑ k ∈ Finset.range 2048, term V s M r k) = ∑ k ∈ Finset.range 2048, term V s M r (0 + k) from by simp only [Nat.zero_add],
    h, ← dT_term (V := V) hs hM]
  simp only [← add_assoc]
  rfl

/-- The accumulator after `n` tiles beyond the first nine subtiles. -/
theorem stA_term (h0 : ∃ r : ℝ, m0 (ix2 (0 : Fin 1) j) = (r : EReal)) (r : Fin 80) (ha : a0 (ix2 r j) = 0) (n : ℕ) (M : ℝ)
    (hM : stM q K m0 n (ix2 (0 : Fin 1) j) = (M : EReal)) :
    stA q K V m0 a0 n (ix2 r j)
      = (∑ k ∈ Finset.range 256, term V s M r (16384 + k)) + ∑ k ∈ Finset.range (2048 * (n + 1)), term V s M r k := by
  induction n generalizing M with
  | zero =>
    show accS a0 m0 (stM q K m0 0) (pv9 q K V (stM q K m0 0)) (ix2 r j) = _
    rw [accS_apply, ha, zero_mul, zero_add, pv9_term hs hM]
  | succ n ih =>
    obtain ⟨L, hL⟩ := stM_real hs h0 n
    rw [stA_succ, accS_apply, ih L hL, hL, hM, pv8_term hs hM, show 2048 * (n + 1 + 1) = 2048 * (n + 1) + 2048 from by ring,
      Finset.sum_range_add, ← add_assoc]
    congr 1
    exact carry_add _ _ 16384 (fun k => V (vIx r k)) s L M

/-- The accumulator after the last tile. -/
theorem stA_last (h0 : ∃ r : ℝ, m0 (ix2 (0 : Fin 1) j) = (r : EReal)) (M : ℝ)
    (hM : stM q K m0 7 (ix2 (0 : Fin 1) j) = (M : EReal)) (r : Fin 80) (ha : a0 (ix2 r j) = 0) :
    stA q K V m0 a0 7 (ix2 r j) = ∑ k : Fin 16640, V (vIx r k.val) * wt (s k.val) M := by
  have e := Finset.sum_range (n := 16384 + 256) (fun k => term V s M r k)
  rw [Finset.sum_range_add] at e
  rw [stA_term hs h0 r ha 7 M hM, add_comm]
  exact e

end Column

end Cert.KernelIdeal.Att
end
-- ==== Proof.Tile.lean ====
module

public import proofs.«01_k».proof.Proof.Online

/-! A tile of the output: at real queries and keys, the values weighted by the softmax of the scaled scores. -/

@[expose] public section

set_option maxRecDepth 16384

noncomputable section

namespace Cert.KernelIdeal.Att

open Idealize.ShloMosaic Idealize.ShloMosaic.TcCoe Idealize.ShloMosaic.Tactic
open Cert.KernelIdeal.Gen Cert.Soft

/-- The scaled scores of one query. -/
def scaled (qr : Fin 96 → ℝ) (kr : Fin 16640 → Fin 96 → ℝ) (κ : ℝ) (k : Fin 16640) : ℝ := (∑ d, qr d * kr k d) * κ

/-- Scaling the query to base two scales the score. -/
theorem score_base_two (qr kr : Fin 96 → ℝ) (κ : ℝ) :
    (∑ d : Fin 96, ((kr d : ℝ) : EReal) * Ideal.div (((qr d : ℝ) : EReal) * ((κ : ℝ) : EReal)) (Ideal.log ((2 : ℝ) : EReal)))
      = (((∑ d, qr d * kr d) * κ / Real.log 2 : ℝ) : EReal) := by
  have hl : Ideal.log ((2 : ℝ) : EReal) = ((Real.log 2 : ℝ) : EReal) := by
    rw [Ideal.log_coe, if_neg (by norm_num)]
  simp only [hl, div_coe_pos _ log_two_pos, ← EReal.coe_mul]
  rw [coe_sum, Finset.sum_mul, Finset.sum_div]
  congr 1
  refine Finset.sum_congr rfl fun d _ => ?_
  rw [div_eq_mul_inv]; ring

theorem outB_softmax (I : Vec Ideal S1x2x128 .f32) (x : Vec Ideal S1x1x96x1024 .bf16) (K : Vec Ideal S1x1x16640x96 .bf16)
    (V : Vec Ideal S1x1x80x16640 .bf16) (r : Fin 64) (j : Fin 1024) (qr : Fin 96 → ℝ) (kr : Fin 16640 → Fin 96 → ℝ) (κ : ℝ)
    (hq : ∀ d, x (ix4 (0 : Fin 1) (0 : Fin 1) d j) = Ideal.div (((qr d : ℝ) : EReal) * ((κ : ℝ) : EReal)) (Ideal.log ((2 : ℝ) : EReal)))
    (hk : ∀ k d, K (ix4 (0 : Fin 1) (0 : Fin 1) k d) = ((kr k d : ℝ) : EReal))
    (hone : ∀ k, V (ix4 (0 : Fin 1) (0 : Fin 1) (64 : Fin 80) k) = (1 : EReal))
    (h0 : ∃ r : ℝ, I (ix3 (0 : Fin 1) (0 : Fin 2) (0 : Fin 128)) = (r : EReal))
    (h1 : I (ix3 (0 : Fin 1) (1 : Fin 2) (0 : Fin 128)) = (0 : EReal)) (M : ℝ) :
    outB I x K V (ix4 (0 : Fin 1) (0 : Fin 1) r j)
      = ∑ k, Ideal.div (Ideal.exp ((scaled qr kr κ k : EReal) - (M : EReal))) (∑ i, Ideal.exp ((scaled qr kr κ i : EReal) - (M : EReal)))
          * V (ix4 (0 : Fin 1) (0 : Fin 1) (⟨r.val, by omega⟩ : Fin 80) k) := by
  have hs : ∀ k : ℕ, score (qM x) K j k = ((scaled qr kr κ ⟨k % 16640, Nat.mod_lt _ (by decide)⟩ / Real.log 2 : ℝ) : EReal) := fun k => by
    unfold score kIx scaled
    simp only [qM_apply, hq, hk]
    exact score_base_two qr _ κ
  have hm : ∃ r : ℝ, m0Of I (ix2 (0 : Fin 1) j) = (r : EReal) := by rw [m0Of_apply]; exact h0
  obtain ⟨B, hB⟩ := stM_real hs hm 7
  have hv : ∀ (q : Fin 80) (k : Fin 16640), vIx q k.val = ix4 (0 : Fin 1) (0 : Fin 1) q k := fun q k => by
    unfold vIx; congr 1; exact Fin.ext (Nat.mod_eq_of_lt k.isLt)
  have hmod : ∀ k : Fin 16640, (⟨k.val % 16640, Nat.mod_lt _ (by decide)⟩ : Fin 16640) = k := fun k => Fin.ext (Nat.mod_eq_of_lt k.isLt)
  rw [outB_apply, stA_last hs hm B hB _ (a0Of_apply I h1 _ j), stA_last hs hm B hB _ (a0Of_apply I h1 _ j)]
  simp only [hv, hmod, hone, one_mul]
  exact quotient (by decide) (scaled qr kr κ) _ B M

end Cert.KernelIdeal.Att
end
-- ==== Proof.Prep.lean ====
module

public import proofs.«01_k».proof.Proof.Step
public import Idealize.ShloMosaic.Lib.Pointwise
public import Idealize.ShloMosaic.Lib.Claim
public import Idealize.ShloMosaic.Lib.IdealHost

/-! What the operations before the launch leave in its arguments: the queries scaled to base two and transposed, the keys
and the values followed by the context's, a row of ones below the values, and the starting maximum and sum. -/

@[expose] public section
set_option maxRecDepth 16384
noncomputable section
namespace Cert.KernelIdeal.Att
open Idealize.ShloMosaic Idealize.ShloMosaic.TcCoe Idealize.ShloMosaic.Tactic
open Cert.KernelIdeal.Gen

variable (m : (ℓ : Loc nD τ sig) → Buf (Elt Ideal) ℓ) (c : Dev nD)

/-- The key of a row, of the image or of the context. -/
def keyAt (x1 : Vec Ideal S2x8x16384x96 .f32) (x2 : Vec Ideal S2x8x256x96 .f32) (b : Fin 2) (h : Fin 8) (k : Fin 16640) (d : Fin 96) : EReal :=
  if hk : k.val < 16384 then x1 (ix4 b h (⟨k.val, hk⟩ : Fin 16384) d) else x2 (ix4 b h (⟨k.val - 16384, by omega⟩ : Fin 256) d)

/-- The value of a row, of the image or of the context. -/
def valAt (x3 : Vec Ideal S2x8x16384x64 .f32) (x4 : Vec Ideal S2x8x256x64 .f32) (b : Fin 2) (h : Fin 8) (k : Fin 16640) (r : Fin 64) : EReal :=
  if hk : k.val < 16384 then x3 (ix4 b h (⟨k.val, hk⟩ : Fin 16384) r) else x4 (ix4 b h (⟨k.val - 16384, by omega⟩ : Fin 256) r)

theorem keys_in (b : Fin 2) (h : Fin 8) (k : Fin 16640) (d : Fin 96) :
    (V m c main_v8 (ix4 b h k d) : EReal) = keyAt (m (c, main_arg1)) (m (c, main_arg2)) b h k d := by
  dsimp only [V, hostOps0, hostOps0_1, hostOps0_2, hostOps0_3, hostOps0_4, List.flatten_cons, List.flatten_nil, List.append_nil, List.cons_append, List.nil_append]
  entry_read
  unfold keyAt
  pointwise

theorem values_in (b : Fin 2) (h : Fin 8) (k : Fin 16640) (r : Fin 64) :
    (V m c main_v18 (ix4 b h (⟨r.val, by omega⟩ : Fin 80) k) : EReal) = valAt (m (c, main_arg3)) (m (c, main_arg4)) b h k r := by
  dsimp only [V, hostOps0, hostOps0_1, hostOps0_2, hostOps0_3, hostOps0_4, List.flatten_cons, List.flatten_nil, List.append_nil, List.cons_append, List.nil_append]
  entry_read
  unfold valAt
  pointwise
  rfl

/-- The row below the values is of ones: it sums the weights. -/
theorem ones_in (b : Fin 2) (h : Fin 8) (k : Fin 16640) : (V m c main_v18 (ix4 b h (64 : Fin 80) k) : EReal) = (1 : EReal) := by
  dsimp only [V, hostOps0, hostOps0_1, hostOps0_2, hostOps0_3, hostOps0_4, List.flatten_cons, List.flatten_nil, List.append_nil, List.cons_append, List.nil_append]
  entry_read
  pointwise
  exact Eq.trans (b := Ideal.ofBits .f32 0x3F800000#32) rfl Ideal.ofBits_one_f32

theorem queries_eq : (V m c main_v19 : _) =
    pad S2x8x96x16640 ![0, 0, 0, 0] ![0, 0, 0, 256] ![0, 0, 0, 0]
          (truncf FTy.bf16
            (Host.divf
              (mulf
                (transpose S2x8x96x16384 [0, 1, 3, 2] (m (c, Proc.tc.devRef main_arg0))
                  transposes_S2x8x16384x96_S2x8x96x16384_0_1_3_2)
                (broadcastInDim S2x8x96x16384 ![] bcast_S_S2x8x96x16384 (constant (F := Ideal) S_ FTy.f32 1037108716#32)))
              (broadcastInDim S2x8x96x16384 ![] bcast_S_S2x8x96x16384 (Host.log (constant (F := Ideal) S_ FTy.f32 1073741824#32))))
            bitsLt_bf16_f32)
            (sitofp FTy.bf16
                (constantI S_ 32 0#32))
        pads_S2x8x96x16384_S2x8x96x16640_000_000_000_02560 h_S_ := by
  dsimp only [V, hostOps0, hostOps0_1, hostOps0_2, hostOps0_3, hostOps0_4, List.flatten_cons, List.flatten_nil, List.append_nil, List.cons_append, List.nil_append]
  entry_read
  rfl

theorem queries_in (b : Fin 2) (h : Fin 8) (k : Fin 16640) (hk : k.val < 16384) (d : Fin 96) :
    (V m c main_v19 (ix4 b h d k) : EReal)
      = Ideal.div ((show Vec Ideal S2x8x16384x96 .f32 from m (c, main_arg0)) (ix4 b h (⟨k.val, hk⟩ : Fin 16384) d) * Ideal.ofBits .f32 0x3DD105EC#32)
          (Ideal.log (Ideal.ofBits .f32 0x40000000#32)) := by
  rw [queries_eq]
  pointwise
  exact (dif_pos hk).trans rfl

theorem start_max (h : Fin 8) (l : Fin 128) : (V m c main_v21 (ix3 h (0 : Fin 2) l) : EReal) = Ideal.ofBits .f32 0xF149F2CA#32 := by
  dsimp only [V, hostOps0, hostOps0_1, hostOps0_2, hostOps0_3, hostOps0_4, List.flatten_cons, List.flatten_nil, List.append_nil, List.cons_append, List.nil_append]
  entry_read
  pointwise
  rfl

theorem start_sum (h : Fin 8) (l : Fin 128) : (V m c main_v21 (ix3 h (1 : Fin 2) l) : EReal) = (0 : EReal) := by
  dsimp only [V, hostOps0, hostOps0_1, hostOps0_2, hostOps0_3, hostOps0_4, List.flatten_cons, List.flatten_nil, List.append_nil, List.cons_append, List.nil_append]
  entry_read
  pointwise
  exact Eq.trans (b := Ideal.ofBits .f32 0x00000000#32) rfl Ideal.ofBits_zero_f32

theorem ofBits_start : ∃ r : ℝ, Ideal.ofBits .f32 0xF149F2CA#32 = (r : EReal) := by
  simp [Ideal.ofBits, Ideal.ieee, -EReal.coe_mul, -EReal.coe_neg]

theorem ofBits_scale : ∃ r : ℝ, Ideal.ofBits .f32 0x3DD105EC#32 = (r : EReal) := by
  simp [Ideal.ofBits, Ideal.ieee, -EReal.coe_mul, -EReal.coe_neg]

theorem ofBits_two : Ideal.ofBits .f32 0x40000000#32 = ((2 : ℝ) : EReal) := by
  simp [Ideal.ofBits, Ideal.ieee, -EReal.coe_mul]; norm_num

end Cert.KernelIdeal.Att
end
-- ==== Proof.Ref.lean ====
module

public import proofs.«01_k».proof.Proof.Gen.ReferenceIdeal.Read
public import proofs.«01_k».proof.Proof.Prep
public import proofs.«01_k».proof.Proof.Soft

/-! The reference read at an element: the values weighted by the softmax of the scaled scores. -/

@[expose] public section
set_option maxRecDepth 16384
noncomputable section
namespace Cert.RefAt
open Idealize.ShloMosaic Idealize.ShloMosaic.TcCoe Idealize.ShloMosaic.Tactic
open Cert.ReferenceIdeal Cert.ReferenceIdeal.Gen Cert.ReferenceIdeal.Value Cert.ReferenceIdeal.Read
open Cert.KernelIdeal.Att (keyAt valAt)

variable (x0 x1 : Vec Ideal S2x8x16384x96 .f32) (x2 : Vec Ideal S2x8x256x96 .f32)
  (x3 : Vec Ideal S2x8x16384x64 .f32) (x4 : Vec Ideal S2x8x256x64 .f32)

theorem keys_read (b : Fin 2) (h : Fin 8) (k : Fin 16640) (d : Fin 96) :
    (val_main_v0 (F := Ideal) x1 x2 (ix4 b h k d) : EReal) = keyAt x1 x2 b h k d := by
  unfold val_main_v0 keyAt
  pointwise

theorem values_read (b : Fin 2) (h : Fin 8) (k : Fin 16640) (r : Fin 64) :
    (val_main_v1 (F := Ideal) x3 x4 (ix4 b h k r) : EReal) = valAt x3 x4 b h k r := by
  unfold val_main_v1 valAt
  pointwise

theorem scores_read (b : Fin 2) (h : Fin 8) (t : Fin 16384) (k : Fin 16640) :
    (val_main_v4 (F := Ideal) x0 x1 x2 (ix4 b h t k) : EReal)
      = (∑ d : Fin 96, x0 (ix4 b h t d) * keyAt x1 x2 b h k d) * Ideal.ofBits .f32 0x3DD105EC#32 := by
  rw [val_main_v4_apply, val_main_v2_apply, val_main_v3_apply, val_main_cst_apply]
  show (_ : EReal) * _ = _
  congr 1
  refine Finset.sum_congr rfl fun d _ => ?_
  rw [← keys_read]
  congr 1
  · congr 1; funext a; fin_cases a <;> rfl
  · congr 1; funext a; fin_cases a <;> rfl

theorem ofBits_bot : Ideal.ofBits .f32 0xFF800000#32 = (⊥ : EReal) := by
  simp [Ideal.ofBits, Ideal.ieee]

theorem max_read (b : Fin 2) (h : Fin 8) (t : Fin 16384)
    (hs : ∀ k : Fin 16640, ∃ r : ℝ, (val_main_v4 (F := Ideal) x0 x1 x2 (ix4 b h t k) : EReal) = (r : EReal)) :
    ∃ r : ℝ, (val_main_v7 (F := Ideal) x0 x1 x2 (ix3 b h t) : EReal) = (r : EReal) := by
  rw [val_main_v7_apply, val_main_v6_apply, val_main_cst_1_apply]
  unfold val_main_v5
  generalize val_main_v4 (F := Ideal) x0 x1 x2 = y at hs ⊢
  pointwise
  rw [show (val_main_cst_0 (F := Ideal) (Shape.Idx.first h_S_) : EReal) = ⊥ from ofBits_bot, ofBits_bot, max_bot_left]
  exact Soft.fold_max_real _ ⟨0, Finset.mem_univ _⟩ _ hs

theorem exp_read (b : Fin 2) (h : Fin 8) (t : Fin 16384) (k : Fin 16640) :
    (val_main_v11 (F := Ideal) x0 x1 x2 (ix4 b h t k) : EReal)
      = Ideal.exp ((val_main_v4 (F := Ideal) x0 x1 x2 (ix4 b h t k) : EReal) - (val_main_v7 (F := Ideal) x0 x1 x2 (ix3 b h t) : EReal)) := by
  rw [val_main_v11_apply, val_main_v10_apply, val_main_v9_apply, val_main_v8_apply]
  show Ideal.exp ((_ : EReal) - _) = _
  congr 3
  funext a; fin_cases a <;> rfl

theorem sum_read (b : Fin 2) (h : Fin 8) (t : Fin 16384) (k : Fin 16640) :
    (val_main_v14 (F := Ideal) x0 x1 x2 (ix4 b h t k) : EReal)
      = ∑ i : Fin 16640, (val_main_v11 (F := Ideal) x0 x1 x2 (ix4 b h t i) : EReal) := by
  rw [val_main_v14_apply, val_main_v13_apply, val_main_v12_apply, val_main_cst_2_apply]
  show Ideal.ofBits .f32 0x00000000#32 + _ = (_ : EReal)
  rw [Ideal.ofBits_zero_f32, zero_add]
  refine Finset.sum_congr rfl fun i _ => ?_
  congr 1; funext a; fin_cases a <;> rfl

/-- The reference's result, its scores being `S` and their maximum `M`. -/
theorem out_read (b : Fin 2) (h : Fin 8) (r : Fin 64) (t : Fin 16384) (S : Fin 16640 → ℝ)
    (hs : ∀ k : Fin 16640, (∑ d : Fin 96, x0 (ix4 b h t d) * keyAt x1 x2 b h k d) * Ideal.ofBits .f32 0x3DD105EC#32 = ((S k : ℝ) : EReal)) :
    ∃ M : ℝ, (val_main_v17 (F := Ideal) x0 x1 x2 x3 x4 (ix4 b h r t) : EReal)
      = ∑ k, Ideal.div (Ideal.exp ((S k : EReal) - (M : EReal))) (∑ i, Ideal.exp ((S i : EReal) - (M : EReal))) * valAt x3 x4 b h k r := by
  have hs' : ∀ k : Fin 16640, (val_main_v4 (F := Ideal) x0 x1 x2 (ix4 b h t k) : EReal) = ((S k : ℝ) : EReal) := fun k =>
    (scores_read x0 x1 x2 b h t k).trans (hs k)
  obtain ⟨M, hM⟩ := max_read x0 x1 x2 b h t fun k => ⟨S k, hs' k⟩
  have he : ∀ k : Fin 16640, (val_main_v11 (F := Ideal) x0 x1 x2 (ix4 b h t k) : EReal) = Ideal.exp ((S k : EReal) - (M : EReal)) := fun k => by
    rw [exp_read, hM, hs']
  refine ⟨M, ?_⟩
  rw [val_main_v17_apply, val_main_v16_apply]
  refine Finset.sum_congr rfl fun k _ => ?_
  rw [← values_read, ← he k, show (∑ i, Ideal.exp ((S i : EReal) - (M : EReal))) = val_main_v14 (F := Ideal) x0 x1 x2 (ix4 b h t k) from by
    rw [sum_read]; exact Finset.sum_congr rfl fun i _ => (he i).symm]
  have el : lidx_main_v16 (idx_main_v17 (ix4 b h r t)) k = ix4 b h t k := by funext a; fin_cases a <;> rfl
  have er : ridx_main_v16 (idx_main_v17 (ix4 b h r t)) k = ix4 b h k r := by funext a; fin_cases a <;> rfl
  rw [el, er, val_main_v15_apply]
  rfl

end Cert.RefAt
end
-- ==== Proof.Result.lean ====
module

public import proofs.«01_k».proof.Proof.Run
public import proofs.«01_k».proof.Proof.Tile
public import proofs.«01_k».proof.Proof.Ref

/-! The kernel's result is the reference's value, wherever the queries and the keys are real. -/

@[expose] public section

set_option maxRecDepth 16384

noncomputable section

namespace Cert.KernelIdeal.Att

open Idealize.ShloMosaic Idealize.ShloMosaic.TcCoe Idealize.ShloMosaic.Tactic
open Idealize.ShloMosaic.Pipeline (Dat BodyObligation BodyObligationLoose)
open Cert.KernelIdeal.Gen

variable (m : (ℓ : Loc nD τ sig) → Buf (Elt Ideal) ℓ) (c : Dev nD)

abbrev arg0 : Vec Ideal S2x8x16384x96 .f32 := m (c, main_arg0)
abbrev arg1 : Vec Ideal S2x8x16384x96 .f32 := m (c, main_arg1)
abbrev arg2 : Vec Ideal S2x8x256x96 .f32 := m (c, main_arg2)
abbrev arg3 : Vec Ideal S2x8x16384x64 .f32 := m (c, main_arg3)
abbrev arg4 : Vec Ideal S2x8x256x64 .f32 := m (c, main_arg4)

/-- The batch, the head and the query of a grid point's column. -/
def bF (t : Fin cfg0.N) : Fin 2 := ⟨bOf t, (grid0.coords t 0).isLt⟩
def hF (t : Fin cfg0.N) : Fin 8 := ⟨hOf t, (grid0.coords t 1).isLt⟩
def tF (t : Fin cfg0.N) (j : Fin 1024) : Fin 16384 :=
  ⟨jOf t * 1024 + j.val, by have : jOf t < 16 := (grid0.coords t 2).isLt; omega⟩
def tF' (t : Fin cfg0.N) (j : Fin 1024) : Fin 16640 := ⟨(tF t j).val, by have := (tF t j).isLt; omega⟩

theorem emb_out (t : Fin cfg0.N) (r : Fin 64) (j : Fin 1024) :
    (win0_5.blk t).view.emb (ix4 (0 : Fin 1) (0 : Fin 1) r j) = (ix4 (bF t) (hF t) r (tF t j) : S2x8x64x16384.Idx) := by
  have e := idx5 t
  funext a; apply Fin.ext
  unfold bF hF tF
  fin_cases a <;> (blk_simp [e]; try simp)

theorem tile_eq (hq : ∀ i, ∃ r : ℝ, arg0 m c i = (r : EReal)) (hk : ∀ i, ∃ r : ℝ, arg1 m c i = (r : EReal))
    (hk' : ∀ i, ∃ r : ℝ, arg2 m c i = (r : EReal)) (t : Fin cfg0.N) (r : Fin 64) (j : Fin 1024) :
    oB m c t (ix4 (0 : Fin 1) (0 : Fin 1) r j)
      = ReferenceIdeal.Read.val_main_v17 (F := Ideal) (arg0 m c) (arg1 m c) (arg2 m c) (arg3 m c) (arg4 m c) (ix4 (bF t) (hF t) r (tF t j)) := by
  obtain ⟨κ, hκ⟩ := ofBits_scale
  choose q hq using hq
  have hkey : ∀ (k : Fin 16640) (d : Fin 96), ∃ r : ℝ, keyAt (arg1 m c) (arg2 m c) (bF t) (hF t) k d = (r : EReal) := fun k d => by
    unfold keyAt; split
    · exact hk _
    · exact hk' _
  choose kr hkr using hkey
  obtain ⟨M, hM⟩ := Cert.RefAt.out_read (arg0 m c) (arg1 m c) (arg2 m c) (arg3 m c) (arg4 m c) (bF t) (hF t) r (tF t j)
    (scaled (fun d => q (ix4 (bF t) (hF t) (tF t j) d)) kr κ) fun k => by
      unfold scaled
      simp only [hκ, hq, hkr, ← EReal.coe_mul]
      rw [Soft.coe_sum, ← EReal.coe_mul]
  rw [hM]
  refine (outB_softmax _ _ _ _ r j (fun d => q (ix4 (bF t) (hF t) (tF t j) d)) kr κ ?_ ?_ ?_ ?_ ?_ M).trans ?_
  · intro d
    rw [blk1 m c t _ (ix4 (bF t) (hF t) d (tF' t j)) rfl rfl rfl rfl, queries_in m c _ _ _ (tF t j).isLt d, hκ, ofBits_two]
    exact congrArg (fun x : EReal => Ideal.div (x * _) _) (hq _)
  · intro k d
    rw [blk3 m c t _ (ix4 (bF t) (hF t) k d) rfl rfl rfl rfl, keys_in]
    exact hkr k d
  · intro k
    rw [blk4 m c t _ (ix4 (bF t) (hF t) (64 : Fin 80) k) rfl rfl rfl rfl, ones_in]
  · rw [blk0 m c t _ (ix3 (hF t) (0 : Fin 2) (0 : Fin 128)) rfl rfl rfl, start_max]
    exact ofBits_start
  · rw [blk0 m c t _ (ix3 (hF t) (1 : Fin 2) (0 : Fin 128)) rfl rfl rfl, start_sum]
  · refine Finset.sum_congr rfl fun k _ => ?_
    rw [blk4 m c t _ (ix4 (bF t) (hF t) (⟨r.val, by omega⟩ : Fin 80) k) rfl rfl rfl rfl, values_in]

theorem result_eq (hq : ∀ i, ∃ r : ℝ, arg0 m c i = (r : EReal)) (hk : ∀ i, ∃ r : ℝ, arg1 m c i = (r : EReal))
    (hk' : ∀ i, ∃ r : ℝ, arg2 m c i = (r : EReal)) :
    (dats m 0 c).arrAt 5 cfg0.N
      = ReferenceIdeal.Read.val_main_v17 (F := Ideal) (arg0 m c) (arg1 m c) (arg2 m c) (arg3 m c) (arg4 m c) := by
  refine (dats m 0 c).arrAt_eq_of_covers 5 (ReferenceIdeal.Read.val_main_v17 (F := Ideal) (arg0 m c) (arg1 m c) (arg2 m c) (arg3 m c) (arg4 m c))
    (by decide +kernel) fun t hf y => ?_
  rw [after_5]
  blk_simp
  have hy : (y : S1x1x64x1024.Idx) = ix4 (0 : Fin 1) (0 : Fin 1) (⟨(y 2).val, (y 2).isLt⟩ : Fin 64) (⟨(y 3).val, (y 3).isLt⟩ : Fin 1024) := by
    funext a; fin_cases a
    · exact Fin.ext (Nat.lt_one_iff.1 (y 0).isLt)
    · exact Fin.ext (Nat.lt_one_iff.1 (y 1).isLt)
    · rfl
    · rfl
  rw [show (y : S1x1x64x1024.Idx) = _ from hy, emb_out]
  exact tile_eq m c hq hk hk' t _ _

end Cert.KernelIdeal.Att
end
-- ==== Proof.Finite.lean ====
module

public import proofs.«01_k».proof.Defs
public import proofs.«01_k».proof.Proof.Result
public import proofs.«01_k».proof.Proof.Frames
public import Idealize.ShloMosaic.Lib.ReduceAll

/-! The precondition: it says of every query and key that it is a real number. -/

@[expose] public section

set_option maxRecDepth 16384

noncomputable section

namespace Cert.Finite

open Idealize.ShloMosaic Idealize.ShloMosaic.TcCoe Idealize.SL.Sem

theorem facts : Cert.Pre_finite.Facts where
  bcast_S_S2x8x16384x96 := by decide
  reducesTo_S2x8x16384x96_S_d0_1_2_3 := by decide
  h_S_ := by decide
  bcast_S_S2x8x256x96 := by decide
  reducesTo_S2x8x256x96_S_d0_1_2_3 := by decide

/-- An extended real of absolute value below infinity is real. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  have h' : max x (-x) < (⊤ : EReal) := by
    by_contra hn
    simp [Ideal.cmp, hn] at h
  induction x using EReal.rec with
  | bot => simp at h'
  | coe r => exact ⟨r, rfl⟩
  | top => simp at h'

instance : Subsingleton Cert.Pre_finite.S_.Idx := ⟨fun a b => funext fun i => i.elim0⟩

attribute [local instance] facts in
theorem reals (x0 x1 : FVec Ideal Cert.Pre_finite.S2x8x16384x96 .f32) (x2 : FVec Ideal Cert.Pre_finite.S2x8x256x96 .f32)
    (x3 : FVec Ideal Cert.Pre_finite.S2x8x16384x64 .f32) (x4 : FVec Ideal Cert.Pre_finite.S2x8x256x64 .f32)
    (h : Cert.Pre_finite.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h (fun a => a.elim0)
  obtain ⟨e01, e2⟩ := IntOp.andi_eq_one.1 e
  obtain ⟨e0, e1⟩ := IntOp.andi_eq_one.1 e01
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i)⟩

attribute [local instance] Cert.Kernel.Gen.facts Cert.KernelIdeal.Gen.facts Cert.ReferenceIdeal.Gen.facts facts in
theorem algebraic : Cert.algebraic_KernelIdeal_ReferenceIdeal_pre_finite := fun m g m' g' hp hm => by
  have hr := fun c => reals _ _ _ _ _ (hp c)
  refine ⟨fun c => (Cert.KernelIdeal.Att.dats m 0 c).arrAt 5 Cert.KernelIdeal.cfg0.N, ?_, ?_⟩
  · exact (θ_run Cert.KernelIdeal.defs _ _).mono (fun r h => h.1) (Cert.KernelIdeal.Att.run_args m g)
  · refine (θ_run Cert.ReferenceIdeal.defs _ _).mono (fun r h c => ⟨(h c).1.trans ?_, (h c).2⟩) (Cert.ReferenceIdeal.Value.run (F := Ideal) m' g')
    obtain ⟨h0, h1, h2, h3, h4⟩ := hm c
    rw [h0, h1, h2, h3, h4]
    exact (Cert.ReferenceIdeal.Read.val_main_v17_eq _ _ _ _ _).trans
      (Cert.KernelIdeal.Att.result_eq m c (hr c).1 (hr c).2.1 (hr c).2.2).symm

end Cert.Finite
end
-- ==== Proof.Step2.lean ====
module

public import proofs.«01_k».proof.Proof.Gen.Kernel2Ideal.Skeleton
public import proofs.«01_k».proof.Proof.Gen.Kernel2Ideal.Frame
public import proofs.«01_k».proof.Proof.Reads
public import Idealize.ShloMosaic.Lib.WritesUnit
public import Idealize.ShloMosaic.Lib.ValueIdxCore
public import Idealize.ShloMosaic.Lib.Pipeline.Value
public import Idealize.ShloMosaic.Lib.VecWindow

/-! The attention's arithmetic, one tile of keys at a time, as functions of the query block, the keys and the values. -/

@[expose] public section

set_option maxRecDepth 16384

noncomputable section

namespace Cert.Kernel2Ideal.Att

open Idealize.ShloMosaic Idealize.ShloMosaic.TcCoe Idealize.ShloMosaic.Tactic
open Idealize.ShloMosaic.ValueIdx
open Cert.Kernel2Ideal.Gen

export Cert.Reads (kvAt vvAt rowsAt row0 readAt_kv readAt_vv readAt_rows rowsAt_cons_self rowsAt_cons_ne
  readAt_row0 row0_cons readAt_whole readAt_rows9 readAt_rows10 disj_rows readCov9_ne readAt_vv0 readAt_init0
  readAt_init1 key_off val_off)

variable {F : FTy → Type} [FloatOps F]

/-- The scores of 256 keys against the query block. -/
def sc (q : FVec F S32x1024 .bf16) (kb : Vec F S1x1x256x32 .bf16) : FVec F S256x1024 .f32 :=
  matmul dot_S256x32_S32x1024_S256x1024_1_0_0_1_n_n none
    (shapeCast S256x32 kb shapeCasts_S1x1x256x32_S256x32) q (constant S256x1024 .f32 0x00000000#32)

/-- The scores of the keys from row `o` on. -/
def sT (q : FVec F S32x1024 .bf16) (K : Vec F S1x1x16640x32 .bf16) (o : ℕ) : FVec F S256x1024 .f32 :=
  sc q (kvAt K o)

/-- The largest score of each column. -/
def cmx (s : FVec F S256x1024 .f32) : FVec F S1x1024 .f32 :=
  shapeCast S1x1024 (multiReduction .maximumf [0] S1024 s 0xFF800000#32 reduces_S256x1024_S1024 (.inl rfl) rfl)
    shapeCasts_S1024_S1x1024

/-- The largest score of each column over a tile of 2048 keys. -/
def cm8 (q : FVec F S32x1024 .bf16) (K : Vec F S1x1x16640x32 .bf16) (o : ℕ) : FVec F S1x1024 .f32 :=
  maximumf (maximumf (maximumf (maximumf (maximumf (maximumf (maximumf (cmx (sT q K (o + 0))) (cmx (sT q K (o + 256))))
    (cmx (sT q K (o + 512)))) (cmx (sT q K (o + 768)))) (cmx (sT q K (o + 1024)))) (cmx (sT q K (o + 1280))))
    (cmx (sT q K (o + 1536)))) (cmx (sT q K (o + 1792)))

/-- The largest score of each column over the first nine subtiles: the context's, then the first tile's. -/
def cm9 (q : FVec F S32x1024 .bf16) (K : Vec F S1x1x16640x32 .bf16) : FVec F S1x1024 .f32 :=
  maximumf (maximumf (maximumf (maximumf (maximumf (maximumf (maximumf (maximumf (cmx (sT q K 16384)) (cmx (sT q K 0)))
    (cmx (sT q K 256))) (cmx (sT q K 512))) (cmx (sT q K 768))) (cmx (sT q K 1024))) (cmx (sT q K 1280)))
    (cmx (sT q K 1536))) (cmx (sT q K 1792))

/-- What one subtile adds to the accumulator, from its scores. -/
def dT (V : Vec F S1x1x80x16640 .bf16) (mn : FVec F S1x1024 .f32) (o : ℕ) (s : FVec F S256x1024 .f32) : FVec F S80x1024 .f32 :=
  matmul dot_S80x256_S256x1024_S80x1024_1_0_0_1_n_n none
    (shapeCast S80x256 (vvAt V o) shapeCasts_S1x1x80x256_S80x256)
    (truncf .bf16 (exp2 (subf s (broadcastTo S256x1024 mn broadcasts_S1x1024_S256x1024))) bitsLt_bf16_f32)
    (constant S80x1024 .f32 0x00000000#32)

/-- What a tile of 2048 keys adds. -/
def pv8 (q : FVec F S32x1024 .bf16) (K : Vec F S1x1x16640x32 .bf16) (V : Vec F S1x1x80x16640 .bf16)
    (mn : FVec F S1x1024 .f32) (o : ℕ) : FVec F S80x1024 .f32 :=
  addf (addf (addf (addf (addf (addf (addf (dT V mn (o + 0) (sT q K (o + 0))) (dT V mn (o + 256) (sT q K (o + 256))))
    (dT V mn (o + 512) (sT q K (o + 512)))) (dT V mn (o + 768) (sT q K (o + 768)))) (dT V mn (o + 1024) (sT q K (o + 1024))))
    (dT V mn (o + 1280) (sT q K (o + 1280)))) (dT V mn (o + 1536) (sT q K (o + 1536)))) (dT V mn (o + 1792) (sT q K (o + 1792)))

/-- What the first nine subtiles add. -/
def pv9 (q : FVec F S32x1024 .bf16) (K : Vec F S1x1x16640x32 .bf16) (V : Vec F S1x1x80x16640 .bf16)
    (mn : FVec F S1x1024 .f32) : FVec F S80x1024 .f32 :=
  addf (addf (addf (addf (addf (addf (addf (addf (dT V mn 16384 (sT q K 16384)) (dT V mn 0 (sT q K 0)))
    (dT V mn 256 (sT q K 256))) (dT V mn 512 (sT q K 512))) (dT V mn 768 (sT q K 768))) (dT V mn 1024 (sT q K 1024)))
    (dT V mn 1280 (sT q K 1280))) (dT V mn 1536 (sT q K 1536))) (dT V mn 1792 (sT q K 1792))

/-- The accumulator carried from the maximum `m` to `mn` and added to. -/
def accS (a : FVec F S80x1024 .f32) (m mn : FVec F S1x1024 .f32) (pv : FVec F S80x1024 .f32) : FVec F S80x1024 .f32 :=
  addf (mulf a (broadcastTo S80x1024 (exp2 (subf m mn)) broadcasts_S1x1024_S80x1024)) pv

/-- The running maximum and the accumulator after `n` tiles beyond the first nine subtiles. -/
def stM (q : FVec F S32x1024 .bf16) (K : Vec F S1x1x16640x32 .bf16) (m0 : FVec F S1x1024 .f32) : ℕ → FVec F S1x1024 .f32
  | 0 => maximumf m0 (cm9 q K)
  | n + 1 => maximumf (stM q K m0 n) (cm8 q K (2048 * (n + 1)))

def stA (q : FVec F S32x1024 .bf16) (K : Vec F S1x1x16640x32 .bf16) (V : Vec F S1x1x80x16640 .bf16)
    (m0 : FVec F S1x1024 .f32) (a0 : FVec F S80x1024 .f32) : ℕ → FVec F S80x1024 .f32
  | 0 => accS a0 m0 (stM q K m0 0) (pv9 q K V (stM q K m0 0))
  | n + 1 => accS (stA q K V m0 a0 n) (stM q K m0 n) (stM q K m0 (n + 1)) (pv8 q K V (stM q K m0 (n + 1)) (2048 * (n + 1)))

theorem stA_succ (q : FVec F S32x1024 .bf16) (K : Vec F S1x1x16640x32 .bf16) (V : Vec F S1x1x80x16640 .bf16)
    (m0 : FVec F S1x1024 .f32) (a0 : FVec F S80x1024 .f32) (n : ℕ) :
    stA q K V m0 a0 (n + 1) = accS (stA q K V m0 a0 n) (stM q K m0 n) (stM q K m0 (n + 1)) (pv8 q K V (stM q K m0 (n + 1)) (2048 * (n + 1))) := rfl

/-- The query block as a matrix. -/
def qM (x : Vec F S1x1x32x1024 .bf16) : FVec F S32x1024 .bf16 := shapeCast S32x1024 x shapeCasts_S1x1x32x1024_S32x1024

/-- The first maximum and the first accumulator, from the initial values' block. -/
def m0Of (I : Vec F S1x2x128 .f32) : FVec F S1x1024 .f32 :=
  Gen.k0_pay87 (fun _ => I (ix3 (0 : Fin 1) (0 : Fin 2) (0 : Fin 128)))

def a0Of (I : Vec F S1x2x128 .f32) : FVec F S80x1024 .f32 :=
  Gen.k0_pay88 (fun _ => I (ix3 (0 : Fin 1) (1 : Fin 2) (0 : Fin 128)))

/-- The output block of one query tile. -/
def outB (I : Vec F S1x2x128 .f32) (x : Vec F S1x1x32x1024 .bf16) (K : Vec F S1x1x16640x32 .bf16)
    (V : Vec F S1x1x80x16640 .bf16) : FVec F S1x1x64x1024 .f32 :=
  Gen.k0_pay2 (stA (qM x) K V (m0Of I) (a0Of I) 7)

/-- What the first scratch holds for the next query block: its first nine subtiles' scores. -/
def Has9 (X : S2304x1024.Idx → Elt F .f32) (q : FVec F S32x1024 .bf16) (K : Vec F S1x1x16640x32 .bf16) : Prop :=
  rowsAt (N := 2304) (by decide) X 0 = sT q K 16384 ∧ rowsAt (N := 2304) (by decide) X 256 = sT q K 0 ∧
  rowsAt (N := 2304) (by decide) X 512 = sT q K 256 ∧ rowsAt (N := 2304) (by decide) X 768 = sT q K 512 ∧
  rowsAt (N := 2304) (by decide) X 1024 = sT q K 768 ∧ rowsAt (N := 2304) (by decide) X 1280 = sT q K 1024 ∧
  rowsAt (N := 2304) (by decide) X 1536 = sT q K 1280 ∧ rowsAt (N := 2304) (by decide) X 1792 = sT q K 1536 ∧
  rowsAt (N := 2304) (by decide) X 2048 = sT q K 1792

/-- What the second scratch holds: the scores of the tile from row `o` on. -/
def Has8 (X : S2048x1024.Idx → Elt F .f32) (q : FVec F S32x1024 .bf16) (K : Vec F S1x1x16640x32 .bf16) (o : ℕ) : Prop :=
  rowsAt (N := 2048) (by decide) X 0 = sT q K (o + 0) ∧ rowsAt (N := 2048) (by decide) X 256 = sT q K (o + 256) ∧
  rowsAt (N := 2048) (by decide) X 512 = sT q K (o + 512) ∧ rowsAt (N := 2048) (by decide) X 768 = sT q K (o + 768) ∧
  rowsAt (N := 2048) (by decide) X 1024 = sT q K (o + 1024) ∧ rowsAt (N := 2048) (by decide) X 1280 = sT q K (o + 1280) ∧
  rowsAt (N := 2048) (by decide) X 1536 = sT q K (o + 1536) ∧ rowsAt (N := 2048) (by decide) X 1792 = sT q K (o + 1792)

section Reads
variable {κ : Kind} {sp : Space}

theorem readAt_kv0 (v : View sig κ sp S1x1x16640x32 .bf16) {o : ℕ}
    (inb : ∀ a, (![0, 0, o, 0] : Fin 4 → ℕ) a + S1x1x256x32.size a ≤ S1x1x16640x32.size a) (X : v.ty.Contents (Elt F)) :
    View.readAt (Elt F) v (Rect.unit (s := S1x1x16640x32) ![0, 0, o, 0] S1x1x256x32.size inb).toLoadRect X
      = kvAt (v.read (Elt F) X) o := readAt_kv v rfl inb X

theorem readAt_q0 (v : View sig κ sp S1x1x32x1024 .bf16)
    (inb : ∀ a, (![0, 0, 0, 0] : Fin 4 → ℕ) a + S1x1x32x1024.size a ≤ S1x1x32x1024.size a) (X : v.ty.Contents (Elt F)) :
    View.readAt (Elt F) v (Rect.unit (s := S1x1x32x1024) ![0, 0, 0, 0] S1x1x32x1024.size inb).toLoadRect X = v.read (Elt F) X :=
  readAt_whole v (by decide) inb X

end Reads

theorem off1_4096_0 (k : Fin k0_t1_loop.trips) : k0_off1 k 4096#32 0#32 = ![0, 0, 2048 * (2 * k.val + 2) + 0, 0] :=
  (k0_off1_eq k ⟨0, by decide⟩ ⟨0, by decide⟩).trans (key_off (by dsimp only; omega))

theorem off1_4096_256 (k : Fin k0_t1_loop.trips) : k0_off1 k 4096#32 256#32 = ![0, 0, 2048 * (2 * k.val + 2) + 256, 0] :=
  (k0_off1_eq k ⟨0, by decide⟩ ⟨1, by decide⟩).trans (key_off (by dsimp only; omega))

theorem off1_4096_512 (k : Fin k0_t1_loop.trips) : k0_off1 k 4096#32 512#32 = ![0, 0, 2048 * (2 * k.val + 2) + 512, 0] :=
  (k0_off1_eq k ⟨0, by decide⟩ ⟨2, by decide⟩).trans (key_off (by dsimp only; omega))

theorem off1_4096_768 (k : Fin k0_t1_loop.trips) : k0_off1 k 4096#32 768#32 = ![0, 0, 2048 * (2 * k.val + 2) + 768, 0] :=
  (k0_off1_eq k ⟨0, by decide⟩ ⟨3, by decide⟩).trans (key_off (by dsimp only; omega))

theorem off1_4096_1024 (k : Fin k0_t1_loop.trips) : k0_off1 k 4096#32 1024#32 = ![0, 0, 2048 * (2 * k.val + 2) + 1024, 0] :=
  (k0_off1_eq k ⟨0, by decide⟩ ⟨4, by decide⟩).trans (key_off (by dsimp only; omega))

theorem off1_4096_1280 (k : Fin k0_t1_loop.trips) : k0_off1 k 4096#32 1280#32 = ![0, 0, 2048 * (2 * k.val + 2) + 1280, 0] :=
  (k0_off1_eq k ⟨0, by decide⟩ ⟨5, by decide⟩).trans (key_off (by dsimp only; omega))

theorem off1_4096_1536 (k : Fin k0_t1_loop.trips) : k0_off1 k 4096#32 1536#32 = ![0, 0, 2048 * (2 * k.val + 2) + 1536, 0] :=
  (k0_off1_eq k ⟨0, by decide⟩ ⟨6, by decide⟩).trans (key_off (by dsimp only; omega))

theorem off1_4096_1792 (k : Fin k0_t1_loop.trips) : k0_off1 k 4096#32 1792#32 = ![0, 0, 2048 * (2 * k.val + 2) + 1792, 0] :=
  (k0_off1_eq k ⟨0, by decide⟩ ⟨7, by decide⟩).trans (key_off (by dsimp only; omega))

theorem off1_6144_0 (k : Fin k0_t1_loop.trips) : k0_off1 k 6144#32 0#32 = ![0, 0, 2048 * (2 * k.val + 3) + 0, 0] :=
  (k0_off1_eq k ⟨1, by decide⟩ ⟨0, by decide⟩).trans (key_off (by dsimp only; omega))

theorem off1_6144_256 (k : Fin k0_t1_loop.trips) : k0_off1 k 6144#32 256#32 = ![0, 0, 2048 * (2 * k.val + 3) + 256, 0] :=
  (k0_off1_eq k ⟨1, by decide⟩ ⟨1, by decide⟩).trans (key_off (by dsimp only; omega))

theorem off1_6144_512 (k : Fin k0_t1_loop.trips) : k0_off1 k 6144#32 512#32 = ![0, 0, 2048 * (2 * k.val + 3) + 512, 0] :=
  (k0_off1_eq k ⟨1, by decide⟩ ⟨2, by decide⟩).trans (key_off (by dsimp only; omega))

theorem off1_6144_768 (k : Fin k0_t1_loop.trips) : k0_off1 k 6144#32 768#32 = ![0, 0, 2048 * (2 * k.val + 3) + 768, 0] :=
  (k0_off1_eq k ⟨1, by decide⟩ ⟨3, by decide⟩).trans (key_off (by dsimp only; omega))

theorem off1_6144_1024 (k : Fin k0_t1_loop.trips) : k0_off1 k 6144#32 1024#32 = ![0, 0, 2048 * (2 * k.val + 3) + 1024, 0] :=
  (k0_off1_eq k ⟨1, by decide⟩ ⟨4, by decide⟩).trans (key_off (by dsimp only; omega))

theorem off1_6144_1280 (k : Fin k0_t1_loop.trips) : k0_off1 k 6144#32 1280#32 = ![0, 0, 2048 * (2 * k.val + 3) + 1280, 0] :=
  (k0_off1_eq k ⟨1, by decide⟩ ⟨5, by decide⟩).trans (key_off (by dsimp only; omega))

theorem off1_6144_1536 (k : Fin k0_t1_loop.trips) : k0_off1 k 6144#32 1536#32 = ![0, 0, 2048 * (2 * k.val + 3) + 1536, 0] :=
  (k0_off1_eq k ⟨1, by decide⟩ ⟨6, by decide⟩).trans (key_off (by dsimp only; omega))

theorem off1_6144_1792 (k : Fin k0_t1_loop.trips) : k0_off1 k 6144#32 1792#32 = ![0, 0, 2048 * (2 * k.val + 3) + 1792, 0] :=
  (k0_off1_eq k ⟨1, by decide⟩ ⟨7, by decide⟩).trans (key_off (by dsimp only; omega))

theorem off2_2048_0 (k : Fin k0_t1_loop.trips) : k0_off2 k 2048#32 0#32 = ![0, 0, 0, 2048 * (2 * k.val + 1) + 0] :=
  (k0_off2_eq k ⟨0, by decide⟩ ⟨0, by decide⟩).trans (val_off (by dsimp only; omega))

theorem off2_2048_256 (k : Fin k0_t1_loop.trips) : k0_off2 k 2048#32 256#32 = ![0, 0, 0, 2048 * (2 * k.val + 1) + 256] :=
  (k0_off2_eq k ⟨0, by decide⟩ ⟨1, by decide⟩).trans (val_off (by dsimp only; omega))

theorem off2_2048_512 (k : Fin k0_t1_loop.trips) : k0_off2 k 2048#32 512#32 = ![0, 0, 0, 2048 * (2 * k.val + 1) + 512] :=
  (k0_off2_eq k ⟨0, by decide⟩ ⟨2, by decide⟩).trans (val_off (by dsimp only; omega))

theorem off2_2048_768 (k : Fin k0_t1_loop.trips) : k0_off2 k 2048#32 768#32 = ![0, 0, 0, 2048 * (2 * k.val + 1) + 768] :=
  (k0_off2_eq k ⟨0, by decide⟩ ⟨3, by decide⟩).trans (val_off (by dsimp only; omega))

theorem off2_2048_1024 (k : Fin k0_t1_loop.trips) : k0_off2 k 2048#32 1024#32 = ![0, 0, 0, 2048 * (2 * k.val + 1) + 1024] :=
  (k0_off2_eq k ⟨0, by decide⟩ ⟨4, by decide⟩).trans (val_off (by dsimp only; omega))

theorem off2_2048_1280 (k : Fin k0_t1_loop.trips) : k0_off2 k 2048#32 1280#32 = ![0, 0, 0, 2048 * (2 * k.val + 1) + 1280] :=
  (k0_off2_eq k ⟨0, by decide⟩ ⟨5, by decide⟩).trans (val_off (by dsimp only; omega))

theorem off2_2048_1536 (k : Fin k0_t1_loop.trips) : k0_off2 k 2048#32 1536#32 = ![0, 0, 0, 2048 * (2 * k.val + 1) + 1536] :=
  (k0_off2_eq k ⟨0, by decide⟩ ⟨6, by decide⟩).trans (val_off (by dsimp only; omega))

theorem off2_2048_1792 (k : Fin k0_t1_loop.trips) : k0_off2 k 2048#32 1792#32 = ![0, 0, 0, 2048 * (2 * k.val + 1) + 1792] :=
  (k0_off2_eq k ⟨0, by decide⟩ ⟨7, by decide⟩).trans (val_off (by dsimp only; omega))

theorem off2_4096_0 (k : Fin k0_t1_loop.trips) : k0_off2 k 4096#32 0#32 = ![0, 0, 0, 2048 * (2 * k.val + 2) + 0] :=
  (k0_off2_eq k ⟨1, by decide⟩ ⟨0, by decide⟩).trans (val_off (by dsimp only; omega))

theorem off2_4096_256 (k : Fin k0_t1_loop.trips) : k0_off2 k 4096#32 256#32 = ![0, 0, 0, 2048 * (2 * k.val + 2) + 256] :=
  (k0_off2_eq k ⟨1, by decide⟩ ⟨1, by decide⟩).trans (val_off (by dsimp only; omega))

theorem off2_4096_512 (k : Fin k0_t1_loop.trips) : k0_off2 k 4096#32 512#32 = ![0, 0, 0, 2048 * (2 * k.val + 2) + 512] :=
  (k0_off2_eq k ⟨1, by decide⟩ ⟨2, by decide⟩).trans (val_off (by dsimp only; omega))

theorem off2_4096_768 (k : Fin k0_t1_loop.trips) : k0_off2 k 4096#32 768#32 = ![0, 0, 0, 2048 * (2 * k.val + 2) + 768] :=
  (k0_off2_eq k ⟨1, by decide⟩ ⟨3, by decide⟩).trans (val_off (by dsimp only; omega))

theorem off2_4096_1024 (k : Fin k0_t1_loop.trips) : k0_off2 k 4096#32 1024#32 = ![0, 0, 0, 2048 * (2 * k.val + 2) + 1024] :=
  (k0_off2_eq k ⟨1, by decide⟩ ⟨4, by decide⟩).trans (val_off (by dsimp only; omega))

theorem off2_4096_1280 (k : Fin k0_t1_loop.trips) : k0_off2 k 4096#32 1280#32 = ![0, 0, 0, 2048 * (2 * k.val + 2) + 1280] :=
  (k0_off2_eq k ⟨1, by decide⟩ ⟨5, by decide⟩).trans (val_off (by dsimp only; omega))

theorem off2_4096_1536 (k : Fin k0_t1_loop.trips) : k0_off2 k 4096#32 1536#32 = ![0, 0, 0, 2048 * (2 * k.val + 2) + 1536] :=
  (k0_off2_eq k ⟨1, by decide⟩ ⟨6, by decide⟩).trans (val_off (by dsimp only; omega))

theorem off2_4096_1792 (k : Fin k0_t1_loop.trips) : k0_off2 k 4096#32 1792#32 = ![0, 0, 0, 2048 * (2 * k.val + 2) + 1792] :=
  (k0_off2_eq k ⟨1, by decide⟩ ⟨7, by decide⟩).trans (val_off (by dsimp only; omega))

end Cert.Kernel2Ideal.Att
end
-- ==== Proof.Trip2.lean ====
module

public import proofs.«01_k».proof.Proof.Step2

/-! One trip of the loop over pairs of key tiles, and the loop by its invariant. -/

@[expose] public section

set_option maxRecDepth 16384
set_option maxHeartbeats 4000000

noncomputable section

namespace Cert.Kernel2Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F]
local notation "𝕄G" => MT nD τ sig Unit (Elt F) ℕ (UR sig nD τ) ℕ

/-- What holds before trip `n`: the second scratch has the next tile's scores, the accumulator and the carried
maxima are those after `2 n` tiles. -/
abbrev invL (c : Dev nD) (arg6 : Memref sig .tc .vmem S1x1x16640x32 .bf16) (arg7 : Memref sig .tc .vmem S1x1x80x16640 .bf16)
    (arg9 : Memref sig .tc .vmem S2304x1024 .f32) (arg10 : Memref sig .tc .vmem S2048x1024 .f32)
    (arg11 : Memref sig .tc .vmem S80x1024 .f32) (X6 : BufTy.Contents (Elt F) arg6.view.ty)
    (X7 : BufTy.Contents (Elt F) arg7.view.ty) (q : FVec F S32x1024 .bf16) (m0 : FVec F S1x1024 .f32) (a0 : FVec F S80x1024 .f32)
    (n : ℕ) (p : FVec F S1x1024 .f32 × FVec F S1x1024 .f32) : sProp 𝕄G :=
  iprop((arg6.view.loc (c : Thread nD τ) ↦[arg6.view.set]{fullShare} X6) ∗ (arg7.view.loc (c : Thread nD τ) ↦[arg7.view.set]{fullShare} X7)
    ∗ (∃ f9, (arg9.view.loc (c : Thread nD τ) ↦[arg9.view.set]{fullShare} f9))
    ∗ (∃ f10, (arg10.view.loc (c : Thread nD τ) ↦[arg10.view.set]{fullShare} f10)
        ∗ ⌜Has8 (arg10.view.read (Elt F) f10) q (arg6.view.read (Elt F) X6) (2048 * (2 * n + 1))⌝)
    ∗ (∃ f11, (arg11.view.loc (c : Thread nD τ) ↦[arg11.view.set]{fullShare} f11)
        ∗ ⌜arg11.view.read (Elt F) f11 = stA q (arg6.view.read (Elt F) X6) (arg7.view.read (Elt F) X7) m0 a0 (2 * n)⌝)
    ∗ ⌜p = (stM q (arg6.view.read (Elt F) X6) m0 (2 * n), cm8 q (arg6.view.read (Elt F) X6) (2048 * (2 * n + 1)))⌝)

theorem trip (𝒱 : Variants) (c : Dev nD) (bd : Option 𝒱.V) (E : Set ℕ) (i : grid0.Coords) (arg3 : Memref sig .tc .vmem S1x2x128 .f32) (harg3 : arg3.IsWhole) (arg4 : Memref sig .tc .vmem S1x1x32x1024 .bf16) (harg4 : arg4.IsWhole) (arg5 : Memref sig .tc .vmem S1x1x32x1024 .bf16) (harg5 : arg5.IsWhole) (arg6 : Memref sig .tc .vmem S1x1x16640x32 .bf16) (harg6 : arg6.IsWhole) (arg7 : Memref sig .tc .vmem S1x1x80x16640 .bf16) (harg7 : arg7.IsWhole) (arg8 : Memref sig .tc .vmem S1x1x64x1024 .f32) (harg8 : arg8.IsWhole) (arg9 : Memref sig .tc .vmem S2304x1024 .f32) (harg9 : arg9.IsWhole) (arg10 : Memref sig .tc .vmem S2048x1024 .f32) (harg10 : arg10.IsWhole) (arg11 : Memref sig .tc .vmem S80x1024 .f32) (harg11 : arg11.IsWhole) (arg12 : Memref sig .tc .vmem S8x1024 .f32) (harg12 : arg12.IsWhole)
    (v1 : FVec F S32x1024 .bf16) (v8 v22 : FVec F S1x1024 .f32) (v146 : FVec F S80x1024 .f32) (v155 : FVec F S1x1024 .f32)
    (X6 : BufTy.Contents (Elt F) arg6.view.ty) (X7 : BufTy.Contents (Elt F) arg7.view.ty) (m0 : FVec F S1x1024 .f32) (a0 : FVec F S80x1024 .f32)
    (k : Fin k0_t1_loop.trips) (acc : FVec F S1x1024 .f32 × FVec F S1x1024 .f32) :
    invL c arg6 arg7 arg9 arg10 arg11 X6 X7 v1 m0 a0 k.val acc
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 v1 v8 v22 v146 v155 k acc)
        (fun p => invL c arg6 arg7 arg9 arg10 arg11 X6 X7 v1 m0 a0 (k.val + 1) p) := by
  have hk : k.val < 3 := Nat.lt_of_lt_of_le k.isLt k0_t1_abs.2.1
  unfold k0_t1_body
  iintro ⟨HR_arg6, HR_arg7, ⟨%f9, HW_arg9⟩, ⟨%f10, HW_arg10, %h10⟩, ⟨%f11, HW_arg11, %h11⟩, %hacc⟩
  subst hacc
  sl_exec
  sl_step
  isplitl [HR_arg6]; · iexact HR_arg6
  isplitl [HR_arg7]; · iexact HR_arg7
  isplitl [HW_arg9]; · iexists _; iexact HW_arg9
  isplitl [HW_arg10]
  · iexists _; isplitl [HW_arg10]; · iexact HW_arg10
    ipureintro
    sl_unfold_run_names
    have e : 2 * (k.val + 1) + 1 = 2 * k.val + 3 := by omega
    rw [e]
    refine ⟨?_, ?_, ?_, ?_, ?_, ?_, ?_, ?_⟩ <;>
      (repeat refine (rowsAt_cons_ne (N := 2048) (by decide) _ _ _ _ _ (by decide) (by decide)).trans ?_) <;>
      refine (rowsAt_cons_self (N := 2048) (by decide) _ _ _ _ _).trans ?_ <;>
      simp only [readAt_kv _ (off1_4096_0 k), readAt_kv _ (off1_4096_256 k), readAt_kv _ (off1_4096_512 k), readAt_kv _ (off1_4096_768 k), readAt_kv _ (off1_4096_1024 k), readAt_kv _ (off1_4096_1280 k), readAt_kv _ (off1_4096_1536 k), readAt_kv _ (off1_4096_1792 k), readAt_kv _ (off1_6144_0 k), readAt_kv _ (off1_6144_256 k), readAt_kv _ (off1_6144_512 k), readAt_kv _ (off1_6144_768 k), readAt_kv _ (off1_6144_1024 k), readAt_kv _ (off1_6144_1280 k), readAt_kv _ (off1_6144_1536 k), readAt_kv _ (off1_6144_1792 k)] <;> exact shapeCast_self _ _
  isplitl [HW_arg11]
  · iexists _; isplitl [HW_arg11]; · iexact HW_arg11
    ipureintro
    sl_unfold_run_names
    refine (View.read_writes_full _ _ _ _ _).trans ?_
    simp (disch := decide) only [↓readCov9_ne, ↓View.readCov_cons_toLoadRect, ↓readAt_rows10, h10.1, h10.2.1, h10.2.2.1, h10.2.2.2.1, h10.2.2.2.2.1, h10.2.2.2.2.2.1, h10.2.2.2.2.2.2.1, h10.2.2.2.2.2.2.2, readAt_kv _ (off1_4096_0 k), readAt_kv _ (off1_4096_256 k), readAt_kv _ (off1_4096_512 k), readAt_kv _ (off1_4096_768 k), readAt_kv _ (off1_4096_1024 k), readAt_kv _ (off1_4096_1280 k), readAt_kv _ (off1_4096_1536 k), readAt_kv _ (off1_4096_1792 k), readAt_kv _ (off1_6144_0 k), readAt_kv _ (off1_6144_256 k), readAt_kv _ (off1_6144_512 k), readAt_kv _ (off1_6144_768 k), readAt_kv _ (off1_6144_1024 k), readAt_kv _ (off1_6144_1280 k), readAt_kv _ (off1_6144_1536 k), readAt_kv _ (off1_6144_1792 k), readAt_vv _ (off2_2048_0 k), readAt_vv _ (off2_2048_256 k), readAt_vv _ (off2_2048_512 k), readAt_vv _ (off2_2048_768 k), readAt_vv _ (off2_2048_1024 k), readAt_vv _ (off2_2048_1280 k), readAt_vv _ (off2_2048_1536 k), readAt_vv _ (off2_2048_1792 k), readAt_vv _ (off2_4096_0 k), readAt_vv _ (off2_4096_256 k), readAt_vv _ (off2_4096_512 k), readAt_vv _ (off2_4096_768 k), readAt_vv _ (off2_4096_1024 k), readAt_vv _ (off2_4096_1280 k), readAt_vv _ (off2_4096_1536 k), readAt_vv _ (off2_4096_1792 k)]
    rw [readAt_whole _ (by decide), h11]
    have e' : 2 * (k.val + 1) = 2 * k.val + 1 + 1 := by omega
    rw [e']
    refine Eq.trans ?_ (stA_succ _ _ _ _ _ _).symm
    rw [stA_succ]
    simp only [k0_pay22, k0_pay25, k0_pay29, k0_pay32, k0_pay37, k0_pay40, k0_pay43, k0_pay47, k0_pay49, k0_pay52, k0_pay57, k0_pay60, k0_pay64, k0_pay67, k0_pay70, k0_pay75, k0_pay78, k0_pay116, shapeCast_self]
    rfl
  ipureintro
  sl_unfold_run_names
  simp only [readAt_kv _ (off1_4096_0 k), readAt_kv _ (off1_4096_256 k), readAt_kv _ (off1_4096_512 k), readAt_kv _ (off1_4096_768 k), readAt_kv _ (off1_4096_1024 k), readAt_kv _ (off1_4096_1280 k), readAt_kv _ (off1_4096_1536 k), readAt_kv _ (off1_4096_1792 k), readAt_kv _ (off1_6144_0 k), readAt_kv _ (off1_6144_256 k), readAt_kv _ (off1_6144_512 k), readAt_kv _ (off1_6144_768 k), readAt_kv _ (off1_6144_1024 k), readAt_kv _ (off1_6144_1280 k), readAt_kv _ (off1_6144_1536 k), readAt_kv _ (off1_6144_1792 k)]
  have e : 2 * (k.val + 1) + 1 = 2 * k.val + 3 := by omega
  have e' : 2 * (k.val + 1) = 2 * k.val + 2 := by omega
  rw [e, e']
  rfl

end Cert.Kernel2Ideal.Att
end
-- ==== Proof.Body2.lean ====
module

public import proofs.«01_k».proof.Proof.Trip2

/-! The kernel's body at one grid point: from the query tile's first scores in scratch to its output block, leaving the
next query tile's first scores in scratch. -/

@[expose] public section

set_option maxRecDepth 16384
set_option maxHeartbeats 4000000

noncomputable section

namespace Cert.Kernel2Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F]
local notation "𝕄G" => MT nD τ sig Unit (Elt F) ℕ (UR sig nD τ) ℕ

theorem body_next (𝒱 : Variants) (c : Dev nD) (bd : Option 𝒱.V) (E : Set ℕ) (i : grid0.Coords) (arg3 : Memref sig .tc .vmem S1x2x128 .f32) (harg3 : arg3.IsWhole) (arg4 : Memref sig .tc .vmem S1x1x32x1024 .bf16) (harg4 : arg4.IsWhole) (arg5 : Memref sig .tc .vmem S1x1x32x1024 .bf16) (harg5 : arg5.IsWhole) (arg6 : Memref sig .tc .vmem S1x1x16640x32 .bf16) (harg6 : arg6.IsWhole) (arg7 : Memref sig .tc .vmem S1x1x80x16640 .bf16) (harg7 : arg7.IsWhole) (arg8 : Memref sig .tc .vmem S1x1x64x1024 .f32) (harg8 : arg8.IsWhole) (arg9 : Memref sig .tc .vmem S2304x1024 .f32) (harg9 : arg9.IsWhole) (arg10 : Memref sig .tc .vmem S2048x1024 .f32) (harg10 : arg10.IsWhole) (arg11 : Memref sig .tc .vmem S80x1024 .f32) (harg11 : arg11.IsWhole) (arg12 : Memref sig .tc .vmem S8x1024 .f32) (harg12 : arg12.IsWhole)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty)
    (hi : ¬ (Scalar.cmpi .ne (Scalar.extui (Scalar.cmpi .eq (BitVec.ofNat 32 (i 2).val) 0#32) : BitVec 32) 0#32 = 1#1))
    (h9 : Has9 (arg9.view.read (Elt F) f9) (qM (arg4.view.read (Elt F) X4)) (arg6.view.read (Elt F) X6))
    (h12 : row0 (arg12.view.read (Elt F) f12) = cm9 (qM (arg4.view.read (Elt F) X4)) (arg6.view.read (Elt F) X6)) :
    (iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)) : sProp 𝕄G)
      ⊢ wp frame (wpE (defs₀ (F := F)) 𝒱 (c : Thread nD τ) bd) E (cc0_dense_attention (F := F) i arg3 harg3 arg4 harg4 arg5 harg5 arg6 harg6 arg7 harg7 arg8 harg8 arg9 harg9 arg10 harg10 arg11 harg11 arg12 harg12)
        (fun _ => iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7)
      ∗ (∃ g8, (arg8.view.loc (c : Thread nD τ) ↦[arg8.view.set]{fullShare} g8)
          ∗ ⌜arg8.view.read (Elt F) g8 = outB (arg3.view.read (Elt F) X3) (arg4.view.read (Elt F) X4) (arg6.view.read (Elt F) X6) (arg7.view.read (Elt F) X7)⌝)
      ∗ (∃ g9, (arg9.view.loc (c : Thread nD τ) ↦[arg9.view.set]{fullShare} g9)
          ∗ ⌜Has9 (arg9.view.read (Elt F) g9) (qM (arg5.view.read (Elt F) X5)) (arg6.view.read (Elt F) X6)⌝)
      ∗ (∃ g10, (arg10.view.loc (c : Thread nD τ) ↦[arg10.view.set]{fullShare} g10))
      ∗ (∃ g11, (arg11.view.loc (c : Thread nD τ) ↦[arg11.view.set]{fullShare} g11))
      ∗ (∃ g12, (arg12.view.loc (c : Thread nD τ) ↦[arg12.view.set]{fullShare} g12)
          ∗ ⌜row0 (arg12.view.read (Elt F) g12) = cm9 (qM (arg5.view.read (Elt F) X5)) (arg6.view.read (Elt F) X6)⌝))) := by
  simp only [cc0_dense_attention_eq_skeleton]; unfold cc0_dense_attention_skel
  iintro ⟨H3, H4, H5, H6, H7, H8, H9, H10, H11, H12⟩
  sl_exec (disch := exact hi)
  sl_unfold_run_names
  generalize hq : k0_pay81 (View.readAt (Elt F) arg4.view (Rect.unit (s := S1x1x32x1024) ![0, 0, 0, 0] S1x1x32x1024.size inb_S1x1x32x1024_S1x1x32x1024_0_0_0_0).toLoadRect X4) = q
  have hq' : qM (arg4.view.read (Elt F) X4) = q := (congrArg qM (readAt_whole arg4.view (by decide) _ X4)).symm.trans hq
  rw [hq'] at h9 h12
  sl_for (invL c arg6 arg7 arg9 arg10 arg11 X6 X7 q (m0Of (arg3.view.read (Elt F) X3)) (a0Of (arg3.view.read (Elt F) X3))) $$ [H6 H7 H9 H10 H11]
  case region =>
    intro k acc
    exact trip 𝒱 c bd E i arg3 harg3 arg4 harg4 arg5 harg5 arg6 harg6 arg7 harg7 arg8 harg8 arg9 harg9 arg10 harg10 arg11 harg11 arg12 harg12 _ _ _ _ _ X6 X7 _ _ k acc
  · isplitl [H6]; · iexact H6
    isplitl [H7]; · iexact H7
    isplitl [H9]; · iexists _; iexact H9
    isplitl [H10]
    · iexists _; isplitl [H10]; · iexact H10
      ipureintro
      sl_unfold_run_names
      subst hq
      refine ⟨?_, ?_, ?_, ?_, ?_, ?_, ?_, ?_⟩ <;>
        (repeat refine (rowsAt_cons_ne (N := 2048) (by decide) _ _ _ _ _ (by decide) (by decide)).trans ?_) <;>
        refine (rowsAt_cons_self (N := 2048) (by decide) _ _ _ _ _).trans ?_ <;>
        simp only [↓readAt_kv0, ↓readAt_q0] <;> exact shapeCast_self _ _
    isplitl [H11]
    · iexists _; isplitl [H11]; · iexact H11
      ipureintro
      sl_unfold_run_names
      subst hq
      refine (View.read_writes_full _ _ _ _ _).trans ?_
      simp (disch := decide) only [↓View.readCov_cons_toLoadRect, ↓readAt_rows9, h9.1, h9.2.1, h9.2.2.1, h9.2.2.2.1, h9.2.2.2.2.1, h9.2.2.2.2.2.1, h9.2.2.2.2.2.2.1, h9.2.2.2.2.2.2.2.1, h9.2.2.2.2.2.2.2.2, ↓readAt_row0, h12,
        ↓readAt_kv0, ↓readAt_vv0, ↓readAt_init0, ↓readAt_init1, ↓readAt_q0]
      simp only [k0_pay83, k0_pay85, k0_pay86, k0_pay91, k0_pay93, k0_pay97, k0_pay99, k0_pay103, k0_pay106, k0_pay110, k0_pay113, k0_pay115, k0_pay116, shapeCast_self]
      rfl
    ipureintro
    sl_unfold_run_names
    subst hq
    simp only [↓readAt_row0, h12, ↓readAt_kv0, ↓readAt_init0, ↓readAt_q0]
    rfl
  iintro %acc ⟨H6, H7, ⟨%g9, H9⟩, ⟨%g10, H10, %h10⟩, ⟨%g11, H11, %h11⟩, %hacc⟩
  have ht : k0_t1_loop.trips = 3 := by decide +kernel
  replace h10 : Has8 (arg10.view.read (Elt F) g10) q (arg6.view.read (Elt F) X6) (2048 * (2 * 3 + 1)) := by rw [← ht]; exact h10
  replace h11 : arg11.view.read (Elt F) g11 = stA q (arg6.view.read (Elt F) X6) (arg7.view.read (Elt F) X7)
      (m0Of (arg3.view.read (Elt F) X3)) (a0Of (arg3.view.read (Elt F) X3)) (2 * 3) := by rw [← ht]; exact h11
  replace hacc : acc = (stM q (arg6.view.read (Elt F) X6) (m0Of (arg3.view.read (Elt F) X3)) (2 * 3), cm8 q (arg6.view.read (Elt F) X6) (2048 * (2 * 3 + 1))) := by
    rw [← ht]; exact hacc
  subst hacc
  sl_exec
  sl_step
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    sl_unfold_run_names
    refine (View.read_writes_full _ _ _ _ _).trans ?_
    simp (disch := decide) only [↓View.readCov_cons_toLoadRect, ↓readAt_rows10, h10.1, h10.2.1, h10.2.2.1, h10.2.2.2.1, h10.2.2.2.2.1, h10.2.2.2.2.2.1, h10.2.2.2.2.2.2.1, h10.2.2.2.2.2.2.2, ↓readAt_vv0, ↓readAt_q0]
    rw [readAt_whole _ (by decide), h11]
    unfold outB
    rw [hq', stA_succ]
    refine congrArg k0_pay2 ?_
    simp only [k0_pay147, shapeCast_self]
    rfl
  isplitl [H9]
  · iexists _; isplitl [H9]; · iexact H9
    ipureintro
    sl_unfold_run_names
    refine ⟨?_, ?_, ?_, ?_, ?_, ?_, ?_, ?_, ?_⟩ <;>
      (repeat refine (rowsAt_cons_ne (N := 2304) (by decide) _ _ _ _ _ (by decide) (by decide)).trans ?_) <;>
      refine (rowsAt_cons_self (N := 2304) (by decide) _ _ _ _ _).trans ?_ <;>
      simp only [↓readAt_kv0, ↓readAt_q0] <;> exact shapeCast_self _ _
  isplitl [H10]; · iexists _; iexact H10
  isplitl [H11]; · iexists _; iexact H11
  iexists _; isplitl [H12]; · iexact H12
  ipureintro
  sl_unfold_run_names
  refine (row0_cons _ _ _ _ _).trans ?_
  simp only [↓readAt_kv0, ↓readAt_q0]
  exact shapeCast_self _ _

end Cert.Kernel2Ideal.Att
end
-- ==== Proof.BodyFirst2.lean ====
module

public import proofs.«01_k».proof.Proof.Trip2

/-! The kernel's body at one grid point: of a head's first query tile, which also computes its own first scores, leaving the
next query tile's first scores in scratch. -/

@[expose] public section

set_option maxRecDepth 16384
set_option maxHeartbeats 4000000

noncomputable section

namespace Cert.Kernel2Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F]
local notation "𝕄G" => MT nD τ sig Unit (Elt F) ℕ (UR sig nD τ) ℕ

theorem body_first (𝒱 : Variants) (c : Dev nD) (bd : Option 𝒱.V) (E : Set ℕ) (i : grid0.Coords) (arg3 : Memref sig .tc .vmem S1x2x128 .f32) (harg3 : arg3.IsWhole) (arg4 : Memref sig .tc .vmem S1x1x32x1024 .bf16) (harg4 : arg4.IsWhole) (arg5 : Memref sig .tc .vmem S1x1x32x1024 .bf16) (harg5 : arg5.IsWhole) (arg6 : Memref sig .tc .vmem S1x1x16640x32 .bf16) (harg6 : arg6.IsWhole) (arg7 : Memref sig .tc .vmem S1x1x80x16640 .bf16) (harg7 : arg7.IsWhole) (arg8 : Memref sig .tc .vmem S1x1x64x1024 .f32) (harg8 : arg8.IsWhole) (arg9 : Memref sig .tc .vmem S2304x1024 .f32) (harg9 : arg9.IsWhole) (arg10 : Memref sig .tc .vmem S2048x1024 .f32) (harg10 : arg10.IsWhole) (arg11 : Memref sig .tc .vmem S80x1024 .f32) (harg11 : arg11.IsWhole) (arg12 : Memref sig .tc .vmem S8x1024 .f32) (harg12 : arg12.IsWhole)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty)
    (hi : (Scalar.cmpi .ne (Scalar.extui (Scalar.cmpi .eq (BitVec.ofNat 32 (i 2).val) 0#32) : BitVec 32) 0#32 = 1#1)) :
    (iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)) : sProp 𝕄G)
      ⊢ wp frame (wpE (defs₀ (F := F)) 𝒱 (c : Thread nD τ) bd) E (cc0_dense_attention (F := F) i arg3 harg3 arg4 harg4 arg5 harg5 arg6 harg6 arg7 harg7 arg8 harg8 arg9 harg9 arg10 harg10 arg11 harg11 arg12 harg12)
        (fun _ => iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7)
      ∗ (∃ g8, (arg8.view.loc (c : Thread nD τ) ↦[arg8.view.set]{fullShare} g8)
          ∗ ⌜arg8.view.read (Elt F) g8 = outB (arg3.view.read (Elt F) X3) (arg4.view.read (Elt F) X4) (arg6.view.read (Elt F) X6) (arg7.view.read (Elt F) X7)⌝)
      ∗ (∃ g9, (arg9.view.loc (c : Thread nD τ) ↦[arg9.view.set]{fullShare} g9)
          ∗ ⌜Has9 (arg9.view.read (Elt F) g9) (qM (arg5.view.read (Elt F) X5)) (arg6.view.read (Elt F) X6)⌝)
      ∗ (∃ g10, (arg10.view.loc (c : Thread nD τ) ↦[arg10.view.set]{fullShare} g10))
      ∗ (∃ g11, (arg11.view.loc (c : Thread nD τ) ↦[arg11.view.set]{fullShare} g11))
      ∗ (∃ g12, (arg12.view.loc (c : Thread nD τ) ↦[arg12.view.set]{fullShare} g12)
          ∗ ⌜row0 (arg12.view.read (Elt F) g12) = cm9 (qM (arg5.view.read (Elt F) X5)) (arg6.view.read (Elt F) X6)⌝))) := by
  simp only [cc0_dense_attention_eq_skeleton]; unfold cc0_dense_attention_skel
  iintro ⟨H3, H4, H5, H6, H7, H8, H9, H10, H11, H12⟩
  sl_exec (disch := exact hi)
  sl_unfold_run_names
  generalize hq : k0_pay81 (View.readAt (Elt F) arg4.view (Rect.unit (s := S1x1x32x1024) ![0, 0, 0, 0] S1x1x32x1024.size inb_S1x1x32x1024_S1x1x32x1024_0_0_0_0).toLoadRect X4) = q
  have hq' : qM (arg4.view.read (Elt F) X4) = q := (congrArg qM (readAt_whole arg4.view (by decide) _ X4)).symm.trans hq
  sl_for (invL c arg6 arg7 arg9 arg10 arg11 X6 X7 q (m0Of (arg3.view.read (Elt F) X3)) (a0Of (arg3.view.read (Elt F) X3))) $$ [H6 H7 H9 H10 H11]
  case region =>
    intro k acc
    exact trip 𝒱 c bd E i arg3 harg3 arg4 harg4 arg5 harg5 arg6 harg6 arg7 harg7 arg8 harg8 arg9 harg9 arg10 harg10 arg11 harg11 arg12 harg12 _ _ _ _ _ X6 X7 _ _ k acc
  · isplitl [H6]; · iexact H6
    isplitl [H7]; · iexact H7
    isplitl [H9]; · iexists _; iexact H9
    isplitl [H10]
    · iexists _; isplitl [H10]; · iexact H10
      ipureintro
      sl_unfold_run_names
      subst hq
      refine ⟨?_, ?_, ?_, ?_, ?_, ?_, ?_, ?_⟩ <;>
        (repeat refine (rowsAt_cons_ne (N := 2048) (by decide) _ _ _ _ _ (by decide) (by decide)).trans ?_) <;>
        refine (rowsAt_cons_self (N := 2048) (by decide) _ _ _ _ _).trans ?_ <;>
        simp only [↓readAt_kv0, ↓readAt_q0] <;> exact shapeCast_self _ _
    isplitl [H11]
    · iexists _; isplitl [H11]; · iexact H11
      ipureintro
      sl_unfold_run_names
      subst hq
      refine (View.read_writes_full _ _ _ _ _).trans ?_
      simp (disch := decide) only [↓View.readCov_cons_toLoadRect, ↓readCov9_ne,
        ↓readAt_kv0, ↓readAt_vv0, ↓readAt_init0, ↓readAt_init1, ↓readAt_q0]
      simp only [k0_pay4, k0_pay6, k0_pay8, k0_pay12, k0_pay14, k0_pay16, k0_pay19, k0_pay83, k0_pay85, k0_pay86, k0_pay91, k0_pay93, k0_pay97, k0_pay99, k0_pay103, k0_pay106, k0_pay110, k0_pay113, k0_pay115, k0_pay116, shapeCast_self]
      rfl
    ipureintro
    sl_unfold_run_names
    subst hq
    simp only [↓View.readCov_cons_toLoadRect, ↓readAt_kv0, ↓readAt_init0, ↓readAt_q0]
    simp only [k0_pay86, shapeCast_self]
    rfl
  iintro %acc ⟨H6, H7, ⟨%g9, H9⟩, ⟨%g10, H10, %h10⟩, ⟨%g11, H11, %h11⟩, %hacc⟩
  have ht : k0_t1_loop.trips = 3 := by decide +kernel
  replace h10 : Has8 (arg10.view.read (Elt F) g10) q (arg6.view.read (Elt F) X6) (2048 * (2 * 3 + 1)) := by rw [← ht]; exact h10
  replace h11 : arg11.view.read (Elt F) g11 = stA q (arg6.view.read (Elt F) X6) (arg7.view.read (Elt F) X7)
      (m0Of (arg3.view.read (Elt F) X3)) (a0Of (arg3.view.read (Elt F) X3)) (2 * 3) := by rw [← ht]; exact h11
  replace hacc : acc = (stM q (arg6.view.read (Elt F) X6) (m0Of (arg3.view.read (Elt F) X3)) (2 * 3), cm8 q (arg6.view.read (Elt F) X6) (2048 * (2 * 3 + 1))) := by
    rw [← ht]; exact hacc
  subst hacc
  sl_exec
  sl_step
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    sl_unfold_run_names
    refine (View.read_writes_full _ _ _ _ _).trans ?_
    simp (disch := decide) only [↓View.readCov_cons_toLoadRect, ↓readAt_rows10, h10.1, h10.2.1, h10.2.2.1, h10.2.2.2.1, h10.2.2.2.2.1, h10.2.2.2.2.2.1, h10.2.2.2.2.2.2.1, h10.2.2.2.2.2.2.2, ↓readAt_vv0, ↓readAt_q0]
    rw [readAt_whole _ (by decide), h11]
    unfold outB
    rw [hq', stA_succ]
    refine congrArg k0_pay2 ?_
    simp only [k0_pay147, shapeCast_self]
    rfl
  isplitl [H9]
  · iexists _; isplitl [H9]; · iexact H9
    ipureintro
    sl_unfold_run_names
    refine ⟨?_, ?_, ?_, ?_, ?_, ?_, ?_, ?_, ?_⟩ <;>
      (repeat refine (rowsAt_cons_ne (N := 2304) (by decide) _ _ _ _ _ (by decide) (by decide)).trans ?_) <;>
      refine (rowsAt_cons_self (N := 2304) (by decide) _ _ _ _ _).trans ?_ <;>
      simp only [↓readAt_kv0, ↓readAt_q0] <;> exact shapeCast_self _ _
  isplitl [H10]; · iexists _; iexact H10
  isplitl [H11]; · iexists _; iexact H11
  iexists _; isplitl [H12]; · iexact H12
  ipureintro
  sl_unfold_run_names
  refine (row0_cons _ _ _ _ _).trans ?_
  simp only [↓readAt_kv0, ↓readAt_q0]
  exact shapeCast_self _ _

end Cert.Kernel2Ideal.Att
end
-- ==== Proof.Blocks2.lean ====
module

public import proofs.«01_k».proof.Proof.Step2
public import Idealize.ShloMosaic.Lib.Pipeline.ValueKit

/-! The input windows' blocks at coordinates, and how a point's blocks follow from those of the point before it. -/

@[expose] public section

set_option maxRecDepth 16384

noncomputable section

namespace Cert.Kernel2Ideal.Att

open Idealize.ShloMosaic Idealize.ShloMosaic.TcCoe Idealize.ShloMosaic.ValueIdx
open Idealize.SL Idealize.SL.Sem
open Cert.Kernel2Ideal.Gen

variable {F : FTy → Type} [FloatOps F]
variable (m : (ℓ : Loc nD τ sig) → Buf (Elt F) ℓ)

/-- The batch, the head and the query tile of a grid point. -/
abbrev bOf (t : Fin cfg0.N) : ℕ := (grid0.coords t 0).val
abbrev hOf (t : Fin cfg0.N) : ℕ := (grid0.coords t 1).val
abbrev jOf (t : Fin cfg0.N) : ℕ := (grid0.coords t 2).val

theorem idx0 : ∀ t : Fin cfg0.N, win0_0.index t = ![hOf t, 0, 0] := (by decide +kernel : ∀ t : Fin grid0.N, _)
theorem idx1 : ∀ t : Fin cfg0.N, win0_1.index t = ![bOf t, hOf t, 0, jOf t] := (by decide +kernel : ∀ t : Fin grid0.N, _)
theorem idx2 : ∀ t : Fin cfg0.N, win0_2.index t = ![bOf t, hOf t, 0, min (jOf t + 1) 15] := (by decide +kernel : ∀ t : Fin grid0.N, _)
theorem idx3 : ∀ t : Fin cfg0.N, win0_3.index t = ![bOf t, hOf t, 0, 0] := (by decide +kernel : ∀ t : Fin grid0.N, _)
theorem idx4 : ∀ t : Fin cfg0.N, win0_4.index t = ![bOf t, hOf t / 2, 0, 0] := (by decide +kernel : ∀ t : Fin grid0.N, _)
theorem idx5 : ∀ t : Fin cfg0.N, win0_5.index t = ![bOf t, hOf t, 0, jOf t] := (by decide +kernel : ∀ t : Fin grid0.N, _)

theorem blk0 (c : Dev nD) (t : Fin cfg0.N) (y : S1x2x128.Idx) (z : S16x2x128.Idx)
    (h0 : (z 0).val = hOf t + (y 0).val) (h1 : (z 1).val = (y 1).val) (h2 : (z 2).val = (y 2).val) :
    iblk m c 0 t y = V m c main_v24 z := by
  have e := idx0 t
  blk_simp [iblk]
  congr 1
  funext a; apply Fin.ext
  fin_cases a
  all_goals (blk_simp [e]; simp at *; omega)

theorem blk1 (c : Dev nD) (t : Fin cfg0.N) (y : S1x1x32x1024.Idx) (z : S2x16x32x16640.Idx)
    (h0 : (z 0).val = bOf t + (y 0).val) (h1 : (z 1).val = hOf t + (y 1).val) (h2 : (z 2).val = (y 2).val)
    (h3 : (z 3).val = jOf t * 1024 + (y 3).val) :
    X0_1 m c t y = V m c main_v22 z := by
  have e := idx1 t
  unfold X0_1 Pipeline.Window.fill
  rw [dif_pos (moved0_1 t y)]
  blk_simp [iblk]
  congr 1
  funext a; apply Fin.ext
  fin_cases a <;> (blk_simp [e]; simp at *; omega)

theorem blk3 (c : Dev nD) (t : Fin cfg0.N) (y : S1x1x16640x32.Idx) (z : S2x16x16640x32.Idx)
    (h0 : (z 0).val = bOf t + (y 0).val) (h1 : (z 1).val = hOf t + (y 1).val) (h2 : (z 2).val = (y 2).val)
    (h3 : (z 3).val = (y 3).val) :
    iblk m c 3 t y = V m c main_v11 z := by
  have e := idx3 t
  blk_simp [iblk]
  congr 1
  funext a; apply Fin.ext
  fin_cases a
  all_goals (blk_simp [e]; simp at *; omega)

theorem blk4 (c : Dev nD) (t : Fin cfg0.N) (y : S1x1x80x16640.Idx) (z : S2x8x80x16640.Idx)
    (h0 : (z 0).val = bOf t + (y 0).val) (h1 : (z 1).val = hOf t / 2 + (y 1).val) (h2 : (z 2).val = (y 2).val)
    (h3 : (z 3).val = (y 3).val) :
    iblk m c 4 t y = V m c main_v21 z := by
  have e := idx4 t
  blk_simp [iblk]
  congr 1
  funext a; apply Fin.ext
  fin_cases a
  all_goals (blk_simp [e]; simp at *; omega)

/-- A point's successor on the same head: the same batch and head, the next query tile. -/
theorem next_coords : ∀ t t' : Fin cfg0.N, t'.val = t.val + 1 → t'.val % 16 ≠ 0 →
    bOf t' = bOf t ∧ hOf t' = hOf t ∧ jOf t' = jOf t + 1 := by
  have h : ∀ t : Fin cfg0.N, bOf t = t.val / 256 ∧ hOf t = t.val / 16 % 16 ∧ jOf t = t.val % 16 :=
    (by decide +kernel : ∀ t : Fin grid0.N, _)
  intro t t' e n
  obtain ⟨a, b, d⟩ := h t; obtain ⟨a', b', d'⟩ := h t'
  omega

theorem jOf_eq : ∀ t : Fin cfg0.N, jOf t = t.val % 16 := (by decide +kernel : ∀ t : Fin grid0.N, _)

theorem keys_next (c : Dev nD) (t t' : Fin cfg0.N) (h : t'.val = t.val + 1) (hn : t'.val % 16 ≠ 0) :
    (iblk m c 3 t' : S1x1x16640x32.Idx → Elt F .bf16) = iblk m c 3 t := by
  obtain ⟨hb, hh, -⟩ := next_coords t t' h hn
  have e := idx3 t; have e' := idx3 t'
  funext y
  blk_simp [iblk]
  congr 1
  funext a; apply Fin.ext
  blk_simp [e, e', hb, hh]

theorem query_next (c : Dev nD) (t t' : Fin cfg0.N) (h : t'.val = t.val + 1) (hn : t'.val % 16 ≠ 0) :
    (X0_1 m c t' : S1x1x32x1024.Idx → Elt F .bf16) = X0_2 m c t := by
  obtain ⟨hb, hh, hj⟩ := next_coords t t' h hn
  have e := idx2 t; have e' := idx1 t'
  have hj' : min (jOf t + 1) 15 = jOf t' := by
    have := jOf_eq t'; omega
  rw [hj'] at e
  funext y
  unfold X0_1 X0_2 Pipeline.Window.fill
  rw [dif_pos (moved0_1 t' y), dif_pos (moved0_2 t y)]
  blk_simp [iblk]
  congr 1
  funext a; apply Fin.ext
  fin_cases a
  all_goals (blk_simp [e, e', hb, hh])

/-- The kernel's condition is the head's first query tile. -/
theorem first_iff : ∀ t : Fin cfg0.N, (Scalar.cmpi .ne (Scalar.extui (Scalar.cmpi .eq (BitVec.ofNat 32 (grid0.coords t 2).val) 0#32) : BitVec 32) 0#32 = 1#1) ↔ t.val % 16 = 0 :=
  (by decide +kernel : ∀ t : Fin grid0.N, _)

end Cert.Kernel2Ideal.Att
end
-- ==== Proof.Run2.lean ====
module

public import proofs.«01_k».proof.Proof.Body2
public import proofs.«01_k».proof.Proof.BodyFirst2
public import proofs.«01_k».proof.Proof.Blocks2

/-! The launch: the scratch carries the query tile's first scores from point to point, and the output's staging buffer
holds at each point the attention of the point's blocks. -/

@[expose] public section

set_option maxRecDepth 16384

noncomputable section

namespace Cert.Kernel2Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)
open Cert.Kernel2Ideal.Gen

variable {F : FTy → Type} [FloatOps F]
local notation "𝕄G" => MT nD τ sig Unit (Elt F) ℕ (UR sig nD τ) ℕ

variable (m : (ℓ : Loc nD τ sig) → Buf (Elt F) ℓ) (ρ : Dev nD → PrngReg)

abbrev s9 : Memref sig .tc .vmem S2304x1024 .f32 := Memref.whole cc0_scratch0
abbrev s10 : Memref sig .tc .vmem S2048x1024 .f32 := Memref.whole cc0_scratch1
abbrev s11 : Memref sig .tc .vmem S80x1024 .f32 := Memref.whole cc0_scratch2
abbrev s12 : Memref sig .tc .vmem S8x1024 .f32 := Memref.whole cc0_scratch3

/-- The blocks of a point, at their own shapes. -/
abbrev kB (c : Dev nD) (t : Fin cfg0.N) : FVec F S1x1x16640x32 .bf16 := iblk m c 3 t
abbrev qB (c : Dev nD) (t : Fin cfg0.N) : FVec F S1x1x32x1024 .bf16 := X0_1 m c t
abbrev oB (c : Dev nD) (t : Fin cfg0.N) : FVec F S1x1x64x1024 .f32 :=
  outB (iblk m c 0 t) (X0_1 m c t) (iblk m c 3 t) (iblk m c 4 t)

/-- What the score buffers hold before position `n`: unless a head starts there, the first scores of its query tile. -/
def T9 (c : Dev nD) (n : ℕ) (X : FVec F S2304x1024 .f32) : Prop :=
  ∀ t : Fin cfg0.N, t.val = n → t.val % 16 ≠ 0 → Has9 X (qM (qB m c t)) (kB m c t)
def T12 (c : Dev nD) (n : ℕ) (X : FVec F S8x1024 .f32) : Prop :=
  ∀ t : Fin cfg0.N, t.val = n → t.val % 16 ≠ 0 → row0 X = cm9 (qM (qB m c t)) (kB m c t)

/-- The scratch and the generator register between points. -/
def Inv (c : Dev nD) (n : ℕ) : sProp 𝕄G :=
  iprop((∃ X, owns (c : Thread nD τ) s9 fullShare X ∗ ⌜T9 m c n X⌝)
    ∗ (∃ X, owns (c : Thread nD τ) s10 fullShare X) ∗ (∃ X, owns (c : Thread nD τ) s11 fullShare X)
    ∗ (∃ X, owns (c : Thread nD τ) s12 fullShare X ∗ ⌜T12 m c n X⌝) ∗ (∃ r, prngReg c r))

def dats (_ : Fin 1) (c : Dev nD) : Dat τ (Elt F) Unit ℕ (UR sig nD τ) ℕ cfg0 c where
  A w := V m c (Pipeline.arrRef spec0 w)
  after w t := match w with
    | 0 => iblk m c 0 t
    | 1 => X0_1 m c t
    | 2 => X0_2 m c t
    | 3 => iblk m c 3 t
    | 4 => iblk m c 4 t
    | 5 => oB m c t
    | ⟨_ + 6, h⟩ => absurd h (Nat.not_lt.2 (Nat.le_add_left _ _))
  Φ n := Inv m c n.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = oB m c t := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = X0_1 m c t :=
  before0_1_of m _ (A_eq m c 1) (after_1 m c) t d
theorem before_2 (c : Dev nD) (t : Fin cfg0.N) (d) : (dats m 0 c).before 2 t d = X0_2 m c t :=
  before0_2_of m _ (A_eq m c 2) (after_2 m c) t d
theorem before_3 (c : Dev nD) (t : Fin cfg0.N) (d) : (dats m 0 c).before 3 t d = iblk m c 3 t :=
  before0_3_of m _ (A_eq m c 3) (after_3 m c) t d
theorem before_4 (c : Dev nD) (t : Fin cfg0.N) (d) : (dats m 0 c).before 4 t d = iblk m c 4 t :=
  before0_4_of m _ (A_eq m c 4) (after_4 m c) t d

/-- The staging buffers at a point, at given contents of the output's. -/
def bodyPre (c : Dev nD) (t : Fin cfg0.N) : sProp 𝕄G :=
  iprop(Inv m c t.val ∗ (dats m 0 c).owesAt () t.castSucc
    ∗ owns (c : Thread nD τ) (st0_0 t) fullShare (iblk m c 0 t) ∗ owns (c : Thread nD τ) (st0_1 t) fullShare (X0_1 m c t)
    ∗ owns (c : Thread nD τ) (st0_2 t) fullShare (X0_2 m c t) ∗ owns (c : Thread nD τ) (st0_3 t) fullShare (iblk m c 3 t)
    ∗ owns (c : Thread nD τ) (st0_4 t) fullShare (iblk m c 4 t) ∗ (∃ X, owns (c : Thread nD τ) (st0_5 t) fullShare X))
def bodyPost (c : Dev nD) (t : Fin cfg0.N) : sProp 𝕄G :=
  iprop(Inv m c (t.val + 1) ∗ (dats m 0 c).owesAt () t.castSucc
    ∗ owns (c : Thread nD τ) (st0_0 t) fullShare (iblk m c 0 t) ∗ owns (c : Thread nD τ) (st0_1 t) fullShare (X0_1 m c t)
    ∗ owns (c : Thread nD τ) (st0_2 t) fullShare (X0_2 m c t) ∗ owns (c : Thread nD τ) (st0_3 t) fullShare (iblk m c 3 t)
    ∗ owns (c : Thread nD τ) (st0_4 t) fullShare (iblk m c 4 t) ∗ owns (c : Thread nD τ) (st0_5 t) fullShare (oB m c t))

/-- What the body leaves in scratch is what the next position needs. -/
theorem T9_next (c : Dev nD) (t : Fin cfg0.N) (X : FVec F S2304x1024 .f32)
    (h : Has9 X (qM (X0_2 m c t : FVec F S1x1x32x1024 .bf16)) (kB m c t)) : T9 m c (t.val + 1) X := by
  intro t' e n
  have ek := keys_next m c t t' e n
  have eq := query_next m c t t' e n
  unfold qB kB; rw [eq, ek]; exact h
theorem T12_next (c : Dev nD) (t : Fin cfg0.N) (X : FVec F S8x1024 .f32)
    (h : row0 X = cm9 (qM (X0_2 m c t : FVec F S1x1x32x1024 .bf16)) (kB m c t)) : T12 m c (t.val + 1) X := by
  intro t' e n
  have ek := keys_next m c t t' e n
  have eq := query_next m c t t' e n
  unfold qB kB; rw [eq, ek]; exact h

/-- A pure fact beside a points-to is the contents owned. -/
theorem owns_of (c : Dev nD) {sp : Space} {sh : Shape} {e : EltTy} (M : Memref sig .tc sp sh e) (f : BufTy.Contents (Elt F) M.view.ty) (X : sh.Idx → Elt F e)
    (h : M.view.read (Elt F) f = X) : (M.view.loc (c : Thread nD τ) ↦[M.view.set]{fullShare} f : sProp 𝕄G) ⊢ owns (c : Thread nD τ) M fullShare X := by
  unfold owns
  iintro H; iexists f; isplitr
  · ipureintro; exact h
  · iexact H

theorem sound_body (𝒱 : Variants) (c : Dev nD) (t : Fin cfg0.N) :
    bodyPre m c t ⊢ wp frame (wpE (defs₀ (F := F)) 𝒱 (c : Thread nD τ) none) Set.univ (bodyAt0 t) (fun _ => bodyPost m c t) := by
  unfold bodyPre Inv owns
  iintro ⟨⟨⟨%X9, ⟨%f9, %e9, H9⟩, %h9⟩, ⟨%X10, %f10, -, H10⟩, ⟨%X11, %f11, -, H11⟩, ⟨%X12, ⟨%f12, %e12, H12⟩, %h12⟩, Hr⟩, HO,
    ⟨%f3, %e3, H3⟩, ⟨%f4, %e4, H4⟩, ⟨%f5, %e5, H5⟩, ⟨%f6, %e6, H6⟩, ⟨%f7, %e7, H7⟩, ⟨%X8, %f8, -, H8⟩⟩
  have key : (iprop(((st0_0 t).view.loc (c : Thread nD τ) ↦[(st0_0 t).view.set]{fullShare} f3) ∗ ((st0_1 t).view.loc (c : Thread nD τ) ↦[(st0_1 t).view.set]{fullShare} f4)
      ∗ ((st0_2 t).view.loc (c : Thread nD τ) ↦[(st0_2 t).view.set]{fullShare} f5) ∗ ((st0_3 t).view.loc (c : Thread nD τ) ↦[(st0_3 t).view.set]{fullShare} f6)
      ∗ ((st0_4 t).view.loc (c : Thread nD τ) ↦[(st0_4 t).view.set]{fullShare} f7) ∗ ((st0_5 t).view.loc (c : Thread nD τ) ↦[(st0_5 t).view.set]{fullShare} f8)
      ∗ (s9.view.loc (c : Thread nD τ) ↦[s9.view.set]{fullShare} f9) ∗ (s10.view.loc (c : Thread nD τ) ↦[s10.view.set]{fullShare} f10)
      ∗ (s11.view.loc (c : Thread nD τ) ↦[s11.view.set]{fullShare} f11) ∗ (s12.view.loc (c : Thread nD τ) ↦[s12.view.set]{fullShare} f12)) : sProp 𝕄G)
      ⊢ wp frame (wpE (defs₀ (F := F)) 𝒱 (c : Thread nD τ) none) Set.univ (bodyAt0 t)
        (fun _ => iprop(((st0_0 t).view.loc (c : Thread nD τ) ↦[(st0_0 t).view.set]{fullShare} f3) ∗ ((st0_1 t).view.loc (c : Thread nD τ) ↦[(st0_1 t).view.set]{fullShare} f4)
      ∗ ((st0_2 t).view.loc (c : Thread nD τ) ↦[(st0_2 t).view.set]{fullShare} f5) ∗ ((st0_3 t).view.loc (c : Thread nD τ) ↦[(st0_3 t).view.set]{fullShare} f6)
      ∗ ((st0_4 t).view.loc (c : Thread nD τ) ↦[(st0_4 t).view.set]{fullShare} f7)
      ∗ (∃ g8, ((st0_5 t).view.loc (c : Thread nD τ) ↦[(st0_5 t).view.set]{fullShare} g8)
          ∗ ⌜(st0_5 t).view.read (Elt F) g8 = outB ((st0_0 t).view.read (Elt F) f3) ((st0_1 t).view.read (Elt F) f4) ((st0_3 t).view.read (Elt F) f6) ((st0_4 t).view.read (Elt F) f7)⌝)
      ∗ (∃ g9, (s9.view.loc (c : Thread nD τ) ↦[s9.view.set]{fullShare} g9)
          ∗ ⌜Has9 (s9.view.read (Elt F) g9) (qM ((st0_2 t).view.read (Elt F) f5)) ((st0_3 t).view.read (Elt F) f6)⌝)
      ∗ (∃ g10, (s10.view.loc (c : Thread nD τ) ↦[s10.view.set]{fullShare} g10))
      ∗ (∃ g11, (s11.view.loc (c : Thread nD τ) ↦[s11.view.set]{fullShare} g11))
      ∗ (∃ g12, (s12.view.loc (c : Thread nD τ) ↦[s12.view.set]{fullShare} g12)
          ∗ ⌜row0 (s12.view.read (Elt F) g12) = cm9 (qM ((st0_2 t).view.read (Elt F) f5)) ((st0_3 t).view.read (Elt F) f6)⌝))) := by
    by_cases hz : t.val % 16 = 0
    · exact body_first 𝒱 c none Set.univ (grid0.coords t) _ _ _ _ _ _ _ _ _ _ _ _ _ _ _ _ _ _ _ _ f3 f4 f5 f6 f7 f8 f9 f10 f11 f12 ((first_iff t).mpr hz)
    · refine body_next 𝒱 c none Set.univ (grid0.coords t) _ _ _ _ _ _ _ _ _ _ _ _ _ _ _ _ _ _ _ _ f3 f4 f5 f6 f7 f8 f9 f10 f11 f12 (fun h => hz ((first_iff t).mp h)) ?_ ?_
      · have := h9 t rfl hz
        rw [← e9] at this; unfold qB kB at this; rw [← e4, ← e6] at this; exact this
      · have := h12 t rfl hz
        rw [← e12] at this; unfold qB kB at this; rw [← e4, ← e6] at this; exact this
  iapply (wp_wand_r frame (wpE (defs₀ (F := F)) 𝒱 (c : Thread nD τ) none) Set.univ)
  isplitl [H3 H4 H5 H6 H7 H8 H9 H10 H11 H12]
  · iapply key
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨H3, H4, H5, H6, H7, ⟨%g8, H8, %k8⟩, ⟨%g9, H9, %k9⟩, ⟨%g10, H10⟩, ⟨%g11, H11⟩, ⟨%g12, H12, %k12⟩⟩
  unfold bodyPost Inv
  isplitl [H9 H10 H11 H12 Hr]
  · isplitl [H9]
    · iexists (s9.view.read (Elt F) g9); isplitl [H9]
      · iapply (owns_of c s9 g9 _ rfl); iexact H9
      · ipureintro; rw [e5, e6] at k9; exact T9_next m c t _ k9
    isplitl [H10]
    · iexists (s10.view.read (Elt F) g10); iapply (owns_of c s10 g10 _ rfl); iexact H10
    isplitl [H11]
    · iexists (s11.view.read (Elt F) g11); iapply (owns_of c s11 g11 _ rfl); iexact H11
    isplitl [H12]
    · iexists (s12.view.read (Elt F) g12); isplitl [H12]
      · iapply (owns_of c s12 g12 _ rfl); iexact H12
      · ipureintro; rw [e5, e6] at k12; exact T12_next m c t _ k12
    iexact Hr
  isplitl [HO]; · iexact HO
  isplitl [H3]; · iapply (owns_of c (st0_0 t) f3 _ e3); iexact H3
  isplitl [H4]; · iapply (owns_of c (st0_1 t) f4 _ e4); iexact H4
  isplitl [H5]; · iapply (owns_of c (st0_2 t) f5 _ e5); iexact H5
  isplitl [H6]; · iapply (owns_of c (st0_3 t) f6 _ e6); iexact H6
  isplitl [H7]; · iapply (owns_of c (st0_4 t) f7 _ e7); iexact H7
  iapply (owns_of c (st0_5 t) g8 _ (by rw [e3, e4, e6, e7] at k8; exact k8)); iexact H8

/-- The body table's row at a point is the body as called there. -/
theorem defs₀_row (t : Fin cfg0.N) : defs₀ (F := F) .tc cfg0.body (cfg0.bodyArgs t (cfg0.slots t)) = bodyAt0 t := by
  unfold defs₀; rw [Defs.onTc_tc]

/-- The staging buffers handed to the body are those of its precondition. -/
theorem pre_of (c : Dev nD) (t : Fin cfg0.N) :
    (iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))) : sProp 𝕄G)
      ⊢ bodyPre m c t := by
  rw [show (dats m 0 c).Φ t.castSucc = Inv m c t.val from by dsimp only [dats]; rfl]
  simp only [before_0, before_1, before_2, before_3, before_4]
  unfold bodyPre
  iintro ⟨HI, HO, ⟨%d0, H0⟩, ⟨%d1, H1⟩, ⟨%d2, H2⟩, ⟨%d3, H3⟩, ⟨%d4, H4⟩, ⟨%d5, H5⟩⟩
  isplitl [HI]; · iexact HI
  isplitl [HO]; · iexact HO
  isplitl [H0]; · iexact H0
  isplitl [H1]; · iexact H1
  isplitl [H2]; · iexact H2
  isplitl [H3]; · iexact H3
  isplitl [H4]; · iexact H4
  iexists _; iexact H5

/-- The body's postcondition is the pipeline's. -/
theorem post_of (c : Dev nD) (t : Fin cfg0.N) :
    bodyPost m c t ⊢ (iprop((dats m 0 c).Φ t.succ ∗ (dats m 0 c).owesAt () t.succ
      ∗ owns (c : Thread nD τ) (st0_0 t) fullShare ((dats m 0 c).after 0 t) ∗ owns (c : Thread nD τ) (st0_1 t) fullShare ((dats m 0 c).after 1 t)
      ∗ owns (c : Thread nD τ) (st0_2 t) fullShare ((dats m 0 c).after 2 t) ∗ owns (c : Thread nD τ) (st0_3 t) fullShare ((dats m 0 c).after 3 t)
      ∗ owns (c : Thread nD τ) (st0_4 t) fullShare ((dats m 0 c).after 4 t) ∗ owns (c : Thread nD τ) (st0_5 t) fullShare ((dats m 0 c).after 5 t)) : sProp 𝕄G) := by
  rw [show (dats m 0 c).Φ t.succ = Inv m c (t.val + 1) from by dsimp only [dats]; rfl,
    show (dats m 0 c).owesAt () t.succ = (dats m 0 c).owesAt () t.castSucc from rfl,
    after_0, after_1, after_2, after_3, after_4, after_5]
  exact .rfl

theorem body_obligation (𝒱 : Variants) (c : Dev nD) : BodyObligation (dats (F := F) m 0 c) (defs₀ (F := F)) 𝒱 () Set.univ := fun t => by
  rw [bigSep_W0, bigSep_W0, defs₀_row]
  exact triple_restated (sound_body m 𝒱 c t) rfl (pre_of m c t) fun _ => post_of m c t

/-- The scratch at anything and the generator register are what the pipeline starts from, -/
theorem hin (c : Dev nD) : (Pipeline.ΦA spec0 c : sProp 𝕄G) ⊢ (dats m 0 c).Φ 0 := by
  rw [show (dats m 0 c).Φ 0 = Inv m c 0 from by dsimp only [dats]; rfl]
  unfold Pipeline.ΦA Inv
  rw [scopedRest0_eq]
  simp only [owns_whole]
  iintro ⟨⟨⟨%f0, H0⟩, ⟨%f1, H1⟩, ⟨%f2, H2⟩, ⟨%f3, H3⟩⟩, Hr⟩
  isplitl [H0]
  · iexists f0; isplitl [H0]
    · iexact H0
    · ipureintro; intro t e n; exact absurd (by omega) n
  isplitl [H1]; · iexists f1; iexact H1
  isplitl [H2]; · iexists f2; iexact H2
  isplitl [H3]
  · iexists f3; isplitl [H3]
    · iexact H3
    · ipureintro; intro t e n; exact absurd (by omega) n
  iexact Hr

/-- and what it ends with. -/
theorem hout (c : Dev nD) : (dats m 0 c).Φ (Fin.last cfg0.N) ⊢ (Pipeline.ΦA spec0 c : sProp 𝕄G) := by
  rw [show (dats m 0 c).Φ (Fin.last cfg0.N) = Inv m c (Fin.last cfg0.N).val from by dsimp only [dats]]
  generalize (Fin.last cfg0.N).val = n
  unfold Pipeline.ΦA Inv
  rw [scopedRest0_eq]
  simp only [owns_whole]
  iintro ⟨⟨%f0, H0, -⟩, ⟨%f1, H1⟩, ⟨%f2, H2⟩, ⟨%f3, H3, -⟩, Hr⟩
  isplitl [H0 H1 H2 H3]
  · isplitl [H0]; · iexists f0; iexact H0
    isplitl [H1]; · iexists f1; iexact H1
    isplitl [H2]; · iexists f2; iexact H2
    iexists f3; iexact H3
  iexact Hr

set_option backward.isDefEq.respectTransparency.types false in
/-- From any memory with zero counters every execution of `main` terminates, every array ends at what the library
computes of the proof data, every other buffer as found, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m Variants.none c).loose) (hq := fun _ _ _ => rfl)
    (howed := fun _ _ => rfl) (V := V m) (hmain := hmain m Variants.none) (hA := A_eq m)
    (hin := hin m) (hout := hout m)

/-- The run read at the arguments, the result and the counters. -/
theorem run_args : θ_run defs (onTc (τ := τ) (main (F := F))) ⟨m, fun _ => 0, ρ⟩ (fun r => (∀ c : Dev nD,
      r.2.mem ((c.tc : Thread nD τ).loc main_v25) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r (h : _ ∧ _) => ⟨fun c =>
    ⟨(h.1 c).1 5,
     ((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c)⟩, h.2⟩) (run_main m ρ)

end Cert.Kernel2Ideal.Att
end
-- ==== Proof.Frames2.lean ====
module

public import proofs.«01_k».proof.Defs
public import proofs.«01_k».proof.Proof.Run2
public import proofs.«01_k».proof.Proof.Gen.Kernel2
public import proofs.«01_k».proof.Proof.Gen.Reference2Ideal.Run

/-! The frames: the kernel's at both float instances from its one run, and the reference's from its value run. -/

@[expose] public section

noncomputable section

namespace Cert.Frames2

open Idealize.ShloMosaic Idealize.ShloMosaic.TcCoe Idealize.SL.Sem

section SameText
set_option backward.isDefEq.respectTransparency.types false
set_option maxRecDepth 65536

/-! The two programs have one text: their kernels and their body tables are equal. -/

theorem kern_eq : @Cert.Kernel2Ideal.cc0_dense_attention Bits _ Cert.Kernel2Ideal.Gen.facts = @Cert.Kernel2.cc0_dense_attention Bits _ Cert.Kernel2.Gen.facts := by rfl

theorem bodies_eq : @Cert.Kernel2Ideal.defs₀ Bits _ Cert.Kernel2Ideal.Gen.facts = @Cert.Kernel2.defs₀ Bits _ Cert.Kernel2.Gen.facts := by
  unfold Cert.Kernel2Ideal.defs₀ Cert.Kernel2.defs₀
  rw [kern_eq]
  refine congrArg Defs.onTc (funext fun l => funext fun a => ?_)
  obtain ⟨l, hl⟩ := l
  match l, hl, a with
  | 0, _, a => rfl

theorem defs_eq : @Cert.Kernel2Ideal.defs Bits _ Cert.Kernel2Ideal.Gen.facts = @Cert.Kernel2.defs Bits _ Cert.Kernel2.Gen.facts := by
  unfold Cert.Kernel2Ideal.defs Cert.Kernel2.defs
  rw [bodies_eq]
  rfl

theorem kernel_bits : Cert.quiescent_Kernel2 := by
  intro m ρ _
  have h := (θ_run (Cert.Kernel2Ideal.defs (F := Bits)) _ _).mono
    (fun r (h : _ ∧ r.2.sem = fun _ => 0) => And.intro (fun c => (h.1 c).2) h.2) (Cert.Kernel2Ideal.Att.run_args (F := Bits) m ρ)
  rw [defs_eq] at h
  exact h
end SameText

theorem kernel_ideal : Cert.quiescent_Kernel2Ideal := by
  intro m ρ _
  have h := (θ_run (Cert.Kernel2Ideal.defs (F := Ideal)) _ _).mono
    (fun r (h : _ ∧ r.2.sem = fun _ => 0) => And.intro (fun c => (h.1 c).2) h.2) (Cert.Kernel2Ideal.Att.run_args (F := Ideal) m ρ)
  exact h

theorem reference_ideal : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

end Cert.Frames2
end
-- ==== Proof.Entries2.lean ====
module

public import proofs.«01_k».proof.Proof.Step2
public import proofs.«01_k».proof.Proof.Soft
public import Idealize.ShloMosaic.Lib.Pointwise

/-! The tile functions of `Step.lean` read at an element, over the extended reals. -/

@[expose] public section

set_option maxRecDepth 16384

noncomputable section

namespace Cert.Kernel2Ideal.Att

open Idealize.ShloMosaic Idealize.ShloMosaic.TcCoe Idealize.ShloMosaic.Tactic
open Cert.Kernel2Ideal.Gen

/-- A row of the keys and a column of the values, by number. -/
def kIx (k : ℕ) (d : Fin 32) : S1x1x16640x32.Idx := ix4 (0 : Fin 1) (0 : Fin 1) (⟨k % 16640, Nat.mod_lt _ (by decide)⟩ : Fin 16640) d
def vIx (r : Fin 80) (k : ℕ) : S1x1x80x16640.Idx := ix4 (0 : Fin 1) (0 : Fin 1) r (⟨k % 16640, Nat.mod_lt _ (by decide)⟩ : Fin 16640)

/-- The score of key `k` against query `j`. -/
def score (q : FVec Ideal S32x1024 .bf16) (K : Vec Ideal S1x1x16640x32 .bf16) (j : Fin 1024) (k : ℕ) : EReal :=
  ∑ d : Fin 32, K (kIx k d) * q (ix2 d j)

theorem sT_apply (q : FVec Ideal S32x1024 .bf16) (K : Vec Ideal S1x1x16640x32 .bf16) (o : ℕ) (i : Fin 256) (j : Fin 1024) :
    sT q K o (ix2 i j) = score q K j (o + i.val) := by
  unfold sT sc kvAt score kIx
  pointwise
  rfl

theorem cmx_apply (s : FVec Ideal S256x1024 .f32) (j : Fin 1024) :
    cmx s (ix2 (0 : Fin 1) j) = (Finset.univ : Finset (Fin 256)).fold max ⊥ (fun i => s (ix2 i j)) := by
  unfold cmx
  pointwise
  rfl

theorem dT_apply (V : Vec Ideal S1x1x80x16640 .bf16) (mn : FVec Ideal S1x1024 .f32) (o : ℕ) (s : FVec Ideal S256x1024 .f32)
    (r : Fin 80) (j : Fin 1024) :
    dT V mn o s (ix2 r j) = ∑ i : Fin 256, V (vIx r (o + i.val)) * Ideal.exp2 (s (ix2 i j) - mn (ix2 (0 : Fin 1) j)) := by
  unfold dT vvAt vIx
  pointwise
  rfl

theorem accS_apply (a : FVec Ideal S80x1024 .f32) (m mn : FVec Ideal S1x1024 .f32) (pv : FVec Ideal S80x1024 .f32)
    (r : Fin 80) (j : Fin 1024) :
    accS a m mn pv (ix2 r j) = a (ix2 r j) * Ideal.exp2 (m (ix2 (0 : Fin 1) j) - mn (ix2 (0 : Fin 1) j)) + pv (ix2 r j) := by
  unfold accS
  pointwise
  rfl

theorem qM_apply (x : Vec Ideal S1x1x32x1024 .bf16) (d : Fin 32) (j : Fin 1024) :
    qM x (ix2 d j) = x (ix4 (0 : Fin 1) (0 : Fin 1) d j) := by
  unfold qM
  pointwise

theorem m0Of_apply (I : Vec Ideal S1x2x128 .f32) (j : Fin 1024) :
    m0Of I (ix2 (0 : Fin 1) j) = I (ix3 (0 : Fin 1) (0 : Fin 2) (0 : Fin 128)) := by
  unfold m0Of Gen.k0_pay87
  pointwise
  rfl

theorem a0Of_apply (I : Vec Ideal S1x2x128 .f32) (h : I (ix3 (0 : Fin 1) (1 : Fin 2) (0 : Fin 128)) = 0) (r : Fin 80) (j : Fin 1024) :
    a0Of I (ix2 r j) = 0 := by
  unfold a0Of Gen.k0_pay88
  pointwise
  have h' : I (ValueIdx.ix3 (0 : Fin 1) (1 : Fin 2) (0 : Fin 128)) = 0 := h
  rw [h']
  unfold Scalar.select
  split <;> rfl

theorem outB_apply (I : Vec Ideal S1x2x128 .f32) (x : Vec Ideal S1x1x32x1024 .bf16) (K : Vec Ideal S1x1x16640x32 .bf16)
    (V : Vec Ideal S1x1x80x16640 .bf16) (r : Fin 64) (j : Fin 1024) :
    outB I x K V (ix4 (0 : Fin 1) (0 : Fin 1) r j)
      = Ideal.div (stA (qM x) K V (m0Of I) (a0Of I) 7 (ix2 (⟨r.val, by omega⟩ : Fin 80) j))
          (stA (qM x) K V (m0Of I) (a0Of I) 7 (ix2 (64 : Fin 80) j)) := by
  unfold outB Gen.k0_pay2
  generalize stA (qM x) K V (m0Of I) (a0Of I) 7 = a
  pointwise

end Cert.Kernel2Ideal.Att
end
-- ==== Proof.Online2.lean ====
module

public import proofs.«01_k».proof.Proof.Entries2

/-! The online softmax: after every tile of keys the accumulator is the sum over the keys so far, at the running
maximum, and after the last tile over all of them. -/

@[expose] public section

set_option maxRecDepth 16384

noncomputable section

namespace Cert.Kernel2Ideal.Att

open Idealize.ShloMosaic Idealize.ShloMosaic.TcCoe Idealize.ShloMosaic.Tactic
open Cert.Kernel2Ideal.Gen Cert.Soft

variable (q : FVec Ideal S32x1024 .bf16) (K : Vec Ideal S1x1x16640x32 .bf16) (V : Vec Ideal S1x1x80x16640 .bf16)
  (m0 : FVec Ideal S1x1024 .f32) (a0 : FVec Ideal S80x1024 .f32) (j : Fin 1024)

/-- What key `k` adds to row `r` at the shift `M`, its score being `s k`. -/
def term (s : ℕ → ℝ) (M : ℝ) (r : Fin 80) (k : ℕ) : EReal := V (vIx r k) * wt (s k) M

theorem sum_tiles (g : ℕ → EReal) (o : ℕ) :
    (∑ k ∈ Finset.range 2048, g (o + k)) = (∑ k ∈ Finset.range 256, g (o + 0 + k)) + (∑ k ∈ Finset.range 256, g (o + 256 + k))
      + (∑ k ∈ Finset.range 256, g (o + 512 + k)) + (∑ k ∈ Finset.range 256, g (o + 768 + k)) + (∑ k ∈ Finset.range 256, g (o + 1024 + k))
      + (∑ k ∈ Finset.range 256, g (o + 1280 + k)) + (∑ k ∈ Finset.range 256, g (o + 1536 + k)) + (∑ k ∈ Finset.range 256, g (o + 1792 + k)) := by
  rw [show 2048 = 1792 + 256 from rfl, Finset.sum_range_add, show 1792 = 1536 + 256 from rfl, Finset.sum_range_add,
    show 1536 = 1280 + 256 from rfl, Finset.sum_range_add, show 1280 = 1024 + 256 from rfl, Finset.sum_range_add,
    show 1024 = 768 + 256 from rfl, Finset.sum_range_add, show 768 = 512 + 256 from rfl, Finset.sum_range_add,
    show 512 = 256 + 256 from rfl, Finset.sum_range_add]
  simp only [Nat.add_assoc, Nat.zero_add]

section Column
variable {q K V m0 a0 j} {s : ℕ → ℝ} (hs : ∀ k, score q K j k = ((s k : ℝ) : EReal))
include hs

theorem cmx_real (o : ℕ) : ∃ r : ℝ, cmx (sT q K o) (ix2 (0 : Fin 1) j) = (r : EReal) := by
  rw [cmx_apply]
  exact fold_max_real _ ⟨0, Finset.mem_univ _⟩ _ fun i => ⟨s (o + i.val), by rw [sT_apply, hs]⟩

theorem cm8_real (o : ℕ) : ∃ r : ℝ, cm8 q K o (ix2 (0 : Fin 1) j) = (r : EReal) := by
  unfold cm8
  exact max_real (max_real (max_real (max_real (max_real (max_real (max_real (cmx_real hs _) (cmx_real hs _)) (cmx_real hs _))
    (cmx_real hs _)) (cmx_real hs _)) (cmx_real hs _)) (cmx_real hs _)) (cmx_real hs _)

theorem cm9_real : ∃ r : ℝ, cm9 q K (ix2 (0 : Fin 1) j) = (r : EReal) := by
  unfold cm9
  exact max_real (max_real (max_real (max_real (max_real (max_real (max_real (max_real (cmx_real hs _) (cmx_real hs _)) (cmx_real hs _))
    (cmx_real hs _)) (cmx_real hs _)) (cmx_real hs _)) (cmx_real hs _)) (cmx_real hs _)) (cmx_real hs _)

theorem stM_real (h0 : ∃ r : ℝ, m0 (ix2 (0 : Fin 1) j) = (r : EReal)) (n : ℕ) :
    ∃ r : ℝ, stM q K m0 n (ix2 (0 : Fin 1) j) = (r : EReal) := by
  induction n with
  | zero => exact max_real h0 (cm9_real hs)
  | succ n ih => exact max_real ih (cm8_real hs _)

theorem dT_term {mn : FVec Ideal S1x1024 .f32} {M : ℝ} (hM : mn (ix2 (0 : Fin 1) j) = (M : EReal)) (o : ℕ) (r : Fin 80) :
    dT V mn o (sT q K o) (ix2 r j) = ∑ k ∈ Finset.range 256, term V s M r (o + k) := by
  rw [dT_apply, Finset.sum_range]
  refine Finset.sum_congr rfl fun i _ => ?_
  rw [sT_apply, hs, hM]
  rfl

theorem pv8_term {mn : FVec Ideal S1x1024 .f32} {M : ℝ} (hM : mn (ix2 (0 : Fin 1) j) = (M : EReal)) (o : ℕ) (r : Fin 80) :
    pv8 q K V mn o (ix2 r j) = ∑ k ∈ Finset.range 2048, term V s M r (o + k) := by
  rw [sum_tiles]
  simp only [← dT_term (V := V) hs hM]
  rfl

theorem pv9_term {mn : FVec Ideal S1x1024 .f32} {M : ℝ} (hM : mn (ix2 (0 : Fin 1) j) = (M : EReal)) (r : Fin 80) :
    pv9 q K V mn (ix2 r j) = (∑ k ∈ Finset.range 256, term V s M r (16384 + k)) + ∑ k ∈ Finset.range 2048, term V s M r k := by
  have h := sum_tiles (term V s M r) 0
  simp only [← dT_term (V := V) hs hM] at h
  rw [show (∑ k ∈ Finset.range 2048, term V s M r k) = ∑ k ∈ Finset.range 2048, term V s M r (0 + k) from by simp only [Nat.zero_add],
    h, ← dT_term (V := V) hs hM]
  simp only [← add_assoc]
  rfl

/-- The accumulator after `n` tiles beyond the first nine subtiles. -/
theorem stA_term (h0 : ∃ r : ℝ, m0 (ix2 (0 : Fin 1) j) = (r : EReal)) (r : Fin 80) (ha : a0 (ix2 r j) = 0) (n : ℕ) (M : ℝ)
    (hM : stM q K m0 n (ix2 (0 : Fin 1) j) = (M : EReal)) :
    stA q K V m0 a0 n (ix2 r j)
      = (∑ k ∈ Finset.range 256, term V s M r (16384 + k)) + ∑ k ∈ Finset.range (2048 * (n + 1)), term V s M r k := by
  induction n generalizing M with
  | zero =>
    show accS a0 m0 (stM q K m0 0) (pv9 q K V (stM q K m0 0)) (ix2 r j) = _
    rw [accS_apply, ha, zero_mul, zero_add, pv9_term hs hM]
  | succ n ih =>
    obtain ⟨L, hL⟩ := stM_real hs h0 n
    rw [stA_succ, accS_apply, ih L hL, hL, hM, pv8_term hs hM, show 2048 * (n + 1 + 1) = 2048 * (n + 1) + 2048 from by ring,
      Finset.sum_range_add, ← add_assoc]
    congr 1
    exact carry_add _ _ 16384 (fun k => V (vIx r k)) s L M

/-- The accumulator after the last tile. -/
theorem stA_last (h0 : ∃ r : ℝ, m0 (ix2 (0 : Fin 1) j) = (r : EReal)) (M : ℝ)
    (hM : stM q K m0 7 (ix2 (0 : Fin 1) j) = (M : EReal)) (r : Fin 80) (ha : a0 (ix2 r j) = 0) :
    stA q K V m0 a0 7 (ix2 r j) = ∑ k : Fin 16640, V (vIx r k.val) * wt (s k.val) M := by
  have e := Finset.sum_range (n := 16384 + 256) (fun k => term V s M r k)
  rw [Finset.sum_range_add] at e
  rw [stA_term hs h0 r ha 7 M hM, add_comm]
  exact e

end Column

end Cert.Kernel2Ideal.Att
end
-- ==== Proof.Tile2.lean ====
module

public import proofs.«01_k».proof.Proof.Online2

/-! A tile of the output: at real queries and keys, the values weighted by the softmax of the scaled scores. -/

@[expose] public section

set_option maxRecDepth 16384

noncomputable section

namespace Cert.Kernel2Ideal.Att

open Idealize.ShloMosaic Idealize.ShloMosaic.TcCoe Idealize.ShloMosaic.Tactic
open Cert.Kernel2Ideal.Gen Cert.Soft

/-- The scaled scores of one query. -/
def scaled (qr : Fin 32 → ℝ) (kr : Fin 16640 → Fin 32 → ℝ) (κ : ℝ) (k : Fin 16640) : ℝ := (∑ d, qr d * kr k d) * κ

/-- Scaling the query to base two scales the score. -/
theorem score_base_two (qr kr : Fin 32 → ℝ) (κ : ℝ) :
    (∑ d : Fin 32, ((kr d : ℝ) : EReal) * Ideal.div (((qr d : ℝ) : EReal) * ((κ : ℝ) : EReal)) (Ideal.log ((2 : ℝ) : EReal)))
      = (((∑ d, qr d * kr d) * κ / Real.log 2 : ℝ) : EReal) := by
  have hl : Ideal.log ((2 : ℝ) : EReal) = ((Real.log 2 : ℝ) : EReal) := by
    rw [Ideal.log_coe, if_neg (by norm_num)]
  simp only [hl, div_coe_pos _ log_two_pos, ← EReal.coe_mul]
  rw [coe_sum, Finset.sum_mul, Finset.sum_div]
  congr 1
  refine Finset.sum_congr rfl fun d _ => ?_
  rw [div_eq_mul_inv]; ring

theorem outB_softmax (I : Vec Ideal S1x2x128 .f32) (x : Vec Ideal S1x1x32x1024 .bf16) (K : Vec Ideal S1x1x16640x32 .bf16)
    (V : Vec Ideal S1x1x80x16640 .bf16) (r : Fin 64) (j : Fin 1024) (qr : Fin 32 → ℝ) (kr : Fin 16640 → Fin 32 → ℝ) (κ : ℝ)
    (hq : ∀ d, x (ix4 (0 : Fin 1) (0 : Fin 1) d j) = Ideal.div (((qr d : ℝ) : EReal) * ((κ : ℝ) : EReal)) (Ideal.log ((2 : ℝ) : EReal)))
    (hk : ∀ k d, K (ix4 (0 : Fin 1) (0 : Fin 1) k d) = ((kr k d : ℝ) : EReal))
    (hone : ∀ k, V (ix4 (0 : Fin 1) (0 : Fin 1) (64 : Fin 80) k) = (1 : EReal))
    (h0 : ∃ r : ℝ, I (ix3 (0 : Fin 1) (0 : Fin 2) (0 : Fin 128)) = (r : EReal))
    (h1 : I (ix3 (0 : Fin 1) (1 : Fin 2) (0 : Fin 128)) = (0 : EReal)) (M : ℝ) :
    outB I x K V (ix4 (0 : Fin 1) (0 : Fin 1) r j)
      = ∑ k, Ideal.div (Ideal.exp ((scaled qr kr κ k : EReal) - (M : EReal))) (∑ i, Ideal.exp ((scaled qr kr κ i : EReal) - (M : EReal)))
          * V (ix4 (0 : Fin 1) (0 : Fin 1) (⟨r.val, by omega⟩ : Fin 80) k) := by
  have hs : ∀ k : ℕ, score (qM x) K j k = ((scaled qr kr κ ⟨k % 16640, Nat.mod_lt _ (by decide)⟩ / Real.log 2 : ℝ) : EReal) := fun k => by
    unfold score kIx scaled
    simp only [qM_apply, hq, hk]
    exact score_base_two qr _ κ
  have hm : ∃ r : ℝ, m0Of I (ix2 (0 : Fin 1) j) = (r : EReal) := by rw [m0Of_apply]; exact h0
  obtain ⟨B, hB⟩ := stM_real hs hm 7
  have hv : ∀ (q : Fin 80) (k : Fin 16640), vIx q k.val = ix4 (0 : Fin 1) (0 : Fin 1) q k := fun q k => by
    unfold vIx; congr 1; exact Fin.ext (Nat.mod_eq_of_lt k.isLt)
  have hmod : ∀ k : Fin 16640, (⟨k.val % 16640, Nat.mod_lt _ (by decide)⟩ : Fin 16640) = k := fun k => Fin.ext (Nat.mod_eq_of_lt k.isLt)
  rw [outB_apply, stA_last hs hm B hB _ (a0Of_apply I h1 _ j), stA_last hs hm B hB _ (a0Of_apply I h1 _ j)]
  simp only [hv, hmod, hone, one_mul]
  exact quotient (by decide) (scaled qr kr κ) _ B M

end Cert.Kernel2Ideal.Att
end
-- ==== Proof.Prep2.lean ====
module

public import proofs.«01_k».proof.Proof.Step2
public import Idealize.ShloMosaic.Lib.Pointwise
public import Idealize.ShloMosaic.Lib.Claim
public import Idealize.ShloMosaic.Lib.IdealHost

/-! What the operations before the launch leave in its arguments: the queries scaled to base two and transposed, the keys
and the values followed by the context's, a row of ones below the values, and the starting maximum and sum. -/

@[expose] public section
set_option maxRecDepth 16384
noncomputable section
namespace Cert.Kernel2Ideal.Att
open Idealize.ShloMosaic Idealize.ShloMosaic.TcCoe Idealize.ShloMosaic.Tactic
open Cert.Kernel2Ideal.Gen

variable (m : (ℓ : Loc nD τ sig) → Buf (Elt Ideal) ℓ) (c : Dev nD)

/-- The head of a pair of heads and a place in it. -/
def pHead (h : Fin 8) (p : Fin 2) : Fin 16 := ⟨2 * h.val + p.val, by omega⟩

/-- The key of a row, of the image or of the context. -/
def keyAt (x1 : Vec Ideal S2x2x8x16384x32 .f32) (x2 : Vec Ideal S2x2x8x256x32 .f32) (p b : Fin 2) (h : Fin 8) (k : Fin 16640) (d : Fin 32) : EReal :=
  if hk : k.val < 16384 then x1 (ix5 p b h (⟨k.val, hk⟩ : Fin 16384) d) else x2 (ix5 p b h (⟨k.val - 16384, by omega⟩ : Fin 256) d)

/-- The value of a row, of the image or of the context. -/
def valAt (x3 : Vec Ideal S2x8x16384x64 .f32) (x4 : Vec Ideal S2x8x256x64 .f32) (b : Fin 2) (h : Fin 8) (k : Fin 16640) (r : Fin 64) : EReal :=
  if hk : k.val < 16384 then x3 (ix4 b h (⟨k.val, hk⟩ : Fin 16384) r) else x4 (ix4 b h (⟨k.val - 16384, by omega⟩ : Fin 256) r)

theorem keys_in (p b : Fin 2) (h : Fin 8) (k : Fin 16640) (d : Fin 32) :
    (V m c main_v11 (ix4 b (pHead h p) k d) : EReal) = keyAt (m (c, main_arg1)) (m (c, main_arg2)) p b h k d := by
  dsimp only [V, hostOps0, hostOps0_1, hostOps0_2, hostOps0_3, hostOps0_4, List.flatten_cons, List.flatten_nil, List.append_nil, List.cons_append, List.nil_append]
  entry_read
  refine (shapeCast_apply _ _ (ix4 b (pHead h p) k d) (ix5 b h p k d) ?_).trans ?_
  · rw [Shape.rowMajor_val_five, Shape.rowMajor_val_four]
    show (((b.val * 8 + h.val) * 2 + p.val) * 16640 + k.val) * 32 + d.val = ((b.val * 16 + (2 * h.val + p.val)) * 16640 + k.val) * 32 + d.val
    omega
  unfold keyAt
  pointwise

theorem values_in (b : Fin 2) (h : Fin 8) (k : Fin 16640) (r : Fin 64) :
    (V m c main_v21 (ix4 b h (⟨r.val, by omega⟩ : Fin 80) k) : EReal) = valAt (m (c, main_arg3)) (m (c, main_arg4)) b h k r := by
  dsimp only [V, hostOps0, hostOps0_1, hostOps0_2, hostOps0_3, hostOps0_4, List.flatten_cons, List.flatten_nil, List.append_nil, List.cons_append, List.nil_append]
  entry_read
  unfold valAt
  pointwise
  rfl

/-- The row below the values is of ones: it sums the weights. -/
theorem ones_in (b : Fin 2) (h : Fin 8) (k : Fin 16640) : (V m c main_v21 (ix4 b h (64 : Fin 80) k) : EReal) = (1 : EReal) := by
  dsimp only [V, hostOps0, hostOps0_1, hostOps0_2, hostOps0_3, hostOps0_4, List.flatten_cons, List.flatten_nil, List.append_nil, List.cons_append, List.nil_append]
  entry_read
  pointwise
  exact Eq.trans (b := Ideal.ofBits .f32 0x3F800000#32) rfl Ideal.ofBits_one_f32

/-- The queries' columns below the image's are the padding's operand. -/
theorem pad_read (y : FVec Ideal S2x16x32x16384 .bf16) (z : FVec Ideal S_ .bf16) (b : Fin 2) (h : Fin 16) (k : Fin 16640) (hk : k.val < 16384) (d : Fin 32) :
    (pad S2x16x32x16640 ![0, 0, 0, 0] ![0, 0, 0, 256] ![0, 0, 0, 0] y z
      pads_S2x16x32x16384_S2x16x32x16640_000_000_000_02560 h_S_ (ix4 b h d k) : EReal) = y (ix4 b h d (⟨k.val, hk⟩ : Fin 16384)) := by
  pointwise
  exact (dif_pos hk).trans rfl

theorem queries_eq : (V m c main_v22 : _) =
    pad S2x16x32x16640 ![0, 0, 0, 0] ![0, 0, 0, 256] ![0, 0, 0, 0]
      (shapeCast S2x16x32x16384
        (truncf FTy.bf16
          (Host.divf
            (mulf
              (transpose S2x8x2x32x16384 [1, 2, 0, 4, 3] (m (c, Proc.tc.devRef main_arg0))
                transposes_S2x2x8x16384x32_S2x8x2x32x16384_1_2_0_4_3)
              (broadcastInDim S2x8x2x32x16384 ![] bcast_S_S2x8x2x32x16384 (constant (F := Ideal) S_ FTy.f32 1043662067#32)))
            (broadcastInDim S2x8x2x32x16384 ![] bcast_S_S2x8x2x32x16384
              (Host.log (constant (F := Ideal) S_ FTy.f32 1073741824#32))))
          bitsLt_bf16_f32)
        shapeCasts_S2x8x2x32x16384_S2x16x32x16384)
      (sitofp FTy.bf16 (constantI S_ 32 0#32))
      pads_S2x16x32x16384_S2x16x32x16640_000_000_000_02560 h_S_ := by
  dsimp only [V, hostOps0, hostOps0_1, hostOps0_2, hostOps0_3, hostOps0_4, List.flatten_cons, List.flatten_nil, List.append_nil, List.cons_append, List.nil_append]
  entry_read
  rfl

theorem queries_in (p b : Fin 2) (h : Fin 8) (k : Fin 16640) (hk : k.val < 16384) (d : Fin 32) :
    (V m c main_v22 (ix4 b (pHead h p) d k) : EReal)
      = Ideal.div ((show Vec Ideal S2x2x8x16384x32 .f32 from m (c, main_arg0)) (ix5 p b h (⟨k.val, hk⟩ : Fin 16384) d) * Ideal.ofBits .f32 0x3E3504F3#32)
          (Ideal.log (Ideal.ofBits .f32 0x40000000#32)) := by
  rw [queries_eq]
  refine (pad_read _ _ b (pHead h p) k hk d).trans ?_
  refine (shapeCast_apply _ _ _ (ix5 b h p d (⟨k.val, hk⟩ : Fin 16384)) ?_).trans ?_
  · rw [Shape.rowMajor_val_five, Shape.rowMajor_val_four]
    show (((b.val * 8 + h.val) * 2 + p.val) * 32 + d.val) * 16384 + k.val = ((b.val * 16 + (2 * h.val + p.val)) * 32 + d.val) * 16384 + k.val
    omega
  pointwise

theorem start_max (h : Fin 16) (l : Fin 128) : (V m c main_v24 (ix3 h (0 : Fin 2) l) : EReal) = Ideal.ofBits .f32 0xF149F2CA#32 := by
  dsimp only [V, hostOps0, hostOps0_1, hostOps0_2, hostOps0_3, hostOps0_4, List.flatten_cons, List.flatten_nil, List.append_nil, List.cons_append, List.nil_append]
  entry_read
  pointwise
  rfl

theorem start_sum (h : Fin 16) (l : Fin 128) : (V m c main_v24 (ix3 h (1 : Fin 2) l) : EReal) = (0 : EReal) := by
  dsimp only [V, hostOps0, hostOps0_1, hostOps0_2, hostOps0_3, hostOps0_4, List.flatten_cons, List.flatten_nil, List.append_nil, List.cons_append, List.nil_append]
  entry_read
  pointwise
  exact Eq.trans (b := Ideal.ofBits .f32 0x00000000#32) rfl Ideal.ofBits_zero_f32

theorem ofBits_start : ∃ r : ℝ, Ideal.ofBits .f32 0xF149F2CA#32 = (r : EReal) := by
  simp [Ideal.ofBits, Ideal.ieee, -EReal.coe_mul, -EReal.coe_neg]

theorem ofBits_scale : ∃ r : ℝ, Ideal.ofBits .f32 0x3E3504F3#32 = (r : EReal) := by
  simp [Ideal.ofBits, Ideal.ieee, -EReal.coe_mul, -EReal.coe_neg]

theorem ofBits_two : Ideal.ofBits .f32 0x40000000#32 = ((2 : ℝ) : EReal) := by
  simp [Ideal.ofBits, Ideal.ieee, -EReal.coe_mul]; norm_num

end Cert.Kernel2Ideal.Att
end
-- ==== Proof.Ref2.lean ====
module

public import proofs.«01_k».proof.Proof.Gen.Reference2Ideal.Read
public import proofs.«01_k».proof.Proof.Prep2
public import proofs.«01_k».proof.Proof.Soft

/-! The differential reference read at an element: of each of a pair of heads, the values weighted by the softmax of its
scaled scores. -/

@[expose] public section
set_option maxRecDepth 16384
noncomputable section
namespace Cert.RefAt2
open Idealize.ShloMosaic Idealize.ShloMosaic.TcCoe Idealize.ShloMosaic.Tactic
open Cert.Reference2Ideal Cert.Reference2Ideal.Gen Cert.Reference2Ideal.Value Cert.Reference2Ideal.Read
open Cert.Kernel2Ideal.Att (keyAt valAt pHead)

variable (x0 x1 : Vec Ideal S2x2x8x16384x32 .f32) (x2 : Vec Ideal S2x2x8x256x32 .f32)
  (x3 : Vec Ideal S2x8x16384x64 .f32) (x4 : Vec Ideal S2x8x256x64 .f32)

theorem values_read (b : Fin 2) (h : Fin 8) (k : Fin 16640) (r : Fin 64) :
    (val_main_v0 (F := Ideal) x3 x4 (ix4 b h k r) : EReal) = valAt x3 x4 b h k r := by
  unfold val_main_v0 valAt
  pointwise

theorem ofBits_bot : Ideal.ofBits .f32 0xFF800000#32 = (⊥ : EReal) := by
  simp [Ideal.ofBits, Ideal.ieee]

/-! The first of a pair. -/

section Half0

theorem queries_read_0 (b : Fin 2) (h : Fin 8) (t : Fin 16384) (d : Fin 32) :
    (val_main_v2 (F := Ideal) x0 (ix4 b h t d) : EReal) = x0 (ix5 (0 : Fin 2) b h t d) := by
  rw [val_main_v2_apply, val_main_v1_apply]
  congr 1; funext a; apply Fin.ext
  have := b.isLt; have := h.isLt; have := t.isLt; have := d.isLt
  match a with
  | ⟨0, _⟩ => rfl
  | ⟨1, _⟩ => show (((b.val * 8 + h.val) * 16384 + t.val) * 32 + d.val) / 4194304 % 2 = b.val; omega
  | ⟨2, _⟩ => show (((b.val * 8 + h.val) * 16384 + t.val) * 32 + d.val) / 524288 % 8 = h.val; omega
  | ⟨3, _⟩ => show (((b.val * 8 + h.val) * 16384 + t.val) * 32 + d.val) / 32 % 16384 = t.val; omega
  | ⟨4, _⟩ => show (((b.val * 8 + h.val) * 16384 + t.val) * 32 + d.val) % 32 = d.val; omega

theorem keys_own_0 (b : Fin 2) (h : Fin 8) (t : Fin 16384) (d : Fin 32) :
    (val_main_v4 (F := Ideal) x1 (ix4 b h t d) : EReal) = x1 (ix5 (0 : Fin 2) b h t d) := by
  rw [val_main_v4_apply, val_main_v3_apply]
  congr 1; funext a; apply Fin.ext
  have := b.isLt; have := h.isLt; have := t.isLt; have := d.isLt
  match a with
  | ⟨0, _⟩ => rfl
  | ⟨1, _⟩ => show (((b.val * 8 + h.val) * 16384 + t.val) * 32 + d.val) / 4194304 % 2 = b.val; omega
  | ⟨2, _⟩ => show (((b.val * 8 + h.val) * 16384 + t.val) * 32 + d.val) / 524288 % 8 = h.val; omega
  | ⟨3, _⟩ => show (((b.val * 8 + h.val) * 16384 + t.val) * 32 + d.val) / 32 % 16384 = t.val; omega
  | ⟨4, _⟩ => show (((b.val * 8 + h.val) * 16384 + t.val) * 32 + d.val) % 32 = d.val; omega

theorem keys_ctx_0 (b : Fin 2) (h : Fin 8) (t : Fin 256) (d : Fin 32) :
    (val_main_v6 (F := Ideal) x2 (ix4 b h t d) : EReal) = x2 (ix5 (0 : Fin 2) b h t d) := by
  rw [val_main_v6_apply, val_main_v5_apply]
  congr 1; funext a; apply Fin.ext
  have := b.isLt; have := h.isLt; have := t.isLt; have := d.isLt
  match a with
  | ⟨0, _⟩ => rfl
  | ⟨1, _⟩ => show (((b.val * 8 + h.val) * 256 + t.val) * 32 + d.val) / 65536 % 2 = b.val; omega
  | ⟨2, _⟩ => show (((b.val * 8 + h.val) * 256 + t.val) * 32 + d.val) / 8192 % 8 = h.val; omega
  | ⟨3, _⟩ => show (((b.val * 8 + h.val) * 256 + t.val) * 32 + d.val) / 32 % 256 = t.val; omega
  | ⟨4, _⟩ => show (((b.val * 8 + h.val) * 256 + t.val) * 32 + d.val) % 32 = d.val; omega

theorem keys_read_0 (b : Fin 2) (h : Fin 8) (k : Fin 16640) (d : Fin 32) :
    (val_main_v7 (F := Ideal) x1 x2 (ix4 b h k d) : EReal) = keyAt x1 x2 0 b h k d := by
  have e1 := keys_own_0 x1 b h
  have e2 := keys_ctx_0 x2 b h
  unfold val_main_v7 keyAt
  generalize val_main_v4 (F := Ideal) x1 = y1 at e1 ⊢
  generalize val_main_v6 (F := Ideal) x2 = y2 at e2 ⊢
  simp only [← e1, ← e2]
  pointwise

theorem scores_read_0 (b : Fin 2) (h : Fin 8) (t : Fin 16384) (k : Fin 16640) :
    (val_main_v10 (F := Ideal) x0 x1 x2 (ix4 b h t k) : EReal)
      = (∑ d : Fin 32, x0 (ix5 (0 : Fin 2) b h t d) * keyAt x1 x2 0 b h k d) * Ideal.ofBits .f32 0x3E3504F3#32 := by
  rw [val_main_v10_apply, val_main_v8_apply, val_main_v9_apply, val_main_cst_apply]
  show (_ : EReal) * _ = _
  congr 1
  refine Finset.sum_congr rfl fun d _ => ?_
  have el : lidx_main_v8 (ix4 b h t k) d = ix4 b h t d := by funext a; fin_cases a <;> rfl
  have er : ridx_main_v8 (ix4 b h t k) d = ix4 b h k d := by funext a; fin_cases a <;> rfl
  rw [← keys_read_0, el, er, queries_read_0]

theorem max_read_0 (b : Fin 2) (h : Fin 8) (t : Fin 16384)
    (hs : ∀ k : Fin 16640, ∃ r : ℝ, (val_main_v10 (F := Ideal) x0 x1 x2 (ix4 b h t k) : EReal) = (r : EReal)) :
    ∃ r : ℝ, (val_main_v13 (F := Ideal) x0 x1 x2 (ix3 b h t) : EReal) = (r : EReal) := by
  rw [val_main_v13_apply, val_main_v12_apply, val_main_cst_1_apply]
  unfold val_main_v11
  generalize val_main_v10 (F := Ideal) x0 x1 x2 = y at hs ⊢
  pointwise
  rw [show (val_main_cst_0 (F := Ideal) (Shape.Idx.first h_S_) : EReal) = ⊥ from ofBits_bot, ofBits_bot, max_bot_left]
  exact Soft.fold_max_real _ ⟨0, Finset.mem_univ _⟩ _ hs

theorem exp_read_0 (b : Fin 2) (h : Fin 8) (t : Fin 16384) (k : Fin 16640) :
    (val_main_v17 (F := Ideal) x0 x1 x2 (ix4 b h t k) : EReal)
      = Ideal.exp ((val_main_v10 (F := Ideal) x0 x1 x2 (ix4 b h t k) : EReal) - (val_main_v13 (F := Ideal) x0 x1 x2 (ix3 b h t) : EReal)) := by
  rw [val_main_v17_apply, val_main_v16_apply, val_main_v15_apply, val_main_v14_apply]
  show Ideal.exp ((_ : EReal) - _) = _
  congr 3
  funext a; fin_cases a <;> rfl

theorem sum_read_0 (b : Fin 2) (h : Fin 8) (t : Fin 16384) (k : Fin 16640) :
    (val_main_v20 (F := Ideal) x0 x1 x2 (ix4 b h t k) : EReal)
      = ∑ i : Fin 16640, (val_main_v17 (F := Ideal) x0 x1 x2 (ix4 b h t i) : EReal) := by
  rw [val_main_v20_apply, val_main_v19_apply, val_main_v18_apply, val_main_cst_2_apply]
  show Ideal.ofBits .f32 0x00000000#32 + _ = (_ : EReal)
  rw [Ideal.ofBits_zero_f32, zero_add]
  refine Finset.sum_congr rfl fun i _ => ?_
  congr 1; funext a; fin_cases a <;> rfl

/-- The first of a pair's attention, its scores being `S` and their maximum `M`. -/
theorem half_read_0 (b : Fin 2) (h : Fin 8) (r : Fin 64) (t : Fin 16384) (S : Fin 16640 → ℝ)
    (hs : ∀ k : Fin 16640, (∑ d : Fin 32, x0 (ix5 (0 : Fin 2) b h t d) * keyAt x1 x2 0 b h k d) * Ideal.ofBits .f32 0x3E3504F3#32 = ((S k : ℝ) : EReal)) :
    ∃ M : ℝ, (val_main_v22 (F := Ideal) x0 x1 x2 x3 x4 (ix4 b h t r) : EReal)
      = ∑ k, Ideal.div (Ideal.exp ((S k : EReal) - (M : EReal))) (∑ i, Ideal.exp ((S i : EReal) - (M : EReal))) * valAt x3 x4 b h k r := by
  have hs' : ∀ k : Fin 16640, (val_main_v10 (F := Ideal) x0 x1 x2 (ix4 b h t k) : EReal) = ((S k : ℝ) : EReal) := fun k =>
    (scores_read_0 x0 x1 x2 b h t k).trans (hs k)
  obtain ⟨M, hM⟩ := max_read_0 x0 x1 x2 b h t fun k => ⟨S k, hs' k⟩
  have he : ∀ k : Fin 16640, (val_main_v17 (F := Ideal) x0 x1 x2 (ix4 b h t k) : EReal) = Ideal.exp ((S k : EReal) - (M : EReal)) := fun k => by
    rw [exp_read_0, hM, hs']
  refine ⟨M, ?_⟩
  rw [val_main_v22_apply]
  refine Finset.sum_congr rfl fun k _ => ?_
  rw [← values_read, ← he k, show (∑ i, Ideal.exp ((S i : EReal) - (M : EReal))) = val_main_v20 (F := Ideal) x0 x1 x2 (ix4 b h t k) from by
    rw [sum_read_0]; exact Finset.sum_congr rfl fun i _ => (he i).symm]
  have el : lidx_main_v22 (ix4 b h t r) k = ix4 b h t k := by funext a; fin_cases a <;> rfl
  have er : ridx_main_v22 (ix4 b h t r) k = ix4 b h k r := by funext a; fin_cases a <;> rfl
  rw [el, er, val_main_v21_apply]
  rfl

end Half0

/-! The second of a pair. -/

section Half1

theorem queries_read_1 (b : Fin 2) (h : Fin 8) (t : Fin 16384) (d : Fin 32) :
    (val_main_v24 (F := Ideal) x0 (ix4 b h t d) : EReal) = x0 (ix5 (1 : Fin 2) b h t d) := by
  rw [val_main_v24_apply, val_main_v23_apply]
  congr 1; funext a; apply Fin.ext
  have := b.isLt; have := h.isLt; have := t.isLt; have := d.isLt
  match a with
  | ⟨0, _⟩ => rfl
  | ⟨1, _⟩ => show (((b.val * 8 + h.val) * 16384 + t.val) * 32 + d.val) / 4194304 % 2 = b.val; omega
  | ⟨2, _⟩ => show (((b.val * 8 + h.val) * 16384 + t.val) * 32 + d.val) / 524288 % 8 = h.val; omega
  | ⟨3, _⟩ => show (((b.val * 8 + h.val) * 16384 + t.val) * 32 + d.val) / 32 % 16384 = t.val; omega
  | ⟨4, _⟩ => show (((b.val * 8 + h.val) * 16384 + t.val) * 32 + d.val) % 32 = d.val; omega

theorem keys_own_1 (b : Fin 2) (h : Fin 8) (t : Fin 16384) (d : Fin 32) :
    (val_main_v26 (F := Ideal) x1 (ix4 b h t d) : EReal) = x1 (ix5 (1 : Fin 2) b h t d) := by
  rw [val_main_v26_apply, val_main_v25_apply]
  congr 1; funext a; apply Fin.ext
  have := b.isLt; have := h.isLt; have := t.isLt; have := d.isLt
  match a with
  | ⟨0, _⟩ => rfl
  | ⟨1, _⟩ => show (((b.val * 8 + h.val) * 16384 + t.val) * 32 + d.val) / 4194304 % 2 = b.val; omega
  | ⟨2, _⟩ => show (((b.val * 8 + h.val) * 16384 + t.val) * 32 + d.val) / 524288 % 8 = h.val; omega
  | ⟨3, _⟩ => show (((b.val * 8 + h.val) * 16384 + t.val) * 32 + d.val) / 32 % 16384 = t.val; omega
  | ⟨4, _⟩ => show (((b.val * 8 + h.val) * 16384 + t.val) * 32 + d.val) % 32 = d.val; omega

theorem keys_ctx_1 (b : Fin 2) (h : Fin 8) (t : Fin 256) (d : Fin 32) :
    (val_main_v28 (F := Ideal) x2 (ix4 b h t d) : EReal) = x2 (ix5 (1 : Fin 2) b h t d) := by
  rw [val_main_v28_apply, val_main_v27_apply]
  congr 1; funext a; apply Fin.ext
  have := b.isLt; have := h.isLt; have := t.isLt; have := d.isLt
  match a with
  | ⟨0, _⟩ => rfl
  | ⟨1, _⟩ => show (((b.val * 8 + h.val) * 256 + t.val) * 32 + d.val) / 65536 % 2 = b.val; omega
  | ⟨2, _⟩ => show (((b.val * 8 + h.val) * 256 + t.val) * 32 + d.val) / 8192 % 8 = h.val; omega
  | ⟨3, _⟩ => show (((b.val * 8 + h.val) * 256 + t.val) * 32 + d.val) / 32 % 256 = t.val; omega
  | ⟨4, _⟩ => show (((b.val * 8 + h.val) * 256 + t.val) * 32 + d.val) % 32 = d.val; omega

theorem keys_read_1 (b : Fin 2) (h : Fin 8) (k : Fin 16640) (d : Fin 32) :
    (val_main_v29 (F := Ideal) x1 x2 (ix4 b h k d) : EReal) = keyAt x1 x2 1 b h k d := by
  have e1 := keys_own_1 x1 b h
  have e2 := keys_ctx_1 x2 b h
  unfold val_main_v29 keyAt
  generalize val_main_v26 (F := Ideal) x1 = y1 at e1 ⊢
  generalize val_main_v28 (F := Ideal) x2 = y2 at e2 ⊢
  simp only [← e1, ← e2]
  pointwise

theorem scores_read_1 (b : Fin 2) (h : Fin 8) (t : Fin 16384) (k : Fin 16640) :
    (val_main_v32 (F := Ideal) x0 x1 x2 (ix4 b h t k) : EReal)
      = (∑ d : Fin 32, x0 (ix5 (1 : Fin 2) b h t d) * keyAt x1 x2 1 b h k d) * Ideal.ofBits .f32 0x3E3504F3#32 := by
  rw [val_main_v32_apply, val_main_v30_apply, val_main_v31_apply, val_main_cst_3_apply]
  show (_ : EReal) * _ = _
  congr 1
  refine Finset.sum_congr rfl fun d _ => ?_
  have el : lidx_main_v30 (ix4 b h t k) d = ix4 b h t d := by funext a; fin_cases a <;> rfl
  have er : ridx_main_v30 (ix4 b h t k) d = ix4 b h k d := by funext a; fin_cases a <;> rfl
  rw [← keys_read_1, el, er, queries_read_1]

theorem max_read_1 (b : Fin 2) (h : Fin 8) (t : Fin 16384)
    (hs : ∀ k : Fin 16640, ∃ r : ℝ, (val_main_v32 (F := Ideal) x0 x1 x2 (ix4 b h t k) : EReal) = (r : EReal)) :
    ∃ r : ℝ, (val_main_v35 (F := Ideal) x0 x1 x2 (ix3 b h t) : EReal) = (r : EReal) := by
  rw [val_main_v35_apply, val_main_v34_apply, val_main_cst_5_apply]
  unfold val_main_v33
  generalize val_main_v32 (F := Ideal) x0 x1 x2 = y at hs ⊢
  pointwise
  rw [show (val_main_cst_4 (F := Ideal) (Shape.Idx.first h_S_) : EReal) = ⊥ from ofBits_bot, ofBits_bot, max_bot_left]
  exact Soft.fold_max_real _ ⟨0, Finset.mem_univ _⟩ _ hs

theorem exp_read_1 (b : Fin 2) (h : Fin 8) (t : Fin 16384) (k : Fin 16640) :
    (val_main_v39 (F := Ideal) x0 x1 x2 (ix4 b h t k) : EReal)
      = Ideal.exp ((val_main_v32 (F := Ideal) x0 x1 x2 (ix4 b h t k) : EReal) - (val_main_v35 (F := Ideal) x0 x1 x2 (ix3 b h t) : EReal)) := by
  rw [val_main_v39_apply, val_main_v38_apply, val_main_v37_apply, val_main_v36_apply]
  show Ideal.exp ((_ : EReal) - _) = _
  congr 3
  funext a; fin_cases a <;> rfl

theorem sum_read_1 (b : Fin 2) (h : Fin 8) (t : Fin 16384) (k : Fin 16640) :
    (val_main_v42 (F := Ideal) x0 x1 x2 (ix4 b h t k) : EReal)
      = ∑ i : Fin 16640, (val_main_v39 (F := Ideal) x0 x1 x2 (ix4 b h t i) : EReal) := by
  rw [val_main_v42_apply, val_main_v41_apply, val_main_v40_apply, val_main_cst_6_apply]
  show Ideal.ofBits .f32 0x00000000#32 + _ = (_ : EReal)
  rw [Ideal.ofBits_zero_f32, zero_add]
  refine Finset.sum_congr rfl fun i _ => ?_
  congr 1; funext a; fin_cases a <;> rfl

/-- The second of a pair's attention, its scores being `S` and their maximum `M`. -/
theorem half_read_1 (b : Fin 2) (h : Fin 8) (r : Fin 64) (t : Fin 16384) (S : Fin 16640 → ℝ)
    (hs : ∀ k : Fin 16640, (∑ d : Fin 32, x0 (ix5 (1 : Fin 2) b h t d) * keyAt x1 x2 1 b h k d) * Ideal.ofBits .f32 0x3E3504F3#32 = ((S k : ℝ) : EReal)) :
    ∃ M : ℝ, (val_main_v44 (F := Ideal) x0 x1 x2 x3 x4 (ix4 b h t r) : EReal)
      = ∑ k, Ideal.div (Ideal.exp ((S k : EReal) - (M : EReal))) (∑ i, Ideal.exp ((S i : EReal) - (M : EReal))) * valAt x3 x4 b h k r := by
  have hs' : ∀ k : Fin 16640, (val_main_v32 (F := Ideal) x0 x1 x2 (ix4 b h t k) : EReal) = ((S k : ℝ) : EReal) := fun k =>
    (scores_read_1 x0 x1 x2 b h t k).trans (hs k)
  obtain ⟨M, hM⟩ := max_read_1 x0 x1 x2 b h t fun k => ⟨S k, hs' k⟩
  have he : ∀ k : Fin 16640, (val_main_v39 (F := Ideal) x0 x1 x2 (ix4 b h t k) : EReal) = Ideal.exp ((S k : EReal) - (M : EReal)) := fun k => by
    rw [exp_read_1, hM, hs']
  refine ⟨M, ?_⟩
  rw [val_main_v44_apply]
  refine Finset.sum_congr rfl fun k _ => ?_
  rw [← values_read, ← he k, show (∑ i, Ideal.exp ((S i : EReal) - (M : EReal))) = val_main_v42 (F := Ideal) x0 x1 x2 (ix4 b h t k) from by
    rw [sum_read_1]; exact Finset.sum_congr rfl fun i _ => (he i).symm]
  have el : lidx_main_v44 (ix4 b h t r) k = ix4 b h t k := by funext a; fin_cases a <;> rfl
  have er : ridx_main_v44 (ix4 b h t r) k = ix4 b h k r := by funext a; fin_cases a <;> rfl
  rw [el, er, val_main_v43_apply]
  rfl

end Half1

/-! The pair's two results side by side. -/

theorem out_ix (b : Fin 2) (h : Fin 8) (p : Fin 2) (r : Fin 64) (t : Fin 16384) :
    idx_main_v48 (idx_main_v49 (ix4 b (pHead h p) r t)) = (ix5 b h p t r : S2x8x2x16384x64.Idx) := by
  funext a; apply Fin.ext
  have := b.isLt; have := h.isLt; have := p.isLt; have := t.isLt; have := r.isLt
  match a with
  | ⟨0, _⟩ => show (((b.val * 16 + (2 * h.val + p.val)) * 16384 + t.val) * 64 + r.val) / 16777216 = b.val; omega
  | ⟨1, _⟩ => show (((b.val * 16 + (2 * h.val + p.val)) * 16384 + t.val) * 64 + r.val) / 2097152 % 8 = h.val; omega
  | ⟨2, _⟩ => show (((b.val * 16 + (2 * h.val + p.val)) * 16384 + t.val) * 64 + r.val) / 1048576 % 2 = p.val; omega
  | ⟨3, _⟩ => show (((b.val * 16 + (2 * h.val + p.val)) * 16384 + t.val) * 64 + r.val) / 64 % 16384 = t.val; omega
  | ⟨4, _⟩ => show (((b.val * 16 + (2 * h.val + p.val)) * 16384 + t.val) * 64 + r.val) % 64 = r.val; omega

theorem pair_first (b : Fin 2) (h : Fin 8) (t : Fin 16384) (r : Fin 64) :
    (val_main_v47 (F := Ideal) x0 x1 x2 x3 x4 (ix5 b h (0 : Fin 2) t r) : EReal) = val_main_v22 (F := Ideal) x0 x1 x2 x3 x4 (ix4 b h t r) := by
  have e : val_main_v45 (F := Ideal) x0 x1 x2 x3 x4 (ix5 b h (0 : Fin 1) t r) = val_main_v22 (F := Ideal) x0 x1 x2 x3 x4 (ix4 b h t r) := by
    rw [val_main_v45_apply]
    congr 1; funext a; fin_cases a <;> rfl
  rw [← e]
  unfold val_main_v47
  generalize val_main_v45 (F := Ideal) x0 x1 x2 x3 x4 = y
  generalize val_main_v46 (F := Ideal) x0 x1 x2 x3 x4 = z
  pointwise

theorem pair_second (b : Fin 2) (h : Fin 8) (t : Fin 16384) (r : Fin 64) :
    (val_main_v47 (F := Ideal) x0 x1 x2 x3 x4 (ix5 b h (1 : Fin 2) t r) : EReal) = val_main_v44 (F := Ideal) x0 x1 x2 x3 x4 (ix4 b h t r) := by
  have e : val_main_v46 (F := Ideal) x0 x1 x2 x3 x4 (ix5 b h (0 : Fin 1) t r) = val_main_v44 (F := Ideal) x0 x1 x2 x3 x4 (ix4 b h t r) := by
    rw [val_main_v46_apply]
    congr 1; funext a; fin_cases a <;> rfl
  rw [← e]
  unfold val_main_v47
  generalize val_main_v45 (F := Ideal) x0 x1 x2 x3 x4 = y
  generalize val_main_v46 (F := Ideal) x0 x1 x2 x3 x4 = z
  pointwise

/-- The reference's result, the scores of the head being `S` and their maximum `M`. -/
theorem out_read (b : Fin 2) (h : Fin 8) (p : Fin 2) (r : Fin 64) (t : Fin 16384) (S : Fin 16640 → ℝ)
    (hs : ∀ k : Fin 16640, (∑ d : Fin 32, x0 (ix5 p b h t d) * keyAt x1 x2 p b h k d) * Ideal.ofBits .f32 0x3E3504F3#32 = ((S k : ℝ) : EReal)) :
    ∃ M : ℝ, (val_main_v49 (F := Ideal) x0 x1 x2 x3 x4 (ix4 b (pHead h p) r t) : EReal)
      = ∑ k, Ideal.div (Ideal.exp ((S k : EReal) - (M : EReal))) (∑ i, Ideal.exp ((S i : EReal) - (M : EReal))) * valAt x3 x4 b h k r := by
  rw [val_main_v49_apply, val_main_v48_apply, out_ix]
  match p with
  | 0 => rw [pair_first]; exact half_read_0 x0 x1 x2 x3 x4 b h r t S hs
  | 1 => rw [pair_second]; exact half_read_1 x0 x1 x2 x3 x4 b h r t S hs

end Cert.RefAt2
end
-- ==== Proof.Result2.lean ====
module

public import proofs.«01_k».proof.Proof.Run2
public import proofs.«01_k».proof.Proof.Tile2
public import proofs.«01_k».proof.Proof.Ref2

/-! The kernel's result is the reference's value, wherever the queries and the keys are real. -/

@[expose] public section

set_option maxRecDepth 16384

noncomputable section

namespace Cert.Kernel2Ideal.Att

open Idealize.ShloMosaic Idealize.ShloMosaic.TcCoe Idealize.ShloMosaic.Tactic
open Idealize.ShloMosaic.Pipeline (Dat BodyObligation BodyObligationLoose)
open Cert.Kernel2Ideal.Gen

variable (m : (ℓ : Loc nD τ sig) → Buf (Elt Ideal) ℓ) (c : Dev nD)

abbrev arg0 : Vec Ideal S2x2x8x16384x32 .f32 := m (c, main_arg0)
abbrev arg1 : Vec Ideal S2x2x8x16384x32 .f32 := m (c, main_arg1)
abbrev arg2 : Vec Ideal S2x2x8x256x32 .f32 := m (c, main_arg2)
abbrev arg3 : Vec Ideal S2x8x16384x64 .f32 := m (c, main_arg3)
abbrev arg4 : Vec Ideal S2x8x256x64 .f32 := m (c, main_arg4)

/-- The batch, the head and the query of a grid point's column. -/
def bF (t : Fin cfg0.N) : Fin 2 := ⟨bOf t, (grid0.coords t 0).isLt⟩
def hF (t : Fin cfg0.N) : Fin 16 := ⟨hOf t, (grid0.coords t 1).isLt⟩
/-- The head of values of a grid point and the place of its head in the pair. -/
def kF (t : Fin cfg0.N) : Fin 8 := ⟨hOf t / 2, by have : hOf t < 16 := (grid0.coords t 1).isLt; omega⟩
def pF (t : Fin cfg0.N) : Fin 2 := ⟨hOf t % 2, by omega⟩
theorem head_eq (t : Fin cfg0.N) : pHead (kF t) (pF t) = hF t := by
  unfold pHead kF pF hF
  exact Fin.ext (by show 2 * (hOf t / 2) + hOf t % 2 = hOf t; omega)
def tF (t : Fin cfg0.N) (j : Fin 1024) : Fin 16384 :=
  ⟨jOf t * 1024 + j.val, by have : jOf t < 16 := (grid0.coords t 2).isLt; omega⟩
def tF' (t : Fin cfg0.N) (j : Fin 1024) : Fin 16640 := ⟨(tF t j).val, by have := (tF t j).isLt; omega⟩

theorem emb_out (t : Fin cfg0.N) (r : Fin 64) (j : Fin 1024) :
    (win0_5.blk t).view.emb (ix4 (0 : Fin 1) (0 : Fin 1) r j) = (ix4 (bF t) (hF t) r (tF t j) : S2x16x64x16384.Idx) := by
  have e := idx5 t
  funext a; apply Fin.ext
  unfold bF hF tF
  fin_cases a <;> (blk_simp [e]; try simp)

theorem tile_eq (hq : ∀ i, ∃ r : ℝ, arg0 m c i = (r : EReal)) (hk : ∀ i, ∃ r : ℝ, arg1 m c i = (r : EReal))
    (hk' : ∀ i, ∃ r : ℝ, arg2 m c i = (r : EReal)) (t : Fin cfg0.N) (r : Fin 64) (j : Fin 1024) :
    oB m c t (ix4 (0 : Fin 1) (0 : Fin 1) r j)
      = Reference2Ideal.Read.val_main_v49 (F := Ideal) (arg0 m c) (arg1 m c) (arg2 m c) (arg3 m c) (arg4 m c) (ix4 (bF t) (hF t) r (tF t j)) := by
  obtain ⟨κ, hκ⟩ := ofBits_scale
  choose q hq using hq
  have hkey : ∀ (k : Fin 16640) (d : Fin 32), ∃ r : ℝ, keyAt (arg1 m c) (arg2 m c) (pF t) (bF t) (kF t) k d = (r : EReal) := fun k d => by
    unfold keyAt; split
    · exact hk _
    · exact hk' _
  choose kr hkr using hkey
  obtain ⟨M, hM⟩ := Cert.RefAt2.out_read (arg0 m c) (arg1 m c) (arg2 m c) (arg3 m c) (arg4 m c) (bF t) (kF t) (pF t) r (tF t j)
    (scaled (fun d => q (ix5 (pF t) (bF t) (kF t) (tF t j) d)) kr κ) fun k => by
      unfold scaled
      simp only [hκ, hq, hkr, ← EReal.coe_mul]
      rw [Soft.coe_sum, ← EReal.coe_mul]
  rw [head_eq] at hM
  rw [hM]
  refine (outB_softmax _ _ _ _ r j (fun d => q (ix5 (pF t) (bF t) (kF t) (tF t j) d)) kr κ ?_ ?_ ?_ ?_ ?_ M).trans ?_
  · intro d
    rw [blk1 m c t _ (ix4 (bF t) (hF t) d (tF' t j)) rfl rfl rfl rfl, ← head_eq, queries_in m c _ _ _ _ (tF t j).isLt d, hκ, ofBits_two]
    exact congrArg (fun x : EReal => Ideal.div (x * _) _) (hq _)
  · intro k d
    rw [blk3 m c t _ (ix4 (bF t) (hF t) k d) rfl rfl rfl rfl, ← head_eq, keys_in]
    exact hkr k d
  · intro k
    rw [blk4 m c t _ (ix4 (bF t) (kF t) (64 : Fin 80) k) rfl rfl rfl rfl, ones_in]
  · rw [blk0 m c t _ (ix3 (hF t) (0 : Fin 2) (0 : Fin 128)) rfl rfl rfl, start_max]
    exact ofBits_start
  · rw [blk0 m c t _ (ix3 (hF t) (1 : Fin 2) (0 : Fin 128)) rfl rfl rfl, start_sum]
  · refine Finset.sum_congr rfl fun k _ => ?_
    rw [blk4 m c t _ (ix4 (bF t) (kF t) (⟨r.val, by omega⟩ : Fin 80) k) rfl rfl rfl rfl, values_in]

theorem result_eq (hq : ∀ i, ∃ r : ℝ, arg0 m c i = (r : EReal)) (hk : ∀ i, ∃ r : ℝ, arg1 m c i = (r : EReal))
    (hk' : ∀ i, ∃ r : ℝ, arg2 m c i = (r : EReal)) :
    (dats m 0 c).arrAt 5 cfg0.N
      = Reference2Ideal.Read.val_main_v49 (F := Ideal) (arg0 m c) (arg1 m c) (arg2 m c) (arg3 m c) (arg4 m c) := by
  refine (dats m 0 c).arrAt_eq_of_covers 5 (Reference2Ideal.Read.val_main_v49 (F := Ideal) (arg0 m c) (arg1 m c) (arg2 m c) (arg3 m c) (arg4 m c))
    (by decide +kernel) fun t hf y => ?_
  rw [after_5]
  blk_simp
  have hy : (y : S1x1x64x1024.Idx) = ix4 (0 : Fin 1) (0 : Fin 1) (⟨(y 2).val, (y 2).isLt⟩ : Fin 64) (⟨(y 3).val, (y 3).isLt⟩ : Fin 1024) := by
    funext a; fin_cases a
    · exact Fin.ext (Nat.lt_one_iff.1 (y 0).isLt)
    · exact Fin.ext (Nat.lt_one_iff.1 (y 1).isLt)
    · rfl
    · rfl
  rw [show (y : S1x1x64x1024.Idx) = _ from hy, emb_out]
  exact tile_eq m c hq hk hk' t _ _

end Cert.Kernel2Ideal.Att
end
-- ==== Proof.Finite2.lean ====
module

public import proofs.«01_k».proof.Defs
public import proofs.«01_k».proof.Proof.Result2
public import proofs.«01_k».proof.Proof.Frames2
public import proofs.«01_k».proof.Proof.Finite
public import Idealize.ShloMosaic.Lib.ReduceAll

/-! The precondition: it says of every query and key that it is a real number. -/

@[expose] public section

set_option maxRecDepth 16384

noncomputable section

namespace Cert.Finite2

open Idealize.ShloMosaic Idealize.ShloMosaic.TcCoe Idealize.SL.Sem

theorem facts : Cert.Pre_finite2.Facts where
  bcast_S_S2x2x8x16384x32 := by decide
  reducesTo_S2x2x8x16384x32_S_d0_1_2_3_4 := by decide
  h_S_ := by decide
  bcast_S_S2x2x8x256x32 := by decide
  reducesTo_S2x2x8x256x32_S_d0_1_2_3_4 := by decide

instance : Subsingleton Cert.Pre_finite2.S_.Idx := ⟨fun a b => funext fun i => i.elim0⟩

attribute [local instance] facts in
theorem reals (x0 x1 : FVec Ideal Cert.Pre_finite2.S2x2x8x16384x32 .f32) (x2 : FVec Ideal Cert.Pre_finite2.S2x2x8x256x32 .f32)
    (x3 : FVec Ideal Cert.Pre_finite2.S2x8x16384x64 .f32) (x4 : FVec Ideal Cert.Pre_finite2.S2x8x256x64 .f32)
    (h : Cert.Pre_finite2.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h (fun a => a.elim0)
  obtain ⟨e01, e2⟩ := IntOp.andi_eq_one.1 e
  obtain ⟨e0, e1⟩ := IntOp.andi_eq_one.1 e01
  exact ⟨fun i => Cert.Finite.real_of_abs_lt _ (Host.reduce_andi_all _ _ _ _ _ e0 i), fun i => Cert.Finite.real_of_abs_lt _ (Host.reduce_andi_all _ _ _ _ _ e1 i),
    fun i => Cert.Finite.real_of_abs_lt _ (Host.reduce_andi_all _ _ _ _ _ e2 i)⟩

attribute [local instance] Cert.Kernel2.Gen.facts Cert.Kernel2Ideal.Gen.facts Cert.Reference2Ideal.Gen.facts facts in
theorem algebraic : Cert.algebraic_Kernel2Ideal_Reference2Ideal_pre_finite2 := fun m g m' g' hp hm => by
  have hr := fun c => reals _ _ _ _ _ (hp c)
  refine ⟨fun c => (Cert.Kernel2Ideal.Att.dats m 0 c).arrAt 5 Cert.Kernel2Ideal.cfg0.N, ?_, ?_⟩
  · exact (θ_run Cert.Kernel2Ideal.defs _ _).mono (fun r h => h.1) (Cert.Kernel2Ideal.Att.run_args m g)
  · refine (θ_run Cert.Reference2Ideal.defs _ _).mono (fun r h c => ⟨(h c).1.trans ?_, (h c).2⟩) (Cert.Reference2Ideal.Value.run (F := Ideal) m' g')
    obtain ⟨h0, h1, h2, h3, h4⟩ := hm c
    rw [Cert.Reference2Ideal.Read.val_main_v49_eq, h0, h1, h2, h3, h4]
    exact (Cert.Kernel2Ideal.Att.result_eq m c (hr c).1 (hr c).2.1 (hr c).2.2).symm

end Cert.Finite2
end
-- ==== Proof.Step3.lean ====
module

public import proofs.«01_k».proof.Proof.Gen.Kernel3Ideal.Skeleton
public import proofs.«01_k».proof.Proof.Gen.Kernel3Ideal.Frame
public import proofs.«01_k».proof.Proof.Reads
public import Idealize.ShloMosaic.Lib.WritesUnit
public import Idealize.ShloMosaic.Lib.ValueIdxCore
public import Idealize.ShloMosaic.Lib.Pipeline.Value
public import Idealize.ShloMosaic.Lib.VecWindow

/-! The attention's arithmetic, one tile of keys at a time, as functions of the query block, the keys and the values. -/

@[expose] public section

set_option maxRecDepth 16384

noncomputable section

namespace Cert.Kernel3Ideal.Att

open Idealize.ShloMosaic Idealize.ShloMosaic.TcCoe Idealize.ShloMosaic.Tactic
open Idealize.ShloMosaic.ValueIdx
open Cert.Kernel3Ideal.Gen

export Cert.Reads (kvAt vvAt rowsAt row0 readAt_kv readAt_vv readAt_rows rowsAt_cons_self rowsAt_cons_ne
  readAt_row0 row0_cons readAt_whole readAt_rows9 readAt_rows10 disj_rows readCov9_ne readAt_vv0 readAt_init0
  readAt_init1 key_off val_off)

variable {F : FTy → Type} [FloatOps F]

/-- The scores of 256 keys against the query block. -/
def sc (q : FVec F S64x1024 .bf16) (kb : Vec F S1x1x256x64 .bf16) : FVec F S256x1024 .f32 :=
  matmul dot_S256x64_S64x1024_S256x1024_1_0_0_1_n_n none
    (shapeCast S256x64 kb shapeCasts_S1x1x256x64_S256x64) q (constant S256x1024 .f32 0x00000000#32)

/-- The scores of the keys from row `o` on. -/
def sT (q : FVec F S64x1024 .bf16) (K : Vec F S1x1x16640x64 .bf16) (o : ℕ) : FVec F S256x1024 .f32 :=
  sc q (kvAt K o)

/-- The largest score of each column. -/
def cmx (s : FVec F S256x1024 .f32) : FVec F S1x1024 .f32 :=
  shapeCast S1x1024 (multiReduction .maximumf [0] S1024 s 0xFF800000#32 reduces_S256x1024_S1024 (.inl rfl) rfl)
    shapeCasts_S1024_S1x1024

/-- The largest score of each column over a tile of 2048 keys. -/
def cm8 (q : FVec F S64x1024 .bf16) (K : Vec F S1x1x16640x64 .bf16) (o : ℕ) : FVec F S1x1024 .f32 :=
  maximumf (maximumf (maximumf (maximumf (maximumf (maximumf (maximumf (cmx (sT q K (o + 0))) (cmx (sT q K (o + 256))))
    (cmx (sT q K (o + 512)))) (cmx (sT q K (o + 768)))) (cmx (sT q K (o + 1024)))) (cmx (sT q K (o + 1280))))
    (cmx (sT q K (o + 1536)))) (cmx (sT q K (o + 1792)))

/-- The largest score of each column over the first nine subtiles: the context's, then the first tile's. -/
def cm9 (q : FVec F S64x1024 .bf16) (K : Vec F S1x1x16640x64 .bf16) : FVec F S1x1024 .f32 :=
  maximumf (maximumf (maximumf (maximumf (maximumf (maximumf (maximumf (maximumf (cmx (sT q K 16384)) (cmx (sT q K 0)))
    (cmx (sT q K 256))) (cmx (sT q K 512))) (cmx (sT q K 768))) (cmx (sT q K 1024))) (cmx (sT q K 1280)))
    (cmx (sT q K 1536))) (cmx (sT q K 1792))

/-- What one subtile adds to the accumulator, from its scores. -/
def dT (V : Vec F S1x1x80x16640 .bf16) (mn : FVec F S1x1024 .f32) (o : ℕ) (s : FVec F S256x1024 .f32) : FVec F S80x1024 .f32 :=
  matmul dot_S80x256_S256x1024_S80x1024_1_0_0_1_n_n none
    (shapeCast S80x256 (vvAt V o) shapeCasts_S1x1x80x256_S80x256)
    (truncf .bf16 (exp2 (subf s (broadcastTo S256x1024 mn broadcasts_S1x1024_S256x1024))) bitsLt_bf16_f32)
    (constant S80x1024 .f32 0x00000000#32)

/-- What a tile of 2048 keys adds. -/
def pv8 (q : FVec F S64x1024 .bf16) (K : Vec F S1x1x16640x64 .bf16) (V : Vec F S1x1x80x16640 .bf16)
    (mn : FVec F S1x1024 .f32) (o : ℕ) : FVec F S80x1024 .f32 :=
  addf (addf (addf (addf (addf (addf (addf (dT V mn (o + 0) (sT q K (o + 0))) (dT V mn (o + 256) (sT q K (o + 256))))
    (dT V mn (o + 512) (sT q K (o + 512)))) (dT V mn (o + 768) (sT q K (o + 768)))) (dT V mn (o + 1024) (sT q K (o + 1024))))
    (dT V mn (o + 1280) (sT q K (o + 1280)))) (dT V mn (o + 1536) (sT q K (o + 1536)))) (dT V mn (o + 1792) (sT q K (o + 1792)))

/-- What the first nine subtiles add. -/
def pv9 (q : FVec F S64x1024 .bf16) (K : Vec F S1x1x16640x64 .bf16) (V : Vec F S1x1x80x16640 .bf16)
    (mn : FVec F S1x1024 .f32) : FVec F S80x1024 .f32 :=
  addf (addf (addf (addf (addf (addf (addf (addf (dT V mn 16384 (sT q K 16384)) (dT V mn 0 (sT q K 0)))
    (dT V mn 256 (sT q K 256))) (dT V mn 512 (sT q K 512))) (dT V mn 768 (sT q K 768))) (dT V mn 1024 (sT q K 1024)))
    (dT V mn 1280 (sT q K 1280))) (dT V mn 1536 (sT q K 1536))) (dT V mn 1792 (sT q K 1792))

/-- The accumulator carried from the maximum `m` to `mn` and added to. -/
def accS (a : FVec F S80x1024 .f32) (m mn : FVec F S1x1024 .f32) (pv : FVec F S80x1024 .f32) : FVec F S80x1024 .f32 :=
  addf (mulf a (broadcastTo S80x1024 (exp2 (subf m mn)) broadcasts_S1x1024_S80x1024)) pv

/-- The running maximum and the accumulator after `n` tiles beyond the first nine subtiles. -/
def stM (q : FVec F S64x1024 .bf16) (K : Vec F S1x1x16640x64 .bf16) (m0 : FVec F S1x1024 .f32) : ℕ → FVec F S1x1024 .f32
  | 0 => maximumf m0 (cm9 q K)
  | n + 1 => maximumf (stM q K m0 n) (cm8 q K (2048 * (n + 1)))

def stA (q : FVec F S64x1024 .bf16) (K : Vec F S1x1x16640x64 .bf16) (V : Vec F S1x1x80x16640 .bf16)
    (m0 : FVec F S1x1024 .f32) (a0 : FVec F S80x1024 .f32) : ℕ → FVec F S80x1024 .f32
  | 0 => accS a0 m0 (stM q K m0 0) (pv9 q K V (stM q K m0 0))
  | n + 1 => accS (stA q K V m0 a0 n) (stM q K m0 n) (stM q K m0 (n + 1)) (pv8 q K V (stM q K m0 (n + 1)) (2048 * (n + 1)))

theorem stA_succ (q : FVec F S64x1024 .bf16) (K : Vec F S1x1x16640x64 .bf16) (V : Vec F S1x1x80x16640 .bf16)
    (m0 : FVec F S1x1024 .f32) (a0 : FVec F S80x1024 .f32) (n : ℕ) :
    stA q K V m0 a0 (n + 1) = accS (stA q K V m0 a0 n) (stM q K m0 n) (stM q K m0 (n + 1)) (pv8 q K V (stM q K m0 (n + 1)) (2048 * (n + 1))) := rfl

/-- The query block as a matrix. -/
def qM (x : Vec F S1x1x64x1024 .bf16) : FVec F S64x1024 .bf16 := shapeCast S64x1024 x shapeCasts_S1x1x64x1024_S64x1024

/-- The first maximum and the first accumulator, from the initial values' block. -/
def m0Of (I : Vec F S1x2x128 .f32) : FVec F S1x1024 .f32 :=
  Gen.k0_pay87 (fun _ => I (ix3 (0 : Fin 1) (0 : Fin 2) (0 : Fin 128)))

def a0Of (I : Vec F S1x2x128 .f32) : FVec F S80x1024 .f32 :=
  Gen.k0_pay88 (fun _ => I (ix3 (0 : Fin 1) (1 : Fin 2) (0 : Fin 128)))

/-- The output block of one query tile. -/
def outB (I : Vec F S1x2x128 .f32) (x : Vec F S1x1x64x1024 .bf16) (K : Vec F S1x1x16640x64 .bf16)
    (V : Vec F S1x1x80x16640 .bf16) : FVec F S1x1x64x1024 .f32 :=
  Gen.k0_pay2 (stA (qM x) K V (m0Of I) (a0Of I) 7)

/-- What the first scratch holds for the next query block: its first nine subtiles' scores. -/
def Has9 (X : S2304x1024.Idx → Elt F .f32) (q : FVec F S64x1024 .bf16) (K : Vec F S1x1x16640x64 .bf16) : Prop :=
  rowsAt (N := 2304) (by decide) X 0 = sT q K 16384 ∧ rowsAt (N := 2304) (by decide) X 256 = sT q K 0 ∧
  rowsAt (N := 2304) (by decide) X 512 = sT q K 256 ∧ rowsAt (N := 2304) (by decide) X 768 = sT q K 512 ∧
  rowsAt (N := 2304) (by decide) X 1024 = sT q K 768 ∧ rowsAt (N := 2304) (by decide) X 1280 = sT q K 1024 ∧
  rowsAt (N := 2304) (by decide) X 1536 = sT q K 1280 ∧ rowsAt (N := 2304) (by decide) X 1792 = sT q K 1536 ∧
  rowsAt (N := 2304) (by decide) X 2048 = sT q K 1792

/-- What the second scratch holds: the scores of the tile from row `o` on. -/
def Has8 (X : S2048x1024.Idx → Elt F .f32) (q : FVec F S64x1024 .bf16) (K : Vec F S1x1x16640x64 .bf16) (o : ℕ) : Prop :=
  rowsAt (N := 2048) (by decide) X 0 = sT q K (o + 0) ∧ rowsAt (N := 2048) (by decide) X 256 = sT q K (o + 256) ∧
  rowsAt (N := 2048) (by decide) X 512 = sT q K (o + 512) ∧ rowsAt (N := 2048) (by decide) X 768 = sT q K (o + 768) ∧
  rowsAt (N := 2048) (by decide) X 1024 = sT q K (o + 1024) ∧ rowsAt (N := 2048) (by decide) X 1280 = sT q K (o + 1280) ∧
  rowsAt (N := 2048) (by decide) X 1536 = sT q K (o + 1536) ∧ rowsAt (N := 2048) (by decide) X 1792 = sT q K (o + 1792)

section Reads
variable {κ : Kind} {sp : Space}

theorem readAt_kv0 (v : View sig κ sp S1x1x16640x64 .bf16) {o : ℕ}
    (inb : ∀ a, (![0, 0, o, 0] : Fin 4 → ℕ) a + S1x1x256x64.size a ≤ S1x1x16640x64.size a) (X : v.ty.Contents (Elt F)) :
    View.readAt (Elt F) v (Rect.unit (s := S1x1x16640x64) ![0, 0, o, 0] S1x1x256x64.size inb).toLoadRect X
      = kvAt (v.read (Elt F) X) o := readAt_kv v rfl inb X

theorem readAt_q0 (v : View sig κ sp S1x1x64x1024 .bf16)
    (inb : ∀ a, (![0, 0, 0, 0] : Fin 4 → ℕ) a + S1x1x64x1024.size a ≤ S1x1x64x1024.size a) (X : v.ty.Contents (Elt F)) :
    View.readAt (Elt F) v (Rect.unit (s := S1x1x64x1024) ![0, 0, 0, 0] S1x1x64x1024.size inb).toLoadRect X = v.read (Elt F) X :=
  readAt_whole v (by decide) inb X

end Reads

theorem off1_4096_0 (k : Fin k0_t1_loop.trips) : k0_off1 k 4096#32 0#32 = ![0, 0, 2048 * (2 * k.val + 2) + 0, 0] :=
  (k0_off1_eq k ⟨0, by decide⟩ ⟨0, by decide⟩).trans (key_off (by dsimp only; omega))

theorem off1_4096_256 (k : Fin k0_t1_loop.trips) : k0_off1 k 4096#32 256#32 = ![0, 0, 2048 * (2 * k.val + 2) + 256, 0] :=
  (k0_off1_eq k ⟨0, by decide⟩ ⟨1, by decide⟩).trans (key_off (by dsimp only; omega))

theorem off1_4096_512 (k : Fin k0_t1_loop.trips) : k0_off1 k 4096#32 512#32 = ![0, 0, 2048 * (2 * k.val + 2) + 512, 0] :=
  (k0_off1_eq k ⟨0, by decide⟩ ⟨2, by decide⟩).trans (key_off (by dsimp only; omega))

theorem off1_4096_768 (k : Fin k0_t1_loop.trips) : k0_off1 k 4096#32 768#32 = ![0, 0, 2048 * (2 * k.val + 2) + 768, 0] :=
  (k0_off1_eq k ⟨0, by decide⟩ ⟨3, by decide⟩).trans (key_off (by dsimp only; omega))

theorem off1_4096_1024 (k : Fin k0_t1_loop.trips) : k0_off1 k 4096#32 1024#32 = ![0, 0, 2048 * (2 * k.val + 2) + 1024, 0] :=
  (k0_off1_eq k ⟨0, by decide⟩ ⟨4, by decide⟩).trans (key_off (by dsimp only; omega))

theorem off1_4096_1280 (k : Fin k0_t1_loop.trips) : k0_off1 k 4096#32 1280#32 = ![0, 0, 2048 * (2 * k.val + 2) + 1280, 0] :=
  (k0_off1_eq k ⟨0, by decide⟩ ⟨5, by decide⟩).trans (key_off (by dsimp only; omega))

theorem off1_4096_1536 (k : Fin k0_t1_loop.trips) : k0_off1 k 4096#32 1536#32 = ![0, 0, 2048 * (2 * k.val + 2) + 1536, 0] :=
  (k0_off1_eq k ⟨0, by decide⟩ ⟨6, by decide⟩).trans (key_off (by dsimp only; omega))

theorem off1_4096_1792 (k : Fin k0_t1_loop.trips) : k0_off1 k 4096#32 1792#32 = ![0, 0, 2048 * (2 * k.val + 2) + 1792, 0] :=
  (k0_off1_eq k ⟨0, by decide⟩ ⟨7, by decide⟩).trans (key_off (by dsimp only; omega))

theorem off1_6144_0 (k : Fin k0_t1_loop.trips) : k0_off1 k 6144#32 0#32 = ![0, 0, 2048 * (2 * k.val + 3) + 0, 0] :=
  (k0_off1_eq k ⟨1, by decide⟩ ⟨0, by decide⟩).trans (key_off (by dsimp only; omega))

theorem off1_6144_256 (k : Fin k0_t1_loop.trips) : k0_off1 k 6144#32 256#32 = ![0, 0, 2048 * (2 * k.val + 3) + 256, 0] :=
  (k0_off1_eq k ⟨1, by decide⟩ ⟨1, by decide⟩).trans (key_off (by dsimp only; omega))

theorem off1_6144_512 (k : Fin k0_t1_loop.trips) : k0_off1 k 6144#32 512#32 = ![0, 0, 2048 * (2 * k.val + 3) + 512, 0] :=
  (k0_off1_eq k ⟨1, by decide⟩ ⟨2, by decide⟩).trans (key_off (by dsimp only; omega))

theorem off1_6144_768 (k : Fin k0_t1_loop.trips) : k0_off1 k 6144#32 768#32 = ![0, 0, 2048 * (2 * k.val + 3) + 768, 0] :=
  (k0_off1_eq k ⟨1, by decide⟩ ⟨3, by decide⟩).trans (key_off (by dsimp only; omega))

theorem off1_6144_1024 (k : Fin k0_t1_loop.trips) : k0_off1 k 6144#32 1024#32 = ![0, 0, 2048 * (2 * k.val + 3) + 1024, 0] :=
  (k0_off1_eq k ⟨1, by decide⟩ ⟨4, by decide⟩).trans (key_off (by dsimp only; omega))

theorem off1_6144_1280 (k : Fin k0_t1_loop.trips) : k0_off1 k 6144#32 1280#32 = ![0, 0, 2048 * (2 * k.val + 3) + 1280, 0] :=
  (k0_off1_eq k ⟨1, by decide⟩ ⟨5, by decide⟩).trans (key_off (by dsimp only; omega))

theorem off1_6144_1536 (k : Fin k0_t1_loop.trips) : k0_off1 k 6144#32 1536#32 = ![0, 0, 2048 * (2 * k.val + 3) + 1536, 0] :=
  (k0_off1_eq k ⟨1, by decide⟩ ⟨6, by decide⟩).trans (key_off (by dsimp only; omega))

theorem off1_6144_1792 (k : Fin k0_t1_loop.trips) : k0_off1 k 6144#32 1792#32 = ![0, 0, 2048 * (2 * k.val + 3) + 1792, 0] :=
  (k0_off1_eq k ⟨1, by decide⟩ ⟨7, by decide⟩).trans (key_off (by dsimp only; omega))

theorem off2_2048_0 (k : Fin k0_t1_loop.trips) : k0_off2 k 2048#32 0#32 = ![0, 0, 0, 2048 * (2 * k.val + 1) + 0] :=
  (k0_off2_eq k ⟨0, by decide⟩ ⟨0, by decide⟩).trans (val_off (by dsimp only; omega))

theorem off2_2048_256 (k : Fin k0_t1_loop.trips) : k0_off2 k 2048#32 256#32 = ![0, 0, 0, 2048 * (2 * k.val + 1) + 256] :=
  (k0_off2_eq k ⟨0, by decide⟩ ⟨1, by decide⟩).trans (val_off (by dsimp only; omega))

theorem off2_2048_512 (k : Fin k0_t1_loop.trips) : k0_off2 k 2048#32 512#32 = ![0, 0, 0, 2048 * (2 * k.val + 1) + 512] :=
  (k0_off2_eq k ⟨0, by decide⟩ ⟨2, by decide⟩).trans (val_off (by dsimp only; omega))

theorem off2_2048_768 (k : Fin k0_t1_loop.trips) : k0_off2 k 2048#32 768#32 = ![0, 0, 0, 2048 * (2 * k.val + 1) + 768] :=
  (k0_off2_eq k ⟨0, by decide⟩ ⟨3, by decide⟩).trans (val_off (by dsimp only; omega))

theorem off2_2048_1024 (k : Fin k0_t1_loop.trips) : k0_off2 k 2048#32 1024#32 = ![0, 0, 0, 2048 * (2 * k.val + 1) + 1024] :=
  (k0_off2_eq k ⟨0, by decide⟩ ⟨4, by decide⟩).trans (val_off (by dsimp only; omega))

theorem off2_2048_1280 (k : Fin k0_t1_loop.trips) : k0_off2 k 2048#32 1280#32 = ![0, 0, 0, 2048 * (2 * k.val + 1) + 1280] :=
  (k0_off2_eq k ⟨0, by decide⟩ ⟨5, by decide⟩).trans (val_off (by dsimp only; omega))

theorem off2_2048_1536 (k : Fin k0_t1_loop.trips) : k0_off2 k 2048#32 1536#32 = ![0, 0, 0, 2048 * (2 * k.val + 1) + 1536] :=
  (k0_off2_eq k ⟨0, by decide⟩ ⟨6, by decide⟩).trans (val_off (by dsimp only; omega))

theorem off2_2048_1792 (k : Fin k0_t1_loop.trips) : k0_off2 k 2048#32 1792#32 = ![0, 0, 0, 2048 * (2 * k.val + 1) + 1792] :=
  (k0_off2_eq k ⟨0, by decide⟩ ⟨7, by decide⟩).trans (val_off (by dsimp only; omega))

theorem off2_4096_0 (k : Fin k0_t1_loop.trips) : k0_off2 k 4096#32 0#32 = ![0, 0, 0, 2048 * (2 * k.val + 2) + 0] :=
  (k0_off2_eq k ⟨1, by decide⟩ ⟨0, by decide⟩).trans (val_off (by dsimp only; omega))

theorem off2_4096_256 (k : Fin k0_t1_loop.trips) : k0_off2 k 4096#32 256#32 = ![0, 0, 0, 2048 * (2 * k.val + 2) + 256] :=
  (k0_off2_eq k ⟨1, by decide⟩ ⟨1, by decide⟩).trans (val_off (by dsimp only; omega))

theorem off2_4096_512 (k : Fin k0_t1_loop.trips) : k0_off2 k 4096#32 512#32 = ![0, 0, 0, 2048 * (2 * k.val + 2) + 512] :=
  (k0_off2_eq k ⟨1, by decide⟩ ⟨2, by decide⟩).trans (val_off (by dsimp only; omega))

theorem off2_4096_768 (k : Fin k0_t1_loop.trips) : k0_off2 k 4096#32 768#32 = ![0, 0, 0, 2048 * (2 * k.val + 2) + 768] :=
  (k0_off2_eq k ⟨1, by decide⟩ ⟨3, by decide⟩).trans (val_off (by dsimp only; omega))

theorem off2_4096_1024 (k : Fin k0_t1_loop.trips) : k0_off2 k 4096#32 1024#32 = ![0, 0, 0, 2048 * (2 * k.val + 2) + 1024] :=
  (k0_off2_eq k ⟨1, by decide⟩ ⟨4, by decide⟩).trans (val_off (by dsimp only; omega))

theorem off2_4096_1280 (k : Fin k0_t1_loop.trips) : k0_off2 k 4096#32 1280#32 = ![0, 0, 0, 2048 * (2 * k.val + 2) + 1280] :=
  (k0_off2_eq k ⟨1, by decide⟩ ⟨5, by decide⟩).trans (val_off (by dsimp only; omega))

theorem off2_4096_1536 (k : Fin k0_t1_loop.trips) : k0_off2 k 4096#32 1536#32 = ![0, 0, 0, 2048 * (2 * k.val + 2) + 1536] :=
  (k0_off2_eq k ⟨1, by decide⟩ ⟨6, by decide⟩).trans (val_off (by dsimp only; omega))

theorem off2_4096_1792 (k : Fin k0_t1_loop.trips) : k0_off2 k 4096#32 1792#32 = ![0, 0, 0, 2048 * (2 * k.val + 2) + 1792] :=
  (k0_off2_eq k ⟨1, by decide⟩ ⟨7, by decide⟩).trans (val_off (by dsimp only; omega))

end Cert.Kernel3Ideal.Att
end
-- ==== Proof.Trip3.lean ====
module

public import proofs.«01_k».proof.Proof.Step3

/-! One trip of the loop over pairs of key tiles, and the loop by its invariant. -/

@[expose] public section

set_option maxRecDepth 16384
set_option maxHeartbeats 4000000

noncomputable section

namespace Cert.Kernel3Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen

variable {F : FTy → Type} [FloatOps F]
local notation "𝕄G" => MT nD τ sig Unit (Elt F) ℕ (UR sig nD τ) ℕ

/-- What holds before trip `n`: the second scratch has the next tile's scores, the accumulator and the carried
maxima are those after `2 n` tiles. -/
abbrev invL (c : Dev nD) (arg6 : Memref sig .tc .vmem S1x1x16640x64 .bf16) (arg7 : Memref sig .tc .vmem S1x1x80x16640 .bf16)
    (arg9 : Memref sig .tc .vmem S2304x1024 .f32) (arg10 : Memref sig .tc .vmem S2048x1024 .f32)
    (arg11 : Memref sig .tc .vmem S80x1024 .f32) (X6 : BufTy.Contents (Elt F) arg6.view.ty)
    (X7 : BufTy.Contents (Elt F) arg7.view.ty) (q : FVec F S64x1024 .bf16) (m0 : FVec F S1x1024 .f32) (a0 : FVec F S80x1024 .f32)
    (n : ℕ) (p : FVec F S1x1024 .f32 × FVec F S1x1024 .f32) : sProp 𝕄G :=
  iprop((arg6.view.loc (c : Thread nD τ) ↦[arg6.view.set]{fullShare} X6) ∗ (arg7.view.loc (c : Thread nD τ) ↦[arg7.view.set]{fullShare} X7)
    ∗ (∃ f9, (arg9.view.loc (c : Thread nD τ) ↦[arg9.view.set]{fullShare} f9))
    ∗ (∃ f10, (arg10.view.loc (c : Thread nD τ) ↦[arg10.view.set]{fullShare} f10)
        ∗ ⌜Has8 (arg10.view.read (Elt F) f10) q (arg6.view.read (Elt F) X6) (2048 * (2 * n + 1))⌝)
    ∗ (∃ f11, (arg11.view.loc (c : Thread nD τ) ↦[arg11.view.set]{fullShare} f11)
        ∗ ⌜arg11.view.read (Elt F) f11 = stA q (arg6.view.read (Elt F) X6) (arg7.view.read (Elt F) X7) m0 a0 (2 * n)⌝)
    ∗ ⌜p = (stM q (arg6.view.read (Elt F) X6) m0 (2 * n), cm8 q (arg6.view.read (Elt F) X6) (2048 * (2 * n + 1)))⌝)

theorem trip (𝒱 : Variants) (c : Dev nD) (bd : Option 𝒱.V) (E : Set ℕ) (i : grid0.Coords) (arg3 : Memref sig .tc .vmem S1x2x128 .f32) (harg3 : arg3.IsWhole) (arg4 : Memref sig .tc .vmem S1x1x64x1024 .bf16) (harg4 : arg4.IsWhole) (arg5 : Memref sig .tc .vmem S1x1x64x1024 .bf16) (harg5 : arg5.IsWhole) (arg6 : Memref sig .tc .vmem S1x1x16640x64 .bf16) (harg6 : arg6.IsWhole) (arg7 : Memref sig .tc .vmem S1x1x80x16640 .bf16) (harg7 : arg7.IsWhole) (arg8 : Memref sig .tc .vmem S1x1x64x1024 .f32) (harg8 : arg8.IsWhole) (arg9 : Memref sig .tc .vmem S2304x1024 .f32) (harg9 : arg9.IsWhole) (arg10 : Memref sig .tc .vmem S2048x1024 .f32) (harg10 : arg10.IsWhole) (arg11 : Memref sig .tc .vmem S80x1024 .f32) (harg11 : arg11.IsWhole) (arg12 : Memref sig .tc .vmem S8x1024 .f32) (harg12 : arg12.IsWhole)
    (v1 : FVec F S64x1024 .bf16) (v8 v22 : FVec F S1x1024 .f32) (v146 : FVec F S80x1024 .f32) (v155 : FVec F S1x1024 .f32)
    (X6 : BufTy.Contents (Elt F) arg6.view.ty) (X7 : BufTy.Contents (Elt F) arg7.view.ty) (m0 : FVec F S1x1024 .f32) (a0 : FVec F S80x1024 .f32)
    (k : Fin k0_t1_loop.trips) (acc : FVec F S1x1024 .f32 × FVec F S1x1024 .f32) :
    invL c arg6 arg7 arg9 arg10 arg11 X6 X7 v1 m0 a0 k.val acc
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 v1 v8 v22 v146 v155 k acc)
        (fun p => invL c arg6 arg7 arg9 arg10 arg11 X6 X7 v1 m0 a0 (k.val + 1) p) := by
  have hk : k.val < 3 := Nat.lt_of_lt_of_le k.isLt k0_t1_abs.2.1
  unfold k0_t1_body
  iintro ⟨HR_arg6, HR_arg7, ⟨%f9, HW_arg9⟩, ⟨%f10, HW_arg10, %h10⟩, ⟨%f11, HW_arg11, %h11⟩, %hacc⟩
  subst hacc
  sl_exec
  sl_step
  isplitl [HR_arg6]; · iexact HR_arg6
  isplitl [HR_arg7]; · iexact HR_arg7
  isplitl [HW_arg9]; · iexists _; iexact HW_arg9
  isplitl [HW_arg10]
  · iexists _; isplitl [HW_arg10]; · iexact HW_arg10
    ipureintro
    sl_unfold_run_names
    have e : 2 * (k.val + 1) + 1 = 2 * k.val + 3 := by omega
    rw [e]
    refine ⟨?_, ?_, ?_, ?_, ?_, ?_, ?_, ?_⟩ <;>
      (repeat refine (rowsAt_cons_ne (N := 2048) (by decide) _ _ _ _ _ (by decide) (by decide)).trans ?_) <;>
      refine (rowsAt_cons_self (N := 2048) (by decide) _ _ _ _ _).trans ?_ <;>
      simp only [readAt_kv _ (off1_4096_0 k), readAt_kv _ (off1_4096_256 k), readAt_kv _ (off1_4096_512 k), readAt_kv _ (off1_4096_768 k), readAt_kv _ (off1_4096_1024 k), readAt_kv _ (off1_4096_1280 k), readAt_kv _ (off1_4096_1536 k), readAt_kv _ (off1_4096_1792 k), readAt_kv _ (off1_6144_0 k), readAt_kv _ (off1_6144_256 k), readAt_kv _ (off1_6144_512 k), readAt_kv _ (off1_6144_768 k), readAt_kv _ (off1_6144_1024 k), readAt_kv _ (off1_6144_1280 k), readAt_kv _ (off1_6144_1536 k), readAt_kv _ (off1_6144_1792 k)] <;> exact shapeCast_self _ _
  isplitl [HW_arg11]
  · iexists _; isplitl [HW_arg11]; · iexact HW_arg11
    ipureintro
    sl_unfold_run_names
    refine (View.read_writes_full _ _ _ _ _).trans ?_
    simp (disch := decide) only [↓readCov9_ne, ↓View.readCov_cons_toLoadRect, ↓readAt_rows10, h10.1, h10.2.1, h10.2.2.1, h10.2.2.2.1, h10.2.2.2.2.1, h10.2.2.2.2.2.1, h10.2.2.2.2.2.2.1, h10.2.2.2.2.2.2.2, readAt_kv _ (off1_4096_0 k), readAt_kv _ (off1_4096_256 k), readAt_kv _ (off1_4096_512 k), readAt_kv _ (off1_4096_768 k), readAt_kv _ (off1_4096_1024 k), readAt_kv _ (off1_4096_1280 k), readAt_kv _ (off1_4096_1536 k), readAt_kv _ (off1_4096_1792 k), readAt_kv _ (off1_6144_0 k), readAt_kv _ (off1_6144_256 k), readAt_kv _ (off1_6144_512 k), readAt_kv _ (off1_6144_768 k), readAt_kv _ (off1_6144_1024 k), readAt_kv _ (off1_6144_1280 k), readAt_kv _ (off1_6144_1536 k), readAt_kv _ (off1_6144_1792 k), readAt_vv _ (off2_2048_0 k), readAt_vv _ (off2_2048_256 k), readAt_vv _ (off2_2048_512 k), readAt_vv _ (off2_2048_768 k), readAt_vv _ (off2_2048_1024 k), readAt_vv _ (off2_2048_1280 k), readAt_vv _ (off2_2048_1536 k), readAt_vv _ (off2_2048_1792 k), readAt_vv _ (off2_4096_0 k), readAt_vv _ (off2_4096_256 k), readAt_vv _ (off2_4096_512 k), readAt_vv _ (off2_4096_768 k), readAt_vv _ (off2_4096_1024 k), readAt_vv _ (off2_4096_1280 k), readAt_vv _ (off2_4096_1536 k), readAt_vv _ (off2_4096_1792 k)]
    rw [readAt_whole _ (by decide), h11]
    have e' : 2 * (k.val + 1) = 2 * k.val + 1 + 1 := by omega
    rw [e']
    refine Eq.trans ?_ (stA_succ _ _ _ _ _ _).symm
    rw [stA_succ]
    simp only [k0_pay22, k0_pay25, k0_pay29, k0_pay32, k0_pay37, k0_pay40, k0_pay43, k0_pay47, k0_pay49, k0_pay52, k0_pay57, k0_pay60, k0_pay64, k0_pay67, k0_pay70, k0_pay75, k0_pay78, k0_pay116, shapeCast_self]
    rfl
  ipureintro
  sl_unfold_run_names
  simp only [readAt_kv _ (off1_4096_0 k), readAt_kv _ (off1_4096_256 k), readAt_kv _ (off1_4096_512 k), readAt_kv _ (off1_4096_768 k), readAt_kv _ (off1_4096_1024 k), readAt_kv _ (off1_4096_1280 k), readAt_kv _ (off1_4096_1536 k), readAt_kv _ (off1_4096_1792 k), readAt_kv _ (off1_6144_0 k), readAt_kv _ (off1_6144_256 k), readAt_kv _ (off1_6144_512 k), readAt_kv _ (off1_6144_768 k), readAt_kv _ (off1_6144_1024 k), readAt_kv _ (off1_6144_1280 k), readAt_kv _ (off1_6144_1536 k), readAt_kv _ (off1_6144_1792 k)]
  have e : 2 * (k.val + 1) + 1 = 2 * k.val + 3 := by omega
  have e' : 2 * (k.val + 1) = 2 * k.val + 2 := by omega
  rw [e, e']
  rfl

end Cert.Kernel3Ideal.Att
end
-- ==== Proof.Body3.lean ====
module

public import proofs.«01_k».proof.Proof.Trip3

/-! The kernel's body at one grid point: from the query tile's first scores in scratch to its output block, leaving the
next query tile's first scores in scratch. -/

@[expose] public section

set_option maxRecDepth 16384
set_option maxHeartbeats 4000000

noncomputable section

namespace Cert.Kernel3Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen

variable {F : FTy → Type} [FloatOps F]
local notation "𝕄G" => MT nD τ sig Unit (Elt F) ℕ (UR sig nD τ) ℕ

theorem body_next (𝒱 : Variants) (c : Dev nD) (bd : Option 𝒱.V) (E : Set ℕ) (i : grid0.Coords) (arg3 : Memref sig .tc .vmem S1x2x128 .f32) (harg3 : arg3.IsWhole) (arg4 : Memref sig .tc .vmem S1x1x64x1024 .bf16) (harg4 : arg4.IsWhole) (arg5 : Memref sig .tc .vmem S1x1x64x1024 .bf16) (harg5 : arg5.IsWhole) (arg6 : Memref sig .tc .vmem S1x1x16640x64 .bf16) (harg6 : arg6.IsWhole) (arg7 : Memref sig .tc .vmem S1x1x80x16640 .bf16) (harg7 : arg7.IsWhole) (arg8 : Memref sig .tc .vmem S1x1x64x1024 .f32) (harg8 : arg8.IsWhole) (arg9 : Memref sig .tc .vmem S2304x1024 .f32) (harg9 : arg9.IsWhole) (arg10 : Memref sig .tc .vmem S2048x1024 .f32) (harg10 : arg10.IsWhole) (arg11 : Memref sig .tc .vmem S80x1024 .f32) (harg11 : arg11.IsWhole) (arg12 : Memref sig .tc .vmem S8x1024 .f32) (harg12 : arg12.IsWhole)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty)
    (hi : ¬ (Scalar.cmpi .ne (Scalar.extui (Scalar.cmpi .eq (BitVec.ofNat 32 (i 2).val) 0#32) : BitVec 32) 0#32 = 1#1))
    (h9 : Has9 (arg9.view.read (Elt F) f9) (qM (arg4.view.read (Elt F) X4)) (arg6.view.read (Elt F) X6))
    (h12 : row0 (arg12.view.read (Elt F) f12) = cm9 (qM (arg4.view.read (Elt F) X4)) (arg6.view.read (Elt F) X6)) :
    (iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)) : sProp 𝕄G)
      ⊢ wp frame (wpE (defs₀ (F := F)) 𝒱 (c : Thread nD τ) bd) E (cc0_dense_attention (F := F) i arg3 harg3 arg4 harg4 arg5 harg5 arg6 harg6 arg7 harg7 arg8 harg8 arg9 harg9 arg10 harg10 arg11 harg11 arg12 harg12)
        (fun _ => iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7)
      ∗ (∃ g8, (arg8.view.loc (c : Thread nD τ) ↦[arg8.view.set]{fullShare} g8)
          ∗ ⌜arg8.view.read (Elt F) g8 = outB (arg3.view.read (Elt F) X3) (arg4.view.read (Elt F) X4) (arg6.view.read (Elt F) X6) (arg7.view.read (Elt F) X7)⌝)
      ∗ (∃ g9, (arg9.view.loc (c : Thread nD τ) ↦[arg9.view.set]{fullShare} g9)
          ∗ ⌜Has9 (arg9.view.read (Elt F) g9) (qM (arg5.view.read (Elt F) X5)) (arg6.view.read (Elt F) X6)⌝)
      ∗ (∃ g10, (arg10.view.loc (c : Thread nD τ) ↦[arg10.view.set]{fullShare} g10))
      ∗ (∃ g11, (arg11.view.loc (c : Thread nD τ) ↦[arg11.view.set]{fullShare} g11))
      ∗ (∃ g12, (arg12.view.loc (c : Thread nD τ) ↦[arg12.view.set]{fullShare} g12)
          ∗ ⌜row0 (arg12.view.read (Elt F) g12) = cm9 (qM (arg5.view.read (Elt F) X5)) (arg6.view.read (Elt F) X6)⌝))) := by
  simp only [cc0_dense_attention_eq_skeleton]; unfold cc0_dense_attention_skel
  iintro ⟨H3, H4, H5, H6, H7, H8, H9, H10, H11, H12⟩
  sl_exec (disch := exact hi)
  sl_unfold_run_names
  generalize hq : k0_pay81 (View.readAt (Elt F) arg4.view (Rect.unit (s := S1x1x64x1024) ![0, 0, 0, 0] S1x1x64x1024.size inb_S1x1x64x1024_S1x1x64x1024_0_0_0_0).toLoadRect X4) = q
  have hq' : qM (arg4.view.read (Elt F) X4) = q := (congrArg qM (readAt_whole arg4.view (by decide) _ X4)).symm.trans hq
  rw [hq'] at h9 h12
  sl_for (invL c arg6 arg7 arg9 arg10 arg11 X6 X7 q (m0Of (arg3.view.read (Elt F) X3)) (a0Of (arg3.view.read (Elt F) X3))) $$ [H6 H7 H9 H10 H11]
  case region =>
    intro k acc
    exact trip 𝒱 c bd E i arg3 harg3 arg4 harg4 arg5 harg5 arg6 harg6 arg7 harg7 arg8 harg8 arg9 harg9 arg10 harg10 arg11 harg11 arg12 harg12 _ _ _ _ _ X6 X7 _ _ k acc
  · isplitl [H6]; · iexact H6
    isplitl [H7]; · iexact H7
    isplitl [H9]; · iexists _; iexact H9
    isplitl [H10]
    · iexists _; isplitl [H10]; · iexact H10
      ipureintro
      sl_unfold_run_names
      subst hq
      refine ⟨?_, ?_, ?_, ?_, ?_, ?_, ?_, ?_⟩ <;>
        (repeat refine (rowsAt_cons_ne (N := 2048) (by decide) _ _ _ _ _ (by decide) (by decide)).trans ?_) <;>
        refine (rowsAt_cons_self (N := 2048) (by decide) _ _ _ _ _).trans ?_ <;>
        simp only [↓readAt_kv0, ↓readAt_q0] <;> exact shapeCast_self _ _
    isplitl [H11]
    · iexists _; isplitl [H11]; · iexact H11
      ipureintro
      sl_unfold_run_names
      subst hq
      refine (View.read_writes_full _ _ _ _ _).trans ?_
      simp (disch := decide) only [↓View.readCov_cons_toLoadRect, ↓readAt_rows9, h9.1, h9.2.1, h9.2.2.1, h9.2.2.2.1, h9.2.2.2.2.1, h9.2.2.2.2.2.1, h9.2.2.2.2.2.2.1, h9.2.2.2.2.2.2.2.1, h9.2.2.2.2.2.2.2.2, ↓readAt_row0, h12,
        ↓readAt_kv0, ↓readAt_vv0, ↓readAt_init0, ↓readAt_init1, ↓readAt_q0]
      simp only [k0_pay83, k0_pay85, k0_pay86, k0_pay91, k0_pay93, k0_pay97, k0_pay99, k0_pay103, k0_pay106, k0_pay110, k0_pay113, k0_pay115, k0_pay116, shapeCast_self]
      rfl
    ipureintro
    sl_unfold_run_names
    subst hq
    simp only [↓readAt_row0, h12, ↓readAt_kv0, ↓readAt_init0, ↓readAt_q0]
    rfl
  iintro %acc ⟨H6, H7, ⟨%g9, H9⟩, ⟨%g10, H10, %h10⟩, ⟨%g11, H11, %h11⟩, %hacc⟩
  have ht : k0_t1_loop.trips = 3 := by decide +kernel
  replace h10 : Has8 (arg10.view.read (Elt F) g10) q (arg6.view.read (Elt F) X6) (2048 * (2 * 3 + 1)) := by rw [← ht]; exact h10
  replace h11 : arg11.view.read (Elt F) g11 = stA q (arg6.view.read (Elt F) X6) (arg7.view.read (Elt F) X7)
      (m0Of (arg3.view.read (Elt F) X3)) (a0Of (arg3.view.read (Elt F) X3)) (2 * 3) := by rw [← ht]; exact h11
  replace hacc : acc = (stM q (arg6.view.read (Elt F) X6) (m0Of (arg3.view.read (Elt F) X3)) (2 * 3), cm8 q (arg6.view.read (Elt F) X6) (2048 * (2 * 3 + 1))) := by
    rw [← ht]; exact hacc
  subst hacc
  sl_exec
  sl_step
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    sl_unfold_run_names
    refine (View.read_writes_full _ _ _ _ _).trans ?_
    simp (disch := decide) only [↓View.readCov_cons_toLoadRect, ↓readAt_rows10, h10.1, h10.2.1, h10.2.2.1, h10.2.2.2.1, h10.2.2.2.2.1, h10.2.2.2.2.2.1, h10.2.2.2.2.2.2.1, h10.2.2.2.2.2.2.2, ↓readAt_vv0, ↓readAt_q0]
    rw [readAt_whole _ (by decide), h11]
    unfold outB
    rw [hq', stA_succ]
    refine congrArg k0_pay2 ?_
    simp only [k0_pay147, shapeCast_self]
    rfl
  isplitl [H9]
  · iexists _; isplitl [H9]; · iexact H9
    ipureintro
    sl_unfold_run_names
    refine ⟨?_, ?_, ?_, ?_, ?_, ?_, ?_, ?_, ?_⟩ <;>
      (repeat refine (rowsAt_cons_ne (N := 2304) (by decide) _ _ _ _ _ (by decide) (by decide)).trans ?_) <;>
      refine (rowsAt_cons_self (N := 2304) (by decide) _ _ _ _ _).trans ?_ <;>
      simp only [↓readAt_kv0, ↓readAt_q0] <;> exact shapeCast_self _ _
  isplitl [H10]; · iexists _; iexact H10
  isplitl [H11]; · iexists _; iexact H11
  iexists _; isplitl [H12]; · iexact H12
  ipureintro
  sl_unfold_run_names
  refine (row0_cons _ _ _ _ _).trans ?_
  simp only [↓readAt_kv0, ↓readAt_q0]
  exact shapeCast_self _ _

end Cert.Kernel3Ideal.Att
end
-- ==== Proof.BodyFirst3.lean ====
module

public import proofs.«01_k».proof.Proof.Trip3

/-! The kernel's body at one grid point: of a head's first query tile, which also computes its own first scores, leaving the
next query tile's first scores in scratch. -/

@[expose] public section

set_option maxRecDepth 16384
set_option maxHeartbeats 4000000

noncomputable section

namespace Cert.Kernel3Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen

variable {F : FTy → Type} [FloatOps F]
local notation "𝕄G" => MT nD τ sig Unit (Elt F) ℕ (UR sig nD τ) ℕ

theorem body_first (𝒱 : Variants) (c : Dev nD) (bd : Option 𝒱.V) (E : Set ℕ) (i : grid0.Coords) (arg3 : Memref sig .tc .vmem S1x2x128 .f32) (harg3 : arg3.IsWhole) (arg4 : Memref sig .tc .vmem S1x1x64x1024 .bf16) (harg4 : arg4.IsWhole) (arg5 : Memref sig .tc .vmem S1x1x64x1024 .bf16) (harg5 : arg5.IsWhole) (arg6 : Memref sig .tc .vmem S1x1x16640x64 .bf16) (harg6 : arg6.IsWhole) (arg7 : Memref sig .tc .vmem S1x1x80x16640 .bf16) (harg7 : arg7.IsWhole) (arg8 : Memref sig .tc .vmem S1x1x64x1024 .f32) (harg8 : arg8.IsWhole) (arg9 : Memref sig .tc .vmem S2304x1024 .f32) (harg9 : arg9.IsWhole) (arg10 : Memref sig .tc .vmem S2048x1024 .f32) (harg10 : arg10.IsWhole) (arg11 : Memref sig .tc .vmem S80x1024 .f32) (harg11 : arg11.IsWhole) (arg12 : Memref sig .tc .vmem S8x1024 .f32) (harg12 : arg12.IsWhole)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty)
    (hi : (Scalar.cmpi .ne (Scalar.extui (Scalar.cmpi .eq (BitVec.ofNat 32 (i 2).val) 0#32) : BitVec 32) 0#32 = 1#1)) :
    (iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)) : sProp 𝕄G)
      ⊢ wp frame (wpE (defs₀ (F := F)) 𝒱 (c : Thread nD τ) bd) E (cc0_dense_attention (F := F) i arg3 harg3 arg4 harg4 arg5 harg5 arg6 harg6 arg7 harg7 arg8 harg8 arg9 harg9 arg10 harg10 arg11 harg11 arg12 harg12)
        (fun _ => iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7)
      ∗ (∃ g8, (arg8.view.loc (c : Thread nD τ) ↦[arg8.view.set]{fullShare} g8)
          ∗ ⌜arg8.view.read (Elt F) g8 = outB (arg3.view.read (Elt F) X3) (arg4.view.read (Elt F) X4) (arg6.view.read (Elt F) X6) (arg7.view.read (Elt F) X7)⌝)
      ∗ (∃ g9, (arg9.view.loc (c : Thread nD τ) ↦[arg9.view.set]{fullShare} g9)
          ∗ ⌜Has9 (arg9.view.read (Elt F) g9) (qM (arg5.view.read (Elt F) X5)) (arg6.view.read (Elt F) X6)⌝)
      ∗ (∃ g10, (arg10.view.loc (c : Thread nD τ) ↦[arg10.view.set]{fullShare} g10))
      ∗ (∃ g11, (arg11.view.loc (c : Thread nD τ) ↦[arg11.view.set]{fullShare} g11))
      ∗ (∃ g12, (arg12.view.loc (c : Thread nD τ) ↦[arg12.view.set]{fullShare} g12)
          ∗ ⌜row0 (arg12.view.read (Elt F) g12) = cm9 (qM (arg5.view.read (Elt F) X5)) (arg6.view.read (Elt F) X6)⌝))) := by
  simp only [cc0_dense_attention_eq_skeleton]; unfold cc0_dense_attention_skel
  iintro ⟨H3, H4, H5, H6, H7, H8, H9, H10, H11, H12⟩
  sl_exec (disch := exact hi)
  sl_unfold_run_names
  generalize hq : k0_pay81 (View.readAt (Elt F) arg4.view (Rect.unit (s := S1x1x64x1024) ![0, 0, 0, 0] S1x1x64x1024.size inb_S1x1x64x1024_S1x1x64x1024_0_0_0_0).toLoadRect X4) = q
  have hq' : qM (arg4.view.read (Elt F) X4) = q := (congrArg qM (readAt_whole arg4.view (by decide) _ X4)).symm.trans hq
  sl_for (invL c arg6 arg7 arg9 arg10 arg11 X6 X7 q (m0Of (arg3.view.read (Elt F) X3)) (a0Of (arg3.view.read (Elt F) X3))) $$ [H6 H7 H9 H10 H11]
  case region =>
    intro k acc
    exact trip 𝒱 c bd E i arg3 harg3 arg4 harg4 arg5 harg5 arg6 harg6 arg7 harg7 arg8 harg8 arg9 harg9 arg10 harg10 arg11 harg11 arg12 harg12 _ _ _ _ _ X6 X7 _ _ k acc
  · isplitl [H6]; · iexact H6
    isplitl [H7]; · iexact H7
    isplitl [H9]; · iexists _; iexact H9
    isplitl [H10]
    · iexists _; isplitl [H10]; · iexact H10
      ipureintro
      sl_unfold_run_names
      subst hq
      refine ⟨?_, ?_, ?_, ?_, ?_, ?_, ?_, ?_⟩ <;>
        (repeat refine (rowsAt_cons_ne (N := 2048) (by decide) _ _ _ _ _ (by decide) (by decide)).trans ?_) <;>
        refine (rowsAt_cons_self (N := 2048) (by decide) _ _ _ _ _).trans ?_ <;>
        simp only [↓readAt_kv0, ↓readAt_q0] <;> exact shapeCast_self _ _
    isplitl [H11]
    · iexists _; isplitl [H11]; · iexact H11
      ipureintro
      sl_unfold_run_names
      subst hq
      refine (View.read_writes_full _ _ _ _ _).trans ?_
      simp (disch := decide) only [↓View.readCov_cons_toLoadRect, ↓readCov9_ne,
        ↓readAt_kv0, ↓readAt_vv0, ↓readAt_init0, ↓readAt_init1, ↓readAt_q0]
      simp only [k0_pay4, k0_pay6, k0_pay8, k0_pay12, k0_pay14, k0_pay16, k0_pay19, k0_pay83, k0_pay85, k0_pay86, k0_pay91, k0_pay93, k0_pay97, k0_pay99, k0_pay103, k0_pay106, k0_pay110, k0_pay113, k0_pay115, k0_pay116, shapeCast_self]
      rfl
    ipureintro
    sl_unfold_run_names
    subst hq
    simp only [↓View.readCov_cons_toLoadRect, ↓readAt_kv0, ↓readAt_init0, ↓readAt_q0]
    simp only [k0_pay86, shapeCast_self]
    rfl
  iintro %acc ⟨H6, H7, ⟨%g9, H9⟩, ⟨%g10, H10, %h10⟩, ⟨%g11, H11, %h11⟩, %hacc⟩
  have ht : k0_t1_loop.trips = 3 := by decide +kernel
  replace h10 : Has8 (arg10.view.read (Elt F) g10) q (arg6.view.read (Elt F) X6) (2048 * (2 * 3 + 1)) := by rw [← ht]; exact h10
  replace h11 : arg11.view.read (Elt F) g11 = stA q (arg6.view.read (Elt F) X6) (arg7.view.read (Elt F) X7)
      (m0Of (arg3.view.read (Elt F) X3)) (a0Of (arg3.view.read (Elt F) X3)) (2 * 3) := by rw [← ht]; exact h11
  replace hacc : acc = (stM q (arg6.view.read (Elt F) X6) (m0Of (arg3.view.read (Elt F) X3)) (2 * 3), cm8 q (arg6.view.read (Elt F) X6) (2048 * (2 * 3 + 1))) := by
    rw [← ht]; exact hacc
  subst hacc
  sl_exec
  sl_step
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    sl_unfold_run_names
    refine (View.read_writes_full _ _ _ _ _).trans ?_
    simp (disch := decide) only [↓View.readCov_cons_toLoadRect, ↓readAt_rows10, h10.1, h10.2.1, h10.2.2.1, h10.2.2.2.1, h10.2.2.2.2.1, h10.2.2.2.2.2.1, h10.2.2.2.2.2.2.1, h10.2.2.2.2.2.2.2, ↓readAt_vv0, ↓readAt_q0]
    rw [readAt_whole _ (by decide), h11]
    unfold outB
    rw [hq', stA_succ]
    refine congrArg k0_pay2 ?_
    simp only [k0_pay147, shapeCast_self]
    rfl
  isplitl [H9]
  · iexists _; isplitl [H9]; · iexact H9
    ipureintro
    sl_unfold_run_names
    refine ⟨?_, ?_, ?_, ?_, ?_, ?_, ?_, ?_, ?_⟩ <;>
      (repeat refine (rowsAt_cons_ne (N := 2304) (by decide) _ _ _ _ _ (by decide) (by decide)).trans ?_) <;>
      refine (rowsAt_cons_self (N := 2304) (by decide) _ _ _ _ _).trans ?_ <;>
      simp only [↓readAt_kv0, ↓readAt_q0] <;> exact shapeCast_self _ _
  isplitl [H10]; · iexists _; iexact H10
  isplitl [H11]; · iexists _; iexact H11
  iexists _; isplitl [H12]; · iexact H12
  ipureintro
  sl_unfold_run_names
  refine (row0_cons _ _ _ _ _).trans ?_
  simp only [↓readAt_kv0, ↓readAt_q0]
  exact shapeCast_self _ _

end Cert.Kernel3Ideal.Att
end
-- ==== Proof.Blocks3.lean ====
module

public import proofs.«01_k».proof.Proof.Step3
public import Idealize.ShloMosaic.Lib.Pipeline.ValueKit

/-! The input windows' blocks at coordinates, and how a point's blocks follow from those of the point before it. -/

@[expose] public section

set_option maxRecDepth 16384

noncomputable section

namespace Cert.Kernel3Ideal.Att

open Idealize.ShloMosaic Idealize.ShloMosaic.TcCoe Idealize.ShloMosaic.ValueIdx
open Idealize.SL Idealize.SL.Sem
open Cert.Kernel3Ideal.Gen

variable {F : FTy → Type} [FloatOps F]
variable (m : (ℓ : Loc nD τ sig) → Buf (Elt F) ℓ)

/-- The batch, the head and the query tile of a grid point. -/
abbrev bOf (t : Fin cfg0.N) : ℕ := (grid0.coords t 0).val
abbrev hOf (t : Fin cfg0.N) : ℕ := (grid0.coords t 1).val
abbrev jOf (t : Fin cfg0.N) : ℕ := (grid0.coords t 2).val

theorem idx0 : ∀ t : Fin cfg0.N, win0_0.index t = ![hOf t, 0, 0] := (by decide +kernel : ∀ t : Fin grid0.N, _)
theorem idx1 : ∀ t : Fin cfg0.N, win0_1.index t = ![bOf t, hOf t, 0, jOf t] := (by decide +kernel : ∀ t : Fin grid0.N, _)
theorem idx2 : ∀ t : Fin cfg0.N, win0_2.index t = ![bOf t, hOf t, 0, min (jOf t + 1) 15] := (by decide +kernel : ∀ t : Fin grid0.N, _)
theorem idx3 : ∀ t : Fin cfg0.N, win0_3.index t = ![bOf t, 2 + hOf t / 4, 0, 0] := (by decide +kernel : ∀ t : Fin grid0.N, _)
theorem idx4 : ∀ t : Fin cfg0.N, win0_4.index t = ![bOf t, hOf t / 4, 0, 0] := (by decide +kernel : ∀ t : Fin grid0.N, _)
theorem idx5 : ∀ t : Fin cfg0.N, win0_5.index t = ![bOf t, hOf t, 0, jOf t] := (by decide +kernel : ∀ t : Fin grid0.N, _)

theorem blk0 (c : Dev nD) (t : Fin cfg0.N) (y : S1x2x128.Idx) (z : S8x2x128.Idx)
    (h0 : (z 0).val = hOf t + (y 0).val) (h1 : (z 1).val = (y 1).val) (h2 : (z 2).val = (y 2).val) :
    iblk m c 0 t y = V m c main_v23 z := by
  have e := idx0 t
  blk_simp [iblk]
  congr 1
  funext a; apply Fin.ext
  fin_cases a
  all_goals (blk_simp [e]; simp at *; omega)

theorem blk1 (c : Dev nD) (t : Fin cfg0.N) (y : S1x1x64x1024.Idx) (z : S2x8x64x16640.Idx)
    (h0 : (z 0).val = bOf t + (y 0).val) (h1 : (z 1).val = hOf t + (y 1).val) (h2 : (z 2).val = (y 2).val)
    (h3 : (z 3).val = jOf t * 1024 + (y 3).val) :
    X0_1 m c t y = V m c main_v21 z := by
  have e := idx1 t
  unfold X0_1 Pipeline.Window.fill
  rw [dif_pos (moved0_1 t y)]
  blk_simp [iblk]
  congr 1
  funext a; apply Fin.ext
  fin_cases a <;> (blk_simp [e]; simp at *; omega)

theorem blk3 (c : Dev nD) (t : Fin cfg0.N) (y : S1x1x16640x64.Idx) (z : S2x4x16640x64.Idx)
    (h0 : (z 0).val = bOf t + (y 0).val) (h1 : (z 1).val = 2 + hOf t / 4 + (y 1).val) (h2 : (z 2).val = (y 2).val)
    (h3 : (z 3).val = (y 3).val) :
    iblk m c 3 t y = V m c main_v10 z := by
  have e := idx3 t
  blk_simp [iblk]
  congr 1
  funext a; apply Fin.ext
  fin_cases a
  all_goals (blk_simp [e]; simp at *; omega)

theorem blk4 (c : Dev nD) (t : Fin cfg0.N) (y : S1x1x80x16640.Idx) (z : S2x2x80x16640.Idx)
    (h0 : (z 0).val = bOf t + (y 0).val) (h1 : (z 1).val = hOf t / 4 + (y 1).val) (h2 : (z 2).val = (y 2).val)
    (h3 : (z 3).val = (y 3).val) :
    iblk m c 4 t y = V m c main_v20 z := by
  have e := idx4 t
  blk_simp [iblk]
  congr 1
  funext a; apply Fin.ext
  fin_cases a
  all_goals (blk_simp [e]; simp at *; omega)

/-- A point's successor on the same head: the same batch and head, the next query tile. -/
theorem next_coords : ∀ t t' : Fin cfg0.N, t'.val = t.val + 1 → t'.val % 16 ≠ 0 →
    bOf t' = bOf t ∧ hOf t' = hOf t ∧ jOf t' = jOf t + 1 := by
  have h : ∀ t : Fin cfg0.N, bOf t = t.val / 128 ∧ hOf t = t.val / 16 % 8 ∧ jOf t = t.val % 16 :=
    (by decide +kernel : ∀ t : Fin grid0.N, _)
  intro t t' e n
  obtain ⟨a, b, d⟩ := h t; obtain ⟨a', b', d'⟩ := h t'
  omega

theorem jOf_eq : ∀ t : Fin cfg0.N, jOf t = t.val % 16 := (by decide +kernel : ∀ t : Fin grid0.N, _)

theorem keys_next (c : Dev nD) (t t' : Fin cfg0.N) (h : t'.val = t.val + 1) (hn : t'.val % 16 ≠ 0) :
    (iblk m c 3 t' : S1x1x16640x64.Idx → Elt F .bf16) = iblk m c 3 t := by
  obtain ⟨hb, hh, -⟩ := next_coords t t' h hn
  have e := idx3 t; have e' := idx3 t'
  funext y
  blk_simp [iblk]
  congr 1
  funext a; apply Fin.ext
  blk_simp [e, e', hb, hh]

theorem query_next (c : Dev nD) (t t' : Fin cfg0.N) (h : t'.val = t.val + 1) (hn : t'.val % 16 ≠ 0) :
    (X0_1 m c t' : S1x1x64x1024.Idx → Elt F .bf16) = X0_2 m c t := by
  obtain ⟨hb, hh, hj⟩ := next_coords t t' h hn
  have e := idx2 t; have e' := idx1 t'
  have hj' : min (jOf t + 1) 15 = jOf t' := by
    have := jOf_eq t'; omega
  rw [hj'] at e
  funext y
  unfold X0_1 X0_2 Pipeline.Window.fill
  rw [dif_pos (moved0_1 t' y), dif_pos (moved0_2 t y)]
  blk_simp [iblk]
  congr 1
  funext a; apply Fin.ext
  fin_cases a
  all_goals (blk_simp [e, e', hb, hh])

/-- The kernel's condition is the head's first query tile. -/
theorem first_iff : ∀ t : Fin cfg0.N, (Scalar.cmpi .ne (Scalar.extui (Scalar.cmpi .eq (BitVec.ofNat 32 (grid0.coords t 2).val) 0#32) : BitVec 32) 0#32 = 1#1) ↔ t.val % 16 = 0 :=
  (by decide +kernel : ∀ t : Fin grid0.N, _)

end Cert.Kernel3Ideal.Att
end
-- ==== Proof.Run3.lean ====
module

public import proofs.«01_k».proof.Proof.Body3
public import proofs.«01_k».proof.Proof.BodyFirst3
public import proofs.«01_k».proof.Proof.Blocks3

/-! The launch: the scratch carries the query tile's first scores from point to point, and the output's staging buffer
holds at each point the attention of the point's blocks. -/

@[expose] public section

set_option maxRecDepth 16384

noncomputable section

namespace Cert.Kernel3Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)
open Cert.Kernel3Ideal.Gen

variable {F : FTy → Type} [FloatOps F]
local notation "𝕄G" => MT nD τ sig Unit (Elt F) ℕ (UR sig nD τ) ℕ

variable (m : (ℓ : Loc nD τ sig) → Buf (Elt F) ℓ) (ρ : Dev nD → PrngReg)

abbrev s9 : Memref sig .tc .vmem S2304x1024 .f32 := Memref.whole cc0_scratch0
abbrev s10 : Memref sig .tc .vmem S2048x1024 .f32 := Memref.whole cc0_scratch1
abbrev s11 : Memref sig .tc .vmem S80x1024 .f32 := Memref.whole cc0_scratch2
abbrev s12 : Memref sig .tc .vmem S8x1024 .f32 := Memref.whole cc0_scratch3

/-- The blocks of a point, at their own shapes. -/
abbrev kB (c : Dev nD) (t : Fin cfg0.N) : FVec F S1x1x16640x64 .bf16 := iblk m c 3 t
abbrev qB (c : Dev nD) (t : Fin cfg0.N) : FVec F S1x1x64x1024 .bf16 := X0_1 m c t
abbrev oB (c : Dev nD) (t : Fin cfg0.N) : FVec F S1x1x64x1024 .f32 :=
  outB (iblk m c 0 t) (X0_1 m c t) (iblk m c 3 t) (iblk m c 4 t)

/-- What the score buffers hold before position `n`: unless a head starts there, the first scores of its query tile. -/
def T9 (c : Dev nD) (n : ℕ) (X : FVec F S2304x1024 .f32) : Prop :=
  ∀ t : Fin cfg0.N, t.val = n → t.val % 16 ≠ 0 → Has9 X (qM (qB m c t)) (kB m c t)
def T12 (c : Dev nD) (n : ℕ) (X : FVec F S8x1024 .f32) : Prop :=
  ∀ t : Fin cfg0.N, t.val = n → t.val % 16 ≠ 0 → row0 X = cm9 (qM (qB m c t)) (kB m c t)

/-- The scratch and the generator register between points. -/
def Inv (c : Dev nD) (n : ℕ) : sProp 𝕄G :=
  iprop((∃ X, owns (c : Thread nD τ) s9 fullShare X ∗ ⌜T9 m c n X⌝)
    ∗ (∃ X, owns (c : Thread nD τ) s10 fullShare X) ∗ (∃ X, owns (c : Thread nD τ) s11 fullShare X)
    ∗ (∃ X, owns (c : Thread nD τ) s12 fullShare X ∗ ⌜T12 m c n X⌝) ∗ (∃ r, prngReg c r))

def dats (_ : Fin 1) (c : Dev nD) : Dat τ (Elt F) Unit ℕ (UR sig nD τ) ℕ cfg0 c where
  A w := V m c (Pipeline.arrRef spec0 w)
  after w t := match w with
    | 0 => iblk m c 0 t
    | 1 => X0_1 m c t
    | 2 => X0_2 m c t
    | 3 => iblk m c 3 t
    | 4 => iblk m c 4 t
    | 5 => oB m c t
    | ⟨_ + 6, h⟩ => absurd h (Nat.not_lt.2 (Nat.le_add_left _ _))
  Φ n := Inv m c n.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = oB m c t := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = X0_1 m c t :=
  before0_1_of m _ (A_eq m c 1) (after_1 m c) t d
theorem before_2 (c : Dev nD) (t : Fin cfg0.N) (d) : (dats m 0 c).before 2 t d = X0_2 m c t :=
  before0_2_of m _ (A_eq m c 2) (after_2 m c) t d
theorem before_3 (c : Dev nD) (t : Fin cfg0.N) (d) : (dats m 0 c).before 3 t d = iblk m c 3 t :=
  before0_3_of m _ (A_eq m c 3) (after_3 m c) t d
theorem before_4 (c : Dev nD) (t : Fin cfg0.N) (d) : (dats m 0 c).before 4 t d = iblk m c 4 t :=
  before0_4_of m _ (A_eq m c 4) (after_4 m c) t d

/-- The staging buffers at a point, at given contents of the output's. -/
def bodyPre (c : Dev nD) (t : Fin cfg0.N) : sProp 𝕄G :=
  iprop(Inv m c t.val ∗ (dats m 0 c).owesAt () t.castSucc
    ∗ owns (c : Thread nD τ) (st0_0 t) fullShare (iblk m c 0 t) ∗ owns (c : Thread nD τ) (st0_1 t) fullShare (X0_1 m c t)
    ∗ owns (c : Thread nD τ) (st0_2 t) fullShare (X0_2 m c t) ∗ owns (c : Thread nD τ) (st0_3 t) fullShare (iblk m c 3 t)
    ∗ owns (c : Thread nD τ) (st0_4 t) fullShare (iblk m c 4 t) ∗ (∃ X, owns (c : Thread nD τ) (st0_5 t) fullShare X))
def bodyPost (c : Dev nD) (t : Fin cfg0.N) : sProp 𝕄G :=
  iprop(Inv m c (t.val + 1) ∗ (dats m 0 c).owesAt () t.castSucc
    ∗ owns (c : Thread nD τ) (st0_0 t) fullShare (iblk m c 0 t) ∗ owns (c : Thread nD τ) (st0_1 t) fullShare (X0_1 m c t)
    ∗ owns (c : Thread nD τ) (st0_2 t) fullShare (X0_2 m c t) ∗ owns (c : Thread nD τ) (st0_3 t) fullShare (iblk m c 3 t)
    ∗ owns (c : Thread nD τ) (st0_4 t) fullShare (iblk m c 4 t) ∗ owns (c : Thread nD τ) (st0_5 t) fullShare (oB m c t))

/-- What the body leaves in scratch is what the next position needs. -/
theorem T9_next (c : Dev nD) (t : Fin cfg0.N) (X : FVec F S2304x1024 .f32)
    (h : Has9 X (qM (X0_2 m c t : FVec F S1x1x64x1024 .bf16)) (kB m c t)) : T9 m c (t.val + 1) X := by
  intro t' e n
  have ek := keys_next m c t t' e n
  have eq := query_next m c t t' e n
  unfold qB kB; rw [eq, ek]; exact h
theorem T12_next (c : Dev nD) (t : Fin cfg0.N) (X : FVec F S8x1024 .f32)
    (h : row0 X = cm9 (qM (X0_2 m c t : FVec F S1x1x64x1024 .bf16)) (kB m c t)) : T12 m c (t.val + 1) X := by
  intro t' e n
  have ek := keys_next m c t t' e n
  have eq := query_next m c t t' e n
  unfold qB kB; rw [eq, ek]; exact h

/-- A pure fact beside a points-to is the contents owned. -/
theorem owns_of (c : Dev nD) {sp : Space} {sh : Shape} {e : EltTy} (M : Memref sig .tc sp sh e) (f : BufTy.Contents (Elt F) M.view.ty) (X : sh.Idx → Elt F e)
    (h : M.view.read (Elt F) f = X) : (M.view.loc (c : Thread nD τ) ↦[M.view.set]{fullShare} f : sProp 𝕄G) ⊢ owns (c : Thread nD τ) M fullShare X := by
  unfold owns
  iintro H; iexists f; isplitr
  · ipureintro; exact h
  · iexact H

theorem sound_body (𝒱 : Variants) (c : Dev nD) (t : Fin cfg0.N) :
    bodyPre m c t ⊢ wp frame (wpE (defs₀ (F := F)) 𝒱 (c : Thread nD τ) none) Set.univ (bodyAt0 t) (fun _ => bodyPost m c t) := by
  unfold bodyPre Inv owns
  iintro ⟨⟨⟨%X9, ⟨%f9, %e9, H9⟩, %h9⟩, ⟨%X10, %f10, -, H10⟩, ⟨%X11, %f11, -, H11⟩, ⟨%X12, ⟨%f12, %e12, H12⟩, %h12⟩, Hr⟩, HO,
    ⟨%f3, %e3, H3⟩, ⟨%f4, %e4, H4⟩, ⟨%f5, %e5, H5⟩, ⟨%f6, %e6, H6⟩, ⟨%f7, %e7, H7⟩, ⟨%X8, %f8, -, H8⟩⟩
  have key : (iprop(((st0_0 t).view.loc (c : Thread nD τ) ↦[(st0_0 t).view.set]{fullShare} f3) ∗ ((st0_1 t).view.loc (c : Thread nD τ) ↦[(st0_1 t).view.set]{fullShare} f4)
      ∗ ((st0_2 t).view.loc (c : Thread nD τ) ↦[(st0_2 t).view.set]{fullShare} f5) ∗ ((st0_3 t).view.loc (c : Thread nD τ) ↦[(st0_3 t).view.set]{fullShare} f6)
      ∗ ((st0_4 t).view.loc (c : Thread nD τ) ↦[(st0_4 t).view.set]{fullShare} f7) ∗ ((st0_5 t).view.loc (c : Thread nD τ) ↦[(st0_5 t).view.set]{fullShare} f8)
      ∗ (s9.view.loc (c : Thread nD τ) ↦[s9.view.set]{fullShare} f9) ∗ (s10.view.loc (c : Thread nD τ) ↦[s10.view.set]{fullShare} f10)
      ∗ (s11.view.loc (c : Thread nD τ) ↦[s11.view.set]{fullShare} f11) ∗ (s12.view.loc (c : Thread nD τ) ↦[s12.view.set]{fullShare} f12)) : sProp 𝕄G)
      ⊢ wp frame (wpE (defs₀ (F := F)) 𝒱 (c : Thread nD τ) none) Set.univ (bodyAt0 t)
        (fun _ => iprop(((st0_0 t).view.loc (c : Thread nD τ) ↦[(st0_0 t).view.set]{fullShare} f3) ∗ ((st0_1 t).view.loc (c : Thread nD τ) ↦[(st0_1 t).view.set]{fullShare} f4)
      ∗ ((st0_2 t).view.loc (c : Thread nD τ) ↦[(st0_2 t).view.set]{fullShare} f5) ∗ ((st0_3 t).view.loc (c : Thread nD τ) ↦[(st0_3 t).view.set]{fullShare} f6)
      ∗ ((st0_4 t).view.loc (c : Thread nD τ) ↦[(st0_4 t).view.set]{fullShare} f7)
      ∗ (∃ g8, ((st0_5 t).view.loc (c : Thread nD τ) ↦[(st0_5 t).view.set]{fullShare} g8)
          ∗ ⌜(st0_5 t).view.read (Elt F) g8 = outB ((st0_0 t).view.read (Elt F) f3) ((st0_1 t).view.read (Elt F) f4) ((st0_3 t).view.read (Elt F) f6) ((st0_4 t).view.read (Elt F) f7)⌝)
      ∗ (∃ g9, (s9.view.loc (c : Thread nD τ) ↦[s9.view.set]{fullShare} g9)
          ∗ ⌜Has9 (s9.view.read (Elt F) g9) (qM ((st0_2 t).view.read (Elt F) f5)) ((st0_3 t).view.read (Elt F) f6)⌝)
      ∗ (∃ g10, (s10.view.loc (c : Thread nD τ) ↦[s10.view.set]{fullShare} g10))
      ∗ (∃ g11, (s11.view.loc (c : Thread nD τ) ↦[s11.view.set]{fullShare} g11))
      ∗ (∃ g12, (s12.view.loc (c : Thread nD τ) ↦[s12.view.set]{fullShare} g12)
          ∗ ⌜row0 (s12.view.read (Elt F) g12) = cm9 (qM ((st0_2 t).view.read (Elt F) f5)) ((st0_3 t).view.read (Elt F) f6)⌝))) := by
    by_cases hz : t.val % 16 = 0
    · exact body_first 𝒱 c none Set.univ (grid0.coords t) _ _ _ _ _ _ _ _ _ _ _ _ _ _ _ _ _ _ _ _ f3 f4 f5 f6 f7 f8 f9 f10 f11 f12 ((first_iff t).mpr hz)
    · refine body_next 𝒱 c none Set.univ (grid0.coords t) _ _ _ _ _ _ _ _ _ _ _ _ _ _ _ _ _ _ _ _ f3 f4 f5 f6 f7 f8 f9 f10 f11 f12 (fun h => hz ((first_iff t).mp h)) ?_ ?_
      · have := h9 t rfl hz
        rw [← e9] at this; unfold qB kB at this; rw [← e4, ← e6] at this; exact this
      · have := h12 t rfl hz
        rw [← e12] at this; unfold qB kB at this; rw [← e4, ← e6] at this; exact this
  iapply (wp_wand_r frame (wpE (defs₀ (F := F)) 𝒱 (c : Thread nD τ) none) Set.univ)
  isplitl [H3 H4 H5 H6 H7 H8 H9 H10 H11 H12]
  · iapply key
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨H3, H4, H5, H6, H7, ⟨%g8, H8, %k8⟩, ⟨%g9, H9, %k9⟩, ⟨%g10, H10⟩, ⟨%g11, H11⟩, ⟨%g12, H12, %k12⟩⟩
  unfold bodyPost Inv
  isplitl [H9 H10 H11 H12 Hr]
  · isplitl [H9]
    · iexists (s9.view.read (Elt F) g9); isplitl [H9]
      · iapply (owns_of c s9 g9 _ rfl); iexact H9
      · ipureintro; rw [e5, e6] at k9; exact T9_next m c t _ k9
    isplitl [H10]
    · iexists (s10.view.read (Elt F) g10); iapply (owns_of c s10 g10 _ rfl); iexact H10
    isplitl [H11]
    · iexists (s11.view.read (Elt F) g11); iapply (owns_of c s11 g11 _ rfl); iexact H11
    isplitl [H12]
    · iexists (s12.view.read (Elt F) g12); isplitl [H12]
      · iapply (owns_of c s12 g12 _ rfl); iexact H12
      · ipureintro; rw [e5, e6] at k12; exact T12_next m c t _ k12
    iexact Hr
  isplitl [HO]; · iexact HO
  isplitl [H3]; · iapply (owns_of c (st0_0 t) f3 _ e3); iexact H3
  isplitl [H4]; · iapply (owns_of c (st0_1 t) f4 _ e4); iexact H4
  isplitl [H5]; · iapply (owns_of c (st0_2 t) f5 _ e5); iexact H5
  isplitl [H6]; · iapply (owns_of c (st0_3 t) f6 _ e6); iexact H6
  isplitl [H7]; · iapply (owns_of c (st0_4 t) f7 _ e7); iexact H7
  iapply (owns_of c (st0_5 t) g8 _ (by rw [e3, e4, e6, e7] at k8; exact k8)); iexact H8

/-- The body table's row at a point is the body as called there. -/
theorem defs₀_row (t : Fin cfg0.N) : defs₀ (F := F) .tc cfg0.body (cfg0.bodyArgs t (cfg0.slots t)) = bodyAt0 t := by
  unfold defs₀; rw [Defs.onTc_tc]

/-- The staging buffers handed to the body are those of its precondition. -/
theorem pre_of (c : Dev nD) (t : Fin cfg0.N) :
    (iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))) : sProp 𝕄G)
      ⊢ bodyPre m c t := by
  rw [show (dats m 0 c).Φ t.castSucc = Inv m c t.val from by dsimp only [dats]; rfl]
  simp only [before_0, before_1, before_2, before_3, before_4]
  unfold bodyPre
  iintro ⟨HI, HO, ⟨%d0, H0⟩, ⟨%d1, H1⟩, ⟨%d2, H2⟩, ⟨%d3, H3⟩, ⟨%d4, H4⟩, ⟨%d5, H5⟩⟩
  isplitl [HI]; · iexact HI
  isplitl [HO]; · iexact HO
  isplitl [H0]; · iexact H0
  isplitl [H1]; · iexact H1
  isplitl [H2]; · iexact H2
  isplitl [H3]; · iexact H3
  isplitl [H4]; · iexact H4
  iexists _; iexact H5

/-- The body's postcondition is the pipeline's. -/
theorem post_of (c : Dev nD) (t : Fin cfg0.N) :
    bodyPost m c t ⊢ (iprop((dats m 0 c).Φ t.succ ∗ (dats m 0 c).owesAt () t.succ
      ∗ owns (c : Thread nD τ) (st0_0 t) fullShare ((dats m 0 c).after 0 t) ∗ owns (c : Thread nD τ) (st0_1 t) fullShare ((dats m 0 c).after 1 t)
      ∗ owns (c : Thread nD τ) (st0_2 t) fullShare ((dats m 0 c).after 2 t) ∗ owns (c : Thread nD τ) (st0_3 t) fullShare ((dats m 0 c).after 3 t)
      ∗ owns (c : Thread nD τ) (st0_4 t) fullShare ((dats m 0 c).after 4 t) ∗ owns (c : Thread nD τ) (st0_5 t) fullShare ((dats m 0 c).after 5 t)) : sProp 𝕄G) := by
  rw [show (dats m 0 c).Φ t.succ = Inv m c (t.val + 1) from by dsimp only [dats]; rfl,
    show (dats m 0 c).owesAt () t.succ = (dats m 0 c).owesAt () t.castSucc from rfl,
    after_0, after_1, after_2, after_3, after_4, after_5]
  exact .rfl

theorem body_obligation (𝒱 : Variants) (c : Dev nD) : BodyObligation (dats (F := F) m 0 c) (defs₀ (F := F)) 𝒱 () Set.univ := fun t => by
  rw [bigSep_W0, bigSep_W0, defs₀_row]
  exact triple_restated (sound_body m 𝒱 c t) rfl (pre_of m c t) fun _ => post_of m c t

/-- The scratch at anything and the generator register are what the pipeline starts from, -/
theorem hin (c : Dev nD) : (Pipeline.ΦA spec0 c : sProp 𝕄G) ⊢ (dats m 0 c).Φ 0 := by
  rw [show (dats m 0 c).Φ 0 = Inv m c 0 from by dsimp only [dats]; rfl]
  unfold Pipeline.ΦA Inv
  rw [scopedRest0_eq]
  simp only [owns_whole]
  iintro ⟨⟨⟨%f0, H0⟩, ⟨%f1, H1⟩, ⟨%f2, H2⟩, ⟨%f3, H3⟩⟩, Hr⟩
  isplitl [H0]
  · iexists f0; isplitl [H0]
    · iexact H0
    · ipureintro; intro t e n; exact absurd (by omega) n
  isplitl [H1]; · iexists f1; iexact H1
  isplitl [H2]; · iexists f2; iexact H2
  isplitl [H3]
  · iexists f3; isplitl [H3]
    · iexact H3
    · ipureintro; intro t e n; exact absurd (by omega) n
  iexact Hr

/-- and what it ends with. -/
theorem hout (c : Dev nD) : (dats m 0 c).Φ (Fin.last cfg0.N) ⊢ (Pipeline.ΦA spec0 c : sProp 𝕄G) := by
  rw [show (dats m 0 c).Φ (Fin.last cfg0.N) = Inv m c (Fin.last cfg0.N).val from by dsimp only [dats]]
  generalize (Fin.last cfg0.N).val = n
  unfold Pipeline.ΦA Inv
  rw [scopedRest0_eq]
  simp only [owns_whole]
  iintro ⟨⟨%f0, H0, -⟩, ⟨%f1, H1⟩, ⟨%f2, H2⟩, ⟨%f3, H3, -⟩, Hr⟩
  isplitl [H0 H1 H2 H3]
  · isplitl [H0]; · iexists f0; iexact H0
    isplitl [H1]; · iexists f1; iexact H1
    isplitl [H2]; · iexists f2; iexact H2
    iexists f3; iexact H3
  iexact Hr

set_option backward.isDefEq.respectTransparency.types false in
/-- From any memory with zero counters every execution of `main` terminates, every array ends at what the library
computes of the proof data, every other buffer as found, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m Variants.none c).loose) (hq := fun _ _ _ => rfl)
    (howed := fun _ _ => rfl) (V := V m) (hmain := hmain m Variants.none) (hA := A_eq m)
    (hin := hin m) (hout := hout m)

/-- The run read at the arguments, the result and the counters. -/
theorem run_args : θ_run defs (onTc (τ := τ) (main (F := F))) ⟨m, fun _ => 0, ρ⟩ (fun r => (∀ c : Dev nD,
      r.2.mem ((c.tc : Thread nD τ).loc main_v24) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r (h : _ ∧ _) => ⟨fun c =>
    ⟨(h.1 c).1 5,
     ((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c)⟩, h.2⟩) (run_main m ρ)

end Cert.Kernel3Ideal.Att
end
-- ==== Proof.Frames3.lean ====
module

public import proofs.«01_k».proof.Defs
public import proofs.«01_k».proof.Proof.Run3
public import proofs.«01_k».proof.Proof.Gen.Kernel3
public import proofs.«01_k».proof.Proof.Gen.Reference3Ideal.Run

/-! The frames: the kernel's at both float instances from its one run, and the reference's from its value run. -/

@[expose] public section

noncomputable section

namespace Cert.Frames3

open Idealize.ShloMosaic Idealize.ShloMosaic.TcCoe Idealize.SL.Sem

section SameText
set_option backward.isDefEq.respectTransparency.types false
set_option maxRecDepth 65536

/-! The two programs have one text: their kernels and their body tables are equal. -/

theorem kern_eq : @Cert.Kernel3Ideal.cc0_dense_attention Bits _ Cert.Kernel3Ideal.Gen.facts = @Cert.Kernel3.cc0_dense_attention Bits _ Cert.Kernel3.Gen.facts := by rfl

theorem bodies_eq : @Cert.Kernel3Ideal.defs₀ Bits _ Cert.Kernel3Ideal.Gen.facts = @Cert.Kernel3.defs₀ Bits _ Cert.Kernel3.Gen.facts := by
  unfold Cert.Kernel3Ideal.defs₀ Cert.Kernel3.defs₀
  rw [kern_eq]
  refine congrArg Defs.onTc (funext fun l => funext fun a => ?_)
  obtain ⟨l, hl⟩ := l
  match l, hl, a with
  | 0, _, a => rfl

theorem defs_eq : @Cert.Kernel3Ideal.defs Bits _ Cert.Kernel3Ideal.Gen.facts = @Cert.Kernel3.defs Bits _ Cert.Kernel3.Gen.facts := by
  unfold Cert.Kernel3Ideal.defs Cert.Kernel3.defs
  rw [bodies_eq]
  rfl

theorem kernel_bits : Cert.quiescent_Kernel3 := by
  intro m ρ _
  have h := (θ_run (Cert.Kernel3Ideal.defs (F := Bits)) _ _).mono
    (fun r (h : _ ∧ r.2.sem = fun _ => 0) => And.intro (fun c => (h.1 c).2) h.2) (Cert.Kernel3Ideal.Att.run_args (F := Bits) m ρ)
  rw [defs_eq] at h
  exact h
end SameText

theorem kernel_ideal : Cert.quiescent_Kernel3Ideal := by
  intro m ρ _
  have h := (θ_run (Cert.Kernel3Ideal.defs (F := Ideal)) _ _).mono
    (fun r (h : _ ∧ r.2.sem = fun _ => 0) => And.intro (fun c => (h.1 c).2) h.2) (Cert.Kernel3Ideal.Att.run_args (F := Ideal) m ρ)
  exact h

theorem reference_ideal : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

end Cert.Frames3
end
-- ==== Proof.Entries3.lean ====
module

public import proofs.«01_k».proof.Proof.Step3
public import proofs.«01_k».proof.Proof.Soft
public import Idealize.ShloMosaic.Lib.Pointwise

/-! The tile functions of `Step.lean` read at an element, over the extended reals. -/

@[expose] public section

set_option maxRecDepth 16384

noncomputable section

namespace Cert.Kernel3Ideal.Att

open Idealize.ShloMosaic Idealize.ShloMosaic.TcCoe Idealize.ShloMosaic.Tactic
open Cert.Kernel3Ideal.Gen

/-- A row of the keys and a column of the values, by number. -/
def kIx (k : ℕ) (d : Fin 64) : S1x1x16640x64.Idx := ix4 (0 : Fin 1) (0 : Fin 1) (⟨k % 16640, Nat.mod_lt _ (by decide)⟩ : Fin 16640) d
def vIx (r : Fin 80) (k : ℕ) : S1x1x80x16640.Idx := ix4 (0 : Fin 1) (0 : Fin 1) r (⟨k % 16640, Nat.mod_lt _ (by decide)⟩ : Fin 16640)

/-- The score of key `k` against query `j`. -/
def score (q : FVec Ideal S64x1024 .bf16) (K : Vec Ideal S1x1x16640x64 .bf16) (j : Fin 1024) (k : ℕ) : EReal :=
  ∑ d : Fin 64, K (kIx k d) * q (ix2 d j)

theorem sT_apply (q : FVec Ideal S64x1024 .bf16) (K : Vec Ideal S1x1x16640x64 .bf16) (o : ℕ) (i : Fin 256) (j : Fin 1024) :
    sT q K o (ix2 i j) = score q K j (o + i.val) := by
  unfold sT sc kvAt score kIx
  pointwise
  rfl

theorem cmx_apply (s : FVec Ideal S256x1024 .f32) (j : Fin 1024) :
    cmx s (ix2 (0 : Fin 1) j) = (Finset.univ : Finset (Fin 256)).fold max ⊥ (fun i => s (ix2 i j)) := by
  unfold cmx
  pointwise
  rfl

theorem dT_apply (V : Vec Ideal S1x1x80x16640 .bf16) (mn : FVec Ideal S1x1024 .f32) (o : ℕ) (s : FVec Ideal S256x1024 .f32)
    (r : Fin 80) (j : Fin 1024) :
    dT V mn o s (ix2 r j) = ∑ i : Fin 256, V (vIx r (o + i.val)) * Ideal.exp2 (s (ix2 i j) - mn (ix2 (0 : Fin 1) j)) := by
  unfold dT vvAt vIx
  pointwise
  rfl

theorem accS_apply (a : FVec Ideal S80x1024 .f32) (m mn : FVec Ideal S1x1024 .f32) (pv : FVec Ideal S80x1024 .f32)
    (r : Fin 80) (j : Fin 1024) :
    accS a m mn pv (ix2 r j) = a (ix2 r j) * Ideal.exp2 (m (ix2 (0 : Fin 1) j) - mn (ix2 (0 : Fin 1) j)) + pv (ix2 r j) := by
  unfold accS
  pointwise
  rfl

theorem qM_apply (x : Vec Ideal S1x1x64x1024 .bf16) (d : Fin 64) (j : Fin 1024) :
    qM x (ix2 d j) = x (ix4 (0 : Fin 1) (0 : Fin 1) d j) := by
  unfold qM
  pointwise

theorem m0Of_apply (I : Vec Ideal S1x2x128 .f32) (j : Fin 1024) :
    m0Of I (ix2 (0 : Fin 1) j) = I (ix3 (0 : Fin 1) (0 : Fin 2) (0 : Fin 128)) := by
  unfold m0Of Gen.k0_pay87
  pointwise
  rfl

theorem a0Of_apply (I : Vec Ideal S1x2x128 .f32) (h : I (ix3 (0 : Fin 1) (1 : Fin 2) (0 : Fin 128)) = 0) (r : Fin 80) (j : Fin 1024) :
    a0Of I (ix2 r j) = 0 := by
  unfold a0Of Gen.k0_pay88
  pointwise
  have h' : I (ValueIdx.ix3 (0 : Fin 1) (1 : Fin 2) (0 : Fin 128)) = 0 := h
  rw [h']
  unfold Scalar.select
  split <;> rfl

theorem outB_apply (I : Vec Ideal S1x2x128 .f32) (x : Vec Ideal S1x1x64x1024 .bf16) (K : Vec Ideal S1x1x16640x64 .bf16)
    (V : Vec Ideal S1x1x80x16640 .bf16) (r : Fin 64) (j : Fin 1024) :
    outB I x K V (ix4 (0 : Fin 1) (0 : Fin 1) r j)
      = Ideal.div (stA (qM x) K V (m0Of I) (a0Of I) 7 (ix2 (⟨r.val, by omega⟩ : Fin 80) j))
          (stA (qM x) K V (m0Of I) (a0Of I) 7 (ix2 (64 : Fin 80) j)) := by
  unfold outB Gen.k0_pay2
  generalize stA (qM x) K V (m0Of I) (a0Of I) 7 = a
  pointwise

end Cert.Kernel3Ideal.Att
end
-- ==== Proof.Online3.lean ====
module

public import proofs.«01_k».proof.Proof.Entries3

/-! The online softmax: after every tile of keys the accumulator is the sum over the keys so far, at the running
maximum, and after the last tile over all of them. -/

@[expose] public section

set_option maxRecDepth 16384

noncomputable section

namespace Cert.Kernel3Ideal.Att

open Idealize.ShloMosaic Idealize.ShloMosaic.TcCoe Idealize.ShloMosaic.Tactic
open Cert.Kernel3Ideal.Gen Cert.Soft

variable (q : FVec Ideal S64x1024 .bf16) (K : Vec Ideal S1x1x16640x64 .bf16) (V : Vec Ideal S1x1x80x16640 .bf16)
  (m0 : FVec Ideal S1x1024 .f32) (a0 : FVec Ideal S80x1024 .f32) (j : Fin 1024)

/-- What key `k` adds to row `r` at the shift `M`, its score being `s k`. -/
def term (s : ℕ → ℝ) (M : ℝ) (r : Fin 80) (k : ℕ) : EReal := V (vIx r k) * wt (s k) M

theorem sum_tiles (g : ℕ → EReal) (o : ℕ) :
    (∑ k ∈ Finset.range 2048, g (o + k)) = (∑ k ∈ Finset.range 256, g (o + 0 + k)) + (∑ k ∈ Finset.range 256, g (o + 256 + k))
      + (∑ k ∈ Finset.range 256, g (o + 512 + k)) + (∑ k ∈ Finset.range 256, g (o + 768 + k)) + (∑ k ∈ Finset.range 256, g (o + 1024 + k))
      + (∑ k ∈ Finset.range 256, g (o + 1280 + k)) + (∑ k ∈ Finset.range 256, g (o + 1536 + k)) + (∑ k ∈ Finset.range 256, g (o + 1792 + k)) := by
  rw [show 2048 = 1792 + 256 from rfl, Finset.sum_range_add, show 1792 = 1536 + 256 from rfl, Finset.sum_range_add,
    show 1536 = 1280 + 256 from rfl, Finset.sum_range_add, show 1280 = 1024 + 256 from rfl, Finset.sum_range_add,
    show 1024 = 768 + 256 from rfl, Finset.sum_range_add, show 768 = 512 + 256 from rfl, Finset.sum_range_add,
    show 512 = 256 + 256 from rfl, Finset.sum_range_add]
  simp only [Nat.add_assoc, Nat.zero_add]

section Column
variable {q K V m0 a0 j} {s : ℕ → ℝ} (hs : ∀ k, score q K j k = ((s k : ℝ) : EReal))
include hs

theorem cmx_real (o : ℕ) : ∃ r : ℝ, cmx (sT q K o) (ix2 (0 : Fin 1) j) = (r : EReal) := by
  rw [cmx_apply]
  exact fold_max_real _ ⟨0, Finset.mem_univ _⟩ _ fun i => ⟨s (o + i.val), by rw [sT_apply, hs]⟩

theorem cm8_real (o : ℕ) : ∃ r : ℝ, cm8 q K o (ix2 (0 : Fin 1) j) = (r : EReal) := by
  unfold cm8
  exact max_real (max_real (max_real (max_real (max_real (max_real (max_real (cmx_real hs _) (cmx_real hs _)) (cmx_real hs _))
    (cmx_real hs _)) (cmx_real hs _)) (cmx_real hs _)) (cmx_real hs _)) (cmx_real hs _)

theorem cm9_real : ∃ r : ℝ, cm9 q K (ix2 (0 : Fin 1) j) = (r : EReal) := by
  unfold cm9
  exact max_real (max_real (max_real (max_real (max_real (max_real (max_real (max_real (cmx_real hs _) (cmx_real hs _)) (cmx_real hs _))
    (cmx_real hs _)) (cmx_real hs _)) (cmx_real hs _)) (cmx_real hs _)) (cmx_real hs _)) (cmx_real hs _)

theorem stM_real (h0 : ∃ r : ℝ, m0 (ix2 (0 : Fin 1) j) = (r : EReal)) (n : ℕ) :
    ∃ r : ℝ, stM q K m0 n (ix2 (0 : Fin 1) j) = (r : EReal) := by
  induction n with
  | zero => exact max_real h0 (cm9_real hs)
  | succ n ih => exact max_real ih (cm8_real hs _)

theorem dT_term {mn : FVec Ideal S1x1024 .f32} {M : ℝ} (hM : mn (ix2 (0 : Fin 1) j) = (M : EReal)) (o : ℕ) (r : Fin 80) :
    dT V mn o (sT q K o) (ix2 r j) = ∑ k ∈ Finset.range 256, term V s M r (o + k) := by
  rw [dT_apply, Finset.sum_range]
  refine Finset.sum_congr rfl fun i _ => ?_
  rw [sT_apply, hs, hM]
  rfl

theorem pv8_term {mn : FVec Ideal S1x1024 .f32} {M : ℝ} (hM : mn (ix2 (0 : Fin 1) j) = (M : EReal)) (o : ℕ) (r : Fin 80) :
    pv8 q K V mn o (ix2 r j) = ∑ k ∈ Finset.range 2048, term V s M r (o + k) := by
  rw [sum_tiles]
  simp only [← dT_term (V := V) hs hM]
  rfl

theorem pv9_term {mn : FVec Ideal S1x1024 .f32} {M : ℝ} (hM : mn (ix2 (0 : Fin 1) j) = (M : EReal)) (r : Fin 80) :
    pv9 q K V mn (ix2 r j) = (∑ k ∈ Finset.range 256, term V s M r (16384 + k)) + ∑ k ∈ Finset.range 2048, term V s M r k := by
  have h := sum_tiles (term V s M r) 0
  simp only [← dT_term (V := V) hs hM] at h
  rw [show (∑ k ∈ Finset.range 2048, term V s M r k) = ∑ k ∈ Finset.range 2048, term V s M r (0 + k) from by simp only [Nat.zero_add],
    h, ← dT_term (V := V) hs hM]
  simp only [← add_assoc]
  rfl

/-- The accumulator after `n` tiles beyond the first nine subtiles. -/
theorem stA_term (h0 : ∃ r : ℝ, m0 (ix2 (0 : Fin 1) j) = (r : EReal)) (r : Fin 80) (ha : a0 (ix2 r j) = 0) (n : ℕ) (M : ℝ)
    (hM : stM q K m0 n (ix2 (0 : Fin 1) j) = (M : EReal)) :
    stA q K V m0 a0 n (ix2 r j)
      = (∑ k ∈ Finset.range 256, term V s M r (16384 + k)) + ∑ k ∈ Finset.range (2048 * (n + 1)), term V s M r k := by
  induction n generalizing M with
  | zero =>
    show accS a0 m0 (stM q K m0 0) (pv9 q K V (stM q K m0 0)) (ix2 r j) = _
    rw [accS_apply, ha, zero_mul, zero_add, pv9_term hs hM]
  | succ n ih =>
    obtain ⟨L, hL⟩ := stM_real hs h0 n
    rw [stA_succ, accS_apply, ih L hL, hL, hM, pv8_term hs hM, show 2048 * (n + 1 + 1) = 2048 * (n + 1) + 2048 from by ring,
      Finset.sum_range_add, ← add_assoc]
    congr 1
    exact carry_add _ _ 16384 (fun k => V (vIx r k)) s L M

/-- The accumulator after the last tile. -/
theorem stA_last (h0 : ∃ r : ℝ, m0 (ix2 (0 : Fin 1) j) = (r : EReal)) (M : ℝ)
    (hM : stM q K m0 7 (ix2 (0 : Fin 1) j) = (M : EReal)) (r : Fin 80) (ha : a0 (ix2 r j) = 0) :
    stA q K V m0 a0 7 (ix2 r j) = ∑ k : Fin 16640, V (vIx r k.val) * wt (s k.val) M := by
  have e := Finset.sum_range (n := 16384 + 256) (fun k => term V s M r k)
  rw [Finset.sum_range_add] at e
  rw [stA_term hs h0 r ha 7 M hM, add_comm]
  exact e

end Column

end Cert.Kernel3Ideal.Att
end
-- ==== Proof.Tile3.lean ====
module

public import proofs.«01_k».proof.Proof.Online3

/-! A tile of the output: at real queries and keys, the values weighted by the softmax of the scaled scores. -/

@[expose] public section

set_option maxRecDepth 16384

noncomputable section

namespace Cert.Kernel3Ideal.Att

open Idealize.ShloMosaic Idealize.ShloMosaic.TcCoe Idealize.ShloMosaic.Tactic
open Cert.Kernel3Ideal.Gen Cert.Soft

/-- The scaled scores of one query. -/
def scaled (qr : Fin 64 → ℝ) (kr : Fin 16640 → Fin 64 → ℝ) (κ : ℝ) (k : Fin 16640) : ℝ := (∑ d, qr d * kr k d) * κ

/-- Scaling the query to base two scales the score. -/
theorem score_base_two (qr kr : Fin 64 → ℝ) (κ : ℝ) :
    (∑ d : Fin 64, ((kr d : ℝ) : EReal) * Ideal.div (((qr d : ℝ) : EReal) * ((κ : ℝ) : EReal)) (Ideal.log ((2 : ℝ) : EReal)))
      = (((∑ d, qr d * kr d) * κ / Real.log 2 : ℝ) : EReal) := by
  have hl : Ideal.log ((2 : ℝ) : EReal) = ((Real.log 2 : ℝ) : EReal) := by
    rw [Ideal.log_coe, if_neg (by norm_num)]
  simp only [hl, div_coe_pos _ log_two_pos, ← EReal.coe_mul]
  rw [coe_sum, Finset.sum_mul, Finset.sum_div]
  congr 1
  refine Finset.sum_congr rfl fun d _ => ?_
  rw [div_eq_mul_inv]; ring

theorem outB_softmax (I : Vec Ideal S1x2x128 .f32) (x : Vec Ideal S1x1x64x1024 .bf16) (K : Vec Ideal S1x1x16640x64 .bf16)
    (V : Vec Ideal S1x1x80x16640 .bf16) (r : Fin 64) (j : Fin 1024) (qr : Fin 64 → ℝ) (kr : Fin 16640 → Fin 64 → ℝ) (κ : ℝ)
    (hq : ∀ d, x (ix4 (0 : Fin 1) (0 : Fin 1) d j) = Ideal.div (((qr d : ℝ) : EReal) * ((κ : ℝ) : EReal)) (Ideal.log ((2 : ℝ) : EReal)))
    (hk : ∀ k d, K (ix4 (0 : Fin 1) (0 : Fin 1) k d) = ((kr k d : ℝ) : EReal))
    (hone : ∀ k, V (ix4 (0 : Fin 1) (0 : Fin 1) (64 : Fin 80) k) = (1 : EReal))
    (h0 : ∃ r : ℝ, I (ix3 (0 : Fin 1) (0 : Fin 2) (0 : Fin 128)) = (r : EReal))
    (h1 : I (ix3 (0 : Fin 1) (1 : Fin 2) (0 : Fin 128)) = (0 : EReal)) (M : ℝ) :
    outB I x K V (ix4 (0 : Fin 1) (0 : Fin 1) r j)
      = ∑ k, Ideal.div (Ideal.exp ((scaled qr kr κ k : EReal) - (M : EReal))) (∑ i, Ideal.exp ((scaled qr kr κ i : EReal) - (M : EReal)))
          * V (ix4 (0 : Fin 1) (0 : Fin 1) (⟨r.val, by omega⟩ : Fin 80) k) := by
  have hs : ∀ k : ℕ, score (qM x) K j k = ((scaled qr kr κ ⟨k % 16640, Nat.mod_lt _ (by decide)⟩ / Real.log 2 : ℝ) : EReal) := fun k => by
    unfold score kIx scaled
    simp only [qM_apply, hq, hk]
    exact score_base_two qr _ κ
  have hm : ∃ r : ℝ, m0Of I (ix2 (0 : Fin 1) j) = (r : EReal) := by rw [m0Of_apply]; exact h0
  obtain ⟨B, hB⟩ := stM_real hs hm 7
  have hv : ∀ (q : Fin 80) (k : Fin 16640), vIx q k.val = ix4 (0 : Fin 1) (0 : Fin 1) q k := fun q k => by
    unfold vIx; congr 1; exact Fin.ext (Nat.mod_eq_of_lt k.isLt)
  have hmod : ∀ k : Fin 16640, (⟨k.val % 16640, Nat.mod_lt _ (by decide)⟩ : Fin 16640) = k := fun k => Fin.ext (Nat.mod_eq_of_lt k.isLt)
  rw [outB_apply, stA_last hs hm B hB _ (a0Of_apply I h1 _ j), stA_last hs hm B hB _ (a0Of_apply I h1 _ j)]
  simp only [hv, hmod, hone, one_mul]
  exact quotient (by decide) (scaled qr kr κ) _ B M

end Cert.Kernel3Ideal.Att
end
-- ==== Proof.Prep3.lean ====
module

public import proofs.«01_k».proof.Proof.Step3
public import Idealize.ShloMosaic.Lib.Pointwise
public import Idealize.ShloMosaic.Lib.Claim
public import Idealize.ShloMosaic.Lib.IdealHost

/-! What the operations before the launch leave in its arguments: the queries scaled to base two and transposed, the keys
and the values followed by the context's, a row of ones below the values, and the starting maximum and sum. -/

@[expose] public section
set_option maxRecDepth 16384
noncomputable section
namespace Cert.Kernel3Ideal.Att
open Idealize.ShloMosaic Idealize.ShloMosaic.TcCoe Idealize.ShloMosaic.Tactic
open Cert.Kernel3Ideal.Gen

variable (m : (ℓ : Loc nD τ sig) → Buf (Elt Ideal) ℓ) (c : Dev nD)

/-- The key of a row, of the image or of the context. -/
def keyAt (x1 : Vec Ideal S2x2x16384x64 .f32) (x2 : Vec Ideal S2x2x256x64 .f32) (b : Fin 2) (h : Fin 2) (k : Fin 16640) (d : Fin 64) : EReal :=
  if hk : k.val < 16384 then x1 (ix4 b h (⟨k.val, hk⟩ : Fin 16384) d) else x2 (ix4 b h (⟨k.val - 16384, by omega⟩ : Fin 256) d)

/-- The value of a row, of the image or of the context. -/
def valAt (x3 : Vec Ideal S2x2x16384x64 .f32) (x4 : Vec Ideal S2x2x256x64 .f32) (b : Fin 2) (h : Fin 2) (k : Fin 16640) (r : Fin 64) : EReal :=
  if hk : k.val < 16384 then x3 (ix4 b h (⟨k.val, hk⟩ : Fin 16384) r) else x4 (ix4 b h (⟨k.val - 16384, by omega⟩ : Fin 256) r)

theorem keys_in (b h : Fin 2) (k : Fin 16640) (d : Fin 64) :
    (V m c main_v10 (ix4 b (⟨2 + h.val, by omega⟩ : Fin 4) k d) : EReal) = keyAt (m (c, main_arg1)) (m (c, main_arg2)) b h k d := by
  dsimp only [V, hostOps0, hostOps0_1, hostOps0_2, hostOps0_3, hostOps0_4, List.flatten_cons, List.flatten_nil, List.append_nil, List.cons_append, List.nil_append]
  entry_read
  unfold keyAt
  pointwise
  rfl

theorem values_in (b h : Fin 2) (k : Fin 16640) (r : Fin 64) :
    (V m c main_v20 (ix4 b h (⟨r.val, by omega⟩ : Fin 80) k) : EReal) = valAt (m (c, main_arg3)) (m (c, main_arg4)) b h k r := by
  dsimp only [V, hostOps0, hostOps0_1, hostOps0_2, hostOps0_3, hostOps0_4, List.flatten_cons, List.flatten_nil, List.append_nil, List.cons_append, List.nil_append]
  entry_read
  unfold valAt
  pointwise
  rfl

/-- The row below the values is of ones: it sums the weights. -/
theorem ones_in (b h : Fin 2) (k : Fin 16640) : (V m c main_v20 (ix4 b h (64 : Fin 80) k) : EReal) = (1 : EReal) := by
  dsimp only [V, hostOps0, hostOps0_1, hostOps0_2, hostOps0_3, hostOps0_4, List.flatten_cons, List.flatten_nil, List.append_nil, List.cons_append, List.nil_append]
  entry_read
  pointwise
  exact Eq.trans (b := Ideal.ofBits .f32 0x3F800000#32) rfl Ideal.ofBits_one_f32

theorem queries_eq : (V m c main_v21 : _) =
    pad S2x8x64x16640 ![0, 0, 0, 0] ![0, 0, 0, 256] ![0, 0, 0, 0]
          (truncf FTy.bf16
            (Host.divf
              (mulf
                (transpose S2x8x64x16384 [0, 1, 3, 2] (m (c, Proc.tc.devRef main_arg0))
                  transposes_S2x8x16384x64_S2x8x64x16384_0_1_3_2)
                (broadcastInDim S2x8x64x16384 ![] bcast_S_S2x8x64x16384 (constant (F := Ideal) S_ FTy.f32 1040187392#32)))
              (broadcastInDim S2x8x64x16384 ![] bcast_S_S2x8x64x16384 (Host.log (constant (F := Ideal) S_ FTy.f32 1073741824#32))))
            bitsLt_bf16_f32)
            (sitofp FTy.bf16
                (constantI S_ 32 0#32))
        pads_S2x8x64x16384_S2x8x64x16640_000_000_000_02560 h_S_ := by
  dsimp only [V, hostOps0, hostOps0_1, hostOps0_2, hostOps0_3, hostOps0_4, List.flatten_cons, List.flatten_nil, List.append_nil, List.cons_append, List.nil_append]
  entry_read
  rfl

theorem queries_in (b : Fin 2) (h : Fin 8) (k : Fin 16640) (hk : k.val < 16384) (d : Fin 64) :
    (V m c main_v21 (ix4 b h d k) : EReal)
      = Ideal.div ((show Vec Ideal S2x8x16384x64 .f32 from m (c, main_arg0)) (ix4 b h (⟨k.val, hk⟩ : Fin 16384) d) * Ideal.ofBits .f32 0x3E000000#32)
          (Ideal.log (Ideal.ofBits .f32 0x40000000#32)) := by
  rw [queries_eq]
  pointwise
  exact (dif_pos hk).trans rfl

theorem start_max (h : Fin 8) (l : Fin 128) : (V m c main_v23 (ix3 h (0 : Fin 2) l) : EReal) = Ideal.ofBits .f32 0xF149F2CA#32 := by
  dsimp only [V, hostOps0, hostOps0_1, hostOps0_2, hostOps0_3, hostOps0_4, List.flatten_cons, List.flatten_nil, List.append_nil, List.cons_append, List.nil_append]
  entry_read
  pointwise
  rfl

theorem start_sum (h : Fin 8) (l : Fin 128) : (V m c main_v23 (ix3 h (1 : Fin 2) l) : EReal) = (0 : EReal) := by
  dsimp only [V, hostOps0, hostOps0_1, hostOps0_2, hostOps0_3, hostOps0_4, List.flatten_cons, List.flatten_nil, List.append_nil, List.cons_append, List.nil_append]
  entry_read
  pointwise
  exact Eq.trans (b := Ideal.ofBits .f32 0x00000000#32) rfl Ideal.ofBits_zero_f32

theorem ofBits_start : ∃ r : ℝ, Ideal.ofBits .f32 0xF149F2CA#32 = (r : EReal) := by
  simp [Ideal.ofBits, Ideal.ieee, -EReal.coe_mul, -EReal.coe_neg]

theorem ofBits_scale : ∃ r : ℝ, Ideal.ofBits .f32 0x3E000000#32 = (r : EReal) := by
  simp [Ideal.ofBits, Ideal.ieee, -EReal.coe_mul, -EReal.coe_neg]

theorem ofBits_two : Ideal.ofBits .f32 0x40000000#32 = ((2 : ℝ) : EReal) := by
  simp [Ideal.ofBits, Ideal.ieee, -EReal.coe_mul]; norm_num

end Cert.Kernel3Ideal.Att
end
-- ==== Proof.Ref3.lean ====
module

public import proofs.«01_k».proof.Proof.Gen.Reference3Ideal.Read
public import proofs.«01_k».proof.Proof.Prep3
public import proofs.«01_k».proof.Proof.Soft

/-! The dense GQA reference read at an element: the values weighted by the softmax of the scaled scores, query head
`4 h + g` against key head `h`. -/

@[expose] public section
set_option maxRecDepth 16384
noncomputable section
namespace Cert.RefAt3
open Idealize.ShloMosaic Idealize.ShloMosaic.TcCoe Idealize.ShloMosaic.Tactic
open Cert.Reference3Ideal Cert.Reference3Ideal.Gen Cert.Reference3Ideal.Value Cert.Reference3Ideal.Read
open Cert.Kernel3Ideal.Att (keyAt valAt)

variable (x0 : Vec Ideal S2x8x16384x64 .f32) (x1 : Vec Ideal S2x2x16384x64 .f32) (x2 : Vec Ideal S2x2x256x64 .f32)
  (x3 : Vec Ideal S2x2x16384x64 .f32) (x4 : Vec Ideal S2x2x256x64 .f32)

/-- The query head of a key head and a place in its group. -/
def qHead (h : Fin 2) (g : Fin 4) : Fin 8 := ⟨4 * h.val + g.val, by omega⟩

theorem keys_read (b h : Fin 2) (k : Fin 16640) (d : Fin 64) :
    (val_main_v0 (F := Ideal) x1 x2 (ix4 b h k d) : EReal) = keyAt x1 x2 b h k d := by
  unfold val_main_v0 keyAt
  pointwise

theorem values_read (b h : Fin 2) (k : Fin 16640) (r : Fin 64) :
    (val_main_v1 (F := Ideal) x3 x4 (ix4 b h k r) : EReal) = valAt x3 x4 b h k r := by
  unfold val_main_v1 valAt
  pointwise

theorem query_ix (b h : Fin 2) (g : Fin 4) (t : Fin 16384) (d : Fin 64) :
    idx_main_v2 (ix5 b h g t d) = (ix4 b (qHead h g) t d : S2x8x16384x64.Idx) := by
  funext a; apply Fin.ext
  have := b.isLt; have := h.isLt; have := g.isLt; have := t.isLt; have := d.isLt
  match a with
  | ⟨0, _⟩ => show ((((b.val * 2 + h.val) * 4 + g.val) * 16384 + t.val) * 64 + d.val) / 8388608 = b.val; omega
  | ⟨1, _⟩ => show ((((b.val * 2 + h.val) * 4 + g.val) * 16384 + t.val) * 64 + d.val) / 1048576 % 8 = 4 * h.val + g.val; omega
  | ⟨2, _⟩ => show ((((b.val * 2 + h.val) * 4 + g.val) * 16384 + t.val) * 64 + d.val) / 64 % 16384 = t.val; omega
  | ⟨3, _⟩ => show ((((b.val * 2 + h.val) * 4 + g.val) * 16384 + t.val) * 64 + d.val) % 64 = d.val; omega

theorem out_ix (b h : Fin 2) (g : Fin 4) (r : Fin 64) (t : Fin 16384) :
    idx_main_v18 (idx_main_v19 (ix4 b (qHead h g) r t)) = (ix5 b h g t r : S2x2x4x16384x64.Idx) := by
  funext a; apply Fin.ext
  have := b.isLt; have := h.isLt; have := g.isLt; have := t.isLt; have := r.isLt
  match a with
  | ⟨0, _⟩ => show (((b.val * 8 + (4 * h.val + g.val)) * 16384 + t.val) * 64 + r.val) / 8388608 = b.val; omega
  | ⟨1, _⟩ => show (((b.val * 8 + (4 * h.val + g.val)) * 16384 + t.val) * 64 + r.val) / 4194304 % 2 = h.val; omega
  | ⟨2, _⟩ => show (((b.val * 8 + (4 * h.val + g.val)) * 16384 + t.val) * 64 + r.val) / 1048576 % 4 = g.val; omega
  | ⟨3, _⟩ => show (((b.val * 8 + (4 * h.val + g.val)) * 16384 + t.val) * 64 + r.val) / 64 % 16384 = t.val; omega
  | ⟨4, _⟩ => show (((b.val * 8 + (4 * h.val + g.val)) * 16384 + t.val) * 64 + r.val) % 64 = r.val; omega

theorem scores_read (b h : Fin 2) (g : Fin 4) (t : Fin 16384) (k : Fin 16640) :
    (val_main_v5 (F := Ideal) x0 x1 x2 (ix5 b h g t k) : EReal)
      = (∑ d : Fin 64, x0 (ix4 b (qHead h g) t d) * keyAt x1 x2 b h k d) * Ideal.ofBits .f32 0x3E000000#32 := by
  rw [val_main_v5_apply, val_main_v3_apply, val_main_v4_apply, val_main_cst_apply]
  show (_ : EReal) * _ = _
  congr 1
  refine Finset.sum_congr rfl fun d _ => ?_
  have el : lidx_main_v3 (ix5 b h g t k) d = ix5 b h g t d := by funext a; fin_cases a <;> rfl
  have er : ridx_main_v3 (ix5 b h g t k) d = ix4 b h k d := by funext a; fin_cases a <;> rfl
  rw [← keys_read, el, er, val_main_v2_apply, query_ix]

theorem ofBits_bot : Ideal.ofBits .f32 0xFF800000#32 = (⊥ : EReal) := by
  simp [Ideal.ofBits, Ideal.ieee]

theorem max_read (b h : Fin 2) (g : Fin 4) (t : Fin 16384)
    (hs : ∀ k : Fin 16640, ∃ r : ℝ, (val_main_v5 (F := Ideal) x0 x1 x2 (ix5 b h g t k) : EReal) = (r : EReal)) :
    ∃ r : ℝ, (val_main_v8 (F := Ideal) x0 x1 x2 (ix4 b h g t) : EReal) = (r : EReal) := by
  rw [val_main_v8_apply, val_main_v7_apply, val_main_cst_1_apply]
  unfold val_main_v6
  generalize val_main_v5 (F := Ideal) x0 x1 x2 = y at hs ⊢
  pointwise
  rw [show (val_main_cst_0 (F := Ideal) (Shape.Idx.first h_S_) : EReal) = ⊥ from ofBits_bot, ofBits_bot, max_bot_left]
  exact Soft.fold_max_real _ ⟨0, Finset.mem_univ _⟩ _ hs

theorem exp_read (b h : Fin 2) (g : Fin 4) (t : Fin 16384) (k : Fin 16640) :
    (val_main_v12 (F := Ideal) x0 x1 x2 (ix5 b h g t k) : EReal)
      = Ideal.exp ((val_main_v5 (F := Ideal) x0 x1 x2 (ix5 b h g t k) : EReal) - (val_main_v8 (F := Ideal) x0 x1 x2 (ix4 b h g t) : EReal)) := by
  rw [val_main_v12_apply, val_main_v11_apply, val_main_v10_apply, val_main_v9_apply]
  show Ideal.exp ((_ : EReal) - _) = _
  congr 3
  funext a; fin_cases a <;> rfl

theorem sum_read (b h : Fin 2) (g : Fin 4) (t : Fin 16384) (k : Fin 16640) :
    (val_main_v15 (F := Ideal) x0 x1 x2 (ix5 b h g t k) : EReal)
      = ∑ i : Fin 16640, (val_main_v12 (F := Ideal) x0 x1 x2 (ix5 b h g t i) : EReal) := by
  rw [val_main_v15_apply, val_main_v14_apply, val_main_v13_apply, val_main_cst_2_apply]
  show Ideal.ofBits .f32 0x00000000#32 + _ = (_ : EReal)
  rw [Ideal.ofBits_zero_f32, zero_add]
  refine Finset.sum_congr rfl fun i _ => ?_
  congr 1; funext a; fin_cases a <;> rfl

/-- The reference's result, its scores being `S` and their maximum `M`. -/
theorem out_read (b h : Fin 2) (g : Fin 4) (r : Fin 64) (t : Fin 16384) (S : Fin 16640 → ℝ)
    (hs : ∀ k : Fin 16640, (∑ d : Fin 64, x0 (ix4 b (qHead h g) t d) * keyAt x1 x2 b h k d) * Ideal.ofBits .f32 0x3E000000#32 = ((S k : ℝ) : EReal)) :
    ∃ M : ℝ, (val_main_v19 (F := Ideal) x0 x1 x2 x3 x4 (ix4 b (qHead h g) r t) : EReal)
      = ∑ k, Ideal.div (Ideal.exp ((S k : EReal) - (M : EReal))) (∑ i, Ideal.exp ((S i : EReal) - (M : EReal))) * valAt x3 x4 b h k r := by
  have hs' : ∀ k : Fin 16640, (val_main_v5 (F := Ideal) x0 x1 x2 (ix5 b h g t k) : EReal) = ((S k : ℝ) : EReal) := fun k =>
    (scores_read x0 x1 x2 b h g t k).trans (hs k)
  obtain ⟨M, hM⟩ := max_read x0 x1 x2 b h g t fun k => ⟨S k, hs' k⟩
  have he : ∀ k : Fin 16640, (val_main_v12 (F := Ideal) x0 x1 x2 (ix5 b h g t k) : EReal) = Ideal.exp ((S k : EReal) - (M : EReal)) := fun k => by
    rw [exp_read, hM, hs']
  refine ⟨M, ?_⟩
  rw [val_main_v19_apply, val_main_v18_apply, out_ix, val_main_v17_apply]
  refine Finset.sum_congr rfl fun k _ => ?_
  rw [← values_read, ← he k, show (∑ i, Ideal.exp ((S i : EReal) - (M : EReal))) = val_main_v15 (F := Ideal) x0 x1 x2 (ix5 b h g t k) from by
    rw [sum_read]; exact Finset.sum_congr rfl fun i _ => (he i).symm]
  have el : lidx_main_v17 (ix5 b h g t r) k = ix5 b h g t k := by funext a; fin_cases a <;> rfl
  have er : ridx_main_v17 (ix5 b h g t r) k = ix4 b h k r := by funext a; fin_cases a <;> rfl
  rw [el, er, val_main_v16_apply]
  rfl

end Cert.RefAt3
end
-- ==== Proof.Result3.lean ====
module

public import proofs.«01_k».proof.Proof.Run3
public import proofs.«01_k».proof.Proof.Tile3
public import proofs.«01_k».proof.Proof.Ref3

/-! The kernel's result is the reference's value, wherever the queries and the keys are real. -/

@[expose] public section

set_option maxRecDepth 16384

noncomputable section

namespace Cert.Kernel3Ideal.Att

open Idealize.ShloMosaic Idealize.ShloMosaic.TcCoe Idealize.ShloMosaic.Tactic
open Idealize.ShloMosaic.Pipeline (Dat BodyObligation BodyObligationLoose)
open Cert.Kernel3Ideal.Gen

variable (m : (ℓ : Loc nD τ sig) → Buf (Elt Ideal) ℓ) (c : Dev nD)

abbrev arg0 : Vec Ideal S2x8x16384x64 .f32 := m (c, main_arg0)
abbrev arg1 : Vec Ideal S2x2x16384x64 .f32 := m (c, main_arg1)
abbrev arg2 : Vec Ideal S2x2x256x64 .f32 := m (c, main_arg2)
abbrev arg3 : Vec Ideal S2x2x16384x64 .f32 := m (c, main_arg3)
abbrev arg4 : Vec Ideal S2x2x256x64 .f32 := m (c, main_arg4)

/-- The batch, the head and the query of a grid point's column. -/
def bF (t : Fin cfg0.N) : Fin 2 := ⟨bOf t, (grid0.coords t 0).isLt⟩
def hF (t : Fin cfg0.N) : Fin 8 := ⟨hOf t, (grid0.coords t 1).isLt⟩
/-- The key head of a grid point and the place of its query head in the group. -/
def kF (t : Fin cfg0.N) : Fin 2 := ⟨hOf t / 4, by have : hOf t < 8 := (grid0.coords t 1).isLt; omega⟩
def gF (t : Fin cfg0.N) : Fin 4 := ⟨hOf t % 4, by omega⟩
theorem head_eq (t : Fin cfg0.N) : Cert.RefAt3.qHead (kF t) (gF t) = hF t := by
  unfold Cert.RefAt3.qHead kF gF hF
  exact Fin.ext (by show 4 * (hOf t / 4) + hOf t % 4 = hOf t; omega)
def tF (t : Fin cfg0.N) (j : Fin 1024) : Fin 16384 :=
  ⟨jOf t * 1024 + j.val, by have : jOf t < 16 := (grid0.coords t 2).isLt; omega⟩
def tF' (t : Fin cfg0.N) (j : Fin 1024) : Fin 16640 := ⟨(tF t j).val, by have := (tF t j).isLt; omega⟩

theorem emb_out (t : Fin cfg0.N) (r : Fin 64) (j : Fin 1024) :
    (win0_5.blk t).view.emb (ix4 (0 : Fin 1) (0 : Fin 1) r j) = (ix4 (bF t) (hF t) r (tF t j) : S2x8x64x16384.Idx) := by
  have e := idx5 t
  funext a; apply Fin.ext
  unfold bF hF tF
  fin_cases a <;> (blk_simp [e]; try simp)

theorem tile_eq (hq : ∀ i, ∃ r : ℝ, arg0 m c i = (r : EReal)) (hk : ∀ i, ∃ r : ℝ, arg1 m c i = (r : EReal))
    (hk' : ∀ i, ∃ r : ℝ, arg2 m c i = (r : EReal)) (t : Fin cfg0.N) (r : Fin 64) (j : Fin 1024) :
    oB m c t (ix4 (0 : Fin 1) (0 : Fin 1) r j)
      = Reference3Ideal.Read.val_main_v19 (F := Ideal) (arg0 m c) (arg1 m c) (arg2 m c) (arg3 m c) (arg4 m c) (ix4 (bF t) (hF t) r (tF t j)) := by
  obtain ⟨κ, hκ⟩ := ofBits_scale
  choose q hq using hq
  have hkey : ∀ (k : Fin 16640) (d : Fin 64), ∃ r : ℝ, keyAt (arg1 m c) (arg2 m c) (bF t) (kF t) k d = (r : EReal) := fun k d => by
    unfold keyAt; split
    · exact hk _
    · exact hk' _
  choose kr hkr using hkey
  obtain ⟨M, hM⟩ := Cert.RefAt3.out_read (arg0 m c) (arg1 m c) (arg2 m c) (arg3 m c) (arg4 m c) (bF t) (kF t) (gF t) r (tF t j)
    (scaled (fun d => q (ix4 (bF t) (hF t) (tF t j) d)) kr κ) fun k => by
      unfold scaled
      rw [head_eq]
      simp only [hκ, hq, hkr, ← EReal.coe_mul]
      rw [Soft.coe_sum, ← EReal.coe_mul]
  rw [head_eq] at hM
  rw [hM]
  refine (outB_softmax _ _ _ _ r j (fun d => q (ix4 (bF t) (hF t) (tF t j) d)) kr κ ?_ ?_ ?_ ?_ ?_ M).trans ?_
  · intro d
    rw [blk1 m c t _ (ix4 (bF t) (hF t) d (tF' t j)) rfl rfl rfl rfl, queries_in m c _ _ _ (tF t j).isLt d, hκ, ofBits_two]
    exact congrArg (fun x : EReal => Ideal.div (x * _) _) (hq _)
  · intro k d
    rw [blk3 m c t _ (ix4 (bF t) (⟨2 + (kF t).val, by have := (kF t).isLt; omega⟩ : Fin 4) k d) rfl rfl rfl rfl, keys_in]
    exact hkr k d
  · intro k
    rw [blk4 m c t _ (ix4 (bF t) (kF t) (64 : Fin 80) k) rfl rfl rfl rfl, ones_in]
  · rw [blk0 m c t _ (ix3 (hF t) (0 : Fin 2) (0 : Fin 128)) rfl rfl rfl, start_max]
    exact ofBits_start
  · rw [blk0 m c t _ (ix3 (hF t) (1 : Fin 2) (0 : Fin 128)) rfl rfl rfl, start_sum]
  · refine Finset.sum_congr rfl fun k _ => ?_
    rw [blk4 m c t _ (ix4 (bF t) (kF t) (⟨r.val, by omega⟩ : Fin 80) k) rfl rfl rfl rfl, values_in]

theorem result_eq (hq : ∀ i, ∃ r : ℝ, arg0 m c i = (r : EReal)) (hk : ∀ i, ∃ r : ℝ, arg1 m c i = (r : EReal))
    (hk' : ∀ i, ∃ r : ℝ, arg2 m c i = (r : EReal)) :
    (dats m 0 c).arrAt 5 cfg0.N
      = Reference3Ideal.Read.val_main_v19 (F := Ideal) (arg0 m c) (arg1 m c) (arg2 m c) (arg3 m c) (arg4 m c) := by
  refine (dats m 0 c).arrAt_eq_of_covers 5 (Reference3Ideal.Read.val_main_v19 (F := Ideal) (arg0 m c) (arg1 m c) (arg2 m c) (arg3 m c) (arg4 m c))
    (by decide +kernel) fun t hf y => ?_
  rw [after_5]
  blk_simp
  have hy : (y : S1x1x64x1024.Idx) = ix4 (0 : Fin 1) (0 : Fin 1) (⟨(y 2).val, (y 2).isLt⟩ : Fin 64) (⟨(y 3).val, (y 3).isLt⟩ : Fin 1024) := by
    funext a; fin_cases a
    · exact Fin.ext (Nat.lt_one_iff.1 (y 0).isLt)
    · exact Fin.ext (Nat.lt_one_iff.1 (y 1).isLt)
    · rfl
    · rfl
  rw [show (y : S1x1x64x1024.Idx) = _ from hy, emb_out]
  exact tile_eq m c hq hk hk' t _ _

end Cert.Kernel3Ideal.Att
end
-- ==== Proof.Finite3.lean ====
module

public import proofs.«01_k».proof.Defs
public import proofs.«01_k».proof.Proof.Result3
public import proofs.«01_k».proof.Proof.Frames3
public import proofs.«01_k».proof.Proof.Finite
public import Idealize.ShloMosaic.Lib.ReduceAll

/-! The precondition: it says of every query and key that it is a real number. -/

@[expose] public section

set_option maxRecDepth 16384

noncomputable section

namespace Cert.Finite3

open Idealize.ShloMosaic Idealize.ShloMosaic.TcCoe Idealize.SL.Sem

theorem facts : Cert.Pre_finite3.Facts where
  bcast_S_S2x8x16384x64 := by decide
  reducesTo_S2x8x16384x64_S_d0_1_2_3 := by decide
  h_S_ := by decide
  bcast_S_S2x2x16384x64 := by decide
  reducesTo_S2x2x16384x64_S_d0_1_2_3 := by decide
  bcast_S_S2x2x256x64 := by decide
  reducesTo_S2x2x256x64_S_d0_1_2_3 := by decide

instance : Subsingleton Cert.Pre_finite3.S_.Idx := ⟨fun a b => funext fun i => i.elim0⟩

attribute [local instance] facts in
theorem reals (x0 : FVec Ideal Cert.Pre_finite3.S2x8x16384x64 .f32) (x1 : FVec Ideal Cert.Pre_finite3.S2x2x16384x64 .f32)
    (x2 : FVec Ideal Cert.Pre_finite3.S2x2x256x64 .f32) (x3 : FVec Ideal Cert.Pre_finite3.S2x2x16384x64 .f32)
    (x4 : FVec Ideal Cert.Pre_finite3.S2x2x256x64 .f32)
    (h : Cert.Pre_finite3.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h (fun a => a.elim0)
  obtain ⟨e01, e2⟩ := IntOp.andi_eq_one.1 e
  obtain ⟨e0, e1⟩ := IntOp.andi_eq_one.1 e01
  exact ⟨fun i => Cert.Finite.real_of_abs_lt _ (Host.reduce_andi_all _ _ _ _ _ e0 i), fun i => Cert.Finite.real_of_abs_lt _ (Host.reduce_andi_all _ _ _ _ _ e1 i),
    fun i => Cert.Finite.real_of_abs_lt _ (Host.reduce_andi_all _ _ _ _ _ e2 i)⟩

attribute [local instance] Cert.Kernel3.Gen.facts Cert.Kernel3Ideal.Gen.facts Cert.Reference3Ideal.Gen.facts facts in
theorem algebraic : Cert.algebraic_Kernel3Ideal_Reference3Ideal_pre_finite3 := fun m g m' g' hp hm => by
  have hr := fun c => reals _ _ _ _ _ (hp c)
  refine ⟨fun c => (Cert.Kernel3Ideal.Att.dats m 0 c).arrAt 5 Cert.Kernel3Ideal.cfg0.N, ?_, ?_⟩
  · exact (θ_run Cert.Kernel3Ideal.defs _ _).mono (fun r h => h.1) (Cert.Kernel3Ideal.Att.run_args m g)
  · refine (θ_run Cert.Reference3Ideal.defs _ _).mono (fun r h c => ⟨(h c).1.trans ?_, (h c).2⟩) (Cert.Reference3Ideal.Value.run (F := Ideal) m' g')
    obtain ⟨h0, h1, h2, h3, h4⟩ := hm c
    rw [h0, h1, h2, h3, h4]
    exact (Cert.Reference3Ideal.Read.val_main_v19_eq _ _ _ _ _).trans
      (Cert.Kernel3Ideal.Att.result_eq m c (hr c).1 (hr c).2.1 (hr c).2.2).symm

end Cert.Finite3
end
-- ==== Proof.Win4.lean ====
module

public import proofs.«01_k».proof.Proof.Gen.Kernel4Ideal.Value
public import Idealize.ShloMosaic.Lib.Pipeline.ValueKit
public import Idealize.ShloMosaic.Lib.Pointwise

/-! The windowed attention, one tile: the band of 512 keys is the end of the previous tile, the tile itself and the start of
the next one; its scores and the context's are taken to powers of two at their maximum with the sink, and the weighted values
are divided by the weights and the sink's. -/

@[expose] public section

set_option maxRecDepth 16384

noncomputable section

namespace Cert.Kernel4Ideal.Win

open Idealize.ShloMosaic Idealize.ShloMosaic.TcCoe Idealize.ShloMosaic.Tactic
open Idealize.SL Idealize.SL.Sem
open Cert.Kernel4Ideal.Gen

/-- A part of a block, read. -/
theorem ld_apply {S : Shape} {e : EltTy} (x : Vec Ideal S e) (o size : Fin S.rank → ℕ) (h : ∀ a, o a + size a ≤ S.size a)
    (y : (Rect.unit (s := S) o size h).shape.Idx) (z : S.Idx) (hz : ∀ a, (z a).val = o a + (y a).val) :
    View.ld x (Rect.unit (s := S) o size h) y = x z := by
  show x _ = x _
  congr 1
  funext a; apply Fin.ext
  show o a + 1 * (y a).val = (z a).val
  rw [hz a, Nat.one_mul]

/-! The four heads of a group, side by side. -/

/-- Lane `256 g + r` is query `r` of head `g`. -/
def lane (g : Fin 4) (r : Fin 256) : Fin 1024 := ⟨256 * g.val + r.val, by omega⟩

theorem cat4 (f : Fin 4 → FVec Ideal S64x256 .bf16) (d : Fin 64) (g : Fin 4) (r : Fin 256) :
    concatenate S64x1024 1 [⟨S64x256, f 0⟩, ⟨S64x256, f 1⟩, ⟨S64x256, f 2⟩, ⟨S64x256, f 3⟩]
      concatenates_S64x256_S64x256_S64x256_S64x256_S64x1024_d1 (ix2 d (lane g r)) = f g (ix2 d r) := by
  refine concatenate_ofFn_apply (t := S64x1024) (s₁ := S64x256) 1 f _ rfl 256 rfl (ix2 d (lane g r)) g ?_ (ix2 d r) ?_ ?_
  · show (256 * g.val + r.val) / 256 = g.val; omega
  · show r.val = (256 * g.val + r.val) % 256; omega
  · intro b hb
    match b, hb with
    | ⟨0, _⟩, _ => rfl
    | ⟨1, _⟩, hb => exact absurd rfl hb

theorem cat4' (f : Fin 4 → FVec Ideal S1x256 .f32) (g : Fin 4) (r : Fin 256) :
    concatenate S1x1024 1 [⟨S1x256, f 0⟩, ⟨S1x256, f 1⟩, ⟨S1x256, f 2⟩, ⟨S1x256, f 3⟩]
      concatenates_S1x256_S1x256_S1x256_S1x256_S1x1024_d1 (ix2 (0 : Fin 1) (lane g r)) = f g (ix2 (0 : Fin 1) r) := by
  refine concatenate_ofFn_apply (t := S1x1024) (s₁ := S1x256) 1 f _ rfl 256 rfl (ix2 (0 : Fin 1) (lane g r)) g ?_ (ix2 (0 : Fin 1) r) ?_ ?_
  · show (256 * g.val + r.val) / 256 = g.val; omega
  · show r.val = (256 * g.val + r.val) % 256; omega
  · intro b hb
    match b, hb with
    | ⟨0, _⟩, _ => rfl
    | ⟨1, _⟩, hb => exact absurd rfl hb

theorem q_ld (x : Vec Ideal S1x4x64x256 .bf16) (o : Fin 4 → ℕ) (h : ∀ a, o a + S1x1x64x256.size a ≤ S1x4x64x256.size a) (g : Fin 4)
    (ho : o = ![0, g.val, 0, 0]) (d : Fin 64) (r : Fin 256) :
    shapeCast S64x256 (View.ld x (Rect.unit (s := S1x4x64x256) o S1x1x64x256.size h)) shapeCasts_S1x1x64x256_S64x256 (ix2 d r)
      = x (ix4 (0 : Fin 1) g d r) := by
  subst ho
  refine (shapeCast_apply _ _ (ix2 d r) (ix4 (0 : Fin 1) (0 : Fin 1) d r : S1x1x64x256.Idx) ?_).trans ?_
  · rw [Shape.rowMajor_val_two, Shape.rowMajor_val_four]
    show ((0 * 1 + 0) * 64 + d.val) * 256 + r.val = d.val * 256 + r.val
    omega
  · refine ld_apply (S := S1x4x64x256) x _ _ _ _ _ fun a => ?_
    match a with
    | ⟨0, _⟩ => rfl
    | ⟨1, _⟩ => rfl
    | ⟨2, _⟩ => exact (Nat.zero_add _).symm
    | ⟨3, _⟩ => exact (Nat.zero_add _).symm

theorem queries (x : Vec Ideal S1x4x64x256 .bf16) (d : Fin 64) (g : Fin 4) (r : Fin 256) :
    k0_pay4 (View.ld x r0_0) (View.ld x r0_1) (View.ld x r0_2) (View.ld x r0_3) (ix2 d (lane g r)) = x (ix4 (0 : Fin 1) g d r) := by
  refine (cat4 ![shapeCast S64x256 (View.ld x r0_0) shapeCasts_S1x1x64x256_S64x256, shapeCast S64x256 (View.ld x r0_1) shapeCasts_S1x1x64x256_S64x256,
    shapeCast S64x256 (View.ld x r0_2) shapeCasts_S1x1x64x256_S64x256, shapeCast S64x256 (View.ld x r0_3) shapeCasts_S1x1x64x256_S64x256] d g r).trans ?_
  match g with
  | ⟨0, _⟩ => exact q_ld x _ _ 0 rfl d r
  | ⟨1, _⟩ => exact q_ld x _ _ 1 rfl d r
  | ⟨2, _⟩ => exact q_ld x _ _ 2 rfl d r
  | ⟨3, _⟩ => exact q_ld x _ _ 3 rfl d r

theorem s_ld (x : Vec Ideal S4x1x128 .f32) (o : Fin 3 → ℕ) (h : ∀ a, o a + S1x1x1.size a ≤ S4x1x128.size a) (g : Fin 4)
    (ho : o = ![g.val, 0, 0]) (r : Fin 256) :
    broadcastTo S1x256 (shapeCast S1x1 (shapeCast S1x1 (View.ld x (Rect.unit (s := S4x1x128) o S1x1x1.size h)) shapeCasts_S1x1x1_S1x1) shapeCasts_S1x1_S1x1)
        broadcasts_S1x1_S1x256 (ix2 (0 : Fin 1) r) = x (ix3 g (0 : Fin 1) (0 : Fin 128)) := by
  subst ho
  have e : View.ld x (Rect.unit (s := S4x1x128) ![g.val, 0, 0] S1x1x1.size h) (ix3 (0 : Fin 1) (0 : Fin 1) (0 : Fin 1)) = x (ix3 g (0 : Fin 1) (0 : Fin 128)) := by
    refine ld_apply (S := S4x1x128) x _ _ _ _ _ fun a => ?_
    match a with
    | ⟨0, _⟩ => rfl
    | ⟨1, _⟩ => rfl
    | ⟨2, _⟩ => rfl
  generalize View.ld x (Rect.unit (s := S4x1x128) ![g.val, 0, 0] S1x1x1.size h) = y at e ⊢
  rw [← e]
  have e : (y : FVec Ideal S1x1x1 .f32) = y := rfl
  pointwise

theorem sinks (x : Vec Ideal S4x1x128 .f32) (g : Fin 4) (r : Fin 256) :
    k0_pay5 (View.ld x r0_4) (View.ld x r0_5) (View.ld x r0_6) (View.ld x r0_7) (ix2 (0 : Fin 1) (lane g r)) = x (ix3 g (0 : Fin 1) (0 : Fin 128)) := by
  refine (cat4' ![broadcastTo S1x256 (shapeCast S1x1 (shapeCast S1x1 (View.ld x r0_4) shapeCasts_S1x1x1_S1x1) shapeCasts_S1x1_S1x1) broadcasts_S1x1_S1x256,
    broadcastTo S1x256 (shapeCast S1x1 (shapeCast S1x1 (View.ld x r0_5) shapeCasts_S1x1x1_S1x1) shapeCasts_S1x1_S1x1) broadcasts_S1x1_S1x256,
    broadcastTo S1x256 (shapeCast S1x1 (shapeCast S1x1 (View.ld x r0_6) shapeCasts_S1x1x1_S1x1) shapeCasts_S1x1_S1x1) broadcasts_S1x1_S1x256,
    broadcastTo S1x256 (shapeCast S1x1 (shapeCast S1x1 (View.ld x r0_7) shapeCasts_S1x1x1_S1x1) shapeCasts_S1x1_S1x1) broadcasts_S1x1_S1x256] g r).trans ?_
  match g with
  | ⟨0, _⟩ => exact s_ld x _ _ 0 rfl r
  | ⟨1, _⟩ => exact s_ld x _ _ 1 rfl r
  | ⟨2, _⟩ => exact s_ld x _ _ 2 rfl r
  | ⟨3, _⟩ => exact s_ld x _ _ 3 rfl r

/-! The band. -/

/-- Three pieces of 128, 256 and 128 rows. -/
theorem cat3 {n : ℕ} {φ : FTy} (A C : FVec Ideal (⟨2, ![128, n]⟩ : Shape) φ) (B : FVec Ideal (⟨2, ![256, n]⟩ : Shape) φ)
    (h : Shape.Concatenates (([⟨⟨2, ![128, n]⟩, A⟩, ⟨⟨2, ![256, n]⟩, B⟩, ⟨⟨2, ![128, n]⟩, C⟩] : List ((s : Shape) × (s.Idx → Ideal φ))).map (·.1)) ⟨2, ![512, n]⟩ 0)
    (r : Fin 512) (j : Fin n) :
    concatenate (⟨2, ![512, n]⟩ : Shape) 0 [⟨⟨2, ![128, n]⟩, A⟩, ⟨⟨2, ![256, n]⟩, B⟩, ⟨⟨2, ![128, n]⟩, C⟩] h (ix2 r j)
      = if h1 : r.val < 128 then A (ix2 (⟨r.val, h1⟩ : Fin 128) j)
        else if h2 : r.val < 384 then B (ix2 (⟨r.val - 128, by omega⟩ : Fin 256) j)
        else C (ix2 (⟨r.val - 384, by omega⟩ : Fin 128) j) := by
  by_cases h1 : r.val < 128
  · rw [dif_pos h1]
    refine concatenate_apply_piece (t := (⟨2, ![512, n]⟩ : Shape)) 0 _ h (ix2 r j) 0 (by simp) ⟨2, ![128, n]⟩ A rfl rfl 0 rfl _ ?_ ?_
    · intro b hb
      match b, hb with
      | ⟨0, _⟩, hb => exact absurd rfl hb
      | ⟨1, _⟩, _ => rfl
    · exact Nat.zero_add _
  · rw [dif_neg h1]
    by_cases h2 : r.val < 384
    · rw [dif_pos h2]
      refine concatenate_apply_piece (t := (⟨2, ![512, n]⟩ : Shape)) 0 _ h (ix2 r j) 1 (by simp) ⟨2, ![256, n]⟩ B rfl rfl 128 rfl _ ?_ ?_
      · intro b hb
        match b, hb with
        | ⟨0, _⟩, hb => exact absurd rfl hb
        | ⟨1, _⟩, _ => rfl
      · show 128 + (r.val - 128) = r.val
        omega
    · rw [dif_neg h2]
      refine concatenate_apply_piece (t := (⟨2, ![512, n]⟩ : Shape)) 0 _ h (ix2 r j) 2 (by simp) ⟨2, ![128, n]⟩ C rfl rfl 384 rfl _ ?_ ?_
      · intro b hb
        match b, hb with
        | ⟨0, _⟩, hb => exact absurd rfl hb
        | ⟨1, _⟩, _ => rfl
      · show 384 + (r.val - 384) = r.val
        omega

/-- Three pieces of 128, 256 and 128 columns. -/
theorem cat3' {n : ℕ} {φ : FTy} (A C : FVec Ideal (⟨2, ![n, 128]⟩ : Shape) φ) (B : FVec Ideal (⟨2, ![n, 256]⟩ : Shape) φ)
    (h : Shape.Concatenates (([⟨⟨2, ![n, 128]⟩, A⟩, ⟨⟨2, ![n, 256]⟩, B⟩, ⟨⟨2, ![n, 128]⟩, C⟩] : List ((s : Shape) × (s.Idx → Ideal φ))).map (·.1)) ⟨2, ![n, 512]⟩ 1)
    (j : Fin n) (r : Fin 512) :
    concatenate (⟨2, ![n, 512]⟩ : Shape) 1 [⟨⟨2, ![n, 128]⟩, A⟩, ⟨⟨2, ![n, 256]⟩, B⟩, ⟨⟨2, ![n, 128]⟩, C⟩] h (ix2 j r)
      = if h1 : r.val < 128 then A (ix2 j (⟨r.val, h1⟩ : Fin 128))
        else if h2 : r.val < 384 then B (ix2 j (⟨r.val - 128, by omega⟩ : Fin 256))
        else C (ix2 j (⟨r.val - 384, by omega⟩ : Fin 128)) := by
  by_cases h1 : r.val < 128
  · rw [dif_pos h1]
    refine concatenate_apply_piece (t := (⟨2, ![n, 512]⟩ : Shape)) 1 _ h (ix2 j r) 0 (by simp) ⟨2, ![n, 128]⟩ A rfl rfl 0 rfl _ ?_ ?_
    · intro b hb
      match b, hb with
      | ⟨0, _⟩, _ => rfl
      | ⟨1, _⟩, hb => exact absurd rfl hb
    · exact Nat.zero_add _
  · rw [dif_neg h1]
    by_cases h2 : r.val < 384
    · rw [dif_pos h2]
      refine concatenate_apply_piece (t := (⟨2, ![n, 512]⟩ : Shape)) 1 _ h (ix2 j r) 1 (by simp) ⟨2, ![n, 256]⟩ B rfl rfl 128 rfl _ ?_ ?_
      · intro b hb
        match b, hb with
        | ⟨0, _⟩, _ => rfl
        | ⟨1, _⟩, hb => exact absurd rfl hb
      · show 128 + (r.val - 128) = r.val
        omega
    · rw [dif_neg h2]
      refine concatenate_apply_piece (t := (⟨2, ![n, 512]⟩ : Shape)) 1 _ h (ix2 j r) 2 (by simp) ⟨2, ![n, 128]⟩ C rfl rfl 384 rfl _ ?_ ?_
      · intro b hb
        match b, hb with
        | ⟨0, _⟩, _ => rfl
        | ⟨1, _⟩, hb => exact absurd rfl hb
      · show 384 + (r.val - 384) = r.val
        omega

/-- A key of the band. -/
def bandKey (x3 x4 x5 : Vec Ideal S1x1x256x64 .bf16) (r : Fin 512) (d : Fin 64) : EReal :=
  if h1 : r.val < 128 then x3 (ix4 (0 : Fin 1) (0 : Fin 1) (⟨128 + r.val, by omega⟩ : Fin 256) d)
  else if h2 : r.val < 384 then x4 (ix4 (0 : Fin 1) (0 : Fin 1) (⟨r.val - 128, by omega⟩ : Fin 256) d)
  else x5 (ix4 (0 : Fin 1) (0 : Fin 1) (⟨r.val - 384, by omega⟩ : Fin 256) d)

/-- A value of the band. -/
def bandVal (x7 x8 x9 : Vec Ideal S1x1x80x256 .bf16) (d : Fin 80) (r : Fin 512) : EReal :=
  if h1 : r.val < 128 then x7 (ix4 (0 : Fin 1) (0 : Fin 1) d (⟨128 + r.val, by omega⟩ : Fin 256))
  else if h2 : r.val < 384 then x8 (ix4 (0 : Fin 1) (0 : Fin 1) d (⟨r.val - 128, by omega⟩ : Fin 256))
  else x9 (ix4 (0 : Fin 1) (0 : Fin 1) d (⟨r.val - 384, by omega⟩ : Fin 256))

/-- The mask of the band at tile `i`: the given one, and the pieces that lie before the first tile or after the last are
masked whole. -/
def bandMask (i : BitVec 32) (x1 : Vec Ideal S512x1024 .f32) (r : Fin 512) (l : Fin 1024) : EReal :=
  if r.val < 128 then x1 (ix2 r l) + (if i = 0#32 then ⊥ else 0)
  else if r.val < 384 then x1 (ix2 r l)
  else x1 (ix2 r l) + (if i = 63#32 then ⊥ else 0)

theorem k_ld (x : Vec Ideal S1x1x256x64 .bf16) (o : Fin 4 → ℕ) (h : ∀ a, o a + S1x1x128x64.size a ≤ S1x1x256x64.size a) (s : ℕ)
    (ho : o = ![0, 0, s, 0]) (hs : s ≤ 128) (r : Fin 128) (d : Fin 64) :
    shapeCast S128x64 (View.ld x (Rect.unit (s := S1x1x256x64) o S1x1x128x64.size h)) shapeCasts_S1x1x128x64_S128x64 (ix2 r d)
      = x (ix4 (0 : Fin 1) (0 : Fin 1) (⟨s + r.val, by omega⟩ : Fin 256) d) := by
  subst ho
  refine (shapeCast_apply _ _ (ix2 r d) (ix4 (0 : Fin 1) (0 : Fin 1) r d : S1x1x128x64.Idx) ?_).trans ?_
  · rw [Shape.rowMajor_val_two, Shape.rowMajor_val_four]
    show ((0 * 1 + 0) * 128 + r.val) * 64 + d.val = r.val * 64 + d.val
    omega
  · refine ld_apply (S := S1x1x256x64) x _ _ _ _ _ fun a => ?_
    match a with
    | ⟨0, _⟩ => rfl
    | ⟨1, _⟩ => rfl
    | ⟨2, _⟩ => rfl
    | ⟨3, _⟩ => exact (Nat.zero_add _).symm

theorem k_ld' (x : Vec Ideal S1x1x256x64 .bf16) (r : Fin 256) (d : Fin 64) :
    shapeCast S256x64 (View.ld x r0_9) shapeCasts_S1x1x256x64_S256x64 (ix2 r d) = x (ix4 (0 : Fin 1) (0 : Fin 1) r d) := by
  have e : View.ld x r0_9 = x := View.ld_unit_zero (by funext a; fin_cases a <;> rfl) _ x
  rw [e]
  refine shapeCast_apply _ _ (ix2 r d) (ix4 (0 : Fin 1) (0 : Fin 1) r d : S1x1x256x64.Idx) ?_
  rw [Shape.rowMajor_val_two, Shape.rowMajor_val_four]
  show ((0 * 1 + 0) * 256 + r.val) * 64 + d.val = r.val * 64 + d.val
  omega

theorem v_ld (x : Vec Ideal S1x1x80x256 .bf16) (o : Fin 4 → ℕ) (h : ∀ a, o a + S1x1x80x128.size a ≤ S1x1x80x256.size a) (s : ℕ)
    (ho : o = ![0, 0, 0, s]) (hs : s ≤ 128) (d : Fin 80) (r : Fin 128) :
    shapeCast S80x128 (View.ld x (Rect.unit (s := S1x1x80x256) o S1x1x80x128.size h)) shapeCasts_S1x1x80x128_S80x128 (ix2 d r)
      = x (ix4 (0 : Fin 1) (0 : Fin 1) d (⟨s + r.val, by omega⟩ : Fin 256)) := by
  subst ho
  refine (shapeCast_apply _ _ (ix2 d r) (ix4 (0 : Fin 1) (0 : Fin 1) d r : S1x1x80x128.Idx) ?_).trans ?_
  · rw [Shape.rowMajor_val_two, Shape.rowMajor_val_four]
    show ((0 * 1 + 0) * 80 + d.val) * 128 + r.val = d.val * 128 + r.val
    omega
  · refine ld_apply (S := S1x1x80x256) x _ _ _ _ _ fun a => ?_
    match a with
    | ⟨0, _⟩ => rfl
    | ⟨1, _⟩ => rfl
    | ⟨2, _⟩ => exact (Nat.zero_add _).symm
    | ⟨3, _⟩ => rfl

theorem v_ld' (x : Vec Ideal S1x1x80x256 .bf16) (d : Fin 80) (r : Fin 256) :
    shapeCast S80x256 (View.ld x r0_15) shapeCasts_S1x1x80x256_S80x256 (ix2 d r) = x (ix4 (0 : Fin 1) (0 : Fin 1) d r) := by
  have e : View.ld x r0_15 = x := View.ld_unit_zero (by funext a; fin_cases a <;> rfl) _ x
  rw [e]
  refine shapeCast_apply _ _ (ix2 d r) (ix4 (0 : Fin 1) (0 : Fin 1) d r : S1x1x80x256.Idx) ?_
  rw [Shape.rowMajor_val_two, Shape.rowMajor_val_four]
  show ((0 * 1 + 0) * 80 + d.val) * 256 + r.val = d.val * 256 + r.val
  omega

theorem keys_cat (x3 x4 x5 : Vec Ideal S1x1x256x64 .bf16) (r : Fin 512) (d : Fin 64) :
    concatenate S512x64 0 [⟨S128x64, shapeCast S128x64 (View.ld x3 r0_8) shapeCasts_S1x1x128x64_S128x64⟩,
        ⟨S256x64, shapeCast S256x64 (View.ld x4 r0_9) shapeCasts_S1x1x256x64_S256x64⟩,
        ⟨S128x64, shapeCast S128x64 (View.ld x5 r0_10) shapeCasts_S1x1x128x64_S128x64⟩]
        concatenates_S128x64_S256x64_S128x64_S512x64_d0 (ix2 r d) = bandKey x3 x4 x5 r d := by
  refine (cat3 (n := 64) (φ := .bf16) _ _ _ _ r d).trans ?_
  unfold bandKey
  split
  · exact k_ld x3 _ _ 128 rfl (by omega) _ d
  · split
    · exact k_ld' x4 _ d
    · refine (k_ld x5 _ _ 0 rfl (by omega) _ d).trans ?_
      congr 2
      exact Fin.ext (Nat.zero_add _)

theorem vals_cat (x7 x8 x9 : Vec Ideal S1x1x80x256 .bf16) (d : Fin 80) (r : Fin 512) :
    concatenate S80x512 1 [⟨S80x128, shapeCast S80x128 (View.ld x7 r0_14) shapeCasts_S1x1x80x128_S80x128⟩,
        ⟨S80x256, shapeCast S80x256 (View.ld x8 r0_15) shapeCasts_S1x1x80x256_S80x256⟩,
        ⟨S80x128, shapeCast S80x128 (View.ld x9 r0_16) shapeCasts_S1x1x80x128_S80x128⟩]
        concatenates_S80x128_S80x256_S80x128_S80x512_d1 (ix2 d r) = bandVal x7 x8 x9 d r := by
  refine (cat3' (n := 80) (φ := .bf16) _ _ _ _ d r).trans ?_
  unfold bandVal
  split
  · exact v_ld x7 _ _ 128 rfl (by omega) d _
  · split
    · exact v_ld' x8 d _
    · refine (v_ld x9 _ _ 0 rfl (by omega) d _).trans ?_
      congr 2
      exact Fin.ext (Nat.zero_add _)

theorem m_ld (x : Vec Ideal S512x1024 .f32) (o : Fin 2 → ℕ) (h : ∀ a, o a + S128x1024.size a ≤ S512x1024.size a) (s : ℕ)
    (ho : o = ![s, 0]) (hs : s ≤ 384) (w : Ideal .f32) (r : Fin 128) (l : Fin 1024) :
    addf (shapeCast S128x1024 (View.ld x (Rect.unit (s := S512x1024) o S128x1024.size h)) shapeCasts_S128x1024_S128x1024 : FVec Ideal S128x1024 .f32)
        (broadcast S128x1024 w) (ix2 r l)
      = x (ix2 (⟨s + r.val, by omega⟩ : Fin 512) l) + w := by
  subst ho
  have e : View.ld x (Rect.unit (s := S512x1024) ![s, 0] S128x1024.size h) (ix2 r l) = x (ix2 (⟨s + r.val, by omega⟩ : Fin 512) l) := by
    refine ld_apply (S := S512x1024) x _ _ _ _ _ fun a => ?_
    match a with
    | ⟨0, _⟩ => rfl
    | ⟨1, _⟩ => exact (Nat.zero_add _).symm
  rw [← e]
  refine congrArg (· + w) (shapeCast_apply _ _ (ix2 r l) (ix2 r l : S128x1024.Idx) rfl)

theorem m_ld' (x : Vec Ideal S512x1024 .f32) (r : Fin 256) (l : Fin 1024) :
    shapeCast S256x1024 (View.ld x r0_12) shapeCasts_S256x1024_S256x1024 (ix2 r l) = x (ix2 (⟨128 + r.val, by omega⟩ : Fin 512) l) := by
  refine (shapeCast_apply _ _ (ix2 r l) (ix2 r l : S256x1024.Idx) rfl).trans ?_
  refine ld_apply (S := S512x1024) x _ _ _ _ _ fun a => ?_
  match a with
  | ⟨0, _⟩ => rfl
  | ⟨1, _⟩ => exact (Nat.zero_add _).symm

/-- The named constant where the word is `k`, and nothing elsewhere. -/
theorem edge (i k : BitVec 32) :
    (Scalar.select (Scalar.cmpi .eq i k) (Named.named κ "mask" 0xF149F2CA#32 : Ideal .f32) (Scalar.ofBits .f32 0x00000000#32 : Ideal .f32) : Ideal .f32)
      = (if i = k then (⊥ : EReal) else 0) := by
  have hz : (Scalar.ofBits .f32 0x00000000#32 : Ideal .f32) = (0 : EReal) := by
    show Ideal.ofBits .f32 0x00000000#32 = 0
    simp [Ideal.ofBits, Ideal.ieee]
  have hn : (Named.named κ "mask" 0xF149F2CA#32 : Ideal .f32) = (⊥ : EReal) := rfl
  rw [hz, hn]
  unfold Scalar.select Scalar.cmpi
  by_cases h : i = k
  · subst h
    rw [if_pos rfl]
    simp [IntOp.cmpi]
  · rw [if_neg h]
    have hf : (i == k) = false := by simpa using h
    simp only [IntOp.cmpi, hf]
    rw [if_neg (by decide)]

theorem mask_cat (i : BitVec 32) (x1 : Vec Ideal S512x1024 .f32) (r : Fin 512) (l : Fin 1024) :
    concatenate S512x1024 0
        [⟨S128x1024, addf (shapeCast S128x1024 (View.ld x1 r0_11) shapeCasts_S128x1024_S128x1024 : FVec Ideal S128x1024 .f32)
          (broadcast S128x1024 (Scalar.select (Scalar.cmpi .eq i 0#32) (Named.named κ "mask" 0xF149F2CA#32 : Ideal .f32) (Scalar.ofBits .f32 0x00000000#32)))⟩,
        ⟨S256x1024, shapeCast S256x1024 (View.ld x1 r0_12) shapeCasts_S256x1024_S256x1024⟩,
        ⟨S128x1024, addf (shapeCast S128x1024 (View.ld x1 r0_13) shapeCasts_S128x1024_S128x1024 : FVec Ideal S128x1024 .f32)
          (broadcast S128x1024 (Scalar.select (Scalar.cmpi .eq i 63#32) (Named.named κ "mask" 0xF149F2CA#32 : Ideal .f32) (Scalar.ofBits .f32 0x00000000#32)))⟩]
        concatenates_S128x1024_S256x1024_S128x1024_S512x1024_d0 (ix2 r l) = bandMask i x1 r l := by
  refine (cat3 (n := 1024) (φ := .f32) _ _ _ _ r l).trans ?_
  unfold bandMask
  split
  · refine (m_ld x1 _ _ 0 rfl (by omega) _ _ l).trans ?_
    rw [edge]
    congr 3
    exact Fin.ext (Nat.zero_add _)
  · split
    · refine (m_ld' x1 _ l).trans ?_
      congr 2
      exact Fin.ext (by show 128 + (r.val - 128) = r.val; omega)
    · refine (m_ld x1 _ _ 384 rfl (by omega) _ _ l).trans ?_
      rw [edge]
      congr 3
      exact Fin.ext (by show 384 + (r.val - 384) = r.val; omega)

/-! The payloads. -/

theorem band_dot (K : FVec Ideal S512x64 .bf16) (q : FVec Ideal S64x1024 .bf16) (M : FVec Ideal S512x1024 .f32) (r : Fin 512) (l : Fin 1024) :
    addf (matmul dot_S512x64_S64x1024_S512x1024_1_0_0_1_n_n none K q (constant S512x1024 .f32 0x00000000#32)) M (ix2 r l)
      = ∑ d : Fin 64, K (ix2 r d) * q (ix2 d l) + M (ix2 r l) := by
  pointwise

theorem ctx_dot (K : FVec Ideal S256x64 .bf16) (q : FVec Ideal S64x1024 .bf16) (r : Fin 256) (l : Fin 1024) :
    matmul dot_S256x64_S64x1024_S256x1024_1_0_0_1_n_n none K q (constant S256x1024 .f32 0x00000000#32) (ix2 r l)
      = ∑ d : Fin 64, K (ix2 r d) * q (ix2 d l) := by
  pointwise

theorem band_scores (i : BitVec 32) (x1 : Vec Ideal S512x1024 .f32) (q : FVec Ideal S64x1024 .bf16) (x3 x4 x5 : Vec Ideal S1x1x256x64 .bf16)
    (r : Fin 512) (l : Fin 1024) :
    k0_pay6 i q (View.ld x3 r0_8) (View.ld x4 r0_9) (View.ld x5 r0_10) (View.ld x1 r0_11) (View.ld x1 r0_12) (View.ld x1 r0_13) (ix2 r l)
      = ∑ d : Fin 64, bandKey x3 x4 x5 r d * q (ix2 d l) + bandMask i x1 r l := by
  refine (band_dot _ q _ r l).trans ?_
  refine congr (congrArg HAdd.hAdd (Finset.sum_congr rfl fun d _ => ?_)) (mask_cat i x1 r l)
  exact congrArg (· * q (ix2 d l)) (keys_cat x3 x4 x5 r d)

theorem ctx_scores (q : FVec Ideal S64x1024 .bf16) (x6 : Vec Ideal S1x1x256x64 .bf16) (r : Fin 256) (l : Fin 1024) :
    k0_pay7 q (View.ld x6 r0_9) (ix2 r l) = ∑ d : Fin 64, x6 (ix4 (0 : Fin 1) (0 : Fin 1) r d) * q (ix2 d l) := by
  refine (ctx_dot _ q r l).trans ?_
  exact Finset.sum_congr rfl fun d _ => congrArg (· * q (ix2 d l)) (k_ld' x6 r d)

/-- The last part, from the scores and the values. -/
def core (v25 : FVec Ideal S1x1024 .f32) (v49 : FVec Ideal S512x1024 .f32) (v52 : FVec Ideal S256x1024 .f32) (v54 v56 : FVec Ideal S1x1024 .f32)
    (v73 : FVec Ideal S80x512 .bf16) (v76 : FVec Ideal S80x256 .bf16) : FVec Ideal S64x1024 .f32 :=
  let v58 : FVec Ideal S1x1024 .f32 := maximumf (maximumf v54 v56) v25
  let v62 : FVec Ideal S512x1024 .bf16 := truncf .bf16 (exp2 (subf v49 (broadcastTo S512x1024 v58 broadcasts_S1x1024_S512x1024))) bitsLt_bf16_f32
  let v66 : FVec Ideal S256x1024 .bf16 := truncf .bf16 (exp2 (subf v52 (broadcastTo S256x1024 v58 broadcasts_S1x1024_S256x1024))) bitsLt_bf16_f32
  let v78 : FVec Ideal S80x1024 .f32 := addf (matmul dot_S80x512_S512x1024_S80x1024_1_0_0_1_n_n none v73 v62 (constant S80x1024 .f32 0x00000000#32))
    (matmul dot_S80x256_S256x1024_S80x1024_1_0_0_1_n_n none v76 v66 (constant S80x1024 .f32 0x00000000#32))
  divf (extractStridedSlice S64x1024 ![0, 0] v78 slices_S80x1024_o0_0_S64x1024)
    (broadcastTo S64x1024 (addf (extractStridedSlice S1x1024 ![64, 0] v78 slices_S80x1024_o64_0_S1x1024) (exp2 (subf v25 v58))) broadcasts_S1x1024_S64x1024)

theorem core_apply (v25 : FVec Ideal S1x1024 .f32) (v49 : FVec Ideal S512x1024 .f32) (v52 : FVec Ideal S256x1024 .f32) (v54 v56 : FVec Ideal S1x1024 .f32)
    (v73 : FVec Ideal S80x512 .bf16) (v76 : FVec Ideal S80x256 .bf16) (d : Fin 64) (l : Fin 1024) (M : EReal)
    (hM : M = max (max (v54 (ix2 (0 : Fin 1) l)) (v56 (ix2 (0 : Fin 1) l))) (v25 (ix2 (0 : Fin 1) l))) :
    core v25 v49 v52 v54 v56 v73 v76 (ix2 d l)
      = Ideal.div (∑ r : Fin 512, v73 (ix2 (⟨d.val, by omega⟩ : Fin 80) r) * Ideal.exp2 (v49 (ix2 r l) - M)
            + ∑ r : Fin 256, v76 (ix2 (⟨d.val, by omega⟩ : Fin 80) r) * Ideal.exp2 (v52 (ix2 r l) - M))
          (∑ r : Fin 512, v73 (ix2 (64 : Fin 80) r) * Ideal.exp2 (v49 (ix2 r l) - M)
            + ∑ r : Fin 256, v76 (ix2 (64 : Fin 80) r) * Ideal.exp2 (v52 (ix2 r l) - M) + Ideal.exp2 (v25 (ix2 (0 : Fin 1) l) - M)) := by
  subst hM
  unfold core
  pointwise
  rfl

theorem ofBits_bot : Ideal.ofBits .f32 0xFF800000#32 = (⊥ : EReal) := by
  simp [Ideal.ofBits, Ideal.ieee]

theorem band_max (i : BitVec 32) (q : FVec Ideal S64x1024 .bf16) (a : Vec Ideal S1x1x128x64 .bf16) (b : Vec Ideal S1x1x256x64 .bf16) (c : Vec Ideal S1x1x128x64 .bf16)
    (a' : Vec Ideal S128x1024 .f32) (b' : Vec Ideal S256x1024 .f32) (c' : Vec Ideal S128x1024 .f32) (l : Fin 1024) :
    k0_pay8 i q a b c a' b' c' (ix2 (0 : Fin 1) l) = (Finset.univ : Finset (Fin 512)).fold max ⊥ fun r => k0_pay6 i q a b c a' b' c' (ix2 r l) := by
  unfold k0_pay8
  generalize k0_pay6 i q a b c a' b' c' = y
  pointwise
  rw [ofBits_bot]

theorem ctx_max (q : FVec Ideal S64x1024 .bf16) (b : Vec Ideal S1x1x256x64 .bf16) (l : Fin 1024) :
    k0_pay9 q b (ix2 (0 : Fin 1) l) = (Finset.univ : Finset (Fin 256)).fold max ⊥ fun r => k0_pay7 q b (ix2 r l) := by
  unfold k0_pay9
  generalize k0_pay7 q b = y
  pointwise
  rw [ofBits_bot]

/-! The block. -/

/-- The score of place `r` of the band for query `q` of head `g`. -/
def bandScore (i : BitVec 32) (x1 : Vec Ideal S512x1024 .f32) (x2 : Vec Ideal S1x4x64x256 .bf16) (x3 x4 x5 : Vec Ideal S1x1x256x64 .bf16)
    (g : Fin 4) (q : Fin 256) (r : Fin 512) : EReal :=
  ∑ d : Fin 64, bandKey x3 x4 x5 r d * x2 (ix4 (0 : Fin 1) g d q) + bandMask i x1 r (lane g q)

/-- The score of context key `r`. -/
def ctxScore (x2 : Vec Ideal S1x4x64x256 .bf16) (x6 : Vec Ideal S1x1x256x64 .bf16) (g : Fin 4) (q : Fin 256) (r : Fin 256) : EReal :=
  ∑ d : Fin 64, x6 (ix4 (0 : Fin 1) (0 : Fin 1) r d) * x2 (ix4 (0 : Fin 1) g d q)

/-- The maximum that the powers are taken at. -/
def top (s : Fin 512 → EReal) (s' : Fin 256 → EReal) (z : EReal) : EReal :=
  max (max ((Finset.univ : Finset (Fin 512)).fold max ⊥ s) ((Finset.univ : Finset (Fin 256)).fold max ⊥ s')) z

/-- One entry of the block from the scores, the sink, the values and the rows of ones. -/
def outRow (s : Fin 512 → EReal) (s' : Fin 256 → EReal) (z : EReal) (v : Fin 512 → EReal) (v' : Fin 256 → EReal) (o : Fin 512 → EReal) (o' : Fin 256 → EReal) : EReal :=
  Ideal.div (∑ r : Fin 512, v r * Ideal.exp2 (s r - top s s' z) + ∑ r : Fin 256, v' r * Ideal.exp2 (s' r - top s s' z))
    (∑ r : Fin 512, o r * Ideal.exp2 (s r - top s s' z) + ∑ r : Fin 256, o' r * Ideal.exp2 (s' r - top s s' z) + Ideal.exp2 (z - top s s' z))

theorem piece (X : FVec Ideal S64x1024 .f32) (o : Fin 2 → ℕ) (hs : S64x1024.Slices o S64x256) (g : Fin 4) (ho : o = ![0, 256 * g.val])
    (x : S1x1x64x256.Idx) :
    shapeCast S1x1x64x256 (extractStridedSlice S64x256 o X hs) shapeCasts_S64x256_S1x1x64x256 x
      = X (ix2 (⟨(x 2).val, (x 2).isLt⟩ : Fin 64) (lane g (⟨(x 3).val, (x 3).isLt⟩ : Fin 256))) := by
  subst ho
  have h0 : (x 0).val < 1 := (x 0).isLt
  have h1 : (x 1).val < 1 := (x 1).isLt
  refine (shapeCast_apply _ _ x (ix2 (⟨(x 2).val, (x 2).isLt⟩ : Fin 64) (⟨(x 3).val, (x 3).isLt⟩ : Fin 256) : S64x256.Idx) ?_).trans ?_
  · rw [Shape.rowMajor_val_two, Shape.rowMajor_val_four]
    show (x 2).val * 256 + (x 3).val = (((x 0).val * 1 + (x 1).val) * 64 + (x 2).val) * 256 + (x 3).val
    omega
  · refine extractStridedSlice_apply _ X hs _ _ fun a => ?_
    match a with
    | ⟨0, _⟩ => exact (Nat.zero_add _).symm
    | ⟨1, _⟩ => rfl

/-- The four heads as one block. -/
def byHead (X : FVec Ideal S64x1024 .f32) (y : S1x4x64x256.Idx) : EReal :=
  X (ix2 (⟨(y 2).val, (y 2).isLt⟩ : Fin 64) (lane (⟨(y 1).val, (y 1).isLt⟩ : Fin 4) (⟨(y 3).val, (y 3).isLt⟩ : Fin 256)))

theorem piece_head (X : FVec Ideal S64x1024 .f32) (o : Fin 2 → ℕ) (hs : S64x1024.Slices o S64x256) (g : Fin 4) (ho : o = ![0, 256 * g.val])
    (p : Fin 4 → ℕ) (hp : ∀ a, p a + S1x1x64x256.size a ≤ S1x4x64x256.size a) (e : p = ![0, g.val, 0, 0]) (x : S1x1x64x256.Idx) :
    shapeCast S1x1x64x256 (extractStridedSlice S64x256 o X hs) shapeCasts_S64x256_S1x1x64x256 x
      = byHead X ((Rect.unit (s := S1x4x64x256) p S1x1x64x256.size hp).emb x) := by
  subst e
  have h1 : (x 1).val < 1 := (x 1).isLt
  refine (piece X o hs g ho x).trans (congrArg X ?_)
  funext a; apply Fin.ext
  match a with
  | ⟨0, _⟩ => show (x 2).val = 0 + 1 * (x 2).val; omega
  | ⟨1, _⟩ => show 256 * g.val + (x 3).val = 256 * (g.val + 1 * (x 1).val) + (0 + 1 * (x 3).val); omega

theorem canon_heads (X : FVec Ideal S64x1024 .f32) (g : Fin 4) (d : Fin 64) (q : Fin 256) :
    (View.canon ([⟨r0_3, k0_pay3 X⟩, ⟨r0_2, k0_pay2 X⟩,
        ⟨r0_1, k0_pay1 (extractStridedSlice S64x256 ![0, 256] X slices_S64x1024_o0_256_S64x256)⟩,
        ⟨r0_0, shapeCast S1x1x64x256 (extractStridedSlice S64x256 ![0, 0] X slices_S64x1024_o0_0_S64x256) shapeCasts_S64x256_S1x1x64x256⟩] :
        List (View.Piece (Elt Ideal) S1x4x64x256 .f32)) : Vec Ideal S1x4x64x256 .f32) (ix4 (0 : Fin 1) g d q) = X (ix2 d (lane g q)) := by
  refine View.canon_apply_of_pieces (Val := Elt Ideal) (S := S1x4x64x256) (e := .f32) (byHead X) _ ?_ _ (cover0_11 _ _ _ _ _)
  intro pc hpc x
  rcases List.mem_cons.mp hpc with rfl | hpc
  · exact piece_head X ![0, 768] slices_S64x1024_o0_768_S64x256 3 rfl ![0, 3, 0, 0] inb_S1x4x64x256_S1x1x64x256_0_3_0_0 rfl x
  rcases List.mem_cons.mp hpc with rfl | hpc
  · exact piece_head X ![0, 512] slices_S64x1024_o0_512_S64x256 2 rfl ![0, 2, 0, 0] inb_S1x4x64x256_S1x1x64x256_0_2_0_0 rfl x
  rcases List.mem_cons.mp hpc with rfl | hpc
  · exact piece_head X ![0, 256] slices_S64x1024_o0_256_S64x256 1 rfl ![0, 1, 0, 0] inb_S1x4x64x256_S1x1x64x256_0_1_0_0 rfl x
  rcases List.mem_cons.mp hpc with rfl | hpc
  · exact piece_head X ![0, 0] slices_S64x1024_o0_0_S64x256 0 rfl ![0, 0, 0, 0] inb_S1x4x64x256_S1x1x64x256_0_0_0_0 rfl x
  · exact absurd hpc (List.not_mem_nil)

theorem out_apply (i : grid0.Coords) (x0 : Vec Ideal S4x1x128 .f32) (x1 : Vec Ideal S512x1024 .f32) (x2 : Vec Ideal S1x4x64x256 .bf16)
    (x3 x4 x5 x6 : Vec Ideal S1x1x256x64 .bf16) (x7 x8 x9 x10 : Vec Ideal S1x1x80x256 .bf16) (g : Fin 4) (d : Fin 64) (q : Fin 256) :
    out0_11 i x0 x1 x2 x3 x4 x5 x6 x7 x8 x9 x10 (ix4 (0 : Fin 1) g d q)
      = outRow (bandScore (BitVec.ofNat 32 (i 2).val) x1 x2 x3 x4 x5 g q) (ctxScore x2 x6 g q) (x0 (ix3 g (0 : Fin 1) (0 : Fin 128)))
          (bandVal x7 x8 x9 (⟨d.val, by omega⟩ : Fin 80)) (fun r => x10 (ix4 (0 : Fin 1) (0 : Fin 1) (⟨d.val, by omega⟩ : Fin 80) r))
          (bandVal x7 x8 x9 (64 : Fin 80)) (fun r => x10 (ix4 (0 : Fin 1) (0 : Fin 1) (64 : Fin 80) r)) := by
  refine (canon_heads _ g d q).trans ?_
  have hq : ∀ e : Fin 64, k0_pay13 i x0 x1 x2 x3 x4 x5 x6 x7 x8 x9 x10 (ix2 e (lane g q)) = x2 (ix4 (0 : Fin 1) g e q) := fun e => queries x2 e g q
  have hb : ∀ r : Fin 512, k0_pay15 i x0 x1 x2 x3 x4 x5 x6 x7 x8 x9 x10 (ix2 r (lane g q)) = bandScore (BitVec.ofNat 32 (i 2).val) x1 x2 x3 x4 x5 g q r := fun r => by
    refine (band_scores (BitVec.ofNat 32 (i 2).val) x1 (k0_pay13 i x0 x1 x2 x3 x4 x5 x6 x7 x8 x9 x10) x3 x4 x5 r (lane g q)).trans ?_
    unfold bandScore
    simp only [hq]
  have hc : ∀ r : Fin 256, k0_pay16 i x0 x1 x2 x3 x4 x5 x6 x7 x8 x9 x10 (ix2 r (lane g q)) = ctxScore x2 x6 g q r := fun r => by
    refine (ctx_scores (k0_pay13 i x0 x1 x2 x3 x4 x5 x6 x7 x8 x9 x10) x6 r (lane g q)).trans ?_
    unfold ctxScore
    simp only [hq]
  have hs : k0_pay14 i x0 x1 x2 x3 x4 x5 x6 x7 x8 x9 x10 (ix2 (0 : Fin 1) (lane g q)) = x0 (ix3 g (0 : Fin 1) (0 : Fin 128)) := sinks x0 g q
  have hbm : k0_pay17 i x0 x1 x2 x3 x4 x5 x6 x7 x8 x9 x10 (ix2 (0 : Fin 1) (lane g q)) = (Finset.univ : Finset (Fin 512)).fold max ⊥ (bandScore (BitVec.ofNat 32 (i 2).val) x1 x2 x3 x4 x5 g q) := by
    refine (band_max _ _ _ _ _ _ _ _ _).trans ?_
    exact congrArg (fun f => (Finset.univ : Finset (Fin 512)).fold max ⊥ f) (funext hb)
  have hcm : k0_pay18 i x0 x1 x2 x3 x4 x5 x6 x7 x8 x9 x10 (ix2 (0 : Fin 1) (lane g q)) = (Finset.univ : Finset (Fin 256)).fold max ⊥ (ctxScore x2 x6 g q) := by
    refine (ctx_max _ _ _).trans ?_
    exact congrArg (fun f => (Finset.univ : Finset (Fin 256)).fold max ⊥ f) (funext hc)
  refine Eq.trans (b := core (k0_pay14 i x0 x1 x2 x3 x4 x5 x6 x7 x8 x9 x10) (k0_pay15 i x0 x1 x2 x3 x4 x5 x6 x7 x8 x9 x10)
    (k0_pay16 i x0 x1 x2 x3 x4 x5 x6 x7 x8 x9 x10) (k0_pay17 i x0 x1 x2 x3 x4 x5 x6 x7 x8 x9 x10) (k0_pay18 i x0 x1 x2 x3 x4 x5 x6 x7 x8 x9 x10)
    (concatenate S80x512 1 [⟨S80x128, shapeCast S80x128 (View.ld x7 r0_14) shapeCasts_S1x1x80x128_S80x128⟩,
        ⟨S80x256, shapeCast S80x256 (View.ld x8 r0_15) shapeCasts_S1x1x80x256_S80x256⟩,
        ⟨S80x128, shapeCast S80x128 (View.ld x9 r0_16) shapeCasts_S1x1x80x128_S80x128⟩]
        concatenates_S80x128_S80x256_S80x128_S80x512_d1)
    (shapeCast S80x256 (View.ld x10 r0_15) shapeCasts_S1x1x80x256_S80x256) (ix2 d (lane g q))) rfl ?_
  refine (core_apply _ _ _ _ _ _ _ d (lane g q) (top (bandScore (BitVec.ofNat 32 (i 2).val) x1 x2 x3 x4 x5 g q) (ctxScore x2 x6 g q) (x0 (ix3 g (0 : Fin 1) (0 : Fin 128))))
    (by rw [hbm, hcm, hs]; rfl)).trans ?_
  have hv : ∀ (e : Fin 80) (r : Fin 512) (z z' w : EReal), z = z' →
      (concatenate S80x512 1 [⟨S80x128, shapeCast S80x128 (View.ld x7 r0_14) shapeCasts_S1x1x80x128_S80x128⟩,
        ⟨S80x256, shapeCast S80x256 (View.ld x8 r0_15) shapeCasts_S1x1x80x256_S80x256⟩,
        ⟨S80x128, shapeCast S80x128 (View.ld x9 r0_16) shapeCasts_S1x1x80x128_S80x128⟩]
        concatenates_S80x128_S80x256_S80x128_S80x512_d1 (ix2 e r) : EReal) * Ideal.exp2 (z - w) = bandVal x7 x8 x9 e r * Ideal.exp2 (z' - w) :=
    fun e r z z' w h => congr (congrArg HMul.hMul (vals_cat x7 x8 x9 e r)) (congrArg (fun u => Ideal.exp2 (u - w)) h)
  have hx : ∀ (e : Fin 80) (r : Fin 256) (z z' w : EReal), z = z' →
      (shapeCast S80x256 (View.ld x10 r0_15) shapeCasts_S1x1x80x256_S80x256 (ix2 e r) : EReal) * Ideal.exp2 (z - w)
        = x10 (ix4 (0 : Fin 1) (0 : Fin 1) e r) * Ideal.exp2 (z' - w) :=
    fun e r z z' w h => congr (congrArg HMul.hMul (v_ld' x10 e r)) (congrArg (fun u => Ideal.exp2 (u - w)) h)
  unfold outRow
  refine congr (congrArg Ideal.div ?_) ?_
  · exact congr (congrArg HAdd.hAdd (Finset.sum_congr rfl fun r _ => hv _ r _ _ _ (hb r))) (Finset.sum_congr rfl fun r _ => hx _ r _ _ _ (hc r))
  · refine congr (congrArg HAdd.hAdd ?_) (congrArg (fun u => Ideal.exp2 (u - _)) hs)
    exact congr (congrArg HAdd.hAdd (Finset.sum_congr rfl fun r _ => hv _ r _ _ _ (hb r))) (Finset.sum_congr rfl fun r _ => hx _ r _ _ _ (hc r))

end Cert.Kernel4Ideal.Win
end
-- ==== Proof.Band.lean ====
module

public import proofs.«01_k».proof.Proof.Soft

/-! Softmax with a sink over the keys of a window: the weights over a band of 512 places, most of them masked, are the
weights over all keys with the mask. -/

@[expose] public section

noncomputable section

namespace Cert.Band

open Idealize.ShloMosaic Cert.Soft

/-- A sum over the band is the sum over all keys, if what is outside the mask adds nothing. Place `r` of the band is key
`i + r - 128`. -/
theorem reindex {A : Type*} [AddCommMonoid A] {T : ℕ} (i : ℕ) (ok : Fin T → Prop) [DecidablePred ok]
    (hok : ∀ k, ok k → i ≤ k.val + 128 ∧ k.val + 128 < i + 512) (f : Fin T → A) (g : Fin 512 → A)
    (hf : ∀ k, ¬ ok k → f k = 0) (hg : ∀ (r : Fin 512) (k : Fin T), k.val + 128 = i + r.val → ok k → g r = f k)
    (hg0 : ∀ r : Fin 512, (∀ k : Fin T, k.val + 128 = i + r.val → ¬ ok k) → g r = 0) :
    ∑ r, g r = ∑ k, f k := by
  classical
  have h1 : ∑ k, f k = ∑ k ∈ Finset.univ.filter ok, f k :=
    (Finset.sum_subset (Finset.filter_subset _ _) fun k _ hk => hf k fun h => hk (by simp [h])).symm
  rw [h1]
  have hpl : ∀ k, ok k → (k.val + 128 - i) % 512 = k.val + 128 - i := fun k hk => Nat.mod_eq_of_lt (by have := hok k hk; omega)
  refine (Finset.sum_of_injOn (fun k : Fin T => (⟨(k.val + 128 - i) % 512, Nat.mod_lt _ (by decide)⟩ : Fin 512)) ?_ ?_ ?_ ?_).symm
  · intro k hk l hl e
    have hk' : ok k := by simpa using hk
    have hl' : ok l := by simpa using hl
    have e' : (k.val + 128 - i) % 512 = (l.val + 128 - i) % 512 := congrArg Fin.val e
    rw [hpl k hk', hpl l hl'] at e'
    have a := hok k hk'
    have b := hok l hl'
    exact Fin.ext (by omega)
  · intro k _; simp
  · intro r _ hr
    refine hg0 r fun k hk ho => hr ⟨k, by simpa using ho, ?_⟩
    refine Fin.ext ?_
    show (k.val + 128 - i) % 512 = r.val
    rw [hpl k ho]; omega
  · intro k hk
    have hk' : ok k := by simpa using hk
    refine (hg _ k ?_ hk').symm
    show k.val + 128 = i + (k.val + 128 - i) % 512
    rw [hpl k hk']
    have := hok k hk'
    omega

/-- Weighted values, over weights that are all scaled by one factor. -/
theorem scaled {K L : Type*} [Fintype K] [Fintype L] (e : K → ℝ) (d : L → ℝ) (V : K → EReal) (U : L → EReal) (Z c : ℝ)
    (hZ : 0 < Z) (hc : 0 < c) :
    Ideal.div (∑ k, V k * ((e k * c : ℝ) : EReal) + ∑ j, U j * ((d j * c : ℝ) : EReal)) ((Z * c : ℝ) : EReal)
      = ∑ k, V k * ((e k / Z : ℝ) : EReal) + ∑ j, U j * ((d j / Z : ℝ) : EReal) := by
  have hp : 0 < Z * c := mul_pos hZ hc
  rw [div_coe_pos _ hp, EReal.right_distrib_of_nonneg_of_ne_top (by exact_mod_cast (inv_nonneg.2 hp.le)) (EReal.coe_ne_top _),
    sum_mul_coe _ _ (inv_nonneg.2 hp.le), sum_mul_coe _ _ (inv_nonneg.2 hp.le)]
  refine congr (congrArg HAdd.hAdd (Finset.sum_congr rfl fun k _ => ?_)) (Finset.sum_congr rfl fun k _ => ?_)
  all_goals
    rw [mul_assoc, ← EReal.coe_mul]
    congr 2
    field_simp

theorem div_scaled (a Z c : ℝ) (hZ : 0 < Z) (hc : 0 < c) :
    Ideal.div ((a * c : ℝ) : EReal) ((Z * c : ℝ) : EReal) = ((a / Z : ℝ) : EReal) := by
  rw [div_coe_pos _ (mul_pos hZ hc), ← EReal.coe_mul]
  congr 1
  field_simp

theorem exp_real (a b : ℝ) : Ideal.exp ((a : EReal) - (b : EReal)) = ((Real.exp a * Real.exp (-b) : ℝ) : EReal) := by
  rw [← EReal.coe_sub, Ideal.exp_coe, ← Real.exp_add, sub_eq_add_neg]

theorem exp2_real (a b : ℝ) : Ideal.exp2 (((a / Real.log 2 : ℝ) : EReal) - (b : EReal)) = ((Real.exp a * Real.exp (-(b * Real.log 2)) : ℝ) : EReal) := by
  have h := wt_eq (a / Real.log 2) b
  unfold wt at h
  rw [h, ← Real.exp_add]
  congr 2
  have := log_two_pos
  field_simp
  ring

/-- The band's weighted values over its weights and the sink, in powers of two at the shift `M`, are the values of all
keys under the softmax with the mask and the sink, in powers of e at the shift `M'`. -/
theorem quotient {T N : ℕ} (i : ℕ) (ok : Fin T → Prop) [DecidablePred ok]
    (hok : ∀ k, ok k → i ≤ k.val + 128 ∧ k.val + 128 < i + 512)
    (X : Fin T → ℝ) (V : Fin T → EReal) (C : Fin N → ℝ) (U : Fin N → EReal) (σ : ℝ) (y v : Fin 512 → EReal)
    (h : ∀ r : Fin 512, (∃ k : Fin T, k.val + 128 = i + r.val ∧ ok k ∧ y r = ((X k / Real.log 2 : ℝ) : EReal) ∧ v r = V k)
      ∨ ((∀ k : Fin T, k.val + 128 = i + r.val → ¬ ok k) ∧ y r = ⊥)) (M M' : ℝ) :
    Ideal.div (∑ r, v r * Ideal.exp2 (y r - (M : EReal)) + ∑ j, U j * Ideal.exp2 (((C j / Real.log 2 : ℝ) : EReal) - (M : EReal)))
        (∑ r, Ideal.exp2 (y r - (M : EReal)) + ∑ j, Ideal.exp2 (((C j / Real.log 2 : ℝ) : EReal) - (M : EReal))
          + Ideal.exp2 (((σ / Real.log 2 : ℝ) : EReal) - (M : EReal)))
      = (∑ k, Ideal.div (Ideal.exp ((if ok k then ((X k : ℝ) : EReal) else ⊥) - (M' : EReal)))
            (∑ k, Ideal.exp ((if ok k then ((X k : ℝ) : EReal) else ⊥) - (M' : EReal)) + ∑ j, Ideal.exp ((C j : EReal) - (M' : EReal))
              + Ideal.exp ((σ : EReal) - (M' : EReal))) * V k)
        + ∑ j, Ideal.div (Ideal.exp ((C j : EReal) - (M' : EReal)))
            (∑ k, Ideal.exp ((if ok k then ((X k : ℝ) : EReal) else ⊥) - (M' : EReal)) + ∑ j, Ideal.exp ((C j : EReal) - (M' : EReal))
              + Ideal.exp ((σ : EReal) - (M' : EReal))) * U j := by
  set e : Fin T → ℝ := fun k => if ok k then Real.exp (X k) else 0 with he
  set c : ℝ := Real.exp (-(M * Real.log 2)) with hc
  set c' : ℝ := Real.exp (-M') with hc'
  have cpos : 0 < c := Real.exp_pos _
  have cpos' : 0 < c' := Real.exp_pos _
  have e0 : ∀ k, 0 ≤ e k := fun k => by
    simp only [he]; split
    · exact (Real.exp_pos _).le
    · exact le_rfl
  set Z : ℝ := ∑ k, e k + ∑ j, Real.exp (C j) + Real.exp σ with hZdef
  have hZ : 0 < Z := add_pos_of_nonneg_of_pos (add_nonneg (Finset.sum_nonneg fun k _ => e0 k) (Finset.sum_nonneg fun j _ => (Real.exp_pos _).le)) (Real.exp_pos _)
  have bot2 : Ideal.exp2 ((⊥ : EReal) - (M : EReal)) = 0 := by rw [EReal.bot_sub]; exact Ideal.exp2_bot
  have bot1 : Ideal.exp ((⊥ : EReal) - (M' : EReal)) = 0 := by rw [EReal.bot_sub]; exact Ideal.exp_bot
  have hx : ∀ k, Ideal.exp ((if ok k then ((X k : ℝ) : EReal) else ⊥) - (M' : EReal)) = ((e k * c' : ℝ) : EReal) := fun k => by
    simp only [he]; split
    · exact exp_real _ _
    · rw [bot1]; simp
  have hw : ∀ (r : Fin 512) (k : Fin T), k.val + 128 = i + r.val → ok k → Ideal.exp2 (y r - (M : EReal)) = ((e k * c : ℝ) : EReal) ∧ v r = V k := by
    intro r k hk ho
    rcases h r with ⟨l, hl, _, hy, hv⟩ | ⟨hn, _⟩
    · obtain rfl : l = k := Fin.ext (by omega)
      refine ⟨?_, hv⟩
      rw [hy, exp2_real]
      simp only [he, if_pos ho]
      rfl
    · exact absurd ho (hn k hk)
  have hw0 : ∀ r : Fin 512, (∀ k : Fin T, k.val + 128 = i + r.val → ¬ ok k) → Ideal.exp2 (y r - (M : EReal)) = 0 := by
    intro r hr
    rcases h r with ⟨l, hl, ho, _, _⟩ | ⟨_, hy⟩
    · exact absurd ho (hr l hl)
    · rw [hy, bot2]
  have s1 : ∑ r, v r * Ideal.exp2 (y r - (M : EReal)) = ∑ k, V k * ((e k * c : ℝ) : EReal) :=
    reindex i ok hok _ _ (fun k hk => by simp [he, if_neg hk]) (fun r k hk ho => by rw [(hw r k hk ho).1, (hw r k hk ho).2])
      fun r hr => by rw [hw0 r hr, mul_zero]
  have s2 : ∑ r, Ideal.exp2 (y r - (M : EReal)) = ∑ k, ((e k * c : ℝ) : EReal) :=
    reindex i ok hok _ _ (fun k hk => by simp [he, if_neg hk]) (fun r k hk ho => (hw r k hk ho).1) hw0
  have hj : ∀ j, Ideal.exp2 (((C j / Real.log 2 : ℝ) : EReal) - (M : EReal)) = ((Real.exp (C j) * c : ℝ) : EReal) := fun j => exp2_real _ _
  have hj' : ∀ j, Ideal.exp ((C j : EReal) - (M' : EReal)) = ((Real.exp (C j) * c' : ℝ) : EReal) := fun j => exp_real _ _
  have z1 : ∀ d : ℝ, ∑ k, ((e k * d : ℝ) : EReal) + ∑ j, ((Real.exp (C j) * d : ℝ) : EReal) + ((Real.exp σ * d : ℝ) : EReal) = ((Z * d : ℝ) : EReal) := fun d => by
    rw [coe_sum, coe_sum, ← EReal.coe_add, ← EReal.coe_add, ← Finset.sum_mul, ← Finset.sum_mul, ← add_mul, ← add_mul]
  simp only [s1, s2, hx, hj, hj', exp2_real σ M, exp_real σ M']
  rw [z1 c', show Real.exp (-(M * Real.log 2)) = c from rfl, z1 c, scaled e (fun j => Real.exp (C j)) V U Z c hZ cpos]
  simp only [div_scaled _ _ _ hZ cpos']
  exact congr (congrArg HAdd.hAdd (Finset.sum_congr rfl fun k _ => mul_comm _ _)) (Finset.sum_congr rfl fun k _ => mul_comm _ _)

end Cert.Band
end
-- ==== Proof.Prep4.lean ====
module

public import proofs.«01_k».proof.Proof.Win4
public import Idealize.ShloMosaic.Lib.Claim
public import Idealize.ShloMosaic.Lib.IdealHost

/-! The windowed call: what the operations before the launch leave in its arguments. -/

@[expose] public section

set_option maxRecDepth 16384

noncomputable section

namespace Cert.Kernel4Ideal.Win

open Idealize.ShloMosaic Idealize.ShloMosaic.TcCoe Idealize.ShloMosaic.Tactic
open Cert.Kernel4Ideal.Gen

variable (m : (ℓ : Loc nD τ sig) → Buf (Elt Ideal) ℓ) (c : Dev nD)

abbrev arg0 : Vec Ideal S2x8x16384x64 .f32 := m (c, main_arg0)
abbrev arg1 : Vec Ideal S2x2x16384x64 .f32 := m (c, main_arg1)
abbrev arg2 : Vec Ideal S2x2x256x64 .f32 := m (c, main_arg2)
abbrev arg3 : Vec Ideal S2x2x16384x64 .f32 := m (c, main_arg3)
abbrev arg4 : Vec Ideal S2x2x256x64 .f32 := m (c, main_arg4)
abbrev arg5 : Vec Ideal S8 .f32 := m (c, main_arg5)

/-- The key of a row, of the image or of the context. -/
def keyAt (x1 : Vec Ideal S2x2x16384x64 .f32) (x2 : Vec Ideal S2x2x256x64 .f32) (b : Fin 2) (h : Fin 2) (k : Fin 16640) (d : Fin 64) : EReal :=
  if hk : k.val < 16384 then x1 (ix4 b h (⟨k.val, hk⟩ : Fin 16384) d) else x2 (ix4 b h (⟨k.val - 16384, by omega⟩ : Fin 256) d)

theorem keys_in (b h : Fin 2) (k : Fin 16640) (d : Fin 64) :
    (V m c main_v10 (ix4 b (⟨h.val, by omega⟩ : Fin 4) k d) : EReal) = keyAt (arg1 m c) (arg2 m c) b h k d := by
  dsimp only [V, hostOps0, hostOps0_1, hostOps0_2, hostOps0_3, hostOps0_4, hostOps0_5, hostOps0_6, hostOps0_7, hostOps0_8, List.flatten_cons, List.flatten_nil, List.append_nil, List.cons_append, List.nil_append]
  entry_read
  unfold keyAt
  pointwise
  rfl

theorem values_in (b h : Fin 2) (k : Fin 16640) (r : Fin 64) :
    (V m c main_v20 (ix4 b h (⟨r.val, by omega⟩ : Fin 80) k) : EReal) = keyAt (arg3 m c) (arg4 m c) b h k r := by
  dsimp only [V, hostOps0, hostOps0_1, hostOps0_2, hostOps0_3, hostOps0_4, hostOps0_5, hostOps0_6, hostOps0_7, hostOps0_8, List.flatten_cons, List.flatten_nil, List.append_nil, List.cons_append, List.nil_append]
  entry_read
  unfold keyAt
  pointwise
  rfl

/-- The row below the values is of ones: it sums the weights. -/
theorem ones_in (b h : Fin 2) (k : Fin 16640) : (V m c main_v20 (ix4 b h (64 : Fin 80) k) : EReal) = (1 : EReal) := by
  dsimp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise
  exact Eq.trans (b := Ideal.ofBits .f32 0x3F800000#32) rfl Ideal.ofBits_one_f32

theorem sink_in (h : Fin 8) :
    (V m c main_v25 (ix3 h (0 : Fin 1) (0 : Fin 128)) : EReal) = Ideal.div (arg5 m c (ix1 h)) (Ideal.log (Ideal.ofBits .f32 0x40000000#32)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

theorem queries_eq : (V m c main_v26 : _) =
    pad S2x8x64x16640 ![0, 0, 0, 0] ![0, 0, 0, 256] ![0, 0, 0, 0]
          (truncf FTy.bf16
            (Host.divf
              (mulf
                (transpose S2x8x64x16384 [0, 1, 3, 2] (m (c, Proc.tc.devRef main_arg0))
                  transposes_S2x8x16384x64_S2x8x64x16384_0_1_3_2)
                (broadcastInDim S2x8x64x16384 ![] bcast_S_S2x8x64x16384 (constant (F := Ideal) S_ FTy.f32 1040187392#32)))
              (broadcastInDim S2x8x64x16384 ![] bcast_S_S2x8x64x16384 (Host.log (constant (F := Ideal) S_ FTy.f32 1073741824#32))))
            bitsLt_bf16_f32)
            (sitofp FTy.bf16
                (constantI S_ 32 0#32))
        pads_S2x8x64x16384_S2x8x64x16640_000_000_000_02560 h_S_ := by
  dsimp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

theorem queries_in (b : Fin 2) (h : Fin 8) (k : Fin 16640) (hk : k.val < 16384) (d : Fin 64) :
    (V m c main_v26 (ix4 b h d k) : EReal)
      = Ideal.div (arg0 m c (ix4 b h (⟨k.val, hk⟩ : Fin 16384) d) * Ideal.ofBits .f32 0x3E000000#32)
          (Ideal.log (Ideal.ofBits .f32 0x40000000#32)) := by
  rw [queries_eq]
  pointwise
  exact (dif_pos hk).trans rfl

theorem ofBits_scale : ∃ r : ℝ, Ideal.ofBits .f32 0x3E000000#32 = (r : EReal) := by
  simp [Ideal.ofBits, Ideal.ieee, -EReal.coe_mul, -EReal.coe_neg]

theorem ofBits_two : Ideal.ofBits .f32 0x40000000#32 = ((2 : ℝ) : EReal) := by
  simp [Ideal.ofBits, Ideal.ieee, -EReal.coe_mul]; norm_num

/-! The mask. -/

/-- The distance test on words is the one on numbers. -/
theorem near (a b : ℕ) (ha : a < 1048576) (hb : b < 1048576) :
    IntOp.cmpi .sle (IntOp.absi (BitVec.ofNat 32 a - BitVec.ofNat 32 b)) 128#32 = BitVec.ofBool (decide (a ≤ b + 128 ∧ b ≤ a + 128)) := by
  have e : (IntOp.absi (BitVec.ofNat 32 a - BitVec.ofNat 32 b)).sle 128#32 = decide (a ≤ b + 128 ∧ b ≤ a + 128) := by
    have hA : (BitVec.ofNat 32 a - BitVec.ofNat 32 b).toNat = if b ≤ a then a - b else 4294967296 + a - b := by
      rw [BitVec.toNat_sub, BitVec.toNat_ofNat, BitVec.toNat_ofNat]
      split <;> omega
    generalize BitVec.ofNat 32 a - BitVec.ofNat 32 b = z at hA
    have hm : z.msb = decide (2147483648 ≤ z.toNat) := by
      rw [BitVec.msb_eq_decide]
    have hv : (IntOp.absi z).toNat = if b ≤ a then a - b else b - a := by
      unfold IntOp.absi
      rw [hm]
      by_cases h : b ≤ a
      · rw [if_pos h] at hA ⊢
        rw [if_neg (by simp; omega), hA]
      · rw [if_neg h] at hA ⊢
        rw [if_pos (by simp; omega), BitVec.toNat_neg, hA]
        omega
    rw [BitVec.sle_eq_decide]
    have hi : (IntOp.absi z).toInt = ((if b ≤ a then a - b else b - a : ℕ) : Int) := by
      rw [BitVec.toInt_eq_toNat_of_lt (by rw [hv]; split <;> omega), hv]
    rw [hi]
    have h2 : (128#32 : BitVec 32).toInt = 128 := by decide
    rw [h2]
    apply decide_eq_decide.mpr
    split <;> omega
  unfold IntOp.cmpi
  exact congrArg BitVec.ofBool e

/-- The remainder by 256, as it is computed on words. -/
def word (x : BitVec 32) : BitVec 32 :=
  Scalar.select
    (IntOp.andi
      (IntOp.cmpi .ne (IntOp.cmpi .slt (IntOp.remsi .host x (Scalar.select (IntOp.cmpi .eq 256#32 0#32) 1#32 256#32)) 0#32)
        (IntOp.cmpi .slt (Scalar.select (IntOp.cmpi .eq 256#32 0#32) 1#32 256#32) 0#32))
      (IntOp.cmpi .ne (IntOp.remsi .host x (Scalar.select (IntOp.cmpi .eq 256#32 0#32) 1#32 256#32)) 0#32))
    (IntOp.addi (IntOp.remsi .host x (Scalar.select (IntOp.cmpi .eq 256#32 0#32) 1#32 256#32)) (Scalar.select (IntOp.cmpi .eq 256#32 0#32) 1#32 256#32))
    (IntOp.remsi .host x (Scalar.select (IntOp.cmpi .eq 256#32 0#32) 1#32 256#32))

/-- The period of the mask's columns, as the host code makes it. -/
def period : IVec S_ 32 := select (cmpi .eq (constantI S_ 32 256#32) (constantI S_ 32 0#32)) (constantI S_ 32 1#32) (constantI S_ 32 256#32)

/-- The remainders before the sign is mended. -/
def rest : IVec S1x1024 32 :=
  Host.remsi (broadcastInDim S1x1024 ![1] bcast_S1024_S1x1024_1 (iotaInDim S1024 32 0)) (broadcastInDim S1x1024 ![] bcast_S_S1x1024 period)

/-- The columns' remainders. -/
def cols : IVec S1x1024 32 :=
  select (andi (cmpi .ne (cmpi .slt rest (broadcastInDim S1x1024 ![] bcast_S_S1x1024 (constantI S_ 32 0#32)))
      (broadcastInDim S1x1024 ![] bcast_S_S1x1024 (cmpi .slt period (constantI S_ 32 0#32))))
      (cmpi .ne rest (broadcastInDim S1x1024 ![] bcast_S_S1x1024 (constantI S_ 32 0#32))))
    (addi rest (broadcastInDim S1x1024 ![] bcast_S_S1x1024 period)) rest

theorem mask_eq : (V m c main_v41 : _) =
    select (cmpi .sle (absi (subi
        (broadcastInDim S512x1024 ![0, 1] bcast_S512x1_S512x1024_0_1
          (subi (broadcastInDim S512x1 ![0] bcast_S512_S512x1_0 (iotaInDim S512 32 0)) (broadcastInDim S512x1 ![] bcast_S_S512x1 (constantI S_ 32 128#32))))
        (broadcastInDim S512x1024 ![0, 1] bcast_S1x1024_S512x1024_0_1 cols)))
        (broadcastInDim S512x1024 ![] bcast_S_S512x1024 (constantI S_ 32 128#32)))
      (broadcastInDim S512x1024 ![] bcast_S_S512x1024 (constant (F := Ideal) S_ FTy.f32 0x00000000#32))
      (broadcastInDim S512x1024 ![] bcast_S_S512x1024 (constant (F := Ideal) S_ FTy.f32 0xFF800000#32)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

theorem cols_apply (l : Fin 1024) : cols (ix2 (0 : Fin 1) l) = word (BitVec.ofNat 32 l.val) := by
  unfold cols rest period word
  pointwise

theorem word_eq : ∀ l : Fin 1024, word (BitVec.ofNat 32 l.val) = BitVec.ofNat 32 (l.val % 256) := by
  decide +kernel

/-- Row `r` and column `l` of the mask are within the window, or not. -/
theorem mask_in (r : Fin 512) (l : Fin 1024) :
    (V m c main_v41 (ix2 r l) : EReal) = if l.val % 256 ≤ r.val ∧ r.val ≤ l.val % 256 + 256 then (0 : EReal) else ⊥ := by
  have e : (V m c main_v41 (ix2 r l) : EReal)
      = Scalar.select (IntOp.cmpi .sle (IntOp.absi (BitVec.ofNat 32 r.val - 128#32 - cols (ix2 (0 : Fin 1) l))) 128#32)
          (0 : EReal) (Ideal.ofBits .f32 0xFF800000#32) := by
    rw [mask_eq]
    generalize cols = y
    pointwise
    rfl
  rw [e, cols_apply, word_eq, ofBits_bot]
  have e2 : BitVec.ofNat 32 r.val - 128#32 - BitVec.ofNat 32 (l.val % 256) = BitVec.ofNat 32 r.val - BitVec.ofNat 32 (l.val % 256 + 128) := by
    rw [BitVec.ofNat_add, BitVec.sub_sub, BitVec.add_comm]
  rw [e2, near _ _ (by omega) (by omega)]
  by_cases h : l.val % 256 ≤ r.val ∧ r.val ≤ l.val % 256 + 256
  · rw [if_pos h, decide_eq_true (by omega)]; rfl
  · rw [if_neg h, decide_eq_false (by omega)]; rfl

end Cert.Kernel4Ideal.Win
end
-- ==== Proof.Ref4.lean ====
module

public import proofs.«01_k».proof.Proof.Gen.Reference4Ideal.Read
public import proofs.«01_k».proof.Proof.Prep4
public import proofs.«01_k».proof.Proof.Soft

/-! The windowed reference read at an element: the values of the window and of the context weighted by the softmax of
their scaled scores and the head's sink. -/

@[expose] public section
set_option maxRecDepth 16384
noncomputable section
namespace Cert.RefAt4
open Idealize.ShloMosaic Idealize.ShloMosaic.TcCoe Idealize.ShloMosaic.Tactic
open Cert.Reference4Ideal Cert.Reference4Ideal.Gen Cert.Reference4Ideal.Value Cert.Reference4Ideal.Read

variable (x0 : Vec Ideal S2x8x16384x64 .f32) (x1 : Vec Ideal S2x2x16384x64 .f32) (x2 : Vec Ideal S2x2x256x64 .f32)
  (x3 : Vec Ideal S2x2x16384x64 .f32) (x4 : Vec Ideal S2x2x256x64 .f32) (x5 : Vec Ideal S8 .f32)

/-- The query head of a key head and a place in its group. -/
def qHead (h : Fin 2) (g : Fin 4) : Fin 8 := ⟨4 * h.val + g.val, by omega⟩

/-- The keys a query attends to. -/
abbrev ok (t : ℕ) (k : Fin 16384) : Prop := k.val ≤ t + 128 ∧ t ≤ k.val + 128

theorem query_ix (b h : Fin 2) (g : Fin 4) (t : Fin 16384) (d : Fin 64) :
    idx_main_v9 (ix5 b h g t d) = (ix4 b (qHead h g) t d : S2x8x16384x64.Idx) := by
  funext a; apply Fin.ext
  have := b.isLt; have := h.isLt; have := g.isLt; have := t.isLt; have := d.isLt
  match a with
  | ⟨0, _⟩ => show ((((b.val * 2 + h.val) * 4 + g.val) * 16384 + t.val) * 64 + d.val) / 8388608 = b.val; omega
  | ⟨1, _⟩ => show ((((b.val * 2 + h.val) * 4 + g.val) * 16384 + t.val) * 64 + d.val) / 1048576 % 8 = 4 * h.val + g.val; omega
  | ⟨2, _⟩ => show ((((b.val * 2 + h.val) * 4 + g.val) * 16384 + t.val) * 64 + d.val) / 64 % 16384 = t.val; omega
  | ⟨3, _⟩ => show ((((b.val * 2 + h.val) * 4 + g.val) * 16384 + t.val) * 64 + d.val) % 64 = d.val; omega

theorem out_ix (b h : Fin 2) (g : Fin 4) (r : Fin 64) (t : Fin 16384) :
    idx_main_v39 (idx_main_v40 (ix4 b (qHead h g) r t)) = (ix5 b h g t r : S2x2x4x16384x64.Idx) := by
  funext a; apply Fin.ext
  have := b.isLt; have := h.isLt; have := g.isLt; have := t.isLt; have := r.isLt
  match a with
  | ⟨0, _⟩ => show (((b.val * 8 + (4 * h.val + g.val)) * 16384 + t.val) * 64 + r.val) / 8388608 = b.val; omega
  | ⟨1, _⟩ => show (((b.val * 8 + (4 * h.val + g.val)) * 16384 + t.val) * 64 + r.val) / 4194304 % 2 = h.val; omega
  | ⟨2, _⟩ => show (((b.val * 8 + (4 * h.val + g.val)) * 16384 + t.val) * 64 + r.val) / 1048576 % 4 = g.val; omega
  | ⟨3, _⟩ => show (((b.val * 8 + (4 * h.val + g.val)) * 16384 + t.val) * 64 + r.val) / 64 % 16384 = t.val; omega
  | ⟨4, _⟩ => show (((b.val * 8 + (4 * h.val + g.val)) * 16384 + t.val) * 64 + r.val) % 64 = r.val; omega

theorem ofBits_bot : Ideal.ofBits .f32 0xFF800000#32 = (⊥ : EReal) := by
  simp [Ideal.ofBits, Ideal.ieee]

/-- The score of an image key. -/
theorem image_read (b h : Fin 2) (g : Fin 4) (t : Fin 16384) (k : Fin 16384) :
    (val_main_v13 (F := Ideal) x0 x1 (ix5 b h g t k) : EReal)
      = if ok t.val k then (∑ d : Fin 64, x0 (ix4 b (qHead h g) t d) * x1 (ix4 b h k d)) * Ideal.ofBits .f32 0x3E000000#32 else ⊥ := by
  have hm : (val_main_call0_v1 (F := Ideal) (ix5 b h g t k) : BitVec 1) = BitVec.ofBool (decide (ok t.val k)) := by
    rw [val_main_call0_v1_apply, val_main_v8_apply, val_main_v6_apply, val_main_v7_apply, val_main_v5_apply, val_main_v3_apply, val_main_v4_apply,
      val_main_v1_apply, val_main_v2_apply, val_main_v0_apply, val_main_v0_apply]
    exact Cert.Kernel4Ideal.Win.near k.val t.val (by omega) (by omega)
  have hs : (val_main_v12 (F := Ideal) x0 x1 (ix5 b h g t k) : EReal)
      = (∑ d : Fin 64, x0 (ix4 b (qHead h g) t d) * x1 (ix4 b h k d)) * Ideal.ofBits .f32 0x3E000000#32 := by
    rw [val_main_v12_apply, val_main_v10_apply, val_main_v11_apply, val_main_cst_apply]
    show (_ : EReal) * _ = _
    congr 1
    refine Finset.sum_congr rfl fun d _ => ?_
    have el : lidx_main_v10 (ix5 b h g t k) d = ix5 b h g t d := by funext a; fin_cases a <;> rfl
    have er : ridx_main_v10 (ix5 b h g t k) d = ix4 b h k d := by funext a; fin_cases a <;> rfl
    rw [el, er, val_main_v9_apply, query_ix]
  have hb : (val_main_call0_v2 (F := Ideal) (ix5 b h g t k) : EReal) = ⊥ := by
    rw [val_main_call0_v2_apply, val_main_call0_v0_apply, val_main_cst_0_apply]
    exact ofBits_bot
  rw [val_main_v13_apply, hm, hs, hb]
  by_cases hk : ok t.val k
  · rw [if_pos hk, decide_eq_true hk]; rfl
  · rw [if_neg hk, decide_eq_false hk]; rfl

/-- The score of a context key. -/
theorem context_read (b h : Fin 2) (g : Fin 4) (t : Fin 16384) (k : Fin 256) :
    (val_main_v16 (F := Ideal) x0 x2 (ix5 b h g t k) : EReal)
      = (∑ d : Fin 64, x0 (ix4 b (qHead h g) t d) * x2 (ix4 b h k d)) * Ideal.ofBits .f32 0x3E000000#32 := by
  rw [val_main_v16_apply, val_main_v14_apply, val_main_v15_apply, val_main_cst_1_apply]
  show (_ : EReal) * _ = _
  congr 1
  refine Finset.sum_congr rfl fun d _ => ?_
  have el : lidx_main_v14 (ix5 b h g t k) d = ix5 b h g t d := by funext a; fin_cases a <;> rfl
  have er : ridx_main_v14 (ix5 b h g t k) d = ix4 b h k d := by funext a; fin_cases a <;> rfl
  rw [el, er, val_main_v9_apply, query_ix]

/-- The place of an image key, and of a context key, among all. -/
def imageK (k : Fin 16384) : Fin 16640 := ⟨k.val, by omega⟩
def contextK (k : Fin 256) : Fin 16640 := ⟨16384 + k.val, by omega⟩

theorem joined_image (b h : Fin 2) (g : Fin 4) (t : Fin 16384) (k : Fin 16384) :
    (val_main_v17 (F := Ideal) x0 x1 x2 (ix5 b h g t (imageK k)) : EReal) = val_main_v13 (F := Ideal) x0 x1 (ix5 b h g t k) := by
  unfold val_main_v17
  generalize val_main_v13 (F := Ideal) x0 x1 = y
  generalize val_main_v16 (F := Ideal) x0 x2 = z
  pointwise
  exact dif_pos k.isLt

theorem joined_context (b h : Fin 2) (g : Fin 4) (t : Fin 16384) (k : Fin 256) :
    (val_main_v17 (F := Ideal) x0 x1 x2 (ix5 b h g t (contextK k)) : EReal) = val_main_v16 (F := Ideal) x0 x2 (ix5 b h g t k) := by
  unfold val_main_v17
  generalize val_main_v13 (F := Ideal) x0 x1 = y
  generalize val_main_v16 (F := Ideal) x0 x2 = z
  pointwise
  refine (dif_neg (by show ¬ (16384 + k.val < 16384); omega)).trans (congrArg z ?_)
  funext a; apply Fin.ext
  fin_cases a <;> simp [contextK]

theorem sum_two {a b n : ℕ} (hn : a + b = n) (f : Fin n → EReal) :
    ∑ k, f k = (∑ k : Fin a, f ⟨k.val, by omega⟩) + ∑ k : Fin b, f ⟨a + k.val, by omega⟩ := by
  subst hn
  exact Fin.sum_univ_add f

theorem sum_split (f : Fin 16640 → EReal) : ∑ k, f k = (∑ k, f (imageK k)) + ∑ k, f (contextK k) :=
  sum_two (by norm_num) f

theorem add_two {a b a' b' : EReal} (ha : a = a') (hb : b = b') : a + b = a' + b' := by rw [ha, hb]

theorem sink_read (b h : Fin 2) (g : Fin 4) (t : Fin 16384) (i : S2x2x4x16384x1.Idx) (hi : i = ix5 b h g t (0 : Fin 1)) :
    (val_main_v21 (F := Ideal) x5 i : EReal) = x5 (ix1 (qHead h g)) ∧ (val_main_v28 (F := Ideal) x5 i : EReal) = x5 (ix1 (qHead h g)) := by
  subst hi
  constructor
  · rw [val_main_v21_apply, val_main_v18_apply]
    congr 1; funext a; apply Fin.ext
    have := h.isLt; have := g.isLt
    match a with
    | ⟨0, _⟩ => show _ = 4 * h.val + g.val; simp; try omega
  · rw [val_main_v28_apply, val_main_v18_apply]
    congr 1; funext a; apply Fin.ext
    have := h.isLt; have := g.isLt
    match a with
    | ⟨0, _⟩ => show _ = 4 * h.val + g.val; simp; try omega

theorem fold_ne_top {ι : Type} (s : Finset ι) (f : ι → EReal) (hf : ∀ i, f i ≠ ⊤) : s.fold max (⊥ : EReal) f ≠ ⊤ := by
  classical
  induction s using Finset.induction_on with
  | empty => rw [Finset.fold_empty]; exact bot_ne_top
  | insert a s ha ih =>
    rw [Finset.fold_insert ha]
    exact ne_of_lt (max_lt (lt_top_iff_ne_top.2 (hf a)) (lt_top_iff_ne_top.2 ih))

theorem max_real (x : EReal) (hx : x ≠ ⊤) (z : ℝ) : ∃ r : ℝ, max x (z : EReal) = (r : EReal) := by
  refine ⟨(max x (z : EReal)).toReal, (EReal.coe_toReal (ne_of_lt (max_lt (lt_top_iff_ne_top.2 hx) (EReal.coe_lt_top z))) ?_).symm⟩
  exact ne_of_gt (lt_of_lt_of_le (EReal.bot_lt_coe z) (le_max_right _ _))

theorem max_read (b h : Fin 2) (g : Fin 4) (t : Fin 16384) (σ : ℝ) (hσ : (x5 (ix1 (qHead h g)) : EReal) = (σ : EReal))
    (hs : ∀ k : Fin 16640, (val_main_v17 (F := Ideal) x0 x1 x2 (ix5 b h g t k) : EReal) ≠ ⊤) :
    ∃ r : ℝ, (val_main_v22 (F := Ideal) x0 x1 x2 x5 (ix5 b h g t (0 : Fin 1)) : EReal) = (r : EReal) := by
  rw [val_main_v22_apply, (sink_read x5 b h g t _ rfl).1, val_main_v20_apply, hσ]
  have e : (idx_main_v20 (ix5 b h g t (0 : Fin 1)) : S2x2x4x16384.Idx) = ix4 b h g t := by funext a; fin_cases a <;> rfl
  rw [e]
  refine max_real _ ?_ σ
  unfold val_main_v19
  generalize val_main_v17 (F := Ideal) x0 x1 x2 = y at hs ⊢
  pointwise
  rw [show (val_main_cst_2 (F := Ideal) (Shape.Idx.first h_S_) : EReal) = ⊥ from ofBits_bot]
  exact fold_ne_top _ _ hs

theorem exp_read (b h : Fin 2) (g : Fin 4) (t : Fin 16384) (k : Fin 16640) :
    (val_main_v25 (F := Ideal) x0 x1 x2 x5 (ix5 b h g t k) : EReal)
      = Ideal.exp ((val_main_v17 (F := Ideal) x0 x1 x2 (ix5 b h g t k) : EReal) - (val_main_v22 (F := Ideal) x0 x1 x2 x5 (ix5 b h g t (0 : Fin 1)) : EReal)) := by
  rw [val_main_v25_apply, val_main_v24_apply, val_main_v23_apply]
  show Ideal.exp ((_ : EReal) - _) = _
  congr 3
  funext a; fin_cases a <;> rfl

theorem sum_read (b h : Fin 2) (g : Fin 4) (t : Fin 16384) (k : Fin 16640) :
    (val_main_v32 (F := Ideal) x0 x1 x2 x5 (ix5 b h g t k) : EReal)
      = (∑ i : Fin 16640, (val_main_v25 (F := Ideal) x0 x1 x2 x5 (ix5 b h g t i) : EReal))
        + Ideal.exp (x5 (ix1 (qHead h g)) - (val_main_v22 (F := Ideal) x0 x1 x2 x5 (ix5 b h g t (0 : Fin 1)) : EReal)) := by
  rw [val_main_v32_apply]
  have e : (idx_main_v32 (ix5 b h g t k) : S2x2x4x16384x1.Idx) = ix5 b h g t (0 : Fin 1) := by funext a; fin_cases a <;> rfl
  rw [e, val_main_v31_apply, val_main_v27_apply, val_main_v26_apply, val_main_cst_3_apply, val_main_v30_apply, val_main_v29_apply,
    (sink_read x5 b h g t _ rfl).2]
  show (Ideal.ofBits .f32 0x00000000#32 + _) + Ideal.exp ((_ : EReal) - _) = (_ : EReal)
  rw [Ideal.ofBits_zero_f32, zero_add]
  refine add_two (Finset.sum_congr rfl fun i _ => congrArg (val_main_v25 (F := Ideal) x0 x1 x2 x5) ?_) rfl
  funext a; fin_cases a <;> rfl

/-- The reference's result, the scores being `X` and `C` and the sink `σ`. -/
theorem out_read (b h : Fin 2) (g : Fin 4) (r : Fin 64) (t : Fin 16384) (X : Fin 16384 → ℝ) (C : Fin 256 → ℝ) (σ : ℝ)
    (hX : ∀ k : Fin 16384, (∑ d : Fin 64, x0 (ix4 b (qHead h g) t d) * x1 (ix4 b h k d)) * Ideal.ofBits .f32 0x3E000000#32 = ((X k : ℝ) : EReal))
    (hC : ∀ k : Fin 256, (∑ d : Fin 64, x0 (ix4 b (qHead h g) t d) * x2 (ix4 b h k d)) * Ideal.ofBits .f32 0x3E000000#32 = ((C k : ℝ) : EReal))
    (hσ : (x5 (ix1 (qHead h g)) : EReal) = (σ : EReal)) :
    ∃ M : ℝ, (val_main_v40 (F := Ideal) x0 x1 x2 x3 x4 x5 (ix4 b (qHead h g) r t) : EReal)
      = (∑ k, Ideal.div (Ideal.exp ((if ok t.val k then ((X k : ℝ) : EReal) else ⊥) - (M : EReal)))
            ((∑ i, Ideal.exp ((if ok t.val i then ((X i : ℝ) : EReal) else ⊥) - (M : EReal)))
              + (∑ j, Ideal.exp (((C j : ℝ) : EReal) - (M : EReal))) + Ideal.exp ((σ : EReal) - (M : EReal))) * x3 (ix4 b h k r))
        + ∑ j, Ideal.div (Ideal.exp (((C j : ℝ) : EReal) - (M : EReal)))
            ((∑ i, Ideal.exp ((if ok t.val i then ((X i : ℝ) : EReal) else ⊥) - (M : EReal)))
              + (∑ j, Ideal.exp (((C j : ℝ) : EReal) - (M : EReal))) + Ideal.exp ((σ : EReal) - (M : EReal))) * x4 (ix4 b h j r) := by
  have h1 : ∀ k : Fin 16384, (val_main_v17 (F := Ideal) x0 x1 x2 (ix5 b h g t (imageK k)) : EReal) = if ok t.val k then ((X k : ℝ) : EReal) else ⊥ :=
    fun k => by rw [joined_image, image_read, hX]
  have h2 : ∀ k : Fin 256, (val_main_v17 (F := Ideal) x0 x1 x2 (ix5 b h g t (contextK k)) : EReal) = ((C k : ℝ) : EReal) :=
    fun k => by rw [joined_context, context_read, hC]
  obtain ⟨M, hM⟩ := max_read x0 x1 x2 x5 b h g t σ hσ fun k => by
    by_cases hk : k.val < 16384
    · have e : k = imageK ⟨k.val, hk⟩ := rfl
      rw [e, h1]
      split
      · exact EReal.coe_ne_top _
      · exact bot_ne_top
    · have e : k = contextK ⟨k.val - 16384, by omega⟩ := Fin.ext (by show k.val = 16384 + (k.val - 16384); omega)
      rw [e, h2]
      exact EReal.coe_ne_top _
  have e1 : ∀ k : Fin 16384, (val_main_v25 (F := Ideal) x0 x1 x2 x5 (ix5 b h g t (imageK k)) : EReal)
      = Ideal.exp ((if ok t.val k then ((X k : ℝ) : EReal) else ⊥) - (M : EReal)) := fun k => by
    rw [exp_read, hM, h1]
  have e2 : ∀ k : Fin 256, (val_main_v25 (F := Ideal) x0 x1 x2 x5 (ix5 b h g t (contextK k)) : EReal)
      = Ideal.exp (((C k : ℝ) : EReal) - (M : EReal)) := fun k => by
    rw [exp_read, hM, h2]
  have hD : ∀ k : Fin 16640, (val_main_v32 (F := Ideal) x0 x1 x2 x5 (ix5 b h g t k) : EReal)
      = (∑ i, Ideal.exp ((if ok t.val i then ((X i : ℝ) : EReal) else ⊥) - (M : EReal)))
              + (∑ j, Ideal.exp (((C j : ℝ) : EReal) - (M : EReal))) + Ideal.exp ((σ : EReal) - (M : EReal)) := fun k => by
    rw [sum_read, hM, hσ, sum_split]
    exact add_two (add_two (Finset.sum_congr rfl fun i _ => e1 i) (Finset.sum_congr rfl fun i _ => e2 i)) rfl
  refine ⟨M, ?_⟩
  rw [val_main_v40_apply, val_main_v39_apply, out_ix, val_main_v38_apply, val_main_v35_apply, val_main_v37_apply]
  show (_ : EReal) + _ = _
  refine add_two (Finset.sum_congr rfl fun k _ => ?_) (Finset.sum_congr rfl fun k _ => ?_)
  · have el : idx_main_v34 (lidx_main_v35 (ix5 b h g t r) k) = ix5 b h g t (imageK k) := by funext a; fin_cases a <;> rfl
    have er : ridx_main_v35 (ix5 b h g t r) k = ix4 b h k r := by funext a; fin_cases a <;> rfl
    rw [er, val_main_v34_apply, el, val_main_v33_apply, ← e1 k, ← hD (imageK k)]
    rfl
  · have el : idx_main_v36 (lidx_main_v37 (ix5 b h g t r) k) = ix5 b h g t (contextK k) := by
      funext a; apply Fin.ext; fin_cases a <;> simp [contextK]
    have er : ridx_main_v37 (ix5 b h g t r) k = ix4 b h k r := by funext a; fin_cases a <;> rfl
    rw [er, val_main_v36_apply, el, val_main_v33_apply, ← e2 k, ← hD (contextK k)]
    rfl

end Cert.RefAt4
end
-- ==== Proof.Tile4.lean ====
module

public import proofs.«01_k».proof.Proof.Win4
public import proofs.«01_k».proof.Proof.Band
public import proofs.«01_k».proof.Proof.Ref4

/-! One entry of the windowed tile is the softmax over the window, the context and the sink. -/

@[expose] public section

set_option maxRecDepth 16384

noncomputable section

namespace Cert.Kernel4Ideal.Win

open Idealize.ShloMosaic Idealize.ShloMosaic.TcCoe Idealize.ShloMosaic.Tactic
open Cert.Kernel4Ideal.Gen

/-- Scaling the query to base two scales the score. -/
theorem score_base_two (qr kr : Fin 64 → ℝ) (κ : ℝ) :
    (∑ d : Fin 64, ((kr d : ℝ) : EReal) * Ideal.div (((qr d : ℝ) : EReal) * ((κ : ℝ) : EReal)) (Ideal.log ((2 : ℝ) : EReal)))
      = (((∑ d, qr d * kr d) * κ / Real.log 2 : ℝ) : EReal) := by
  have hl : Ideal.log ((2 : ℝ) : EReal) = ((Real.log 2 : ℝ) : EReal) := by
    rw [Ideal.log_coe, if_neg (by norm_num)]
  simp only [hl, Soft.div_coe_pos _ Soft.log_two_pos, ← EReal.coe_mul]
  rw [Soft.coe_sum, Finset.sum_mul, Finset.sum_div]
  congr 1
  refine Finset.sum_congr rfl fun d _ => ?_
  rw [div_eq_mul_inv]; ring

theorem score_base_e (qr kr : Fin 64 → ℝ) (κ : ℝ) :
    (∑ d : Fin 64, ((qr d : ℝ) : EReal) * ((kr d : ℝ) : EReal)) * ((κ : ℝ) : EReal) = (((∑ d, qr d * kr d) * κ : ℝ) : EReal) := by
  simp only [← EReal.coe_mul]
  rw [Soft.coe_sum, ← EReal.coe_mul]

theorem sink_base_two (σ : ℝ) : Ideal.div ((σ : ℝ) : EReal) (Ideal.log ((2 : ℝ) : EReal)) = ((σ / Real.log 2 : ℝ) : EReal) := by
  have hl : Ideal.log ((2 : ℝ) : EReal) = ((Real.log 2 : ℝ) : EReal) := by
    rw [Ideal.log_coe, if_neg (by norm_num)]
  rw [hl, Soft.div_coe_pos _ Soft.log_two_pos, ← EReal.coe_mul, div_eq_mul_inv]

theorem outRow_softmax (n : ℕ) (ok : Fin 16384 → Prop) [DecidablePred ok] (hok : ∀ k, ok k → n ≤ k.val + 128 ∧ k.val + 128 < n + 512)
    (X : Fin 16384 → ℝ) (V : Fin 16384 → EReal) (C : Fin 256 → ℝ) (U : Fin 256 → EReal) (σ : ℝ)
    (s v o : Fin 512 → EReal) (s' v' o' : Fin 256 → EReal) (z : EReal)
    (h : ∀ r : Fin 512, (∃ k : Fin 16384, k.val + 128 = n + r.val ∧ ok k ∧ s r = ((X k / Real.log 2 : ℝ) : EReal) ∧ v r = V k)
      ∨ ((∀ k : Fin 16384, k.val + 128 = n + r.val → ¬ ok k) ∧ s r = ⊥))
    (hs' : ∀ j, s' j = ((C j / Real.log 2 : ℝ) : EReal)) (hv' : ∀ j, v' j = U j) (ho : ∀ r, o r = 1) (ho' : ∀ j, o' j = 1)
    (hz : z = ((σ / Real.log 2 : ℝ) : EReal)) (M' : ℝ) :
    outRow s s' z v v' o o'
      = (∑ k, Ideal.div (Ideal.exp ((if ok k then ((X k : ℝ) : EReal) else ⊥) - (M' : EReal)))
            (∑ k, Ideal.exp ((if ok k then ((X k : ℝ) : EReal) else ⊥) - (M' : EReal)) + ∑ j, Ideal.exp ((C j : EReal) - (M' : EReal))
              + Ideal.exp ((σ : EReal) - (M' : EReal))) * V k)
        + ∑ j, Ideal.div (Ideal.exp ((C j : EReal) - (M' : EReal)))
            (∑ k, Ideal.exp ((if ok k then ((X k : ℝ) : EReal) else ⊥) - (M' : EReal)) + ∑ j, Ideal.exp ((C j : EReal) - (M' : EReal))
              + Ideal.exp ((σ : EReal) - (M' : EReal))) * U j := by
  obtain rfl : s' = fun j => ((C j / Real.log 2 : ℝ) : EReal) := funext hs'
  obtain rfl : v' = U := funext hv'
  obtain rfl : o = fun _ => 1 := funext ho
  obtain rfl : o' = fun _ => 1 := funext ho'
  subst hz
  have hs : ∀ r, s r ≠ ⊤ := fun r => by
    rcases h r with ⟨k, _, _, e, _⟩ | ⟨_, e⟩
    · rw [e]; exact EReal.coe_ne_top _
    · rw [e]; exact bot_ne_top
  obtain ⟨M, hM⟩ : ∃ M : ℝ, top s (fun j => ((C j / Real.log 2 : ℝ) : EReal)) ((σ / Real.log 2 : ℝ) : EReal) = (M : EReal) :=
    Cert.RefAt4.max_real _ (ne_of_lt (max_lt (lt_top_iff_ne_top.2 (Cert.RefAt4.fold_ne_top _ _ hs))
      (lt_top_iff_ne_top.2 (Cert.RefAt4.fold_ne_top _ _ fun j => EReal.coe_ne_top _)))) _
  unfold outRow
  rw [hM]
  simp only [one_mul]
  exact Cert.Band.quotient n ok hok X V C v' σ s v h M M'

end Cert.Kernel4Ideal.Win
end
-- ==== Proof.Result4.lean ====
module

public import proofs.«01_k».proof.Proof.Tile4
public import proofs.«01_k».proof.Proof.Gen.Kernel4Ideal.Value
public import Idealize.ShloMosaic.Lib.Claim
public import Idealize.ShloMosaic.Lib.IdealHost

/-! The windowed call's result is the reference's value, wherever the queries, the keys and the sinks are real. -/

@[expose] public section

set_option maxRecDepth 16384

noncomputable section

namespace Cert.Kernel4Ideal.Win

open Idealize.ShloMosaic Idealize.ShloMosaic.TcCoe Idealize.ShloMosaic.Tactic
open Cert.Kernel4Ideal.Gen

variable (m : (ℓ : Loc nD τ sig) → Buf (Elt Ideal) ℓ) (c : Dev nD)

/-! The blocks of a point. -/

theorem idx0 : ∀ t : Fin cfg0.N, win0_0.index t = ![t.val / 64 % 2, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 128, t.val / 64 % 2, 0, t.val % 64] := (by decide +kernel : ∀ t : Fin grid0.N, _)
theorem idx3 : ∀ t : Fin cfg0.N, win0_3.index t = ![t.val / 128, t.val / 64 % 2, (t.val % 64 - 1), 0] := (by decide +kernel : ∀ t : Fin grid0.N, _)
theorem idx4 : ∀ t : Fin cfg0.N, win0_4.index t = ![t.val / 128, t.val / 64 % 2, t.val % 64, 0] := (by decide +kernel : ∀ t : Fin grid0.N, _)
theorem idx5 : ∀ t : Fin cfg0.N, win0_5.index t = ![t.val / 128, t.val / 64 % 2, min (t.val % 64 + 1) 63, 0] := (by decide +kernel : ∀ t : Fin grid0.N, _)
theorem idx6 : ∀ t : Fin cfg0.N, win0_6.index t = ![t.val / 128, t.val / 64 % 2, 64, 0] := (by decide +kernel : ∀ t : Fin grid0.N, _)
theorem idx7 : ∀ t : Fin cfg0.N, win0_7.index t = ![t.val / 128, t.val / 64 % 2, 0, (t.val % 64 - 1)] := (by decide +kernel : ∀ t : Fin grid0.N, _)
theorem idx8 : ∀ t : Fin cfg0.N, win0_8.index t = ![t.val / 128, t.val / 64 % 2, 0, t.val % 64] := (by decide +kernel : ∀ t : Fin grid0.N, _)
theorem idx9 : ∀ t : Fin cfg0.N, win0_9.index t = ![t.val / 128, t.val / 64 % 2, 0, min (t.val % 64 + 1) 63] := (by decide +kernel : ∀ t : Fin grid0.N, _)
theorem idx10 : ∀ t : Fin cfg0.N, win0_10.index t = ![t.val / 128, t.val / 64 % 2, 0, 64] := (by decide +kernel : ∀ t : Fin grid0.N, _)
theorem idx11 : ∀ t : Fin cfg0.N, win0_11.index t = ![t.val / 128, t.val / 64 % 2, 0, t.val % 64] := (by decide +kernel : ∀ t : Fin grid0.N, _)
theorem tile_of : ∀ t : Fin cfg0.N, (grid0.coords t 2).val = t.val % 64 := (by decide +kernel : ∀ t : Fin grid0.N, _)

theorem blk0 (t : Fin cfg0.N) (y : S4x1x128.Idx) (z : S8x1x128.Idx)
    (h0 : (z 0).val = (t.val / 64 % 2) * 4 + (y 0).val)
    (h1 : (z 1).val = (y 1).val)
    (h2 : (z 2).val = (y 2).val) :
    iblk m c 0 t y = V m c main_v25 z := by
  have e := idx0 t
  blk_simp [iblk]
  congr 1
  funext a; apply Fin.ext
  fin_cases a
  all_goals (blk_simp [e]; try (simp at *; try omega))

theorem blk1 (t : Fin cfg0.N) (y : S512x1024.Idx) (z : S512x1024.Idx)
    (h0 : (z 0).val = (y 0).val)
    (h1 : (z 1).val = (y 1).val) :
    iblk m c 1 t y = V m c main_v41 z := by
  have e := idx1 t
  blk_simp [iblk]
  congr 1
  funext a; apply Fin.ext
  fin_cases a
  all_goals (blk_simp [e]; try (simp at *; try omega))

theorem blk2 (t : Fin cfg0.N) (y : S1x4x64x256.Idx) (z : S2x8x64x16640.Idx)
    (h0 : (z 0).val = (t.val / 128) * 1 + (y 0).val)
    (h1 : (z 1).val = (t.val / 64 % 2) * 4 + (y 1).val)
    (h2 : (z 2).val = (y 2).val)
    (h3 : (z 3).val = (t.val % 64) * 256 + (y 3).val) :
    iblk m c 2 t y = V m c main_v26 z := by
  have e := idx2 t
  blk_simp [iblk]
  congr 1
  funext a; apply Fin.ext
  fin_cases a
  all_goals (blk_simp [e]; simp at *; omega)

theorem blk3 (t : Fin cfg0.N) (y : S1x1x256x64.Idx) (z : S2x4x16640x64.Idx)
    (h0 : (z 0).val = (t.val / 128) * 1 + (y 0).val)
    (h1 : (z 1).val = (t.val / 64 % 2) * 1 + (y 1).val)
    (h2 : (z 2).val = (t.val % 64 - 1) * 256 + (y 2).val)
    (h3 : (z 3).val = (y 3).val) :
    iblk m c 3 t y = V m c main_v10 z := by
  have e := idx3 t
  blk_simp [iblk]
  congr 1
  funext a; apply Fin.ext
  fin_cases a
  all_goals (blk_simp [e]; simp at *; omega)

theorem blk4 (t : Fin cfg0.N) (y : S1x1x256x64.Idx) (z : S2x4x16640x64.Idx)
    (h0 : (z 0).val = (t.val / 128) * 1 + (y 0).val)
    (h1 : (z 1).val = (t.val / 64 % 2) * 1 + (y 1).val)
    (h2 : (z 2).val = (t.val % 64) * 256 + (y 2).val)
    (h3 : (z 3).val = (y 3).val) :
    iblk m c 4 t y = V m c main_v10 z := by
  have e := idx4 t
  blk_simp [iblk]
  congr 1
  funext a; apply Fin.ext
  fin_cases a
  all_goals (blk_simp [e]; simp at *; omega)

theorem blk5 (t : Fin cfg0.N) (y : S1x1x256x64.Idx) (z : S2x4x16640x64.Idx)
    (h0 : (z 0).val = (t.val / 128) * 1 + (y 0).val)
    (h1 : (z 1).val = (t.val / 64 % 2) * 1 + (y 1).val)
    (h2 : (z 2).val = (min (t.val % 64 + 1) 63) * 256 + (y 2).val)
    (h3 : (z 3).val = (y 3).val) :
    iblk m c 5 t y = V m c main_v10 z := by
  have e := idx5 t
  blk_simp [iblk]
  congr 1
  funext a; apply Fin.ext
  fin_cases a
  all_goals (blk_simp [e]; simp at *; omega)

theorem blk6 (t : Fin cfg0.N) (y : S1x1x256x64.Idx) (z : S2x4x16640x64.Idx)
    (h0 : (z 0).val = (t.val / 128) * 1 + (y 0).val)
    (h1 : (z 1).val = (t.val / 64 % 2) * 1 + (y 1).val)
    (h2 : (z 2).val = 64 * 256 + (y 2).val)
    (h3 : (z 3).val = (y 3).val) :
    iblk m c 6 t y = V m c main_v10 z := by
  have e := idx6 t
  blk_simp [iblk]
  congr 1
  funext a; apply Fin.ext
  fin_cases a
  all_goals (blk_simp [e]; simp at *; omega)

theorem blk7 (t : Fin cfg0.N) (y : S1x1x80x256.Idx) (z : S2x2x80x16640.Idx)
    (h0 : (z 0).val = (t.val / 128) * 1 + (y 0).val)
    (h1 : (z 1).val = (t.val / 64 % 2) * 1 + (y 1).val)
    (h2 : (z 2).val = (y 2).val)
    (h3 : (z 3).val = (t.val % 64 - 1) * 256 + (y 3).val) :
    iblk m c 7 t y = V m c main_v20 z := by
  have e := idx7 t
  blk_simp [iblk]
  congr 1
  funext a; apply Fin.ext
  fin_cases a
  all_goals (blk_simp [e]; simp at *; omega)

theorem blk8 (t : Fin cfg0.N) (y : S1x1x80x256.Idx) (z : S2x2x80x16640.Idx)
    (h0 : (z 0).val = (t.val / 128) * 1 + (y 0).val)
    (h1 : (z 1).val = (t.val / 64 % 2) * 1 + (y 1).val)
    (h2 : (z 2).val = (y 2).val)
    (h3 : (z 3).val = (t.val % 64) * 256 + (y 3).val) :
    iblk m c 8 t y = V m c main_v20 z := by
  have e := idx8 t
  blk_simp [iblk]
  congr 1
  funext a; apply Fin.ext
  fin_cases a
  all_goals (blk_simp [e]; simp at *; omega)

theorem blk9 (t : Fin cfg0.N) (y : S1x1x80x256.Idx) (z : S2x2x80x16640.Idx)
    (h0 : (z 0).val = (t.val / 128) * 1 + (y 0).val)
    (h1 : (z 1).val = (t.val / 64 % 2) * 1 + (y 1).val)
    (h2 : (z 2).val = (y 2).val)
    (h3 : (z 3).val = (min (t.val % 64 + 1) 63) * 256 + (y 3).val) :
    iblk m c 9 t y = V m c main_v20 z := by
  have e := idx9 t
  blk_simp [iblk]
  congr 1
  funext a; apply Fin.ext
  fin_cases a
  all_goals (blk_simp [e]; simp at *; omega)

theorem blk10 (t : Fin cfg0.N) (y : S1x1x80x256.Idx) (z : S2x2x80x16640.Idx)
    (h0 : (z 0).val = (t.val / 128) * 1 + (y 0).val)
    (h1 : (z 1).val = (t.val / 64 % 2) * 1 + (y 1).val)
    (h2 : (z 2).val = (y 2).val)
    (h3 : (z 3).val = 64 * 256 + (y 3).val) :
    iblk m c 10 t y = V m c main_v20 z := by
  have e := idx10 t
  blk_simp [iblk]
  congr 1
  funext a; apply Fin.ext
  fin_cases a
  all_goals (blk_simp [e]; simp at *; omega)

theorem emb_out (t : Fin cfg0.N) (y : S1x4x64x256.Idx) (z : S2x8x64x16384.Idx)
    (h0 : (z 0).val = (t.val / 128) * 1 + (y 0).val) (h1 : (z 1).val = (t.val / 64 % 2) * 4 + (y 1).val)
    (h2 : (z 2).val = (y 2).val) (h3 : (z 3).val = (t.val % 64) * 256 + (y 3).val) :
    ((win0_11.blk t).view.emb y : S2x8x64x16384.Idx) = z := by
  have e := idx11 t
  funext a; apply Fin.ext
  fin_cases a
  all_goals (blk_simp [e]; simp at *; omega)

theorem first_word : ∀ i : Fin 64, BitVec.ofNat 32 i.val = 0#32 ↔ i.val = 0 := by decide
theorem last_word : ∀ i : Fin 64, BitVec.ofNat 32 i.val = 63#32 ↔ i.val = 63 := by decide

/-- A row of the band is a key of the image, or lies outside it and is masked. -/
theorem band_row (t : Fin cfg0.N) (b h : Fin 2) (hb : b.val = t.val / 128) (hh : h.val = t.val / 64 % 2) (i : Fin 64) (hi : i.val = t.val % 64)
    (l : Fin 1024) (r : Fin 512) :
    (∃ k : Fin 16384, k.val + 128 = 256 * i.val + r.val
        ∧ (∀ d, bandKey (iblk m c 3 t) (iblk m c 4 t) (iblk m c 5 t) r d = arg1 m c (ix4 b h k d))
        ∧ (∀ d : Fin 64, bandVal (iblk m c 7 t) (iblk m c 8 t) (iblk m c 9 t) (⟨d.val, by omega⟩ : Fin 80) r = arg3 m c (ix4 b h k d))
        ∧ bandMask (BitVec.ofNat 32 i.val) (iblk m c 1 t) r l = V m c main_v41 (ix2 r l))
      ∨ ((∀ k : Fin 16384, k.val + 128 ≠ 256 * i.val + r.val) ∧ bandMask (BitVec.ofNat 32 i.val) (iblk m c 1 t) r l = ⊥) := by
  have ht : t.val < 256 := t.isLt
  have hm : iblk m c 1 t (ix2 r l) = V m c main_v41 (ix2 r l) := blk1 m c t _ _ rfl rfl
  have hr := r.isLt
  have hi' := i.isLt
  unfold bandKey bandVal bandMask
  rw [hm]
  by_cases h1 : r.val < 128
  · simp only [dif_pos h1, if_pos h1]
    by_cases h0 : i.val = 0
    · right
      refine ⟨fun k => by omega, ?_⟩
      rw [if_pos ((first_word i).2 h0)]; exact EReal.add_bot _
    · left
      refine ⟨⟨256 * i.val + r.val - 128, by omega⟩, by show 256 * i.val + r.val - 128 + 128 = _; omega, fun d => ?_, fun d => ?_, ?_⟩
      · rw [blk3 m c t _ (ix4 b (⟨h.val, by omega⟩ : Fin 4) (⟨256 * i.val + r.val - 128, by omega⟩ : Fin 16640) d)
          (by show b.val = t.val / 128 * 1 + 0; omega) (by show h.val = t.val / 64 % 2 * 1 + 0; omega)
          (by show 256 * i.val + r.val - 128 = (t.val % 64 - 1) * 256 + (128 + r.val); omega) rfl, keys_in]
        exact dif_pos _
      · rw [blk7 m c t _ (ix4 b h (⟨d.val, by omega⟩ : Fin 80) (⟨256 * i.val + r.val - 128, by omega⟩ : Fin 16640))
          (by show b.val = t.val / 128 * 1 + 0; omega) (by show h.val = t.val / 64 % 2 * 1 + 0; omega) rfl
          (by show 256 * i.val + r.val - 128 = (t.val % 64 - 1) * 256 + (128 + r.val); omega), values_in]
        exact dif_pos _
      · rw [if_neg fun e => h0 ((first_word i).1 e)]; exact add_zero _
  · by_cases h2 : r.val < 384
    · simp only [dif_neg h1, if_neg h1, dif_pos h2, if_pos h2]
      left
      refine ⟨⟨256 * i.val + r.val - 128, by omega⟩, by show 256 * i.val + r.val - 128 + 128 = _; omega, fun d => ?_, fun d => ?_, trivial⟩
      · rw [blk4 m c t _ (ix4 b (⟨h.val, by omega⟩ : Fin 4) (⟨256 * i.val + r.val - 128, by omega⟩ : Fin 16640) d)
          (by show b.val = t.val / 128 * 1 + 0; omega) (by show h.val = t.val / 64 % 2 * 1 + 0; omega)
          (by show 256 * i.val + r.val - 128 = t.val % 64 * 256 + (r.val - 128); omega) rfl, keys_in]
        exact dif_pos _
      · rw [blk8 m c t _ (ix4 b h (⟨d.val, by omega⟩ : Fin 80) (⟨256 * i.val + r.val - 128, by omega⟩ : Fin 16640))
          (by show b.val = t.val / 128 * 1 + 0; omega) (by show h.val = t.val / 64 % 2 * 1 + 0; omega) rfl
          (by show 256 * i.val + r.val - 128 = t.val % 64 * 256 + (r.val - 128); omega), values_in]
        exact dif_pos _
    · simp only [dif_neg h1, if_neg h1, dif_neg h2, if_neg h2]
      by_cases h0 : i.val = 63
      · right
        refine ⟨fun k => by omega, ?_⟩
        rw [if_pos ((last_word i).2 h0)]; exact EReal.add_bot _
      · left
        refine ⟨⟨256 * i.val + r.val - 128, by omega⟩, by show 256 * i.val + r.val - 128 + 128 = _; omega, fun d => ?_, fun d => ?_, ?_⟩
        · rw [blk5 m c t _ (ix4 b (⟨h.val, by omega⟩ : Fin 4) (⟨256 * i.val + r.val - 128, by omega⟩ : Fin 16640) d)
            (by show b.val = t.val / 128 * 1 + 0; omega) (by show h.val = t.val / 64 % 2 * 1 + 0; omega)
            (by show 256 * i.val + r.val - 128 = min (t.val % 64 + 1) 63 * 256 + (r.val - 384); omega) rfl, keys_in]
          exact dif_pos _
        · rw [blk9 m c t _ (ix4 b h (⟨d.val, by omega⟩ : Fin 80) (⟨256 * i.val + r.val - 128, by omega⟩ : Fin 16640))
            (by show b.val = t.val / 128 * 1 + 0; omega) (by show h.val = t.val / 64 % 2 * 1 + 0; omega) rfl
            (by show 256 * i.val + r.val - 128 = min (t.val % 64 + 1) 63 * 256 + (r.val - 384); omega), values_in]
          exact dif_pos _
        · rw [if_neg fun e => h0 ((last_word i).1 e)]; exact add_zero _

theorem band_ones (t : Fin cfg0.N) (b h : Fin 2) (hb : b.val = t.val / 128) (hh : h.val = t.val / 64 % 2) (r : Fin 512) :
    bandVal (iblk m c 7 t) (iblk m c 8 t) (iblk m c 9 t) (64 : Fin 80) r = (1 : EReal) := by
  have ht : t.val < 256 := t.isLt
  have hr := r.isLt
  unfold bandVal
  by_cases h1 : r.val < 128
  · simp only [dif_pos h1]
    rw [blk7 m c t _ (ix4 b h (64 : Fin 80) (⟨(t.val % 64 - 1) * 256 + (128 + r.val), by omega⟩ : Fin 16640))
      (by show b.val = t.val / 128 * 1 + 0; omega) (by show h.val = t.val / 64 % 2 * 1 + 0; omega) rfl rfl, ones_in]
  · by_cases h2 : r.val < 384
    · simp only [dif_neg h1, dif_pos h2]
      rw [blk8 m c t _ (ix4 b h (64 : Fin 80) (⟨t.val % 64 * 256 + (r.val - 128), by omega⟩ : Fin 16640))
        (by show b.val = t.val / 128 * 1 + 0; omega) (by show h.val = t.val / 64 % 2 * 1 + 0; omega) rfl rfl, ones_in]
    · simp only [dif_neg h1, dif_neg h2]
      rw [blk9 m c t _ (ix4 b h (64 : Fin 80) (⟨min (t.val % 64 + 1) 63 * 256 + (r.val - 384), by omega⟩ : Fin 16640))
        (by show b.val = t.val / 128 * 1 + 0; omega) (by show h.val = t.val / 64 % 2 * 1 + 0; omega) rfl rfl, ones_in]

/-- The tile of a point. -/
abbrev tileOut (t : Fin cfg0.N) : Vec Ideal S1x4x64x256 .f32 :=
  out0_11 (grid0.coords t) (iblk m c 0 t) (iblk m c 1 t) (iblk m c 2 t) (iblk m c 3 t) (iblk m c 4 t) (iblk m c 5 t) (iblk m c 6 t) (iblk m c 7 t)
    (iblk m c 8 t) (iblk m c 9 t) (iblk m c 10 t)

theorem tile_eq (hq : ∀ i, ∃ r : ℝ, arg0 m c i = (r : EReal)) (hk : ∀ i, ∃ r : ℝ, arg1 m c i = (r : EReal))
    (hk' : ∀ i, ∃ r : ℝ, arg2 m c i = (r : EReal)) (hz : ∀ i, ∃ r : ℝ, arg5 m c i = (r : EReal))
    (t : Fin cfg0.N) (b h : Fin 2) (hb : b.val = t.val / 128) (hh : h.val = t.val / 64 % 2) (i : Fin 64) (hi : i.val = t.val % 64)
    (g : Fin 4) (d : Fin 64) (q : Fin 256) (T : Fin 16384) (hT : T.val = 256 * i.val + q.val) :
    tileOut m c t (ix4 (0 : Fin 1) g d q)
      = Reference4Ideal.Read.val_main_v40 (F := Ideal) (arg0 m c) (arg1 m c) (arg2 m c) (arg3 m c) (arg4 m c) (arg5 m c)
          (ix4 b (Cert.RefAt4.qHead h g) d T) := by
  have ht : t.val < 256 := t.isLt
  have hq' := q.isLt
  have hg := g.isLt
  obtain ⟨κ, hκ⟩ := ofBits_scale
  choose qr hqr using hq
  choose kr hkr using hk
  choose cr hcr using hk'
  choose zr hzr using hz
  obtain ⟨M, hM⟩ := Cert.RefAt4.out_read (arg0 m c) (arg1 m c) (arg2 m c) (arg3 m c) (arg4 m c) (arg5 m c) b h g d T
    (fun k => (∑ e, qr (ix4 b (Cert.RefAt4.qHead h g) T e) * kr (ix4 b h k e)) * κ)
    (fun k => (∑ e, qr (ix4 b (Cert.RefAt4.qHead h g) T e) * cr (ix4 b h k e)) * κ)
    (zr (ix1 (Cert.RefAt4.qHead h g)))
    (fun k => by
      rw [hκ, ← score_base_e]
      exact congrArg (fun x : EReal => x * _) (Finset.sum_congr rfl fun e _ => congr (congrArg HMul.hMul (hqr _)) (hkr _)))
    (fun k => by
      rw [hκ, ← score_base_e]
      exact congrArg (fun x : EReal => x * _) (Finset.sum_congr rfl fun e _ => congr (congrArg HMul.hMul (hqr _)) (hcr _)))
    (hzr _)
  rw [hM]
  have hquery : ∀ e : Fin 64, iblk m c 2 t (ix4 (0 : Fin 1) g e q)
      = Ideal.div (((qr (ix4 b (Cert.RefAt4.qHead h g) T e) : ℝ) : EReal) * ((κ : ℝ) : EReal)) (Ideal.log ((2 : ℝ) : EReal)) := fun e => by
    rw [blk2 m c t _ (ix4 b (Cert.RefAt4.qHead h g) e (⟨T.val, by omega⟩ : Fin 16640)) (by show b.val = t.val / 128 * 1 + 0; omega)
      (by show 4 * h.val + g.val = t.val / 64 % 2 * 4 + g.val; omega) rfl (by show T.val = t.val % 64 * 256 + q.val; omega),
      queries_in m c _ _ _ T.isLt e, hκ, ofBits_two]
    exact congrArg (fun x : EReal => Ideal.div (x * _) _) (hqr _)
  have hcoord : BitVec.ofNat 32 (grid0.coords t 2).val = BitVec.ofNat 32 i.val := by rw [tile_of, hi]
  refine (out_apply _ _ _ _ _ _ _ _ _ _ _ _ g d q).trans ?_
  rw [hcoord]
  refine outRow_softmax (256 * i.val) (Cert.RefAt4.ok T.val) (fun k hk => ?_) _ (fun k => arg3 m c (ix4 b h k d)) _ (fun k => arg4 m c (ix4 b h k d)) _
    _ _ _ _ _ _ _ (fun r => ?_) (fun j => ?_) (fun j => ?_) (fun r => ?_) (fun j => ?_) ?_ M
  · obtain ⟨h1, h2⟩ := hk
    constructor <;> omega
  · rcases band_row m c t b h hb hh i hi (lane g q) r with ⟨k, hkr', hkey, hval, hmask⟩ | ⟨hno, hmask⟩
    · have hl : (lane g q).val % 256 = q.val := by show (256 * g.val + q.val) % 256 = q.val; omega
      rw [mask_in, hl] at hmask
      by_cases hw : q.val ≤ r.val ∧ r.val ≤ q.val + 256
      · left
        refine ⟨k, hkr', by constructor <;> omega, ?_, hval d⟩
        unfold bandScore
        rw [hmask, if_pos hw, add_zero, ← score_base_two]
        refine Finset.sum_congr rfl fun e _ => ?_
        rw [hkey, hquery]
        exact congrArg (fun x : EReal => x * _) (hkr _)
      · right
        refine ⟨fun k' hk' hok => hw ?_, ?_⟩
        · obtain ⟨h1, h2⟩ := hok
          constructor <;> omega
        · unfold bandScore
          rw [hmask, if_neg hw]; exact EReal.add_bot _
    · right
      refine ⟨fun k hk => absurd hk (hno k), ?_⟩
      unfold bandScore
      rw [hmask]; exact EReal.add_bot _
  · unfold ctxScore
    rw [← score_base_two]
    refine Finset.sum_congr rfl fun e _ => ?_
    rw [hquery, blk6 m c t _ (ix4 b (⟨h.val, by omega⟩ : Fin 4) (⟨16384 + j.val, by omega⟩ : Fin 16640) e)
      (by show b.val = t.val / 128 * 1 + 0; omega) (by show h.val = t.val / 64 % 2 * 1 + 0; omega) rfl rfl, keys_in]
    refine congrArg (fun x : EReal => x * _) ((dif_neg (by show ¬ 16384 + j.val < 16384; omega)).trans ?_)
    have e1 : (⟨16384 + j.val - 16384, by omega⟩ : Fin 256) = j := Fin.ext (by show 16384 + j.val - 16384 = j.val; omega)
    exact (congrArg (fun k : Fin 256 => arg2 m c (ix4 b h k e)) e1).trans (hcr _)
  · show iblk m c 10 t _ = _
    rw [blk10 m c t _ (ix4 b h (⟨d.val, by omega⟩ : Fin 80) (⟨16384 + j.val, by omega⟩ : Fin 16640))
      (by show b.val = t.val / 128 * 1 + 0; omega) (by show h.val = t.val / 64 % 2 * 1 + 0; omega) rfl rfl, values_in]
    refine (dif_neg (by show ¬ 16384 + j.val < 16384; omega)).trans ?_
    have e1 : (⟨16384 + j.val - 16384, by omega⟩ : Fin 256) = j := Fin.ext (by show 16384 + j.val - 16384 = j.val; omega)
    exact congrArg (fun k : Fin 256 => arg4 m c (ix4 b h k d)) e1
  · exact band_ones m c t b h hb hh r
  · show iblk m c 10 t _ = _
    rw [blk10 m c t _ (ix4 b h (64 : Fin 80) (⟨16384 + j.val, by omega⟩ : Fin 16640))
      (by show b.val = t.val / 128 * 1 + 0; omega) (by show h.val = t.val / 64 % 2 * 1 + 0; omega) rfl rfl, ones_in]
  · rw [blk0 m c t _ (ix3 (Cert.RefAt4.qHead h g) (0 : Fin 1) (0 : Fin 128)) (by show 4 * h.val + g.val = t.val / 64 % 2 * 4 + g.val; omega) rfl rfl,
      sink_in, ofBits_two, ← sink_base_two]
    exact congrArg (fun x : EReal => Ideal.div x _) (hzr _)

theorem point_eq (hq : ∀ i, ∃ r : ℝ, arg0 m c i = (r : EReal)) (hk : ∀ i, ∃ r : ℝ, arg1 m c i = (r : EReal))
    (hk' : ∀ i, ∃ r : ℝ, arg2 m c i = (r : EReal)) (hz : ∀ i, ∃ r : ℝ, arg5 m c i = (r : EReal)) (t : Fin cfg0.N)
    (g : Fin 4) (d : Fin 64) (q : Fin 256) (z : S2x8x64x16384.Idx) (hzz : (win0_11.blk t).view.emb (ix4 (0 : Fin 1) g d q : S1x4x64x256.Idx) = z) :
    tileOut m c t (ix4 (0 : Fin 1) g d q)
      = Reference4Ideal.Read.val_main_v40 (F := Ideal) (arg0 m c) (arg1 m c) (arg2 m c) (arg3 m c) (arg4 m c) (arg5 m c) z := by
  have ht : t.val < 256 := t.isLt
  have hg := g.isLt
  have hq' := q.isLt
  rw [← hzz, emb_out t (ix4 (0 : Fin 1) g d q)
    (ix4 (⟨t.val / 128, by omega⟩ : Fin 2) (Cert.RefAt4.qHead (⟨t.val / 64 % 2, by omega⟩ : Fin 2) g) d (⟨256 * (t.val % 64) + q.val, by omega⟩ : Fin 16384))
    (by show t.val / 128 = t.val / 128 * 1 + 0; omega) (by show 4 * (t.val / 64 % 2) + g.val = t.val / 64 % 2 * 4 + g.val; omega) rfl
    (by show 256 * (t.val % 64) + q.val = t.val % 64 * 256 + q.val; omega)]
  exact tile_eq m c hq hk hk' hz t (⟨t.val / 128, by omega⟩ : Fin 2) (⟨t.val / 64 % 2, by omega⟩ : Fin 2) rfl rfl
    (⟨t.val % 64, by omega⟩ : Fin 64) rfl g d q (⟨256 * (t.val % 64) + q.val, by omega⟩ : Fin 16384) rfl

theorem result_eq (hq : ∀ i, ∃ r : ℝ, arg0 m c i = (r : EReal)) (hk : ∀ i, ∃ r : ℝ, arg1 m c i = (r : EReal))
    (hk' : ∀ i, ∃ r : ℝ, arg2 m c i = (r : EReal)) (hz : ∀ i, ∃ r : ℝ, arg5 m c i = (r : EReal)) :
    (dats m 0 c).arrAt 11 cfg0.N
      = Reference4Ideal.Read.val_main_v40 (F := Ideal) (arg0 m c) (arg1 m c) (arg2 m c) (arg3 m c) (arg4 m c) (arg5 m c) := by
  refine (dats m 0 c).arrAt_eq_of_covers 11 (Reference4Ideal.Read.val_main_v40 (F := Ideal) (arg0 m c) (arg1 m c) (arg2 m c) (arg3 m c) (arg4 m c) (arg5 m c))
    (by decide +kernel) fun t hf y => ?_
  have hy : (y : S1x4x64x256.Idx) = ix4 (0 : Fin 1) (⟨(y 1).val, (y 1).isLt⟩ : Fin 4) (⟨(y 2).val, (y 2).isLt⟩ : Fin 64) (⟨(y 3).val, (y 3).isLt⟩ : Fin 256) := by
    funext a; fin_cases a
    · exact Fin.ext (Nat.lt_one_iff.1 (y 0).isLt)
    · rfl
    · rfl
    · rfl
  rw [after0_11]
  blk_simp
  rw [show (y : S1x4x64x256.Idx) = _ from hy]
  exact point_eq m c hq hk hk' hz t _ _ _ _ rfl

end Cert.Kernel4Ideal.Win
end
-- ==== Proof.Finite4.lean ====
module

public import proofs.«01_k».proof.Defs
public import proofs.«01_k».proof.Proof.Result4
public import proofs.«01_k».proof.Proof.Finite
public import proofs.«01_k».proof.Proof.Gen.Kernel4.Frame
public import proofs.«01_k».proof.Proof.Gen.Kernel4Ideal.Frame
public import proofs.«01_k».proof.Proof.Gen.Reference4Ideal.Run
public import Idealize.ShloMosaic.Lib.ReduceAll

/-! The claims of the windowed call: its frames, the precondition, which says of every query, key and sink that it is a
real number, and the equality of the two results under it. -/

@[expose] public section

set_option maxRecDepth 16384

noncomputable section

namespace Cert.Finite4

open Idealize.ShloMosaic Idealize.ShloMosaic.TcCoe Idealize.SL.Sem

theorem facts : Cert.Pre_finite4.Facts where
  bcast_S_S2x8x16384x64 := by decide
  reducesTo_S2x8x16384x64_S_d0_1_2_3 := by decide
  h_S_ := by decide
  bcast_S_S2x2x16384x64 := by decide
  reducesTo_S2x2x16384x64_S_d0_1_2_3 := by decide
  bcast_S_S2x2x256x64 := by decide
  reducesTo_S2x2x256x64_S_d0_1_2_3 := by decide
  bcast_S_S8 := by decide
  reducesTo_S8_S_d0 := by decide

instance : Subsingleton Cert.Pre_finite4.S_.Idx := ⟨fun a b => funext fun i => i.elim0⟩

attribute [local instance] facts in
theorem reals (x0 : FVec Ideal Cert.Pre_finite4.S2x8x16384x64 .f32) (x1 : FVec Ideal Cert.Pre_finite4.S2x2x16384x64 .f32)
    (x2 : FVec Ideal Cert.Pre_finite4.S2x2x256x64 .f32) (x3 : FVec Ideal Cert.Pre_finite4.S2x2x16384x64 .f32)
    (x4 : FVec Ideal Cert.Pre_finite4.S2x2x256x64 .f32) (x5 : FVec Ideal Cert.Pre_finite4.S8 .f32)
    (h : Cert.Pre_finite4.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x5 i = (r : EReal)) := by
  have e := congrFun h (fun a => a.elim0)
  obtain ⟨e012, e5⟩ := IntOp.andi_eq_one.1 e
  obtain ⟨e01, e2⟩ := IntOp.andi_eq_one.1 e012
  obtain ⟨e0, e1⟩ := IntOp.andi_eq_one.1 e01
  exact ⟨fun i => Cert.Finite.real_of_abs_lt _ (Host.reduce_andi_all _ _ _ _ _ e0 i), fun i => Cert.Finite.real_of_abs_lt _ (Host.reduce_andi_all _ _ _ _ _ e1 i),
    fun i => Cert.Finite.real_of_abs_lt _ (Host.reduce_andi_all _ _ _ _ _ e2 i), fun i => Cert.Finite.real_of_abs_lt _ (Host.reduce_andi_all _ _ _ _ _ e5 i)⟩

theorem kernel_bits : Cert.quiescent_Kernel4 := fun m ρ _ => Cert.Kernel4.Gen.frame m ρ

theorem kernel_ideal : Cert.quiescent_Kernel4Ideal := fun m ρ _ => Cert.Kernel4Ideal.Gen.frame m ρ

theorem reference_ideal : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

attribute [local instance] Cert.Kernel4.Gen.facts Cert.Kernel4Ideal.Gen.facts Cert.Reference4Ideal.Gen.facts facts in
theorem algebraic : Cert.algebraic_Kernel4Ideal_Reference4Ideal_pre_finite4 := fun m g m' g' hp hm => by
  have hr := fun c => reals _ _ _ _ _ _ (hp c)
  refine ⟨fun c => (Cert.Kernel4Ideal.Gen.dats m 0 c).arrAt 11 Cert.Kernel4Ideal.cfg0.N, ?_, ?_⟩
  · exact (θ_run Cert.Kernel4Ideal.defs _ _).mono (fun r h => h) (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    obtain ⟨h0, h1, h2, h3, h4, h5⟩ := hm c
    rw [Cert.Reference4Ideal.Read.val_main_v40_eq, h0, h1, h2, h3, h4, h5]
    exact
      (Cert.Kernel4Ideal.Win.result_eq m c (hr c).1 (hr c).2.1 (hr c).2.2.1 (hr c).2.2.2).symm

end Cert.Finite4
end
-- ==== Proof.Out5.lean ====
module

public import proofs.«01_k».proof.Proof.Gen.Kernel5Ideal.Value
public import Idealize.ShloMosaic.Lib.Pipeline.ValueKit
public import Idealize.ShloMosaic.Lib.Pointwise

/-! The output projection of the even layer, one block: the differential heads are normalized, and the result is the
residual plus the gate times the sum over the sixteen heads' features. -/

@[expose] public section

set_option maxRecDepth 16384

noncomputable section

namespace Cert.Kernel5Ideal.Out

open Idealize.ShloMosaic Idealize.ShloMosaic.TcCoe Idealize.ShloMosaic.Tactic
open Idealize.SL Idealize.SL.Sem
open Cert.Kernel5Ideal.Gen

/-- A normalized differential head at one feature: the difference of the two maps, over the root of its mean square,
times the feature's weight and the constant factor. -/
def diff (l : EReal) (a b : Fin 64 → EReal) (s : EReal) (d : Fin 64) : EReal :=
  (a d - l * b d)
    * Ideal.rsqrt (Ideal.div (∑ e : Fin 64, (a e - l * b e) * (a e - l * b e)) (Ideal.ofBits .f32 0x42800000#32) + Ideal.ofBits .f32 0x358637BD#32)
    * s * Ideal.ofBits .f32 0x3F4CCCCD#32

/-- One loaded head. -/
def sq (x : Vec Ideal S1x1x64x256 .f32) : FVec Ideal S64x256 .f32 := shapeCast S64x256 x shapeCasts_S1x1x64x256_S64x256

/-- One differential head of a block. -/
def dh (l : FVec Ideal S1x1 .f32) (a b : FVec Ideal S64x256 .f32) (s : Vec Ideal S64x256 .f32) : FVec Ideal S64x256 .f32 :=
  let v24 : FVec Ideal S64x256 .f32 := subf a (mulf (broadcastTo S64x256 l broadcasts_S1x1_S64x256) b)
  let v26 : FVec Ideal S256 .f32 := multiReduction .add [0] S256 (mulf v24 v24) 0x00000000#32 reduces_S64x256_S256 (.inl rfl) rfl
  let v29 : FVec Ideal S1x256 .f32 := divf (shapeCast S1x256 v26 shapeCasts_S256_S1x256) (broadcast S1x256 (Scalar.ofBits .f32 0x42800000#32))
  let v32 : FVec Ideal S1x256 .f32 := rsqrt (addf v29 (broadcast S1x256 (Scalar.ofBits .f32 0x358637BD#32)))
  mulf (mulf (mulf v24 (broadcastTo S64x256 v32 broadcasts_S1x256_S64x256)) (shapeCast S64x256 s shapeCasts_S64x256_S64x256))
    (broadcast S64x256 (Scalar.ofBits .f32 0x3F4CCCCD#32))

theorem dh_read (l : FVec Ideal S1x1 .f32) (a b : FVec Ideal S64x256 .f32) (s : Vec Ideal S64x256 .f32) (d : Fin 64) (r : Fin 256) :
    dh l a b s (ix2 d r)
      = diff (l (ix2 (0 : Fin 1) (0 : Fin 1))) (fun e => a (ix2 e r)) (fun e => b (ix2 e r)) (s (ix2 d r)) d := by
  unfold dh diff
  pointwise

/-- Feature `k` of row `r`: feature `k % 64` of head `k / 64`, the first eight heads as they are and the others differential. -/
def feat (x1 : Vec Ideal S1x8x64x256 .f32) (x2 : Vec Ideal S1x16x64x256 .f32) (x5 : Vec Ideal S1x1 .f32) (x6 : Vec Ideal S64x256 .f32)
    (k : Fin 1024) (r : Fin 256) : EReal :=
  if h : k.val < 512 then x1 (ix4 (0 : Fin 1) (⟨k.val / 64, by omega⟩ : Fin 8) (⟨k.val % 64, Nat.mod_lt _ (by decide)⟩ : Fin 64) r)
  else diff (x5 (ix2 (0 : Fin 1) (0 : Fin 1)))
    (fun e => x2 (ix4 (0 : Fin 1) (⟨2 * (k.val / 64 - 8), by have := k.isLt; omega⟩ : Fin 16) e r))
    (fun e => x2 (ix4 (0 : Fin 1) (⟨2 * (k.val / 64 - 8) + 1, by have := k.isLt; omega⟩ : Fin 16) e r))
    (x6 (ix2 (⟨k.val % 64, Nat.mod_lt _ (by decide)⟩ : Fin 64) r)) (⟨k.val % 64, Nat.mod_lt _ (by decide)⟩ : Fin 64)

/-- The sixteen heads of a block. -/
def heads (x1 : Vec Ideal S1x8x64x256 .f32) (x2 : Vec Ideal S1x16x64x256 .f32) (x5 : Vec Ideal S1x1 .f32) (x6 : Vec Ideal S64x256 .f32) :
    Fin 16 → FVec Ideal S64x256 .f32 :=
  ![k0_pay3 (View.ld x1 r0_1), k0_pay4 (View.ld x1 r0_2), k0_pay5 (View.ld x1 r0_3), k0_pay6 (View.ld x1 r0_4), k0_pay7 (View.ld x1 r0_5), k0_pay8 (View.ld x1 r0_6), k0_pay9 (View.ld x1 r0_7), k0_pay10 (View.ld x1 r0_8),
    dh (k0_pay2 x5) (sq (View.ld x2 r0_9)) (sq (View.ld x2 r0_10)) x6,
    dh (k0_pay2 x5) (sq (View.ld x2 r0_12)) (sq (View.ld x2 r0_13)) x6,
    dh (k0_pay2 x5) (sq (View.ld x2 r0_14)) (sq (View.ld x2 r0_15)) x6,
    dh (k0_pay2 x5) (sq (View.ld x2 r0_16)) (sq (View.ld x2 r0_17)) x6,
    dh (k0_pay2 x5) (sq (View.ld x2 r0_18)) (sq (View.ld x2 r0_19)) x6,
    dh (k0_pay2 x5) (sq (View.ld x2 r0_20)) (sq (View.ld x2 r0_21)) x6,
    dh (k0_pay2 x5) (sq (View.ld x2 r0_22)) (sq (View.ld x2 r0_23)) x6,
    dh (k0_pay2 x5) (sq (View.ld x2 r0_24)) (sq (View.ld x2 r0_25)) x6]

theorem head_ld (x : Vec Ideal S1x8x64x256 .f32) (o : Fin 4 → ℕ) (h : ∀ a, o a + S1x1x64x256.size a ≤ S1x8x64x256.size a) (n : Fin 8)
    (h0 : o 0 = 0) (h1 : o 1 = n.val) (h2 : o 2 = 0) (h3 : o 3 = 0) (d : Fin 64) (r : Fin 256) :
    shapeCast S64x256 (View.ld x (Rect.unit (s := S1x8x64x256) o S1x1x64x256.size h)) shapeCasts_S1x1x64x256_S64x256 (ix2 d r)
      = x (ix4 (0 : Fin 1) n d r) := by
  refine (shapeCast_apply _ _ (ix2 d r) (ix4 (0 : Fin 1) (0 : Fin 1) d r : S1x1x64x256.Idx) ?_).trans ?_
  · rw [Shape.rowMajor_val_two, Shape.rowMajor_val_four]
    show ((0 * 1 + 0) * 64 + d.val) * 256 + r.val = d.val * 256 + r.val
    omega
  · show x _ = x _
    congr 1
    funext a; apply Fin.ext
    match a with
    | ⟨0, _⟩ => show o 0 + 1 * 0 = 0; omega
    | ⟨1, _⟩ => show o 1 + 1 * 0 = n.val; omega
    | ⟨2, _⟩ => show o 2 + 1 * d.val = d.val; omega
    | ⟨3, _⟩ => show o 3 + 1 * r.val = r.val; omega

theorem map_ld (x : Vec Ideal S1x16x64x256 .f32) (o : Fin 4 → ℕ) (h : ∀ a, o a + S1x1x64x256.size a ≤ S1x16x64x256.size a) (n : Fin 16)
    (h0 : o 0 = 0) (h1 : o 1 = n.val) (h2 : o 2 = 0) (h3 : o 3 = 0) (d : Fin 64) (r : Fin 256) :
    sq (View.ld x (Rect.unit (s := S1x16x64x256) o S1x1x64x256.size h)) (ix2 d r) = x (ix4 (0 : Fin 1) n d r) := by
  unfold sq
  refine (shapeCast_apply _ _ (ix2 d r) (ix4 (0 : Fin 1) (0 : Fin 1) d r : S1x1x64x256.Idx) ?_).trans ?_
  · rw [Shape.rowMajor_val_two, Shape.rowMajor_val_four]
    show ((0 * 1 + 0) * 64 + d.val) * 256 + r.val = d.val * 256 + r.val
    omega
  · show x _ = x _
    congr 1
    funext a; apply Fin.ext
    match a with
    | ⟨0, _⟩ => show o 0 + 1 * 0 = 0; omega
    | ⟨1, _⟩ => show o 1 + 1 * 0 = n.val; omega
    | ⟨2, _⟩ => show o 2 + 1 * d.val = d.val; omega
    | ⟨3, _⟩ => show o 3 + 1 * r.val = r.val; omega

theorem dh_apply (x : Vec Ideal S1x16x64x256 .f32) (l : Vec Ideal S1x1 .f32) (s : Vec Ideal S64x256 .f32) (o p : Fin 4 → ℕ)
    (h : ∀ a, o a + S1x1x64x256.size a ≤ S1x16x64x256.size a) (h' : ∀ a, p a + S1x1x64x256.size a ≤ S1x16x64x256.size a) (n n' : Fin 16)
    (h0 : o 0 = 0) (h1 : o 1 = n.val) (h2 : o 2 = 0) (h3 : o 3 = 0) (p0 : p 0 = 0) (p1 : p 1 = n'.val) (p2 : p 2 = 0) (p3 : p 3 = 0)
    (d : Fin 64) (r : Fin 256) :
    dh (k0_pay2 l) (sq (View.ld x (Rect.unit (s := S1x16x64x256) o S1x1x64x256.size h)))
        (sq (View.ld x (Rect.unit (s := S1x16x64x256) p S1x1x64x256.size h'))) s (ix2 d r)
      = diff (l (ix2 (0 : Fin 1) (0 : Fin 1))) (fun e => x (ix4 (0 : Fin 1) n e r)) (fun e => x (ix4 (0 : Fin 1) n' e r)) (s (ix2 d r)) d := by
  rw [dh_read]
  simp only [map_ld x o h n h0 h1 h2 h3, map_ld x p h' n' p0 p1 p2 p3]
  congr 1
  unfold k0_pay2
  pointwise

theorem heads_lo (x1 : Vec Ideal S1x8x64x256 .f32) (x2 : Vec Ideal S1x16x64x256 .f32) (x5 : Vec Ideal S1x1 .f32) (x6 : Vec Ideal S64x256 .f32)
    (n : Fin 16) (hn : n.val < 8) (d : Fin 64) (r : Fin 256) :
    heads x1 x2 x5 x6 n (ix2 d r) = x1 (ix4 (0 : Fin 1) (⟨n.val, hn⟩ : Fin 8) d r) := by
  match n, hn with
  | ⟨0, _⟩, _ => exact head_ld x1 _ _ 0 rfl rfl rfl rfl d r
  | ⟨1, _⟩, _ => exact head_ld x1 _ _ 1 rfl rfl rfl rfl d r
  | ⟨2, _⟩, _ => exact head_ld x1 _ _ 2 rfl rfl rfl rfl d r
  | ⟨3, _⟩, _ => exact head_ld x1 _ _ 3 rfl rfl rfl rfl d r
  | ⟨4, _⟩, _ => exact head_ld x1 _ _ 4 rfl rfl rfl rfl d r
  | ⟨5, _⟩, _ => exact head_ld x1 _ _ 5 rfl rfl rfl rfl d r
  | ⟨6, _⟩, _ => exact head_ld x1 _ _ 6 rfl rfl rfl rfl d r
  | ⟨7, _⟩, _ => exact head_ld x1 _ _ 7 rfl rfl rfl rfl d r

theorem heads_hi (x1 : Vec Ideal S1x8x64x256 .f32) (x2 : Vec Ideal S1x16x64x256 .f32) (x5 : Vec Ideal S1x1 .f32) (x6 : Vec Ideal S64x256 .f32)
    (n : Fin 16) (hn : 8 ≤ n.val) (d : Fin 64) (r : Fin 256) :
    heads x1 x2 x5 x6 n (ix2 d r) = diff (x5 (ix2 (0 : Fin 1) (0 : Fin 1)))
      (fun e => x2 (ix4 (0 : Fin 1) (⟨2 * (n.val - 8), by have := n.isLt; omega⟩ : Fin 16) e r))
      (fun e => x2 (ix4 (0 : Fin 1) (⟨2 * (n.val - 8) + 1, by have := n.isLt; omega⟩ : Fin 16) e r)) (x6 (ix2 d r)) d := by
  match n, hn with
  | ⟨8, _⟩, _ => exact dh_apply x2 _ _ _ _ _ _ 0 1 rfl rfl rfl rfl rfl rfl rfl rfl d r
  | ⟨9, _⟩, _ => exact dh_apply x2 _ _ _ _ _ _ 2 3 rfl rfl rfl rfl rfl rfl rfl rfl d r
  | ⟨10, _⟩, _ => exact dh_apply x2 _ _ _ _ _ _ 4 5 rfl rfl rfl rfl rfl rfl rfl rfl d r
  | ⟨11, _⟩, _ => exact dh_apply x2 _ _ _ _ _ _ 6 7 rfl rfl rfl rfl rfl rfl rfl rfl d r
  | ⟨12, _⟩, _ => exact dh_apply x2 _ _ _ _ _ _ 8 9 rfl rfl rfl rfl rfl rfl rfl rfl d r
  | ⟨13, _⟩, _ => exact dh_apply x2 _ _ _ _ _ _ 10 11 rfl rfl rfl rfl rfl rfl rfl rfl d r
  | ⟨14, _⟩, _ => exact dh_apply x2 _ _ _ _ _ _ 12 13 rfl rfl rfl rfl rfl rfl rfl rfl d r
  | ⟨15, _⟩, _ => exact dh_apply x2 _ _ _ _ _ _ 14 15 rfl rfl rfl rfl rfl rfl rfl rfl d r
  | ⟨j + 16, h⟩, _ => exact absurd h (by omega)

theorem heads_apply (x1 : Vec Ideal S1x8x64x256 .f32) (x2 : Vec Ideal S1x16x64x256 .f32) (x5 : Vec Ideal S1x1 .f32) (x6 : Vec Ideal S64x256 .f32)
    (k : Fin 1024) (r : Fin 256) :
    heads x1 x2 x5 x6 (⟨k.val / 64, by have := k.isLt; omega⟩ : Fin 16) (ix2 (⟨k.val % 64, Nat.mod_lt _ (by decide)⟩ : Fin 64) r) = feat x1 x2 x5 x6 k r := by
  unfold feat
  split
  · rename_i h
    exact heads_lo x1 x2 x5 x6 _ (by show k.val / 64 < 8; omega) _ r
  · rename_i h
    exact heads_hi x1 x2 x5 x6 _ (by show 8 ≤ k.val / 64; omega) _ r

theorem cat_apply (f : Fin 16 → FVec Ideal S64x256 .f32) (k : Fin 1024) (r : Fin 256) :
    concatenate S1024x256 0 [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩, ⟨S64x256, f 8⟩, ⟨S64x256, f 9⟩, ⟨S64x256, f 10⟩, ⟨S64x256, f 11⟩, ⟨S64x256, f 12⟩, ⟨S64x256, f 13⟩, ⟨S64x256, f 14⟩, ⟨S64x256, f 15⟩]
      concatenates_S64x256_S64x256_S64x256_S64x256_S64x256_S64x256_S64x256_S64x256_S64x256_S64x256_S64x256_S64x256_S64x256_S64x256_S64x256_S64x256_S1024x256_d0 (ix2 k r)
      = f (⟨k.val / 64, by have := k.isLt; omega⟩ : Fin 16) (ix2 (⟨k.val % 64, Nat.mod_lt _ (by decide)⟩ : Fin 64) r) := by
  refine concatenate_ofFn_apply (t := S1024x256) (s₁ := S64x256) 0 f _ rfl 64 rfl (ix2 k r) _ rfl _ rfl ?_
  intro b hb
  match b, hb with
  | ⟨0, _⟩, hb => exact absurd rfl hb
  | ⟨1, _⟩, _ => rfl

theorem dot_apply (C : FVec Ideal S1024x256 .f32) (w : Vec Ideal S1024x1024 .bf16) (r : Fin 256) (n : Fin 1024) :
    matmul dot_S256x1024_S1024x1024_S256x1024_1_0_0_1_n_n none
        (truncf .bf16 (transpose S256x1024 [1, 0] C transposes_S1024x256_p1_0_S256x1024) bitsLt_bf16_f32 : FVec Ideal S256x1024 .bf16)
        (shapeCast S1024x1024 w shapeCasts_S1024x1024_S1024x1024 : FVec Ideal S1024x1024 .bf16) (constant S256x1024 .f32 0x00000000#32) (ix2 r n)
      = ∑ k : Fin 1024, C (ix2 k r) * w (ix2 k n) := by
  pointwise

theorem pay1_apply (y x : FVec Ideal S256x1024 .f32) (g : Vec Ideal S1x1x1x1024 .f32) (r : Fin 256) (n : Fin 1024) :
    k0_pay1 y x g (ix3 (0 : Fin 1) r n) = x (ix2 r n) + g (ix4 (0 : Fin 1) (0 : Fin 1) (0 : Fin 1) n) * y (ix2 r n) := by
  unfold k0_pay1
  pointwise

theorem out_apply (x0 : Vec Ideal S1x256x1024 .f32) (x1 : Vec Ideal S1x8x64x256 .f32) (x2 : Vec Ideal S1x16x64x256 .f32) (x3 : Vec Ideal S1024x1024 .bf16)
    (x4 : Vec Ideal S1x1x1x1024 .f32) (x5 : Vec Ideal S1x1 .f32) (x6 : Vec Ideal S64x256 .f32) (r : Fin 256) (n : Fin 1024) :
    out0_7 x0 x1 x2 x3 x4 x5 x6 (ix3 (0 : Fin 1) r n)
      = x0 (ix3 (0 : Fin 1) r n) + x4 (ix4 (0 : Fin 1) (0 : Fin 1) (0 : Fin 1) n) * ∑ k : Fin 1024, feat x1 x2 x5 x6 k r * x3 (ix2 k n) := by
  have e6 : View.ld x6 r0_11 = x6 := View.ld_unit_zero (by funext a; fin_cases a <;> rfl) _ x6
  have e5 : View.ld x5 r0_0 = x5 := View.ld_unit_zero (by funext a; fin_cases a <;> rfl) _ x5
  have e4 : View.ld x4 r0_28 = x4 := View.ld_unit_zero (by funext a; fin_cases a <;> rfl) _ x4
  have e3 : View.ld x3 r0_26 = x3 := View.ld_unit_zero (by funext a; fin_cases a <;> rfl) _ x3
  have e0 : View.ld x0 r0_27 = x0 := View.ld_unit_zero (by funext a; fin_cases a <;> rfl) _ x0
  unfold out0_7 k0_pay25
  rw [View.canon_cons_unit_zero (by funext a; fin_cases a <;> rfl), pay1_apply, e0, e3, e4, e5, e6]
  refine congr (congrArg HAdd.hAdd ?_) (congrArg (HMul.hMul _) ?_)
  · unfold k0_pay24
    pointwise
  · simp only [← heads_apply]
    simp only [← cat_apply (heads x1 x2 x5 x6)]
    exact dot_apply _ x3 r n

end Cert.Kernel5Ideal.Out
end
-- ==== Proof.Result5.lean ====
module

public import proofs.«01_k».proof.Proof.Out5
public import proofs.«01_k».proof.Proof.Gen.Reference5Ideal.Read
public import Idealize.ShloMosaic.Lib.Claim
public import Idealize.ShloMosaic.Lib.IdealHost

/-! The even layer's output projection: its result is the reference's value, for all arguments. -/

@[expose] public section

set_option maxRecDepth 16384

noncomputable section

namespace Cert.Kernel5Ideal.Out

open Idealize.ShloMosaic Idealize.ShloMosaic.TcCoe Idealize.ShloMosaic.Tactic
open Idealize.SL Idealize.SL.Sem
open Cert.Kernel5Ideal.Gen

variable (m : (ℓ : Loc nD τ sig) → Buf (Elt Ideal) ℓ) (c : Dev nD)

abbrev arg0 : Vec Ideal S2x16640x1024 .f32 := m (c, main_arg0)
abbrev arg1 : Vec Ideal S2x8x16384x64 .f32 := m (c, main_arg1)
abbrev arg2 : Vec Ideal S2x8x16384x64 .f32 := m (c, main_arg2)
abbrev arg3 : Vec Ideal S2x8x16384x64 .f32 := m (c, main_arg3)
abbrev arg4 : Vec Ideal S4x32 .f32 := m (c, main_arg4)
abbrev arg5 : Vec Ideal S64 .f32 := m (c, main_arg5)
abbrev arg6 : Vec Ideal S1024x1024 .f32 := m (c, main_arg6)
abbrev arg7 : Vec Ideal S2x1024 .f32 := m (c, main_arg7)

/-- The weight of the second map. -/
abbrev lamOf (x : Vec Ideal S4x32 .f32) : EReal := Reference5Ideal.Read.val_main_v15 (F := Ideal) x ix0

/-! What the operations before the launch leave in its arguments. -/

theorem heads_in (b : Fin 2) (h : Fin 8) (d : Fin 64) (t : Fin 16384) :
    (V m c main_v25 (ix4 b h d t) : EReal) = arg1 m c (ix4 b h t d) := by
  dsimp only [V, hostOps0, List.flatten_cons, List.flatten_nil, List.append_nil, List.cons_append, List.nil_append]
  entry_read
  pointwise

theorem map1_in (b : Fin 2) (h : Fin 8) (d : Fin 64) (t : Fin 16384) :
    (V m c main_v5 (ix4 b (⟨2 * h.val, by omega⟩ : Fin 16) d t) : EReal) = arg2 m c (ix4 b h t d) := by
  dsimp only [V, hostOps0, List.flatten_cons, List.flatten_nil, List.append_nil, List.cons_append, List.nil_append]
  entry_read
  refine (shapeCast_apply _ _ _ (ix5 b h (0 : Fin 2) d t : S2x8x2x64x16384.Idx) ?_).trans ?_
  · show (S2x8x2x64x16384.rowMajor (ix5 b h (0 : Fin 2) d t)).val = (S2x16x64x16384.rowMajor (ix4 b (⟨2 * h.val, by omega⟩ : Fin 16) d t)).val
    rw [Shape.rowMajor_val_five, Shape.rowMajor_val_four]
    show (((b.val * 8 + h.val) * 2 + 0) * 64 + d.val) * 16384 + t.val = ((b.val * 16 + (2 * h.val)) * 64 + d.val) * 16384 + t.val
    omega
  · pointwise

theorem map2_in (b : Fin 2) (h : Fin 8) (d : Fin 64) (t : Fin 16384) :
    (V m c main_v5 (ix4 b (⟨2 * h.val + 1, by omega⟩ : Fin 16) d t) : EReal) = arg3 m c (ix4 b h t d) := by
  dsimp only [V, hostOps0, List.flatten_cons, List.flatten_nil, List.append_nil, List.cons_append, List.nil_append]
  entry_read
  refine (shapeCast_apply _ _ _ (ix5 b h (1 : Fin 2) d t : S2x8x2x64x16384.Idx) ?_).trans ?_
  · show (S2x8x2x64x16384.rowMajor (ix5 b h (1 : Fin 2) d t)).val = (S2x16x64x16384.rowMajor (ix4 b (⟨2 * h.val + 1, by omega⟩ : Fin 16) d t)).val
    rw [Shape.rowMajor_val_five, Shape.rowMajor_val_four]
    show (((b.val * 8 + h.val) * 2 + 1) * 64 + d.val) * 16384 + t.val = ((b.val * 16 + (2 * h.val + 1)) * 64 + d.val) * 16384 + t.val
    omega
  · pointwise

theorem lam_in : (V m c main_v22 (ix2 (0 : Fin 1) (0 : Fin 1)) : EReal) = lamOf (arg4 m c) := by
  dsimp only [V, hostOps0, List.flatten_cons, List.flatten_nil, List.append_nil, List.cons_append, List.nil_append]
  entry_read
  refine (shapeCast_apply _ _ _ (fun a => a.elim0 : S_.Idx) ?_).trans ?_
  · rfl
  · rfl

theorem subln_in (d : Fin 64) (r : Fin 256) : (V m c main_v24 (ix2 d r) : EReal) = arg5 m c (ix1 d) := by
  dsimp only [V, hostOps0, List.flatten_cons, List.flatten_nil, List.append_nil, List.cons_append, List.nil_append]
  entry_read
  pointwise

theorem weights_in (k n : Fin 1024) : (V m c main_v26 (ix2 k n) : EReal) = arg6 m c (ix2 k n) := by
  dsimp only [V, hostOps0, List.flatten_cons, List.flatten_nil, List.append_nil, List.cons_append, List.nil_append]
  entry_read
  rfl

theorem gate_in (b : Fin 2) (n : Fin 1024) : (V m c main_v31 (ix4 b (0 : Fin 2) (0 : Fin 1) n) : EReal) = arg7 m c (ix2 b n) := by
  dsimp only [V, hostOps0, List.flatten_cons, List.flatten_nil, List.append_nil, List.cons_append, List.nil_append]
  entry_read
  pointwise

theorem residual_in : (V m c main_v32 : Vec Ideal S2x16640x1024 .f32) = arg0 m c := by
  dsimp only [V, hostOps0, List.flatten_cons, List.flatten_nil, List.append_nil, List.cons_append, List.nil_append]
  entry_read
  rfl

/-! The blocks of a point. -/

theorem idx0 : ∀ t : Fin cfg0.N, win0_0.index t = ![t.val / 64, t.val % 64, 0] := (by decide +kernel : ∀ t : Fin grid0.N, _)
theorem idx1 : ∀ t : Fin cfg0.N, win0_1.index t = ![t.val / 64, 0, 0, t.val % 64] := (by decide +kernel : ∀ t : Fin grid0.N, _)
theorem idx2 : ∀ t : Fin cfg0.N, win0_2.index t = ![t.val / 64, 0, 0, t.val % 64] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 64, 0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 64, t.val % 64, 0] := (by decide +kernel : ∀ t : Fin grid0.N, _)
theorem flush7 : ∀ t : Fin cfg0.N, (cfg0.win 7).flush t = true := (by decide +kernel : ∀ t : Fin grid0.N, _)

theorem blk0 (t : Fin cfg0.N) (y : S1x256x1024.Idx) (z : S2x16640x1024.Idx)
    (h0 : (z 0).val = t.val / 64 + (y 0).val) (h1 : (z 1).val = t.val % 64 * 256 + (y 1).val) (h2 : (z 2).val = (y 2).val) :
    iblk m c 0 t y = V m c main_arg0 z := by
  have e := idx0 t
  blk_simp [iblk]
  congr 1
  funext a; apply Fin.ext
  fin_cases a
  all_goals (blk_simp [e]; simp at *; omega)

theorem blk1 (t : Fin cfg0.N) (y : S1x8x64x256.Idx) (z : S2x8x64x16384.Idx)
    (h0 : (z 0).val = t.val / 64 + (y 0).val) (h1 : (z 1).val = (y 1).val) (h2 : (z 2).val = (y 2).val)
    (h3 : (z 3).val = t.val % 64 * 256 + (y 3).val) :
    iblk m c 1 t y = V m c main_v25 z := by
  have e := idx1 t
  blk_simp [iblk]
  congr 1
  funext a; apply Fin.ext
  fin_cases a
  all_goals (blk_simp [e]; simp at *; omega)

theorem emb2 (t : Fin cfg0.N) (y : S1x16x64x256.Idx) (z : S2x16x64x16384.Idx)
    (h0 : (z 0).val = t.val / 64 + (y 0).val) (h1 : (z 1).val = (y 1).val) (h2 : (z 2).val = (y 2).val)
    (h3 : (z 3).val = t.val % 64 * 256 + (y 3).val) : ((win0_2.blk t).view.emb y : S2x16x64x16384.Idx) = z := by
  have e := idx2 t
  funext a; apply Fin.ext
  fin_cases a
  all_goals (blk_simp [e]; simp at *; omega)

theorem rd2 (W : S2x16x64x16384.Idx → EReal) (t : Fin cfg0.N) (y : S1x16x64x256.Idx) :
    (win0_2.blk t).view.read (Elt Ideal) W y = W ((win0_2.blk t).view.emb y) := rfl

theorem blk2 (t : Fin cfg0.N) (y : S1x16x64x256.Idx) (z : S2x16x64x16384.Idx)
    (h0 : (z 0).val = t.val / 64 + (y 0).val) (h1 : (z 1).val = (y 1).val) (h2 : (z 2).val = (y 2).val)
    (h3 : (z 3).val = t.val % 64 * 256 + (y 3).val) :
    iblk m c 2 t y = V m c main_v5 z := by
  rw [← emb2 t y z h0 h1 h2 h3]
  exact rd2 (V m c main_v5) t y

theorem blk3 (t : Fin cfg0.N) (y : S1024x1024.Idx) : iblk m c 3 t y = V m c main_v26 y := by
  have e := idx3 t
  blk_simp [iblk]
  congr 1
  funext a; apply Fin.ext
  fin_cases a
  all_goals (blk_simp [e]; try simp)

theorem blk4 (t : Fin cfg0.N) (y : S1x1x1x1024.Idx) (z : S2x2x1x1024.Idx)
    (h0 : (z 0).val = t.val / 64 + (y 0).val) (h1 : (z 1).val = (y 1).val) (h2 : (z 2).val = (y 2).val) (h3 : (z 3).val = (y 3).val) :
    iblk m c 4 t y = V m c main_v31 z := by
  have e := idx4 t
  blk_simp [iblk]
  congr 1
  funext a; apply Fin.ext
  fin_cases a
  all_goals (blk_simp [e]; try (simp at *; try omega))

theorem blk5 (t : Fin cfg0.N) (y : S1x1.Idx) : iblk m c 5 t y = V m c main_v22 y := by
  have e := idx5 t
  blk_simp [iblk]
  congr 1
  funext a; apply Fin.ext
  fin_cases a
  all_goals (blk_simp [e]; try simp)

theorem blk6 (t : Fin cfg0.N) (y : S64x256.Idx) : iblk m c 6 t y = V m c main_v24 y := by
  have e := idx6 t
  blk_simp [iblk]
  congr 1
  funext a; apply Fin.ext
  fin_cases a
  all_goals (blk_simp [e]; try simp)

theorem emb_out (t : Fin cfg0.N) (y : S1x256x1024.Idx) :
    ((win0_7.blk t).view.emb y : S2x16640x1024.Idx) = ix3 (⟨t.val / 64, by have : t.val < 128 := t.isLt; omega⟩ : Fin 2)
      (⟨t.val % 64 * 256 + (y 1).val, by have : (y 1).val < 256 := (y 1).isLt; omega⟩ : Fin 16640) (⟨(y 2).val, (y 2).isLt⟩ : Fin 1024) := by
  have e := idx7 t
  have hy : (y 0).val < 1 := (y 0).isLt
  funext a; apply Fin.ext
  fin_cases a <;> (blk_simp [e]; try simp)

/-! The two sides. -/

/-- Feature `k` of the merged heads of a row. -/
def merged (x1 x2 x3 : Vec Ideal S2x8x16384x64 .f32) (x4 : Vec Ideal S4x32 .f32) (x5 : Vec Ideal S64 .f32) (b : Fin 2) (t : Fin 16384) (k : Fin 1024) : EReal :=
  if h : k.val < 512 then x1 (ix4 b (⟨k.val / 64, by omega⟩ : Fin 8) t (⟨k.val % 64, Nat.mod_lt _ (by decide)⟩ : Fin 64))
  else diff (lamOf x4) (fun e => x2 (ix4 b (⟨k.val / 64 - 8, by have := k.isLt; omega⟩ : Fin 8) t e))
    (fun e => x3 (ix4 b (⟨k.val / 64 - 8, by have := k.isLt; omega⟩ : Fin 8) t e)) (x5 (ix1 (⟨k.val % 64, Nat.mod_lt _ (by decide)⟩ : Fin 64)))
    (⟨k.val % 64, Nat.mod_lt _ (by decide)⟩ : Fin 64)

/-- A row of the result. -/
def rowOut (x0 : Vec Ideal S2x16640x1024 .f32) (x1 x2 x3 : Vec Ideal S2x8x16384x64 .f32) (x4 : Vec Ideal S4x32 .f32) (x5 : Vec Ideal S64 .f32)
    (x6 : Vec Ideal S1024x1024 .f32) (x7 : Vec Ideal S2x1024 .f32)
    (b : Fin 2) (t : Fin 16640) (n : Fin 1024) : EReal :=
  if h : t.val < 16384 then x0 (ix3 b t n) + x7 (ix2 b n) * ∑ k : Fin 1024, merged x1 x2 x3 x4 x5 b (⟨t.val, h⟩ : Fin 16384) k * x6 (ix2 k n)
  else x0 (ix3 b t n)

theorem feat_merged (b : Fin 2) (t : Fin 16384) (T : Fin cfg0.N) (r : Fin 256) (hb : b.val = T.val / 64) (ht : t.val = T.val % 64 * 256 + r.val) (k : Fin 1024) :
    feat (iblk m c 1 T) (iblk m c 2 T) (iblk m c 5 T) (iblk m c 6 T) k r
      = merged (arg1 m c) (arg2 m c) (arg3 m c) (arg4 m c) (arg5 m c) b t k := by
  have hk := k.isLt
  unfold feat merged
  split
  · rw [blk1 m c T (ix4 (0 : Fin 1) (⟨k.val / 64, by omega⟩ : Fin 8) (⟨k.val % 64, Nat.mod_lt _ (by decide)⟩ : Fin 64) r) (ix4 b (⟨k.val / 64, by omega⟩ : Fin 8) (⟨k.val % 64, Nat.mod_lt _ (by decide)⟩ : Fin 64) t) (by show b.val = T.val / 64 + 0; omega) rfl rfl ht, heads_in]
  · have h1 : ∀ e : Fin 64, (iblk m c 2 T (ix4 (0 : Fin 1) (⟨2 * (k.val / 64 - 8), by omega⟩ : Fin 16) e r) : EReal)
        = arg2 m c (ix4 b (⟨k.val / 64 - 8, by omega⟩ : Fin 8) t e) := fun e =>
      (blk2 m c T (ix4 (0 : Fin 1) (⟨2 * (k.val / 64 - 8), by omega⟩ : Fin 16) e r) (ix4 b (⟨2 * (k.val / 64 - 8), by omega⟩ : Fin 16) e t) (by show b.val = T.val / 64 + 0; omega) rfl rfl ht).trans
        (map1_in m c b (⟨k.val / 64 - 8, by omega⟩ : Fin 8) e t)
    have h2 : ∀ e : Fin 64, (iblk m c 2 T (ix4 (0 : Fin 1) (⟨2 * (k.val / 64 - 8) + 1, by omega⟩ : Fin 16) e r) : EReal)
        = arg3 m c (ix4 b (⟨k.val / 64 - 8, by omega⟩ : Fin 8) t e) := fun e =>
      (blk2 m c T (ix4 (0 : Fin 1) (⟨2 * (k.val / 64 - 8) + 1, by omega⟩ : Fin 16) e r) (ix4 b (⟨2 * (k.val / 64 - 8) + 1, by omega⟩ : Fin 16) e t) (by show b.val = T.val / 64 + 0; omega) rfl rfl ht).trans
        (map2_in m c b (⟨k.val / 64 - 8, by omega⟩ : Fin 8) e t)
    have h5 : (iblk m c 5 T (ix2 (0 : Fin 1) (0 : Fin 1)) : EReal) = lamOf (arg4 m c) := (blk5 m c T _).trans (lam_in m c)
    have h6 : (iblk m c 6 T (ix2 (⟨k.val % 64, Nat.mod_lt _ (by decide)⟩ : Fin 64) r) : EReal) = arg5 m c (ix1 (⟨k.val % 64, Nat.mod_lt _ (by decide)⟩ : Fin 64)) :=
      (blk6 m c T _).trans (subln_in m c _ r)
    rw [funext h1, funext h2, h5, h6]

theorem kernel_row (b : Fin 2) (t : Fin 16640) (n : Fin 1024) :
    (dats m 0 c).arrAt 7 cfg0.N (ix3 b t n) = rowOut (arg0 m c) (arg1 m c) (arg2 m c) (arg3 m c) (arg4 m c) (arg5 m c) (arg6 m c) (arg7 m c) b t n := by
  unfold rowOut
  have hb := b.isLt
  split
  · rename_i ht
    let T : Fin cfg0.N := ⟨b.val * 64 + t.val / 256, by show _ < 128; omega⟩
    let r : Fin 256 := ⟨t.val % 256, Nat.mod_lt _ (by decide)⟩
    have hT : T.val = b.val * 64 + t.val / 256 := rfl
    have hr : r.val = t.val % 256 := rfl
    clear_value T r
    have h := congrFun (Value.blocks7 m c T (flush7 T)) (ix3 (0 : Fin 1) r n : S1x256x1024.Idx)
    have e : (((win0_7.blk T).view.emb (ix3 (0 : Fin 1) r n : S1x256x1024.Idx)) : S2x16640x1024.Idx) = ix3 b t n := by
      rw [emb_out]
      funext a; apply Fin.ext
      match a with
      | ⟨0, _⟩ => show T.val / 64 = b.val; omega
      | ⟨1, _⟩ => show T.val % 64 * 256 + r.val = t.val; omega
      | ⟨2, _⟩ => rfl
    have h' : (dats m 0 c).arrAt 7 cfg0.N ((win0_7.blk T).view.emb (ix3 (0 : Fin 1) r n : S1x256x1024.Idx))
        = (dats m 0 c).flushed 7 T (ix3 (0 : Fin 1) r n : S1x256x1024.Idx) := h
    rw [e, Value.flushed7] at h'
    refine h'.trans ?_
    refine Eq.trans (b := out0_7 (iblk m c 0 T) (iblk m c 1 T) (iblk m c 2 T) (iblk m c 3 T) (iblk m c 4 T) (iblk m c 5 T) (iblk m c 6 T) (ix3 (0 : Fin 1) r n)) rfl ?_
    have e0 : (iblk m c 0 T (ix3 (0 : Fin 1) r n) : EReal) = arg0 m c (ix3 b t n) :=
      (blk0 m c T (ix3 (0 : Fin 1) r n) (ix3 b t n) (by show b.val = T.val / 64 + 0; omega) (by show t.val = T.val % 64 * 256 + r.val; omega) rfl).trans
        (congrFun (residual_in m c) (ix3 b t n))
    have e4 : (iblk m c 4 T (ix4 (0 : Fin 1) (0 : Fin 1) (0 : Fin 1) n) : EReal) = arg7 m c (ix2 b n) :=
      (blk4 m c T (ix4 (0 : Fin 1) (0 : Fin 1) (0 : Fin 1) n) (ix4 b (0 : Fin 2) (0 : Fin 1) n) (by show b.val = T.val / 64 + 0; omega) rfl rfl rfl).trans
        (gate_in m c b n)
    have e3 : ∀ k : Fin 1024, (iblk m c 3 T (ix2 k n) : EReal) = arg6 m c (ix2 k n) := fun k => (blk3 m c T (ix2 k n)).trans (weights_in m c k n)
    refine (out_apply _ _ _ _ _ _ _ r n).trans ?_
    rw [e0, e4]
    exact congrArg (fun s : EReal => (arg0 m c (ix3 b t n) : EReal) + arg7 m c (ix2 b n) * s) (Finset.sum_congr rfl fun k _ =>
      congr (congrArg (HMul.hMul (α := EReal)) (feat_merged m c b (⟨t.val, ht⟩ : Fin 16384) T r (by omega) (by show t.val = _; omega) k)) (e3 k))
  · rename_i ht
    refine (Value.entry7 m c (ix3 b t n) fun T _ hm => ?_).trans (congrFun (residual_in m c) (ix3 b t n))
    obtain ⟨y, hy⟩ := View.exists_emb_of_mem_set _ hm
    have h1 := congrArg (fun i : S2x16640x1024.Idx => (i 1).val) ((emb_out T y).symm.trans hy)
    have hy1 : (y 1).val < 256 := (y 1).isLt
    have h2 : T.val % 64 * 256 + (y 1).val = t.val := h1
    omega

theorem diff_ref (x2 x3 : Vec Ideal S2x8x16384x64 .f32) (x4 : Vec Ideal S4x32 .f32) (x5 : Vec Ideal S64 .f32) (b : Fin 2) (h : Fin 8) (t : Fin 16384) (d : Fin 64) :
    Reference5Ideal.Read.val_main_v33 (F := Ideal) x2 x3 x4 x5 (ix4 b h t d)
      = diff (lamOf x4) (fun e => x2 (ix4 b h t e)) (fun e => x3 (ix4 b h t e)) (x5 (ix1 d)) d := by
  unfold diff lamOf
  unfold Reference5Ideal.Read.val_main_v33 Reference5Ideal.Read.val_main_v32 Reference5Ideal.Read.val_main_cst_5 Reference5Ideal.Read.val_main_v31 Reference5Ideal.Read.val_main_v30 Reference5Ideal.Read.val_main_v29 Reference5Ideal.Read.val_main_v28 Reference5Ideal.Read.val_main_v27 Reference5Ideal.Read.val_main_v26 Reference5Ideal.Read.val_main_v25 Reference5Ideal.Read.val_main_v24 Reference5Ideal.Read.val_main_cst_4 Reference5Ideal.Read.val_main_v23 Reference5Ideal.Read.val_main_v22 Reference5Ideal.Read.val_main_cst_3 Reference5Ideal.Read.val_main_v21 Reference5Ideal.Read.val_main_v20 Reference5Ideal.Read.val_main_cst_2 Reference5Ideal.Read.val_main_v19 Reference5Ideal.Read.val_main_v18 Reference5Ideal.Read.val_main_v17 Reference5Ideal.Read.val_main_v16
  generalize Reference5Ideal.Read.val_main_v15 (F := Ideal) x4 = l
  pointwise

theorem merged_ref (x1 x2 x3 : Vec Ideal S2x8x16384x64 .f32) (x4 : Vec Ideal S4x32 .f32) (x5 : Vec Ideal S64 .f32) (b : Fin 2) (t : Fin 16384) (k : Fin 1024) :
    Reference5Ideal.Read.val_main_v38 (F := Ideal) x1 x2 x3 x4 x5 (ix3 b t k) = merged x1 x2 x3 x4 x5 b t k := by
  have hk := k.isLt
  have hb := b.isLt
  have ht := t.isLt
  unfold merged Reference5Ideal.Read.val_main_v38
  pointwise
  split
  · rw [Reference5Ideal.Read.val_main_v35_apply, Reference5Ideal.Read.val_main_v34_apply]
    congr 1
    funext a; apply Fin.ext
    match a with
    | ⟨0, _⟩ => show ((b.val * 16384 + t.val) * 512 + k.val) / 8388608 = b.val; omega
    | ⟨1, _⟩ => show ((b.val * 16384 + t.val) * 512 + k.val) / 64 % 8 = k.val / 64; omega
    | ⟨2, _⟩ => show ((b.val * 16384 + t.val) * 512 + k.val) / 512 % 16384 = t.val; omega
    | ⟨3, _⟩ => show ((b.val * 16384 + t.val) * 512 + k.val) % 64 = k.val % 64; omega
  · rw [Reference5Ideal.Read.val_main_v37_apply, Reference5Ideal.Read.val_main_v36_apply, ← diff_ref]
    congr 1
    funext a; apply Fin.ext
    match a with
    | ⟨0, _⟩ => show ((b.val * 16384 + t.val) * 512 + (k.val - 512)) / 8388608 = b.val; omega
    | ⟨1, _⟩ => show ((b.val * 16384 + t.val) * 512 + (k.val - 512)) / 64 % 8 = k.val / 64 - 8; omega
    | ⟨2, _⟩ => show ((b.val * 16384 + t.val) * 512 + (k.val - 512)) / 512 % 16384 = t.val; omega
    | ⟨3, _⟩ => show ((b.val * 16384 + t.val) * 512 + (k.val - 512)) % 64 = k.val % 64; omega

theorem reference_row (x0 : Vec Ideal S2x16640x1024 .f32) (x1 x2 x3 : Vec Ideal S2x8x16384x64 .f32) (x4 : Vec Ideal S4x32 .f32) (x5 : Vec Ideal S64 .f32)
    (x6 : Vec Ideal S1024x1024 .f32) (x7 : Vec Ideal S2x1024 .f32)
    (b : Fin 2) (t : Fin 16640) (n : Fin 1024) :
    Reference5Ideal.Read.val_main_v46 (F := Ideal) x0 x1 x2 x3 x4 x5 x6 x7 (ix3 b t n) = rowOut x0 x1 x2 x3 x4 x5 x6 x7 b t n := by
  unfold rowOut Reference5Ideal.Read.val_main_v46
  pointwise
  split
  · rename_i ht
    rw [Reference5Ideal.Read.val_main_v44_apply, Reference5Ideal.Read.val_main_v43_apply, Reference5Ideal.Read.val_main_v40_apply,
      Reference5Ideal.Read.val_main_v42_apply, Reference5Ideal.Read.val_main_v41_apply, Reference5Ideal.Read.val_main_v39_apply]
    show (_ : EReal) + _ * _ = _ + _ * _
    refine congr (congrArg HAdd.hAdd ?_) (congr (congrArg HMul.hMul ?_) (Finset.sum_congr rfl fun k _ => congr (congrArg HMul.hMul ?_) ?_))
    · congr 1
      funext a; apply Fin.ext
      match a with
      | ⟨0, _⟩ => rfl
      | ⟨1, _⟩ => rfl
      | ⟨2, _⟩ => rfl
    · congr 1
      funext a; apply Fin.ext
      match a with
      | ⟨0, _⟩ => rfl
      | ⟨1, _⟩ => rfl
    · rw [← merged_ref]
      congr 1
      funext a; apply Fin.ext
      match a with
      | ⟨0, _⟩ => rfl
      | ⟨1, _⟩ => rfl
      | ⟨2, _⟩ => rfl
    · congr 1
      funext a; apply Fin.ext
      match a with
      | ⟨0, _⟩ => rfl
      | ⟨1, _⟩ => rfl
  · rename_i ht
    rw [Reference5Ideal.Read.val_main_v45_apply]
    congr 1
    funext a; apply Fin.ext
    match a with
    | ⟨0, _⟩ => rfl
    | ⟨1, _⟩ => show 16384 + (t.val - 16384) = t.val; omega
    | ⟨2, _⟩ => rfl

theorem result_eq : (dats m 0 c).arrAt 7 cfg0.N
    = Reference5Ideal.Read.val_main_v46 (F := Ideal) (arg0 m c) (arg1 m c) (arg2 m c) (arg3 m c) (arg4 m c) (arg5 m c) (arg6 m c) (arg7 m c) := by
  funext i
  have hi : (i : S2x16640x1024.Idx) = ix3 (⟨(i 0).val, (i 0).isLt⟩ : Fin 2) (⟨(i 1).val, (i 1).isLt⟩ : Fin 16640) (⟨(i 2).val, (i 2).isLt⟩ : Fin 1024) := by
    funext a; fin_cases a <;> rfl
  rw [hi]
  exact (kernel_row m c _ _ _).trans (reference_row _ _ _ _ _ _ _ _ _ _ _).symm

end Cert.Kernel5Ideal.Out
end
-- ==== Proof.Claims5.lean ====
module

public import proofs.«01_k».proof.Defs
public import proofs.«01_k».proof.Proof.Result5
public import proofs.«01_k».proof.Proof.Gen.Kernel5.Frame
public import proofs.«01_k».proof.Proof.Gen.Reference5Ideal.Run

/-! The claims of the even layer's output projection: its frames, the reference's, and the equality of the two results. -/

@[expose] public section

noncomputable section

namespace Cert.Claims5

open Idealize.ShloMosaic Idealize.ShloMosaic.TcCoe Idealize.SL.Sem

theorem kernel_bits : Cert.quiescent_Kernel5 := fun m ρ _ => Cert.Kernel5.Gen.frame m ρ

theorem kernel_ideal : Cert.quiescent_Kernel5Ideal := fun m ρ _ => Cert.Kernel5Ideal.Gen.frame m ρ

theorem reference_ideal : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

attribute [local instance] Cert.Kernel5.Gen.facts Cert.Kernel5Ideal.Gen.facts Cert.Reference5Ideal.Gen.facts in
theorem algebraic : Cert.algebraic_Kernel5Ideal_Reference5Ideal := fun m g m' g' _ hm => by
  refine ⟨fun c => (Cert.Kernel5Ideal.Gen.dats m 0 c).arrAt 7 Cert.Kernel5Ideal.cfg0.N, ?_, ?_⟩
  · exact (θ_run Cert.Kernel5Ideal.defs _ _).mono (fun r h => h) (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    obtain ⟨h0, h1, h2, h3, h4, h5, h6, h7⟩ := hm c
    rw [Cert.Reference5Ideal.Read.val_main_v46_eq, h0, h1, h2, h3, h4, h5, h6, h7]
    exact (Cert.Kernel5Ideal.Out.result_eq m c).symm

end Cert.Claims5
end
-- ==== Proof.Out6.lean ====
module

public import proofs.«01_k».proof.Proof.Gen.Kernel6Ideal.Value
public import Idealize.ShloMosaic.Lib.Pipeline.ValueKit
public import Idealize.ShloMosaic.Lib.Pointwise

/-! The output projection of the odd layer, one block: the residual plus the gate times the sum over the sixteen heads'
features. -/

@[expose] public section

set_option maxRecDepth 16384

noncomputable section

namespace Cert.Kernel6Ideal.Out

open Idealize.ShloMosaic Idealize.ShloMosaic.TcCoe Idealize.ShloMosaic.Tactic
open Idealize.SL Idealize.SL.Sem
open Cert.Kernel6Ideal.Gen

/-- Feature `k` of row `r`: feature `k % 64` of head `k / 64`, the first eight heads from one block and the others from
the other. -/
def feat (x1 x2 : Vec Ideal S1x8x64x256 .f32) (k : Fin 1024) (r : Fin 256) : EReal :=
  if h : k.val < 512 then x1 (ix4 (0 : Fin 1) (⟨k.val / 64, by omega⟩ : Fin 8) (⟨k.val % 64, Nat.mod_lt _ (by decide)⟩ : Fin 64) r)
  else x2 (ix4 (0 : Fin 1) (⟨k.val / 64 - 8, by have := k.isLt; omega⟩ : Fin 8) (⟨k.val % 64, Nat.mod_lt _ (by decide)⟩ : Fin 64) r)

/-- The sixteen heads of a block. -/
def heads (x1 x2 : Vec Ideal S1x8x64x256 .f32) : Fin 16 → FVec Ideal S64x256 .f32 :=
  ![k0_pay2 (View.ld x1 r0_0), k0_pay3 (View.ld x1 r0_1), k0_pay4 (View.ld x1 r0_2), k0_pay5 (View.ld x1 r0_3),
    k0_pay6 (View.ld x1 r0_4), k0_pay7 (View.ld x1 r0_5), k0_pay8 (View.ld x1 r0_6), k0_pay9 (View.ld x1 r0_7),
    k0_pay10 (View.ld x2 r0_0), shapeCast S64x256 (View.ld x2 r0_1) shapeCasts_S1x1x64x256_S64x256,
    shapeCast S64x256 (View.ld x2 r0_2) shapeCasts_S1x1x64x256_S64x256, shapeCast S64x256 (View.ld x2 r0_3) shapeCasts_S1x1x64x256_S64x256,
    shapeCast S64x256 (View.ld x2 r0_4) shapeCasts_S1x1x64x256_S64x256, shapeCast S64x256 (View.ld x2 r0_5) shapeCasts_S1x1x64x256_S64x256,
    shapeCast S64x256 (View.ld x2 r0_6) shapeCasts_S1x1x64x256_S64x256, shapeCast S64x256 (View.ld x2 r0_7) shapeCasts_S1x1x64x256_S64x256]

theorem head_ld (x : Vec Ideal S1x8x64x256 .f32) (o : Fin 4 → ℕ) (h : ∀ a, o a + S1x1x64x256.size a ≤ S1x8x64x256.size a) (n : Fin 8)
    (h0 : o 0 = 0) (h1 : o 1 = n.val) (h2 : o 2 = 0) (h3 : o 3 = 0) (d : Fin 64) (r : Fin 256) :
    shapeCast S64x256 (View.ld x (Rect.unit (s := S1x8x64x256) o S1x1x64x256.size h)) shapeCasts_S1x1x64x256_S64x256 (ix2 d r)
      = x (ix4 (0 : Fin 1) n d r) := by
  refine (shapeCast_apply _ _ (ix2 d r) (ix4 (0 : Fin 1) (0 : Fin 1) d r : S1x1x64x256.Idx) ?_).trans ?_
  · rw [Shape.rowMajor_val_two, Shape.rowMajor_val_four]
    show ((0 * 1 + 0) * 64 + d.val) * 256 + r.val = d.val * 256 + r.val
    omega
  · show x _ = x _
    congr 1
    funext a; apply Fin.ext
    match a with
    | ⟨0, _⟩ => show o 0 + 1 * 0 = 0; omega
    | ⟨1, _⟩ => show o 1 + 1 * 0 = n.val; omega
    | ⟨2, _⟩ => show o 2 + 1 * d.val = d.val; omega
    | ⟨3, _⟩ => show o 3 + 1 * r.val = r.val; omega

theorem heads_lo (x1 x2 : Vec Ideal S1x8x64x256 .f32) (n : Fin 16) (hn : n.val < 8) (d : Fin 64) (r : Fin 256) :
    heads x1 x2 n (ix2 d r) = x1 (ix4 (0 : Fin 1) (⟨n.val, hn⟩ : Fin 8) d r) := by
  match n, hn with
  | ⟨0, _⟩, _ => exact head_ld x1 _ _ 0 rfl rfl rfl rfl d r
  | ⟨1, _⟩, _ => exact head_ld x1 _ _ 1 rfl rfl rfl rfl d r
  | ⟨2, _⟩, _ => exact head_ld x1 _ _ 2 rfl rfl rfl rfl d r
  | ⟨3, _⟩, _ => exact head_ld x1 _ _ 3 rfl rfl rfl rfl d r
  | ⟨4, _⟩, _ => exact head_ld x1 _ _ 4 rfl rfl rfl rfl d r
  | ⟨5, _⟩, _ => exact head_ld x1 _ _ 5 rfl rfl rfl rfl d r
  | ⟨6, _⟩, _ => exact head_ld x1 _ _ 6 rfl rfl rfl rfl d r
  | ⟨7, _⟩, _ => exact head_ld x1 _ _ 7 rfl rfl rfl rfl d r

theorem heads_hi (x1 x2 : Vec Ideal S1x8x64x256 .f32) (n : Fin 16) (hn : 8 ≤ n.val) (d : Fin 64) (r : Fin 256) :
    heads x1 x2 n (ix2 d r) = x2 (ix4 (0 : Fin 1) (⟨n.val - 8, by have := n.isLt; omega⟩ : Fin 8) d r) := by
  match n, hn with
  | ⟨8, _⟩, _ => exact head_ld x2 _ _ 0 rfl rfl rfl rfl d r
  | ⟨9, _⟩, _ => exact head_ld x2 _ _ 1 rfl rfl rfl rfl d r
  | ⟨10, _⟩, _ => exact head_ld x2 _ _ 2 rfl rfl rfl rfl d r
  | ⟨11, _⟩, _ => exact head_ld x2 _ _ 3 rfl rfl rfl rfl d r
  | ⟨12, _⟩, _ => exact head_ld x2 _ _ 4 rfl rfl rfl rfl d r
  | ⟨13, _⟩, _ => exact head_ld x2 _ _ 5 rfl rfl rfl rfl d r
  | ⟨14, _⟩, _ => exact head_ld x2 _ _ 6 rfl rfl rfl rfl d r
  | ⟨15, _⟩, _ => exact head_ld x2 _ _ 7 rfl rfl rfl rfl d r
  | ⟨j + 16, h⟩, _ => exact absurd h (by omega)

theorem heads_apply (x1 x2 : Vec Ideal S1x8x64x256 .f32) (k : Fin 1024) (r : Fin 256) :
    heads x1 x2 (⟨k.val / 64, by have := k.isLt; omega⟩ : Fin 16) (ix2 (⟨k.val % 64, Nat.mod_lt _ (by decide)⟩ : Fin 64) r) = feat x1 x2 k r := by
  unfold feat
  split
  · rename_i h
    exact heads_lo x1 x2 _ (by show k.val / 64 < 8; omega) _ r
  · rename_i h
    exact heads_hi x1 x2 _ (by show 8 ≤ k.val / 64; omega) _ r

theorem cat_apply (f : Fin 16 → FVec Ideal S64x256 .f32) (k : Fin 1024) (r : Fin 256) :
    concatenate S1024x256 0 [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩, ⟨S64x256, f 8⟩, ⟨S64x256, f 9⟩, ⟨S64x256, f 10⟩, ⟨S64x256, f 11⟩, ⟨S64x256, f 12⟩, ⟨S64x256, f 13⟩, ⟨S64x256, f 14⟩, ⟨S64x256, f 15⟩]
      concatenates_S64x256_S64x256_S64x256_S64x256_S64x256_S64x256_S64x256_S64x256_S64x256_S64x256_S64x256_S64x256_S64x256_S64x256_S64x256_S64x256_S1024x256_d0 (ix2 k r)
      = f (⟨k.val / 64, by have := k.isLt; omega⟩ : Fin 16) (ix2 (⟨k.val % 64, Nat.mod_lt _ (by decide)⟩ : Fin 64) r) := by
  refine concatenate_ofFn_apply (t := S1024x256) (s₁ := S64x256) 0 f _ rfl 64 rfl (ix2 k r) _ rfl _ rfl ?_
  intro b hb
  match b, hb with
  | ⟨0, _⟩, hb => exact absurd rfl hb
  | ⟨1, _⟩, _ => rfl

theorem dot_apply (C : FVec Ideal S1024x256 .f32) (w : Vec Ideal S1024x1024 .bf16) (g : Vec Ideal S1x1x1x1024 .f32) (r : Fin 256) (n : Fin 1024) :
    mulf (broadcastTo S256x1024 (shapeCast S1x1024 g shapeCasts_S1x1x1x1024_S1x1024) broadcasts_S1x1024_S256x1024)
      (matmul dot_S256x1024_S1024x1024_S256x1024_1_0_0_1_n_n none
        (truncf .bf16 (transpose S256x1024 [1, 0] C transposes_S1024x256_p1_0_S256x1024) bitsLt_bf16_f32 : FVec Ideal S256x1024 .bf16)
        (shapeCast S1024x1024 w shapeCasts_S1024x1024_S1024x1024 : FVec Ideal S1024x1024 .bf16) (constant S256x1024 .f32 0x00000000#32)) (ix2 r n)
      = g (ix4 (0 : Fin 1) (0 : Fin 1) (0 : Fin 1) n) * ∑ k : Fin 1024, C (ix2 k r) * w (ix2 k n) := by
  pointwise

theorem pay12_apply (f : Fin 16 → FVec Ideal S64x256 .f32) (b9 b10 b11 b12 b13 b14 b15 : Vec Ideal S1x1x64x256 .f32)
    (h9 : shapeCast S64x256 b9 shapeCasts_S1x1x64x256_S64x256 = f 9) (h10 : shapeCast S64x256 b10 shapeCasts_S1x1x64x256_S64x256 = f 10)
    (h11 : shapeCast S64x256 b11 shapeCasts_S1x1x64x256_S64x256 = f 11) (h12 : shapeCast S64x256 b12 shapeCasts_S1x1x64x256_S64x256 = f 12)
    (h13 : shapeCast S64x256 b13 shapeCasts_S1x1x64x256_S64x256 = f 13) (h14 : shapeCast S64x256 b14 shapeCasts_S1x1x64x256_S64x256 = f 14)
    (h15 : shapeCast S64x256 b15 shapeCasts_S1x1x64x256_S64x256 = f 15)
    (w : Vec Ideal S1024x1024 .bf16) (g : Vec Ideal S1x1x1x1024 .f32) (r : Fin 256) (n : Fin 1024) :
    k0_pay12 (f 0) (f 1) (f 2) (f 3) (f 4) (f 5) (f 6) (f 7) (f 8) b9 b10 b11 b12 b13 b14 b15 w g (ix2 r n)
      = g (ix4 (0 : Fin 1) (0 : Fin 1) (0 : Fin 1) n)
        * ∑ k : Fin 1024, f (⟨k.val / 64, by have := k.isLt; omega⟩ : Fin 16) (ix2 (⟨k.val % 64, Nat.mod_lt _ (by decide)⟩ : Fin 64) r) * w (ix2 k n) := by
  unfold k0_pay12
  rw [h9, h10, h11, h12, h13, h14, h15]
  refine (dot_apply _ w g r n).trans ?_
  simp only [cat_apply]

theorem out_apply (x0 : Vec Ideal S1x256x1024 .f32) (x1 x2 : Vec Ideal S1x8x64x256 .f32) (x3 : Vec Ideal S1024x1024 .bf16) (x4 : Vec Ideal S1x1x1x1024 .f32)
    (r : Fin 256) (n : Fin 1024) :
    out0_5 x0 x1 x2 x3 x4 (ix3 (0 : Fin 1) r n)
      = x0 (ix3 (0 : Fin 1) r n) + x4 (ix4 (0 : Fin 1) (0 : Fin 1) (0 : Fin 1) n) * ∑ k : Fin 1024, feat x1 x2 k r * x3 (ix2 k n) := by
  unfold out0_5
  rw [Value.canon5_eq]
  refine congr (congrArg HAdd.hAdd ?_) ?_
  · show x0 _ = x0 _
    congr 1
    funext a; apply Fin.ext
    match a with
    | ⟨0, _⟩ => rfl
    | ⟨1, _⟩ => show 0 + 1 * r.val = r.val; omega
    | ⟨2, _⟩ => show 0 + 1 * n.val = n.val; omega
  · refine (congrArg _ (show Value.ix5_1 (ix3 (0 : Fin 1) r n) = ix2 r n from ?_)).trans
      ((pay12_apply (heads x1 x2) _ _ _ _ _ _ _ rfl rfl rfl rfl rfl rfl rfl (View.ld x3 r0_8) (View.ld x4 r0_10) r n).trans ?_)
    · funext a; apply Fin.ext
      match a with
      | ⟨0, _⟩ => rfl
      | ⟨1, _⟩ => rfl
    · have e4 : View.ld x4 r0_10 = x4 := View.ld_unit_zero (by funext a; fin_cases a <;> rfl) _ x4
      have e3 : View.ld x3 r0_8 = x3 := View.ld_unit_zero (by funext a; fin_cases a <;> rfl) _ x3
      rw [e3, e4]
      simp only [heads_apply]

end Cert.Kernel6Ideal.Out
end
-- ==== Proof.Result6.lean ====
module

public import proofs.«01_k».proof.Proof.Out6
public import proofs.«01_k».proof.Proof.Gen.Reference6Ideal.Read
public import Idealize.ShloMosaic.Lib.Claim
public import Idealize.ShloMosaic.Lib.IdealHost

/-! The odd layer's output projection: its result is the reference's value, for all arguments. -/

@[expose] public section

set_option maxRecDepth 16384

noncomputable section

namespace Cert.Kernel6Ideal.Out

open Idealize.ShloMosaic Idealize.ShloMosaic.TcCoe Idealize.ShloMosaic.Tactic
open Idealize.SL Idealize.SL.Sem
open Cert.Kernel6Ideal.Gen

variable (m : (ℓ : Loc nD τ sig) → Buf (Elt Ideal) ℓ) (c : Dev nD)

abbrev arg0 : Vec Ideal S2x16640x1024 .f32 := m (c, main_arg0)
abbrev arg1 : Vec Ideal S2x8x16384x64 .f32 := m (c, main_arg1)
abbrev arg2 : Vec Ideal S2x8x16384x64 .f32 := m (c, main_arg2)
abbrev arg3 : Vec Ideal S1024x1024 .f32 := m (c, main_arg3)
abbrev arg4 : Vec Ideal S2x1024 .f32 := m (c, main_arg4)

/-! What the operations before the launch leave in its arguments. -/

theorem heads_in (b : Fin 2) (h : Fin 8) (d : Fin 64) (t : Fin 16384) :
    (V m c main_v0 (ix4 b h d t) : EReal) = arg1 m c (ix4 b h t d) := by
  dsimp only [V, hostOps0, List.flatten_cons, List.flatten_nil, List.append_nil, List.cons_append, List.nil_append]
  entry_read
  pointwise

theorem heads_in' (b : Fin 2) (h : Fin 8) (d : Fin 64) (t : Fin 16384) :
    (V m c main_v1 (ix4 b h d t) : EReal) = arg2 m c (ix4 b h t d) := by
  dsimp only [V, hostOps0, List.flatten_cons, List.flatten_nil, List.append_nil, List.cons_append, List.nil_append]
  entry_read
  pointwise

theorem weights_in (k n : Fin 1024) : (V m c main_v2 (ix2 k n) : EReal) = arg3 m c (ix2 k n) := by
  dsimp only [V, hostOps0, List.flatten_cons, List.flatten_nil, List.append_nil, List.cons_append, List.nil_append]
  entry_read
  rfl

theorem gate_in (b : Fin 2) (n : Fin 1024) : (V m c main_v7 (ix4 b (0 : Fin 2) (0 : Fin 1) n) : EReal) = arg4 m c (ix2 b n) := by
  dsimp only [V, hostOps0, List.flatten_cons, List.flatten_nil, List.append_nil, List.cons_append, List.nil_append]
  entry_read
  pointwise

theorem residual_in : (V m c main_v8 : Vec Ideal S2x16640x1024 .f32) = arg0 m c := by
  dsimp only [V, hostOps0, List.flatten_cons, List.flatten_nil, List.append_nil, List.cons_append, List.nil_append]
  entry_read
  rfl

/-! The blocks of a point. -/

theorem idx0 : ∀ t : Fin cfg0.N, win0_0.index t = ![t.val / 64, t.val % 64, 0] := (by decide +kernel : ∀ t : Fin grid0.N, _)
theorem idx1 : ∀ t : Fin cfg0.N, win0_1.index t = ![t.val / 64, 0, 0, t.val % 64] := (by decide +kernel : ∀ t : Fin grid0.N, _)
theorem idx2 : ∀ t : Fin cfg0.N, win0_2.index t = ![t.val / 64, 0, 0, t.val % 64] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 64, 0, 0, 0] := (by decide +kernel : ∀ t : Fin grid0.N, _)
theorem idx5 : ∀ t : Fin cfg0.N, win0_5.index t = ![t.val / 64, t.val % 64, 0] := (by decide +kernel : ∀ t : Fin grid0.N, _)
theorem flush5 : ∀ t : Fin cfg0.N, (cfg0.win 5).flush t = true := (by decide +kernel : ∀ t : Fin grid0.N, _)

theorem blk0 (t : Fin cfg0.N) (y : S1x256x1024.Idx) (z : S2x16640x1024.Idx)
    (h0 : (z 0).val = t.val / 64 + (y 0).val) (h1 : (z 1).val = t.val % 64 * 256 + (y 1).val) (h2 : (z 2).val = (y 2).val) :
    iblk m c 0 t y = V m c main_arg0 z := by
  have e := idx0 t
  blk_simp [iblk]
  congr 1
  funext a; apply Fin.ext
  fin_cases a
  all_goals (blk_simp [e]; simp at *; omega)

theorem blk1 (t : Fin cfg0.N) (y : S1x8x64x256.Idx) (z : S2x8x64x16384.Idx)
    (h0 : (z 0).val = t.val / 64 + (y 0).val) (h1 : (z 1).val = (y 1).val) (h2 : (z 2).val = (y 2).val)
    (h3 : (z 3).val = t.val % 64 * 256 + (y 3).val) :
    iblk m c 1 t y = V m c main_v0 z := by
  have e := idx1 t
  blk_simp [iblk]
  congr 1
  funext a; apply Fin.ext
  fin_cases a
  all_goals (blk_simp [e]; simp at *; omega)

theorem blk2 (t : Fin cfg0.N) (y : S1x8x64x256.Idx) (z : S2x8x64x16384.Idx)
    (h0 : (z 0).val = t.val / 64 + (y 0).val) (h1 : (z 1).val = (y 1).val) (h2 : (z 2).val = (y 2).val)
    (h3 : (z 3).val = t.val % 64 * 256 + (y 3).val) :
    iblk m c 2 t y = V m c main_v1 z := by
  have e := idx2 t
  blk_simp [iblk]
  congr 1
  funext a; apply Fin.ext
  fin_cases a
  all_goals (blk_simp [e]; simp at *; omega)

theorem blk3 (t : Fin cfg0.N) (y : S1024x1024.Idx) : iblk m c 3 t y = V m c main_v2 y := by
  have e := idx3 t
  blk_simp [iblk]
  congr 1
  funext a; apply Fin.ext
  fin_cases a
  all_goals (blk_simp [e]; try simp)

theorem blk4 (t : Fin cfg0.N) (y : S1x1x1x1024.Idx) (z : S2x2x1x1024.Idx)
    (h0 : (z 0).val = t.val / 64 + (y 0).val) (h1 : (z 1).val = (y 1).val) (h2 : (z 2).val = (y 2).val) (h3 : (z 3).val = (y 3).val) :
    iblk m c 4 t y = V m c main_v7 z := by
  have e := idx4 t
  blk_simp [iblk]
  congr 1
  funext a; apply Fin.ext
  fin_cases a
  all_goals (blk_simp [e]; try (simp at *; try omega))

theorem emb_out (t : Fin cfg0.N) (y : S1x256x1024.Idx) :
    ((win0_5.blk t).view.emb y : S2x16640x1024.Idx) = ix3 (⟨t.val / 64, by have : t.val < 128 := t.isLt; omega⟩ : Fin 2)
      (⟨t.val % 64 * 256 + (y 1).val, by have : (y 1).val < 256 := (y 1).isLt; omega⟩ : Fin 16640) (⟨(y 2).val, (y 2).isLt⟩ : Fin 1024) := by
  have e := idx5 t
  have hy : (y 0).val < 1 := (y 0).isLt
  funext a; apply Fin.ext
  fin_cases a <;> (blk_simp [e]; try simp)

/-! The two sides. -/

/-- Feature `k` of the merged heads of a row. -/
def merged (x1 x2 : Vec Ideal S2x8x16384x64 .f32) (b : Fin 2) (t : Fin 16384) (k : Fin 1024) : EReal :=
  if h : k.val < 512 then x1 (ix4 b (⟨k.val / 64, by omega⟩ : Fin 8) t (⟨k.val % 64, Nat.mod_lt _ (by decide)⟩ : Fin 64))
  else x2 (ix4 b (⟨k.val / 64 - 8, by have := k.isLt; omega⟩ : Fin 8) t (⟨k.val % 64, Nat.mod_lt _ (by decide)⟩ : Fin 64))

/-- A row of the result. -/
def rowOut (x0 : Vec Ideal S2x16640x1024 .f32) (x1 x2 : Vec Ideal S2x8x16384x64 .f32) (x3 : Vec Ideal S1024x1024 .f32) (x4 : Vec Ideal S2x1024 .f32)
    (b : Fin 2) (t : Fin 16640) (n : Fin 1024) : EReal :=
  if h : t.val < 16384 then x0 (ix3 b t n) + x4 (ix2 b n) * ∑ k : Fin 1024, merged x1 x2 b (⟨t.val, h⟩ : Fin 16384) k * x3 (ix2 k n)
  else x0 (ix3 b t n)

theorem kernel_row (b : Fin 2) (t : Fin 16640) (n : Fin 1024) :
    (dats m 0 c).arrAt 5 cfg0.N (ix3 b t n) = rowOut (arg0 m c) (arg1 m c) (arg2 m c) (arg3 m c) (arg4 m c) b t n := by
  unfold rowOut
  have hb := b.isLt
  split
  · rename_i ht
    let T : Fin cfg0.N := ⟨b.val * 64 + t.val / 256, by show _ < 128; omega⟩
    let r : Fin 256 := ⟨t.val % 256, Nat.mod_lt _ (by decide)⟩
    have hT : T.val = b.val * 64 + t.val / 256 := rfl
    have hr : r.val = t.val % 256 := rfl
    clear_value T r
    have h := congrFun (Value.blocks5 m c T (flush5 T)) (ix3 (0 : Fin 1) r n : S1x256x1024.Idx)
    have e : (((win0_5.blk T).view.emb (ix3 (0 : Fin 1) r n : S1x256x1024.Idx)) : S2x16640x1024.Idx) = ix3 b t n := by
      rw [emb_out]
      funext a; apply Fin.ext
      match a with
      | ⟨0, _⟩ => show T.val / 64 = b.val; omega
      | ⟨1, _⟩ => show T.val % 64 * 256 + r.val = t.val; omega
      | ⟨2, _⟩ => rfl
    have h' : (dats m 0 c).arrAt 5 cfg0.N ((win0_5.blk T).view.emb (ix3 (0 : Fin 1) r n : S1x256x1024.Idx))
        = (dats m 0 c).flushed 5 T (ix3 (0 : Fin 1) r n : S1x256x1024.Idx) := h
    rw [e, Value.flushed5] at h'
    refine h'.trans ?_
    refine Eq.trans (b := out0_5 (iblk m c 0 T) (iblk m c 1 T) (iblk m c 2 T) (iblk m c 3 T) (iblk m c 4 T) (ix3 (0 : Fin 1) r n)) rfl ?_
    rw [out_apply, blk0 m c T _ (ix3 b t n) (by show b.val = T.val / 64 + 0; omega) (by show t.val = T.val % 64 * 256 + r.val; omega) rfl,
      blk4 m c T _ (ix4 b (0 : Fin 2) (0 : Fin 1) n) (by show b.val = T.val / 64 + 0; omega) rfl rfl rfl, gate_in, V_main_arg0]
    refine congrArg (fun s : EReal => (arg0 m c (ix3 b t n) : EReal) + arg4 m c (ix2 b n) * s) (Finset.sum_congr rfl fun k _ => ?_)
    rw [blk3, weights_in]
    congr 1
    unfold feat merged
    split
    · rw [blk1 m c T _ (ix4 b (⟨k.val / 64, by omega⟩ : Fin 8) (⟨k.val % 64, Nat.mod_lt _ (by decide)⟩ : Fin 64) (⟨t.val, ht⟩ : Fin 16384))
        (by show b.val = T.val / 64 + 0; omega) rfl rfl (by show t.val = T.val % 64 * 256 + r.val; omega), heads_in]
    · rw [blk2 m c T _ (ix4 b (⟨k.val / 64 - 8, by have := k.isLt; omega⟩ : Fin 8) (⟨k.val % 64, Nat.mod_lt _ (by decide)⟩ : Fin 64) (⟨t.val, ht⟩ : Fin 16384))
        (by show b.val = T.val / 64 + 0; omega) rfl rfl (by show t.val = T.val % 64 * 256 + r.val; omega), heads_in']
  · rename_i ht
    refine (Value.entry5 m c (ix3 b t n) fun T _ hm => ?_).trans (congrFun (residual_in m c) (ix3 b t n))
    obtain ⟨y, hy⟩ := View.exists_emb_of_mem_set _ hm
    have h1 := congrArg (fun i : S2x16640x1024.Idx => (i 1).val) ((emb_out T y).symm.trans hy)
    have hy1 : (y 1).val < 256 := (y 1).isLt
    have h2 : T.val % 64 * 256 + (y 1).val = t.val := h1
    omega

theorem merged_ref (x1 x2 : Vec Ideal S2x8x16384x64 .f32) (b : Fin 2) (t : Fin 16384) (k : Fin 1024) :
    Reference6Ideal.Read.val_main_v4 (F := Ideal) x1 x2 (ix3 b t k) = merged x1 x2 b t k := by
  have hk := k.isLt
  have hb := b.isLt
  have ht := t.isLt
  unfold merged Reference6Ideal.Read.val_main_v4
  pointwise
  split
  · rw [Reference6Ideal.Read.val_main_v1_apply, Reference6Ideal.Read.val_main_v0_apply]
    congr 1
    funext a; apply Fin.ext
    match a with
    | ⟨0, _⟩ => show ((b.val * 16384 + t.val) * 512 + k.val) / 8388608 = b.val; omega
    | ⟨1, _⟩ => show ((b.val * 16384 + t.val) * 512 + k.val) / 64 % 8 = k.val / 64; omega
    | ⟨2, _⟩ => show ((b.val * 16384 + t.val) * 512 + k.val) / 512 % 16384 = t.val; omega
    | ⟨3, _⟩ => show ((b.val * 16384 + t.val) * 512 + k.val) % 64 = k.val % 64; omega
  · rw [Reference6Ideal.Read.val_main_v3_apply, Reference6Ideal.Read.val_main_v2_apply]
    congr 1
    funext a; apply Fin.ext
    match a with
    | ⟨0, _⟩ => show ((b.val * 16384 + t.val) * 512 + (k.val - 512)) / 8388608 = b.val; omega
    | ⟨1, _⟩ => show ((b.val * 16384 + t.val) * 512 + (k.val - 512)) / 64 % 8 = k.val / 64 - 8; omega
    | ⟨2, _⟩ => show ((b.val * 16384 + t.val) * 512 + (k.val - 512)) / 512 % 16384 = t.val; omega
    | ⟨3, _⟩ => show ((b.val * 16384 + t.val) * 512 + (k.val - 512)) % 64 = k.val % 64; omega

theorem reference_row (x0 : Vec Ideal S2x16640x1024 .f32) (x1 x2 : Vec Ideal S2x8x16384x64 .f32) (x3 : Vec Ideal S1024x1024 .f32) (x4 : Vec Ideal S2x1024 .f32)
    (b : Fin 2) (t : Fin 16640) (n : Fin 1024) :
    Reference6Ideal.Read.val_main_v12 (F := Ideal) x0 x1 x2 x3 x4 (ix3 b t n) = rowOut x0 x1 x2 x3 x4 b t n := by
  unfold rowOut Reference6Ideal.Read.val_main_v12
  pointwise
  split
  · rename_i ht
    rw [Reference6Ideal.Read.val_main_v10_apply, Reference6Ideal.Read.val_main_v9_apply, Reference6Ideal.Read.val_main_v6_apply,
      Reference6Ideal.Read.val_main_v8_apply, Reference6Ideal.Read.val_main_v7_apply, Reference6Ideal.Read.val_main_v5_apply]
    show (_ : EReal) + _ * _ = _ + _ * _
    refine congr (congrArg HAdd.hAdd ?_) (congr (congrArg HMul.hMul ?_) (Finset.sum_congr rfl fun k _ => congr (congrArg HMul.hMul ?_) ?_))
    · congr 1
      funext a; apply Fin.ext
      match a with
      | ⟨0, _⟩ => rfl
      | ⟨1, _⟩ => rfl
      | ⟨2, _⟩ => rfl
    · congr 1
      funext a; apply Fin.ext
      match a with
      | ⟨0, _⟩ => rfl
      | ⟨1, _⟩ => rfl
    · rw [← merged_ref]
      congr 1
      funext a; apply Fin.ext
      match a with
      | ⟨0, _⟩ => rfl
      | ⟨1, _⟩ => rfl
      | ⟨2, _⟩ => rfl
    · congr 1
      funext a; apply Fin.ext
      match a with
      | ⟨0, _⟩ => rfl
      | ⟨1, _⟩ => rfl
  · rename_i ht
    rw [Reference6Ideal.Read.val_main_v11_apply]
    congr 1
    funext a; apply Fin.ext
    match a with
    | ⟨0, _⟩ => rfl
    | ⟨1, _⟩ => show 16384 + (t.val - 16384) = t.val; omega
    | ⟨2, _⟩ => rfl

theorem result_eq : (dats m 0 c).arrAt 5 cfg0.N
    = Reference6Ideal.Read.val_main_v12 (F := Ideal) (arg0 m c) (arg1 m c) (arg2 m c) (arg3 m c) (arg4 m c) := by
  funext i
  have hi : (i : S2x16640x1024.Idx) = ix3 (⟨(i 0).val, (i 0).isLt⟩ : Fin 2) (⟨(i 1).val, (i 1).isLt⟩ : Fin 16640) (⟨(i 2).val, (i 2).isLt⟩ : Fin 1024) := by
    funext a; fin_cases a <;> rfl
  rw [hi]
  exact (kernel_row m c _ _ _).trans (reference_row _ _ _ _ _ _ _ _).symm

end Cert.Kernel6Ideal.Out
end
-- ==== Proof.Claims6.lean ====
module

public import proofs.«01_k».proof.Defs
public import proofs.«01_k».proof.Proof.Result6
public import proofs.«01_k».proof.Proof.Gen.Kernel6.Frame
public import proofs.«01_k».proof.Proof.Gen.Reference6Ideal.Run

/-! The claims of the odd layer's output projection: its frames, the reference's, and the equality of the two results. -/

@[expose] public section

noncomputable section

namespace Cert.Claims6

open Idealize.ShloMosaic Idealize.ShloMosaic.TcCoe Idealize.SL.Sem

theorem kernel_bits : Cert.quiescent_Kernel6 := fun m ρ _ => Cert.Kernel6.Gen.frame m ρ

theorem kernel_ideal : Cert.quiescent_Kernel6Ideal := fun m ρ _ => Cert.Kernel6Ideal.Gen.frame m ρ

theorem reference_ideal : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

attribute [local instance] Cert.Kernel6.Gen.facts Cert.Kernel6Ideal.Gen.facts Cert.Reference6Ideal.Gen.facts in
theorem algebraic : Cert.algebraic_Kernel6Ideal_Reference6Ideal := fun m g m' g' _ hm => by
  refine ⟨fun c => (Cert.Kernel6Ideal.Gen.dats m 0 c).arrAt 5 Cert.Kernel6Ideal.cfg0.N, ?_, ?_⟩
  · exact (θ_run Cert.Kernel6Ideal.defs _ _).mono (fun r h => h) (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    obtain ⟨h0, h1, h2, h3, h4⟩ := hm c
    rw [h0, h1, h2, h3, h4]
    exact (Cert.Kernel6Ideal.Out.result_eq m c).symm

end Cert.Claims6
end
-- ==== Proof.Result7.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.Claim
public import Idealize.ShloMosaic.Lib.IdealHost

/-! The modulation vectors: the call's result is the reference's value, for all arguments. -/

@[expose] public section

set_option maxRecDepth 16384

noncomputable section

namespace Cert.Kernel7Ideal.Out

open Idealize.ShloMosaic Idealize.ShloMosaic.TcCoe Idealize.ShloMosaic.Tactic
open Idealize.SL Idealize.SL.Sem
open Cert.Kernel7Ideal.Gen

variable (m : (ℓ : Loc nD τ sig) → Buf (Elt Ideal) ℓ) (c : Dev nD)

abbrev arg0 : Vec Ideal S2x1024 .f32 := m (c, main_arg0)
abbrev arg1 : Vec Ideal S1024 .f32 := m (c, main_arg1)
abbrev arg2 : Vec Ideal S4x1024x6144 .f32 := m (c, main_arg2)
abbrev arg3 : Vec Ideal S4x6144 .f32 := m (c, main_arg3)

/-! What the operations before the launch leave in its arguments. -/

theorem cond_in : (V m c main_v2 : Vec Ideal S8x1024 .f32) = Reference7Ideal.Read.val_main_v2 (F := Ideal) (arg0 m c) (arg1 m c) := by
  dsimp only [V, hostOps0, List.flatten_cons, List.flatten_nil, List.append_nil, List.cons_append, List.nil_append]
  rw [StableHlo.after_cons, StableHlo.after_cons, StableHlo.after_cons, StableHlo.after_cons, StableHlo.after_cons, StableHlo.after_nil]
  rw [StableHlo.reshape_result_ne]
  rotate_left
  · decide
  rw [StableHlo.nary_result]
  generalize hF : (StableHlo.unary main_cst main_v1 _ _ _).result _ = F
  have e0 : F (Proc.tc.devRef main_arg0) = m (c, main_arg0) := by
    rw [← hF, StableHlo.unary_result_ne (h := by decide), StableHlo.nullary_result_ne (h := by decide), StableHlo.unary_result_ne (h := by decide)]
  have e1 : F (Proc.tc.devRef main_v0) = Reference7Ideal.Read.val_main_v0 (F := Ideal) (arg1 m c) := by
    rw [← hF, StableHlo.unary_result_ne (h := by decide), StableHlo.nullary_result_ne (h := by decide), StableHlo.unary_result]; rfl
  have e2 : F (Proc.tc.devRef main_v1) = Reference7Ideal.Read.val_main_v1 (F := Ideal) := by
    rw [← hF, StableHlo.unary_result, StableHlo.nullary_result]; rfl
  show concatenate S8x1024 0 [⟨S2x1024, F (Proc.tc.devRef main_arg0)⟩, ⟨S1x1024, F (Proc.tc.devRef main_v0)⟩, ⟨S5x1024, F (Proc.tc.devRef main_v1)⟩] _ = _
  rw [e0, e1, e2]
  rfl

theorem bias_in (l : Fin 4) (n : Fin 6144) : (V m c main_v3 (ix3 l (0 : Fin 1) n) : EReal) = arg3 m c (ix2 l n) := by
  dsimp only [V, hostOps0, List.flatten_cons, List.flatten_nil, List.append_nil, List.cons_append, List.nil_append]
  entry_read
  pointwise

/-! The blocks of a point. -/

theorem idx0 : ∀ t : Fin cfg0.N, win0_0.index t = ![0, 0] := (by decide +kernel : ∀ t : Fin grid0.N, _)
theorem idx1 : ∀ t : Fin cfg0.N, win0_1.index t = ![t.val / 4, 0, t.val % 4] := (by decide +kernel : ∀ t : Fin grid0.N, _)
theorem idx2 : ∀ t : Fin cfg0.N, win0_2.index t = ![t.val / 4, 0, t.val % 4] := (by decide +kernel : ∀ t : Fin grid0.N, _)
theorem idx3 : ∀ t : Fin cfg0.N, win0_3.index t = ![t.val / 4, 0, t.val % 4] := (by decide +kernel : ∀ t : Fin grid0.N, _)
theorem flush3 : ∀ t : Fin cfg0.N, (cfg0.win 3).flush t = true := (by decide +kernel : ∀ t : Fin grid0.N, _)

theorem blk0 (t : Fin cfg0.N) (r : Fin 8) (k : Fin 1024) : iblk m c 0 t (ix2 r k) = V m c main_v2 (ix2 r k) := by
  have e := idx0 t
  blk_simp [iblk]
  congr 1
  funext a; apply Fin.ext
  fin_cases a
  all_goals (blk_simp [e]; try (simp at *; try omega))

theorem blk1 (t : Fin cfg0.N) (y : S1x1024x1536.Idx) (z : S4x1024x6144.Idx)
    (h0 : (z 0).val = t.val / 4 + (y 0).val) (h1 : (z 1).val = (y 1).val) (h2 : (z 2).val = t.val % 4 * 1536 + (y 2).val) :
    iblk m c 1 t y = V m c main_arg2 z := by
  have e := idx1 t
  blk_simp [iblk]
  congr 1
  funext a; apply Fin.ext
  fin_cases a
  all_goals (blk_simp [e]; try (simp at *; try omega))

theorem blk2 (t : Fin cfg0.N) (y : S1x1x1536.Idx) (z : S4x1x6144.Idx)
    (h0 : (z 0).val = t.val / 4 + (y 0).val) (h1 : (z 1).val = (y 1).val) (h2 : (z 2).val = t.val % 4 * 1536 + (y 2).val) :
    iblk m c 2 t y = V m c main_v3 z := by
  have e := idx2 t
  blk_simp [iblk]
  congr 1
  funext a; apply Fin.ext
  fin_cases a
  all_goals (blk_simp [e]; try (simp at *; try omega))

theorem emb_out (t : Fin cfg0.N) (y : S1x8x1536.Idx) :
    ((win0_3.blk t).view.emb y : S4x8x6144.Idx) = ix3 (⟨t.val / 4, by have : t.val < 16 := t.isLt; omega⟩ : Fin 4)
      (⟨(y 1).val, (y 1).isLt⟩ : Fin 8) (⟨t.val % 4 * 1536 + (y 2).val, by have : (y 2).val < 1536 := (y 2).isLt; omega⟩ : Fin 6144) := by
  have e := idx3 t
  have hy : (y 0).val < 1 := (y 0).isLt
  funext a; apply Fin.ext
  fin_cases a <;> (blk_simp [e]; try simp)

/-! The two sides. -/

/-- The activation `a / (1 + exp (-a))`. -/
def silu (a : EReal) : EReal := a * Ideal.div 1 (1 + Ideal.exp (-a))

/-- An element of the result: a layer's projection of the activated condition, and its bias. -/
def rowOut (C : Vec Ideal S8x1024 .f32) (w : Vec Ideal S4x1024x6144 .f32) (z : Vec Ideal S4x6144 .f32) (l : Fin 4) (r : Fin 8) (n : Fin 6144) : EReal :=
  (∑ k : Fin 1024, silu (C (ix2 r k)) * w (ix3 l k n)) + z (ix2 l n)

theorem pay_apply (C : Vec Ideal S8x1024 .f32) (w : Vec Ideal S1x1024x1536 .f32) (z : Vec Ideal S1x1x1536 .f32) (r : Fin 8) (n : Fin 1536) :
    (k0_pay1 C w z (ix3 (0 : Fin 1) r n) : EReal)
      = (∑ k : Fin 1024, silu (C (ix2 r k)) * w (ix3 (0 : Fin 1) k n)) + z (ix3 (0 : Fin 1) (0 : Fin 1) n) := by
  unfold k0_pay1
  pointwise
  simp only [Ideal.ofBits_one_f32, Ideal.ofBits_zero_f32, zero_sub]
  rfl

theorem out_apply (C : Vec Ideal S8x1024 .f32) (w : Vec Ideal S1x1024x1536 .f32) (z : Vec Ideal S1x1x1536 .f32) (r : Fin 8) (n : Fin 1536) :
    (out0_3 C w z (ix3 (0 : Fin 1) r n) : EReal)
      = (∑ k : Fin 1024, silu (C (ix2 r k)) * w (ix3 (0 : Fin 1) k n)) + z (ix3 (0 : Fin 1) (0 : Fin 1) n) := by
  have e0 : View.ld C r0_0 = C := View.ld_unit_zero (by funext a; fin_cases a <;> rfl) _ C
  have e1 : View.ld w r0_1 = w := View.ld_unit_zero (by funext a; fin_cases a <;> rfl) _ w
  have e2 : View.ld z r0_2 = z := View.ld_unit_zero (by funext a; fin_cases a <;> rfl) _ z
  unfold out0_3
  rw [View.canon_cons_unit_zero (by funext a; fin_cases a <;> rfl), e0, e1, e2]
  exact pay_apply C w z r n

theorem kernel_row (l : Fin 4) (r : Fin 8) (n : Fin 6144) :
    (dats m 0 c).arrAt 3 cfg0.N (ix3 l r n)
      = rowOut (Reference7Ideal.Read.val_main_v2 (F := Ideal) (arg0 m c) (arg1 m c)) (arg2 m c) (arg3 m c) l r n := by
  unfold rowOut
  have hl := l.isLt
  have hn := n.isLt
  let T : Fin cfg0.N := ⟨l.val * 4 + n.val / 1536, by show _ < 16; omega⟩
  let q : Fin 1536 := ⟨n.val % 1536, Nat.mod_lt _ (by decide)⟩
  have hT : T.val = l.val * 4 + n.val / 1536 := rfl
  have hq : q.val = n.val % 1536 := rfl
  clear_value T q
  have h := congrFun (Value.blocks3 m c T (flush3 T)) (ix3 (0 : Fin 1) r q : S1x8x1536.Idx)
  have e : (((win0_3.blk T).view.emb (ix3 (0 : Fin 1) r q : S1x8x1536.Idx)) : S4x8x6144.Idx) = ix3 l r n := by
    rw [emb_out]
    funext a; apply Fin.ext
    match a with
    | ⟨0, _⟩ => show T.val / 4 = l.val; omega
    | ⟨1, _⟩ => rfl
    | ⟨2, _⟩ => show T.val % 4 * 1536 + q.val = n.val; omega
  have h' : (dats m 0 c).arrAt 3 cfg0.N ((win0_3.blk T).view.emb (ix3 (0 : Fin 1) r q : S1x8x1536.Idx))
      = (dats m 0 c).flushed 3 T (ix3 (0 : Fin 1) r q : S1x8x1536.Idx) := h
  rw [e, Value.flushed3] at h'
  refine h'.trans ?_
  refine Eq.trans (b := out0_3 (iblk m c 0 T) (iblk m c 1 T) (iblk m c 2 T) (ix3 (0 : Fin 1) r q)) rfl ?_
  rw [out_apply, blk2 m c T _ (ix3 l (0 : Fin 1) n) (by show l.val = T.val / 4 + 0; omega) rfl (by show n.val = T.val % 4 * 1536 + q.val; omega), bias_in]
  refine congrArg (fun s : EReal => s + arg3 m c (ix2 l n)) (Finset.sum_congr rfl fun k _ => ?_)
  rw [blk0, cond_in, blk1 m c T _ (ix3 l k n) (by show l.val = T.val / 4 + 0; omega) rfl (by show n.val = T.val % 4 * 1536 + q.val; omega), V_main_arg2]

theorem silu_ref (x0 : Vec Ideal S2x1024 .f32) (x1 : Vec Ideal S1024 .f32) (i : S8x1024.Idx) :
    (Reference7Ideal.Read.val_main_v3 (F := Ideal) x0 x1 i : EReal) = silu (Reference7Ideal.Read.val_main_v2 (F := Ideal) x0 x1 i) := by
  rw [Reference7Ideal.Read.val_main_v3_apply, Reference7Ideal.Read.val_main_call0_v5_apply, Reference7Ideal.Read.val_main_call0_v4_apply,
    Reference7Ideal.Read.val_main_call0_v3_apply, Reference7Ideal.Read.val_main_call0_v2_apply, Reference7Ideal.Read.val_main_call0_v1_apply,
    Reference7Ideal.Read.val_main_call0_v0_apply, Reference7Ideal.Read.val_main_call0_cst_apply, Reference7Ideal.Read.val_main_call0_cst_0_apply]
  unfold silu
  rw [← Ideal.ofBits_one_f32]
  rfl

theorem reference_row (x0 : Vec Ideal S2x1024 .f32) (x1 : Vec Ideal S1024 .f32) (x2 : Vec Ideal S4x1024x6144 .f32) (x3 : Vec Ideal S4x6144 .f32)
    (l : Fin 4) (r : Fin 8) (n : Fin 6144) :
    Reference7Ideal.Read.val_main_v8 (F := Ideal) x0 x1 x2 x3 (ix3 l r n)
      = rowOut (Reference7Ideal.Read.val_main_v2 (F := Ideal) x0 x1) x2 x3 l r n := by
  unfold rowOut
  rw [Reference7Ideal.Read.val_main_v8_apply, Reference7Ideal.Read.val_main_v5_apply, Reference7Ideal.Read.val_main_v4_apply,
    Reference7Ideal.Read.val_main_v7_apply, Reference7Ideal.Read.val_main_v6_apply]
  show (_ : EReal) + _ = _ + _
  refine congr (congrArg HAdd.hAdd (Finset.sum_congr rfl fun k _ => ?_)) ?_
  · rw [silu_ref, mul_comm]
    refine congr (congrArg HMul.hMul (congrArg silu ?_)) ?_
    · congr 1
      funext a; apply Fin.ext
      match a with
      | ⟨0, _⟩ => rfl
      | ⟨1, _⟩ => rfl
    · congr 1
      funext a; apply Fin.ext
      match a with
      | ⟨0, _⟩ => rfl
      | ⟨1, _⟩ => rfl
      | ⟨2, _⟩ => rfl
  · congr 1
    funext a; apply Fin.ext
    match a with
    | ⟨0, _⟩ => rfl
    | ⟨1, _⟩ => rfl

theorem result_eq : (dats m 0 c).arrAt 3 cfg0.N
    = Reference7Ideal.Read.val_main_v8 (F := Ideal) (arg0 m c) (arg1 m c) (arg2 m c) (arg3 m c) := by
  funext i
  have hi : (i : S4x8x6144.Idx) = ix3 (⟨(i 0).val, (i 0).isLt⟩ : Fin 4) (⟨(i 1).val, (i 1).isLt⟩ : Fin 8) (⟨(i 2).val, (i 2).isLt⟩ : Fin 6144) := by
    funext a; fin_cases a <;> rfl
  rw [hi]
  exact (kernel_row m c _ _ _).trans (reference_row _ _ _ _ _ _ _).symm

end Cert.Kernel7Ideal.Out
end
-- ==== Proof.Claims7.lean ====
module

public import proofs.«01_k».proof.Defs
public import proofs.«01_k».proof.Proof.Result7
public import proofs.«01_k».proof.Proof.Gen.Kernel7.Frame
public import proofs.«01_k».proof.Proof.Gen.Reference7Ideal.Run

/-! The claims of the modulation vectors: its frames, the reference's, and the equality of the two results. -/

@[expose] public section

noncomputable section

namespace Cert.Claims7

open Idealize.ShloMosaic Idealize.ShloMosaic.TcCoe Idealize.SL.Sem

theorem kernel_bits : Cert.quiescent_Kernel7 := fun m ρ _ => Cert.Kernel7.Gen.frame m ρ

theorem kernel_ideal : Cert.quiescent_Kernel7Ideal := fun m ρ _ => Cert.Kernel7Ideal.Gen.frame m ρ

theorem reference_ideal : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

attribute [local instance] Cert.Kernel7.Gen.facts Cert.Kernel7Ideal.Gen.facts Cert.Reference7Ideal.Gen.facts in
theorem algebraic : Cert.algebraic_Kernel7Ideal_Reference7Ideal := fun m g m' g' _ hm => by
  refine ⟨fun c => (Cert.Kernel7Ideal.Gen.dats m 0 c).arrAt 3 Cert.Kernel7Ideal.cfg0.N, ?_, ?_⟩
  · exact (θ_run Cert.Kernel7Ideal.defs _ _).mono (fun r h => h) (Cert.Kernel7Ideal.Value.run_blocks (F := Ideal) m g)
  · refine (θ_run Cert.Reference7Ideal.defs _ _).mono (fun r h c => ⟨(h c).1.trans ?_, (h c).2⟩) (Cert.Reference7Ideal.Value.run (F := Ideal) m' g')
    obtain ⟨h0, h1, h2, h3⟩ := hm c
    rw [h0, h1, h2, h3]
    exact (Cert.Kernel7Ideal.Out.result_eq m c).symm

end Cert.Claims7
end
-- ==== Proof.Result8.lean ====
module

public import proofs.«01_k».proof.Proof.Tile
public import proofs.«01_k».proof.Proof.Ref
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.IdealHost

/-! The context tokens' attention: a tile is the values weighted by the softmax of the scaled scores, and so is the
reference's value. -/

@[expose] public section

set_option maxRecDepth 16384

noncomputable section

namespace Cert.RefAt8

open Idealize.ShloMosaic Idealize.ShloMosaic.TcCoe Idealize.ShloMosaic.Tactic
open Cert.Reference8Ideal Cert.Reference8Ideal.Gen Cert.Reference8Ideal.Value Cert.Reference8Ideal.Read
open Cert.RefAt (ofBits_bot)

variable (x0 x1 : Vec Ideal S2x8x256x96 .f32) (x2 : Vec Ideal S2x8x256x64 .f32)

theorem scores_read (b : Fin 2) (h : Fin 8) (t k : Fin 256) :
    (val_main_v2 (F := Ideal) x0 x1 (ix4 b h t k) : EReal)
      = (∑ d : Fin 96, x0 (ix4 b h t d) * x1 (ix4 b h k d)) * Ideal.ofBits .f32 0x3DD105EC#32 := by
  rw [val_main_v2_apply, val_main_v0_apply, val_main_v1_apply, val_main_cst_apply]
  show (_ : EReal) * _ = _
  congr 1
  refine Finset.sum_congr rfl fun d _ => ?_
  congr 1
  · congr 1; funext a; fin_cases a <;> rfl
  · congr 1; funext a; fin_cases a <;> rfl

theorem max_read (b : Fin 2) (h : Fin 8) (t : Fin 256)
    (hs : ∀ k : Fin 256, ∃ r : ℝ, (val_main_v2 (F := Ideal) x0 x1 (ix4 b h t k) : EReal) = (r : EReal)) :
    ∃ r : ℝ, (val_main_v5 (F := Ideal) x0 x1 (ix3 b h t) : EReal) = (r : EReal) := by
  rw [val_main_v5_apply, val_main_v4_apply, val_main_cst_1_apply]
  unfold val_main_v3
  generalize val_main_v2 (F := Ideal) x0 x1 = y at hs ⊢
  pointwise
  rw [show (val_main_cst_0 (F := Ideal) (Shape.Idx.first h_S_) : EReal) = ⊥ from ofBits_bot, ofBits_bot, max_bot_left]
  exact Soft.fold_max_real _ ⟨0, Finset.mem_univ _⟩ _ hs

theorem exp_read (b : Fin 2) (h : Fin 8) (t k : Fin 256) :
    (val_main_v9 (F := Ideal) x0 x1 (ix4 b h t k) : EReal)
      = Ideal.exp ((val_main_v2 (F := Ideal) x0 x1 (ix4 b h t k) : EReal) - (val_main_v5 (F := Ideal) x0 x1 (ix3 b h t) : EReal)) := by
  rw [val_main_v9_apply, val_main_v8_apply, val_main_v7_apply, val_main_v6_apply]
  show Ideal.exp ((_ : EReal) - _) = _
  congr 3
  funext a; fin_cases a <;> rfl

theorem sum_read (b : Fin 2) (h : Fin 8) (t k : Fin 256) :
    (val_main_v12 (F := Ideal) x0 x1 (ix4 b h t k) : EReal)
      = ∑ i : Fin 256, (val_main_v9 (F := Ideal) x0 x1 (ix4 b h t i) : EReal) := by
  rw [val_main_v12_apply, val_main_v11_apply, val_main_v10_apply, val_main_cst_2_apply]
  show Ideal.ofBits .f32 0x00000000#32 + _ = (_ : EReal)
  rw [Ideal.ofBits_zero_f32, zero_add]
  refine Finset.sum_congr rfl fun i _ => ?_
  congr 1; funext a; fin_cases a <;> rfl

/-- The reference's result, its scores being `S` and their maximum `M`. -/
theorem out_read (b : Fin 2) (h : Fin 8) (r : Fin 64) (t : Fin 256) (S : Fin 256 → ℝ)
    (hs : ∀ k : Fin 256, (∑ d : Fin 96, x0 (ix4 b h t d) * x1 (ix4 b h k d)) * Ideal.ofBits .f32 0x3DD105EC#32 = ((S k : ℝ) : EReal)) :
    ∃ M : ℝ, (val_main_v15 (F := Ideal) x0 x1 x2 (ix4 b h r t) : EReal)
      = ∑ k, Ideal.div (Ideal.exp ((S k : EReal) - (M : EReal))) (∑ i, Ideal.exp ((S i : EReal) - (M : EReal))) * x2 (ix4 b h k r) := by
  have hs' : ∀ k : Fin 256, (val_main_v2 (F := Ideal) x0 x1 (ix4 b h t k) : EReal) = ((S k : ℝ) : EReal) := fun k =>
    (scores_read x0 x1 b h t k).trans (hs k)
  obtain ⟨M, hM⟩ := max_read x0 x1 b h t fun k => ⟨S k, hs' k⟩
  have he : ∀ k : Fin 256, (val_main_v9 (F := Ideal) x0 x1 (ix4 b h t k) : EReal) = Ideal.exp ((S k : EReal) - (M : EReal)) := fun k => by
    rw [exp_read, hM, hs']
  refine ⟨M, ?_⟩
  rw [val_main_v15_apply, val_main_v14_apply]
  refine Finset.sum_congr rfl fun k _ => ?_
  rw [← he k, show (∑ i, Ideal.exp ((S i : EReal) - (M : EReal))) = val_main_v12 (F := Ideal) x0 x1 (ix4 b h t k) from by
    rw [sum_read]; exact Finset.sum_congr rfl fun i _ => (he i).symm]
  have el : lidx_main_v14 (idx_main_v15 (ix4 b h r t)) k = ix4 b h t k := by funext a; fin_cases a <;> rfl
  have er : ridx_main_v14 (idx_main_v15 (ix4 b h r t)) k = ix4 b h k r := by funext a; fin_cases a <;> rfl
  rw [el, er, val_main_v13_apply]
  rfl

end Cert.RefAt8

namespace Cert.Kernel8Ideal.Ctx

open Idealize.ShloMosaic Idealize.ShloMosaic.TcCoe Idealize.ShloMosaic.Tactic
open Idealize.SL Idealize.SL.Sem
open Cert.Kernel8Ideal.Gen Cert.Soft
open Cert.KernelIdeal.Att (ofBits_start ofBits_scale ofBits_two score_base_two)

/-! The tile. -/

/-- The score of a key for a query. -/
def score (x : Vec Ideal S1x1x96x256 .bf16) (K : Vec Ideal S1x1x256x96 .bf16) (k q : Fin 256) : EReal :=
  ∑ d : Fin 96, K (ix4 (0 : Fin 1) (0 : Fin 1) k d) * x (ix4 (0 : Fin 1) (0 : Fin 1) d q)

/-- The largest score of a query and the starting value. -/
def top (x : Vec Ideal S1x1x96x256 .bf16) (K : Vec Ideal S1x1x256x96 .bf16) (a : EReal) (q : Fin 256) : EReal :=
  max a ((Finset.univ : Finset (Fin 256)).fold max ⊥ fun k => score x K k q)

theorem acc_apply (x : Vec Ideal S1x1x96x256 .bf16) (a b : Vec Ideal S1x1x1 .f32) (K : Vec Ideal S1x1x256x96 .bf16) (v : Vec Ideal S1x1x80x256 .bf16)
    (hb : b (ix3 (0 : Fin 1) (0 : Fin 1) (0 : Fin 1)) = (0 : EReal)) (r : Fin 80) (q : Fin 256) :
    (k0_pay2 x a b K v (ix2 r q) : EReal)
      = ∑ k : Fin 256, v (ix4 (0 : Fin 1) (0 : Fin 1) r k)
          * Ideal.exp2 (score x K k q - top x K (a (ix3 (0 : Fin 1) (0 : Fin 1) (0 : Fin 1))) q) := by
  unfold k0_pay2
  pointwise
  have h0 : ∀ w : BitVec 1, Scalar.select w (0 : EReal) 0 = 0 := fun w => by unfold Scalar.select; split <;> rfl
  rw [show Ideal.ofBits FTy.f32 4286578688#32 = (⊥ : EReal) from Cert.RefAt.ofBits_bot, hb, zero_mul]
  exact (congrArg (fun e : EReal => e + _) (h0 _)).trans (zero_add _)

theorem quot_apply (x : Vec Ideal S1x1x96x256 .bf16) (a b : Vec Ideal S1x1x1 .f32) (K : Vec Ideal S1x1x256x96 .bf16) (v : Vec Ideal S1x1x80x256 .bf16)
    (r : Fin 64) (q : Fin 256) :
    (k0_pay1 (k0_pay3 x a b K v) (k0_pay4 x a b K v) (ix4 (0 : Fin 1) (0 : Fin 1) r q) : EReal)
      = Ideal.div (k0_pay2 x a b K v (ix2 (⟨r.val, by omega⟩ : Fin 80) q)) (k0_pay2 x a b K v (ix2 (64 : Fin 80) q)) := by
  unfold k0_pay1 k0_pay3 k0_pay4
  generalize k0_pay2 x a b K v = A
  pointwise

theorem out_apply (I : Vec Ideal S1x2x128 .f32) (x : Vec Ideal S1x1x96x256 .bf16) (K : Vec Ideal S1x1x256x96 .bf16) (v : Vec Ideal S1x1x80x256 .bf16)
    (h1 : I (ix3 (0 : Fin 1) (1 : Fin 2) (0 : Fin 128)) = (0 : EReal)) (hone : ∀ k, v (ix4 (0 : Fin 1) (0 : Fin 1) (64 : Fin 80) k) = (1 : EReal))
    (r : Fin 64) (q : Fin 256) :
    (out0_4 I x K v (ix4 (0 : Fin 1) (0 : Fin 1) r q) : EReal)
      = Ideal.div
          (∑ k : Fin 256, v (ix4 (0 : Fin 1) (0 : Fin 1) (⟨r.val, by omega⟩ : Fin 80) k)
            * Ideal.exp2 (score x K k q - top x K (I (ix3 (0 : Fin 1) (0 : Fin 2) (0 : Fin 128))) q))
          (∑ k : Fin 256, Ideal.exp2 (score x K k q - top x K (I (ix3 (0 : Fin 1) (0 : Fin 2) (0 : Fin 128))) q)) := by
  have e1 : View.ld x r0_0 = x := View.ld_unit_zero (by funext a; fin_cases a <;> rfl) _ x
  have e2 : View.ld K r0_3 = K := View.ld_unit_zero (by funext a; fin_cases a <;> rfl) _ K
  have e3 : View.ld v r0_4 = v := View.ld_unit_zero (by funext a; fin_cases a <;> rfl) _ v
  have ea : View.ld I r0_1 (ix3 (0 : Fin 1) (0 : Fin 1) (0 : Fin 1)) = I (ix3 (0 : Fin 1) (0 : Fin 2) (0 : Fin 128)) := by
    refine congrArg I ?_
    funext a; apply Fin.ext
    fin_cases a <;> rfl
  have eb : View.ld I r0_2 (ix3 (0 : Fin 1) (0 : Fin 1) (0 : Fin 1)) = I (ix3 (0 : Fin 1) (1 : Fin 2) (0 : Fin 128)) := by
    refine congrArg I ?_
    funext a; apply Fin.ext
    fin_cases a <;> rfl
  unfold out0_4
  rw [View.canon_cons_unit_zero (by funext a; fin_cases a <;> rfl), quot_apply, e1, e2, e3, acc_apply _ _ _ _ _ (eb.trans h1),
    acc_apply _ _ _ _ _ (eb.trans h1), ea]
  simp only [hone, one_mul]

/-- At real queries and keys a tile is the values weighted by the softmax of the scaled scores. -/
theorem out_softmax (I : Vec Ideal S1x2x128 .f32) (x : Vec Ideal S1x1x96x256 .bf16) (K : Vec Ideal S1x1x256x96 .bf16) (v : Vec Ideal S1x1x80x256 .bf16)
    (r : Fin 64) (q : Fin 256) (qr : Fin 96 → ℝ) (kr : Fin 256 → Fin 96 → ℝ) (κ : ℝ)
    (hq : ∀ d, x (ix4 (0 : Fin 1) (0 : Fin 1) d q) = Ideal.div (((qr d : ℝ) : EReal) * ((κ : ℝ) : EReal)) (Ideal.log ((2 : ℝ) : EReal)))
    (hk : ∀ k d, K (ix4 (0 : Fin 1) (0 : Fin 1) k d) = ((kr k d : ℝ) : EReal))
    (hone : ∀ k, v (ix4 (0 : Fin 1) (0 : Fin 1) (64 : Fin 80) k) = (1 : EReal))
    (h0 : ∃ s : ℝ, I (ix3 (0 : Fin 1) (0 : Fin 2) (0 : Fin 128)) = (s : EReal))
    (h1 : I (ix3 (0 : Fin 1) (1 : Fin 2) (0 : Fin 128)) = (0 : EReal)) (M : ℝ) :
    (out0_4 I x K v (ix4 (0 : Fin 1) (0 : Fin 1) r q) : EReal)
      = ∑ k, Ideal.div (Ideal.exp ((((∑ d, qr d * kr k d) * κ : ℝ) : EReal) - (M : EReal)))
            (∑ i, Ideal.exp ((((∑ d, qr d * kr i d) * κ : ℝ) : EReal) - (M : EReal)))
          * v (ix4 (0 : Fin 1) (0 : Fin 1) (⟨r.val, by omega⟩ : Fin 80) k) := by
  have hs : ∀ k, score x K k q = (((∑ d, qr d * kr k d) * κ / Real.log 2 : ℝ) : EReal) := fun k => by
    unfold score
    simp only [hq, hk]
    exact score_base_two qr _ κ
  obtain ⟨s, hs0⟩ := h0
  obtain ⟨f, hf⟩ := Soft.fold_max_real (Finset.univ : Finset (Fin 256)) ⟨0, Finset.mem_univ _⟩ (fun k => score x K k q) fun k => ⟨_, hs k⟩
  have ht : top x K (I (ix3 (0 : Fin 1) (0 : Fin 2) (0 : Fin 128))) q = ((max s f : ℝ) : EReal) := by
    unfold top
    rw [hf, hs0]
    exact (EReal.coe_strictMono.monotone.map_max).symm
  rw [out_apply I x K v h1 hone, ht]
  simp only [hs]
  exact quotient (by decide) (fun k => (∑ d, qr d * kr k d) * κ) _ (max s f) M

/-! What the operations before the launch leave in its arguments. -/

variable (m : (ℓ : Loc nD τ sig) → Buf (Elt Ideal) ℓ) (c : Dev nD)

abbrev arg0 : Vec Ideal S2x8x256x96 .f32 := m (c, main_arg0)
abbrev arg1 : Vec Ideal S2x8x256x96 .f32 := m (c, main_arg1)
abbrev arg2 : Vec Ideal S2x8x256x64 .f32 := m (c, main_arg2)

theorem keys_in (b : Fin 2) (h : Fin 8) (k : Fin 256) (d : Fin 96) :
    (V m c main_v18 (ix4 b h (⟨16384 + k.val, by omega⟩ : Fin 16640) d) : EReal) = arg1 m c (ix4 b h k d) := by
  dsimp only [V, hostOps0, hostOps0_1, hostOps0_2, List.flatten_cons, List.flatten_nil, List.append_nil, List.cons_append, List.nil_append]
  entry_read
  pointwise

theorem values_in (b : Fin 2) (h : Fin 8) (k : Fin 256) (r : Fin 64) :
    (V m c main_v22 (ix4 b h (⟨r.val, by omega⟩ : Fin 80) (⟨16384 + k.val, by omega⟩ : Fin 16640)) : EReal) = arg2 m c (ix4 b h k r) := by
  dsimp only [V, hostOps0, hostOps0_1, hostOps0_2, List.flatten_cons, List.flatten_nil, List.append_nil, List.cons_append, List.nil_append]
  entry_read
  pointwise
  after_results_simp
  pointwise

theorem ones_in (b : Fin 2) (h : Fin 8) (k : Fin 256) :
    (V m c main_v22 (ix4 b h (64 : Fin 80) (⟨16384 + k.val, by omega⟩ : Fin 16640)) : EReal) = (1 : EReal) := by
  dsimp only [V, hostOps0, hostOps0_1, hostOps0_2, List.flatten_cons, List.flatten_nil, List.append_nil, List.cons_append, List.nil_append]
  entry_read
  pointwise
  after_results_simp
  exact Eq.trans (b := Ideal.ofBits .f32 0x3F800000#32) rfl Ideal.ofBits_one_f32

theorem queries_in (b : Fin 2) (h : Fin 8) (q : Fin 256) (d : Fin 96) :
    (V m c main_v20 (ix4 b h d (⟨16384 + q.val, by omega⟩ : Fin 16640)) : EReal)
      = Ideal.div (arg0 m c (ix4 b h q d) * Ideal.ofBits .f32 0x3DD105EC#32) (Ideal.log (Ideal.ofBits .f32 0x40000000#32)) := by
  dsimp only [V, hostOps0, hostOps0_1, hostOps0_2, List.flatten_cons, List.flatten_nil, List.append_nil, List.cons_append, List.nil_append]
  entry_read
  pointwise

theorem start_max (h : Fin 8) : (V m c main_v24 (ix3 h (0 : Fin 2) (0 : Fin 128)) : EReal) = Ideal.ofBits .f32 0xF149F2CA#32 := by
  dsimp only [V, hostOps0, hostOps0_1, hostOps0_2, List.flatten_cons, List.flatten_nil, List.append_nil, List.cons_append, List.nil_append]
  entry_read
  pointwise
  rfl

theorem start_sum (h : Fin 8) : (V m c main_v24 (ix3 h (1 : Fin 2) (0 : Fin 128)) : EReal) = (0 : EReal) := by
  dsimp only [V, hostOps0, hostOps0_1, hostOps0_2, List.flatten_cons, List.flatten_nil, List.append_nil, List.cons_append, List.nil_append]
  entry_read
  pointwise
  exact Eq.trans (b := Ideal.ofBits .f32 0x00000000#32) rfl Ideal.ofBits_zero_f32

/-! The blocks of a point. -/

theorem idx0 : ∀ t : Fin cfg0.N, win0_0.index t = ![t.val % 8, 0, 0] := (by decide +kernel : ∀ t : Fin grid0.N, _)
theorem idx1 : ∀ t : Fin cfg0.N, win0_1.index t = ![t.val / 8, t.val % 8, 0, 64] := (by decide +kernel : ∀ t : Fin grid0.N, _)
theorem idx2 : ∀ t : Fin cfg0.N, win0_2.index t = ![t.val / 8, t.val % 8, 64, 0] := (by decide +kernel : ∀ t : Fin grid0.N, _)
theorem idx3 : ∀ t : Fin cfg0.N, win0_3.index t = ![t.val / 8, t.val % 8, 0, 64] := (by decide +kernel : ∀ t : Fin grid0.N, _)
theorem idx4 : ∀ t : Fin cfg0.N, win0_4.index t = ![t.val / 8, t.val % 8, 0, 0] := (by decide +kernel : ∀ t : Fin grid0.N, _)
theorem flush4 : ∀ t : Fin cfg0.N, (cfg0.win 4).flush t = true := (by decide +kernel : ∀ t : Fin grid0.N, _)

theorem blk0 (t : Fin cfg0.N) (y : S1x2x128.Idx) (z : S8x2x128.Idx)
    (h0 : (z 0).val = t.val % 8 + (y 0).val) (h1 : (z 1).val = (y 1).val) (h2 : (z 2).val = (y 2).val) :
    iblk m c 0 t y = V m c main_v24 z := by
  have e := idx0 t
  blk_simp [iblk]
  congr 1
  funext a; apply Fin.ext
  fin_cases a
  all_goals (blk_simp [e]; try (simp at *; try omega))

theorem blk1 (t : Fin cfg0.N) (y : S1x1x96x256.Idx) (z : S2x8x96x16640.Idx)
    (h0 : (z 0).val = t.val / 8 + (y 0).val) (h1 : (z 1).val = t.val % 8 + (y 1).val) (h2 : (z 2).val = (y 2).val)
    (h3 : (z 3).val = 16384 + (y 3).val) :
    iblk m c 1 t y = V m c main_v20 z := by
  have e := idx1 t
  blk_simp [iblk]
  congr 1
  funext a; apply Fin.ext
  fin_cases a
  all_goals (blk_simp [e]; try (simp at *; try omega))

theorem blk2 (t : Fin cfg0.N) (y : S1x1x256x96.Idx) (z : S2x8x16640x96.Idx)
    (h0 : (z 0).val = t.val / 8 + (y 0).val) (h1 : (z 1).val = t.val % 8 + (y 1).val) (h2 : (z 2).val = 16384 + (y 2).val)
    (h3 : (z 3).val = (y 3).val) :
    iblk m c 2 t y = V m c main_v18 z := by
  have e := idx2 t
  blk_simp [iblk]
  congr 1
  funext a; apply Fin.ext
  fin_cases a
  all_goals (blk_simp [e]; try (simp at *; try omega))

theorem blk3 (t : Fin cfg0.N) (y : S1x1x80x256.Idx) (z : S2x8x80x16640.Idx)
    (h0 : (z 0).val = t.val / 8 + (y 0).val) (h1 : (z 1).val = t.val % 8 + (y 1).val) (h2 : (z 2).val = (y 2).val)
    (h3 : (z 3).val = 16384 + (y 3).val) :
    iblk m c 3 t y = V m c main_v22 z := by
  have e := idx3 t
  blk_simp [iblk]
  congr 1
  funext a; apply Fin.ext
  fin_cases a
  all_goals (blk_simp [e]; try (simp at *; try omega))

theorem emb_out (t : Fin cfg0.N) (y : S1x1x64x256.Idx) :
    ((win0_4.blk t).view.emb y : S2x8x64x256.Idx) = ix4 (⟨t.val / 8, by have : t.val < 16 := t.isLt; omega⟩ : Fin 2)
      (⟨t.val % 8, Nat.mod_lt _ (by decide)⟩ : Fin 8) (⟨(y 2).val, (y 2).isLt⟩ : Fin 64) (⟨(y 3).val, (y 3).isLt⟩ : Fin 256) := by
  have e := idx4 t
  have hy : (y 0).val < 1 := (y 0).isLt
  have hy' : (y 1).val < 1 := (y 1).isLt
  funext a; apply Fin.ext
  fin_cases a <;> (blk_simp [e]; try simp)

/-! The result. -/

theorem tile_eq (hq : ∀ i, ∃ r : ℝ, arg0 m c i = (r : EReal)) (hk : ∀ i, ∃ r : ℝ, arg1 m c i = (r : EReal))
    (b : Fin 2) (h : Fin 8) (d : Fin 64) (q : Fin 256) :
    (dats m 0 c).arrAt 4 cfg0.N (ix4 b h d q)
      = Reference8Ideal.Read.val_main_v15 (F := Ideal) (arg0 m c) (arg1 m c) (arg2 m c) (ix4 b h d q) := by
  have hb := b.isLt
  have hh := h.isLt
  let T : Fin cfg0.N := ⟨b.val * 8 + h.val, by show _ < 16; omega⟩
  have hT : T.val = b.val * 8 + h.val := rfl
  clear_value T
  have h' := congrFun (Value.blocks4 m c T (flush4 T)) (ix4 (0 : Fin 1) (0 : Fin 1) d q : S1x1x64x256.Idx)
  have e : (((win0_4.blk T).view.emb (ix4 (0 : Fin 1) (0 : Fin 1) d q : S1x1x64x256.Idx)) : S2x8x64x256.Idx) = ix4 b h d q := by
    rw [emb_out]
    funext a; apply Fin.ext
    match a with
    | ⟨0, _⟩ => show T.val / 8 = b.val; omega
    | ⟨1, _⟩ => show T.val % 8 = h.val; omega
    | ⟨2, _⟩ => rfl
    | ⟨3, _⟩ => rfl
  have h'' : (dats m 0 c).arrAt 4 cfg0.N ((win0_4.blk T).view.emb (ix4 (0 : Fin 1) (0 : Fin 1) d q : S1x1x64x256.Idx))
      = (dats m 0 c).flushed 4 T (ix4 (0 : Fin 1) (0 : Fin 1) d q : S1x1x64x256.Idx) := h'
  rw [e, Value.flushed4] at h''
  refine h''.trans ?_
  refine Eq.trans (b := out0_4 (iblk m c 0 T) (iblk m c 1 T) (iblk m c 2 T) (iblk m c 3 T) (ix4 (0 : Fin 1) (0 : Fin 1) d q)) rfl ?_
  obtain ⟨κ, hκ⟩ := ofBits_scale
  choose qr hqr using hq
  choose kr hkr using hk
  obtain ⟨M, hM⟩ := Cert.RefAt8.out_read (arg0 m c) (arg1 m c) (arg2 m c) b h d q
    (fun k => (∑ e, qr (ix4 b h q e) * kr (ix4 b h k e)) * κ)
    (fun k => by
      rw [hκ]
      simp only [hqr, hkr, ← EReal.coe_mul]
      rw [coe_sum, ← EReal.coe_mul])
  rw [hM]
  refine (out_softmax _ _ _ _ d q (fun e => qr (ix4 b h q e)) (fun k e => kr (ix4 b h k e)) κ (fun e => ?_) (fun k e => ?_) (fun k => ?_) ?_ ?_ M).trans
    (Finset.sum_congr rfl fun k _ => congrArg (HMul.hMul (_ : EReal)) ?_)
  · rw [blk1 m c T _ (ix4 b h e (⟨16384 + q.val, by omega⟩ : Fin 16640)) (by show b.val = T.val / 8 + 0; omega) (by show h.val = T.val % 8 + 0; omega) rfl rfl, queries_in, hκ, ofBits_two, hqr]
  · rw [blk2 m c T _ (ix4 b h (⟨16384 + k.val, by omega⟩ : Fin 16640) e) (by show b.val = T.val / 8 + 0; omega) (by show h.val = T.val % 8 + 0; omega) rfl rfl, keys_in, hkr]
  · rw [blk3 m c T _ (ix4 b h (64 : Fin 80) (⟨16384 + k.val, by omega⟩ : Fin 16640)) (by show b.val = T.val / 8 + 0; omega) (by show h.val = T.val % 8 + 0; omega) rfl rfl, ones_in]
  · rw [blk0 m c T _ (ix3 h (0 : Fin 2) (0 : Fin 128)) (by show h.val = T.val % 8 + 0; omega) rfl rfl, start_max]
    exact ofBits_start
  · rw [blk0 m c T _ (ix3 h (1 : Fin 2) (0 : Fin 128)) (by show h.val = T.val % 8 + 0; omega) rfl rfl, start_sum]
  · rw [blk3 m c T _ (ix4 b h (⟨d.val, by omega⟩ : Fin 80) (⟨16384 + k.val, by omega⟩ : Fin 16640)) (by show b.val = T.val / 8 + 0; omega) (by show h.val = T.val % 8 + 0; omega) rfl rfl, values_in]

theorem result_eq (hq : ∀ i, ∃ r : ℝ, arg0 m c i = (r : EReal)) (hk : ∀ i, ∃ r : ℝ, arg1 m c i = (r : EReal)) :
    (dats m 0 c).arrAt 4 cfg0.N = Reference8Ideal.Read.val_main_v15 (F := Ideal) (arg0 m c) (arg1 m c) (arg2 m c) := by
  funext i
  have hi : (i : S2x8x64x256.Idx) = ix4 (⟨(i 0).val, (i 0).isLt⟩ : Fin 2) (⟨(i 1).val, (i 1).isLt⟩ : Fin 8) (⟨(i 2).val, (i 2).isLt⟩ : Fin 64)
      (⟨(i 3).val, (i 3).isLt⟩ : Fin 256) := by
    funext a; fin_cases a <;> rfl
  rw [hi]
  exact tile_eq m c hq hk _ _ _ _

end Cert.Kernel8Ideal.Ctx
end
-- ==== Proof.Finite8.lean ====
module

public import proofs.«01_k».proof.Defs
public import proofs.«01_k».proof.Proof.Result8
public import proofs.«01_k».proof.Proof.Finite
public import proofs.«01_k».proof.Proof.Gen.Kernel8.Frame
public import proofs.«01_k».proof.Proof.Gen.Kernel8Ideal.Frame
public import proofs.«01_k».proof.Proof.Gen.Reference8Ideal.Run
public import Idealize.ShloMosaic.Lib.ReduceAll

/-! The claims of the context tokens' attention: its frames, the precondition, which says of every query and key that it is a
real number, and the equality of the two results under it. -/

@[expose] public section

set_option maxRecDepth 16384

noncomputable section

namespace Cert.Finite8

open Idealize.ShloMosaic Idealize.ShloMosaic.TcCoe Idealize.SL.Sem

theorem facts : Cert.Pre_finite8.Facts where
  bcast_S_S2x8x256x96 := by decide
  reducesTo_S2x8x256x96_S_d0_1_2_3 := by decide
  h_S_ := by decide

instance : Subsingleton Cert.Pre_finite8.S_.Idx := ⟨fun a b => funext fun i => i.elim0⟩

attribute [local instance] facts in
theorem reals (x0 x1 : FVec Ideal Cert.Pre_finite8.S2x8x256x96 .f32) (x2 : FVec Ideal Cert.Pre_finite8.S2x8x256x64 .f32)
    (h : Cert.Pre_finite8.fn (F := Ideal) x0 x1 x2 = fun _ => 1#1) :
    (∀ i, ∃ r : ℝ, x0 i = (r : EReal)) ∧ (∀ i, ∃ r : ℝ, x1 i = (r : EReal)) := by
  have e := congrFun h (fun a => a.elim0)
  obtain ⟨e0, e1⟩ := IntOp.andi_eq_one.1 e
  exact ⟨fun i => Cert.Finite.real_of_abs_lt _ (Host.reduce_andi_all _ _ _ _ _ e0 i), fun i => Cert.Finite.real_of_abs_lt _ (Host.reduce_andi_all _ _ _ _ _ e1 i)⟩

theorem kernel_bits : Cert.quiescent_Kernel8 := fun m ρ _ => Cert.Kernel8.Gen.frame m ρ

theorem kernel_ideal : Cert.quiescent_Kernel8Ideal := fun m ρ _ => Cert.Kernel8Ideal.Gen.frame m ρ

theorem reference_ideal : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

attribute [local instance] Cert.Kernel8.Gen.facts Cert.Kernel8Ideal.Gen.facts Cert.Reference8Ideal.Gen.facts facts in
theorem algebraic : Cert.algebraic_Kernel8Ideal_Reference8Ideal_pre_finite8 := fun m g m' g' hp hm => by
  have hr := fun c => reals _ _ _ (hp c)
  refine ⟨fun c => (Cert.Kernel8Ideal.Gen.dats m 0 c).arrAt 4 Cert.Kernel8Ideal.cfg0.N, ?_, ?_⟩
  · exact (θ_run Cert.Kernel8Ideal.defs _ _).mono (fun r h => h) (Cert.Kernel8Ideal.Value.run_blocks (F := Ideal) m g)
  · refine (θ_run Cert.Reference8Ideal.defs _ _).mono (fun r h c => ⟨(h c).1.trans ?_, (h c).2⟩) (Cert.Reference8Ideal.Value.run (F := Ideal) m' g')
    obtain ⟨h0, h1, h2⟩ := hm c
    rw [Cert.Reference8Ideal.Read.val_main_v15_eq, h0, h1, h2]
    exact (Cert.Kernel8Ideal.Ctx.result_eq m c (hr c).1 (hr c).2).symm

end Cert.Finite8
end
-- ==== Proof.Result9.lean ====
module

public import proofs.«01_k».proof.Proof.Tile
public import proofs.«01_k».proof.Proof.Ref
public import proofs.«01_k».proof.Proof.Tile3
public import proofs.«01_k».proof.Proof.Ref3
public import proofs.«01_k».proof.Proof.Gen.Kernel9Ideal.Value
public import proofs.«01_k».proof.Proof.Gen.Reference9Ideal.Read
public import Idealize.ShloMosaic.Lib.Pipeline.ValueKit
public import Idealize.ShloMosaic.Lib.Pointwise
public import Idealize.ShloMosaic.Lib.Claim
public import Idealize.ShloMosaic.Lib.IdealHost

/-! The context tokens' dense GQA attention: a tile is the values weighted by the softmax of the scaled scores, and so is the
reference's value. Query head `4 h + g` is against key head `h`, which in the keys' array is below the two windowed ones. -/

@[expose] public section

set_option maxRecDepth 16384

noncomputable section

namespace Cert.RefAt9
open Idealize.ShloMosaic Idealize.ShloMosaic.TcCoe Idealize.ShloMosaic.Tactic
open Cert.Reference9Ideal Cert.Reference9Ideal.Gen Cert.Reference9Ideal.Value Cert.Reference9Ideal.Read
open Cert.RefAt (ofBits_bot)
open Cert.RefAt3 (qHead)

variable (x0 : Vec Ideal S2x8x256x64 .f32) (x1 x2 : Vec Ideal S2x2x256x64 .f32)

theorem query_ix (b h : Fin 2) (g : Fin 4) (t : Fin 256) (d : Fin 64) :
    idx_main_v0 (ix5 b h g t d) = (ix4 b (qHead h g) t d : S2x8x256x64.Idx) := by
  funext a; apply Fin.ext
  have := b.isLt; have := h.isLt; have := g.isLt; have := t.isLt; have := d.isLt
  match a with
  | ⟨0, _⟩ => show ((((b.val * 2 + h.val) * 4 + g.val) * 256 + t.val) * 64 + d.val) / 131072 = b.val; omega
  | ⟨1, _⟩ => show ((((b.val * 2 + h.val) * 4 + g.val) * 256 + t.val) * 64 + d.val) / 16384 % 8 = 4 * h.val + g.val; omega
  | ⟨2, _⟩ => show ((((b.val * 2 + h.val) * 4 + g.val) * 256 + t.val) * 64 + d.val) / 64 % 256 = t.val; omega
  | ⟨3, _⟩ => show ((((b.val * 2 + h.val) * 4 + g.val) * 256 + t.val) * 64 + d.val) % 64 = d.val; omega

theorem out_ix (b h : Fin 2) (g : Fin 4) (r : Fin 64) (t : Fin 256) :
    idx_main_v16 (idx_main_v17 (ix4 b (qHead h g) r t)) = (ix5 b h g t r : S2x2x4x256x64.Idx) := by
  funext a; apply Fin.ext
  have := b.isLt; have := h.isLt; have := g.isLt; have := t.isLt; have := r.isLt
  match a with
  | ⟨0, _⟩ => show (((b.val * 8 + (4 * h.val + g.val)) * 256 + t.val) * 64 + r.val) / 131072 = b.val; omega
  | ⟨1, _⟩ => show (((b.val * 8 + (4 * h.val + g.val)) * 256 + t.val) * 64 + r.val) / 65536 % 2 = h.val; omega
  | ⟨2, _⟩ => show (((b.val * 8 + (4 * h.val + g.val)) * 256 + t.val) * 64 + r.val) / 16384 % 4 = g.val; omega
  | ⟨3, _⟩ => show (((b.val * 8 + (4 * h.val + g.val)) * 256 + t.val) * 64 + r.val) / 64 % 256 = t.val; omega
  | ⟨4, _⟩ => show (((b.val * 8 + (4 * h.val + g.val)) * 256 + t.val) * 64 + r.val) % 64 = r.val; omega

theorem scores_read (b h : Fin 2) (g : Fin 4) (t k : Fin 256) :
    (val_main_v3 (F := Ideal) x0 x1 (ix5 b h g t k) : EReal)
      = (∑ d : Fin 64, x0 (ix4 b (qHead h g) t d) * x1 (ix4 b h k d)) * Ideal.ofBits .f32 0x3E000000#32 := by
  rw [val_main_v3_apply, val_main_v1_apply, val_main_v2_apply, val_main_cst_apply]
  show (_ : EReal) * _ = _
  congr 1
  refine Finset.sum_congr rfl fun d _ => ?_
  have el : lidx_main_v1 (ix5 b h g t k) d = ix5 b h g t d := by funext a; fin_cases a <;> rfl
  have er : ridx_main_v1 (ix5 b h g t k) d = ix4 b h k d := by funext a; fin_cases a <;> rfl
  rw [el, er, val_main_v0_apply, query_ix]

theorem max_read (b h : Fin 2) (g : Fin 4) (t : Fin 256)
    (hs : ∀ k : Fin 256, ∃ r : ℝ, (val_main_v3 (F := Ideal) x0 x1 (ix5 b h g t k) : EReal) = (r : EReal)) :
    ∃ r : ℝ, (val_main_v6 (F := Ideal) x0 x1 (ix4 b h g t) : EReal) = (r : EReal) := by
  rw [val_main_v6_apply, val_main_v5_apply, val_main_cst_1_apply]
  unfold val_main_v4
  generalize val_main_v3 (F := Ideal) x0 x1 = y at hs ⊢
  pointwise
  rw [show (val_main_cst_0 (F := Ideal) (Shape.Idx.first h_S_) : EReal) = ⊥ from ofBits_bot, ofBits_bot, max_bot_left]
  exact Soft.fold_max_real _ ⟨0, Finset.mem_univ _⟩ _ hs

theorem exp_read (b h : Fin 2) (g : Fin 4) (t k : Fin 256) :
    (val_main_v10 (F := Ideal) x0 x1 (ix5 b h g t k) : EReal)
      = Ideal.exp ((val_main_v3 (F := Ideal) x0 x1 (ix5 b h g t k) : EReal) - (val_main_v6 (F := Ideal) x0 x1 (ix4 b h g t) : EReal)) := by
  rw [val_main_v10_apply, val_main_v9_apply, val_main_v8_apply, val_main_v7_apply]
  show Ideal.exp ((_ : EReal) - _) = _
  congr 3
  funext a; fin_cases a <;> rfl

theorem sum_read (b h : Fin 2) (g : Fin 4) (t k : Fin 256) :
    (val_main_v13 (F := Ideal) x0 x1 (ix5 b h g t k) : EReal)
      = ∑ i : Fin 256, (val_main_v10 (F := Ideal) x0 x1 (ix5 b h g t i) : EReal) := by
  rw [val_main_v13_apply, val_main_v12_apply, val_main_v11_apply, val_main_cst_2_apply]
  show Ideal.ofBits .f32 0x00000000#32 + _ = (_ : EReal)
  rw [Ideal.ofBits_zero_f32, zero_add]
  refine Finset.sum_congr rfl fun i _ => ?_
  congr 1; funext a; fin_cases a <;> rfl

/-- The reference's result, its scores being `S` and their maximum `M`. -/
theorem out_read (b h : Fin 2) (g : Fin 4) (r : Fin 64) (t : Fin 256) (S : Fin 256 → ℝ)
    (hs : ∀ k : Fin 256, (∑ d : Fin 64, x0 (ix4 b (qHead h g) t d) * x1 (ix4 b h k d)) * Ideal.ofBits .f32 0x3E000000#32 = ((S k : ℝ) : EReal)) :
    ∃ M : ℝ, (val_main_v17 (F := Ideal) x0 x1 x2 (ix4 b (qHead h g) r t) : EReal)
      = ∑ k, Ideal.div (Ideal.exp ((S k : EReal) - (M : EReal))) (∑ i, Ideal.exp ((S i : EReal) - (M : EReal))) * x2 (ix4 b h k r) := by
  have hs' : ∀ k : Fin 256, (val_main_v3 (F := Ideal) x0 x1 (ix5 b h g t k) : EReal) = ((S k : ℝ) : EReal) := fun k =>
    (scores_read x0 x1 b h g t k).trans (hs k)
  obtain ⟨M, hM⟩ := max_read x0 x1 b h g t fun k => ⟨S k, hs' k⟩
  have he : ∀ k : Fin 256, (val_main_v10 (F := Ideal) x0 x1 (ix5 b h g t k) : EReal) = Ideal.exp ((S k : EReal) - (M : EReal)) := fun k => by
    rw [exp_read, hM, hs']
  refine ⟨M, ?_⟩
  rw [val_main_v17_apply, val_main_v16_apply, out_ix, val_main_v15_apply]
  refine Finset.sum_congr rfl fun k _ => ?_
  rw [← he k, show (∑ i, Ideal.exp ((S i : EReal) - (M : EReal))) = val_main_v13 (F := Ideal) x0 x1 (ix5 b h g t k) from by
    rw [sum_read]; exact Finset.sum_congr rfl fun i _ => (he i).symm]
  have el : lidx_main_v15 (ix5 b h g t r) k = ix5 b h g t k := by funext a; fin_cases a <;> rfl
  have er : ridx_main_v15 (ix5 b h g t r) k = ix4 b h k r := by funext a; fin_cases a <;> rfl
  rw [el, er, val_main_v14_apply]
  rfl

end Cert.RefAt9

namespace Cert.Kernel9Ideal.Ctx

open Idealize.ShloMosaic Idealize.ShloMosaic.TcCoe Idealize.ShloMosaic.Tactic
open Idealize.SL Idealize.SL.Sem
open Cert.Kernel9Ideal.Gen Cert.Soft
open Cert.KernelIdeal.Att (ofBits_start ofBits_two)
open Cert.Kernel3Ideal.Att (ofBits_scale score_base_two)
open Cert.RefAt3 (qHead)

/-! The tile. -/

/-- The score of a key for a query. -/
def score (x : Vec Ideal S1x1x64x256 .bf16) (K : Vec Ideal S1x1x256x64 .bf16) (k q : Fin 256) : EReal :=
  ∑ d : Fin 64, K (ix4 (0 : Fin 1) (0 : Fin 1) k d) * x (ix4 (0 : Fin 1) (0 : Fin 1) d q)

/-- The largest score of a query and the starting value. -/
def top (x : Vec Ideal S1x1x64x256 .bf16) (K : Vec Ideal S1x1x256x64 .bf16) (a : EReal) (q : Fin 256) : EReal :=
  max a ((Finset.univ : Finset (Fin 256)).fold max ⊥ fun k => score x K k q)

theorem acc_apply (x : Vec Ideal S1x1x64x256 .bf16) (a b : Vec Ideal S1x1x1 .f32) (K : Vec Ideal S1x1x256x64 .bf16) (v : Vec Ideal S1x1x80x256 .bf16)
    (hb : b (ix3 (0 : Fin 1) (0 : Fin 1) (0 : Fin 1)) = (0 : EReal)) (r : Fin 80) (q : Fin 256) :
    (k0_pay2 x a b K v (ix2 r q) : EReal)
      = ∑ k : Fin 256, v (ix4 (0 : Fin 1) (0 : Fin 1) r k)
          * Ideal.exp2 (score x K k q - top x K (a (ix3 (0 : Fin 1) (0 : Fin 1) (0 : Fin 1))) q) := by
  unfold k0_pay2
  pointwise
  have h0 : ∀ w : BitVec 1, Scalar.select w (0 : EReal) 0 = 0 := fun w => by unfold Scalar.select; split <;> rfl
  rw [show Ideal.ofBits FTy.f32 4286578688#32 = (⊥ : EReal) from Cert.RefAt.ofBits_bot, hb, zero_mul]
  exact (congrArg (fun e : EReal => e + _) (h0 _)).trans (zero_add _)

theorem quot_apply (x : Vec Ideal S1x1x64x256 .bf16) (a b : Vec Ideal S1x1x1 .f32) (K : Vec Ideal S1x1x256x64 .bf16) (v : Vec Ideal S1x1x80x256 .bf16)
    (r : Fin 64) (q : Fin 256) :
    (k0_pay1 (k0_pay3 x a b K v) (k0_pay4 x a b K v) (ix4 (0 : Fin 1) (0 : Fin 1) r q) : EReal)
      = Ideal.div (k0_pay2 x a b K v (ix2 (⟨r.val, by omega⟩ : Fin 80) q)) (k0_pay2 x a b K v (ix2 (64 : Fin 80) q)) := by
  unfold k0_pay1 k0_pay3 k0_pay4
  generalize k0_pay2 x a b K v = A
  pointwise

theorem out_apply (I : Vec Ideal S1x2x128 .f32) (x : Vec Ideal S1x1x64x256 .bf16) (K : Vec Ideal S1x1x256x64 .bf16) (v : Vec Ideal S1x1x80x256 .bf16)
    (h1 : I (ix3 (0 : Fin 1) (1 : Fin 2) (0 : Fin 128)) = (0 : EReal)) (hone : ∀ k, v (ix4 (0 : Fin 1) (0 : Fin 1) (64 : Fin 80) k) = (1 : EReal))
    (r : Fin 64) (q : Fin 256) :
    (out0_4 I x K v (ix4 (0 : Fin 1) (0 : Fin 1) r q) : EReal)
      = Ideal.div
          (∑ k : Fin 256, v (ix4 (0 : Fin 1) (0 : Fin 1) (⟨r.val, by omega⟩ : Fin 80) k)
            * Ideal.exp2 (score x K k q - top x K (I (ix3 (0 : Fin 1) (0 : Fin 2) (0 : Fin 128))) q))
          (∑ k : Fin 256, Ideal.exp2 (score x K k q - top x K (I (ix3 (0 : Fin 1) (0 : Fin 2) (0 : Fin 128))) q)) := by
  have e1 : View.ld x r0_0 = x := View.ld_unit_zero (by funext a; fin_cases a <;> rfl) _ x
  have e2 : View.ld K r0_3 = K := View.ld_unit_zero (by funext a; fin_cases a <;> rfl) _ K
  have e3 : View.ld v r0_4 = v := View.ld_unit_zero (by funext a; fin_cases a <;> rfl) _ v
  have ea : View.ld I r0_1 (ix3 (0 : Fin 1) (0 : Fin 1) (0 : Fin 1)) = I (ix3 (0 : Fin 1) (0 : Fin 2) (0 : Fin 128)) := by
    refine congrArg I ?_
    funext a; apply Fin.ext
    fin_cases a <;> rfl
  have eb : View.ld I r0_2 (ix3 (0 : Fin 1) (0 : Fin 1) (0 : Fin 1)) = I (ix3 (0 : Fin 1) (1 : Fin 2) (0 : Fin 128)) := by
    refine congrArg I ?_
    funext a; apply Fin.ext
    fin_cases a <;> rfl
  unfold out0_4
  rw [View.canon_cons_unit_zero (by funext a; fin_cases a <;> rfl), quot_apply, e1, e2, e3, acc_apply _ _ _ _ _ (eb.trans h1),
    acc_apply _ _ _ _ _ (eb.trans h1), ea]
  simp only [hone, one_mul]

/-- At real queries and keys a tile is the values weighted by the softmax of the scaled scores. -/
theorem out_softmax (I : Vec Ideal S1x2x128 .f32) (x : Vec Ideal S1x1x64x256 .bf16) (K : Vec Ideal S1x1x256x64 .bf16) (v : Vec Ideal S1x1x80x256 .bf16)
    (r : Fin 64) (q : Fin 256) (qr : Fin 64 → ℝ) (kr : Fin 256 → Fin 64 → ℝ) (κ : ℝ)
    (hq : ∀ d, x (ix4 (0 : Fin 1) (0 : Fin 1) d q) = Ideal.div (((qr d : ℝ) : EReal) * ((κ : ℝ) : EReal)) (Ideal.log ((2 : ℝ) : EReal)))
    (hk : ∀ k d, K (ix4 (0 : Fin 1) (0 : Fin 1) k d) = ((kr k d : ℝ) : EReal))
    (hone : ∀ k, v (ix4 (0 : Fin 1) (0 : Fin 1) (64 : Fin 80) k) = (1 : EReal))
    (h0 : ∃ s : ℝ, I (ix3 (0 : Fin 1) (0 : Fin 2) (0 : Fin 128)) = (s : EReal))
    (h1 : I (ix3 (0 : Fin 1) (1 : Fin 2) (0 : Fin 128)) = (0 : EReal)) (M : ℝ) :
    (out0_4 I x K v (ix4 (0 : Fin 1) (0 : Fin 1) r q) : EReal)
      = ∑ k, Ideal.div (Ideal.exp ((((∑ d, qr d * kr k d) * κ : ℝ) : EReal) - (M : EReal)))
            (∑ i, Ideal.exp ((((∑ d, qr d * kr i d) * κ : ℝ) : EReal) - (M : EReal)))
          * v (ix4 (0 : Fin 1) (0 : Fin 1) (⟨r.val, by omega⟩ : Fin 80) k) := by
  have hs : ∀ k, score x K k q = (((∑ d, qr d * kr k d) * κ / Real.log 2 : ℝ) : EReal) := fun k => by
    unfold score
    simp only [hq, hk]
    exact score_base_two qr _ κ
  obtain ⟨s, hs0⟩ := h0
  obtain ⟨f, hf⟩ := Soft.fold_max_real (Finset.univ : Finset (Fin 256)) ⟨0, Finset.mem_univ _⟩ (fun k => score x K k q) fun k => ⟨_, hs k⟩
  have ht : top x K (I (ix3 (0 : Fin 1) (0 : Fin 2) (0 : Fin 128))) q = ((max s f : ℝ) : EReal) := by
    unfold top
    rw [hf, hs0]
    exact (EReal.coe_strictMono.monotone.map_max).symm
  rw [out_apply I x K v h1 hone, ht]
  simp only [hs]
  exact quotient (by decide) (fun k => (∑ d, qr d * kr k d) * κ) _ (max s f) M

/-! What the operations before the launch leave in its arguments. -/

variable (m : (ℓ : Loc nD τ sig) → Buf (Elt Ideal) ℓ) (c : Dev nD)

abbrev arg0 : Vec Ideal S2x8x256x64 .f32 := m (c, main_arg0)
abbrev arg1 : Vec Ideal S2x2x256x64 .f32 := m (c, main_arg1)
abbrev arg2 : Vec Ideal S2x2x256x64 .f32 := m (c, main_arg2)

theorem keys_in (b h : Fin 2) (k : Fin 256) (d : Fin 64) :
    (V m c main_v20 (ix4 b (⟨2 + h.val, by omega⟩ : Fin 4) (⟨16384 + k.val, by omega⟩ : Fin 16640) d) : EReal) = arg1 m c (ix4 b h k d) := by
  dsimp only [V, hostOps0, hostOps0_1, hostOps0_2, List.flatten_cons, List.flatten_nil, List.append_nil, List.cons_append, List.nil_append]
  entry_read
  pointwise
  after_results_simp
  pointwise

theorem values_in (b h : Fin 2) (k : Fin 256) (r : Fin 64) :
    (V m c main_v24 (ix4 b h (⟨r.val, by omega⟩ : Fin 80) (⟨16384 + k.val, by omega⟩ : Fin 16640)) : EReal) = arg2 m c (ix4 b h k r) := by
  dsimp only [V, hostOps0, hostOps0_1, hostOps0_2, List.flatten_cons, List.flatten_nil, List.append_nil, List.cons_append, List.nil_append]
  entry_read
  pointwise
  after_results_simp
  pointwise

theorem ones_in (b h : Fin 2) (k : Fin 256) :
    (V m c main_v24 (ix4 b h (64 : Fin 80) (⟨16384 + k.val, by omega⟩ : Fin 16640)) : EReal) = (1 : EReal) := by
  dsimp only [V, hostOps0, hostOps0_1, hostOps0_2, List.flatten_cons, List.flatten_nil, List.append_nil, List.cons_append, List.nil_append]
  entry_read
  pointwise
  after_results_simp
  exact Eq.trans (b := Ideal.ofBits .f32 0x3F800000#32) rfl Ideal.ofBits_one_f32

theorem queries_in (b : Fin 2) (h : Fin 8) (q : Fin 256) (d : Fin 64) :
    (V m c main_v22 (ix4 b h d (⟨16384 + q.val, by omega⟩ : Fin 16640)) : EReal)
      = Ideal.div (arg0 m c (ix4 b h q d) * Ideal.ofBits .f32 0x3E000000#32) (Ideal.log (Ideal.ofBits .f32 0x40000000#32)) := by
  dsimp only [V, hostOps0, hostOps0_1, hostOps0_2, List.flatten_cons, List.flatten_nil, List.append_nil, List.cons_append, List.nil_append]
  entry_read
  pointwise

theorem start_max (h : Fin 8) : (V m c main_v26 (ix3 h (0 : Fin 2) (0 : Fin 128)) : EReal) = Ideal.ofBits .f32 0xF149F2CA#32 := by
  dsimp only [V, hostOps0, hostOps0_1, hostOps0_2, List.flatten_cons, List.flatten_nil, List.append_nil, List.cons_append, List.nil_append]
  entry_read
  pointwise
  rfl

theorem start_sum (h : Fin 8) : (V m c main_v26 (ix3 h (1 : Fin 2) (0 : Fin 128)) : EReal) = (0 : EReal) := by
  dsimp only [V, hostOps0, hostOps0_1, hostOps0_2, List.flatten_cons, List.flatten_nil, List.append_nil, List.cons_append, List.nil_append]
  entry_read
  pointwise
  exact Eq.trans (b := Ideal.ofBits .f32 0x00000000#32) rfl Ideal.ofBits_zero_f32

/-! The blocks of a point. -/

theorem idx0 : ∀ t : Fin cfg0.N, win0_0.index t = ![t.val % 8, 0, 0] := (by decide +kernel : ∀ t : Fin grid0.N, _)
theorem idx1 : ∀ t : Fin cfg0.N, win0_1.index t = ![t.val / 8, t.val % 8, 0, 64] := (by decide +kernel : ∀ t : Fin grid0.N, _)
theorem idx2 : ∀ t : Fin cfg0.N, win0_2.index t = ![t.val / 8, 2 + t.val % 8 / 4, 64, 0] := (by decide +kernel : ∀ t : Fin grid0.N, _)
theorem idx3 : ∀ t : Fin cfg0.N, win0_3.index t = ![t.val / 8, t.val % 8 / 4, 0, 64] := (by decide +kernel : ∀ t : Fin grid0.N, _)
theorem idx4 : ∀ t : Fin cfg0.N, win0_4.index t = ![t.val / 8, t.val % 8, 0, 0] := (by decide +kernel : ∀ t : Fin grid0.N, _)
theorem flush4 : ∀ t : Fin cfg0.N, (cfg0.win 4).flush t = true := (by decide +kernel : ∀ t : Fin grid0.N, _)

theorem blk0 (t : Fin cfg0.N) (y : S1x2x128.Idx) (z : S8x2x128.Idx)
    (h0 : (z 0).val = t.val % 8 + (y 0).val) (h1 : (z 1).val = (y 1).val) (h2 : (z 2).val = (y 2).val) :
    iblk m c 0 t y = V m c main_v26 z := by
  have e := idx0 t
  blk_simp [iblk]
  congr 1
  funext a; apply Fin.ext
  fin_cases a
  all_goals (blk_simp [e]; try (simp at *; try omega))

theorem blk1 (t : Fin cfg0.N) (y : S1x1x64x256.Idx) (z : S2x8x64x16640.Idx)
    (h0 : (z 0).val = t.val / 8 + (y 0).val) (h1 : (z 1).val = t.val % 8 + (y 1).val) (h2 : (z 2).val = (y 2).val)
    (h3 : (z 3).val = 16384 + (y 3).val) :
    iblk m c 1 t y = V m c main_v22 z := by
  have e := idx1 t
  blk_simp [iblk]
  congr 1
  funext a; apply Fin.ext
  fin_cases a
  all_goals (blk_simp [e]; try (simp at *; try omega))

theorem blk2 (t : Fin cfg0.N) (y : S1x1x256x64.Idx) (z : S2x4x16640x64.Idx)
    (h0 : (z 0).val = t.val / 8 + (y 0).val) (h1 : (z 1).val = 2 + t.val % 8 / 4 + (y 1).val) (h2 : (z 2).val = 16384 + (y 2).val)
    (h3 : (z 3).val = (y 3).val) :
    iblk m c 2 t y = V m c main_v20 z := by
  have e := idx2 t
  blk_simp [iblk]
  congr 1
  funext a; apply Fin.ext
  fin_cases a
  all_goals (blk_simp [e]; try (simp at *; try omega))

theorem blk3 (t : Fin cfg0.N) (y : S1x1x80x256.Idx) (z : S2x2x80x16640.Idx)
    (h0 : (z 0).val = t.val / 8 + (y 0).val) (h1 : (z 1).val = t.val % 8 / 4 + (y 1).val) (h2 : (z 2).val = (y 2).val)
    (h3 : (z 3).val = 16384 + (y 3).val) :
    iblk m c 3 t y = V m c main_v24 z := by
  have e := idx3 t
  blk_simp [iblk]
  congr 1
  funext a; apply Fin.ext
  fin_cases a
  all_goals (blk_simp [e]; try (simp at *; try omega))

theorem emb_out (t : Fin cfg0.N) (y : S1x1x64x256.Idx) :
    ((win0_4.blk t).view.emb y : S2x8x64x256.Idx) = ix4 (⟨t.val / 8, by have : t.val < 16 := t.isLt; omega⟩ : Fin 2)
      (⟨t.val % 8, Nat.mod_lt _ (by decide)⟩ : Fin 8) (⟨(y 2).val, (y 2).isLt⟩ : Fin 64) (⟨(y 3).val, (y 3).isLt⟩ : Fin 256) := by
  have e := idx4 t
  have hy : (y 0).val < 1 := (y 0).isLt
  have hy' : (y 1).val < 1 := (y 1).isLt
  funext a; apply Fin.ext
  fin_cases a <;> (blk_simp [e]; try simp)

/-! The result. -/

theorem tile_eq (hq : ∀ i, ∃ r : ℝ, arg0 m c i = (r : EReal)) (hk : ∀ i, ∃ r : ℝ, arg1 m c i = (r : EReal))
    (b h : Fin 2) (g : Fin 4) (d : Fin 64) (q : Fin 256) :
    (dats m 0 c).arrAt 4 cfg0.N (ix4 b (qHead h g) d q)
      = Reference9Ideal.Read.val_main_v17 (F := Ideal) (arg0 m c) (arg1 m c) (arg2 m c) (ix4 b (qHead h g) d q) := by
  have hb := b.isLt
  have hh := h.isLt
  have hg := g.isLt
  let T : Fin cfg0.N := ⟨b.val * 8 + (4 * h.val + g.val), by show _ < 16; omega⟩
  have hT : T.val = b.val * 8 + (4 * h.val + g.val) := rfl
  clear_value T
  have h' := congrFun (Value.blocks4 m c T (flush4 T)) (ix4 (0 : Fin 1) (0 : Fin 1) d q : S1x1x64x256.Idx)
  have e : (((win0_4.blk T).view.emb (ix4 (0 : Fin 1) (0 : Fin 1) d q : S1x1x64x256.Idx)) : S2x8x64x256.Idx) = ix4 b (qHead h g) d q := by
    rw [emb_out]
    funext a; apply Fin.ext
    match a with
    | ⟨0, _⟩ => show T.val / 8 = b.val; omega
    | ⟨1, _⟩ => show T.val % 8 = 4 * h.val + g.val; omega
    | ⟨2, _⟩ => rfl
    | ⟨3, _⟩ => rfl
  have h'' : (dats m 0 c).arrAt 4 cfg0.N ((win0_4.blk T).view.emb (ix4 (0 : Fin 1) (0 : Fin 1) d q : S1x1x64x256.Idx))
      = (dats m 0 c).flushed 4 T (ix4 (0 : Fin 1) (0 : Fin 1) d q : S1x1x64x256.Idx) := h'
  rw [e, Value.flushed4] at h''
  refine h''.trans ?_
  refine Eq.trans (b := out0_4 (iblk m c 0 T) (iblk m c 1 T) (iblk m c 2 T) (iblk m c 3 T) (ix4 (0 : Fin 1) (0 : Fin 1) d q)) rfl ?_
  obtain ⟨κ, hκ⟩ := ofBits_scale
  choose qr hqr using hq
  choose kr hkr using hk
  obtain ⟨M, hM⟩ := Cert.RefAt9.out_read (arg0 m c) (arg1 m c) (arg2 m c) b h g d q
    (fun k => (∑ e, qr (ix4 b (qHead h g) q e) * kr (ix4 b h k e)) * κ)
    (fun k => by
      rw [hκ]
      simp only [hqr, hkr, ← EReal.coe_mul]
      rw [coe_sum, ← EReal.coe_mul])
  rw [hM]
  refine (out_softmax _ _ _ _ d q (fun e => qr (ix4 b (qHead h g) q e)) (fun k e => kr (ix4 b h k e)) κ (fun e => ?_) (fun k e => ?_) (fun k => ?_) ?_ ?_ M).trans
    (Finset.sum_congr rfl fun k _ => congrArg (HMul.hMul (_ : EReal)) ?_)
  · rw [blk1 m c T _ (ix4 b (qHead h g) e (⟨16384 + q.val, by omega⟩ : Fin 16640)) (by show b.val = T.val / 8 + 0; omega) (by show 4 * h.val + g.val = T.val % 8 + 0; omega) rfl rfl, queries_in, hκ, ofBits_two, hqr]
  · rw [blk2 m c T _ (ix4 b (⟨2 + h.val, by omega⟩ : Fin 4) (⟨16384 + k.val, by omega⟩ : Fin 16640) e) (by show b.val = T.val / 8 + 0; omega) (by show 2 + h.val = 2 + T.val % 8 / 4 + 0; omega) rfl rfl, keys_in, hkr]
  · rw [blk3 m c T _ (ix4 b h (64 : Fin 80) (⟨16384 + k.val, by omega⟩ : Fin 16640)) (by show b.val = T.val / 8 + 0; omega) (by show h.val = T.val % 8 / 4 + 0; omega) rfl rfl, ones_in]
  · rw [blk0 m c T _ (ix3 (qHead h g) (0 : Fin 2) (0 : Fin 128)) (by show 4 * h.val + g.val = T.val % 8 + 0; omega) rfl rfl, start_max]
    exact ofBits_start
  · rw [blk0 m c T _ (ix3 (qHead h g) (1 : Fin 2) (0 : Fin 128)) (by show 4 * h.val + g.val = T.val % 8 + 0; omega) rfl rfl, start_sum]
  · rw [blk3 m c T _ (ix4 b h (⟨d.val, by omega⟩ : Fin 80) (⟨16384 + k.val, by omega⟩ : Fin 16640)) (by show b.val = T.val / 8 + 0; omega) (by show h.val = T.val % 8 / 4 + 0; omega) rfl rfl, values_in]

theorem result_eq (hq : ∀ i, ∃ r : ℝ, arg0 m c i = (r : EReal)) (hk : ∀ i, ∃ r : ℝ, arg1 m c i = (r : EReal)) :
    (dats m 0 c).arrAt 4 cfg0.N = Reference9Ideal.Read.val_main_v17 (F := Ideal) (arg0 m c) (arg1 m c) (arg2 m c) := by
  funext i
  have hl : (i 1).val < 8 := (i 1).isLt
  have hi : (i : S2x8x64x256.Idx) = ix4 (⟨(i 0).val, (i 0).isLt⟩ : Fin 2)
      (qHead (⟨(i 1).val / 4, by omega⟩ : Fin 2) (⟨(i 1).val % 4, by omega⟩ : Fin 4)) (⟨(i 2).val, (i 2).isLt⟩ : Fin 64)
      (⟨(i 3).val, (i 3).isLt⟩ : Fin 256) := by
    funext a; apply Fin.ext
    match a with
    | ⟨0, _⟩ => rfl
    | ⟨1, _⟩ => show (i 1).val = 4 * ((i 1).val / 4) + (i 1).val % 4; omega
    | ⟨2, _⟩ => rfl
    | ⟨3, _⟩ => rfl
  rw [hi]
  exact tile_eq m c hq hk _ _ _ _ _

end Cert.Kernel9Ideal.Ctx
end
-- ==== Proof.Finite9.lean ====
module

public import proofs.«01_k».proof.Defs
public import proofs.«01_k».proof.Proof.Result9
public import proofs.«01_k».proof.Proof.Finite
public import proofs.«01_k».proof.Proof.Gen.Kernel9.Frame
public import proofs.«01_k».proof.Proof.Gen.Kernel9Ideal.Frame
public import proofs.«01_k».proof.Proof.Gen.Reference9Ideal.Run
public import Idealize.ShloMosaic.Lib.ReduceAll

/-! The claims of the context tokens' dense GQA attention: its frames, the precondition, which says of every query and key that it is a
real number, and the equality of the two results under it. -/

@[expose] public section

set_option maxRecDepth 16384

noncomputable section

namespace Cert.Finite9

open Idealize.ShloMosaic Idealize.ShloMosaic.TcCoe Idealize.SL.Sem

theorem facts : Cert.Pre_finite9.Facts where
  bcast_S_S2x8x256x64 := by decide
  reducesTo_S2x8x256x64_S_d0_1_2_3 := by decide
  h_S_ := by decide
  bcast_S_S2x2x256x64 := by decide
  reducesTo_S2x2x256x64_S_d0_1_2_3 := by decide

instance : Subsingleton Cert.Pre_finite9.S_.Idx := ⟨fun a b => funext fun i => i.elim0⟩

attribute [local instance] facts in
theorem reals (x0 : FVec Ideal Cert.Pre_finite9.S2x8x256x64 .f32) (x1 x2 : FVec Ideal Cert.Pre_finite9.S2x2x256x64 .f32)
    (h : Cert.Pre_finite9.fn (F := Ideal) x0 x1 x2 = fun _ => 1#1) :
    (∀ i, ∃ r : ℝ, x0 i = (r : EReal)) ∧ (∀ i, ∃ r : ℝ, x1 i = (r : EReal)) := by
  have e := congrFun h (fun a => a.elim0)
  obtain ⟨e0, e1⟩ := IntOp.andi_eq_one.1 e
  exact ⟨fun i => Cert.Finite.real_of_abs_lt _ (Host.reduce_andi_all _ _ _ _ _ e0 i), fun i => Cert.Finite.real_of_abs_lt _ (Host.reduce_andi_all _ _ _ _ _ e1 i)⟩

theorem kernel_bits : Cert.quiescent_Kernel9 := fun m ρ _ => Cert.Kernel9.Gen.frame m ρ

theorem kernel_ideal : Cert.quiescent_Kernel9Ideal := fun m ρ _ => Cert.Kernel9Ideal.Gen.frame m ρ

theorem reference_ideal : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

attribute [local instance] Cert.Kernel9.Gen.facts Cert.Kernel9Ideal.Gen.facts Cert.Reference9Ideal.Gen.facts facts in
theorem algebraic : Cert.algebraic_Kernel9Ideal_Reference9Ideal_pre_finite9 := fun m g m' g' hp hm => by
  have hr := fun c => reals _ _ _ (hp c)
  refine ⟨fun c => (Cert.Kernel9Ideal.Gen.dats m 0 c).arrAt 4 Cert.Kernel9Ideal.cfg0.N, ?_, ?_⟩
  · exact (θ_run Cert.Kernel9Ideal.defs _ _).mono (fun r h => h) (Cert.Kernel9Ideal.Value.run_blocks (F := Ideal) m g)
  · refine (θ_run Cert.Reference9Ideal.defs _ _).mono (fun r h c => ⟨(h c).1.trans ?_, (h c).2⟩) (Cert.Reference9Ideal.Value.run (F := Ideal) m' g')
    obtain ⟨h0, h1, h2⟩ := hm c
    rw [Cert.Reference9Ideal.Read.val_main_v17_eq, h0, h1, h2]
    exact (Cert.Kernel9Ideal.Ctx.result_eq m c (hr c).1 (hr c).2).symm

end Cert.Finite9
end
-- ==== Proof.Result10.lean ====
module

public import proofs.«01_k».proof.Proof.Tile
public import proofs.«01_k».proof.Proof.Ref
public import proofs.«01_k».proof.Proof.Tile2
public import proofs.«01_k».proof.Proof.Ref2
public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
public import Idealize.ShloMosaic.Lib.Claim
public import Idealize.ShloMosaic.Lib.IdealHost

/-! The context tokens' differential attention: a tile is the values weighted by the softmax of the scaled scores, and so is the
reference's value. Head `2 h + p` is the `p`-th of the `h`-th pair; the two of a pair have the same values. -/

@[expose] public section

set_option maxRecDepth 16384

noncomputable section

namespace Cert.RefAt10

open Idealize.ShloMosaic Idealize.ShloMosaic.TcCoe Idealize.ShloMosaic.Tactic
open Cert.Reference10Ideal Cert.Reference10Ideal.Gen Cert.Reference10Ideal.Value Cert.Reference10Ideal.Read
open Cert.RefAt (ofBits_bot)
open Cert.Kernel2Ideal.Att (pHead)

variable (x0 x1 : Vec Ideal S2x2x8x256x32 .f32) (x2 : Vec Ideal S2x8x256x64 .f32)

/-! The first of a pair. -/

theorem queries_read_0 (b : Fin 2) (h : Fin 8) (t : Fin 256) (d : Fin 32) :
    (val_main_v1 (F := Ideal) x0 (ix4 b h t d) : EReal) = x0 (ix5 (0 : Fin 2) b h t d) := by
  rw [val_main_v1_apply, val_main_v0_apply]
  congr 1; funext a; apply Fin.ext
  have := b.isLt; have := h.isLt; have := t.isLt; have := d.isLt
  match a with
  | ⟨0, _⟩ => rfl
  | ⟨1, _⟩ => show (((b.val * 8 + h.val) * 256 + t.val) * 32 + d.val) / 65536 % 2 = b.val; omega
  | ⟨2, _⟩ => show (((b.val * 8 + h.val) * 256 + t.val) * 32 + d.val) / 8192 % 8 = h.val; omega
  | ⟨3, _⟩ => show (((b.val * 8 + h.val) * 256 + t.val) * 32 + d.val) / 32 % 256 = t.val; omega
  | ⟨4, _⟩ => show (((b.val * 8 + h.val) * 256 + t.val) * 32 + d.val) % 32 = d.val; omega

theorem keys_read_0 (b : Fin 2) (h : Fin 8) (t : Fin 256) (d : Fin 32) :
    (val_main_v3 (F := Ideal) x1 (ix4 b h t d) : EReal) = x1 (ix5 (0 : Fin 2) b h t d) := by
  rw [val_main_v3_apply, val_main_v2_apply]
  congr 1; funext a; apply Fin.ext
  have := b.isLt; have := h.isLt; have := t.isLt; have := d.isLt
  match a with
  | ⟨0, _⟩ => rfl
  | ⟨1, _⟩ => show (((b.val * 8 + h.val) * 256 + t.val) * 32 + d.val) / 65536 % 2 = b.val; omega
  | ⟨2, _⟩ => show (((b.val * 8 + h.val) * 256 + t.val) * 32 + d.val) / 8192 % 8 = h.val; omega
  | ⟨3, _⟩ => show (((b.val * 8 + h.val) * 256 + t.val) * 32 + d.val) / 32 % 256 = t.val; omega
  | ⟨4, _⟩ => show (((b.val * 8 + h.val) * 256 + t.val) * 32 + d.val) % 32 = d.val; omega

theorem scores_read_0 (b : Fin 2) (h : Fin 8) (t k : Fin 256) :
    (val_main_v6 (F := Ideal) x0 x1 (ix4 b h t k) : EReal)
      = (∑ d : Fin 32, x0 (ix5 (0 : Fin 2) b h t d) * x1 (ix5 (0 : Fin 2) b h k d)) * Ideal.ofBits .f32 0x3E3504F3#32 := by
  rw [val_main_v6_apply, val_main_v4_apply, val_main_v5_apply, val_main_cst_apply]
  show (_ : EReal) * _ = _
  congr 1
  refine Finset.sum_congr rfl fun d _ => ?_
  have el : lidx_main_v4 (ix4 b h t k) d = ix4 b h t d := by funext a; fin_cases a <;> rfl
  have er : ridx_main_v4 (ix4 b h t k) d = ix4 b h k d := by funext a; fin_cases a <;> rfl
  rw [el, er, queries_read_0, keys_read_0]

theorem max_read_0 (b : Fin 2) (h : Fin 8) (t : Fin 256)
    (hs : ∀ k : Fin 256, ∃ r : ℝ, (val_main_v6 (F := Ideal) x0 x1 (ix4 b h t k) : EReal) = (r : EReal)) :
    ∃ r : ℝ, (val_main_v9 (F := Ideal) x0 x1 (ix3 b h t) : EReal) = (r : EReal) := by
  rw [val_main_v9_apply, val_main_v8_apply, val_main_cst_1_apply]
  unfold val_main_v7
  generalize val_main_v6 (F := Ideal) x0 x1 = y at hs ⊢
  pointwise
  rw [show (val_main_cst_0 (F := Ideal) (Shape.Idx.first h_S_) : EReal) = ⊥ from ofBits_bot, ofBits_bot, max_bot_left]
  exact Soft.fold_max_real _ ⟨0, Finset.mem_univ _⟩ _ hs

theorem exp_read_0 (b : Fin 2) (h : Fin 8) (t k : Fin 256) :
    (val_main_v13 (F := Ideal) x0 x1 (ix4 b h t k) : EReal)
      = Ideal.exp ((val_main_v6 (F := Ideal) x0 x1 (ix4 b h t k) : EReal) - (val_main_v9 (F := Ideal) x0 x1 (ix3 b h t) : EReal)) := by
  rw [val_main_v13_apply, val_main_v12_apply, val_main_v11_apply, val_main_v10_apply]
  show Ideal.exp ((_ : EReal) - _) = _
  congr 3
  funext a; fin_cases a <;> rfl

theorem sum_read_0 (b : Fin 2) (h : Fin 8) (t k : Fin 256) :
    (val_main_v16 (F := Ideal) x0 x1 (ix4 b h t k) : EReal)
      = ∑ i : Fin 256, (val_main_v13 (F := Ideal) x0 x1 (ix4 b h t i) : EReal) := by
  rw [val_main_v16_apply, val_main_v15_apply, val_main_v14_apply, val_main_cst_2_apply]
  show Ideal.ofBits .f32 0x00000000#32 + _ = (_ : EReal)
  rw [Ideal.ofBits_zero_f32, zero_add]
  refine Finset.sum_congr rfl fun i _ => ?_
  congr 1; funext a; fin_cases a <;> rfl

/-- The first of a pair's attention, its scores being `S` and their maximum `M`. -/
theorem half_read_0 (b : Fin 2) (h : Fin 8) (r : Fin 64) (t : Fin 256) (S : Fin 256 → ℝ)
    (hs : ∀ k : Fin 256, (∑ d : Fin 32, x0 (ix5 (0 : Fin 2) b h t d) * x1 (ix5 (0 : Fin 2) b h k d)) * Ideal.ofBits .f32 0x3E3504F3#32 = ((S k : ℝ) : EReal)) :
    ∃ M : ℝ, (val_main_v18 (F := Ideal) x0 x1 x2 (ix4 b h t r) : EReal)
      = ∑ k, Ideal.div (Ideal.exp ((S k : EReal) - (M : EReal))) (∑ i, Ideal.exp ((S i : EReal) - (M : EReal))) * x2 (ix4 b h k r) := by
  have hs' : ∀ k : Fin 256, (val_main_v6 (F := Ideal) x0 x1 (ix4 b h t k) : EReal) = ((S k : ℝ) : EReal) := fun k =>
    (scores_read_0 x0 x1 b h t k).trans (hs k)
  obtain ⟨M, hM⟩ := max_read_0 x0 x1 b h t fun k => ⟨S k, hs' k⟩
  have he : ∀ k : Fin 256, (val_main_v13 (F := Ideal) x0 x1 (ix4 b h t k) : EReal) = Ideal.exp ((S k : EReal) - (M : EReal)) := fun k => by
    rw [exp_read_0, hM, hs']
  refine ⟨M, ?_⟩
  rw [val_main_v18_apply]
  refine Finset.sum_congr rfl fun k _ => ?_
  rw [← he k, show (∑ i, Ideal.exp ((S i : EReal) - (M : EReal))) = val_main_v16 (F := Ideal) x0 x1 (ix4 b h t k) from by
    rw [sum_read_0]; exact Finset.sum_congr rfl fun i _ => (he i).symm]
  have el : lidx_main_v18 (ix4 b h t r) k = ix4 b h t k := by funext a; fin_cases a <;> rfl
  have er : ridx_main_v18 (ix4 b h t r) k = ix4 b h k r := by funext a; fin_cases a <;> rfl
  rw [el, er, val_main_v17_apply]
  rfl

/-! The second of a pair. -/

theorem queries_read_1 (b : Fin 2) (h : Fin 8) (t : Fin 256) (d : Fin 32) :
    (val_main_v20 (F := Ideal) x0 (ix4 b h t d) : EReal) = x0 (ix5 (1 : Fin 2) b h t d) := by
  rw [val_main_v20_apply, val_main_v19_apply]
  congr 1; funext a; apply Fin.ext
  have := b.isLt; have := h.isLt; have := t.isLt; have := d.isLt
  match a with
  | ⟨0, _⟩ => rfl
  | ⟨1, _⟩ => show (((b.val * 8 + h.val) * 256 + t.val) * 32 + d.val) / 65536 % 2 = b.val; omega
  | ⟨2, _⟩ => show (((b.val * 8 + h.val) * 256 + t.val) * 32 + d.val) / 8192 % 8 = h.val; omega
  | ⟨3, _⟩ => show (((b.val * 8 + h.val) * 256 + t.val) * 32 + d.val) / 32 % 256 = t.val; omega
  | ⟨4, _⟩ => show (((b.val * 8 + h.val) * 256 + t.val) * 32 + d.val) % 32 = d.val; omega

theorem keys_read_1 (b : Fin 2) (h : Fin 8) (t : Fin 256) (d : Fin 32) :
    (val_main_v22 (F := Ideal) x1 (ix4 b h t d) : EReal) = x1 (ix5 (1 : Fin 2) b h t d) := by
  rw [val_main_v22_apply, val_main_v21_apply]
  congr 1; funext a; apply Fin.ext
  have := b.isLt; have := h.isLt; have := t.isLt; have := d.isLt
  match a with
  | ⟨0, _⟩ => rfl
  | ⟨1, _⟩ => show (((b.val * 8 + h.val) * 256 + t.val) * 32 + d.val) / 65536 % 2 = b.val; omega
  | ⟨2, _⟩ => show (((b.val * 8 + h.val) * 256 + t.val) * 32 + d.val) / 8192 % 8 = h.val; omega
  | ⟨3, _⟩ => show (((b.val * 8 + h.val) * 256 + t.val) * 32 + d.val) / 32 % 256 = t.val; omega
  | ⟨4, _⟩ => show (((b.val * 8 + h.val) * 256 + t.val) * 32 + d.val) % 32 = d.val; omega

theorem scores_read_1 (b : Fin 2) (h : Fin 8) (t k : Fin 256) :
    (val_main_v25 (F := Ideal) x0 x1 (ix4 b h t k) : EReal)
      = (∑ d : Fin 32, x0 (ix5 (1 : Fin 2) b h t d) * x1 (ix5 (1 : Fin 2) b h k d)) * Ideal.ofBits .f32 0x3E3504F3#32 := by
  rw [val_main_v25_apply, val_main_v23_apply, val_main_v24_apply, val_main_cst_3_apply]
  show (_ : EReal) * _ = _
  congr 1
  refine Finset.sum_congr rfl fun d _ => ?_
  have el : lidx_main_v23 (ix4 b h t k) d = ix4 b h t d := by funext a; fin_cases a <;> rfl
  have er : ridx_main_v23 (ix4 b h t k) d = ix4 b h k d := by funext a; fin_cases a <;> rfl
  rw [el, er, queries_read_1, keys_read_1]

theorem max_read_1 (b : Fin 2) (h : Fin 8) (t : Fin 256)
    (hs : ∀ k : Fin 256, ∃ r : ℝ, (val_main_v25 (F := Ideal) x0 x1 (ix4 b h t k) : EReal) = (r : EReal)) :
    ∃ r : ℝ, (val_main_v28 (F := Ideal) x0 x1 (ix3 b h t) : EReal) = (r : EReal) := by
  rw [val_main_v28_apply, val_main_v27_apply, val_main_cst_5_apply]
  unfold val_main_v26
  generalize val_main_v25 (F := Ideal) x0 x1 = y at hs ⊢
  pointwise
  rw [show (val_main_cst_4 (F := Ideal) (Shape.Idx.first h_S_) : EReal) = ⊥ from ofBits_bot, ofBits_bot, max_bot_left]
  exact Soft.fold_max_real _ ⟨0, Finset.mem_univ _⟩ _ hs

theorem exp_read_1 (b : Fin 2) (h : Fin 8) (t k : Fin 256) :
    (val_main_v32 (F := Ideal) x0 x1 (ix4 b h t k) : EReal)
      = Ideal.exp ((val_main_v25 (F := Ideal) x0 x1 (ix4 b h t k) : EReal) - (val_main_v28 (F := Ideal) x0 x1 (ix3 b h t) : EReal)) := by
  rw [val_main_v32_apply, val_main_v31_apply, val_main_v30_apply, val_main_v29_apply]
  show Ideal.exp ((_ : EReal) - _) = _
  congr 3
  funext a; fin_cases a <;> rfl

theorem sum_read_1 (b : Fin 2) (h : Fin 8) (t k : Fin 256) :
    (val_main_v35 (F := Ideal) x0 x1 (ix4 b h t k) : EReal)
      = ∑ i : Fin 256, (val_main_v32 (F := Ideal) x0 x1 (ix4 b h t i) : EReal) := by
  rw [val_main_v35_apply, val_main_v34_apply, val_main_v33_apply, val_main_cst_6_apply]
  show Ideal.ofBits .f32 0x00000000#32 + _ = (_ : EReal)
  rw [Ideal.ofBits_zero_f32, zero_add]
  refine Finset.sum_congr rfl fun i _ => ?_
  congr 1; funext a; fin_cases a <;> rfl

/-- The second of a pair's attention, its scores being `S` and their maximum `M`. -/
theorem half_read_1 (b : Fin 2) (h : Fin 8) (r : Fin 64) (t : Fin 256) (S : Fin 256 → ℝ)
    (hs : ∀ k : Fin 256, (∑ d : Fin 32, x0 (ix5 (1 : Fin 2) b h t d) * x1 (ix5 (1 : Fin 2) b h k d)) * Ideal.ofBits .f32 0x3E3504F3#32 = ((S k : ℝ) : EReal)) :
    ∃ M : ℝ, (val_main_v37 (F := Ideal) x0 x1 x2 (ix4 b h t r) : EReal)
      = ∑ k, Ideal.div (Ideal.exp ((S k : EReal) - (M : EReal))) (∑ i, Ideal.exp ((S i : EReal) - (M : EReal))) * x2 (ix4 b h k r) := by
  have hs' : ∀ k : Fin 256, (val_main_v25 (F := Ideal) x0 x1 (ix4 b h t k) : EReal) = ((S k : ℝ) : EReal) := fun k =>
    (scores_read_1 x0 x1 b h t k).trans (hs k)
  obtain ⟨M, hM⟩ := max_read_1 x0 x1 b h t fun k => ⟨S k, hs' k⟩
  have he : ∀ k : Fin 256, (val_main_v32 (F := Ideal) x0 x1 (ix4 b h t k) : EReal) = Ideal.exp ((S k : EReal) - (M : EReal)) := fun k => by
    rw [exp_read_1, hM, hs']
  refine ⟨M, ?_⟩
  rw [val_main_v37_apply]
  refine Finset.sum_congr rfl fun k _ => ?_
  rw [← he k, show (∑ i, Ideal.exp ((S i : EReal) - (M : EReal))) = val_main_v35 (F := Ideal) x0 x1 (ix4 b h t k) from by
    rw [sum_read_1]; exact Finset.sum_congr rfl fun i _ => (he i).symm]
  have el : lidx_main_v37 (ix4 b h t r) k = ix4 b h t k := by funext a; fin_cases a <;> rfl
  have er : ridx_main_v37 (ix4 b h t r) k = ix4 b h k r := by funext a; fin_cases a <;> rfl
  rw [el, er, val_main_v36_apply]
  rfl

/-! The two side by side. -/

theorem out_ix (b : Fin 2) (h : Fin 8) (p : Fin 2) (r : Fin 64) (t : Fin 256) :
    idx_main_v41 (idx_main_v42 (ix4 b (pHead h p) r t)) = (ix5 b h p t r : S2x8x2x256x64.Idx) := by
  funext a; apply Fin.ext
  have := b.isLt; have := h.isLt; have := p.isLt; have := t.isLt; have := r.isLt
  match a with
  | ⟨0, _⟩ => show (((b.val * 16 + (2 * h.val + p.val)) * 256 + t.val) * 64 + r.val) / 262144 = b.val; omega
  | ⟨1, _⟩ => show (((b.val * 16 + (2 * h.val + p.val)) * 256 + t.val) * 64 + r.val) / 32768 % 8 = h.val; omega
  | ⟨2, _⟩ => show (((b.val * 16 + (2 * h.val + p.val)) * 256 + t.val) * 64 + r.val) / 16384 % 2 = p.val; omega
  | ⟨3, _⟩ => show (((b.val * 16 + (2 * h.val + p.val)) * 256 + t.val) * 64 + r.val) / 64 % 256 = t.val; omega
  | ⟨4, _⟩ => show (((b.val * 16 + (2 * h.val + p.val)) * 256 + t.val) * 64 + r.val) % 64 = r.val; omega

theorem pair_first (b : Fin 2) (h : Fin 8) (t : Fin 256) (r : Fin 64) :
    (val_main_v40 (F := Ideal) x0 x1 x2 (ix5 b h (0 : Fin 2) t r) : EReal) = val_main_v18 (F := Ideal) x0 x1 x2 (ix4 b h t r) := by
  have e : val_main_v38 (F := Ideal) x0 x1 x2 (ix5 b h (0 : Fin 1) t r) = val_main_v18 (F := Ideal) x0 x1 x2 (ix4 b h t r) := by
    rw [val_main_v38_apply]
    congr 1; funext a; fin_cases a <;> rfl
  rw [← e]
  unfold val_main_v40
  generalize val_main_v38 (F := Ideal) x0 x1 x2 = y
  generalize val_main_v39 (F := Ideal) x0 x1 x2 = z
  pointwise

theorem pair_second (b : Fin 2) (h : Fin 8) (t : Fin 256) (r : Fin 64) :
    (val_main_v40 (F := Ideal) x0 x1 x2 (ix5 b h (1 : Fin 2) t r) : EReal) = val_main_v37 (F := Ideal) x0 x1 x2 (ix4 b h t r) := by
  have e : val_main_v39 (F := Ideal) x0 x1 x2 (ix5 b h (0 : Fin 1) t r) = val_main_v37 (F := Ideal) x0 x1 x2 (ix4 b h t r) := by
    rw [val_main_v39_apply]
    congr 1; funext a; fin_cases a <;> rfl
  rw [← e]
  unfold val_main_v40
  generalize val_main_v38 (F := Ideal) x0 x1 x2 = y
  generalize val_main_v39 (F := Ideal) x0 x1 x2 = z
  pointwise

/-- The reference's result, the scores of the head being `S` and their maximum `M`. -/
theorem out_read (b : Fin 2) (h : Fin 8) (p : Fin 2) (r : Fin 64) (t : Fin 256) (S : Fin 256 → ℝ)
    (hs : ∀ k : Fin 256, (∑ d : Fin 32, x0 (ix5 p b h t d) * x1 (ix5 p b h k d)) * Ideal.ofBits .f32 0x3E3504F3#32 = ((S k : ℝ) : EReal)) :
    ∃ M : ℝ, (val_main_v42 (F := Ideal) x0 x1 x2 (ix4 b (pHead h p) r t) : EReal)
      = ∑ k, Ideal.div (Ideal.exp ((S k : EReal) - (M : EReal))) (∑ i, Ideal.exp ((S i : EReal) - (M : EReal))) * x2 (ix4 b h k r) := by
  rw [val_main_v42_apply, val_main_v41_apply, out_ix]
  match p with
  | 0 => rw [pair_first]; exact half_read_0 x0 x1 x2 b h r t S hs
  | 1 => rw [pair_second]; exact half_read_1 x0 x1 x2 b h r t S hs

end Cert.RefAt10

namespace Cert.Kernel10Ideal.Ctx

open Idealize.ShloMosaic Idealize.ShloMosaic.TcCoe Idealize.ShloMosaic.Tactic
open Idealize.SL Idealize.SL.Sem
open Cert.Kernel10Ideal.Gen Cert.Soft
open Cert.KernelIdeal.Att (ofBits_start ofBits_two)
open Cert.Kernel2Ideal.Att (ofBits_scale score_base_two pHead)

/-! The tile. -/

/-- The score of a key for a query. -/
def score (x : Vec Ideal S1x1x32x256 .bf16) (K : Vec Ideal S1x1x256x32 .bf16) (k q : Fin 256) : EReal :=
  ∑ d : Fin 32, K (ix4 (0 : Fin 1) (0 : Fin 1) k d) * x (ix4 (0 : Fin 1) (0 : Fin 1) d q)

/-- The largest score of a query and the starting value. -/
def top (x : Vec Ideal S1x1x32x256 .bf16) (K : Vec Ideal S1x1x256x32 .bf16) (a : EReal) (q : Fin 256) : EReal :=
  max a ((Finset.univ : Finset (Fin 256)).fold max ⊥ fun k => score x K k q)

theorem acc_apply (x : Vec Ideal S1x1x32x256 .bf16) (a b : Vec Ideal S1x1x1 .f32) (K : Vec Ideal S1x1x256x32 .bf16) (v : Vec Ideal S1x1x80x256 .bf16)
    (hb : b (ix3 (0 : Fin 1) (0 : Fin 1) (0 : Fin 1)) = (0 : EReal)) (r : Fin 80) (q : Fin 256) :
    (k0_pay2 x a b K v (ix2 r q) : EReal)
      = ∑ k : Fin 256, v (ix4 (0 : Fin 1) (0 : Fin 1) r k)
          * Ideal.exp2 (score x K k q - top x K (a (ix3 (0 : Fin 1) (0 : Fin 1) (0 : Fin 1))) q) := by
  unfold k0_pay2
  pointwise
  have h0 : ∀ w : BitVec 1, Scalar.select w (0 : EReal) 0 = 0 := fun w => by unfold Scalar.select; split <;> rfl
  rw [show Ideal.ofBits FTy.f32 4286578688#32 = (⊥ : EReal) from Cert.RefAt.ofBits_bot, hb, zero_mul]
  exact (congrArg (fun e : EReal => e + _) (h0 _)).trans (zero_add _)

theorem quot_apply (x : Vec Ideal S1x1x32x256 .bf16) (a b : Vec Ideal S1x1x1 .f32) (K : Vec Ideal S1x1x256x32 .bf16) (v : Vec Ideal S1x1x80x256 .bf16)
    (r : Fin 64) (q : Fin 256) :
    (k0_pay1 (k0_pay3 x a b K v) (k0_pay4 x a b K v) (ix4 (0 : Fin 1) (0 : Fin 1) r q) : EReal)
      = Ideal.div (k0_pay2 x a b K v (ix2 (⟨r.val, by omega⟩ : Fin 80) q)) (k0_pay2 x a b K v (ix2 (64 : Fin 80) q)) := by
  unfold k0_pay1 k0_pay3 k0_pay4
  generalize k0_pay2 x a b K v = A
  pointwise

theorem out_apply (I : Vec Ideal S1x2x128 .f32) (x : Vec Ideal S1x1x32x256 .bf16) (K : Vec Ideal S1x1x256x32 .bf16) (v : Vec Ideal S1x1x80x256 .bf16)
    (h1 : I (ix3 (0 : Fin 1) (1 : Fin 2) (0 : Fin 128)) = (0 : EReal)) (hone : ∀ k, v (ix4 (0 : Fin 1) (0 : Fin 1) (64 : Fin 80) k) = (1 : EReal))
    (r : Fin 64) (q : Fin 256) :
    (out0_4 I x K v (ix4 (0 : Fin 1) (0 : Fin 1) r q) : EReal)
      = Ideal.div
          (∑ k : Fin 256, v (ix4 (0 : Fin 1) (0 : Fin 1) (⟨r.val, by omega⟩ : Fin 80) k)
            * Ideal.exp2 (score x K k q - top x K (I (ix3 (0 : Fin 1) (0 : Fin 2) (0 : Fin 128))) q))
          (∑ k : Fin 256, Ideal.exp2 (score x K k q - top x K (I (ix3 (0 : Fin 1) (0 : Fin 2) (0 : Fin 128))) q)) := by
  have e1 : View.ld x r0_0 = x := View.ld_unit_zero (by funext a; fin_cases a <;> rfl) _ x
  have e2 : View.ld K r0_3 = K := View.ld_unit_zero (by funext a; fin_cases a <;> rfl) _ K
  have e3 : View.ld v r0_4 = v := View.ld_unit_zero (by funext a; fin_cases a <;> rfl) _ v
  have ea : View.ld I r0_1 (ix3 (0 : Fin 1) (0 : Fin 1) (0 : Fin 1)) = I (ix3 (0 : Fin 1) (0 : Fin 2) (0 : Fin 128)) := by
    refine congrArg I ?_
    funext a; apply Fin.ext
    fin_cases a <;> rfl
  have eb : View.ld I r0_2 (ix3 (0 : Fin 1) (0 : Fin 1) (0 : Fin 1)) = I (ix3 (0 : Fin 1) (1 : Fin 2) (0 : Fin 128)) := by
    refine congrArg I ?_
    funext a; apply Fin.ext
    fin_cases a <;> rfl
  unfold out0_4
  rw [View.canon_cons_unit_zero (by funext a; fin_cases a <;> rfl), quot_apply, e1, e2, e3, acc_apply _ _ _ _ _ (eb.trans h1),
    acc_apply _ _ _ _ _ (eb.trans h1), ea]
  simp only [hone, one_mul]

/-- At real queries and keys a tile is the values weighted by the softmax of the scaled scores. -/
theorem out_softmax (I : Vec Ideal S1x2x128 .f32) (x : Vec Ideal S1x1x32x256 .bf16) (K : Vec Ideal S1x1x256x32 .bf16) (v : Vec Ideal S1x1x80x256 .bf16)
    (r : Fin 64) (q : Fin 256) (qr : Fin 32 → ℝ) (kr : Fin 256 → Fin 32 → ℝ) (κ : ℝ)
    (hq : ∀ d, x (ix4 (0 : Fin 1) (0 : Fin 1) d q) = Ideal.div (((qr d : ℝ) : EReal) * ((κ : ℝ) : EReal)) (Ideal.log ((2 : ℝ) : EReal)))
    (hk : ∀ k d, K (ix4 (0 : Fin 1) (0 : Fin 1) k d) = ((kr k d : ℝ) : EReal))
    (hone : ∀ k, v (ix4 (0 : Fin 1) (0 : Fin 1) (64 : Fin 80) k) = (1 : EReal))
    (h0 : ∃ s : ℝ, I (ix3 (0 : Fin 1) (0 : Fin 2) (0 : Fin 128)) = (s : EReal))
    (h1 : I (ix3 (0 : Fin 1) (1 : Fin 2) (0 : Fin 128)) = (0 : EReal)) (M : ℝ) :
    (out0_4 I x K v (ix4 (0 : Fin 1) (0 : Fin 1) r q) : EReal)
      = ∑ k, Ideal.div (Ideal.exp ((((∑ d, qr d * kr k d) * κ : ℝ) : EReal) - (M : EReal)))
            (∑ i, Ideal.exp ((((∑ d, qr d * kr i d) * κ : ℝ) : EReal) - (M : EReal)))
          * v (ix4 (0 : Fin 1) (0 : Fin 1) (⟨r.val, by omega⟩ : Fin 80) k) := by
  have hs : ∀ k, score x K k q = (((∑ d, qr d * kr k d) * κ / Real.log 2 : ℝ) : EReal) := fun k => by
    unfold score
    simp only [hq, hk]
    exact score_base_two qr _ κ
  obtain ⟨s, hs0⟩ := h0
  obtain ⟨f, hf⟩ := Soft.fold_max_real (Finset.univ : Finset (Fin 256)) ⟨0, Finset.mem_univ _⟩ (fun k => score x K k q) fun k => ⟨_, hs k⟩
  have ht : top x K (I (ix3 (0 : Fin 1) (0 : Fin 2) (0 : Fin 128))) q = ((max s f : ℝ) : EReal) := by
    unfold top
    rw [hf, hs0]
    exact (EReal.coe_strictMono.monotone.map_max).symm
  rw [out_apply I x K v h1 hone, ht]
  simp only [hs]
  exact quotient (by decide) (fun k => (∑ d, qr d * kr k d) * κ) _ (max s f) M

/-! What the operations before the launch leave in its arguments. -/

variable (m : (ℓ : Loc nD τ sig) → Buf (Elt Ideal) ℓ) (c : Dev nD)

abbrev arg0 : Vec Ideal S2x2x8x256x32 .f32 := m (c, main_arg0)
abbrev arg1 : Vec Ideal S2x2x8x256x32 .f32 := m (c, main_arg1)
abbrev arg2 : Vec Ideal S2x8x256x64 .f32 := m (c, main_arg2)

theorem pair_ix (p b : Fin 2) (h : Fin 8) (k : Fin 256) (d : Fin 32) :
    (ix5 (⟨(pHead h p).val % 2, Nat.mod_lt _ (by decide)⟩ : Fin 2) b (⟨(pHead h p).val / 2, by omega⟩ : Fin 8) k d : S2x2x8x256x32.Idx)
      = ix5 p b h k d := by
  have e0 : (pHead h p).val = 2 * h.val + p.val := rfl
  have ep := p.isLt
  funext a; apply Fin.ext
  match a with
  | ⟨0, _⟩ => show (pHead h p).val % 2 = p.val; omega
  | ⟨1, _⟩ => rfl
  | ⟨2, _⟩ => show (pHead h p).val / 2 = h.val; omega
  | ⟨3, _⟩ => rfl
  | ⟨4, _⟩ => rfl

theorem keys_in (p b : Fin 2) (h : Fin 8) (k : Fin 256) (d : Fin 32) :
    (V m c main_v21 (ix4 b (pHead h p) (⟨16384 + k.val, by omega⟩ : Fin 16640) d) : EReal) = arg1 m c (ix5 p b h k d) := by
  dsimp only [V, hostOps0, hostOps0_1, hostOps0_2, List.flatten_cons, List.flatten_nil, List.append_nil, List.cons_append, List.nil_append]
  entry_read
  pointwise
  rw [pair_ix p b h k d]

theorem values_in (b : Fin 2) (h : Fin 8) (k : Fin 256) (r : Fin 64) :
    (V m c main_v25 (ix4 b h (⟨r.val, by omega⟩ : Fin 80) (⟨16384 + k.val, by omega⟩ : Fin 16640)) : EReal) = arg2 m c (ix4 b h k r) := by
  dsimp only [V, hostOps0, hostOps0_1, hostOps0_2, List.flatten_cons, List.flatten_nil, List.append_nil, List.cons_append, List.nil_append]
  entry_read
  pointwise
  after_results_simp
  pointwise

theorem ones_in (b : Fin 2) (h : Fin 8) (k : Fin 256) :
    (V m c main_v25 (ix4 b h (64 : Fin 80) (⟨16384 + k.val, by omega⟩ : Fin 16640)) : EReal) = (1 : EReal) := by
  dsimp only [V, hostOps0, hostOps0_1, hostOps0_2, List.flatten_cons, List.flatten_nil, List.append_nil, List.cons_append, List.nil_append]
  entry_read
  pointwise
  after_results_simp
  exact Eq.trans (b := Ideal.ofBits .f32 0x3F800000#32) rfl Ideal.ofBits_one_f32

theorem queries_in (p b : Fin 2) (h : Fin 8) (q : Fin 256) (d : Fin 32) :
    (V m c main_v23 (ix4 b (pHead h p) d (⟨16384 + q.val, by omega⟩ : Fin 16640)) : EReal)
      = Ideal.div (arg0 m c (ix5 p b h q d) * Ideal.ofBits .f32 0x3E3504F3#32) (Ideal.log (Ideal.ofBits .f32 0x40000000#32)) := by
  dsimp only [V, hostOps0, hostOps0_1, hostOps0_2, List.flatten_cons, List.flatten_nil, List.append_nil, List.cons_append, List.nil_append]
  entry_read
  pointwise
  rw [pair_ix p b h q d]

theorem start_max (h : Fin 16) : (V m c main_v27 (ix3 h (0 : Fin 2) (0 : Fin 128)) : EReal) = Ideal.ofBits .f32 0xF149F2CA#32 := by
  dsimp only [V, hostOps0, hostOps0_1, hostOps0_2, List.flatten_cons, List.flatten_nil, List.append_nil, List.cons_append, List.nil_append]
  entry_read
  pointwise
  rfl

theorem start_sum (h : Fin 16) : (V m c main_v27 (ix3 h (1 : Fin 2) (0 : Fin 128)) : EReal) = (0 : EReal) := by
  dsimp only [V, hostOps0, hostOps0_1, hostOps0_2, List.flatten_cons, List.flatten_nil, List.append_nil, List.cons_append, List.nil_append]
  entry_read
  pointwise
  exact Eq.trans (b := Ideal.ofBits .f32 0x00000000#32) rfl Ideal.ofBits_zero_f32

/-! The blocks of a point. -/

theorem idx0 : ∀ t : Fin cfg0.N, win0_0.index t = ![t.val % 16, 0, 0] := (by decide +kernel : ∀ t : Fin grid0.N, _)
theorem idx1 : ∀ t : Fin cfg0.N, win0_1.index t = ![t.val / 16, t.val % 16, 0, 64] := (by decide +kernel : ∀ t : Fin grid0.N, _)
theorem idx2 : ∀ t : Fin cfg0.N, win0_2.index t = ![t.val / 16, t.val % 16, 64, 0] := (by decide +kernel : ∀ t : Fin grid0.N, _)
theorem idx3 : ∀ t : Fin cfg0.N, win0_3.index t = ![t.val / 16, t.val % 16 / 2, 0, 64] := (by decide +kernel : ∀ t : Fin grid0.N, _)
theorem idx4 : ∀ t : Fin cfg0.N, win0_4.index t = ![t.val / 16, t.val % 16, 0, 0] := (by decide +kernel : ∀ t : Fin grid0.N, _)
theorem flush4 : ∀ t : Fin cfg0.N, (cfg0.win 4).flush t = true := (by decide +kernel : ∀ t : Fin grid0.N, _)

theorem blk0 (t : Fin cfg0.N) (y : S1x2x128.Idx) (z : S16x2x128.Idx)
    (h0 : (z 0).val = t.val % 16 + (y 0).val) (h1 : (z 1).val = (y 1).val) (h2 : (z 2).val = (y 2).val) :
    iblk m c 0 t y = V m c main_v27 z := by
  have e := idx0 t
  blk_simp [iblk]
  congr 1
  funext a; apply Fin.ext
  fin_cases a
  all_goals (blk_simp [e]; try (simp at *; try omega))

theorem blk1 (t : Fin cfg0.N) (y : S1x1x32x256.Idx) (z : S2x16x32x16640.Idx)
    (h0 : (z 0).val = t.val / 16 + (y 0).val) (h1 : (z 1).val = t.val % 16 + (y 1).val) (h2 : (z 2).val = (y 2).val)
    (h3 : (z 3).val = 16384 + (y 3).val) :
    iblk m c 1 t y = V m c main_v23 z := by
  have e := idx1 t
  blk_simp [iblk]
  congr 1
  funext a; apply Fin.ext
  fin_cases a
  all_goals (blk_simp [e]; try (simp at *; try omega))

theorem blk2 (t : Fin cfg0.N) (y : S1x1x256x32.Idx) (z : S2x16x16640x32.Idx)
    (h0 : (z 0).val = t.val / 16 + (y 0).val) (h1 : (z 1).val = t.val % 16 + (y 1).val) (h2 : (z 2).val = 16384 + (y 2).val)
    (h3 : (z 3).val = (y 3).val) :
    iblk m c 2 t y = V m c main_v21 z := by
  have e := idx2 t
  blk_simp [iblk]
  congr 1
  funext a; apply Fin.ext
  fin_cases a
  all_goals (blk_simp [e]; try (simp at *; try omega))

theorem blk3 (t : Fin cfg0.N) (y : S1x1x80x256.Idx) (z : S2x8x80x16640.Idx)
    (h0 : (z 0).val = t.val / 16 + (y 0).val) (h1 : (z 1).val = t.val % 16 / 2 + (y 1).val) (h2 : (z 2).val = (y 2).val)
    (h3 : (z 3).val = 16384 + (y 3).val) :
    iblk m c 3 t y = V m c main_v25 z := by
  have e := idx3 t
  blk_simp [iblk]
  congr 1
  funext a; apply Fin.ext
  fin_cases a
  all_goals (blk_simp [e]; try (simp at *; try omega))

theorem emb_out (t : Fin cfg0.N) (y : S1x1x64x256.Idx) :
    ((win0_4.blk t).view.emb y : S2x16x64x256.Idx) = ix4 (⟨t.val / 16, by have : t.val < 32 := t.isLt; omega⟩ : Fin 2)
      (⟨t.val % 16, Nat.mod_lt _ (by decide)⟩ : Fin 16) (⟨(y 2).val, (y 2).isLt⟩ : Fin 64) (⟨(y 3).val, (y 3).isLt⟩ : Fin 256) := by
  have e := idx4 t
  have hy : (y 0).val < 1 := (y 0).isLt
  have hy' : (y 1).val < 1 := (y 1).isLt
  funext a; apply Fin.ext
  fin_cases a <;> (blk_simp [e]; try simp)

/-! The result. -/

theorem tile_eq (hq : ∀ i, ∃ r : ℝ, arg0 m c i = (r : EReal)) (hk : ∀ i, ∃ r : ℝ, arg1 m c i = (r : EReal))
    (b : Fin 2) (h : Fin 8) (p : Fin 2) (d : Fin 64) (q : Fin 256) :
    (dats m 0 c).arrAt 4 cfg0.N (ix4 b (pHead h p) d q)
      = Reference10Ideal.Read.val_main_v42 (F := Ideal) (arg0 m c) (arg1 m c) (arg2 m c) (ix4 b (pHead h p) d q) := by
  have hb := b.isLt
  have hh := h.isLt
  have hp := p.isLt
  let T : Fin cfg0.N := ⟨b.val * 16 + (2 * h.val + p.val), by show _ < 32; omega⟩
  have hT : T.val = b.val * 16 + (2 * h.val + p.val) := rfl
  clear_value T
  have h' := congrFun (Value.blocks4 m c T (flush4 T)) (ix4 (0 : Fin 1) (0 : Fin 1) d q : S1x1x64x256.Idx)
  have e : (((win0_4.blk T).view.emb (ix4 (0 : Fin 1) (0 : Fin 1) d q : S1x1x64x256.Idx)) : S2x16x64x256.Idx) = ix4 b (pHead h p) d q := by
    rw [emb_out]
    funext a; apply Fin.ext
    match a with
    | ⟨0, _⟩ => show T.val / 16 = b.val; omega
    | ⟨1, _⟩ => show T.val % 16 = 2 * h.val + p.val; omega
    | ⟨2, _⟩ => rfl
    | ⟨3, _⟩ => rfl
  have h'' : (dats m 0 c).arrAt 4 cfg0.N ((win0_4.blk T).view.emb (ix4 (0 : Fin 1) (0 : Fin 1) d q : S1x1x64x256.Idx))
      = (dats m 0 c).flushed 4 T (ix4 (0 : Fin 1) (0 : Fin 1) d q : S1x1x64x256.Idx) := h'
  rw [e, Value.flushed4] at h''
  refine h''.trans ?_
  refine Eq.trans (b := out0_4 (iblk m c 0 T) (iblk m c 1 T) (iblk m c 2 T) (iblk m c 3 T) (ix4 (0 : Fin 1) (0 : Fin 1) d q)) rfl ?_
  obtain ⟨κ, hκ⟩ := ofBits_scale
  choose qr hqr using hq
  choose kr hkr using hk
  obtain ⟨M, hM⟩ := Cert.RefAt10.out_read (arg0 m c) (arg1 m c) (arg2 m c) b h p d q
    (fun k => (∑ e, qr (ix5 p b h q e) * kr (ix5 p b h k e)) * κ)
    (fun k => by
      rw [hκ]
      simp only [hqr, hkr, ← EReal.coe_mul]
      rw [coe_sum, ← EReal.coe_mul])
  rw [hM]
  refine (out_softmax _ _ _ _ d q (fun e => qr (ix5 p b h q e)) (fun k e => kr (ix5 p b h k e)) κ (fun e => ?_) (fun k e => ?_) (fun k => ?_) ?_ ?_ M).trans
    (Finset.sum_congr rfl fun k _ => congrArg (HMul.hMul (_ : EReal)) ?_)
  · rw [blk1 m c T _ (ix4 b (pHead h p) e (⟨16384 + q.val, by omega⟩ : Fin 16640)) (by show b.val = T.val / 16 + 0; omega) (by show 2 * h.val + p.val = T.val % 16 + 0; omega) rfl rfl, queries_in, hκ, ofBits_two, hqr]
  · rw [blk2 m c T _ (ix4 b (pHead h p) (⟨16384 + k.val, by omega⟩ : Fin 16640) e) (by show b.val = T.val / 16 + 0; omega) (by show 2 * h.val + p.val = T.val % 16 + 0; omega) rfl rfl, keys_in, hkr]
  · rw [blk3 m c T _ (ix4 b h (64 : Fin 80) (⟨16384 + k.val, by omega⟩ : Fin 16640)) (by show b.val = T.val / 16 + 0; omega) (by show h.val = T.val % 16 / 2 + 0; omega) rfl rfl, ones_in]
  · rw [blk0 m c T _ (ix3 (pHead h p) (0 : Fin 2) (0 : Fin 128)) (by show 2 * h.val + p.val = T.val % 16 + 0; omega) rfl rfl, start_max]
    exact ofBits_start
  · rw [blk0 m c T _ (ix3 (pHead h p) (1 : Fin 2) (0 : Fin 128)) (by show 2 * h.val + p.val = T.val % 16 + 0; omega) rfl rfl, start_sum]
  · rw [blk3 m c T _ (ix4 b h (⟨d.val, by omega⟩ : Fin 80) (⟨16384 + k.val, by omega⟩ : Fin 16640)) (by show b.val = T.val / 16 + 0; omega) (by show h.val = T.val % 16 / 2 + 0; omega) rfl rfl, values_in]

theorem result_eq (hq : ∀ i, ∃ r : ℝ, arg0 m c i = (r : EReal)) (hk : ∀ i, ∃ r : ℝ, arg1 m c i = (r : EReal)) :
    (dats m 0 c).arrAt 4 cfg0.N = Reference10Ideal.Read.val_main_v42 (F := Ideal) (arg0 m c) (arg1 m c) (arg2 m c) := by
  funext i
  have hl : (i 1).val < 16 := (i 1).isLt
  have hi : (i : S2x16x64x256.Idx) = ix4 (⟨(i 0).val, (i 0).isLt⟩ : Fin 2)
      (pHead (⟨(i 1).val / 2, by omega⟩ : Fin 8) (⟨(i 1).val % 2, by omega⟩ : Fin 2)) (⟨(i 2).val, (i 2).isLt⟩ : Fin 64)
      (⟨(i 3).val, (i 3).isLt⟩ : Fin 256) := by
    funext a; apply Fin.ext
    match a with
    | ⟨0, _⟩ => rfl
    | ⟨1, _⟩ => show (i 1).val = 2 * ((i 1).val / 2) + (i 1).val % 2; omega
    | ⟨2, _⟩ => rfl
    | ⟨3, _⟩ => rfl
  rw [hi]
  exact tile_eq m c hq hk _ _ _ _ _

end Cert.Kernel10Ideal.Ctx
end
-- ==== Proof.Finite10.lean ====
module

public import proofs.«01_k».proof.Defs
public import proofs.«01_k».proof.Proof.Result10
public import proofs.«01_k».proof.Proof.Finite
public import proofs.«01_k».proof.Proof.Gen.Kernel10.Frame
public import proofs.«01_k».proof.Proof.Gen.Kernel10Ideal.Frame
public import proofs.«01_k».proof.Proof.Gen.Reference10Ideal.Run
public import Idealize.ShloMosaic.Lib.ReduceAll

/-! The claims of the context tokens' differential attention: its frames, the precondition, which says of every query and key that it is a
real number, and the equality of the two results under it. -/

@[expose] public section

set_option maxRecDepth 16384

noncomputable section

namespace Cert.Finite10

open Idealize.ShloMosaic Idealize.ShloMosaic.TcCoe Idealize.SL.Sem

theorem facts : Cert.Pre_finite10.Facts where
  bcast_S_S2x2x8x256x32 := by decide
  reducesTo_S2x2x8x256x32_S_d0_1_2_3_4 := by decide
  h_S_ := by decide

instance : Subsingleton Cert.Pre_finite10.S_.Idx := ⟨fun a b => funext fun i => i.elim0⟩

attribute [local instance] facts in
theorem reals (x0 x1 : FVec Ideal Cert.Pre_finite10.S2x2x8x256x32 .f32) (x2 : FVec Ideal Cert.Pre_finite10.S2x8x256x64 .f32)
    (h : Cert.Pre_finite10.fn (F := Ideal) x0 x1 x2 = fun _ => 1#1) :
    (∀ i, ∃ r : ℝ, x0 i = (r : EReal)) ∧ (∀ i, ∃ r : ℝ, x1 i = (r : EReal)) := by
  have e := congrFun h (fun a => a.elim0)
  obtain ⟨e0, e1⟩ := IntOp.andi_eq_one.1 e
  exact ⟨fun i => Cert.Finite.real_of_abs_lt _ (Host.reduce_andi_all _ _ _ _ _ e0 i), fun i => Cert.Finite.real_of_abs_lt _ (Host.reduce_andi_all _ _ _ _ _ e1 i)⟩

theorem kernel_bits : Cert.quiescent_Kernel10 := fun m ρ _ => Cert.Kernel10.Gen.frame m ρ

theorem kernel_ideal : Cert.quiescent_Kernel10Ideal := fun m ρ _ => Cert.Kernel10Ideal.Gen.frame m ρ

theorem reference_ideal : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

attribute [local instance] Cert.Kernel10.Gen.facts Cert.Kernel10Ideal.Gen.facts Cert.Reference10Ideal.Gen.facts facts in
theorem algebraic : Cert.algebraic_Kernel10Ideal_Reference10Ideal_pre_finite10 := fun m g m' g' hp hm => by
  have hr := fun c => reals _ _ _ (hp c)
  refine ⟨fun c => (Cert.Kernel10Ideal.Gen.dats m 0 c).arrAt 4 Cert.Kernel10Ideal.cfg0.N, ?_, ?_⟩
  · exact (θ_run Cert.Kernel10Ideal.defs _ _).mono (fun r h => h) (Cert.Kernel10Ideal.Value.run_blocks (F := Ideal) m g)
  · refine (θ_run Cert.Reference10Ideal.defs _ _).mono (fun r h c => ⟨(h c).1.trans ?_, (h c).2⟩) (Cert.Reference10Ideal.Value.run (F := Ideal) m' g')
    obtain ⟨h0, h1, h2⟩ := hm c
    rw [Cert.Reference10Ideal.Read.val_main_v42_eq, h0, h1, h2]
    exact (Cert.Kernel10Ideal.Ctx.result_eq m c (hr c).1 (hr c).2).symm

end Cert.Finite10
end
-- ==== Proof.Result11.lean ====
module

public import proofs.«01_k».proof.Proof.Result9
public import proofs.«01_k».proof.Proof.Tile4
public import proofs.«01_k».proof.Proof.Gen.Kernel11Ideal.Value
public import proofs.«01_k».proof.Proof.Gen.Reference11Ideal.Read
public import Idealize.ShloMosaic.Lib.Pipeline.ValueKit
public import Idealize.ShloMosaic.Lib.Pointwise
public import Idealize.ShloMosaic.Lib.Claim
public import Idealize.ShloMosaic.Lib.IdealHost

/-! The windowed heads' attention at the context tokens: a tile is the values weighted by the softmax of the scaled scores and
the head's sink, and so is the reference's value. Query head `4 h + g` is against key head `h`. -/

@[expose] public section

set_option maxRecDepth 16384

noncomputable section

namespace Cert.RefAt11

open Idealize.ShloMosaic Idealize.ShloMosaic.TcCoe Idealize.ShloMosaic.Tactic
open Cert.Reference11Ideal Cert.Reference11Ideal.Gen Cert.Reference11Ideal.Value Cert.Reference11Ideal.Read
open Cert.RefAt (ofBits_bot)
open Cert.RefAt3 (qHead)
open Cert.RefAt4 (max_real add_two fold_ne_top)

variable (x0 : Vec Ideal S2x8x256x64 .f32) (x1 x2 : Vec Ideal S2x2x256x64 .f32) (x3 : Vec Ideal S8 .f32)

theorem scores_read (b h : Fin 2) (g : Fin 4) (t k : Fin 256) :
    (val_main_v3 (F := Ideal) x0 x1 (ix5 b h g t k) : EReal)
      = (∑ d : Fin 64, x0 (ix4 b (qHead h g) t d) * x1 (ix4 b h k d)) * Ideal.ofBits .f32 0x3E000000#32 :=
  Cert.RefAt9.scores_read x0 x1 b h g t k

theorem sink_read (b h : Fin 2) (g : Fin 4) (t : Fin 256) (i : S2x2x4x256x1.Idx) (hi : i = ix5 b h g t (0 : Fin 1)) :
    (val_main_v7 (F := Ideal) x3 i : EReal) = x3 (ix1 (qHead h g)) ∧ (val_main_v14 (F := Ideal) x3 i : EReal) = x3 (ix1 (qHead h g)) := by
  subst hi
  have hh := h.isLt
  have hg := g.isLt
  constructor
  · rw [val_main_v7_apply, val_main_v4_apply]
    congr 1; funext a; apply Fin.ext
    match a with
    | ⟨0, _⟩ => show _ = 4 * h.val + g.val; simp; try omega
  · rw [val_main_v14_apply, val_main_v4_apply]
    congr 1; funext a; apply Fin.ext
    match a with
    | ⟨0, _⟩ => show _ = 4 * h.val + g.val; simp; try omega

theorem max_read (b h : Fin 2) (g : Fin 4) (t : Fin 256) (σ : ℝ) (hσ : (x3 (ix1 (qHead h g)) : EReal) = (σ : EReal))
    (hs : ∀ k : Fin 256, (val_main_v3 (F := Ideal) x0 x1 (ix5 b h g t k) : EReal) ≠ ⊤) :
    ∃ r : ℝ, (val_main_v8 (F := Ideal) x0 x1 x3 (ix5 b h g t (0 : Fin 1)) : EReal) = (r : EReal) := by
  rw [val_main_v8_apply, (sink_read x3 b h g t _ rfl).1, val_main_v6_apply, hσ]
  have e : (idx_main_v6 (ix5 b h g t (0 : Fin 1)) : S2x2x4x256.Idx) = ix4 b h g t := by funext a; fin_cases a <;> rfl
  rw [e]
  refine max_real _ ?_ σ
  unfold val_main_v5
  generalize val_main_v3 (F := Ideal) x0 x1 = y at hs ⊢
  pointwise
  rw [show (val_main_cst_0 (F := Ideal) (Shape.Idx.first h_S_) : EReal) = ⊥ from ofBits_bot]
  exact fold_ne_top _ _ hs

theorem exp_read (b h : Fin 2) (g : Fin 4) (t k : Fin 256) :
    (val_main_v11 (F := Ideal) x0 x1 x3 (ix5 b h g t k) : EReal)
      = Ideal.exp ((val_main_v3 (F := Ideal) x0 x1 (ix5 b h g t k) : EReal) - (val_main_v8 (F := Ideal) x0 x1 x3 (ix5 b h g t (0 : Fin 1)) : EReal)) := by
  rw [val_main_v11_apply, val_main_v10_apply, val_main_v9_apply]
  show Ideal.exp ((_ : EReal) - _) = _
  congr 3
  funext a; fin_cases a <;> rfl

theorem sum_read (b h : Fin 2) (g : Fin 4) (t k : Fin 256) :
    (val_main_v18 (F := Ideal) x0 x1 x3 (ix5 b h g t k) : EReal)
      = (∑ i : Fin 256, (val_main_v11 (F := Ideal) x0 x1 x3 (ix5 b h g t i) : EReal))
        + Ideal.exp (x3 (ix1 (qHead h g)) - (val_main_v8 (F := Ideal) x0 x1 x3 (ix5 b h g t (0 : Fin 1)) : EReal)) := by
  rw [val_main_v18_apply]
  have e : (idx_main_v18 (ix5 b h g t k) : S2x2x4x256x1.Idx) = ix5 b h g t (0 : Fin 1) := by funext a; fin_cases a <;> rfl
  rw [e, val_main_v17_apply, val_main_v13_apply, val_main_v12_apply, val_main_cst_1_apply, val_main_v16_apply, val_main_v15_apply,
    (sink_read x3 b h g t _ rfl).2]
  show (Ideal.ofBits .f32 0x00000000#32 + _) + Ideal.exp ((_ : EReal) - _) = (_ : EReal)
  rw [Ideal.ofBits_zero_f32, zero_add]
  refine add_two (Finset.sum_congr rfl fun i _ => congrArg (val_main_v11 (F := Ideal) x0 x1 x3) ?_) rfl
  funext a; fin_cases a <;> rfl

/-- The reference's result, its scores being `S`, the sink `σ` and the largest of them `M`. -/
theorem out_read (b h : Fin 2) (g : Fin 4) (r : Fin 64) (t : Fin 256) (S : Fin 256 → ℝ) (σ : ℝ)
    (hs : ∀ k : Fin 256, (∑ d : Fin 64, x0 (ix4 b (qHead h g) t d) * x1 (ix4 b h k d)) * Ideal.ofBits .f32 0x3E000000#32 = ((S k : ℝ) : EReal))
    (hσ : (x3 (ix1 (qHead h g)) : EReal) = (σ : EReal)) :
    ∃ M : ℝ, (val_main_v22 (F := Ideal) x0 x1 x2 x3 (ix4 b (qHead h g) r t) : EReal)
      = ∑ k, Ideal.div (Ideal.exp ((S k : EReal) - (M : EReal)))
          ((∑ i, Ideal.exp ((S i : EReal) - (M : EReal))) + Ideal.exp ((σ : EReal) - (M : EReal))) * x2 (ix4 b h k r) := by
  have hs' : ∀ k : Fin 256, (val_main_v3 (F := Ideal) x0 x1 (ix5 b h g t k) : EReal) = ((S k : ℝ) : EReal) := fun k =>
    (scores_read x0 x1 b h g t k).trans (hs k)
  obtain ⟨M, hM⟩ := max_read x0 x1 x3 b h g t σ hσ fun k => by rw [hs' k]; exact EReal.coe_ne_top _
  have he : ∀ k : Fin 256, (val_main_v11 (F := Ideal) x0 x1 x3 (ix5 b h g t k) : EReal) = Ideal.exp ((S k : EReal) - (M : EReal)) := fun k => by
    rw [exp_read, hM, hs']
  have hD : ∀ k : Fin 256, (val_main_v18 (F := Ideal) x0 x1 x3 (ix5 b h g t k) : EReal)
      = (∑ i, Ideal.exp ((S i : EReal) - (M : EReal))) + Ideal.exp ((σ : EReal) - (M : EReal)) := fun k => by
    rw [sum_read, hM, hσ]
    exact add_two (Finset.sum_congr rfl fun i _ => he i) rfl
  have eo : idx_main_v21 (idx_main_v22 (ix4 b (qHead h g) r t)) = (ix5 b h g t r : S2x2x4x256x64.Idx) := Cert.RefAt9.out_ix b h g r t
  refine ⟨M, ?_⟩
  rw [val_main_v22_apply, val_main_v21_apply, eo, val_main_v20_apply]
  refine Finset.sum_congr rfl fun k _ => ?_
  rw [← he k, ← hD k]
  have el : lidx_main_v20 (ix5 b h g t r) k = ix5 b h g t k := by funext a; fin_cases a <;> rfl
  have er : ridx_main_v20 (ix5 b h g t r) k = ix4 b h k r := by funext a; fin_cases a <;> rfl
  rw [el, er, val_main_v19_apply]
  rfl

end Cert.RefAt11

namespace Cert.Kernel11Ideal.Ctx

open Idealize.ShloMosaic Idealize.ShloMosaic.TcCoe Idealize.ShloMosaic.Tactic
open Idealize.SL Idealize.SL.Sem
open Cert.Kernel11Ideal.Gen Cert.Soft
open Cert.KernelIdeal.Att (ofBits_two)
open Cert.Kernel9Ideal.Ctx (score top)
open Cert.Kernel4Ideal.Win (sink_base_two)
open Cert.Kernel3Ideal.Att (ofBits_scale score_base_two)
open Cert.RefAt3 (qHead)

/-! The tile. -/

/-- With a sink: the weighted values over the weights and the sink's, in base two and at the shift `b`, are the values weighted
by the softmax at the shift `d`. -/
theorem quotient_sink {K : ℕ} (S : Fin K → ℝ) (v : Fin K → EReal) (σ b d : ℝ) :
    Ideal.div (∑ k, v k * wt (S k / Real.log 2) b) (wt (σ / Real.log 2) b + ∑ k, wt (S k / Real.log 2) b)
      = ∑ k, Ideal.div (Ideal.exp ((S k : EReal) - (d : EReal)))
          ((∑ i, Ideal.exp ((S i : EReal) - (d : EReal))) + Ideal.exp ((σ : EReal) - (d : EReal))) * v k := by
  have hl := log_two_pos
  have hw : ∀ x : ℝ, wt (x / Real.log 2) b = ((Real.exp (x - d) * Real.exp (d - b * Real.log 2) : ℝ) : EReal) := fun x => by
    rw [wt_eq, ← Real.exp_add]
    congr 2
    field_simp
    ring
  have he : ∀ x : ℝ, Ideal.exp ((x : EReal) - (d : EReal)) = ((Real.exp (x - d) : ℝ) : EReal) := fun x => by
    rw [← EReal.coe_sub, Ideal.exp_coe]
  have hW : 0 < ∑ i, Real.exp (S i - d) + Real.exp (σ - d) :=
    add_pos_of_nonneg_of_pos (Finset.sum_nonneg fun i _ => (Real.exp_pos _).le) (Real.exp_pos _)
  have hC := Real.exp_pos (d - b * Real.log 2)
  simp only [hw, he, coe_sum, ← Finset.sum_mul, ← EReal.coe_add]
  rw [← add_mul, add_comm (Real.exp (σ - d)), div_coe_pos _ (mul_pos hW hC), sum_mul_coe _ _ (inv_nonneg.2 (mul_pos hW hC).le)]
  refine Finset.sum_congr rfl fun k _ => ?_
  rw [div_coe_pos _ hW, mul_assoc, ← EReal.coe_mul, ← EReal.coe_mul, mul_comm]
  congr 2
  field_simp

/-- Which of the rows is the one of the weights' sum. -/
theorem sum_row : ∀ r : Fin 80, IntOp.cmpi CmpIPredicate.eq (BitVec.ofNat 32 r.val) 64#32 = if r.val = 64 then 1#1 else 0#1 := by
  decide

theorem acc_apply (x : Vec Ideal S1x1x64x256 .bf16) (a b : Vec Ideal S1x1x1 .f32) (K : Vec Ideal S1x1x256x64 .bf16) (v : Vec Ideal S1x1x80x256 .bf16)
    (hb : b (ix3 (0 : Fin 1) (0 : Fin 1) (0 : Fin 1)) = (1 : EReal)) (r : Fin 80) (q : Fin 256) :
    (k0_pay2 x a b K v (ix2 r q) : EReal)
      = (if r.val = 64 then Ideal.exp2 (a (ix3 (0 : Fin 1) (0 : Fin 1) (0 : Fin 1)) - top x K (a (ix3 (0 : Fin 1) (0 : Fin 1) (0 : Fin 1))) q) else 0)
        + ∑ k : Fin 256, v (ix4 (0 : Fin 1) (0 : Fin 1) r k)
          * Ideal.exp2 (score x K k q - top x K (a (ix3 (0 : Fin 1) (0 : Fin 1) (0 : Fin 1))) q) := by
  unfold k0_pay2
  pointwise
  rw [show Ideal.ofBits FTy.f32 4286578688#32 = (⊥ : EReal) from Cert.RefAt.ofBits_bot, hb]
  refine Cert.RefAt4.add_two ?_ rfl
  rw [sum_row, one_mul]
  split <;> rfl

theorem out_apply (I : Vec Ideal S1x2x128 .f32) (x : Vec Ideal S1x1x64x256 .bf16) (K : Vec Ideal S1x1x256x64 .bf16) (v : Vec Ideal S1x1x80x256 .bf16)
    (h1 : I (ix3 (0 : Fin 1) (1 : Fin 2) (0 : Fin 128)) = (1 : EReal)) (hone : ∀ k, v (ix4 (0 : Fin 1) (0 : Fin 1) (64 : Fin 80) k) = (1 : EReal))
    (r : Fin 64) (q : Fin 256) :
    (out0_4 I x K v (ix4 (0 : Fin 1) (0 : Fin 1) r q) : EReal)
      = Ideal.div
          (∑ k : Fin 256, v (ix4 (0 : Fin 1) (0 : Fin 1) (⟨r.val, by omega⟩ : Fin 80) k)
            * Ideal.exp2 (score x K k q - top x K (I (ix3 (0 : Fin 1) (0 : Fin 2) (0 : Fin 128))) q))
          (Ideal.exp2 (I (ix3 (0 : Fin 1) (0 : Fin 2) (0 : Fin 128)) - top x K (I (ix3 (0 : Fin 1) (0 : Fin 2) (0 : Fin 128))) q)
            + ∑ k : Fin 256, Ideal.exp2 (score x K k q - top x K (I (ix3 (0 : Fin 1) (0 : Fin 2) (0 : Fin 128))) q)) := by
  have e1 : View.ld x r0_0 = x := View.ld_unit_zero (by funext a; fin_cases a <;> rfl) _ x
  have e2 : View.ld K r0_3 = K := View.ld_unit_zero (by funext a; fin_cases a <;> rfl) _ K
  have e3 : View.ld v r0_4 = v := View.ld_unit_zero (by funext a; fin_cases a <;> rfl) _ v
  have ea : View.ld I r0_1 (ix3 (0 : Fin 1) (0 : Fin 1) (0 : Fin 1)) = I (ix3 (0 : Fin 1) (0 : Fin 2) (0 : Fin 128)) := by
    refine congrArg I ?_
    funext a; apply Fin.ext
    fin_cases a <;> rfl
  have eb : View.ld I r0_2 (ix3 (0 : Fin 1) (0 : Fin 1) (0 : Fin 1)) = I (ix3 (0 : Fin 1) (1 : Fin 2) (0 : Fin 128)) := by
    refine congrArg I ?_
    funext a; apply Fin.ext
    fin_cases a <;> rfl
  have hr : r.val ≠ 64 := by omega
  unfold out0_4
  rw [View.canon_cons_unit_zero (by funext a; fin_cases a <;> rfl)]
  refine (Cert.Kernel9Ideal.Ctx.quot_apply (View.ld x r0_0) (View.ld I r0_1) (View.ld I r0_2) (View.ld K r0_3) (View.ld v r0_4) r q).trans ?_
  refine congrArg₂ Ideal.div ((acc_apply _ _ _ _ _ (eb.trans h1) _ q).trans ?_) ((acc_apply _ _ _ _ _ (eb.trans h1) _ q).trans ?_)
  · rw [e1, e2, e3, ea, if_neg hr, zero_add]
  · rw [e1, e2, e3, ea, if_pos (show ((64 : Fin 80) : ℕ) = 64 from rfl)]
    simp only [hone, one_mul]

/-- At real queries, keys and sink a tile is the values weighted by the softmax of the scaled scores and the sink. -/
theorem out_softmax (I : Vec Ideal S1x2x128 .f32) (x : Vec Ideal S1x1x64x256 .bf16) (K : Vec Ideal S1x1x256x64 .bf16) (v : Vec Ideal S1x1x80x256 .bf16)
    (r : Fin 64) (q : Fin 256) (qr : Fin 64 → ℝ) (kr : Fin 256 → Fin 64 → ℝ) (κ σ : ℝ)
    (hq : ∀ d, x (ix4 (0 : Fin 1) (0 : Fin 1) d q) = Ideal.div (((qr d : ℝ) : EReal) * ((κ : ℝ) : EReal)) (Ideal.log ((2 : ℝ) : EReal)))
    (hk : ∀ k d, K (ix4 (0 : Fin 1) (0 : Fin 1) k d) = ((kr k d : ℝ) : EReal))
    (hone : ∀ k, v (ix4 (0 : Fin 1) (0 : Fin 1) (64 : Fin 80) k) = (1 : EReal))
    (h0 : I (ix3 (0 : Fin 1) (0 : Fin 2) (0 : Fin 128)) = ((σ / Real.log 2 : ℝ) : EReal))
    (h1 : I (ix3 (0 : Fin 1) (1 : Fin 2) (0 : Fin 128)) = (1 : EReal)) (M : ℝ) :
    (out0_4 I x K v (ix4 (0 : Fin 1) (0 : Fin 1) r q) : EReal)
      = ∑ k, Ideal.div (Ideal.exp ((((∑ d, qr d * kr k d) * κ : ℝ) : EReal) - (M : EReal)))
            ((∑ i, Ideal.exp ((((∑ d, qr d * kr i d) * κ : ℝ) : EReal) - (M : EReal))) + Ideal.exp ((σ : EReal) - (M : EReal)))
          * v (ix4 (0 : Fin 1) (0 : Fin 1) (⟨r.val, by omega⟩ : Fin 80) k) := by
  have hs : ∀ k, score x K k q = (((∑ d, qr d * kr k d) * κ / Real.log 2 : ℝ) : EReal) := fun k => by
    unfold score
    simp only [hq, hk]
    exact score_base_two qr _ κ
  obtain ⟨f, hf⟩ := Soft.fold_max_real (Finset.univ : Finset (Fin 256)) ⟨0, Finset.mem_univ _⟩ (fun k => score x K k q) fun k => ⟨_, hs k⟩
  have ht : top x K ((σ / Real.log 2 : ℝ) : EReal) q = ((max (σ / Real.log 2) f : ℝ) : EReal) := by
    unfold top
    rw [hf]
    exact (EReal.coe_strictMono.monotone.map_max).symm
  rw [out_apply I x K v h1 hone, h0, ht]
  simp only [hs]
  exact quotient_sink (fun k => (∑ d, qr d * kr k d) * κ) _ σ (max (σ / Real.log 2) f) M

/-! What the operations before the launch leave in its arguments. -/

variable (m : (ℓ : Loc nD τ sig) → Buf (Elt Ideal) ℓ) (c : Dev nD)

abbrev arg0 : Vec Ideal S2x8x256x64 .f32 := m (c, main_arg0)
abbrev arg1 : Vec Ideal S2x2x256x64 .f32 := m (c, main_arg1)
abbrev arg2 : Vec Ideal S2x2x256x64 .f32 := m (c, main_arg2)
abbrev arg3 : Vec Ideal S8 .f32 := m (c, main_arg3)

theorem keys_in (b h : Fin 2) (k : Fin 256) (d : Fin 64) :
    (V m c main_v20 (ix4 b (⟨h.val, by omega⟩ : Fin 4) (⟨16384 + k.val, by omega⟩ : Fin 16640) d) : EReal) = arg1 m c (ix4 b h k d) := by
  dsimp only [V, hostOps0, hostOps0_1, hostOps0_2, List.flatten_cons, List.flatten_nil, List.append_nil, List.cons_append, List.nil_append]
  entry_read
  pointwise
  after_results_simp
  pointwise

theorem values_in (b h : Fin 2) (k : Fin 256) (r : Fin 64) :
    (V m c main_v24 (ix4 b h (⟨r.val, by omega⟩ : Fin 80) (⟨16384 + k.val, by omega⟩ : Fin 16640)) : EReal) = arg2 m c (ix4 b h k r) := by
  dsimp only [V, hostOps0, hostOps0_1, hostOps0_2, List.flatten_cons, List.flatten_nil, List.append_nil, List.cons_append, List.nil_append]
  entry_read
  pointwise
  after_results_simp
  pointwise

theorem ones_in (b h : Fin 2) (k : Fin 256) :
    (V m c main_v24 (ix4 b h (64 : Fin 80) (⟨16384 + k.val, by omega⟩ : Fin 16640)) : EReal) = (1 : EReal) := by
  dsimp only [V, hostOps0, hostOps0_1, hostOps0_2, List.flatten_cons, List.flatten_nil, List.append_nil, List.cons_append, List.nil_append]
  entry_read
  pointwise
  after_results_simp
  exact Eq.trans (b := Ideal.ofBits .f32 0x3F800000#32) rfl Ideal.ofBits_one_f32

theorem queries_in (b : Fin 2) (h : Fin 8) (q : Fin 256) (d : Fin 64) :
    (V m c main_v22 (ix4 b h d (⟨16384 + q.val, by omega⟩ : Fin 16640)) : EReal)
      = Ideal.div (arg0 m c (ix4 b h q d) * Ideal.ofBits .f32 0x3E000000#32) (Ideal.log (Ideal.ofBits .f32 0x40000000#32)) := by
  dsimp only [V, hostOps0, hostOps0_1, hostOps0_2, List.flatten_cons, List.flatten_nil, List.append_nil, List.cons_append, List.nil_append]
  entry_read
  pointwise

theorem start_sink (h : Fin 8) :
    (V m c main_v33 (ix3 h (0 : Fin 2) (0 : Fin 128)) : EReal) = Ideal.div (arg3 m c (ix1 h)) (Ideal.log (Ideal.ofBits .f32 0x40000000#32)) := by
  dsimp only [V, hostOps0, hostOps0_1, hostOps0_2, List.flatten_cons, List.flatten_nil, List.append_nil, List.cons_append, List.nil_append]
  entry_read
  pointwise

theorem start_one (h : Fin 8) : (V m c main_v33 (ix3 h (1 : Fin 2) (0 : Fin 128)) : EReal) = (1 : EReal) := by
  dsimp only [V, hostOps0, hostOps0_1, hostOps0_2, List.flatten_cons, List.flatten_nil, List.append_nil, List.cons_append, List.nil_append]
  entry_read
  pointwise

/-! The blocks of a point. -/

theorem idx0 : ∀ t : Fin cfg0.N, win0_0.index t = ![t.val % 8, 0, 0] := (by decide +kernel : ∀ t : Fin grid0.N, _)
theorem idx1 : ∀ t : Fin cfg0.N, win0_1.index t = ![t.val / 8, t.val % 8, 0, 64] := (by decide +kernel : ∀ t : Fin grid0.N, _)
theorem idx2 : ∀ t : Fin cfg0.N, win0_2.index t = ![t.val / 8, t.val % 8 / 4, 64, 0] := (by decide +kernel : ∀ t : Fin grid0.N, _)
theorem idx3 : ∀ t : Fin cfg0.N, win0_3.index t = ![t.val / 8, t.val % 8 / 4, 0, 64] := (by decide +kernel : ∀ t : Fin grid0.N, _)
theorem idx4 : ∀ t : Fin cfg0.N, win0_4.index t = ![t.val / 8, t.val % 8, 0, 0] := (by decide +kernel : ∀ t : Fin grid0.N, _)
theorem flush4 : ∀ t : Fin cfg0.N, (cfg0.win 4).flush t = true := (by decide +kernel : ∀ t : Fin grid0.N, _)

theorem blk0 (t : Fin cfg0.N) (y : S1x2x128.Idx) (z : S8x2x128.Idx)
    (h0 : (z 0).val = t.val % 8 + (y 0).val) (h1 : (z 1).val = (y 1).val) (h2 : (z 2).val = (y 2).val) :
    iblk m c 0 t y = V m c main_v33 z := by
  have e := idx0 t
  blk_simp [iblk]
  congr 1
  funext a; apply Fin.ext
  fin_cases a
  all_goals (blk_simp [e]; try (simp at *; try omega))

theorem blk1 (t : Fin cfg0.N) (y : S1x1x64x256.Idx) (z : S2x8x64x16640.Idx)
    (h0 : (z 0).val = t.val / 8 + (y 0).val) (h1 : (z 1).val = t.val % 8 + (y 1).val) (h2 : (z 2).val = (y 2).val)
    (h3 : (z 3).val = 16384 + (y 3).val) :
    iblk m c 1 t y = V m c main_v22 z := by
  have e := idx1 t
  blk_simp [iblk]
  congr 1
  funext a; apply Fin.ext
  fin_cases a
  all_goals (blk_simp [e]; try (simp at *; try omega))

theorem blk2 (t : Fin cfg0.N) (y : S1x1x256x64.Idx) (z : S2x4x16640x64.Idx)
    (h0 : (z 0).val = t.val / 8 + (y 0).val) (h1 : (z 1).val = t.val % 8 / 4 + (y 1).val) (h2 : (z 2).val = 16384 + (y 2).val)
    (h3 : (z 3).val = (y 3).val) :
    iblk m c 2 t y = V m c main_v20 z := by
  have e := idx2 t
  blk_simp [iblk]
  congr 1
  funext a; apply Fin.ext
  fin_cases a
  all_goals (blk_simp [e]; try (simp at *; try omega))

theorem blk3 (t : Fin cfg0.N) (y : S1x1x80x256.Idx) (z : S2x2x80x16640.Idx)
    (h0 : (z 0).val = t.val / 8 + (y 0).val) (h1 : (z 1).val = t.val % 8 / 4 + (y 1).val) (h2 : (z 2).val = (y 2).val)
    (h3 : (z 3).val = 16384 + (y 3).val) :
    iblk m c 3 t y = V m c main_v24 z := by
  have e := idx3 t
  blk_simp [iblk]
  congr 1
  funext a; apply Fin.ext
  fin_cases a
  all_goals (blk_simp [e]; try (simp at *; try omega))

theorem emb_out (t : Fin cfg0.N) (y : S1x1x64x256.Idx) :
    ((win0_4.blk t).view.emb y : S2x8x64x256.Idx) = ix4 (⟨t.val / 8, by have : t.val < 16 := t.isLt; omega⟩ : Fin 2)
      (⟨t.val % 8, Nat.mod_lt _ (by decide)⟩ : Fin 8) (⟨(y 2).val, (y 2).isLt⟩ : Fin 64) (⟨(y 3).val, (y 3).isLt⟩ : Fin 256) := by
  have e := idx4 t
  have hy : (y 0).val < 1 := (y 0).isLt
  have hy' : (y 1).val < 1 := (y 1).isLt
  funext a; apply Fin.ext
  fin_cases a <;> (blk_simp [e]; try simp)

/-! The result. -/

theorem tile_eq (hq : ∀ i, ∃ r : ℝ, arg0 m c i = (r : EReal)) (hk : ∀ i, ∃ r : ℝ, arg1 m c i = (r : EReal))
    (hσ : ∀ i, ∃ r : ℝ, arg3 m c i = (r : EReal))
    (b h : Fin 2) (g : Fin 4) (d : Fin 64) (q : Fin 256) :
    (dats m 0 c).arrAt 4 cfg0.N (ix4 b (qHead h g) d q)
      = Reference11Ideal.Read.val_main_v22 (F := Ideal) (arg0 m c) (arg1 m c) (arg2 m c) (arg3 m c) (ix4 b (qHead h g) d q) := by
  have hb := b.isLt
  have hh := h.isLt
  have hg := g.isLt
  let T : Fin cfg0.N := ⟨b.val * 8 + (4 * h.val + g.val), by show _ < 16; omega⟩
  have hT : T.val = b.val * 8 + (4 * h.val + g.val) := rfl
  clear_value T
  have h' := congrFun (Value.blocks4 m c T (flush4 T)) (ix4 (0 : Fin 1) (0 : Fin 1) d q : S1x1x64x256.Idx)
  have e : (((win0_4.blk T).view.emb (ix4 (0 : Fin 1) (0 : Fin 1) d q : S1x1x64x256.Idx)) : S2x8x64x256.Idx) = ix4 b (qHead h g) d q := by
    rw [emb_out]
    funext a; apply Fin.ext
    match a with
    | ⟨0, _⟩ => show T.val / 8 = b.val; omega
    | ⟨1, _⟩ => show T.val % 8 = 4 * h.val + g.val; omega
    | ⟨2, _⟩ => rfl
    | ⟨3, _⟩ => rfl
  have h'' : (dats m 0 c).arrAt 4 cfg0.N ((win0_4.blk T).view.emb (ix4 (0 : Fin 1) (0 : Fin 1) d q : S1x1x64x256.Idx))
      = (dats m 0 c).flushed 4 T (ix4 (0 : Fin 1) (0 : Fin 1) d q : S1x1x64x256.Idx) := h'
  rw [e, Value.flushed4] at h''
  refine h''.trans ?_
  refine Eq.trans (b := out0_4 (iblk m c 0 T) (iblk m c 1 T) (iblk m c 2 T) (iblk m c 3 T) (ix4 (0 : Fin 1) (0 : Fin 1) d q)) rfl ?_
  obtain ⟨κ, hκ⟩ := ofBits_scale
  choose qr hqr using hq
  choose kr hkr using hk
  choose σ hσr using hσ
  obtain ⟨M, hM⟩ := Cert.RefAt11.out_read (arg0 m c) (arg1 m c) (arg2 m c) (arg3 m c) b h g d q
    (fun k => (∑ e, qr (ix4 b (qHead h g) q e) * kr (ix4 b h k e)) * κ) (σ (ix1 (qHead h g)))
    (fun k => by
      rw [hκ]
      simp only [hqr, hkr, ← EReal.coe_mul]
      rw [coe_sum, ← EReal.coe_mul])
    (hσr (ix1 (qHead h g)))
  rw [hM]
  refine (out_softmax _ _ _ _ d q (fun e => qr (ix4 b (qHead h g) q e)) (fun k e => kr (ix4 b h k e)) κ (σ (ix1 (qHead h g))) (fun e => ?_) (fun k e => ?_) (fun k => ?_) ?_ ?_ M).trans
    (Finset.sum_congr rfl fun k _ => congrArg (HMul.hMul (_ : EReal)) ?_)
  · rw [blk1 m c T _ (ix4 b (qHead h g) e (⟨16384 + q.val, by omega⟩ : Fin 16640)) (by show b.val = T.val / 8 + 0; omega) (by show 4 * h.val + g.val = T.val % 8 + 0; omega) rfl rfl, queries_in, hκ, ofBits_two, hqr]
  · rw [blk2 m c T _ (ix4 b (⟨h.val, by omega⟩ : Fin 4) (⟨16384 + k.val, by omega⟩ : Fin 16640) e) (by show b.val = T.val / 8 + 0; omega) (by show h.val = T.val % 8 / 4 + 0; omega) rfl rfl, keys_in, hkr]
  · rw [blk3 m c T _ (ix4 b h (64 : Fin 80) (⟨16384 + k.val, by omega⟩ : Fin 16640)) (by show b.val = T.val / 8 + 0; omega) (by show h.val = T.val % 8 / 4 + 0; omega) rfl rfl, ones_in]
  · rw [blk0 m c T _ (ix3 (qHead h g) (0 : Fin 2) (0 : Fin 128)) (by show 4 * h.val + g.val = T.val % 8 + 0; omega) rfl rfl, start_sink, ofBits_two, hσr, sink_base_two]
  · rw [blk0 m c T _ (ix3 (qHead h g) (1 : Fin 2) (0 : Fin 128)) (by show 4 * h.val + g.val = T.val % 8 + 0; omega) rfl rfl, start_one]
  · rw [blk3 m c T _ (ix4 b h (⟨d.val, by omega⟩ : Fin 80) (⟨16384 + k.val, by omega⟩ : Fin 16640)) (by show b.val = T.val / 8 + 0; omega) (by show h.val = T.val % 8 / 4 + 0; omega) rfl rfl, values_in]

theorem result_eq (hq : ∀ i, ∃ r : ℝ, arg0 m c i = (r : EReal)) (hk : ∀ i, ∃ r : ℝ, arg1 m c i = (r : EReal))
    (hσ : ∀ i, ∃ r : ℝ, arg3 m c i = (r : EReal)) :
    (dats m 0 c).arrAt 4 cfg0.N = Reference11Ideal.Read.val_main_v22 (F := Ideal) (arg0 m c) (arg1 m c) (arg2 m c) (arg3 m c) := by
  funext i
  have hl : (i 1).val < 8 := (i 1).isLt
  have hi : (i : S2x8x64x256.Idx) = ix4 (⟨(i 0).val, (i 0).isLt⟩ : Fin 2)
      (qHead (⟨(i 1).val / 4, by omega⟩ : Fin 2) (⟨(i 1).val % 4, by omega⟩ : Fin 4)) (⟨(i 2).val, (i 2).isLt⟩ : Fin 64)
      (⟨(i 3).val, (i 3).isLt⟩ : Fin 256) := by
    funext a; apply Fin.ext
    match a with
    | ⟨0, _⟩ => rfl
    | ⟨1, _⟩ => show (i 1).val = 4 * ((i 1).val / 4) + (i 1).val % 4; omega
    | ⟨2, _⟩ => rfl
    | ⟨3, _⟩ => rfl
  rw [hi]
  exact tile_eq m c hq hk hσ _ _ _ _ _

end Cert.Kernel11Ideal.Ctx
end
-- ==== Proof.Finite11.lean ====
module

public import proofs.«01_k».proof.Defs
public import proofs.«01_k».proof.Proof.Result11
public import proofs.«01_k».proof.Proof.Finite
public import proofs.«01_k».proof.Proof.Gen.Kernel11.Frame
public import proofs.«01_k».proof.Proof.Gen.Kernel11Ideal.Frame
public import proofs.«01_k».proof.Proof.Gen.Reference11Ideal.Run
public import Idealize.ShloMosaic.Lib.ReduceAll

/-! The claims of the context tokens' windowed-head attention: its frames, the precondition, which says of every query, key and sink that it is a
real number, and the equality of the two results under it. -/

@[expose] public section

set_option maxRecDepth 16384

noncomputable section

namespace Cert.Finite11

open Idealize.ShloMosaic Idealize.ShloMosaic.TcCoe Idealize.SL.Sem

theorem facts : Cert.Pre_finite11.Facts where
  bcast_S_S2x8x256x64 := by decide
  reducesTo_S2x8x256x64_S_d0_1_2_3 := by decide
  h_S_ := by decide
  bcast_S_S2x2x256x64 := by decide
  reducesTo_S2x2x256x64_S_d0_1_2_3 := by decide
  bcast_S_S8 := by decide
  reducesTo_S8_S_d0 := by decide

instance : Subsingleton Cert.Pre_finite11.S_.Idx := ⟨fun a b => funext fun i => i.elim0⟩

attribute [local instance] facts in
theorem reals (x0 : FVec Ideal Cert.Pre_finite11.S2x8x256x64 .f32) (x1 x2 : FVec Ideal Cert.Pre_finite11.S2x2x256x64 .f32)
    (x3 : FVec Ideal Cert.Pre_finite11.S8 .f32)
    (h : Cert.Pre_finite11.fn (F := Ideal) x0 x1 x2 x3 = fun _ => 1#1) :
    (∀ i, ∃ r : ℝ, x0 i = (r : EReal)) ∧ (∀ i, ∃ r : ℝ, x1 i = (r : EReal)) ∧ (∀ i, ∃ r : ℝ, x3 i = (r : EReal)) := by
  have e := congrFun h (fun a => a.elim0)
  obtain ⟨e01, e3⟩ := IntOp.andi_eq_one.1 e
  obtain ⟨e0, e1⟩ := IntOp.andi_eq_one.1 e01
  exact ⟨fun i => Cert.Finite.real_of_abs_lt _ (Host.reduce_andi_all _ _ _ _ _ e0 i), fun i => Cert.Finite.real_of_abs_lt _ (Host.reduce_andi_all _ _ _ _ _ e1 i),
    fun i => Cert.Finite.real_of_abs_lt _ (Host.reduce_andi_all _ _ _ _ _ e3 i)⟩

theorem kernel_bits : Cert.quiescent_Kernel11 := fun m ρ _ => Cert.Kernel11.Gen.frame m ρ

theorem kernel_ideal : Cert.quiescent_Kernel11Ideal := fun m ρ _ => Cert.Kernel11Ideal.Gen.frame m ρ

theorem reference_ideal : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

attribute [local instance] Cert.Kernel11.Gen.facts Cert.Kernel11Ideal.Gen.facts Cert.Reference11Ideal.Gen.facts facts in
theorem algebraic : Cert.algebraic_Kernel11Ideal_Reference11Ideal_pre_finite11 := fun m g m' g' hp hm => by
  have hr := fun c => reals _ _ _ _ (hp c)
  refine ⟨fun c => (Cert.Kernel11Ideal.Gen.dats m 0 c).arrAt 4 Cert.Kernel11Ideal.cfg0.N, ?_, ?_⟩
  · exact (θ_run Cert.Kernel11Ideal.defs _ _).mono (fun r h => h) (Cert.Kernel11Ideal.Value.run_blocks (F := Ideal) m g)
  · refine (θ_run Cert.Reference11Ideal.defs _ _).mono (fun r h c => ⟨(h c).1.trans ?_, (h c).2⟩) (Cert.Reference11Ideal.Value.run (F := Ideal) m' g')
    obtain ⟨h0, h1, h2, h3⟩ := hm c
    rw [Cert.Reference11Ideal.Read.val_main_v22_eq, h0, h1, h2, h3]
    exact (Cert.Kernel11Ideal.Ctx.result_eq m c (hr c).1 (hr c).2.1 (hr c).2.2).symm

end Cert.Finite11
end
-- ==== Proof.lean ====
module

public import proofs.«01_k».proof.Defs
public import proofs.«01_k».proof.Proof.Frames
public import proofs.«01_k».proof.Proof.Finite
public import proofs.«01_k».proof.Proof.Frames2
public import proofs.«01_k».proof.Proof.Finite2
public import proofs.«01_k».proof.Proof.Frames3
public import proofs.«01_k».proof.Proof.Finite3
public import proofs.«01_k».proof.Proof.Finite4
public import proofs.«01_k».proof.Proof.Claims5
public import proofs.«01_k».proof.Proof.Claims6
public import proofs.«01_k».proof.Proof.Claims7
public import proofs.«01_k».proof.Proof.Finite8
public import proofs.«01_k».proof.Proof.Finite9
public import proofs.«01_k».proof.Proof.Finite10
public import proofs.«01_k».proof.Proof.Finite11

@[expose] public section

noncomputable section

namespace Cert.Proof

open Idealize.ShloMosaic

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Finite.facts, Cert.Finite2.facts, Cert.Finite3.facts, Cert.Finite4.facts, Cert.Finite8.facts, Cert.Finite9.facts, Cert.Finite10.facts, Cert.Finite11.facts,
  Cert.Frames.kernel_bits, Cert.Frames.kernel_ideal, fun m g _ => Cert.Frames.kernel_ideal m g trivial,
  Cert.Frames.reference_ideal, fun m g _ => Cert.Frames.reference_ideal m g trivial,
  Cert.Frames2.kernel_bits, Cert.Frames2.kernel_ideal, fun m g _ => Cert.Frames2.kernel_ideal m g trivial,
  Cert.Frames2.reference_ideal, fun m g _ => Cert.Frames2.reference_ideal m g trivial,
  Cert.Frames3.kernel_bits, Cert.Frames3.kernel_ideal, fun m g _ => Cert.Frames3.kernel_ideal m g trivial,
  Cert.Frames3.reference_ideal, fun m g _ => Cert.Frames3.reference_ideal m g trivial,
  Cert.Finite4.kernel_bits, Cert.Finite4.kernel_ideal, fun m g _ => Cert.Finite4.kernel_ideal m g trivial,
  Cert.Finite4.reference_ideal, fun m g _ => Cert.Finite4.reference_ideal m g trivial,
  Cert.Claims5.kernel_bits, Cert.Claims5.kernel_ideal, Cert.Claims5.reference_ideal,
  Cert.Claims6.kernel_bits, Cert.Claims6.kernel_ideal, Cert.Claims6.reference_ideal,
  Cert.Claims7.kernel_bits, Cert.Claims7.kernel_ideal, Cert.Claims7.reference_ideal,
  Cert.Finite8.kernel_bits, Cert.Finite8.kernel_ideal, fun m g _ => Cert.Finite8.kernel_ideal m g trivial,
  Cert.Finite8.reference_ideal, fun m g _ => Cert.Finite8.reference_ideal m g trivial,
  Cert.Finite9.kernel_bits, Cert.Finite9.kernel_ideal, fun m g _ => Cert.Finite9.kernel_ideal m g trivial,
  Cert.Finite9.reference_ideal, fun m g _ => Cert.Finite9.reference_ideal m g trivial,
  Cert.Finite10.kernel_bits, Cert.Finite10.kernel_ideal, fun m g _ => Cert.Finite10.kernel_ideal m g trivial,
  Cert.Finite10.reference_ideal, fun m g _ => Cert.Finite10.reference_ideal m g trivial,
  Cert.Finite11.kernel_bits, Cert.Finite11.kernel_ideal, fun m g _ => Cert.Finite11.kernel_ideal m g trivial,
  Cert.Finite11.reference_ideal, fun m g _ => Cert.Finite11.reference_ideal m g trivial,
  trivial, Cert.Finite.algebraic, trivial, Cert.Finite2.algebraic, trivial, Cert.Finite3.algebraic,
  (by apply IdealRules.named_const.statement; rfl), Cert.Finite4.algebraic,
  trivial, Cert.Claims5.algebraic, trivial, Cert.Claims6.algebraic, trivial, Cert.Claims7.algebraic,
  trivial, Cert.Finite8.algebraic, trivial, Cert.Finite9.algebraic, trivial, Cert.Finite10.algebraic,
  trivial, Cert.Finite11.algebraic⟩

end Cert.Proof
